-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.2.2.2 = (fun _ => 1#1)

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwPw (m : (ℓ : Loc Cert.DwPw.nD Cert.DwPw.τ Cert.DwPw.sig) → Buf (Elt Bits) ℓ) : Prop :=
  True

def Pre_DwPwIdeal (m : (ℓ : Loc Cert.DwPwIdeal.nD Cert.DwPwIdeal.τ Cert.DwPwIdeal.sig) → Buf (Elt Ideal) ℓ) : Prop :=
  True

def Pre_DwPwRefIdeal (m : (ℓ : Loc Cert.DwPwRefIdeal.nD Cert.DwPwRefIdeal.τ Cert.DwPwRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_BwUp (m : (ℓ : Loc Cert.BwUp.nD Cert.BwUp.τ Cert.BwUp.sig) → Buf (Elt Bits) ℓ) : Prop :=
  True

def Pre_BwUpIdeal (m : (ℓ : Loc Cert.BwUpIdeal.nD Cert.BwUpIdeal.τ Cert.BwUpIdeal.sig) → Buf (Elt Ideal) ℓ) : Prop :=
  True

def Pre_BwUpIdeal_finite_bu_BwUpIdeal [hPre_finite_bu_BwUpIdeal : Cert.Pre_finite_bu_BwUpIdeal.Facts] (m : (ℓ : Loc Cert.BwUpIdeal.nD Cert.BwUpIdeal.τ Cert.BwUpIdeal.sig) → Buf (Elt Ideal) ℓ) : Prop :=
  ∀ c : Dev Cert.BwUpIdeal.nD,
    (Cert.Pre_finite_bu_BwUpIdeal.fn (F := Ideal) (m ((c.tc : Thread Cert.BwUpIdeal.nD Cert.BwUpIdeal.τ).loc Cert.BwUpIdeal.main_arg0)) (m ((c.tc : Thread Cert.BwUpIdeal.nD Cert.BwUpIdeal.τ).loc Cert.BwUpIdeal.main_arg1)) (m ((c.tc : Thread Cert.BwUpIdeal.nD Cert.BwUpIdeal.τ).loc Cert.BwUpIdeal.main_arg2)) (m ((c.tc : Thread Cert.BwUpIdeal.nD Cert.BwUpIdeal.τ).loc Cert.BwUpIdeal.main_arg3)) (m ((c.tc : Thread Cert.BwUpIdeal.nD Cert.BwUpIdeal.τ).loc Cert.BwUpIdeal.main_arg4)) (m ((c.tc : Thread Cert.BwUpIdeal.nD Cert.BwUpIdeal.τ).loc Cert.BwUpIdeal.main_arg5)) (m ((c.tc : Thread Cert.BwUpIdeal.nD Cert.BwUpIdeal.τ).loc Cert.BwUpIdeal.main_arg6)) (m ((c.tc : Thread Cert.BwUpIdeal.nD Cert.BwUpIdeal.τ).loc Cert.BwUpIdeal.main_arg7))).1 = (fun _ => 1#1)
    ∧ (Cert.Pre_finite_bu_BwUpIdeal.fn (F := Ideal) (m ((c.tc : Thread Cert.BwUpIdeal.nD Cert.BwUpIdeal.τ).loc Cert.BwUpIdeal.main_arg0)) (m ((c.tc : Thread Cert.BwUpIdeal.nD Cert.BwUpIdeal.τ).loc Cert.BwUpIdeal.main_arg1)) (m ((c.tc : Thread Cert.BwUpIdeal.nD Cert.BwUpIdeal.τ).loc Cert.BwUpIdeal.main_arg2)) (m ((c.tc : Thread Cert.BwUpIdeal.nD Cert.BwUpIdeal.τ).loc Cert.BwUpIdeal.main_arg3)) (m ((c.tc : Thread Cert.BwUpIdeal.nD Cert.BwUpIdeal.τ).loc Cert.BwUpIdeal.main_arg4)) (m ((c.tc : Thread Cert.BwUpIdeal.nD Cert.BwUpIdeal.τ).loc Cert.BwUpIdeal.main_arg5)) (m ((c.tc : Thread Cert.BwUpIdeal.nD Cert.BwUpIdeal.τ).loc Cert.BwUpIdeal.main_arg6)) (m ((c.tc : Thread Cert.BwUpIdeal.nD Cert.BwUpIdeal.τ).loc Cert.BwUpIdeal.main_arg7))).2.1 = (fun _ => 1#1)
    ∧ (Cert.Pre_finite_bu_BwUpIdeal.fn (F := Ideal) (m ((c.tc : Thread Cert.BwUpIdeal.nD Cert.BwUpIdeal.τ).loc Cert.BwUpIdeal.main_arg0)) (m ((c.tc : Thread Cert.BwUpIdeal.nD Cert.BwUpIdeal.τ).loc Cert.BwUpIdeal.main_arg1)) (m ((c.tc : Thread Cert.BwUpIdeal.nD Cert.BwUpIdeal.τ).loc Cert.BwUpIdeal.main_arg2)) (m ((c.tc : Thread Cert.BwUpIdeal.nD Cert.BwUpIdeal.τ).loc Cert.BwUpIdeal.main_arg3)) (m ((c.tc : Thread Cert.BwUpIdeal.nD Cert.BwUpIdeal.τ).loc Cert.BwUpIdeal.main_arg4)) (m ((c.tc : Thread Cert.BwUpIdeal.nD Cert.BwUpIdeal.τ).loc Cert.BwUpIdeal.main_arg5)) (m ((c.tc : Thread Cert.BwUpIdeal.nD Cert.BwUpIdeal.τ).loc Cert.BwUpIdeal.main_arg6)) (m ((c.tc : Thread Cert.BwUpIdeal.nD Cert.BwUpIdeal.τ).loc Cert.BwUpIdeal.main_arg7))).2.2.1 = (fun _ => 1#1)
    ∧ (Cert.Pre_finite_bu_BwUpIdeal.fn (F := Ideal) (m ((c.tc : Thread Cert.BwUpIdeal.nD Cert.BwUpIdeal.τ).loc Cert.BwUpIdeal.main_arg0)) (m ((c.tc : Thread Cert.BwUpIdeal.nD Cert.BwUpIdeal.τ).loc Cert.BwUpIdeal.main_arg1)) (m ((c.tc : Thread Cert.BwUpIdeal.nD Cert.BwUpIdeal.τ).loc Cert.BwUpIdeal.main_arg2)) (m ((c.tc : Thread Cert.BwUpIdeal.nD Cert.BwUpIdeal.τ).loc Cert.BwUpIdeal.main_arg3)) (m ((c.tc : Thread Cert.BwUpIdeal.nD Cert.BwUpIdeal.τ).loc Cert.BwUpIdeal.main_arg4)) (m ((c.tc : Thread Cert.BwUpIdeal.nD Cert.BwUpIdeal.τ).loc Cert.BwUpIdeal.main_arg5)) (m ((c.tc : Thread Cert.BwUpIdeal.nD Cert.BwUpIdeal.τ).loc Cert.BwUpIdeal.main_arg6)) (m ((c.tc : Thread Cert.BwUpIdeal.nD Cert.BwUpIdeal.τ).loc Cert.BwUpIdeal.main_arg7))).2.2.2.1 = (fun _ => 1#1)
    ∧ (Cert.Pre_finite_bu_BwUpIdeal.fn (F := Ideal) (m ((c.tc : Thread Cert.BwUpIdeal.nD Cert.BwUpIdeal.τ).loc Cert.BwUpIdeal.main_arg0)) (m ((c.tc : Thread Cert.BwUpIdeal.nD Cert.BwUpIdeal.τ).loc Cert.BwUpIdeal.main_arg1)) (m ((c.tc : Thread Cert.BwUpIdeal.nD Cert.BwUpIdeal.τ).loc Cert.BwUpIdeal.main_arg2)) (m ((c.tc : Thread Cert.BwUpIdeal.nD Cert.BwUpIdeal.τ).loc Cert.BwUpIdeal.main_arg3)) (m ((c.tc : Thread Cert.BwUpIdeal.nD Cert.BwUpIdeal.τ).loc Cert.BwUpIdeal.main_arg4)) (m ((c.tc : Thread Cert.BwUpIdeal.nD Cert.BwUpIdeal.τ).loc Cert.BwUpIdeal.main_arg5)) (m ((c.tc : Thread Cert.BwUpIdeal.nD Cert.BwUpIdeal.τ).loc Cert.BwUpIdeal.main_arg6)) (m ((c.tc : Thread Cert.BwUpIdeal.nD Cert.BwUpIdeal.τ).loc Cert.BwUpIdeal.main_arg7))).2.2.2.2.1 = (fun _ => 1#1)
    ∧ (Cert.Pre_finite_bu_BwUpIdeal.fn (F := Ideal) (m ((c.tc : Thread Cert.BwUpIdeal.nD Cert.BwUpIdeal.τ).loc Cert.BwUpIdeal.main_arg0)) (m ((c.tc : Thread Cert.BwUpIdeal.nD Cert.BwUpIdeal.τ).loc Cert.BwUpIdeal.main_arg1)) (m ((c.tc : Thread Cert.BwUpIdeal.nD Cert.BwUpIdeal.τ).loc Cert.BwUpIdeal.main_arg2)) (m ((c.tc : Thread Cert.BwUpIdeal.nD Cert.BwUpIdeal.τ).loc Cert.BwUpIdeal.main_arg3)) (m ((c.tc : Thread Cert.BwUpIdeal.nD Cert.BwUpIdeal.τ).loc Cert.BwUpIdeal.main_arg4)) (m ((c.tc : Thread Cert.BwUpIdeal.nD Cert.BwUpIdeal.τ).loc Cert.BwUpIdeal.main_arg5)) (m ((c.tc : Thread Cert.BwUpIdeal.nD Cert.BwUpIdeal.τ).loc Cert.BwUpIdeal.main_arg6)) (m ((c.tc : Thread Cert.BwUpIdeal.nD Cert.BwUpIdeal.τ).loc Cert.BwUpIdeal.main_arg7))).2.2.2.2.2 = (fun _ => 1#1)

def Pre_BwUpRefIdeal (m : (ℓ : Loc Cert.BwUpRefIdeal.nD Cert.BwUpRefIdeal.τ Cert.BwUpRefIdeal.sig) → Buf (Elt Ideal) ℓ) : Prop :=
  True

def Pre_BwUpRefIdeal_finite_bu_BwUpRefIdeal [hPre_finite_bu_BwUpRefIdeal : Cert.Pre_finite_bu_BwUpRefIdeal.Facts] (m : (ℓ : Loc Cert.BwUpRefIdeal.nD Cert.BwUpRefIdeal.τ Cert.BwUpRefIdeal.sig) → Buf (Elt Ideal) ℓ) : Prop :=
  ∀ c : Dev Cert.BwUpRefIdeal.nD,
    (Cert.Pre_finite_bu_BwUpRefIdeal.fn (F := Ideal) (m ((c.tc : Thread Cert.BwUpRefIdeal.nD Cert.BwUpRefIdeal.τ).loc Cert.BwUpRefIdeal.main_arg0)) (m ((c.tc : Thread Cert.BwUpRefIdeal.nD Cert.BwUpRefIdeal.τ).loc Cert.BwUpRefIdeal.main_arg1)) (m ((c.tc : Thread Cert.BwUpRefIdeal.nD Cert.BwUpRefIdeal.τ).loc Cert.BwUpRefIdeal.main_arg2)) (m ((c.tc : Thread Cert.BwUpRefIdeal.nD Cert.BwUpRefIdeal.τ).loc Cert.BwUpRefIdeal.main_arg3)) (m ((c.tc : Thread Cert.BwUpRefIdeal.nD Cert.BwUpRefIdeal.τ).loc Cert.BwUpRefIdeal.main_arg4)) (m ((c.tc : Thread Cert.BwUpRefIdeal.nD Cert.BwUpRefIdeal.τ).loc Cert.BwUpRefIdeal.main_arg5)) (m ((c.tc : Thread Cert.BwUpRefIdeal.nD Cert.BwUpRefIdeal.τ).loc Cert.BwUpRefIdeal.main_arg6)) (m ((c.tc : Thread Cert.BwUpRefIdeal.nD Cert.BwUpRefIdeal.τ).loc Cert.BwUpRefIdeal.main_arg7))).1 = (fun _ => 1#1)
    ∧ (Cert.Pre_finite_bu_BwUpRefIdeal.fn (F := Ideal) (m ((c.tc : Thread Cert.BwUpRefIdeal.nD Cert.BwUpRefIdeal.τ).loc Cert.BwUpRefIdeal.main_arg0)) (m ((c.tc : Thread Cert.BwUpRefIdeal.nD Cert.BwUpRefIdeal.τ).loc Cert.BwUpRefIdeal.main_arg1)) (m ((c.tc : Thread Cert.BwUpRefIdeal.nD Cert.BwUpRefIdeal.τ).loc Cert.BwUpRefIdeal.main_arg2)) (m ((c.tc : Thread Cert.BwUpRefIdeal.nD Cert.BwUpRefIdeal.τ).loc Cert.BwUpRefIdeal.main_arg3)) (m ((c.tc : Thread Cert.BwUpRefIdeal.nD Cert.BwUpRefIdeal.τ).loc Cert.BwUpRefIdeal.main_arg4)) (m ((c.tc : Thread Cert.BwUpRefIdeal.nD Cert.BwUpRefIdeal.τ).loc Cert.BwUpRefIdeal.main_arg5)) (m ((c.tc : Thread Cert.BwUpRefIdeal.nD Cert.BwUpRefIdeal.τ).loc Cert.BwUpRefIdeal.main_arg6)) (m ((c.tc : Thread Cert.BwUpRefIdeal.nD Cert.BwUpRefIdeal.τ).loc Cert.BwUpRefIdeal.main_arg7))).2.1 = (fun _ => 1#1)
    ∧ (Cert.Pre_finite_bu_BwUpRefIdeal.fn (F := Ideal) (m ((c.tc : Thread Cert.BwUpRefIdeal.nD Cert.BwUpRefIdeal.τ).loc Cert.BwUpRefIdeal.main_arg0)) (m ((c.tc : Thread Cert.BwUpRefIdeal.nD Cert.BwUpRefIdeal.τ).loc Cert.BwUpRefIdeal.main_arg1)) (m ((c.tc : Thread Cert.BwUpRefIdeal.nD Cert.BwUpRefIdeal.τ).loc Cert.BwUpRefIdeal.main_arg2)) (m ((c.tc : Thread Cert.BwUpRefIdeal.nD Cert.BwUpRefIdeal.τ).loc Cert.BwUpRefIdeal.main_arg3)) (m ((c.tc : Thread Cert.BwUpRefIdeal.nD Cert.BwUpRefIdeal.τ).loc Cert.BwUpRefIdeal.main_arg4)) (m ((c.tc : Thread Cert.BwUpRefIdeal.nD Cert.BwUpRefIdeal.τ).loc Cert.BwUpRefIdeal.main_arg5)) (m ((c.tc : Thread Cert.BwUpRefIdeal.nD Cert.BwUpRefIdeal.τ).loc Cert.BwUpRefIdeal.main_arg6)) (m ((c.tc : Thread Cert.BwUpRefIdeal.nD Cert.BwUpRefIdeal.τ).loc Cert.BwUpRefIdeal.main_arg7))).2.2.1 = (fun _ => 1#1)
    ∧ (Cert.Pre_finite_bu_BwUpRefIdeal.fn (F := Ideal) (m ((c.tc : Thread Cert.BwUpRefIdeal.nD Cert.BwUpRefIdeal.τ).loc Cert.BwUpRefIdeal.main_arg0)) (m ((c.tc : Thread Cert.BwUpRefIdeal.nD Cert.BwUpRefIdeal.τ).loc Cert.BwUpRefIdeal.main_arg1)) (m ((c.tc : Thread Cert.BwUpRefIdeal.nD Cert.BwUpRefIdeal.τ).loc Cert.BwUpRefIdeal.main_arg2)) (m ((c.tc : Thread Cert.BwUpRefIdeal.nD Cert.BwUpRefIdeal.τ).loc Cert.BwUpRefIdeal.main_arg3)) (m ((c.tc : Thread Cert.BwUpRefIdeal.nD Cert.BwUpRefIdeal.τ).loc Cert.BwUpRefIdeal.main_arg4)) (m ((c.tc : Thread Cert.BwUpRefIdeal.nD Cert.BwUpRefIdeal.τ).loc Cert.BwUpRefIdeal.main_arg5)) (m ((c.tc : Thread Cert.BwUpRefIdeal.nD Cert.BwUpRefIdeal.τ).loc Cert.BwUpRefIdeal.main_arg6)) (m ((c.tc : Thread Cert.BwUpRefIdeal.nD Cert.BwUpRefIdeal.τ).loc Cert.BwUpRefIdeal.main_arg7))).2.2.2.1 = (fun _ => 1#1)
    ∧ (Cert.Pre_finite_bu_BwUpRefIdeal.fn (F := Ideal) (m ((c.tc : Thread Cert.BwUpRefIdeal.nD Cert.BwUpRefIdeal.τ).loc Cert.BwUpRefIdeal.main_arg0)) (m ((c.tc : Thread Cert.BwUpRefIdeal.nD Cert.BwUpRefIdeal.τ).loc Cert.BwUpRefIdeal.main_arg1)) (m ((c.tc : Thread Cert.BwUpRefIdeal.nD Cert.BwUpRefIdeal.τ).loc Cert.BwUpRefIdeal.main_arg2)) (m ((c.tc : Thread Cert.BwUpRefIdeal.nD Cert.BwUpRefIdeal.τ).loc Cert.BwUpRefIdeal.main_arg3)) (m ((c.tc : Thread Cert.BwUpRefIdeal.nD Cert.BwUpRefIdeal.τ).loc Cert.BwUpRefIdeal.main_arg4)) (m ((c.tc : Thread Cert.BwUpRefIdeal.nD Cert.BwUpRefIdeal.τ).loc Cert.BwUpRefIdeal.main_arg5)) (m ((c.tc : Thread Cert.BwUpRefIdeal.nD Cert.BwUpRefIdeal.τ).loc Cert.BwUpRefIdeal.main_arg6)) (m ((c.tc : Thread Cert.BwUpRefIdeal.nD Cert.BwUpRefIdeal.τ).loc Cert.BwUpRefIdeal.main_arg7))).2.2.2.2.1 = (fun _ => 1#1)
    ∧ (Cert.Pre_finite_bu_BwUpRefIdeal.fn (F := Ideal) (m ((c.tc : Thread Cert.BwUpRefIdeal.nD Cert.BwUpRefIdeal.τ).loc Cert.BwUpRefIdeal.main_arg0)) (m ((c.tc : Thread Cert.BwUpRefIdeal.nD Cert.BwUpRefIdeal.τ).loc Cert.BwUpRefIdeal.main_arg1)) (m ((c.tc : Thread Cert.BwUpRefIdeal.nD Cert.BwUpRefIdeal.τ).loc Cert.BwUpRefIdeal.main_arg2)) (m ((c.tc : Thread Cert.BwUpRefIdeal.nD Cert.BwUpRefIdeal.τ).loc Cert.BwUpRefIdeal.main_arg3)) (m ((c.tc : Thread Cert.BwUpRefIdeal.nD Cert.BwUpRefIdeal.τ).loc Cert.BwUpRefIdeal.main_arg4)) (m ((c.tc : Thread Cert.BwUpRefIdeal.nD Cert.BwUpRefIdeal.τ).loc Cert.BwUpRefIdeal.main_arg5)) (m ((c.tc : Thread Cert.BwUpRefIdeal.nD Cert.BwUpRefIdeal.τ).loc Cert.BwUpRefIdeal.main_arg6)) (m ((c.tc : Thread Cert.BwUpRefIdeal.nD Cert.BwUpRefIdeal.τ).loc Cert.BwUpRefIdeal.main_arg7))).2.2.2.2.2 = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_PairX (m : (ℓ : Loc Cert.PairX.nD Cert.PairX.τ Cert.PairX.sig) → Buf (Elt Bits) ℓ) : Prop :=
  True

def Pre_PairXIdeal (m : (ℓ : Loc Cert.PairXIdeal.nD Cert.PairXIdeal.τ Cert.PairXIdeal.sig) → Buf (Elt Ideal) ℓ) : Prop :=
  True

def Pre_PairXRefIdeal (m : (ℓ : Loc Cert.PairXRefIdeal.nD Cert.PairXRefIdeal.τ Cert.PairXRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwPw [hDwPw : Cert.DwPw.Facts] : Prop :=
  ∀ (m : (ℓ : Loc Cert.DwPw.nD Cert.DwPw.τ Cert.DwPw.sig) → Buf (Elt Bits) ℓ) (g : Dev Cert.DwPw.nD → PrngReg), Pre_DwPw m →
    θ_run (Cert.DwPw.defs (F := Bits)) (onTc (τ := Cert.DwPw.τ) (Cert.DwPw.main (F := Bits))) ⟨m, fun _ => 0, g⟩ (fun r => (∀ c : Dev Cert.DwPw.nD,
      r.2.mem ((c.tc : Thread Cert.DwPw.nD Cert.DwPw.τ).loc Cert.DwPw.main_arg0) = m ((c.tc : Thread Cert.DwPw.nD Cert.DwPw.τ).loc Cert.DwPw.main_arg0)
      ∧ r.2.mem ((c.tc : Thread Cert.DwPw.nD Cert.DwPw.τ).loc Cert.DwPw.main_arg1) = m ((c.tc : Thread Cert.DwPw.nD Cert.DwPw.τ).loc Cert.DwPw.main_arg1))
      ∧ r.2.sem = fun _ => 0)

def quiescent_DwPwIdeal [hDwPwIdeal : Cert.DwPwIdeal.Facts] : Prop :=
  ∀ (m : (ℓ : Loc Cert.DwPwIdeal.nD Cert.DwPwIdeal.τ Cert.DwPwIdeal.sig) → Buf (Elt Ideal) ℓ) (g : Dev Cert.DwPwIdeal.nD → PrngReg), Pre_DwPwIdeal m →
    θ_run (Cert.DwPwIdeal.defs (F := Ideal)) (onTc (τ := Cert.DwPwIdeal.τ) (Cert.DwPwIdeal.main (F := Ideal))) ⟨m, fun _ => 0, g⟩ (fun r => (∀ c : Dev Cert.DwPwIdeal.nD,
      r.2.mem ((c.tc : Thread Cert.DwPwIdeal.nD Cert.DwPwIdeal.τ).loc Cert.DwPwIdeal.main_arg0) = m ((c.tc : Thread Cert.DwPwIdeal.nD Cert.DwPwIdeal.τ).loc Cert.DwPwIdeal.main_arg0)
      ∧ r.2.mem ((c.tc : Thread Cert.DwPwIdeal.nD Cert.DwPwIdeal.τ).loc Cert.DwPwIdeal.main_arg1) = m ((c.tc : Thread Cert.DwPwIdeal.nD Cert.DwPwIdeal.τ).loc Cert.DwPwIdeal.main_arg1))
      ∧ r.2.sem = fun _ => 0)

def quiescent_DwPwRefIdeal [hDwPwRefIdeal : Cert.DwPwRefIdeal.Facts] : Prop :=
  ∀ (m : (ℓ : Loc Cert.DwPwRefIdeal.nD Cert.DwPwRefIdeal.τ Cert.DwPwRefIdeal.sig) → Buf (Elt Ideal) ℓ) (g : Dev Cert.DwPwRefIdeal.nD → PrngReg), Pre_DwPwRefIdeal m →
    θ_run (Cert.DwPwRefIdeal.defs (F := Ideal)) (onTc (τ := Cert.DwPwRefIdeal.τ) (Cert.DwPwRefIdeal.main (F := Ideal))) ⟨m, fun _ => 0, g⟩ (fun r => (∀ c : Dev Cert.DwPwRefIdeal.nD,
      r.2.mem ((c.tc : Thread Cert.DwPwRefIdeal.nD Cert.DwPwRefIdeal.τ).loc Cert.DwPwRefIdeal.main_arg0) = m ((c.tc : Thread Cert.DwPwRefIdeal.nD Cert.DwPwRefIdeal.τ).loc Cert.DwPwRefIdeal.main_arg0)
      ∧ r.2.mem ((c.tc : Thread Cert.DwPwRefIdeal.nD Cert.DwPwRefIdeal.τ).loc Cert.DwPwRefIdeal.main_arg1) = m ((c.tc : Thread Cert.DwPwRefIdeal.nD Cert.DwPwRefIdeal.τ).loc Cert.DwPwRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_BwUp [hBwUp : Cert.BwUp.Facts] : Prop :=
  ∀ (m : (ℓ : Loc Cert.BwUp.nD Cert.BwUp.τ Cert.BwUp.sig) → Buf (Elt Bits) ℓ) (g : Dev Cert.BwUp.nD → PrngReg), Pre_BwUp m →
    θ_run (Cert.BwUp.defs (F := Bits)) (onTc (τ := Cert.BwUp.τ) (Cert.BwUp.main (F := Bits))) ⟨m, fun _ => 0, g⟩ (fun r => (∀ c : Dev Cert.BwUp.nD,
      r.2.mem ((c.tc : Thread Cert.BwUp.nD Cert.BwUp.τ).loc Cert.BwUp.main_arg0) = m ((c.tc : Thread Cert.BwUp.nD Cert.BwUp.τ).loc Cert.BwUp.main_arg0)
      ∧ r.2.mem ((c.tc : Thread Cert.BwUp.nD Cert.BwUp.τ).loc Cert.BwUp.main_arg1) = m ((c.tc : Thread Cert.BwUp.nD Cert.BwUp.τ).loc Cert.BwUp.main_arg1)
      ∧ r.2.mem ((c.tc : Thread Cert.BwUp.nD Cert.BwUp.τ).loc Cert.BwUp.main_arg2) = m ((c.tc : Thread Cert.BwUp.nD Cert.BwUp.τ).loc Cert.BwUp.main_arg2)
      ∧ r.2.mem ((c.tc : Thread Cert.BwUp.nD Cert.BwUp.τ).loc Cert.BwUp.main_arg3) = m ((c.tc : Thread Cert.BwUp.nD Cert.BwUp.τ).loc Cert.BwUp.main_arg3)
      ∧ r.2.mem ((c.tc : Thread Cert.BwUp.nD Cert.BwUp.τ).loc Cert.BwUp.main_arg4) = m ((c.tc : Thread Cert.BwUp.nD Cert.BwUp.τ).loc Cert.BwUp.main_arg4)
      ∧ r.2.mem ((c.tc : Thread Cert.BwUp.nD Cert.BwUp.τ).loc Cert.BwUp.main_arg5) = m ((c.tc : Thread Cert.BwUp.nD Cert.BwUp.τ).loc Cert.BwUp.main_arg5)
      ∧ r.2.mem ((c.tc : Thread Cert.BwUp.nD Cert.BwUp.τ).loc Cert.BwUp.main_arg6) = m ((c.tc : Thread Cert.BwUp.nD Cert.BwUp.τ).loc Cert.BwUp.main_arg6)
      ∧ r.2.mem ((c.tc : Thread Cert.BwUp.nD Cert.BwUp.τ).loc Cert.BwUp.main_arg7) = m ((c.tc : Thread Cert.BwUp.nD Cert.BwUp.τ).loc Cert.BwUp.main_arg7))
      ∧ r.2.sem = fun _ => 0)

def quiescent_BwUpIdeal [hBwUpIdeal : Cert.BwUpIdeal.Facts] : Prop :=
  ∀ (m : (ℓ : Loc Cert.BwUpIdeal.nD Cert.BwUpIdeal.τ Cert.BwUpIdeal.sig) → Buf (Elt Ideal) ℓ) (g : Dev Cert.BwUpIdeal.nD → PrngReg), Pre_BwUpIdeal m →
    θ_run (Cert.BwUpIdeal.defs (F := Ideal)) (onTc (τ := Cert.BwUpIdeal.τ) (Cert.BwUpIdeal.main (F := Ideal))) ⟨m, fun _ => 0, g⟩ (fun r => (∀ c : Dev Cert.BwUpIdeal.nD,
      r.2.mem ((c.tc : Thread Cert.BwUpIdeal.nD Cert.BwUpIdeal.τ).loc Cert.BwUpIdeal.main_arg0) = m ((c.tc : Thread Cert.BwUpIdeal.nD Cert.BwUpIdeal.τ).loc Cert.BwUpIdeal.main_arg0)
      ∧ r.2.mem ((c.tc : Thread Cert.BwUpIdeal.nD Cert.BwUpIdeal.τ).loc Cert.BwUpIdeal.main_arg1) = m ((c.tc : Thread Cert.BwUpIdeal.nD Cert.BwUpIdeal.τ).loc Cert.BwUpIdeal.main_arg1)
      ∧ r.2.mem ((c.tc : Thread Cert.BwUpIdeal.nD Cert.BwUpIdeal.τ).loc Cert.BwUpIdeal.main_arg2) = m ((c.tc : Thread Cert.BwUpIdeal.nD Cert.BwUpIdeal.τ).loc Cert.BwUpIdeal.main_arg2)
      ∧ r.2.mem ((c.tc : Thread Cert.BwUpIdeal.nD Cert.BwUpIdeal.τ).loc Cert.BwUpIdeal.main_arg3) = m ((c.tc : Thread Cert.BwUpIdeal.nD Cert.BwUpIdeal.τ).loc Cert.BwUpIdeal.main_arg3)
      ∧ r.2.mem ((c.tc : Thread Cert.BwUpIdeal.nD Cert.BwUpIdeal.τ).loc Cert.BwUpIdeal.main_arg4) = m ((c.tc : Thread Cert.BwUpIdeal.nD Cert.BwUpIdeal.τ).loc Cert.BwUpIdeal.main_arg4)
      ∧ r.2.mem ((c.tc : Thread Cert.BwUpIdeal.nD Cert.BwUpIdeal.τ).loc Cert.BwUpIdeal.main_arg5) = m ((c.tc : Thread Cert.BwUpIdeal.nD Cert.BwUpIdeal.τ).loc Cert.BwUpIdeal.main_arg5)
      ∧ r.2.mem ((c.tc : Thread Cert.BwUpIdeal.nD Cert.BwUpIdeal.τ).loc Cert.BwUpIdeal.main_arg6) = m ((c.tc : Thread Cert.BwUpIdeal.nD Cert.BwUpIdeal.τ).loc Cert.BwUpIdeal.main_arg6)
      ∧ r.2.mem ((c.tc : Thread Cert.BwUpIdeal.nD Cert.BwUpIdeal.τ).loc Cert.BwUpIdeal.main_arg7) = m ((c.tc : Thread Cert.BwUpIdeal.nD Cert.BwUpIdeal.τ).loc Cert.BwUpIdeal.main_arg7))
      ∧ r.2.sem = fun _ => 0)

def quiescent_BwUpIdeal_pre_finite_bu_BwUpIdeal [hBwUpIdeal : Cert.BwUpIdeal.Facts] [hPre_finite_bu_BwUpIdeal : Cert.Pre_finite_bu_BwUpIdeal.Facts] : Prop :=
  ∀ (m : (ℓ : Loc Cert.BwUpIdeal.nD Cert.BwUpIdeal.τ Cert.BwUpIdeal.sig) → Buf (Elt Ideal) ℓ) (g : Dev Cert.BwUpIdeal.nD → PrngReg), Pre_BwUpIdeal_finite_bu_BwUpIdeal m →
    θ_run (Cert.BwUpIdeal.defs (F := Ideal)) (onTc (τ := Cert.BwUpIdeal.τ) (Cert.BwUpIdeal.main (F := Ideal))) ⟨m, fun _ => 0, g⟩ (fun r => (∀ c : Dev Cert.BwUpIdeal.nD,
      r.2.mem ((c.tc : Thread Cert.BwUpIdeal.nD Cert.BwUpIdeal.τ).loc Cert.BwUpIdeal.main_arg0) = m ((c.tc : Thread Cert.BwUpIdeal.nD Cert.BwUpIdeal.τ).loc Cert.BwUpIdeal.main_arg0)
      ∧ r.2.mem ((c.tc : Thread Cert.BwUpIdeal.nD Cert.BwUpIdeal.τ).loc Cert.BwUpIdeal.main_arg1) = m ((c.tc : Thread Cert.BwUpIdeal.nD Cert.BwUpIdeal.τ).loc Cert.BwUpIdeal.main_arg1)
      ∧ r.2.mem ((c.tc : Thread Cert.BwUpIdeal.nD Cert.BwUpIdeal.τ).loc Cert.BwUpIdeal.main_arg2) = m ((c.tc : Thread Cert.BwUpIdeal.nD Cert.BwUpIdeal.τ).loc Cert.BwUpIdeal.main_arg2)
      ∧ r.2.mem ((c.tc : Thread Cert.BwUpIdeal.nD Cert.BwUpIdeal.τ).loc Cert.BwUpIdeal.main_arg3) = m ((c.tc : Thread Cert.BwUpIdeal.nD Cert.BwUpIdeal.τ).loc Cert.BwUpIdeal.main_arg3)
      ∧ r.2.mem ((c.tc : Thread Cert.BwUpIdeal.nD Cert.BwUpIdeal.τ).loc Cert.BwUpIdeal.main_arg4) = m ((c.tc : Thread Cert.BwUpIdeal.nD Cert.BwUpIdeal.τ).loc Cert.BwUpIdeal.main_arg4)
      ∧ r.2.mem ((c.tc : Thread Cert.BwUpIdeal.nD Cert.BwUpIdeal.τ).loc Cert.BwUpIdeal.main_arg5) = m ((c.tc : Thread Cert.BwUpIdeal.nD Cert.BwUpIdeal.τ).loc Cert.BwUpIdeal.main_arg5)
      ∧ r.2.mem ((c.tc : Thread Cert.BwUpIdeal.nD Cert.BwUpIdeal.τ).loc Cert.BwUpIdeal.main_arg6) = m ((c.tc : Thread Cert.BwUpIdeal.nD Cert.BwUpIdeal.τ).loc Cert.BwUpIdeal.main_arg6)
      ∧ r.2.mem ((c.tc : Thread Cert.BwUpIdeal.nD Cert.BwUpIdeal.τ).loc Cert.BwUpIdeal.main_arg7) = m ((c.tc : Thread Cert.BwUpIdeal.nD Cert.BwUpIdeal.τ).loc Cert.BwUpIdeal.main_arg7))
      ∧ r.2.sem = fun _ => 0)

def quiescent_BwUpRefIdeal [hBwUpRefIdeal : Cert.BwUpRefIdeal.Facts] : Prop :=
  ∀ (m : (ℓ : Loc Cert.BwUpRefIdeal.nD Cert.BwUpRefIdeal.τ Cert.BwUpRefIdeal.sig) → Buf (Elt Ideal) ℓ) (g : Dev Cert.BwUpRefIdeal.nD → PrngReg), Pre_BwUpRefIdeal m →
    θ_run (Cert.BwUpRefIdeal.defs (F := Ideal)) (onTc (τ := Cert.BwUpRefIdeal.τ) (Cert.BwUpRefIdeal.main (F := Ideal))) ⟨m, fun _ => 0, g⟩ (fun r => (∀ c : Dev Cert.BwUpRefIdeal.nD,
      r.2.mem ((c.tc : Thread Cert.BwUpRefIdeal.nD Cert.BwUpRefIdeal.τ).loc Cert.BwUpRefIdeal.main_arg0) = m ((c.tc : Thread Cert.BwUpRefIdeal.nD Cert.BwUpRefIdeal.τ).loc Cert.BwUpRefIdeal.main_arg0)
      ∧ r.2.mem ((c.tc : Thread Cert.BwUpRefIdeal.nD Cert.BwUpRefIdeal.τ).loc Cert.BwUpRefIdeal.main_arg1) = m ((c.tc : Thread Cert.BwUpRefIdeal.nD Cert.BwUpRefIdeal.τ).loc Cert.BwUpRefIdeal.main_arg1)
      ∧ r.2.mem ((c.tc : Thread Cert.BwUpRefIdeal.nD Cert.BwUpRefIdeal.τ).loc Cert.BwUpRefIdeal.main_arg2) = m ((c.tc : Thread Cert.BwUpRefIdeal.nD Cert.BwUpRefIdeal.τ).loc Cert.BwUpRefIdeal.main_arg2)
      ∧ r.2.mem ((c.tc : Thread Cert.BwUpRefIdeal.nD Cert.BwUpRefIdeal.τ).loc Cert.BwUpRefIdeal.main_arg3) = m ((c.tc : Thread Cert.BwUpRefIdeal.nD Cert.BwUpRefIdeal.τ).loc Cert.BwUpRefIdeal.main_arg3)
      ∧ r.2.mem ((c.tc : Thread Cert.BwUpRefIdeal.nD Cert.BwUpRefIdeal.τ).loc Cert.BwUpRefIdeal.main_arg4) = m ((c.tc : Thread Cert.BwUpRefIdeal.nD Cert.BwUpRefIdeal.τ).loc Cert.BwUpRefIdeal.main_arg4)
      ∧ r.2.mem ((c.tc : Thread Cert.BwUpRefIdeal.nD Cert.BwUpRefIdeal.τ).loc Cert.BwUpRefIdeal.main_arg5) = m ((c.tc : Thread Cert.BwUpRefIdeal.nD Cert.BwUpRefIdeal.τ).loc Cert.BwUpRefIdeal.main_arg5)
      ∧ r.2.mem ((c.tc : Thread Cert.BwUpRefIdeal.nD Cert.BwUpRefIdeal.τ).loc Cert.BwUpRefIdeal.main_arg6) = m ((c.tc : Thread Cert.BwUpRefIdeal.nD Cert.BwUpRefIdeal.τ).loc Cert.BwUpRefIdeal.main_arg6)
      ∧ r.2.mem ((c.tc : Thread Cert.BwUpRefIdeal.nD Cert.BwUpRefIdeal.τ).loc Cert.BwUpRefIdeal.main_arg7) = m ((c.tc : Thread Cert.BwUpRefIdeal.nD Cert.BwUpRefIdeal.τ).loc Cert.BwUpRefIdeal.main_arg7))
      ∧ r.2.sem = fun _ => 0)

def quiescent_BwUpRefIdeal_pre_finite_bu_BwUpRefIdeal [hBwUpRefIdeal : Cert.BwUpRefIdeal.Facts] [hPre_finite_bu_BwUpRefIdeal : Cert.Pre_finite_bu_BwUpRefIdeal.Facts] : Prop :=
  ∀ (m : (ℓ : Loc Cert.BwUpRefIdeal.nD Cert.BwUpRefIdeal.τ Cert.BwUpRefIdeal.sig) → Buf (Elt Ideal) ℓ) (g : Dev Cert.BwUpRefIdeal.nD → PrngReg), Pre_BwUpRefIdeal_finite_bu_BwUpRefIdeal m →
    θ_run (Cert.BwUpRefIdeal.defs (F := Ideal)) (onTc (τ := Cert.BwUpRefIdeal.τ) (Cert.BwUpRefIdeal.main (F := Ideal))) ⟨m, fun _ => 0, g⟩ (fun r => (∀ c : Dev Cert.BwUpRefIdeal.nD,
      r.2.mem ((c.tc : Thread Cert.BwUpRefIdeal.nD Cert.BwUpRefIdeal.τ).loc Cert.BwUpRefIdeal.main_arg0) = m ((c.tc : Thread Cert.BwUpRefIdeal.nD Cert.BwUpRefIdeal.τ).loc Cert.BwUpRefIdeal.main_arg0)
      ∧ r.2.mem ((c.tc : Thread Cert.BwUpRefIdeal.nD Cert.BwUpRefIdeal.τ).loc Cert.BwUpRefIdeal.main_arg1) = m ((c.tc : Thread Cert.BwUpRefIdeal.nD Cert.BwUpRefIdeal.τ).loc Cert.BwUpRefIdeal.main_arg1)
      ∧ r.2.mem ((c.tc : Thread Cert.BwUpRefIdeal.nD Cert.BwUpRefIdeal.τ).loc Cert.BwUpRefIdeal.main_arg2) = m ((c.tc : Thread Cert.BwUpRefIdeal.nD Cert.BwUpRefIdeal.τ).loc Cert.BwUpRefIdeal.main_arg2)
      ∧ r.2.mem ((c.tc : Thread Cert.BwUpRefIdeal.nD Cert.BwUpRefIdeal.τ).loc Cert.BwUpRefIdeal.main_arg3) = m ((c.tc : Thread Cert.BwUpRefIdeal.nD Cert.BwUpRefIdeal.τ).loc Cert.BwUpRefIdeal.main_arg3)
      ∧ r.2.mem ((c.tc : Thread Cert.BwUpRefIdeal.nD Cert.BwUpRefIdeal.τ).loc Cert.BwUpRefIdeal.main_arg4) = m ((c.tc : Thread Cert.BwUpRefIdeal.nD Cert.BwUpRefIdeal.τ).loc Cert.BwUpRefIdeal.main_arg4)
      ∧ r.2.mem ((c.tc : Thread Cert.BwUpRefIdeal.nD Cert.BwUpRefIdeal.τ).loc Cert.BwUpRefIdeal.main_arg5) = m ((c.tc : Thread Cert.BwUpRefIdeal.nD Cert.BwUpRefIdeal.τ).loc Cert.BwUpRefIdeal.main_arg5)
      ∧ r.2.mem ((c.tc : Thread Cert.BwUpRefIdeal.nD Cert.BwUpRefIdeal.τ).loc Cert.BwUpRefIdeal.main_arg6) = m ((c.tc : Thread Cert.BwUpRefIdeal.nD Cert.BwUpRefIdeal.τ).loc Cert.BwUpRefIdeal.main_arg6)
      ∧ r.2.mem ((c.tc : Thread Cert.BwUpRefIdeal.nD Cert.BwUpRefIdeal.τ).loc Cert.BwUpRefIdeal.main_arg7) = m ((c.tc : Thread Cert.BwUpRefIdeal.nD Cert.BwUpRefIdeal.τ).loc Cert.BwUpRefIdeal.main_arg7))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2))
      ∧ r.2.sem = fun _ => 0)

def quiescent_PairX [hPairX : Cert.PairX.Facts] : Prop :=
  ∀ (m : (ℓ : Loc Cert.PairX.nD Cert.PairX.τ Cert.PairX.sig) → Buf (Elt Bits) ℓ) (g : Dev Cert.PairX.nD → PrngReg), Pre_PairX m →
    θ_run (Cert.PairX.defs (F := Bits)) (onTc (τ := Cert.PairX.τ) (Cert.PairX.main (F := Bits))) ⟨m, fun _ => 0, g⟩ (fun r => (∀ c : Dev Cert.PairX.nD,
      r.2.mem ((c.tc : Thread Cert.PairX.nD Cert.PairX.τ).loc Cert.PairX.main_arg0) = m ((c.tc : Thread Cert.PairX.nD Cert.PairX.τ).loc Cert.PairX.main_arg0))
      ∧ r.2.sem = fun _ => 0)

def quiescent_PairXIdeal [hPairXIdeal : Cert.PairXIdeal.Facts] : Prop :=
  ∀ (m : (ℓ : Loc Cert.PairXIdeal.nD Cert.PairXIdeal.τ Cert.PairXIdeal.sig) → Buf (Elt Ideal) ℓ) (g : Dev Cert.PairXIdeal.nD → PrngReg), Pre_PairXIdeal m →
    θ_run (Cert.PairXIdeal.defs (F := Ideal)) (onTc (τ := Cert.PairXIdeal.τ) (Cert.PairXIdeal.main (F := Ideal))) ⟨m, fun _ => 0, g⟩ (fun r => (∀ c : Dev Cert.PairXIdeal.nD,
      r.2.mem ((c.tc : Thread Cert.PairXIdeal.nD Cert.PairXIdeal.τ).loc Cert.PairXIdeal.main_arg0) = m ((c.tc : Thread Cert.PairXIdeal.nD Cert.PairXIdeal.τ).loc Cert.PairXIdeal.main_arg0))
      ∧ r.2.sem = fun _ => 0)

def quiescent_PairXRefIdeal [hPairXRefIdeal : Cert.PairXRefIdeal.Facts] : Prop :=
  ∀ (m : (ℓ : Loc Cert.PairXRefIdeal.nD Cert.PairXRefIdeal.τ Cert.PairXRefIdeal.sig) → Buf (Elt Ideal) ℓ) (g : Dev Cert.PairXRefIdeal.nD → PrngReg), Pre_PairXRefIdeal m →
    θ_run (Cert.PairXRefIdeal.defs (F := Ideal)) (onTc (τ := Cert.PairXRefIdeal.τ) (Cert.PairXRefIdeal.main (F := Ideal))) ⟨m, fun _ => 0, g⟩ (fun r => (∀ c : Dev Cert.PairXRefIdeal.nD,
      r.2.mem ((c.tc : Thread Cert.PairXRefIdeal.nD Cert.PairXRefIdeal.τ).loc Cert.PairXRefIdeal.main_arg0) = m ((c.tc : Thread Cert.PairXRefIdeal.nD Cert.PairXRefIdeal.τ).loc Cert.PairXRefIdeal.main_arg0))
      ∧ r.2.sem = fun _ => 0)

def preserves_Kernel_KernelIdeal : Prop :=
  True

def algebraic_KernelIdeal_ReferenceIdeal_on_gate_half_pre_finite [hKernelIdeal : Cert.KernelIdeal.Facts] [hReferenceIdeal : Cert.ReferenceIdeal.Facts] [hPre_finite : Cert.Pre_finite.Facts] [hOn_gate_half : Cert.On_gate_half.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 2816]⟩ : Shape).Idx, (Cert.On_gate_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v2_0) i = v0 c i)
          ∧ (∀ i : (⟨2, ![4096, 5632]⟩ : Shape).Idx, (Cert.On_gate_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v2_1) i = v1 c i)
          ∧ (∀ i : (⟨2, ![8, 2816]⟩ : Shape).Idx, (Cert.On_gate_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.KernelIdeal.nD Cert.KernelIdeal.τ).loc Cert.KernelIdeal.main_v2_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 2816]⟩ : Shape).Idx, (Cert.On_gate_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v66) i = v0 c i)
          ∧ (∀ i : (⟨2, ![4096, 5632]⟩ : Shape).Idx, (Cert.On_gate_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v68) i = v1 c i)
          ∧ (∀ i : (⟨2, ![8, 2816]⟩ : Shape).Idx, (Cert.On_gate_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.ReferenceIdeal.nD Cert.ReferenceIdeal.τ).loc Cert.ReferenceIdeal.main_v65) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v7_0)) (v1 : (c : Dev Cert.FfnIdeal.nD) → Buf (Elt Ideal) ((c.tc : Thread Cert.FfnIdeal.nD Cert.FfnIdeal.τ).loc Cert.FfnIdeal.main_v7_1)) (v2 : (c : Dev Cert.FfnIdeal.nD) → Buf (Elt Ideal) ((c.tc : Thread Cert.FfnIdeal.nD Cert.FfnIdeal.τ).loc Cert.FfnIdeal.main_v7_2)) (v3 : (c : Dev Cert.FfnIdeal.nD) → Buf (Elt Ideal) ((c.tc : Thread Cert.FfnIdeal.nD Cert.FfnIdeal.τ).loc Cert.FfnIdeal.main_v7_3)) (v4 : (c : Dev Cert.FfnIdeal.nD) → Buf (Elt Ideal) ((c.tc : Thread Cert.FfnIdeal.nD Cert.FfnIdeal.τ).loc Cert.FfnIdeal.main_v7_4)) (v5 : (c : Dev Cert.FfnIdeal.nD) → Buf (Elt Ideal) ((c.tc : Thread Cert.FfnIdeal.nD Cert.FfnIdeal.τ).loc Cert.FfnIdeal.main_v7_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7_0) = v0 c
          ∧ r.2.mem ((c.tc : Thread Cert.FfnIdeal.nD Cert.FfnIdeal.τ).loc Cert.FfnIdeal.main_v7_1) = v1 c
          ∧ r.2.mem ((c.tc : Thread Cert.FfnIdeal.nD Cert.FfnIdeal.τ).loc Cert.FfnIdeal.main_v7_2) = v2 c
          ∧ r.2.mem ((c.tc : Thread Cert.FfnIdeal.nD Cert.FfnIdeal.τ).loc Cert.FfnIdeal.main_v7_3) = v3 c
          ∧ r.2.mem ((c.tc : Thread Cert.FfnIdeal.nD Cert.FfnIdeal.τ).loc Cert.FfnIdeal.main_v7_4) = v4 c
          ∧ r.2.mem ((c.tc : Thread Cert.FfnIdeal.nD Cert.FfnIdeal.τ).loc Cert.FfnIdeal.main_v7_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v93) = v0 c
          ∧ r.2.mem ((c.tc : Thread Cert.FfnRefIdeal.nD Cert.FfnRefIdeal.τ).loc Cert.FfnRefIdeal.main_v92) = v1 c
          ∧ r.2.mem ((c.tc : Thread Cert.FfnRefIdeal.nD Cert.FfnRefIdeal.τ).loc Cert.FfnRefIdeal.main_v89) = v2 c
          ∧ r.2.mem ((c.tc : Thread Cert.FfnRefIdeal.nD Cert.FfnRefIdeal.τ).loc Cert.FfnRefIdeal.main_v94) = v3 c
          ∧ r.2.mem ((c.tc : Thread Cert.FfnRefIdeal.nD Cert.FfnRefIdeal.τ).loc Cert.FfnRefIdeal.main_v95) = v4 c
          ∧ r.2.mem ((c.tc : Thread Cert.FfnRefIdeal.nD Cert.FfnRefIdeal.τ).loc Cert.FfnRefIdeal.main_v96) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v4)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v4) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v4) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwPw_DwPwIdeal : Prop :=
  True

def algebraic_DwPwIdeal_DwPwRefIdeal [hDwPwIdeal : Cert.DwPwIdeal.Facts] [hDwPwRefIdeal : Cert.DwPwRefIdeal.Facts] : Prop :=
  ∀ (m : (ℓ : Loc Cert.DwPwIdeal.nD Cert.DwPwIdeal.τ Cert.DwPwIdeal.sig) → Buf (Elt Ideal) ℓ) (g : Dev Cert.DwPwIdeal.nD → PrngReg)
    (m' : (ℓ : Loc Cert.DwPwRefIdeal.nD Cert.DwPwRefIdeal.τ Cert.DwPwRefIdeal.sig) → Buf (Elt Ideal) ℓ) (g' : Dev Cert.DwPwRefIdeal.nD → PrngReg), Pre_DwPwIdeal m →
    (∀ c : Dev Cert.DwPwIdeal.nD,
      m' ((c.tc : Thread Cert.DwPwRefIdeal.nD Cert.DwPwRefIdeal.τ).loc Cert.DwPwRefIdeal.main_arg0) = m ((c.tc : Thread Cert.DwPwIdeal.nD Cert.DwPwIdeal.τ).loc Cert.DwPwIdeal.main_arg0)
      ∧ m' ((c.tc : Thread Cert.DwPwRefIdeal.nD Cert.DwPwRefIdeal.τ).loc Cert.DwPwRefIdeal.main_arg1) = m ((c.tc : Thread Cert.DwPwIdeal.nD Cert.DwPwIdeal.τ).loc Cert.DwPwIdeal.main_arg1)) →
    ∃ (v0 : (c : Dev Cert.DwPwIdeal.nD) → Buf (Elt Ideal) ((c.tc : Thread Cert.DwPwIdeal.nD Cert.DwPwIdeal.τ).loc Cert.DwPwIdeal.main_v4)),
      θ_run (Cert.DwPwIdeal.defs (F := Ideal)) (onTc (τ := Cert.DwPwIdeal.τ) (Cert.DwPwIdeal.main (F := Ideal))) ⟨m, fun _ => 0, g⟩ (fun r => ∀ c : Dev Cert.DwPwIdeal.nD,
          r.2.mem ((c.tc : Thread Cert.DwPwIdeal.nD Cert.DwPwIdeal.τ).loc Cert.DwPwIdeal.main_v4) = v0 c
          ∧ r.2.mem ((c.tc : Thread Cert.DwPwIdeal.nD Cert.DwPwIdeal.τ).loc Cert.DwPwIdeal.main_arg0) = m ((c.tc : Thread Cert.DwPwIdeal.nD Cert.DwPwIdeal.τ).loc Cert.DwPwIdeal.main_arg0)
          ∧ r.2.mem ((c.tc : Thread Cert.DwPwIdeal.nD Cert.DwPwIdeal.τ).loc Cert.DwPwIdeal.main_arg1) = m ((c.tc : Thread Cert.DwPwIdeal.nD Cert.DwPwIdeal.τ).loc Cert.DwPwIdeal.main_arg1))
      ∧ θ_run (Cert.DwPwRefIdeal.defs (F := Ideal)) (onTc (τ := Cert.DwPwRefIdeal.τ) (Cert.DwPwRefIdeal.main (F := Ideal))) ⟨m', fun _ => 0, g'⟩ (fun r => ∀ c : Dev Cert.DwPwRefIdeal.nD,
          r.2.mem ((c.tc : Thread Cert.DwPwRefIdeal.nD Cert.DwPwRefIdeal.τ).loc Cert.DwPwRefIdeal.main_v4) = v0 c
          ∧ r.2.mem ((c.tc : Thread Cert.DwPwRefIdeal.nD Cert.DwPwRefIdeal.τ).loc Cert.DwPwRefIdeal.main_arg0) = m' ((c.tc : Thread Cert.DwPwRefIdeal.nD Cert.DwPwRefIdeal.τ).loc Cert.DwPwRefIdeal.main_arg0)
          ∧ r.2.mem ((c.tc : Thread Cert.DwPwRefIdeal.nD Cert.DwPwRefIdeal.τ).loc Cert.DwPwRefIdeal.main_arg1) = m' ((c.tc : Thread Cert.DwPwRefIdeal.nD Cert.DwPwRefIdeal.τ).loc Cert.DwPwRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m ((c.tc : Thread Cert.DwUpIdeal.nD Cert.DwUpIdeal.τ).loc Cert.DwUpIdeal.main_arg0) = Layout.blockN ⟨3, ![8, 1024, 512]⟩ ⟨3, ![32, 1024, 512]⟩ (Layout.meshBlock [2, 2, 1] ![[0, 1], [], []] c) (m' (((0 : Dev Cert.DwUpRefIdeal.nD).tc : Thread Cert.DwUpRefIdeal.nD Cert.DwUpRefIdeal.τ).loc Cert.DwUpRefIdeal.main_arg0))
      ∧ m ((c.tc : Thread Cert.DwUpIdeal.nD Cert.DwUpIdeal.τ).loc Cert.DwUpIdeal.main_arg1) = Layout.blockN ⟨2, ![4096, 5632]⟩ ⟨2, ![16384, 5632]⟩ (Layout.meshBlock [2, 2, 1] ![[0, 1], []] c) (m' (((0 : Dev Cert.DwUpRefIdeal.nD).tc : Thread Cert.DwUpRefIdeal.nD Cert.DwUpRefIdeal.τ).loc Cert.DwUpRefIdeal.main_arg1))
      ∧ m ((c.tc : Thread Cert.DwUpIdeal.nD Cert.DwUpIdeal.τ).loc Cert.DwUpIdeal.main_arg2) = Layout.blockN ⟨3, ![4, 352, 1024]⟩ ⟨3, ![16, 352, 1024]⟩ (Layout.meshBlock [2, 2, 1] ![[0, 1], [], []] c) (m' (((0 : Dev Cert.DwUpRefIdeal.nD).tc : Thread Cert.DwUpRefIdeal.nD Cert.DwUpRefIdeal.τ).loc Cert.DwUpRefIdeal.main_arg2))) →
    ∃ (v0 : Buf (Elt Ideal) (((0 : Dev Cert.DwUpRefIdeal.nD).tc : Thread Cert.DwUpRefIdeal.nD Cert.DwUpRefIdeal.τ).loc Cert.DwUpRefIdeal.main_v13)) (v1 : Buf (Elt Ideal) (((0 : Dev Cert.DwUpRefIdeal.nD).tc : Thread Cert.DwUpRefIdeal.nD Cert.DwUpRefIdeal.τ).loc Cert.DwUpRefIdeal.main_v51)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v1_0) = Layout.blockN ⟨3, ![4, 1024, 1408]⟩ ⟨3, ![16, 1024, 1408]⟩ (Layout.meshBlock [2, 2, 1] ![[0, 1], [], []] c) v0
          ∧ r.2.mem ((c.tc : Thread Cert.DwUpIdeal.nD Cert.DwUpIdeal.τ).loc Cert.DwUpIdeal.main_v1_1) = Layout.blockN ⟨3, ![3, 352, 1024]⟩ ⟨3, ![12, 352, 1024]⟩ (Layout.meshBlock [2, 2, 1] ![[0, 1], [], []] c) v1
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpRefIdeal.defs (F := Ideal)) (onTc (τ := Cert.DwUpRefIdeal.τ) (Cert.DwUpRefIdeal.main (F := Ideal))) ⟨m', fun _ => 0, g'⟩ (fun r =>
          r.2.mem (((0 : Dev Cert.DwUpRefIdeal.nD).tc : Thread Cert.DwUpRefIdeal.nD Cert.DwUpRefIdeal.τ).loc Cert.DwUpRefIdeal.main_v13) = v0
          ∧ r.2.mem (((0 : Dev Cert.DwUpRefIdeal.nD).tc : Thread Cert.DwUpRefIdeal.nD Cert.DwUpRefIdeal.τ).loc Cert.DwUpRefIdeal.main_v51) = v1
          ∧ r.2.mem (((0 : Dev Cert.DwUpRefIdeal.nD).tc : Thread Cert.DwUpRefIdeal.nD Cert.DwUpRefIdeal.τ).loc Cert.DwUpRefIdeal.main_arg0) = m' (((0 : Dev Cert.DwUpRefIdeal.nD).tc : Thread Cert.DwUpRefIdeal.nD Cert.DwUpRefIdeal.τ).loc Cert.DwUpRefIdeal.main_arg0)
          ∧ r.2.mem (((0 : Dev Cert.DwUpRefIdeal.nD).tc : Thread Cert.DwUpRefIdeal.nD Cert.DwUpRefIdeal.τ).loc Cert.DwUpRefIdeal.main_arg1) = m' (((0 : Dev Cert.DwUpRefIdeal.nD).tc : Thread Cert.DwUpRefIdeal.nD Cert.DwUpRefIdeal.τ).loc Cert.DwUpRefIdeal.main_arg1)
          ∧ r.2.mem (((0 : Dev Cert.DwUpRefIdeal.nD).tc : Thread Cert.DwUpRefIdeal.nD Cert.DwUpRefIdeal.τ).loc Cert.DwUpRefIdeal.main_arg2) = m' (((0 : Dev Cert.DwUpRefIdeal.nD).tc : Thread Cert.DwUpRefIdeal.nD Cert.DwUpRefIdeal.τ).loc Cert.DwUpRefIdeal.main_arg2))

def preserves_BwUp_BwUpIdeal : Prop :=
  True

def algebraic_BwUpIdeal_BwUpRefIdeal_on_act_half_pre_finite_bu_BwUpIdeal [hBwUpIdeal : Cert.BwUpIdeal.Facts] [hBwUpRefIdeal : Cert.BwUpRefIdeal.Facts] [hPre_finite_bu_BwUpIdeal : Cert.Pre_finite_bu_BwUpIdeal.Facts] [hOn_act_half : Cert.On_act_half.Facts] : Prop :=
  ∀ (m : (ℓ : Loc Cert.BwUpIdeal.nD Cert.BwUpIdeal.τ Cert.BwUpIdeal.sig) → Buf (Elt Ideal) ℓ) (g : Dev Cert.BwUpIdeal.nD → PrngReg)
    (m' : (ℓ : Loc Cert.BwUpRefIdeal.nD Cert.BwUpRefIdeal.τ Cert.BwUpRefIdeal.sig) → Buf (Elt Ideal) ℓ) (g' : Dev Cert.BwUpRefIdeal.nD → PrngReg), Pre_BwUpIdeal_finite_bu_BwUpIdeal m →
    (∀ c : Dev Cert.BwUpIdeal.nD,
      m ((c.tc : Thread Cert.BwUpIdeal.nD Cert.BwUpIdeal.τ).loc Cert.BwUpIdeal.main_arg0) = Layout.blockN ⟨2, ![4096, 2816]⟩ ⟨2, ![8192, 2816]⟩ (Layout.meshBlock [1, 1, 2] ![[2], []] c) (m' (((0 : Dev Cert.BwUpRefIdeal.nD).tc : Thread Cert.BwUpRefIdeal.nD Cert.BwUpRefIdeal.τ).loc Cert.BwUpRefIdeal.main_arg0))
      ∧ m ((c.tc : Thread Cert.BwUpIdeal.nD Cert.BwUpIdeal.τ).loc Cert.BwUpIdeal.main_arg1) = Layout.blockN ⟨2, ![4096, 5632]⟩ ⟨2, ![8192, 5632]⟩ (Layout.meshBlock [1, 1, 2] ![[2], []] c) (m' (((0 : Dev Cert.BwUpRefIdeal.nD).tc : Thread Cert.BwUpRefIdeal.nD Cert.BwUpRefIdeal.τ).loc Cert.BwUpRefIdeal.main_arg1))
      ∧ m ((c.tc : Thread Cert.BwUpIdeal.nD Cert.BwUpIdeal.τ).loc Cert.BwUpIdeal.main_arg2) = m' (((0 : Dev Cert.BwUpRefIdeal.nD).tc : Thread Cert.BwUpRefIdeal.nD Cert.BwUpRefIdeal.τ).loc Cert.BwUpRefIdeal.main_arg2)
      ∧ m ((c.tc : Thread Cert.BwUpIdeal.nD Cert.BwUpIdeal.τ).loc Cert.BwUpIdeal.main_arg3) = m' (((0 : Dev Cert.BwUpRefIdeal.nD).tc : Thread Cert.BwUpRefIdeal.nD Cert.BwUpRefIdeal.τ).loc Cert.BwUpRefIdeal.main_arg3)
      ∧ m ((c.tc : Thread Cert.BwUpIdeal.nD Cert.BwUpIdeal.τ).loc Cert.BwUpIdeal.main_arg4) = Layout.blockN ⟨2, ![4096, 1024]⟩ ⟨2, ![8192, 1024]⟩ (Layout.meshBlock [1, 1, 2] ![[2], []] c) (m' (((0 : Dev Cert.BwUpRefIdeal.nD).tc : Thread Cert.BwUpRefIdeal.nD Cert.BwUpRefIdeal.τ).loc Cert.BwUpRefIdeal.main_arg4))
      ∧ m ((c.tc : Thread Cert.BwUpIdeal.nD Cert.BwUpIdeal.τ).loc Cert.BwUpIdeal.main_arg5) = m' (((0 : Dev Cert.BwUpRefIdeal.nD).tc : Thread Cert.BwUpRefIdeal.nD Cert.BwUpRefIdeal.τ).loc Cert.BwUpRefIdeal.main_arg5)
      ∧ m ((c.tc : Thread Cert.BwUpIdeal.nD Cert.BwUpIdeal.τ).loc Cert.BwUpIdeal.main_arg6) = Layout.blockN ⟨2, ![4096, 1024]⟩ ⟨2, ![8192, 1024]⟩ (Layout.meshBlock [1, 1, 2] ![[2], []] c) (m' (((0 : Dev Cert.BwUpRefIdeal.nD).tc : Thread Cert.BwUpRefIdeal.nD Cert.BwUpRefIdeal.τ).loc Cert.BwUpRefIdeal.main_arg6))
      ∧ m ((c.tc : Thread Cert.BwUpIdeal.nD Cert.BwUpIdeal.τ).loc Cert.BwUpIdeal.main_arg7) = Layout.blockN ⟨4, ![4, 2, 352, 1024]⟩ ⟨4, ![8, 2, 352, 1024]⟩ (Layout.meshBlock [1, 1, 2] ![[2], [], [], []] c) (m' (((0 : Dev Cert.BwUpRefIdeal.nD).tc : Thread Cert.BwUpRefIdeal.nD Cert.BwUpRefIdeal.τ).loc Cert.BwUpRefIdeal.main_arg7))) →
    ∃ (v0 : Buf (Elt Ideal) (((0 : Dev Cert.BwUpRefIdeal.nD).tc : Thread Cert.BwUpRefIdeal.nD Cert.BwUpRefIdeal.τ).loc Cert.BwUpRefIdeal.main_v102)) (v1 : Buf (Elt Ideal) (((0 : Dev Cert.BwUpRefIdeal.nD).tc : Thread Cert.BwUpRefIdeal.nD Cert.BwUpRefIdeal.τ).loc Cert.BwUpRefIdeal.main_v94)) (v2 : Buf (Elt Ideal) (((0 : Dev Cert.BwUpRefIdeal.nD).tc : Thread Cert.BwUpRefIdeal.nD Cert.BwUpRefIdeal.τ).loc Cert.BwUpRefIdeal.main_v103)) (v3 : Buf (Elt Ideal) (((0 : Dev Cert.BwUpRefIdeal.nD).tc : Thread Cert.BwUpRefIdeal.nD Cert.BwUpRefIdeal.τ).loc Cert.BwUpRefIdeal.main_v92)) (v4 : Buf (Elt Ideal) (((0 : Dev Cert.BwUpRefIdeal.nD).tc : Thread Cert.BwUpRefIdeal.nD Cert.BwUpRefIdeal.τ).loc Cert.BwUpRefIdeal.main_v100)),
      θ_run (Cert.BwUpIdeal.defs (F := Ideal)) (onTc (τ := Cert.BwUpIdeal.τ) (Cert.BwUpIdeal.main (F := Ideal))) ⟨m, fun _ => 0, g⟩ (fun r => ∀ c : Dev Cert.BwUpIdeal.nD,
          (∀ i : (⟨2, ![4096, 5632]⟩ : Shape).Idx, (Layout.blockN ⟨2, ![4096, 5632]⟩ ⟨2, ![8192, 5632]⟩ (Layout.meshBlock [1, 1, 2] ![[2], []] c) ((Cert.On_act_half.fn (F := Ideal) (m' (((0 : Dev Cert.BwUpRefIdeal.nD).tc : Thread Cert.BwUpRefIdeal.nD Cert.BwUpRefIdeal.τ).loc Cert.BwUpRefIdeal.main_arg0)) (m' (((0 : Dev Cert.BwUpRefIdeal.nD).tc : Thread Cert.BwUpRefIdeal.nD Cert.BwUpRefIdeal.τ).loc Cert.BwUpRefIdeal.main_arg1)) (m' (((0 : Dev Cert.BwUpRefIdeal.nD).tc : Thread Cert.BwUpRefIdeal.nD Cert.BwUpRefIdeal.τ).loc Cert.BwUpRefIdeal.main_arg2)) (m' (((0 : Dev Cert.BwUpRefIdeal.nD).tc : Thread Cert.BwUpRefIdeal.nD Cert.BwUpRefIdeal.τ).loc Cert.BwUpRefIdeal.main_arg3)) (m' (((0 : Dev Cert.BwUpRefIdeal.nD).tc : Thread Cert.BwUpRefIdeal.nD Cert.BwUpRefIdeal.τ).loc Cert.BwUpRefIdeal.main_arg4)) (m' (((0 : Dev Cert.BwUpRefIdeal.nD).tc : Thread Cert.BwUpRefIdeal.nD Cert.BwUpRefIdeal.τ).loc Cert.BwUpRefIdeal.main_arg5)) (m' (((0 : Dev Cert.BwUpRefIdeal.nD).tc : Thread Cert.BwUpRefIdeal.nD Cert.BwUpRefIdeal.τ).loc Cert.BwUpRefIdeal.main_arg6)) (m' (((0 : Dev Cert.BwUpRefIdeal.nD).tc : Thread Cert.BwUpRefIdeal.nD Cert.BwUpRefIdeal.τ).loc Cert.BwUpRefIdeal.main_arg7))).1) : (⟨2, ![4096, 5632]⟩ : Shape).Idx → _) i = 1#1 → r.2.mem ((c.tc : Thread Cert.BwUpIdeal.nD Cert.BwUpIdeal.τ).loc Cert.BwUpIdeal.main_v1_0) i = (Layout.blockN ⟨2, ![4096, 5632]⟩ ⟨2, ![8192, 5632]⟩ (Layout.meshBlock [1, 1, 2] ![[2], []] c) v0 : (⟨2, ![4096, 5632]⟩ : Shape).Idx → _) i)
          ∧ (∀ i : (⟨2, ![4096, 1024]⟩ : Shape).Idx, (Layout.blockN ⟨2, ![4096, 1024]⟩ ⟨2, ![8192, 1024]⟩ (Layout.meshBlock [1, 1, 2] ![[2], []] c) ((Cert.On_act_half.fn (F := Ideal) (m' (((0 : Dev Cert.BwUpRefIdeal.nD).tc : Thread Cert.BwUpRefIdeal.nD Cert.BwUpRefIdeal.τ).loc Cert.BwUpRefIdeal.main_arg0)) (m' (((0 : Dev Cert.BwUpRefIdeal.nD).tc : Thread Cert.BwUpRefIdeal.nD Cert.BwUpRefIdeal.τ).loc Cert.BwUpRefIdeal.main_arg1)) (m' (((0 : Dev Cert.BwUpRefIdeal.nD).tc : Thread Cert.BwUpRefIdeal.nD Cert.BwUpRefIdeal.τ).loc Cert.BwUpRefIdeal.main_arg2)) (m' (((0 : Dev Cert.BwUpRefIdeal.nD).tc : Thread Cert.BwUpRefIdeal.nD Cert.BwUpRefIdeal.τ).loc Cert.BwUpRefIdeal.main_arg3)) (m' (((0 : Dev Cert.BwUpRefIdeal.nD).tc : Thread Cert.BwUpRefIdeal.nD Cert.BwUpRefIdeal.τ).loc Cert.BwUpRefIdeal.main_arg4)) (m' (((0 : Dev Cert.BwUpRefIdeal.nD).tc : Thread Cert.BwUpRefIdeal.nD Cert.BwUpRefIdeal.τ).loc Cert.BwUpRefIdeal.main_arg5)) (m' (((0 : Dev Cert.BwUpRefIdeal.nD).tc : Thread Cert.BwUpRefIdeal.nD Cert.BwUpRefIdeal.τ).loc Cert.BwUpRefIdeal.main_arg6)) (m' (((0 : Dev Cert.BwUpRefIdeal.nD).tc : Thread Cert.BwUpRefIdeal.nD Cert.BwUpRefIdeal.τ).loc Cert.BwUpRefIdeal.main_arg7))).2.1) : (⟨2, ![4096, 1024]⟩ : Shape).Idx → _) i = 1#1 → r.2.mem ((c.tc : Thread Cert.BwUpIdeal.nD Cert.BwUpIdeal.τ).loc Cert.BwUpIdeal.main_v1_1) i = (Layout.blockN ⟨2, ![4096, 1024]⟩ ⟨2, ![8192, 1024]⟩ (Layout.meshBlock [1, 1, 2] ![[2], []] c) v1 : (⟨2, ![4096, 1024]⟩ : Shape).Idx → _) i)
          ∧ (∀ i : (⟨2, ![4096, 1024]⟩ : Shape).Idx, (Layout.blockN ⟨2, ![4096, 1024]⟩ ⟨2, ![8192, 1024]⟩ (Layout.meshBlock [1, 1, 2] ![[2], []] c) ((Cert.On_act_half.fn (F := Ideal) (m' (((0 : Dev Cert.BwUpRefIdeal.nD).tc : Thread Cert.BwUpRefIdeal.nD Cert.BwUpRefIdeal.τ).loc Cert.BwUpRefIdeal.main_arg0)) (m' (((0 : Dev Cert.BwUpRefIdeal.nD).tc : Thread Cert.BwUpRefIdeal.nD Cert.BwUpRefIdeal.τ).loc Cert.BwUpRefIdeal.main_arg1)) (m' (((0 : Dev Cert.BwUpRefIdeal.nD).tc : Thread Cert.BwUpRefIdeal.nD Cert.BwUpRefIdeal.τ).loc Cert.BwUpRefIdeal.main_arg2)) (m' (((0 : Dev Cert.BwUpRefIdeal.nD).tc : Thread Cert.BwUpRefIdeal.nD Cert.BwUpRefIdeal.τ).loc Cert.BwUpRefIdeal.main_arg3)) (m' (((0 : Dev Cert.BwUpRefIdeal.nD).tc : Thread Cert.BwUpRefIdeal.nD Cert.BwUpRefIdeal.τ).loc Cert.BwUpRefIdeal.main_arg4)) (m' (((0 : Dev Cert.BwUpRefIdeal.nD).tc : Thread Cert.BwUpRefIdeal.nD Cert.BwUpRefIdeal.τ).loc Cert.BwUpRefIdeal.main_arg5)) (m' (((0 : Dev Cert.BwUpRefIdeal.nD).tc : Thread Cert.BwUpRefIdeal.nD Cert.BwUpRefIdeal.τ).loc Cert.BwUpRefIdeal.main_arg6)) (m' (((0 : Dev Cert.BwUpRefIdeal.nD).tc : Thread Cert.BwUpRefIdeal.nD Cert.BwUpRefIdeal.τ).loc Cert.BwUpRefIdeal.main_arg7))).2.2.1) : (⟨2, ![4096, 1024]⟩ : Shape).Idx → _) i = 1#1 → r.2.mem ((c.tc : Thread Cert.BwUpIdeal.nD Cert.BwUpIdeal.τ).loc Cert.BwUpIdeal.main_v1_2) i = (Layout.blockN ⟨2, ![4096, 1024]⟩ ⟨2, ![8192, 1024]⟩ (Layout.meshBlock [1, 1, 2] ![[2], []] c) v2 : (⟨2, ![4096, 1024]⟩ : Shape).Idx → _) i)
          ∧ (∀ i : (⟨2, ![1, 1024]⟩ : Shape).Idx, (Layout.blockN ⟨2, ![1, 1024]⟩ ⟨2, ![2, 1024]⟩ (Layout.meshBlock [1, 1, 2] ![[2], []] c) ((Cert.On_act_half.fn (F := Ideal) (m' (((0 : Dev Cert.BwUpRefIdeal.nD).tc : Thread Cert.BwUpRefIdeal.nD Cert.BwUpRefIdeal.τ).loc Cert.BwUpRefIdeal.main_arg0)) (m' (((0 : Dev Cert.BwUpRefIdeal.nD).tc : Thread Cert.BwUpRefIdeal.nD Cert.BwUpRefIdeal.τ).loc Cert.BwUpRefIdeal.main_arg1)) (m' (((0 : Dev Cert.BwUpRefIdeal.nD).tc : Thread Cert.BwUpRefIdeal.nD Cert.BwUpRefIdeal.τ).loc Cert.BwUpRefIdeal.main_arg2)) (m' (((0 : Dev Cert.BwUpRefIdeal.nD).tc : Thread Cert.BwUpRefIdeal.nD Cert.BwUpRefIdeal.τ).loc Cert.BwUpRefIdeal.main_arg3)) (m' (((0 : Dev Cert.BwUpRefIdeal.nD).tc : Thread Cert.BwUpRefIdeal.nD Cert.BwUpRefIdeal.τ).loc Cert.BwUpRefIdeal.main_arg4)) (m' (((0 : Dev Cert.BwUpRefIdeal.nD).tc : Thread Cert.BwUpRefIdeal.nD Cert.BwUpRefIdeal.τ).loc Cert.BwUpRefIdeal.main_arg5)) (m' (((0 : Dev Cert.BwUpRefIdeal.nD).tc : Thread Cert.BwUpRefIdeal.nD Cert.BwUpRefIdeal.τ).loc Cert.BwUpRefIdeal.main_arg6)) (m' (((0 : Dev Cert.BwUpRefIdeal.nD).tc : Thread Cert.BwUpRefIdeal.nD Cert.BwUpRefIdeal.τ).loc Cert.BwUpRefIdeal.main_arg7))).2.2.2.1) : (⟨2, ![1, 1024]⟩ : Shape).Idx → _) i = 1#1 → r.2.mem ((c.tc : Thread Cert.BwUpIdeal.nD Cert.BwUpIdeal.τ).loc Cert.BwUpIdeal.main_v1_3) i = (Layout.blockN ⟨2, ![1, 1024]⟩ ⟨2, ![2, 1024]⟩ (Layout.meshBlock [1, 1, 2] ![[2], []] c) v3 : (⟨2, ![1, 1024]⟩ : Shape).Idx → _) i)
          ∧ (∀ i : (⟨3, ![4, 352, 1024]⟩ : Shape).Idx, (Layout.blockN ⟨3, ![4, 352, 1024]⟩ ⟨3, ![8, 352, 1024]⟩ (Layout.meshBlock [1, 1, 2] ![[2], [], []] c) ((Cert.On_act_half.fn (F := Ideal) (m' (((0 : Dev Cert.BwUpRefIdeal.nD).tc : Thread Cert.BwUpRefIdeal.nD Cert.BwUpRefIdeal.τ).loc Cert.BwUpRefIdeal.main_arg0)) (m' (((0 : Dev Cert.BwUpRefIdeal.nD).tc : Thread Cert.BwUpRefIdeal.nD Cert.BwUpRefIdeal.τ).loc Cert.BwUpRefIdeal.main_arg1)) (m' (((0 : Dev Cert.BwUpRefIdeal.nD).tc : Thread Cert.BwUpRefIdeal.nD Cert.BwUpRefIdeal.τ).loc Cert.BwUpRefIdeal.main_arg2)) (m' (((0 : Dev Cert.BwUpRefIdeal.nD).tc : Thread Cert.BwUpRefIdeal.nD Cert.BwUpRefIdeal.τ).loc Cert.BwUpRefIdeal.main_arg3)) (m' (((0 : Dev Cert.BwUpRefIdeal.nD).tc : Thread Cert.BwUpRefIdeal.nD Cert.BwUpRefIdeal.τ).loc Cert.BwUpRefIdeal.main_arg4)) (m' (((0 : Dev Cert.BwUpRefIdeal.nD).tc : Thread Cert.BwUpRefIdeal.nD Cert.BwUpRefIdeal.τ).loc Cert.BwUpRefIdeal.main_arg5)) (m' (((0 : Dev Cert.BwUpRefIdeal.nD).tc : Thread Cert.BwUpRefIdeal.nD Cert.BwUpRefIdeal.τ).loc Cert.BwUpRefIdeal.main_arg6)) (m' (((0 : Dev Cert.BwUpRefIdeal.nD).tc : Thread Cert.BwUpRefIdeal.nD Cert.BwUpRefIdeal.τ).loc Cert.BwUpRefIdeal.main_arg7))).2.2.2.2) : (⟨3, ![4, 352, 1024]⟩ : Shape).Idx → _) i = 1#1 → r.2.mem ((c.tc : Thread Cert.BwUpIdeal.nD Cert.BwUpIdeal.τ).loc Cert.BwUpIdeal.main_v1_4) i = (Layout.blockN ⟨3, ![4, 352, 1024]⟩ ⟨3, ![8, 352, 1024]⟩ (Layout.meshBlock [1, 1, 2] ![[2], [], []] c) v4 : (⟨3, ![4, 352, 1024]⟩ : Shape).Idx → _) i)
          ∧ r.2.mem ((c.tc : Thread Cert.BwUpIdeal.nD Cert.BwUpIdeal.τ).loc Cert.BwUpIdeal.main_arg0) = m ((c.tc : Thread Cert.BwUpIdeal.nD Cert.BwUpIdeal.τ).loc Cert.BwUpIdeal.main_arg0)
          ∧ r.2.mem ((c.tc : Thread Cert.BwUpIdeal.nD Cert.BwUpIdeal.τ).loc Cert.BwUpIdeal.main_arg1) = m ((c.tc : Thread Cert.BwUpIdeal.nD Cert.BwUpIdeal.τ).loc Cert.BwUpIdeal.main_arg1)
          ∧ r.2.mem ((c.tc : Thread Cert.BwUpIdeal.nD Cert.BwUpIdeal.τ).loc Cert.BwUpIdeal.main_arg2) = m ((c.tc : Thread Cert.BwUpIdeal.nD Cert.BwUpIdeal.τ).loc Cert.BwUpIdeal.main_arg2)
          ∧ r.2.mem ((c.tc : Thread Cert.BwUpIdeal.nD Cert.BwUpIdeal.τ).loc Cert.BwUpIdeal.main_arg3) = m ((c.tc : Thread Cert.BwUpIdeal.nD Cert.BwUpIdeal.τ).loc Cert.BwUpIdeal.main_arg3)
          ∧ r.2.mem ((c.tc : Thread Cert.BwUpIdeal.nD Cert.BwUpIdeal.τ).loc Cert.BwUpIdeal.main_arg4) = m ((c.tc : Thread Cert.BwUpIdeal.nD Cert.BwUpIdeal.τ).loc Cert.BwUpIdeal.main_arg4)
          ∧ r.2.mem ((c.tc : Thread Cert.BwUpIdeal.nD Cert.BwUpIdeal.τ).loc Cert.BwUpIdeal.main_arg5) = m ((c.tc : Thread Cert.BwUpIdeal.nD Cert.BwUpIdeal.τ).loc Cert.BwUpIdeal.main_arg5)
          ∧ r.2.mem ((c.tc : Thread Cert.BwUpIdeal.nD Cert.BwUpIdeal.τ).loc Cert.BwUpIdeal.main_arg6) = m ((c.tc : Thread Cert.BwUpIdeal.nD Cert.BwUpIdeal.τ).loc Cert.BwUpIdeal.main_arg6)
          ∧ r.2.mem ((c.tc : Thread Cert.BwUpIdeal.nD Cert.BwUpIdeal.τ).loc Cert.BwUpIdeal.main_arg7) = m ((c.tc : Thread Cert.BwUpIdeal.nD Cert.BwUpIdeal.τ).loc Cert.BwUpIdeal.main_arg7))
      ∧ θ_run (Cert.BwUpRefIdeal.defs (F := Ideal)) (onTc (τ := Cert.BwUpRefIdeal.τ) (Cert.BwUpRefIdeal.main (F := Ideal))) ⟨m', fun _ => 0, g'⟩ (fun r =>
          (∀ i : (⟨2, ![8192, 5632]⟩ : Shape).Idx, (Cert.On_act_half.fn (F := Ideal) (m' (((0 : Dev Cert.BwUpRefIdeal.nD).tc : Thread Cert.BwUpRefIdeal.nD Cert.BwUpRefIdeal.τ).loc Cert.BwUpRefIdeal.main_arg0)) (m' (((0 : Dev Cert.BwUpRefIdeal.nD).tc : Thread Cert.BwUpRefIdeal.nD Cert.BwUpRefIdeal.τ).loc Cert.BwUpRefIdeal.main_arg1)) (m' (((0 : Dev Cert.BwUpRefIdeal.nD).tc : Thread Cert.BwUpRefIdeal.nD Cert.BwUpRefIdeal.τ).loc Cert.BwUpRefIdeal.main_arg2)) (m' (((0 : Dev Cert.BwUpRefIdeal.nD).tc : Thread Cert.BwUpRefIdeal.nD Cert.BwUpRefIdeal.τ).loc Cert.BwUpRefIdeal.main_arg3)) (m' (((0 : Dev Cert.BwUpRefIdeal.nD).tc : Thread Cert.BwUpRefIdeal.nD Cert.BwUpRefIdeal.τ).loc Cert.BwUpRefIdeal.main_arg4)) (m' (((0 : Dev Cert.BwUpRefIdeal.nD).tc : Thread Cert.BwUpRefIdeal.nD Cert.BwUpRefIdeal.τ).loc Cert.BwUpRefIdeal.main_arg5)) (m' (((0 : Dev Cert.BwUpRefIdeal.nD).tc : Thread Cert.BwUpRefIdeal.nD Cert.BwUpRefIdeal.τ).loc Cert.BwUpRefIdeal.main_arg6)) (m' (((0 : Dev Cert.BwUpRefIdeal.nD).tc : Thread Cert.BwUpRefIdeal.nD Cert.BwUpRefIdeal.τ).loc Cert.BwUpRefIdeal.main_arg7))).1 i = 1#1 → r.2.mem (((0 : Dev Cert.BwUpRefIdeal.nD).tc : Thread Cert.BwUpRefIdeal.nD Cert.BwUpRefIdeal.τ).loc Cert.BwUpRefIdeal.main_v102) i = v0 i)
          ∧ (∀ i : (⟨2, ![8192, 1024]⟩ : Shape).Idx, (Cert.On_act_half.fn (F := Ideal) (m' (((0 : Dev Cert.BwUpRefIdeal.nD).tc : Thread Cert.BwUpRefIdeal.nD Cert.BwUpRefIdeal.τ).loc Cert.BwUpRefIdeal.main_arg0)) (m' (((0 : Dev Cert.BwUpRefIdeal.nD).tc : Thread Cert.BwUpRefIdeal.nD Cert.BwUpRefIdeal.τ).loc Cert.BwUpRefIdeal.main_arg1)) (m' (((0 : Dev Cert.BwUpRefIdeal.nD).tc : Thread Cert.BwUpRefIdeal.nD Cert.BwUpRefIdeal.τ).loc Cert.BwUpRefIdeal.main_arg2)) (m' (((0 : Dev Cert.BwUpRefIdeal.nD).tc : Thread Cert.BwUpRefIdeal.nD Cert.BwUpRefIdeal.τ).loc Cert.BwUpRefIdeal.main_arg3)) (m' (((0 : Dev Cert.BwUpRefIdeal.nD).tc : Thread Cert.BwUpRefIdeal.nD Cert.BwUpRefIdeal.τ).loc Cert.BwUpRefIdeal.main_arg4)) (m' (((0 : Dev Cert.BwUpRefIdeal.nD).tc : Thread Cert.BwUpRefIdeal.nD Cert.BwUpRefIdeal.τ).loc Cert.BwUpRefIdeal.main_arg5)) (m' (((0 : Dev Cert.BwUpRefIdeal.nD).tc : Thread Cert.BwUpRefIdeal.nD Cert.BwUpRefIdeal.τ).loc Cert.BwUpRefIdeal.main_arg6)) (m' (((0 : Dev Cert.BwUpRefIdeal.nD).tc : Thread Cert.BwUpRefIdeal.nD Cert.BwUpRefIdeal.τ).loc Cert.BwUpRefIdeal.main_arg7))).2.1 i = 1#1 → r.2.mem (((0 : Dev Cert.BwUpRefIdeal.nD).tc : Thread Cert.BwUpRefIdeal.nD Cert.BwUpRefIdeal.τ).loc Cert.BwUpRefIdeal.main_v94) i = v1 i)
          ∧ (∀ i : (⟨2, ![8192, 1024]⟩ : Shape).Idx, (Cert.On_act_half.fn (F := Ideal) (m' (((0 : Dev Cert.BwUpRefIdeal.nD).tc : Thread Cert.BwUpRefIdeal.nD Cert.BwUpRefIdeal.τ).loc Cert.BwUpRefIdeal.main_arg0)) (m' (((0 : Dev Cert.BwUpRefIdeal.nD).tc : Thread Cert.BwUpRefIdeal.nD Cert.BwUpRefIdeal.τ).loc Cert.BwUpRefIdeal.main_arg1)) (m' (((0 : Dev Cert.BwUpRefIdeal.nD).tc : Thread Cert.BwUpRefIdeal.nD Cert.BwUpRefIdeal.τ).loc Cert.BwUpRefIdeal.main_arg2)) (m' (((0 : Dev Cert.BwUpRefIdeal.nD).tc : Thread Cert.BwUpRefIdeal.nD Cert.BwUpRefIdeal.τ).loc Cert.BwUpRefIdeal.main_arg3)) (m' (((0 : Dev Cert.BwUpRefIdeal.nD).tc : Thread Cert.BwUpRefIdeal.nD Cert.BwUpRefIdeal.τ).loc Cert.BwUpRefIdeal.main_arg4)) (m' (((0 : Dev Cert.BwUpRefIdeal.nD).tc : Thread Cert.BwUpRefIdeal.nD Cert.BwUpRefIdeal.τ).loc Cert.BwUpRefIdeal.main_arg5)) (m' (((0 : Dev Cert.BwUpRefIdeal.nD).tc : Thread Cert.BwUpRefIdeal.nD Cert.BwUpRefIdeal.τ).loc Cert.BwUpRefIdeal.main_arg6)) (m' (((0 : Dev Cert.BwUpRefIdeal.nD).tc : Thread Cert.BwUpRefIdeal.nD Cert.BwUpRefIdeal.τ).loc Cert.BwUpRefIdeal.main_arg7))).2.2.1 i = 1#1 → r.2.mem (((0 : Dev Cert.BwUpRefIdeal.nD).tc : Thread Cert.BwUpRefIdeal.nD Cert.BwUpRefIdeal.τ).loc Cert.BwUpRefIdeal.main_v103) i = v2 i)
          ∧ (∀ i : (⟨2, ![2, 1024]⟩ : Shape).Idx, (Cert.On_act_half.fn (F := Ideal) (m' (((0 : Dev Cert.BwUpRefIdeal.nD).tc : Thread Cert.BwUpRefIdeal.nD Cert.BwUpRefIdeal.τ).loc Cert.BwUpRefIdeal.main_arg0)) (m' (((0 : Dev Cert.BwUpRefIdeal.nD).tc : Thread Cert.BwUpRefIdeal.nD Cert.BwUpRefIdeal.τ).loc Cert.BwUpRefIdeal.main_arg1)) (m' (((0 : Dev Cert.BwUpRefIdeal.nD).tc : Thread Cert.BwUpRefIdeal.nD Cert.BwUpRefIdeal.τ).loc Cert.BwUpRefIdeal.main_arg2)) (m' (((0 : Dev Cert.BwUpRefIdeal.nD).tc : Thread Cert.BwUpRefIdeal.nD Cert.BwUpRefIdeal.τ).loc Cert.BwUpRefIdeal.main_arg3)) (m' (((0 : Dev Cert.BwUpRefIdeal.nD).tc : Thread Cert.BwUpRefIdeal.nD Cert.BwUpRefIdeal.τ).loc Cert.BwUpRefIdeal.main_arg4)) (m' (((0 : Dev Cert.BwUpRefIdeal.nD).tc : Thread Cert.BwUpRefIdeal.nD Cert.BwUpRefIdeal.τ).loc Cert.BwUpRefIdeal.main_arg5)) (m' (((0 : Dev Cert.BwUpRefIdeal.nD).tc : Thread Cert.BwUpRefIdeal.nD Cert.BwUpRefIdeal.τ).loc Cert.BwUpRefIdeal.main_arg6)) (m' (((0 : Dev Cert.BwUpRefIdeal.nD).tc : Thread Cert.BwUpRefIdeal.nD Cert.BwUpRefIdeal.τ).loc Cert.BwUpRefIdeal.main_arg7))).2.2.2.1 i = 1#1 → r.2.mem (((0 : Dev Cert.BwUpRefIdeal.nD).tc : Thread Cert.BwUpRefIdeal.nD Cert.BwUpRefIdeal.τ).loc Cert.BwUpRefIdeal.main_v92) i = v3 i)
          ∧ (∀ i : (⟨3, ![8, 352, 1024]⟩ : Shape).Idx, (Cert.On_act_half.fn (F := Ideal) (m' (((0 : Dev Cert.BwUpRefIdeal.nD).tc : Thread Cert.BwUpRefIdeal.nD Cert.BwUpRefIdeal.τ).loc Cert.BwUpRefIdeal.main_arg0)) (m' (((0 : Dev Cert.BwUpRefIdeal.nD).tc : Thread Cert.BwUpRefIdeal.nD Cert.BwUpRefIdeal.τ).loc Cert.BwUpRefIdeal.main_arg1)) (m' (((0 : Dev Cert.BwUpRefIdeal.nD).tc : Thread Cert.BwUpRefIdeal.nD Cert.BwUpRefIdeal.τ).loc Cert.BwUpRefIdeal.main_arg2)) (m' (((0 : Dev Cert.BwUpRefIdeal.nD).tc : Thread Cert.BwUpRefIdeal.nD Cert.BwUpRefIdeal.τ).loc Cert.BwUpRefIdeal.main_arg3)) (m' (((0 : Dev Cert.BwUpRefIdeal.nD).tc : Thread Cert.BwUpRefIdeal.nD Cert.BwUpRefIdeal.τ).loc Cert.BwUpRefIdeal.main_arg4)) (m' (((0 : Dev Cert.BwUpRefIdeal.nD).tc : Thread Cert.BwUpRefIdeal.nD Cert.BwUpRefIdeal.τ).loc Cert.BwUpRefIdeal.main_arg5)) (m' (((0 : Dev Cert.BwUpRefIdeal.nD).tc : Thread Cert.BwUpRefIdeal.nD Cert.BwUpRefIdeal.τ).loc Cert.BwUpRefIdeal.main_arg6)) (m' (((0 : Dev Cert.BwUpRefIdeal.nD).tc : Thread Cert.BwUpRefIdeal.nD Cert.BwUpRefIdeal.τ).loc Cert.BwUpRefIdeal.main_arg7))).2.2.2.2 i = 1#1 → r.2.mem (((0 : Dev Cert.BwUpRefIdeal.nD).tc : Thread Cert.BwUpRefIdeal.nD Cert.BwUpRefIdeal.τ).loc Cert.BwUpRefIdeal.main_v100) i = v4 i)
          ∧ r.2.mem (((0 : Dev Cert.BwUpRefIdeal.nD).tc : Thread Cert.BwUpRefIdeal.nD Cert.BwUpRefIdeal.τ).loc Cert.BwUpRefIdeal.main_arg0) = m' (((0 : Dev Cert.BwUpRefIdeal.nD).tc : Thread Cert.BwUpRefIdeal.nD Cert.BwUpRefIdeal.τ).loc Cert.BwUpRefIdeal.main_arg0)
          ∧ r.2.mem (((0 : Dev Cert.BwUpRefIdeal.nD).tc : Thread Cert.BwUpRefIdeal.nD Cert.BwUpRefIdeal.τ).loc Cert.BwUpRefIdeal.main_arg1) = m' (((0 : Dev Cert.BwUpRefIdeal.nD).tc : Thread Cert.BwUpRefIdeal.nD Cert.BwUpRefIdeal.τ).loc Cert.BwUpRefIdeal.main_arg1)
          ∧ r.2.mem (((0 : Dev Cert.BwUpRefIdeal.nD).tc : Thread Cert.BwUpRefIdeal.nD Cert.BwUpRefIdeal.τ).loc Cert.BwUpRefIdeal.main_arg2) = m' (((0 : Dev Cert.BwUpRefIdeal.nD).tc : Thread Cert.BwUpRefIdeal.nD Cert.BwUpRefIdeal.τ).loc Cert.BwUpRefIdeal.main_arg2)
          ∧ r.2.mem (((0 : Dev Cert.BwUpRefIdeal.nD).tc : Thread Cert.BwUpRefIdeal.nD Cert.BwUpRefIdeal.τ).loc Cert.BwUpRefIdeal.main_arg3) = m' (((0 : Dev Cert.BwUpRefIdeal.nD).tc : Thread Cert.BwUpRefIdeal.nD Cert.BwUpRefIdeal.τ).loc Cert.BwUpRefIdeal.main_arg3)
          ∧ r.2.mem (((0 : Dev Cert.BwUpRefIdeal.nD).tc : Thread Cert.BwUpRefIdeal.nD Cert.BwUpRefIdeal.τ).loc Cert.BwUpRefIdeal.main_arg4) = m' (((0 : Dev Cert.BwUpRefIdeal.nD).tc : Thread Cert.BwUpRefIdeal.nD Cert.BwUpRefIdeal.τ).loc Cert.BwUpRefIdeal.main_arg4)
          ∧ r.2.mem (((0 : Dev Cert.BwUpRefIdeal.nD).tc : Thread Cert.BwUpRefIdeal.nD Cert.BwUpRefIdeal.τ).loc Cert.BwUpRefIdeal.main_arg5) = m' (((0 : Dev Cert.BwUpRefIdeal.nD).tc : Thread Cert.BwUpRefIdeal.nD Cert.BwUpRefIdeal.τ).loc Cert.BwUpRefIdeal.main_arg5)
          ∧ r.2.mem (((0 : Dev Cert.BwUpRefIdeal.nD).tc : Thread Cert.BwUpRefIdeal.nD Cert.BwUpRefIdeal.τ).loc Cert.BwUpRefIdeal.main_arg6) = m' (((0 : Dev Cert.BwUpRefIdeal.nD).tc : Thread Cert.BwUpRefIdeal.nD Cert.BwUpRefIdeal.τ).loc Cert.BwUpRefIdeal.main_arg6)
          ∧ r.2.mem (((0 : Dev Cert.BwUpRefIdeal.nD).tc : Thread Cert.BwUpRefIdeal.nD Cert.BwUpRefIdeal.τ).loc Cert.BwUpRefIdeal.main_arg7) = m' (((0 : Dev Cert.BwUpRefIdeal.nD).tc : Thread Cert.BwUpRefIdeal.nD Cert.BwUpRefIdeal.τ).loc Cert.BwUpRefIdeal.main_arg7))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m ((c.tc : Thread Cert.DwInIdeal.nD Cert.DwInIdeal.τ).loc Cert.DwInIdeal.main_arg0) = Layout.blockN ⟨3, ![8, 1024, 512]⟩ ⟨3, ![32, 1024, 512]⟩ (Layout.meshBlock [2, 2, 1] ![[0, 1], [], []] c) (m' (((0 : Dev Cert.DwInRefIdeal.nD).tc : Thread Cert.DwInRefIdeal.nD Cert.DwInRefIdeal.τ).loc Cert.DwInRefIdeal.main_arg0))
      ∧ m ((c.tc : Thread Cert.DwInIdeal.nD Cert.DwInIdeal.τ).loc Cert.DwInIdeal.main_arg1) = Layout.blockN ⟨2, ![4096, 2048]⟩ ⟨2, ![16384, 2048]⟩ (Layout.meshBlock [2, 2, 1] ![[0, 1], []] c) (m' (((0 : Dev Cert.DwInRefIdeal.nD).tc : Thread Cert.DwInRefIdeal.nD Cert.DwInRefIdeal.τ).loc Cert.DwInRefIdeal.main_arg1))
      ∧ m ((c.tc : Thread Cert.DwInIdeal.nD Cert.DwInIdeal.τ).loc Cert.DwInIdeal.main_arg2) = Layout.blockN ⟨3, ![4, 128, 1024]⟩ ⟨3, ![16, 128, 1024]⟩ (Layout.meshBlock [2, 2, 1] ![[0, 1], [], []] c) (m' (((0 : Dev Cert.DwInRefIdeal.nD).tc : Thread Cert.DwInRefIdeal.nD Cert.DwInRefIdeal.τ).loc Cert.DwInRefIdeal.main_arg2))) →
    ∃ (v0 : Buf (Elt Ideal) (((0 : Dev Cert.DwInRefIdeal.nD).tc : Thread Cert.DwInRefIdeal.nD Cert.DwInRefIdeal.τ).loc Cert.DwInRefIdeal.main_v13)) (v1 : Buf (Elt Ideal) (((0 : Dev Cert.DwInRefIdeal.nD).tc : Thread Cert.DwInRefIdeal.nD Cert.DwInRefIdeal.τ).loc Cert.DwInRefIdeal.main_v51)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v1_0) = Layout.blockN ⟨3, ![4, 1024, 512]⟩ ⟨3, ![16, 1024, 512]⟩ (Layout.meshBlock [2, 2, 1] ![[0, 1], [], []] c) v0
          ∧ r.2.mem ((c.tc : Thread Cert.DwInIdeal.nD Cert.DwInIdeal.τ).loc Cert.DwInIdeal.main_v1_1) = Layout.blockN ⟨3, ![3, 128, 1024]⟩ ⟨3, ![12, 128, 1024]⟩ (Layout.meshBlock [2, 2, 1] ![[0, 1], [], []] c) v1
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.DwInRefIdeal.defs (F := Ideal)) (onTc (τ := Cert.DwInRefIdeal.τ) (Cert.DwInRefIdeal.main (F := Ideal))) ⟨m', fun _ => 0, g'⟩ (fun r =>
          r.2.mem (((0 : Dev Cert.DwInRefIdeal.nD).tc : Thread Cert.DwInRefIdeal.nD Cert.DwInRefIdeal.τ).loc Cert.DwInRefIdeal.main_v13) = v0
          ∧ r.2.mem (((0 : Dev Cert.DwInRefIdeal.nD).tc : Thread Cert.DwInRefIdeal.nD Cert.DwInRefIdeal.τ).loc Cert.DwInRefIdeal.main_v51) = v1
          ∧ r.2.mem (((0 : Dev Cert.DwInRefIdeal.nD).tc : Thread Cert.DwInRefIdeal.nD Cert.DwInRefIdeal.τ).loc Cert.DwInRefIdeal.main_arg0) = m' (((0 : Dev Cert.DwInRefIdeal.nD).tc : Thread Cert.DwInRefIdeal.nD Cert.DwInRefIdeal.τ).loc Cert.DwInRefIdeal.main_arg0)
          ∧ r.2.mem (((0 : Dev Cert.DwInRefIdeal.nD).tc : Thread Cert.DwInRefIdeal.nD Cert.DwInRefIdeal.τ).loc Cert.DwInRefIdeal.main_arg1) = m' (((0 : Dev Cert.DwInRefIdeal.nD).tc : Thread Cert.DwInRefIdeal.nD Cert.DwInRefIdeal.τ).loc Cert.DwInRefIdeal.main_arg1)
          ∧ r.2.mem (((0 : Dev Cert.DwInRefIdeal.nD).tc : Thread Cert.DwInRefIdeal.nD Cert.DwInRefIdeal.τ).loc Cert.DwInRefIdeal.main_arg2) = m' (((0 : Dev Cert.DwInRefIdeal.nD).tc : Thread Cert.DwInRefIdeal.nD Cert.DwInRefIdeal.τ).loc Cert.DwInRefIdeal.main_arg2))

def preserves_PairX_PairXIdeal : Prop :=
  True

def algebraic_PairXIdeal_PairXRefIdeal [hPairXIdeal : Cert.PairXIdeal.Facts] [hPairXRefIdeal : Cert.PairXRefIdeal.Facts] : Prop :=
  ∀ (m : (ℓ : Loc Cert.PairXIdeal.nD Cert.PairXIdeal.τ Cert.PairXIdeal.sig) → Buf (Elt Ideal) ℓ) (g : Dev Cert.PairXIdeal.nD → PrngReg)
    (m' : (ℓ : Loc Cert.PairXRefIdeal.nD Cert.PairXRefIdeal.τ Cert.PairXRefIdeal.sig) → Buf (Elt Ideal) ℓ) (g' : Dev Cert.PairXRefIdeal.nD → PrngReg), Pre_PairXIdeal m →
    (∀ c : Dev Cert.PairXIdeal.nD,
      m ((c.tc : Thread Cert.PairXIdeal.nD Cert.PairXIdeal.τ).loc Cert.PairXIdeal.main_arg0) = Layout.blockN ⟨4, ![4, 2, 512, 512]⟩ ⟨4, ![8, 2, 512, 512]⟩ (Layout.meshBlock [1, 1, 2] ![[2], [], [], []] c) (m' (((0 : Dev Cert.PairXRefIdeal.nD).tc : Thread Cert.PairXRefIdeal.nD Cert.PairXRefIdeal.τ).loc Cert.PairXRefIdeal.main_arg0))) →
    ∃ (v0 : Buf (Elt Ideal) (((0 : Dev Cert.PairXRefIdeal.nD).tc : Thread Cert.PairXRefIdeal.nD Cert.PairXRefIdeal.τ).loc Cert.PairXRefIdeal.main_v5)),
      θ_run (Cert.PairXIdeal.defs (F := Ideal)) (onTc (τ := Cert.PairXIdeal.τ) (Cert.PairXIdeal.main (F := Ideal))) ⟨m, fun _ => 0, g⟩ (fun r => ∀ c : Dev Cert.PairXIdeal.nD,
          r.2.mem ((c.tc : Thread Cert.PairXIdeal.nD Cert.PairXIdeal.τ).loc Cert.PairXIdeal.main_v1) = Layout.blockN ⟨3, ![4, 512, 512]⟩ ⟨3, ![8, 512, 512]⟩ (Layout.meshBlock [1, 1, 2] ![[2], [], []] c) v0
          ∧ r.2.mem ((c.tc : Thread Cert.PairXIdeal.nD Cert.PairXIdeal.τ).loc Cert.PairXIdeal.main_arg0) = m ((c.tc : Thread Cert.PairXIdeal.nD Cert.PairXIdeal.τ).loc Cert.PairXIdeal.main_arg0))
      ∧ θ_run (Cert.PairXRefIdeal.defs (F := Ideal)) (onTc (τ := Cert.PairXRefIdeal.τ) (Cert.PairXRefIdeal.main (F := Ideal))) ⟨m', fun _ => 0, g'⟩ (fun r =>
          r.2.mem (((0 : Dev Cert.PairXRefIdeal.nD).tc : Thread Cert.PairXRefIdeal.nD Cert.PairXRefIdeal.τ).loc Cert.PairXRefIdeal.main_v5) = v0
          ∧ r.2.mem (((0 : Dev Cert.PairXRefIdeal.nD).tc : Thread Cert.PairXRefIdeal.nD Cert.PairXRefIdeal.τ).loc Cert.PairXRefIdeal.main_arg0) = m' (((0 : Dev Cert.PairXRefIdeal.nD).tc : Thread Cert.PairXRefIdeal.nD Cert.PairXRefIdeal.τ).loc Cert.PairXRefIdeal.main_arg0))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hDwDown : Cert.DwDown.Facts) (hDwDownIdeal : Cert.DwDownIdeal.Facts) (hDwDownRefIdeal : Cert.DwDownRefIdeal.Facts) (hDwPw : Cert.DwPw.Facts) (hDwPwIdeal : Cert.DwPwIdeal.Facts) (hDwPwRefIdeal : Cert.DwPwRefIdeal.Facts) (hDwUp : Cert.DwUp.Facts) (hDwUpIdeal : Cert.DwUpIdeal.Facts) (hDwUpRefIdeal : Cert.DwUpRefIdeal.Facts) (hBwUp : Cert.BwUp.Facts) (hBwUpIdeal : Cert.BwUpIdeal.Facts) (hBwUpRefIdeal : Cert.BwUpRefIdeal.Facts) (hDwIn : Cert.DwIn.Facts) (hDwInIdeal : Cert.DwInIdeal.Facts) (hDwInRefIdeal : Cert.DwInRefIdeal.Facts) (hPairX : Cert.PairX.Facts) (hPairXIdeal : Cert.PairXIdeal.Facts) (hPairXRefIdeal : Cert.PairXRefIdeal.Facts) (hPre_finite : Cert.Pre_finite.Facts) (hPre_finite_ffn : Cert.Pre_finite_ffn.Facts) (hPre_finite_bu_BwUpIdeal : Cert.Pre_finite_bu_BwUpIdeal.Facts) (hPre_finite_bu_BwUpRefIdeal : Cert.Pre_finite_bu_BwUpRefIdeal.Facts) (hOn_gate_half : Cert.On_gate_half.Facts) (hOn_act_half : Cert.On_act_half.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwPw (hDwPw := hDwPw)
    ∧ quiescent_DwPwIdeal (hDwPwIdeal := hDwPwIdeal)
    ∧ quiescent_DwPwRefIdeal (hDwPwRefIdeal := hDwPwRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_BwUp (hBwUp := hBwUp)
    ∧ quiescent_BwUpIdeal (hBwUpIdeal := hBwUpIdeal)
    ∧ quiescent_BwUpIdeal_pre_finite_bu_BwUpIdeal (hBwUpIdeal := hBwUpIdeal) (hPre_finite_bu_BwUpIdeal := hPre_finite_bu_BwUpIdeal)
    ∧ quiescent_BwUpRefIdeal (hBwUpRefIdeal := hBwUpRefIdeal)
    ∧ quiescent_BwUpRefIdeal_pre_finite_bu_BwUpRefIdeal (hBwUpRefIdeal := hBwUpRefIdeal) (hPre_finite_bu_BwUpRefIdeal := hPre_finite_bu_BwUpRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_PairX (hPairX := hPairX)
    ∧ quiescent_PairXIdeal (hPairXIdeal := hPairXIdeal)
    ∧ quiescent_PairXRefIdeal (hPairXRefIdeal := hPairXRefIdeal)
    ∧ preserves_Kernel_KernelIdeal
    ∧ algebraic_KernelIdeal_ReferenceIdeal_on_gate_half_pre_finite (hKernelIdeal := hKernelIdeal) (hReferenceIdeal := hReferenceIdeal) (hPre_finite := hPre_finite) (hOn_gate_half := hOn_gate_half)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_DwDown_DwDownIdeal
    ∧ algebraic_DwDownIdeal_DwDownRefIdeal (hDwDownIdeal := hDwDownIdeal) (hDwDownRefIdeal := hDwDownRefIdeal)
    ∧ preserves_DwPw_DwPwIdeal
    ∧ algebraic_DwPwIdeal_DwPwRefIdeal (hDwPwIdeal := hDwPwIdeal) (hDwPwRefIdeal := hDwPwRefIdeal)
    ∧ preserves_DwUp_DwUpIdeal
    ∧ algebraic_DwUpIdeal_DwUpRefIdeal (hDwUpIdeal := hDwUpIdeal) (hDwUpRefIdeal := hDwUpRefIdeal)
    ∧ preserves_BwUp_BwUpIdeal
    ∧ algebraic_BwUpIdeal_BwUpRefIdeal_on_act_half_pre_finite_bu_BwUpIdeal (hBwUpIdeal := hBwUpIdeal) (hBwUpRefIdeal := hBwUpRefIdeal) (hPre_finite_bu_BwUpIdeal := hPre_finite_bu_BwUpIdeal) (hOn_act_half := hOn_act_half)
    ∧ preserves_DwIn_DwInIdeal
    ∧ algebraic_DwInIdeal_DwInRefIdeal (hDwInIdeal := hDwInIdeal) (hDwInRefIdeal := hDwInRefIdeal)
    ∧ preserves_PairX_PairXIdeal
    ∧ algebraic_PairXIdeal_PairXRefIdeal (hPairXIdeal := hPairXIdeal) (hPairXRefIdeal := hPairXRefIdeal)
-- ==== On_act_half.lean ====
abbrev S8192x2816 : Shape := ⟨2, ![8192, 2816]⟩
abbrev S8192x5632 : Shape := ⟨2, ![8192, 5632]⟩
abbrev S2x1024x2816 : Shape := ⟨3, ![2, 1024, 2816]⟩
abbrev S8x2816 : Shape := ⟨2, ![8, 2816]⟩
abbrev S8192x1024 : Shape := ⟨2, ![8192, 1024]⟩
abbrev S1x1024 : Shape := ⟨2, ![1, 1024]⟩
abbrev S8x2x352x1024 : Shape := ⟨4, ![8, 2, 352, 1024]⟩
abbrev S_ : Shape := ⟨0, ![]⟩
abbrev S2x1024 : Shape := ⟨2, ![2, 1024]⟩
abbrev S8x352x1024 : Shape := ⟨3, ![8, 352, 1024]⟩

class Facts : Prop where
  bcast_S_S8192x1024 : S_.BroadcastsInDim S8192x1024 (![] : Fin 0 → Fin S8192x1024.rank)
  bcast_S_S8192x5632 : S_.BroadcastsInDim S8192x5632 (![] : Fin 0 → Fin S8192x5632.rank)
  bcast_S_S2x1024 : S_.BroadcastsInDim S2x1024 (![] : Fin 0 → Fin S2x1024.rank)
  bcast_S_S8x352x1024 : S_.BroadcastsInDim S8x352x1024 (![] : Fin 0 → Fin S8x352x1024.rank)

variable [Facts]

def fn {F : FTy → Type} [FloatOps F] (main_arg0 : FVec F S8192x2816 .f32) (main_arg1 : FVec F S8192x5632 .bf16) (main_arg2 : FVec F S2x1024x2816 .bf16) (main_arg3 : FVec F S8x2816 .f32) (main_arg4 : FVec F S8192x1024 .f32) (main_arg5 : FVec F S1x1024 .f32) (main_arg6 : FVec F S8192x1024 .f32) (main_arg7 : FVec F S8x2x352x1024 .bf16) : IVec S8192x5632 1 × IVec S8192x1024 1 × IVec S8192x1024 1 × IVec S2x1024 1 × IVec S8x352x1024 1 :=
  let main_v0 : IVec S8192x5632 32 := iotaInDim S8192x5632 32 1
  let main_c : IVec S_ 1 := constantI S_ 1 1#1
  let main_v1 : IVec S8192x1024 1 := broadcastInDim S8192x1024 ![] bcast_S_S8192x1024 main_c
  let main_c_0 : IVec S_ 32 := constantI S_ 32 2816#32
  let main_v2 : IVec S8192x5632 32 := broadcastInDim S8192x5632 ![] bcast_S_S8192x5632 main_c_0
  let main_v3 : IVec S8192x5632 1 := cmpi .slt main_v0 main_v2
  let main_c_1 : IVec S_ 1 := constantI S_ 1 1#1
  let main_v4 : IVec S2x1024 1 := broadcastInDim S2x1024 ![] bcast_S_S2x1024 main_c_1
  let main_c_2 : IVec S_ 1 := constantI S_ 1 1#1
  let main_v5 : IVec S8x352x1024 1 := broadcastInDim S8x352x1024 ![] bcast_S_S8x352x1024 main_c_2
  (main_v3, main_v1, main_v1, main_v4, main_v5)
-- ==== On_gate_half.lean ====
abbrev S4096x1024 : Shape := ⟨2, ![4096, 1024]⟩
abbrev S4096x5632 : Shape := ⟨2, ![4096, 5632]⟩
abbrev S3x2816 : Shape := ⟨2, ![3, 2816]⟩
abbrev S1x2816 : Shape := ⟨2, ![1, 2816]⟩
abbrev S2816x1024 : Shape := ⟨2, ![2816, 1024]⟩
abbrev S_ : Shape := ⟨0, ![]⟩
abbrev S4096x2816 : Shape := ⟨2, ![4096, 2816]⟩
abbrev S8x2816 : Shape := ⟨2, ![8, 2816]⟩

class Facts : Prop where
  bcast_S_S4096x2816 : S_.BroadcastsInDim S4096x2816 (![] : Fin 0 → Fin S4096x2816.rank)
  bcast_S_S4096x5632 : S_.BroadcastsInDim S4096x5632 (![] : Fin 0 → Fin S4096x5632.rank)
  bcast_S_S8x2816 : S_.BroadcastsInDim S8x2816 (![] : Fin 0 → Fin S8x2816.rank)

variable [Facts]

def fn {F : FTy → Type} [FloatOps F] (main_arg0 : FVec F S4096x1024 .f32) (main_arg1 : FVec F S4096x5632 .f32) (main_arg2 : FVec F S3x2816 .f32) (main_arg3 : FVec F S1x2816 .f32) (main_arg4 : FVec F S2816x1024 .f32) : IVec S4096x2816 1 × IVec S4096x5632 1 × IVec S8x2816 1 :=
  let main_v0 : IVec S4096x5632 32 := iotaInDim S4096x5632 32 1
  let main_c : IVec S_ 1 := constantI S_ 1 1#1
  let main_v1 : IVec S4096x2816 1 := broadcastInDim S4096x2816 ![] bcast_S_S4096x2816 main_c
  let main_c_0 : IVec S_ 32 := constantI S_ 32 2816#32
  let main_v2 : IVec S4096x5632 32 := broadcastInDim S4096x5632 ![] bcast_S_S4096x5632 main_c_0
  let main_v3 : IVec S4096x5632 1 := cmpi .sge main_v0 main_v2
  let main_c_1 : IVec S_ 1 := constantI S_ 1 1#1
  let main_v4 : IVec S8x2816 1 := broadcastInDim S8x2816 ![] bcast_S_S8x2816 main_c_1
  (main_v1, main_v3, main_v4)
-- ==== Pre_finite.lean ====
abbrev S4096x1024 : Shape := ⟨2, ![4096, 1024]⟩
abbrev S4096x5632 : Shape := ⟨2, ![4096, 5632]⟩
abbrev S3x2816 : Shape := ⟨2, ![3, 2816]⟩
abbrev S1x2816 : Shape := ⟨2, ![1, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S4096x5632 : S_.BroadcastsInDim S4096x5632 (![] : Fin 0 → Fin S4096x5632.rank)
  bcast_S_S3x2816 : S_.BroadcastsInDim S3x2816 (![] : Fin 0 → Fin S3x2816.rank)
  bcast_S_S1x2816 : S_.BroadcastsInDim S1x2816 (![] : Fin 0 → Fin S1x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x5632 .f32) (main_arg2 : FVec F S3x2816 .f32) (main_arg3 : FVec F S1x2816 .f32) (main_arg4 : FVec F S2816x1024 .f32) : IVec S4096x1024 1 × IVec S4096x5632 1 × IVec S3x2816 1 × IVec S1x2816 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x5632 .f32 := Host.absf main_arg1
  let main_cst_0 : FVec F S_ .f32 := constant S_ .f32 0x7F800000#32
  let main_v4 : FVec F S4096x5632 .f32 := broadcastInDim S4096x5632 ![] bcast_S_S4096x5632 main_cst_0
  let main_v5 : IVec S4096x5632 1 := cmpf .olt main_v3 main_v4
  let main_v6 : FVec F S3x2816 .f32 := Host.absf main_arg2
  let main_cst_1 : FVec F S_ .f32 := constant S_ .f32 0x7F800000#32
  let main_v7 : FVec F S3x2816 .f32 := broadcastInDim S3x2816 ![] bcast_S_S3x2816 main_cst_1
  let main_v8 : IVec S3x2816 1 := cmpf .olt main_v6 main_v7
  let main_v9 : FVec F S1x2816 .f32 := Host.absf main_arg3
  let main_cst_2 : FVec F S_ .f32 := constant S_ .f32 0x7F800000#32
  let main_v10 : FVec F S1x2816 .f32 := broadcastInDim S1x2816 ![] bcast_S_S1x2816 main_cst_2
  let main_v11 : IVec S1x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Pre_finite_bu_BwUpIdeal.lean ====
abbrev S4096x2816 : Shape := ⟨2, ![4096, 2816]⟩
abbrev S4096x5632 : Shape := ⟨2, ![4096, 5632]⟩
abbrev S2x1024x2816 : Shape := ⟨3, ![2, 1024, 2816]⟩
abbrev S8x2816 : Shape := ⟨2, ![8, 2816]⟩
abbrev S4096x1024 : Shape := ⟨2, ![4096, 1024]⟩
abbrev S1x1024 : Shape := ⟨2, ![1, 1024]⟩
abbrev S4x2x352x1024 : Shape := ⟨4, ![4, 2, 352, 1024]⟩
abbrev S_ : Shape := ⟨0, ![]⟩

class Facts : Prop where
  bcast_S_S4096x2816 : S_.BroadcastsInDim S4096x2816 (![] : Fin 0 → Fin S4096x2816.rank)
  bitsLt_bf16_f32 : FTy.bits .bf16 < FTy.bits .f32
  bcast_S_S4096x5632 : S_.BroadcastsInDim S4096x5632 (![] : Fin 0 → Fin S4096x5632.rank)
  bcast_S_S2x1024x2816 : S_.BroadcastsInDim S2x1024x2816 (![] : Fin 0 → Fin S2x1024x2816.rank)
  bcast_S_S8x2816 : S_.BroadcastsInDim S8x2816 (![] : Fin 0 → Fin S8x2816.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_v2 : IVec S4096x2816 1) (main_v6 : IVec S4096x5632 1) (main_v10 : IVec S2x1024x2816 1) (main_v13 : IVec S8x2816 1) (main_v16 : IVec S4096x1024 1) (main_v17 : FVec F S1x1024 .f32) (main_cst_4 : FVec F S_ .f32) : IVec S4096x2816 1 × IVec S4096x5632 1 × IVec S2x1024x2816 1 × IVec S8x2816 1 × IVec S4096x1024 1 × IVec S1x1024 1 :=
  let main_v18 : FVec F S1x1024 .f32 := broadcastInDim S1x1024 ![] bcast_S_S1x1024 main_cst_4
  let main_v19 : IVec S1x1024 1 := cmpf .olt main_v17 main_v18
  (main_v2, main_v6, main_v10, main_v13, main_v16, main_v19)

def fn {F : FTy → Type} [FloatOps F] (main_arg0 : FVec F S4096x2816 .f32) (main_arg1 : FVec F S4096x5632 .bf16) (main_arg2 : FVec F S2x1024x2816 .bf16) (main_arg3 : FVec F S8x2816 .f32) (main_arg4 : FVec F S4096x1024 .f32) (main_arg5 : FVec F S1x1024 .f32) (main_arg6 : FVec F S4096x1024 .f32) (main_arg7 : FVec F S4x2x352x1024 .bf16) : IVec S4096x2816 1 × IVec S4096x5632 1 × IVec S2x1024x2816 1 × IVec S8x2816 1 × IVec S4096x1024 1 × IVec S1x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S4096x5632 .f32 := (extf .f32 · bitsLt_bf16_f32) main_arg1
  let main_v4 : FVec F S4096x5632 .f32 := Host.absf main_v3
  let main_cst_0 : FVec F S_ .f32 := constant S_ .f32 0x7F800000#32
  let main_v5 : FVec F S4096x5632 .f32 := broadcastInDim S4096x5632 ![] bcast_S_S4096x5632 main_cst_0
  let main_v6 : IVec S4096x5632 1 := cmpf .olt main_v4 main_v5
  let main_v7 : FVec F S2x1024x2816 .f32 := (extf .f32 · bitsLt_bf16_f32) main_arg2
  let main_v8 : FVec F S2x1024x2816 .f32 := Host.absf main_v7
  let main_cst_1 : FVec F S_ .f32 := constant S_ .f32 0x7F800000#32
  let main_v9 : FVec F S2x1024x2816 .f32 := broadcastInDim S2x1024x2816 ![] bcast_S_S2x1024x2816 main_cst_1
  let main_v10 : IVec S2x1024x2816 1 := cmpf .olt main_v8 main_v9
  let main_v11 : FVec F S8x2816 .f32 := Host.absf main_arg3
  let main_cst_2 : FVec F S_ .f32 := constant S_ .f32 0x7F800000#32
  let main_v12 : FVec F S8x2816 .f32 := broadcastInDim S8x2816 ![] bcast_S_S8x2816 main_cst_2
  let main_v13 : IVec S8x2816 1 := cmpf .olt main_v11 main_v12
  let main_v14 : FVec F S4096x1024 .f32 := Host.absf main_arg4
  let main_cst_3 : FVec F S_ .f32 := constant S_ .f32 0x7F800000#32
  let main_v15 : FVec F S4096x1024 .f32 := broadcastInDim S4096x1024 ![] bcast_S_S4096x1024 main_cst_3
  let main_v16 : IVec S4096x1024 1 := cmpf .olt main_v14 main_v15
  let main_v17 : FVec F S1x1024 .f32 := Host.absf main_arg5
  let main_cst_4 : FVec F S_ .f32 := constant S_ .f32 0x7F800000#32
  fn_part1 (F := F) main_v2 main_v6 main_v10 main_v13 main_v16 main_v17 main_cst_4
-- ==== Pre_finite_bu_BwUpRefIdeal.lean ====
abbrev S8192x2816 : Shape := ⟨2, ![8192, 2816]⟩
abbrev S8192x5632 : Shape := ⟨2, ![8192, 5632]⟩
abbrev S2x1024x2816 : Shape := ⟨3, ![2, 1024, 2816]⟩
abbrev S8x2816 : Shape := ⟨2, ![8, 2816]⟩
abbrev S8192x1024 : Shape := ⟨2, ![8192, 1024]⟩
abbrev S1x1024 : Shape := ⟨2, ![1, 1024]⟩
abbrev S8x2x352x1024 : Shape := ⟨4, ![8, 2, 352, 1024]⟩
abbrev S_ : Shape := ⟨0, ![]⟩

class Facts : Prop where
  bcast_S_S8192x2816 : S_.BroadcastsInDim S8192x2816 (![] : Fin 0 → Fin S8192x2816.rank)
  bitsLt_bf16_f32 : FTy.bits .bf16 < FTy.bits .f32
  bcast_S_S8192x5632 : S_.BroadcastsInDim S8192x5632 (![] : Fin 0 → Fin S8192x5632.rank)
  bcast_S_S2x1024x2816 : S_.BroadcastsInDim S2x1024x2816 (![] : Fin 0 → Fin S2x1024x2816.rank)
  bcast_S_S8x2816 : S_.BroadcastsInDim S8x2816 (![] : Fin 0 → Fin S8x2816.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn_part1 {F : FTy → Type} [FloatOps F] (main_v2 : IVec S8192x2816 1) (main_v6 : IVec S8192x5632 1) (main_v10 : IVec S2x1024x2816 1) (main_v13 : IVec S8x2816 1) (main_v16 : IVec S8192x1024 1) (main_v17 : FVec F S1x1024 .f32) (main_cst_4 : FVec F S_ .f32) : IVec S8192x2816 1 × IVec S8192x5632 1 × IVec S2x1024x2816 1 × IVec S8x2816 1 × IVec S8192x1024 1 × IVec S1x1024 1 :=
  let main_v18 : FVec F S1x1024 .f32 := broadcastInDim S1x1024 ![] bcast_S_S1x1024 main_cst_4
  let main_v19 : IVec S1x1024 1 := cmpf .olt main_v17 main_v18
  (main_v2, main_v6, main_v10, main_v13, main_v16, main_v19)

def fn {F : FTy → Type} [FloatOps F] (main_arg0 : FVec F S8192x2816 .f32) (main_arg1 : FVec F S8192x5632 .bf16) (main_arg2 : FVec F S2x1024x2816 .bf16) (main_arg3 : FVec F S8x2816 .f32) (main_arg4 : FVec F S8192x1024 .f32) (main_arg5 : FVec F S1x1024 .f32) (main_arg6 : FVec F S8192x1024 .f32) (main_arg7 : FVec F S8x2x352x1024 .bf16) : IVec S8192x2816 1 × IVec S8192x5632 1 × IVec S2x1024x2816 1 × IVec S8x2816 1 × IVec S8192x1024 1 × IVec S1x1024 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_v3 : FVec F S8192x5632 .f32 := (extf .f32 · bitsLt_bf16_f32) main_arg1
  let main_v4 : FVec F S8192x5632 .f32 := Host.absf main_v3
  let main_cst_0 : FVec F S_ .f32 := constant S_ .f32 0x7F800000#32
  let main_v5 : FVec F S8192x5632 .f32 := broadcastInDim S8192x5632 ![] bcast_S_S8192x5632 main_cst_0
  let main_v6 : IVec S8192x5632 1 := cmpf .olt main_v4 main_v5
  let main_v7 : FVec F S2x1024x2816 .f32 := (extf .f32 · bitsLt_bf16_f32) main_arg2
  let main_v8 : FVec F S2x1024x2816 .f32 := Host.absf main_v7
  let main_cst_1 : FVec F S_ .f32 := constant S_ .f32 0x7F800000#32
  let main_v9 : FVec F S2x1024x2816 .f32 := broadcastInDim S2x1024x2816 ![] bcast_S_S2x1024x2816 main_cst_1
  let main_v10 : IVec S2x1024x2816 1 := cmpf .olt main_v8 main_v9
  let main_v11 : FVec F S8x2816 .f32 := Host.absf main_arg3
  let main_cst_2 : FVec F S_ .f32 := constant S_ .f32 0x7F800000#32
  let main_v12 : FVec F S8x2816 .f32 := broadcastInDim S8x2816 ![] bcast_S_S8x2816 main_cst_2
  let main_v13 : IVec S8x2816 1 := cmpf .olt main_v11 main_v12
  let main_v14 : FVec F S8192x1024 .f32 := Host.absf main_arg4
  let main_cst_3 : FVec F S_ .f32 := constant S_ .f32 0x7F800000#32
  let main_v15 : FVec F S8192x1024 .f32 := broadcastInDim S8192x1024 ![] bcast_S_S8192x1024 main_cst_3
  let main_v16 : IVec S8192x1024 1 := cmpf .olt main_v14 main_v15
  let main_v17 : FVec F S1x1024 .f32 := Host.absf main_arg5
  let main_cst_4 : FVec F S_ .f32 := constant S_ .f32 0x7F800000#32
  fn_part1 (F := F) main_v2 main_v6 main_v10 main_v13 main_v16 main_v17 main_cst_4
-- ==== Pre_finite_ffn.lean ====
abbrev S4096x1024 : Shape := ⟨2, ![4096, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024x5632 : S_.BroadcastsInDim S1024x5632 (![] : Fin 0 → Fin S1024x5632.rank)
  bcast_S_S3x2816 : S_.BroadcastsInDim S3x2816 (![] : Fin 0 → Fin S3x2816.rank)
  bcast_S_S1x2816 : S_.BroadcastsInDim S1x2816 (![] : Fin 0 → Fin S1x2816.rank)
  bcast_S_S2816x1024 : S_.BroadcastsInDim S2816x1024 (![] : Fin 0 → Fin S2816x1024.rank)
  bcast_S_S1024 : S_.BroadcastsInDim S1024 (![] : Fin 0 → Fin S1024.rank)

variable [Facts]

def fn_part1 {F : FTy → Type} [FloatOps F] (main_arg6 : FVec F S1024 .f32) (main_arg7 : FVec F S4096x1024 .f32) (main_v2 : IVec S4096x1024 1) (main_v5 : IVec S4096x1024 1) (main_v8 : IVec S1024x5632 1) (main_v11 : IVec S3x2816 1) (main_v14 : IVec S1x2816 1) (main_v17 : IVec S2816x1024 1) : IVec S4096x1024 1 × IVec S4096x1024 1 × IVec S1024x5632 1 × IVec S3x2816 1 × IVec S1x2816 1 × IVec S2816x1024 1 × IVec S1024 1 × IVec S4096x1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  (main_v2, main_v5, main_v8, main_v11, main_v14, main_v17, main_v20, main_v23)

def fn {F : FTy → Type} [FloatOps F] (main_arg0 : FVec F S4096x1024 .f32) (main_arg1 : FVec F S4096x1024 .f32) (main_arg2 : FVec F S1024x5632 .f32) (main_arg3 : FVec F S3x2816 .f32) (main_arg4 : FVec F S1x2816 .f32) (main_arg5 : FVec F S2816x1024 .f32) (main_arg6 : FVec F S1024 .f32) (main_arg7 : FVec F S4096x1024 .f32) : IVec S4096x1024 1 × IVec S4096x1024 1 × IVec S1024x5632 1 × IVec S3x2816 1 × IVec S1x2816 1 × IVec S2816x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S3x2816 .f32 := Host.absf main_arg3
  let main_cst_2 : FVec F S_ .f32 := constant S_ .f32 0x7F800000#32
  let main_v10 : FVec F S3x2816 .f32 := broadcastInDim S3x2816 ![] bcast_S_S3x2816 main_cst_2
  let main_v11 : IVec S3x2816 1 := cmpf .olt main_v9 main_v10
  let main_v12 : FVec F S1x2816 .f32 := Host.absf main_arg4
  let main_cst_3 : FVec F S_ .f32 := constant S_ .f32 0x7F800000#32
  let main_v13 : FVec F S1x2816 .f32 := broadcastInDim S1x2816 ![] bcast_S_S1x2816 main_cst_3
  let main_v14 : IVec S1x2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  fn_part1 (F := F) main_arg6 main_arg7 main_v2 main_v5 main_v8 main_v11 main_v14 main_v17
-- ==== Kernel.lean ====
abbrev S4096x1024 : Shape := ⟨2, ![4096, 1024]⟩
abbrev S4096x5632 : Shape := ⟨2, ![4096, 5632]⟩
abbrev S3x2816 : Shape := ⟨2, ![3, 2816]⟩
abbrev S1x2816 : Shape := ⟨2, ![1, 2816]⟩
abbrev S2816x1024 : Shape := ⟨2, ![2816, 1024]⟩
abbrev S_ : Shape := ⟨0, ![]⟩
abbrev S8x2816 : Shape := ⟨2, ![8, 2816]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩
abbrev S264x2816 : Shape := ⟨2, ![264, 2816]⟩
abbrev S2x256x2816 : Shape := ⟨3, ![2, 256, 2816]⟩
abbrev S1x256x2816 : Shape := ⟨3, ![1, 256, 2816]⟩
abbrev S2816 : Shape := ⟨1, ![2816]⟩
abbrev S4x2816 : Shape := ⟨2, ![4, 2816]⟩

abbrev nBuf : Space → Nat
  | .hbm => 12
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S3x2816, .f32⟩
  | .hbm, ⟨3, _⟩ => ⟨S1x2816, .f32⟩
  | .hbm, ⟨4, _⟩ => ⟨S2816x1024, .f32⟩
  | .hbm, ⟨5, _⟩ => ⟨S_, .i32⟩
  | .hbm, ⟨6, _⟩ => ⟨S_, .f32⟩
  | .hbm, ⟨7, _⟩ => ⟨S8x2816, .f32⟩
  | .hbm, ⟨8, _⟩ => ⟨S2816x1024, .bf16⟩
  | .hbm, ⟨9, _⟩ => ⟨S4096x2816, .f32⟩
  | .hbm, ⟨10, _⟩ => ⟨S4096x5632, .bf16⟩
  | .hbm, ⟨11, _⟩ => ⟨S8x2816, .f32⟩
  | .local _ .vmem, ⟨0, _⟩ => ⟨S256x1024, .f32⟩
  | .local _ .vmem, ⟨1, _⟩ => ⟨S256x1024, .f32⟩
  | .local _ .vmem, ⟨2, _⟩ => ⟨S256x5632, .f32⟩
  | .local _ .vmem, ⟨3, _⟩ => ⟨S256x5632, .f32⟩
  | .local _ .vmem, ⟨4, _⟩ => ⟨S8x2816, .f32⟩
  | .local _ .vmem, ⟨5, _⟩ => ⟨S8x2816, .f32⟩
  | .local _ .vmem, ⟨6, _⟩ => ⟨S8x2816, .f32⟩
  | .local _ .vmem, ⟨7, _⟩ => ⟨S1x2816, .f32⟩
  | .local _ .vmem, ⟨8, _⟩ => ⟨S2816x1024, .bf16⟩
  | .local _ .vmem, ⟨9, _⟩ => ⟨S256x2816, .f32⟩
  | .local _ .vmem, ⟨10, _⟩ => ⟨S256x2816, .f32⟩
  | .local _ .vmem, ⟨11, _⟩ => ⟨S256x2816, .bf16⟩
  | .local _ .vmem, ⟨12, _⟩ => ⟨S256x2816, .bf16⟩
  | .local _ .vmem, ⟨13, _⟩ => ⟨S8x2816, .f32⟩
  | .local _ .vmem, ⟨14, _⟩ => ⟨S264x2816, .f32⟩
  | .local _ .vmem, ⟨15, _⟩ => ⟨S2x256x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_57 : BitVec 32 := 0#32
  let v89 : BitVec 1 := Scalar.cmpi .eq arg0 c0_i32_57
  let v90 : BitVec 32 := Scalar.extui v89
  let c0_i32_58 : BitVec 32 := 0#32
  let v91 : BitVec 1 := Scalar.cmpi .ne v90 c0_i32_58
  v91

def k0_cond2 (i : grid0.Coords) : BitVec 1 :=
  let arg0 : BitVec 32 := BitVec.ofNat 32 (i 0).val
  let c0_i32_57 : BitVec 32 := 0#32
  let v89 : BitVec 1 := Scalar.cmpi .eq arg0 c0_i32_57
  let v_true : BitVec 1 := 1#1
  let v92 : BitVec 1 := Scalar.xori v89 v_true
  let v93 : BitVec 32 := Scalar.extui v92
  let c0_i32_59 : BitVec 32 := 0#32
  let v94 : BitVec 1 := Scalar.cmpi .ne v93 c0_i32_59
  v94

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4096x1024 : Shape := ⟨2, ![4096, 1024]⟩
abbrev S4096x5632 : Shape := ⟨2, ![4096, 5632]⟩
abbrev S3x2816 : Shape := ⟨2, ![3, 2816]⟩
abbrev S1x2816 : Shape := ⟨2, ![1, 2816]⟩
abbrev S2816x1024 : Shape := ⟨2, ![2816, 1024]⟩
abbrev S2x2048x1024 : Shape := ⟨3, ![2, 2048, 1024]⟩
abbrev S2x2048x5632 : Shape := ⟨3, ![2, 2048, 5632]⟩
abbrev S2x2048x2816 : Shape := ⟨3, ![2, 2048, 2816]⟩
abbrev S2816 : Shape := ⟨1, ![2816]⟩
abbrev S_ : Shape := ⟨0, ![]⟩
abbrev S2x2050x2816 : Shape := ⟨3, ![2, 2050, 2816]⟩
abbrev S1x1x2816 : Shape := ⟨3, ![1, 1, 2816]⟩
abbrev S4x2816 : Shape := ⟨2, ![4, 2816]⟩
abbrev S8x2816 : Shape := ⟨2, ![8, 2816]⟩
abbrev S4096x2816 : Shape := ⟨2, ![4096, 2816]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S3x2816, .f32⟩
  | .hbm, ⟨3, _⟩ => ⟨S1x2816, .f32⟩
  | .hbm, ⟨4, _⟩ => ⟨S2816x1024, .f32⟩
  | .hbm, ⟨5, _⟩ => ⟨S2x2048x1024, .f32⟩
  | .hbm, ⟨6, _⟩ => ⟨S2x2048x5632, .f32⟩
  | .hbm, ⟨7, _⟩ => ⟨S2x2048x2816, .f32⟩
  | .hbm, ⟨8, _⟩ => ⟨S2x2048x2816, .f32⟩
  | .hbm, ⟨9, _⟩ => ⟨S2816, .f32⟩
  | .hbm, ⟨10, _⟩ => ⟨S_, .i32⟩
  | .hbm, ⟨11, _⟩ => ⟨S_, .f32⟩
  | .hbm, ⟨12, _⟩ => ⟨S2x2050x2816, .f32⟩
  | .hbm, ⟨13, _⟩ => ⟨S2x2048x2816, .f32⟩
  | .hbm, ⟨14, _⟩ => ⟨S1x2816, .f32⟩
  | .hbm, ⟨15, _⟩ => ⟨S2816, .f32⟩
  | .hbm, ⟨16, _⟩ => ⟨S1x1x2816, .f32⟩
  | .hbm, ⟨17, _⟩ => ⟨S2x2048x2816, .f32⟩
  | .hbm, ⟨18, _⟩ => ⟨S2x2048x2816, .f32⟩
  | .hbm, ⟨19, _⟩ => ⟨S_, .f32⟩
  | .hbm, ⟨20, _⟩ => ⟨S2x2048x2816, .f32⟩
  | .hbm, ⟨21, _⟩ => ⟨S2x2048x2816, .f32⟩
  | .hbm, ⟨22, _⟩ => ⟨S2x2048x2816, .f32⟩
  | .hbm, ⟨23, _⟩ => ⟨S1x2816, .f32⟩
  | .hbm, ⟨24, _⟩ => ⟨S2816, .f32⟩
  | .hbm, ⟨25, _⟩ => ⟨S1x1x2816, .f32⟩
  | .hbm, ⟨26, _⟩ => ⟨S2x2048x2816, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S2x2048x2816, .f32⟩
  | .hbm, ⟨34, _⟩ => ⟨S2x2048x2816, .f32⟩
  | .hbm, ⟨35, _⟩ => ⟨S2x2048x2816, .f32⟩
  | .hbm, ⟨36, _⟩ => ⟨S1x1x2816, .f32⟩
  | .hbm, ⟨37, _⟩ => ⟨S2x2048x2816, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S_, .f32⟩
  | .hbm, ⟨42, _⟩ => ⟨S2x2048x2816, .f32⟩
  | .hbm, ⟨43, _⟩ => ⟨S2x2048x2816, .f32⟩
  | .hbm, ⟨44, _⟩ => ⟨S_, .f32⟩
  | .hbm, ⟨45, _⟩ => ⟨S2x2048x2816, .f32⟩
  | .hbm, ⟨46, _⟩ => ⟨S2x2048x2816, .f32⟩
  | .hbm, ⟨47, _⟩ => ⟨S_, .f32⟩
  | .hbm, ⟨48, _⟩ => ⟨S2x2048x2816, .f32⟩
  | .hbm, ⟨49, _⟩ => ⟨S2x2048x2816, .f32⟩
  | .hbm, ⟨50, _⟩ => ⟨S2x2048x2816, .f32⟩
  | .hbm, ⟨51, _⟩ => ⟨S2x2048x2816, .f32⟩
  | .hbm, ⟨52, _⟩ => ⟨S2x2048x2816, .f32⟩
  | .hbm, ⟨53, _⟩ => ⟨S2x2048x1024, .f32⟩
  | .hbm, ⟨54, _⟩ => ⟨S2x2048x2816, .f32⟩
  | .hbm, ⟨55, _⟩ => ⟨S2x2048x2816, .f32⟩
  | .hbm, ⟨56, _⟩ => ⟨S2x2048x2816, .f32⟩
  | .hbm, ⟨57, _⟩ => ⟨S2x2048x2816, .f32⟩
  | .hbm, ⟨58, _⟩ => ⟨S2x2048x2816, .f32⟩
  | .hbm, ⟨59, _⟩ => ⟨S2x2048x2816, .f32⟩
  | .hbm, ⟨60, _⟩ => ⟨S2x2048x2816, .f32⟩
  | .hbm, ⟨61, _⟩ => ⟨S_, .f32⟩
  | .hbm, ⟨62, _⟩ => ⟨S2816, .f32⟩
  | .hbm, ⟨63, _⟩ => ⟨S1x1x2816, .f32⟩
  | .hbm, ⟨64, _⟩ => ⟨S_, .f32⟩
  | .hbm, ⟨65, _⟩ => ⟨S2816, .f32⟩
  | .hbm, ⟨66, _⟩ => ⟨S2x2048x2816, .f32⟩
  | .hbm, ⟨67, _⟩ => ⟨S_, .f32⟩
  | .hbm, ⟨68, _⟩ => ⟨S2816, .f32⟩
  | .hbm, ⟨69, _⟩ => ⟨S1x1x2816, .f32⟩
  | .hbm, ⟨70, _⟩ => ⟨S_, .f32⟩
  | .hbm, ⟨71, _⟩ => ⟨S2816, .f32⟩
  | .hbm, ⟨72, _⟩ => ⟨S1x2816, .f32⟩
  | .hbm, ⟨73, _⟩ => ⟨S_, .f32⟩
  | .hbm, ⟨74, _⟩ => ⟨S3x2816, .f32⟩
  | .hbm, ⟨75, _⟩ => ⟨S2x2048x2816, .f32⟩
  | .hbm, ⟨76, _⟩ => ⟨S_, .f32⟩
  | .hbm, ⟨77, _⟩ => ⟨S2816, .f32⟩
  | .hbm, ⟨78, _⟩ => ⟨S1x1x2816, .f32⟩
  | .hbm, ⟨79, _⟩ => ⟨S_, .f32⟩
  | .hbm, ⟨80, _⟩ => ⟨S2816, .f32⟩
  | .hbm, ⟨81, _⟩ => ⟨S1x2816, .f32⟩
  | .hbm, ⟨82, _⟩ => ⟨S_, .f32⟩
  | .hbm, ⟨83, _⟩ => ⟨S3x2816, .f32⟩
  | .hbm, ⟨84, _⟩ => ⟨S3x2816, .f32⟩
  | .hbm, ⟨85, _⟩ => ⟨S2x2048x2816, .f32⟩
  | .hbm, ⟨86, _⟩ => ⟨S_, .f32⟩
  | .hbm, ⟨87, _⟩ => ⟨S2816, .f32⟩
  | .hbm, ⟨88, _⟩ => ⟨S1x1x2816, .f32⟩
  | .hbm, ⟨89, _⟩ => ⟨S_, .f32⟩
  | .hbm, ⟨90, _⟩ => ⟨S2816, .f32⟩
  | .hbm, ⟨91, _⟩ => ⟨S1x2816, .f32⟩
  | .hbm, ⟨92, _⟩ => ⟨S_, .f32⟩
  | .hbm, ⟨93, _⟩ => ⟨S3x2816, .f32⟩
  | .hbm, ⟨94, _⟩ => ⟨S3x2816, .f32⟩
  | .hbm, ⟨95, _⟩ => ⟨S_, .f32⟩
  | .hbm, ⟨96, _⟩ => ⟨S2x2048x2816, .f32⟩
  | .hbm, ⟨97, _⟩ => ⟨S2x2048x5632, .f32⟩
  | .hbm, ⟨98, _⟩ => ⟨S1x2816, .f32⟩
  | .hbm, ⟨99, _⟩ => ⟨S_, .f32⟩
  | .hbm, ⟨100, _⟩ => ⟨S4x2816, .f32⟩
  | .hbm, ⟨101, _⟩ => ⟨S8x2816, .f32⟩
  | .hbm, ⟨102, _⟩ => ⟨S4096x2816, .f32⟩
  | .hbm, ⟨103, _⟩ => ⟨S4096x5632, .f32⟩
  | .hbm, ⟨104, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_v31_2 : Ref sig .tc := ⟨.hbm, 46, rfl⟩
abbrev main_call1_cst_1 : Ref sig .tc := ⟨.hbm, 47, rfl⟩
abbrev main_call1_v6 : Ref sig .tc := ⟨.hbm, 48, rfl⟩
abbrev main_call1_v7 : Ref sig .tc := ⟨.hbm, 49, rfl⟩
abbrev main_v31_1 : Ref sig .tc := ⟨.hbm, 50, rfl⟩
abbrev main_v31_0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v37 : Ref sig .tc := ⟨.hbm, 60, rfl⟩
abbrev main_cst_0 : Ref sig .tc := ⟨.hbm, 61, rfl⟩
abbrev main_v38 : Ref sig .tc := ⟨.hbm, 62, rfl⟩
abbrev main_v39 : Ref sig .tc := ⟨.hbm, 63, rfl⟩
abbrev main_cst_1 : Ref sig .tc := ⟨.hbm, 64, rfl⟩
abbrev main_v40 : Ref sig .tc := ⟨.hbm, 65, rfl⟩
abbrev main_v41 : Ref sig .tc := ⟨.hbm, 66, rfl⟩
abbrev main_cst_2 : Ref sig .tc := ⟨.hbm, 67, rfl⟩
abbrev main_v42 : Ref sig .tc := ⟨.hbm, 68, rfl⟩
abbrev main_v43 : Ref sig .tc := ⟨.hbm, 69, rfl⟩
abbrev main_cst_3 : Ref sig .tc := ⟨.hbm, 70, rfl⟩
abbrev main_v44 : Ref sig .tc := ⟨.hbm, 71, rfl⟩
abbrev main_v45 : Ref sig .tc := ⟨.hbm, 72, rfl⟩
abbrev main_cst_4 : Ref sig .tc := ⟨.hbm, 73, rfl⟩
abbrev main_v46 : Ref sig .tc := ⟨.hbm, 74, rfl⟩
abbrev main_v47 : Ref sig .tc := ⟨.hbm, 75, rfl⟩
abbrev main_cst_5 : Ref sig .tc := ⟨.hbm, 76, rfl⟩
abbrev main_v48 : Ref sig .tc := ⟨.hbm, 77, rfl⟩
abbrev main_v49 : Ref sig .tc := ⟨.hbm, 78, rfl⟩
abbrev main_cst_6 : Ref sig .tc := ⟨.hbm, 79, rfl⟩
abbrev main_v50 : Ref sig .tc := ⟨.hbm, 80, rfl⟩
abbrev main_v51 : Ref sig .tc := ⟨.hbm, 81, rfl⟩
abbrev main_cst_7 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_8 : Ref sig .tc := ⟨.hbm, 86, rfl⟩
abbrev main_v55 : Ref sig .tc := ⟨.hbm, 87, rfl⟩
abbrev main_v56 : Ref sig .tc := ⟨.hbm, 88, rfl⟩
abbrev main_cst_9 : Ref sig .tc := ⟨.hbm, 89, rfl⟩
abbrev main_v57 : Ref sig .tc := ⟨.hbm, 90, rfl⟩
abbrev main_v58 : Ref sig .tc := ⟨.hbm, 91, rfl⟩
abbrev main_cst_10 : Ref sig .tc := ⟨.hbm, 92, rfl⟩
abbrev main_v59 : Ref sig .tc := ⟨.hbm, 93, rfl⟩
abbrev main_v60 : Ref sig .tc := ⟨.hbm, 94, rfl⟩
abbrev main_cst_11 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_12 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩

abbrev nD : Nat := 1
abbrev τ : Topo := Topo.v7x

variable {F : FTy → Type} [FloatOps F]
-- ==== Ffn.lean ====
abbrev S4096x1024 : Shape := ⟨2, ![4096, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S1024 : Shape := ⟨1, ![1024]⟩
abbrev S1024x2x2816 : Shape := ⟨3, ![1024, 2, 2816]⟩
abbrev S2x1024x2816 : Shape := ⟨3, ![2, 1024, 2816]⟩
abbrev S_ : Shape := ⟨0, ![]⟩
abbrev S8x2816 : Shape := ⟨2, ![8, 2816]⟩
abbrev S1x1024 : Shape := ⟨2, ![1, 1024]⟩
abbrev S4096x5632 : Shape := ⟨2, ![4096, 5632]⟩
abbrev S16x2816x256 : Shape := ⟨3, ![16, 2816, 256]⟩
abbrev S256x1024 : Shape := ⟨2, ![256, 1024]⟩
abbrev S16x1024 : Shape := ⟨2, ![16, 1024]⟩
abbrev S256x5632 : Shape := ⟨2, ![256, 5632]⟩
abbrev S1x2816x256 : Shape := ⟨3, ![1, 2816, 256]⟩
abbrev S264x2816 : Shape := ⟨2, ![264, 2816]⟩
abbrev S2x256x2816 : Shape := ⟨3, ![2, 256, 2816]⟩
abbrev S1x1024x2816 : Shape := ⟨3, ![1, 1024, 2816]⟩
abbrev S1024x2816 : Shape := ⟨2, ![1024, 2816]⟩
abbrev S256x2816 : Shape := ⟨2, ![256, 2816]⟩
abbrev S16x2816 : Shape := ⟨2, ![16, 2816]⟩
abbrev S1x256x2816 : Shape := ⟨3, ![1, 256, 2816]⟩
abbrev S2816x256 : Shape := ⟨2, ![2816, 256]⟩
abbrev S256 : Shape := ⟨1, ![256]⟩
abbrev S256x1 : Shape := ⟨2, ![256, 1]⟩

abbrev nBuf : Space → Nat
  | .hbm => 23
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x5632, .f32⟩
  | .hbm, ⟨3, _⟩ => ⟨S3x2816, .f32⟩
  | .hbm, ⟨4, _⟩ => ⟨S1x2816, .f32⟩
  | .hbm, ⟨5, _⟩ => ⟨S2816x1024, .f32⟩
  | .hbm, ⟨6, _⟩ => ⟨S1024, .f32⟩
  | .hbm, ⟨7, _⟩ => ⟨S4096x1024, .f32⟩
  | .hbm, ⟨8, _⟩ => ⟨S1024x5632, .bf16⟩
  | .hbm, ⟨9, _⟩ => ⟨S1024x2x2816, .bf16⟩
  | .hbm, ⟨10, _⟩ => ⟨S2x1024x2816, .bf16⟩
  | .hbm, ⟨11, _⟩ => ⟨S_, .i32⟩
  | .hbm, ⟨12, _⟩ => ⟨S_, .f32⟩
  | .hbm, ⟨13, _⟩ => ⟨S8x2816, .f32⟩
  | .hbm, ⟨14, _⟩ => ⟨S4096x1024, .bf16⟩
  | .hbm, ⟨15, _⟩ => ⟨S2816x1024, .bf16⟩
  | .hbm, ⟨16, _⟩ => ⟨S1x1024, .f32⟩
  | .hbm, ⟨17, _⟩ => ⟨S4096x5632, .f32⟩
  | .hbm, ⟨18, _⟩ => ⟨S16x2816x256, .bf16⟩
  | .hbm, ⟨19, _⟩ => ⟨S4096x1024, .f32⟩
  | .hbm, ⟨20, _⟩ => ⟨S4096x1024, .bf16⟩
  | .hbm, ⟨21, _⟩ => ⟨S1x1024, .f32⟩
  | .hbm, ⟨22, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S256x1024, .f32⟩
  | .local _ .vmem, ⟨5, _⟩ => ⟨S256x1024, .f32⟩
  | .local _ .vmem, ⟨6, _⟩ => ⟨S2x1024x2816, .bf16⟩
  | .local _ .vmem, ⟨7, _⟩ => ⟨S8x2816, .f32⟩
  | .local _ .vmem, ⟨8, _⟩ => ⟨S1x2816, .f32⟩
  | .local _ .vmem, ⟨9, _⟩ => ⟨S2816x1024, .bf16⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x5632, .f32⟩
  | .local _ .vmem, ⟨14, _⟩ => ⟨S256x5632, .f32⟩
  | .local _ .vmem, ⟨15, _⟩ => ⟨S1x2816x256, .bf16⟩
  | .local _ .vmem, ⟨16, _⟩ => ⟨S1x2816x256, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S1x1024, .f32⟩
  | .local _ .vmem, ⟨22, _⟩ => ⟨S1x1024, .f32⟩
  | .local _ .vmem, ⟨23, _⟩ => ⟨S264x2816, .f32⟩
  | .local _ .vmem, ⟨24, _⟩ => ⟨S2x256x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v7_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_78 : BitVec 32 := 0#32
  let v125 : BitVec 1 := Scalar.cmpi .eq arg0 c0_i32_78
  let v126 : BitVec 32 := Scalar.extui v125
  let c0_i32_79 : BitVec 32 := 0#32
  let v127 : BitVec 1 := Scalar.cmpi .ne v126 c0_i32_79
  v127

def k0_cond2 (i : grid0.Coords) : BitVec 1 :=
  let arg0 : BitVec 32 := BitVec.ofNat 32 (i 0).val
  let c0_i32_78 : BitVec 32 := 0#32
  let v125 : BitVec 1 := Scalar.cmpi .eq arg0 c0_i32_78
  let v_true : BitVec 1 := 1#1
  let v128 : BitVec 1 := Scalar.xori v125 v_true
  let v129 : BitVec 32 := Scalar.extui v128
  let c0_i32_80 : BitVec 32 := 0#32
  let v130 : BitVec 1 := Scalar.cmpi .ne v129 c0_i32_80
  v130

def k0_cond3 (i : grid0.Coords) : BitVec 1 :=
  let arg0 : BitVec 32 := BitVec.ofNat 32 (i 0).val
  let c0_i32_81 : BitVec 32 := 0#32
  let v131 : BitVec 1 := Scalar.cmpi .eq arg0 c0_i32_81
  let v132 : BitVec 32 := Scalar.extui v131
  let c0_i32_82 : BitVec 32 := 0#32
  let v133 : BitVec 1 := Scalar.cmpi .ne v132 c0_i32_82
  v133

def k0_cond4 (i : grid0.Coords) : BitVec 1 :=
  let arg0 : BitVec 32 := BitVec.ofNat 32 (i 0).val
  let c0_i32_81 : BitVec 32 := 0#32
  let v131 : BitVec 1 := Scalar.cmpi .eq arg0 c0_i32_81
  let true_83 : BitVec 1 := 1#1
  let v134 : BitVec 1 := Scalar.xori v131 true_83
  let v135 : BitVec 32 := Scalar.extui v134
  let c0_i32_84 : BitVec 32 := 0#32
  let v136 : BitVec 1 := Scalar.cmpi .ne v135 c0_i32_84
  v136

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2816x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== FfnRefIdeal.lean ====
abbrev S4096x1024 : Shape := ⟨2, ![4096, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S1024 : Shape := ⟨1, ![1024]⟩
abbrev S2x2048x1024 : Shape := ⟨3, ![2, 2048, 1024]⟩
abbrev S2x2048x5632 : Shape := ⟨3, ![2, 2048, 5632]⟩
abbrev S2x2048x2816 : Shape := ⟨3, ![2, 2048, 2816]⟩
abbrev S2816 : Shape := ⟨1, ![2816]⟩
abbrev S_ : Shape := ⟨0, ![]⟩
abbrev S2x2050x2816 : Shape := ⟨3, ![2, 2050, 2816]⟩
abbrev S1x1x2816 : Shape := ⟨3, ![1, 1, 2816]⟩
abbrev S2x2048 : Shape := ⟨2, ![2, 2048]⟩
abbrev S2x2048x1 : Shape := ⟨3, ![2, 2048, 1]⟩
abbrev S1x1x1024 : Shape := ⟨3, ![1, 1, 1024]⟩
abbrev S16x256x2816 : Shape := ⟨3, ![16, 256, 2816]⟩
abbrev S16x2816x256 : Shape := ⟨3, ![16, 2816, 256]⟩
abbrev S4096x5632 : Shape := ⟨2, ![4096, 5632]⟩
abbrev S1x1024 : Shape := ⟨2, ![1, 1024]⟩

abbrev nBuf : Space → Nat
  | .hbm => 132
  | .vmem => 0
  | .smem => 0
  | _ => 0

abbrev hbmTy0_0 (i : Nat) : BufTy := match i % 128 with
  | 0 => ⟨S4096x1024, .f32⟩
  | 1 => ⟨S4096x1024, .f32⟩
  | 2 => ⟨S1024x5632, .f32⟩
  | 3 => ⟨S3x2816, .f32⟩
  | 4 => ⟨S1x2816, .f32⟩
  | 5 => ⟨S2816x1024, .f32⟩
  | 6 => ⟨S1024, .f32⟩
  | 7 => ⟨S4096x1024, .f32⟩
  | 8 => ⟨S2x2048x1024, .f32⟩
  | 9 => ⟨S2x2048x1024, .f32⟩
  | 10 => ⟨S2x2048x1024, .f32⟩
  | 11 => ⟨S2x2048x5632, .f32⟩
  | 12 => ⟨S2x2048x2816, .f32⟩
  | 13 => ⟨S2x2048x2816, .f32⟩
  | 14 => ⟨S2816, .f32⟩
  | 15 => ⟨S_, .i32⟩
  | 16 => ⟨S_, .f32⟩
  | 17 => ⟨S2x2050x2816, .f32⟩
  | 18 => ⟨S2x2048x2816, .f32⟩
  | 19 => ⟨S1x2816, .f32⟩
  | 20 => ⟨S2816, .f32⟩
  | 21 => ⟨S1x1x2816, .f32⟩
  | 22 => ⟨S2x2048x2816, .f32⟩
  | 23 => ⟨S2x2048x2816, .f32⟩
  | 24 => ⟨S_, .f32⟩
  | 25 => ⟨S2x2048x2816, .f32⟩
  | 26 => ⟨S2x2048x2816, .f32⟩
  | 27 => ⟨S2x2048x2816, .f32⟩
  | 28 => ⟨S1x2816, .f32⟩
  | 29 => ⟨S2816, .f32⟩
  | 30 => ⟨S1x1x2816, .f32⟩
  | 31 => ⟨S2x2048x2816, .f32⟩
  | 32 => ⟨S2x2048x2816, .f32⟩
  | 33 => ⟨S2x2048x2816, .f32⟩
  | 34 => ⟨S2x2048x2816, .f32⟩
  | 35 => ⟨S1x2816, .f32⟩
  | 36 => ⟨S2816, .f32⟩
  | 37 => ⟨S1x1x2816, .f32⟩
  | 38 => ⟨S2x2048x2816, .f32⟩
  | 39 => ⟨S2x2048x2816, .f32⟩
  | 40 => ⟨S2x2048x2816, .f32⟩
  | 41 => ⟨S1x1x2816, .f32⟩
  | 42 => ⟨S2x2048x2816, .f32⟩
  | 43 => ⟨S2x2048x2816, .f32⟩
  | 44 => ⟨S2x2048x2816, .f32⟩
  | 45 => ⟨S2x2048x2816, .f32⟩
  | 46 => ⟨S_, .f32⟩
  | 47 => ⟨S2x2048x2816, .f32⟩
  | 48 => ⟨S2x2048x2816, .f32⟩
  | 49 => ⟨S_, .f32⟩
  | 50 => ⟨S2x2048x2816, .f32⟩
  | 51 => ⟨S2x2048x2816, .f32⟩
  | 52 => ⟨S2x2048x2816, .f32⟩
  | 53 => ⟨S2x2048x2816, .f32⟩
  | 54 => ⟨S2x2048x1024, .f32⟩
  | 55 => ⟨S2x2048x1024, .f32⟩
  | 56 => ⟨S2x2048x1024, .f32⟩
  | 57 => ⟨S_, .f32⟩
  | 58 => ⟨S2x2048, .f32⟩
  | 59 => ⟨S2x2048x1, .f32⟩
  | 60 => ⟨S_, .f32⟩
  | 61 => ⟨S2x2048x1, .f32⟩
  | 62 => ⟨S2x2048x1, .f32⟩
  | 63 => ⟨S_, .f32⟩
  | 64 => ⟨S2x2048x1, .f32⟩
  | 65 => ⟨S2x2048x1, .f32⟩
  | 66 => ⟨S2x2048x1, .f32⟩
  | 67 => ⟨S2x2048x1, .f32⟩
  | 68 => ⟨S_, .f32⟩
  | 69 => ⟨S2x2048x1, .f32⟩
  | 70 => ⟨S2x2048x1, .f32⟩
  | 71 => ⟨S2x2048x1024, .f32⟩
  | 72 => ⟨S2x2048x1024, .f32⟩
  | 73 => ⟨S1x1x1024, .f32⟩
  | 74 => ⟨S2x2048x1024, .f32⟩
  | 75 => ⟨S2x2048x1024, .f32⟩
  | 76 => ⟨S2x2048x1024, .f32⟩
  | 77 => ⟨S2x2048x1024, .f32⟩
  | 78 => ⟨S_, .f32⟩
  | 79 => ⟨S2x2048x1024, .f32⟩
  | 80 => ⟨S2x2048x1024, .f32⟩
  | 81 => ⟨S_, .f32⟩
  | 82 => ⟨S1024, .f32⟩
  | 83 => ⟨S_, .f32⟩
  | 84 => ⟨S1024, .f32⟩
  | 85 => ⟨S1024, .f32⟩
  | 86 => ⟨S_, .f32⟩
  | 87 => ⟨S1024, .f32⟩
  | 88 => ⟨S1024, .f32⟩
  | 89 => ⟨S_, .f32⟩
  | 90 => ⟨S1024, .f32⟩
  | 91 => ⟨S_, .f32⟩
  | 92 => ⟨S1024, .f32⟩
  | 93 => ⟨S1024, .f32⟩
  | 94 => ⟨S_, .f32⟩
  | 95 => ⟨S1024, .f32⟩
  | 96 => ⟨S1024, .f32⟩
  | 97 => ⟨S2x2048x1024, .f32⟩
  | 98 => ⟨S2x2048x1024, .f32⟩
  | 99 => ⟨S2x2048x1024, .f32⟩
  | 100 => ⟨S_, .f32⟩
  | 101 => ⟨S1024, .f32⟩
  | 102 => ⟨S1x1x1024, .f32⟩
  | 103 => ⟨S2x2048x1024, .f32⟩
  | 104 => ⟨S2x2048x1024, .f32⟩
  | 105 => ⟨S_, .f32⟩
  | 106 => ⟨S1024, .f32⟩
  | 107 => ⟨S2x2048x1024, .f32⟩
  | 108 => ⟨S_, .f32⟩
  | 109 => ⟨S2x2048, .f32⟩
  | 110 => ⟨S2x2048x1, .f32⟩
  | 111 => ⟨S2x2048x1024, .f32⟩
  | 112 => ⟨S2x2048x1024, .f32⟩
  | 113 => ⟨S2x2048x1, .f32⟩
  | 114 => ⟨S_, .f32⟩
  | 115 => ⟨S2x2048x1, .f32⟩
  | 116 => ⟨S2x2048x1, .f32⟩
  | 117 => ⟨S_, .f32⟩
  | 118 => ⟨S2x2048, .f32⟩
  | 119 => ⟨S2x2048x1024, .f32⟩
  | 120 => ⟨S2x2048x1024, .f32⟩
  | 121 => ⟨S2x2048x1024, .f32⟩
  | 122 => ⟨S2x2048x1024, .f32⟩
  | 123 => ⟨S2x2048x1024, .f32⟩
  | 124 => ⟨S4096x1024, .f32⟩
  | 125 => ⟨S16x256x2816, .f32⟩
  | 126 => ⟨S16x2816x256, .f32⟩
  | 127 => ⟨S16x2816x256, .bf16⟩
  | _ => ⟨S4096x1024, .f32⟩

abbrev hbmTy0_1 (i : Nat) : BufTy := match i % 128 with
  | 0 => ⟨S4096x5632, .f32⟩
  | 1 => ⟨S4096x1024, .bf16⟩
  | 2 => ⟨S1x1024, .f32⟩
  | 3 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_0 : Ref sig .tc := ⟨.hbm, 57, rfl⟩
abbrev main_v38 : Ref sig .tc := ⟨.hbm, 58, rfl⟩
abbrev main_v39 : Ref sig .tc := ⟨.hbm, 59, rfl⟩
abbrev main_cst_1 : Ref sig .tc := ⟨.hbm, 60, rfl⟩
abbrev main_v40 : Ref sig .tc := ⟨.hbm, 61, rfl⟩
abbrev main_v41 : Ref sig .tc := ⟨.hbm, 62, rfl⟩
abbrev main_cst_2 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_3 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_4 : Ref sig .tc := ⟨.hbm, 78, rfl⟩
abbrev main_v55 : Ref sig .tc := ⟨.hbm, 79, rfl⟩
abbrev main_v56 : Ref sig .tc := ⟨.hbm, 80, rfl⟩
abbrev main_cst_5 : Ref sig .tc := ⟨.hbm, 81, rfl⟩
abbrev main_v57 : Ref sig .tc := ⟨.hbm, 82, rfl⟩
abbrev main_cst_6 : Ref sig .tc := ⟨.hbm, 83, rfl⟩
abbrev main_v58 : Ref sig .tc := ⟨.hbm, 84, rfl⟩
abbrev main_v59 : Ref sig .tc := ⟨.hbm, 85, rfl⟩
abbrev main_cst_7 : Ref sig .tc := ⟨.hbm, 86, rfl⟩
abbrev main_v60 : Ref sig .tc := ⟨.hbm, 87, rfl⟩
abbrev main_v61 : Ref sig .tc := ⟨.hbm, 88, rfl⟩
abbrev main_cst_8 : Ref sig .tc := ⟨.hbm, 89, rfl⟩
abbrev main_v62 : Ref sig .tc := ⟨.hbm, 90, rfl⟩
abbrev main_cst_9 : Ref sig .tc := ⟨.hbm, 91, rfl⟩
abbrev main_v63 : Ref sig .tc := ⟨.hbm, 92, rfl⟩
abbrev main_v64 : Ref sig .tc := ⟨.hbm, 93, rfl⟩
abbrev main_cst_10 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_11 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_12 : Ref sig .tc := ⟨.hbm, 105, rfl⟩
abbrev main_v74 : Ref sig .tc := ⟨.hbm, 106, rfl⟩
abbrev main_v75 : Ref sig .tc := ⟨.hbm, 107, rfl⟩
abbrev main_cst_13 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_14 : Ref sig .tc := ⟨.hbm, 114, rfl⟩
abbrev main_v81 : Ref sig .tc := ⟨.hbm, 115, rfl⟩
abbrev main_v82 : Ref sig .tc := ⟨.hbm, 116, rfl⟩
abbrev main_cst_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩

abbrev nD : Nat := 1
abbrev τ : Topo := Topo.v7x

variable {F : FTy → Type} [FloatOps F]
-- ==== DwDown.lean ====
abbrev S4096x2816 : Shape := ⟨2, ![4096, 2816]⟩
abbrev S4096x1024 : Shape := ⟨2, ![4096, 1024]⟩
abbrev S16x256x2816 : Shape := ⟨3, ![16, 256, 2816]⟩
abbrev S16x2816x256 : Shape := ⟨3, ![16, 2816, 256]⟩
abbrev S2816x1024 : Shape := ⟨2, ![2816, 1024]⟩
abbrev S16x704x256 : Shape := ⟨3, ![16, 704, 256]⟩
abbrev S704x1024 : Shape := ⟨2, ![704, 1024]⟩
abbrev S1x704x256 : Shape := ⟨3, ![1, 704, 256]⟩
abbrev S704x256 : Shape := ⟨2, ![704, 256]⟩
abbrev S704x4096 : Shape := ⟨2, ![704, 4096]⟩

abbrev nBuf : Space → Nat
  | .hbm => 7
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S16x256x2816, .f32⟩
  | .hbm, ⟨3, _⟩ => ⟨S16x2816x256, .f32⟩
  | .hbm, ⟨4, _⟩ => ⟨S16x2816x256, .bf16⟩
  | .hbm, ⟨5, _⟩ => ⟨S4096x1024, .bf16⟩
  | .hbm, ⟨6, _⟩ => ⟨S2816x1024, .bf16⟩
  | .local _ .vmem, ⟨0, _⟩ => ⟨S16x704x256, .bf16⟩
  | .local _ .vmem, ⟨1, _⟩ => ⟨S16x704x256, .bf16⟩
  | .local _ .vmem, ⟨2, _⟩ => ⟨S4096x1024, .bf16⟩
  | .local _ .vmem, ⟨3, _⟩ => ⟨S704x1024, .bf16⟩
  | .local _ .vmem, ⟨4, _⟩ => ⟨S704x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x704x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwDownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwPw.lean ====
abbrev S4096x1024 : Shape := ⟨2, ![4096, 1024]⟩
abbrev S8x512x1024 : Shape := ⟨3, ![8, 512, 1024]⟩
abbrev S8x1024x512 : Shape := ⟨3, ![8, 1024, 512]⟩
abbrev S1024x1024 : Shape := ⟨2, ![1024, 1024]⟩
abbrev S1x1024x512 : Shape := ⟨3, ![1, 1024, 512]⟩
abbrev S1024x512 : Shape := ⟨2, ![1024, 512]⟩
abbrev S1024x4096 : Shape := ⟨2, ![1024, 4096]⟩

abbrev nBuf : Space → Nat
  | .hbm => 7
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8x512x1024, .f32⟩
  | .hbm, ⟨3, _⟩ => ⟨S8x1024x512, .f32⟩
  | .hbm, ⟨4, _⟩ => ⟨S8x1024x512, .bf16⟩
  | .hbm, ⟨5, _⟩ => ⟨S4096x1024, .bf16⟩
  | .hbm, ⟨6, _⟩ => ⟨S1024x1024, .bf16⟩
  | .local _ .vmem, ⟨0, _⟩ => ⟨S8x1024x512, .bf16⟩
  | .local _ .vmem, ⟨1, _⟩ => ⟨S4096x1024, .bf16⟩
  | .local _ .vmem, ⟨2, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== DwPwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwUp.lean ====
abbrev S8x1024x512 : Shape := ⟨3, ![8, 1024, 512]⟩
abbrev S4096x5632 : Shape := ⟨2, ![4096, 5632]⟩
abbrev S4x352x1024 : Shape := ⟨3, ![4, 352, 1024]⟩
abbrev S4x1024x1408 : Shape := ⟨3, ![4, 1024, 1408]⟩
abbrev S3x352x1024 : Shape := ⟨3, ![3, 352, 1024]⟩
abbrev S8x512x512 : Shape := ⟨3, ![8, 512, 512]⟩
abbrev S4096x1408 : Shape := ⟨2, ![4096, 1408]⟩
abbrev S1x512x1408 : Shape := ⟨3, ![1, 512, 1408]⟩
abbrev S1x3 : Shape := ⟨2, ![1, 3]⟩
abbrev S1x1 : Shape := ⟨2, ![1, 1]⟩
abbrev S_ : Shape := ⟨0, ![]⟩
abbrev S1x352x1024 : Shape := ⟨3, ![1, 352, 1024]⟩
abbrev S352x1024 : Shape := ⟨2, ![352, 1024]⟩
abbrev S1x512x512 : Shape := ⟨3, ![1, 512, 512]⟩
abbrev S512x512 : Shape := ⟨2, ![512, 512]⟩
abbrev S512x4096 : Shape := ⟨2, ![512, 4096]⟩
abbrev S512x1408 : Shape := ⟨2, ![512, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8x1024x512, .bf16⟩
  | .hbm, ⟨1, _⟩ => ⟨S4096x5632, .bf16⟩
  | .hbm, ⟨2, _⟩ => ⟨S4x352x1024, .bf16⟩
  | .hbm, ⟨3, _⟩ => ⟨S4x1024x1408, .bf16⟩
  | .hbm, ⟨4, _⟩ => ⟨S3x352x1024, .bf16⟩
  | .local _ .vmem, ⟨0, _⟩ => ⟨S8x512x512, .bf16⟩
  | .local _ .vmem, ⟨1, _⟩ => ⟨S8x512x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .bf16⟩
  | .local _ .vmem, ⟨5, _⟩ => ⟨S1x512x1408, .bf16⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 4
abbrev τ : Topo := Topo.v7x

variable {F : FTy → Type} [FloatOps F]

abbrev grid0 : Pipeline.Grid := ⟨2, ![2, 4], ![false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c4_i32 : BitVec 32 := 4#32
  let v1 : BitVec 32 := Scalar.muli v0 c4_i32
  let arg1 : BitVec 32 := BitVec.ofNat 32 (i 1).val
  let v2 : BitVec 32 := Scalar.addi v1 arg1
  let c0_i32_0 : BitVec 32 := 0#32
  let v3 : BitVec 1 := Scalar.cmpi .eq v2 c0_i32_0
  let v4 : BitVec 32 := Scalar.extui v3
  let c0_i32_1 : BitVec 32 := 0#32
  let v5 : BitVec 1 := Scalar.cmpi .ne v4 c0_i32_1
  v5

def k0_off1 (d33 : Dev nD) : Fin 3 → Nat :=
  let c2_i32_32 : BitVec 32 := 2#32
  let c1_i32_28 : BitVec 32 := 1#32
  let v33 : BitVec 32 := Dev.word d33
  let c2_i32_24 : BitVec 32 := 2#32
  let v34 : BitVec 32 := Scalar.divsi v33 c2_i32_24
  let c2_i32 : BitVec 32 := 2#32
  let v35 : BitVec 32 := Scalar.remsi v34 c2_i32
  let v42 : BitVec 32 := Scalar.subi c1_i32_28 v35
  let v46 : BitVec 32 := Scalar.muli c2_i32_32 v42
  let v36 : BitVec 32 := Dev.word d33
  let c1_i32 : BitVec 32 := 1#32
  let v37 : BitVec 32 := Scalar.divsi v36 c1_i32
  let c2_i32_25 : BitVec 32 := 2#32
  let v38 : BitVec 32 := Scalar.remsi v37 c2_i32_25
  let v47 : BitVec 32 := Scalar.addi v46 v38
  let c0_i32_46 : BitVec 32 := 0#32
  let c0_i32_47 : BitVec 32 := 0#32
  ![v47.toNat, 0, 0]
def k0_dev1 (d33 : Dev nD) : Nat :=
  let c0_i32_41 : BitVec 32 := 0#32
  let c1_i32_28 : BitVec 32 := 1#32
  let v33 : BitVec 32 := Dev.word d33
  let c2_i32_24 : BitVec 32 := 2#32
  let v34 : BitVec 32 := Scalar.divsi v33 c2_i32_24
  let c2_i32 : BitVec 32 := 2#32
  let v35 : BitVec 32 := Scalar.remsi v34 c2_i32
  let v42 : BitVec 32 := Scalar.subi c1_i32_28 v35
  let c2_i32_40 : BitVec 32 := 2#32
  let v52 : BitVec 32 := Scalar.muli v42 c2_i32_40
  let v53 : BitVec 32 := Scalar.addi c0_i32_41 v52
  let v36 : BitVec 32 := Dev.word d33
  let c1_i32 : BitVec 32 := 1#32
  let v37 : BitVec 32 := Scalar.divsi v36 c1_i32
  let c2_i32_25 : BitVec 32 := 2#32
  let v38 : BitVec 32 := Scalar.remsi v37 c2_i32_25
  let c1_i32_42 : BitVec 32 := 1#32
  let v54 : BitVec 32 := Scalar.muli v38 c1_i32_42
  let v55 : BitVec 32 := Scalar.addi v53 v54
  let v39 : BitVec 32 := Dev.word d33
  let c1_i32_27 : BitVec 32 := 1#32
  let v40 : BitVec 32 := Scalar.divsi v39 c1_i32_27
  let c1_i32_26 : BitVec 32 := 1#32
  let v41 : BitVec 32 := Scalar.remsi v40 c1_i32_26
  let c1_i32_43 : BitVec 32 := 1#32
  let v56 : BitVec 32 := Scalar.muli v41 c1_i32_43
  let v57 : BitVec 32 := Scalar.addi v55 v56
  v57.toNat
def k0_off2 (d33 : Dev nD) : Fin 3 → Nat :=
  let c2_i32_33 : BitVec 32 := 2#32
  let v33 : BitVec 32 := Dev.word d33
  let c2_i32_24 : BitVec 32 := 2#32
  let v34 : BitVec 32 := Scalar.divsi v33 c2_i32_24
  let c2_i32 : BitVec 32 := 2#32
  let v35 : BitVec 32 := Scalar.remsi v34 c2_i32
  let v48 : BitVec 32 := Scalar.muli c2_i32_33 v35
  let c1_i32_29 : BitVec 32 := 1#32
  let v36 : BitVec 32 := Dev.word d33
  let c1_i32 : BitVec 32 := 1#32
  let v37 : BitVec 32 := Scalar.divsi v36 c1_i32
  let c2_i32_25 : BitVec 32 := 2#32
  let v38 : BitVec 32 := Scalar.remsi v37 c2_i32_25
  let v43 : BitVec 32 := Scalar.subi c1_i32_29 v38
  let v49 : BitVec 32 := Scalar.addi v48 v43
  let c0_i32_59 : BitVec 32 := 0#32
  let c0_i32_60 : BitVec 32 := 0#32
  ![v49.toNat, 0, 0]
def k0_dev2 (d33 : Dev nD) : Nat :=
  let c0_i32_54 : BitVec 32 := 0#32
  let v33 : BitVec 32 := Dev.word d33
  let c2_i32_24 : BitVec 32 := 2#32
  let v34 : BitVec 32 := Scalar.divsi v33 c2_i32_24
  let c2_i32 : BitVec 32 := 2#32
  let v35 : BitVec 32 := Scalar.remsi v34 c2_i32
  let c2_i32_53 : BitVec 32 := 2#32
  let v66 : BitVec 32 := Scalar.muli v35 c2_i32_53
  let v67 : BitVec 32 := Scalar.addi c0_i32_54 v66
  let c1_i32_29 : BitVec 32 := 1#32
  let v36 : BitVec 32 := Dev.word d33
  let c1_i32 : BitVec 32 := 1#32
  let v37 : BitVec 32 := Scalar.divsi v36 c1_i32
  let c2_i32_25 : BitVec 32 := 2#32
  let v38 : BitVec 32 := Scalar.remsi v37 c2_i32_25
  let v43 : BitVec 32 := Scalar.subi c1_i32_29 v38
  let c1_i32_55 : BitVec 32 := 1#32
  let v68 : BitVec 32 := Scalar.muli v43 c1_i32_55
  let v69 : BitVec 32 := Scalar.addi v67 v68
  let v39 : BitVec 32 := Dev.word d33
  let c1_i32_27 : BitVec 32 := 1#32
  let v40 : BitVec 32 := Scalar.divsi v39 c1_i32_27
  let c1_i32_26 : BitVec 32 := 1#32
  let v41 : BitVec 32 := Scalar.remsi v40 c1_i32_26
  let c1_i32_56 : BitVec 32 := 1#32
  let v70 : BitVec 32 := Scalar.muli v41 c1_i32_56
  let v71 : BitVec 32 := Scalar.addi v69 v70
  v71.toNat
def k0_off3 (d33 : Dev nD) : Fin 3 → Nat :=
  let c2_i32_34 : BitVec 32 := 2#32
  let c1_i32_30 : BitVec 32 := 1#32
  let v33 : BitVec 32 := Dev.word d33
  let c2_i32_24 : BitVec 32 := 2#32
  let v34 : BitVec 32 := Scalar.divsi v33 c2_i32_24
  let c2_i32 : BitVec 32 := 2#32
  let v35 : BitVec 32 := Scalar.remsi v34 c2_i32
  let v44 : BitVec 32 := Scalar.subi c1_i32_30 v35
  let v50 : BitVec 32 := Scalar.muli c2_i32_34 v44
  let c1_i32_31 : BitVec 32 := 1#32
  let v36 : BitVec 32 := Dev.word d33
  let c1_i32 : BitVec 32 := 1#32
  let v37 : BitVec 32 := Scalar.divsi v36 c1_i32
  let c2_i32_25 : BitVec 32 := 2#32
  let v38 : BitVec 32 := Scalar.remsi v37 c2_i32_25
  let v45 : BitVec 32 := Scalar.subi c1_i32_31 v38
  let v51 : BitVec 32 := Scalar.addi v50 v45
  let c0_i32_72 : BitVec 32 := 0#32
  let c0_i32_73 : BitVec 32 := 0#32
  ![v51.toNat, 0, 0]
def k0_dev3 (d33 : Dev nD) : Nat :=
  let c0_i32_67 : BitVec 32 := 0#32
  let c1_i32_30 : BitVec 32 := 1#32
  let v33 : BitVec 32 := Dev.word d33
  let c2_i32_24 : BitVec 32 := 2#32
  let v34 : BitVec 32 := Scalar.divsi v33 c2_i32_24
  let c2_i32 : BitVec 32 := 2#32
  let v35 : BitVec 32 := Scalar.remsi v34 c2_i32
  let v44 : BitVec 32 := Scalar.subi c1_i32_30 v35
  let c2_i32_66 : BitVec 32 := 2#32
  let v80 : BitVec 32 := Scalar.muli v44 c2_i32_66
  let v81 : BitVec 32 := Scalar.addi c0_i32_67 v80
  let c1_i32_31 : BitVec 32 := 1#32
  let v36 : BitVec 32 := Dev.word d33
  let c1_i32 : BitVec 32 := 1#32
  let v37 : BitVec 32 := Scalar.divsi v36 c1_i32
  let c2_i32_25 : BitVec 32 := 2#32
  let v38 : BitVec 32 := Scalar.remsi v37 c2_i32_25
  let v45 : BitVec 32 := Scalar.subi c1_i32_31 v38
  let c1_i32_68 : BitVec 32 := 1#32
  let v82 : BitVec 32 := Scalar.muli v45 c1_i32_68
  let v83 : BitVec 32 := Scalar.addi v81 v82
  let v39 : BitVec 32 := Dev.word d33
  let c1_i32_27 : BitVec 32 := 1#32
  let v40 : BitVec 32 := Scalar.divsi v39 c1_i32_27
  let c1_i32_26 : BitVec 32 := 1#32
  let v41 : BitVec 32 := Scalar.remsi v40 c1_i32_26
  let c1_i32_69 : BitVec 32 := 1#32
  let v84 : BitVec 32 := Scalar.muli v41 c1_i32_69
  let v85 : BitVec 32 := Scalar.addi v83 v84
  v85.toNat
def k0_cond2 (i : grid0.Coords) : BitVec 1 :=
  let c0_i32 : BitVec 32 := 0#32
  let arg0 : BitVec 32 := BitVec.ofNat 32 (i 0).val
  let v0 : BitVec 32 := Scalar.addi c0_i32 arg0
  let c4_i32 : BitVec 32 := 4#32
  let v1 : BitVec 32 := Scalar.muli v0 c4_i32
  let arg1 : BitVec 32 := BitVec.ofNat 32 (i 1).val
  let v2 : BitVec 32 := Scalar.addi v1 arg1
  let c7_i32 : BitVec 32 := 7#32
  let v30 : BitVec 1 := Scalar.cmpi .eq v2 c7_i32
  let v31 : BitVec 32 := Scalar.extui v30
  let c0_i32_23 : BitVec 32 := 0#32
  let v32 : BitVec 1 := Scalar.cmpi .ne v31 c0_i32_23
  v32

def k0_off4 (d33 : Dev nD) : Fin 3 → Nat :=
  let c2_i32_32 : BitVec 32 := 2#32
  let c1_i32_28 : BitVec 32 := 1#32
  let v33 : BitVec 32 := Dev.word d33
  let c2_i32_24 : BitVec 32 := 2#32
  let v34 : BitVec 32 := Scalar.divsi v33 c2_i32_24
  let c2_i32 : BitVec 32 := 2#32
  let v35 : BitVec 32 := Scalar.remsi v34 c2_i32
  let v42 : BitVec 32 := Scalar.subi c1_i32_28 v35
  let v46 : BitVec 32 := Scalar.muli c2_i32_32 v42
  let v36 : BitVec 32 := Dev.word d33
  let c1_i32 : BitVec 32 := 1#32
  let v37 : BitVec 32 := Scalar.divsi v36 c1_i32
  let c2_i32_25 : BitVec 32 := 2#32
  let v38 : BitVec 32 := Scalar.remsi v37 c2_i32_25
  let v47 : BitVec 32 := Scalar.addi v46 v38
  let c0_i32_41 : BitVec 32 := 0#32
  let c0_i32_42 : BitVec 32 := 0#32
  ![v47.toNat, 0, 0]
def k0_off5 (d33 : Dev nD) : Fin 3 → Nat :=
  let c2_i32_33 : BitVec 32 := 2#32
  let v33 : BitVec 32 := Dev.word d33
  let c2_i32_24 : BitVec 32 := 2#32
  let v34 : BitVec 32 := Scalar.divsi v33 c2_i32_24
  let c2_i32 : BitVec 32 := 2#32
  let v35 : BitVec 32 := Scalar.remsi v34 c2_i32
  let v48 : BitVec 32 := Scalar.muli c2_i32_33 v35
  let c1_i32_29 : BitVec 32 := 1#32
  let v36 : BitVec 32 := Dev.word d33
  let c1_i32 : BitVec 32 := 1#32
  let v37 : BitVec 32 := Scalar.divsi v36 c1_i32
  let c2_i32_25 : BitVec 32 := 2#32
  let v38 : BitVec 32 := Scalar.remsi v37 c2_i32_25
  let v43 : BitVec 32 := Scalar.subi c1_i32_29 v38
  let v49 : BitVec 32 := Scalar.addi v48 v43
  let c0_i32_64 : BitVec 32 := 0#32
  let c0_i32_65 : BitVec 32 := 0#32
  ![v49.toNat, 0, 0]
def k0_off6 (d33 : Dev nD) : Fin 3 → Nat :=
  let c2_i32_34 : BitVec 32 := 2#32
  let c1_i32_30 : BitVec 32 := 1#32
  let v33 : BitVec 32 := Dev.word d33
  let c2_i32_24 : BitVec 32 := 2#32
  let v34 : BitVec 32 := Scalar.divsi v33 c2_i32_24
  let c2_i32 : BitVec 32 := 2#32
  let v35 : BitVec 32 := Scalar.remsi v34 c2_i32
  let v44 : BitVec 32 := Scalar.subi c1_i32_30 v35
  let v50 : BitVec 32 := Scalar.muli c2_i32_34 v44
  let c1_i32_31 : BitVec 32 := 1#32
  let v36 : BitVec 32 := Dev.word d33
  let c1_i32 : BitVec 32 := 1#32
  let v37 : BitVec 32 := Scalar.divsi v36 c1_i32
  let c2_i32_25 : BitVec 32 := 2#32
  let v38 : BitVec 32 := Scalar.remsi v37 c2_i32_25
  let v45 : BitVec 32 := Scalar.subi c1_i32_31 v38
  let v51 : BitVec 32 := Scalar.addi v50 v45
  let c0_i32_87 : BitVec 32 := 0#32
  let c0_i32_88 : BitVec 32 := 0#32
  ![v51.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwUpRefIdeal.lean ====
abbrev S32x1024x512 : Shape := ⟨3, ![32, 1024, 512]⟩
abbrev S16384x5632 : Shape := ⟨2, ![16384, 5632]⟩
abbrev S16x352x1024 : Shape := ⟨3, ![16, 352, 1024]⟩
abbrev S4x8x1024x512 : Shape := ⟨4, ![4, 8, 1024, 512]⟩
abbrev S4x8x512x1024 : Shape := ⟨4, ![4, 8, 512, 1024]⟩
abbrev S4x4096x1024 : Shape := ⟨3, ![4, 4096, 1024]⟩
abbrev S4x4096x5632 : Shape := ⟨3, ![4, 4096, 5632]⟩
abbrev S_ : Shape := ⟨0, ![]⟩
abbrev S4x1024x5632 : Shape := ⟨3, ![4, 1024, 5632]⟩
abbrev S4x5632x1024 : Shape := ⟨3, ![4, 5632, 1024]⟩
abbrev S4x1024x4x1408 : Shape := ⟨4, ![4, 1024, 4, 1408]⟩
abbrev S4x4x1024x1408 : Shape := ⟨4, ![4, 4, 1024, 1408]⟩
abbrev S16x1024x1408 : Shape := ⟨3, ![16, 1024, 1408]⟩
abbrev S4x4x352x1024 : Shape := ⟨4, ![4, 4, 352, 1024]⟩
abbrev S1x1x352x1024 : Shape := ⟨4, ![1, 1, 352, 1024]⟩
abbrev S352x1024 : Shape := ⟨2, ![352, 1024]⟩
abbrev S1x352x1024 : Shape := ⟨3, ![1, 352, 1024]⟩
abbrev S12x352x1024 : Shape := ⟨3, ![12, 352, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32x1024x512, .bf16⟩
  | .hbm, ⟨1, _⟩ => ⟨S16384x5632, .bf16⟩
  | .hbm, ⟨2, _⟩ => ⟨S16x352x1024, .bf16⟩
  | .hbm, ⟨3, _⟩ => ⟨S4x8x1024x512, .bf16⟩
  | .hbm, ⟨4, _⟩ => ⟨S4x8x512x1024, .bf16⟩
  | .hbm, ⟨5, _⟩ => ⟨S4x4096x1024, .bf16⟩
  | .hbm, ⟨6, _⟩ => ⟨S4x4096x1024, .f32⟩
  | .hbm, ⟨7, _⟩ => ⟨S4x4096x5632, .bf16⟩
  | .hbm, ⟨8, _⟩ => ⟨S4x4096x5632, .f32⟩
  | .hbm, ⟨9, _⟩ => ⟨S_, .f32⟩
  | .hbm, ⟨10, _⟩ => ⟨S4x1024x5632, .f32⟩
  | .hbm, ⟨11, _⟩ => ⟨S4x4096x5632, .f32⟩
  | .hbm, ⟨12, _⟩ => ⟨S4x5632x1024, .f32⟩
  | .hbm, ⟨13, _⟩ => ⟨S4x1024x5632, .f32⟩
  | .hbm, ⟨14, _⟩ => ⟨S4x1024x5632, .bf16⟩
  | .hbm, ⟨15, _⟩ => ⟨S4x1024x4x1408, .bf16⟩
  | .hbm, ⟨16, _⟩ => ⟨S4x4x1024x1408, .bf16⟩
  | .hbm, ⟨17, _⟩ => ⟨S16x1024x1408, .bf16⟩
  | .hbm, ⟨18, _⟩ => ⟨S4x4x352x1024, .bf16⟩
  | .hbm, ⟨19, _⟩ => ⟨S1x1x352x1024, .bf16⟩
  | .hbm, ⟨20, _⟩ => ⟨S352x1024, .bf16⟩
  | .hbm, ⟨21, _⟩ => ⟨S1x1x352x1024, .bf16⟩
  | .hbm, ⟨22, _⟩ => ⟨S352x1024, .bf16⟩
  | .hbm, ⟨23, _⟩ => ⟨S1x1x352x1024, .bf16⟩
  | .hbm, ⟨24, _⟩ => ⟨S352x1024, .bf16⟩
  | .hbm, ⟨25, _⟩ => ⟨S1x1x352x1024, .bf16⟩
  | .hbm, ⟨26, _⟩ => ⟨S352x1024, .bf16⟩
  | .hbm, ⟨27, _⟩ => ⟨S1x1x352x1024, .bf16⟩
  | .hbm, ⟨28, _⟩ => ⟨S352x1024, .bf16⟩
  | .hbm, ⟨29, _⟩ => ⟨S1x1x352x1024, .bf16⟩
  | .hbm, ⟨30, _⟩ => ⟨S352x1024, .bf16⟩
  | .hbm, ⟨31, _⟩ => ⟨S1x1x352x1024, .bf16⟩
  | .hbm, ⟨32, _⟩ => ⟨S352x1024, .bf16⟩
  | .hbm, ⟨33, _⟩ => ⟨S1x1x352x1024, .bf16⟩
  | .hbm, ⟨34, _⟩ => ⟨S352x1024, .bf16⟩
  | .hbm, ⟨35, _⟩ => ⟨S1x1x352x1024, .bf16⟩
  | .hbm, ⟨36, _⟩ => ⟨S352x1024, .bf16⟩
  | .hbm, ⟨37, _⟩ => ⟨S1x1x352x1024, .bf16⟩
  | .hbm, ⟨38, _⟩ => ⟨S352x1024, .bf16⟩
  | .hbm, ⟨39, _⟩ => ⟨S1x1x352x1024, .bf16⟩
  | .hbm, ⟨40, _⟩ => ⟨S352x1024, .bf16⟩
  | .hbm, ⟨41, _⟩ => ⟨S1x1x352x1024, .bf16⟩
  | .hbm, ⟨42, _⟩ => ⟨S352x1024, .bf16⟩
  | .hbm, ⟨43, _⟩ => ⟨S1x352x1024, .bf16⟩
  | .hbm, ⟨44, _⟩ => ⟨S1x352x1024, .bf16⟩
  | .hbm, ⟨45, _⟩ => ⟨S1x352x1024, .bf16⟩
  | .hbm, ⟨46, _⟩ => ⟨S1x352x1024, .bf16⟩
  | .hbm, ⟨47, _⟩ => ⟨S1x352x1024, .bf16⟩
  | .hbm, ⟨48, _⟩ => ⟨S1x352x1024, .bf16⟩
  | .hbm, ⟨49, _⟩ => ⟨S1x352x1024, .bf16⟩
  | .hbm, ⟨50, _⟩ => ⟨S1x352x1024, .bf16⟩
  | .hbm, ⟨51, _⟩ => ⟨S1x352x1024, .bf16⟩
  | .hbm, ⟨52, _⟩ => ⟨S1x352x1024, .bf16⟩
  | .hbm, ⟨53, _⟩ => ⟨S1x352x1024, .bf16⟩
  | .hbm, ⟨54, _⟩ => ⟨S1x352x1024, .bf16⟩
  | .hbm, ⟨55, _⟩ => ⟨S12x352x1024, .bf16⟩
  | _, _ => ⟨S32x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩

abbrev nD : Nat := 1
abbrev τ : Topo := Topo.v7x

variable {F : FTy → Type} [FloatOps F]
-- ==== BwUp.lean ====
abbrev S4096x2816 : Shape := ⟨2, ![4096, 2816]⟩
abbrev S4096x5632 : Shape := ⟨2, ![4096, 5632]⟩
abbrev S2x1024x2816 : Shape := ⟨3, ![2, 1024, 2816]⟩
abbrev S8x2816 : Shape := ⟨2, ![8, 2816]⟩
abbrev S4096x1024 : Shape := ⟨2, ![4096, 1024]⟩
abbrev S1x1024 : Shape := ⟨2, ![1, 1024]⟩
abbrev S4x2x352x1024 : Shape := ⟨4, ![4, 2, 352, 1024]⟩
abbrev S4x352x1024 : Shape := ⟨3, ![4, 352, 1024]⟩
abbrev S256x2816 : Shape := ⟨2, ![256, 2816]⟩
abbrev S256x1024 : Shape := ⟨2, ![256, 1024]⟩
abbrev S264x2816 : Shape := ⟨2, ![264, 2816]⟩
abbrev S1x4 : Shape := ⟨2, ![1, 4]⟩
abbrev S1x1 : Shape := ⟨2, ![1, 1]⟩
abbrev S_ : Shape := ⟨0, ![]⟩
abbrev S1x352x1024 : Shape := ⟨3, ![1, 352, 1024]⟩
abbrev S352x1024 : Shape := ⟨2, ![352, 1024]⟩
abbrev S1x1x352x1024 : Shape := ⟨4, ![1, 1, 352, 1024]⟩
abbrev S1x2816 : Shape := ⟨2, ![1, 2816]⟩
abbrev S1x1024x2816 : Shape := ⟨3, ![1, 1024, 2816]⟩
abbrev S1024x2816 : Shape := ⟨2, ![1024, 2816]⟩
abbrev S256 : Shape := ⟨1, ![256]⟩
abbrev S256x1 : Shape := ⟨2, ![256, 1]⟩
abbrev S1024 : Shape := ⟨1, ![1024]⟩

abbrev nBuf : Space → Nat
  | .hbm => 13
  | .vmem => 21
  | .smem => 0
  | _ => 0

abbrev bufTy : (tb : Table) → Fin (tcTables nBuf tb) → BufTy
  | .hbm, ⟨0, _⟩ => ⟨S4096x2816, .f32⟩
  | .hbm, ⟨1, _⟩ => ⟨S4096x5632, .bf16⟩
  | .hbm, ⟨2, _⟩ => ⟨S2x1024x2816, .bf16⟩
  | .hbm, ⟨3, _⟩ => ⟨S8x2816, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4x2x352x1024, .bf16⟩
  | .hbm, ⟨8, _⟩ => ⟨S4096x5632, .bf16⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S4x352x1024, .bf16⟩
  | .local _ .vmem, ⟨0, _⟩ => ⟨S256x2816, .f32⟩
  | .local _ .vmem, ⟨1, _⟩ => ⟨S256x2816, .f32⟩
  | .local _ .vmem, ⟨2, _⟩ => ⟨S8x2816, .f32⟩
  | .local _ .vmem, ⟨3, _⟩ => ⟨S8x2816, .f32⟩
  | .local _ .vmem, ⟨4, _⟩ => ⟨S256x2816, .bf16⟩
  | .local _ .vmem, ⟨5, _⟩ => ⟨S256x2816, .bf16⟩
  | .local _ .vmem, ⟨6, _⟩ => ⟨S2x1024x2816, .bf16⟩
  | .local _ .vmem, ⟨7, _⟩ => ⟨S8x2816, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x2816, .bf16⟩
  | .local _ .vmem, ⟨14, _⟩ => ⟨S256x2816, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | .local _ .vmem, ⟨20, _⟩ => ⟨S264x2816, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 2
abbrev τ : Topo := Topo.v7x

variable {F : FTy → Type} [FloatOps F]

abbrev grid0 : Pipeline.Grid := ⟨1, ![16], ![false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c0_i32_0 : BitVec 32 := 0#32
  let v1 : BitVec 1 := Scalar.cmpi .eq v0 c0_i32_0
  let v2 : BitVec 32 := Scalar.extui v1
  let c0_i32_1 : BitVec 32 := 0#32
  let v3 : BitVec 1 := Scalar.cmpi .ne v2 c0_i32_1
  v3

def k0_off1 (d104 : Dev nD) : Fin 4 → Nat :=
  let c0_i32_70 : BitVec 32 := 0#32
  let c1_i32_62 : BitVec 32 := 1#32
  let v110 : BitVec 32 := Dev.word d104
  let c1_i32_61 : BitVec 32 := 1#32
  let v111 : BitVec 32 := Scalar.divsi v110 c1_i32_61
  let c2_i32_60 : BitVec 32 := 2#32
  let v112 : BitVec 32 := Scalar.remsi v111 c2_i32_60
  let v113 : BitVec 32 := Scalar.subi c1_i32_62 v112
  let c0_i32_82 : BitVec 32 := 0#32
  let c0_i32_83 : BitVec 32 := 0#32
  ![0, v113.toNat, 0, 0]
def k0_dev1 (d104 : Dev nD) : Nat :=
  let c0_i32_77 : BitVec 32 := 0#32
  let v104 : BitVec 32 := Dev.word d104
  let c2_i32 : BitVec 32 := 2#32
  let v105 : BitVec 32 := Scalar.divsi v104 c2_i32
  let c1_i32_57 : BitVec 32 := 1#32
  let v106 : BitVec 32 := Scalar.remsi v105 c1_i32_57
  let c2_i32_76 : BitVec 32 := 2#32
  let v121 : BitVec 32 := Scalar.muli v106 c2_i32_76
  let v122 : BitVec 32 := Scalar.addi c0_i32_77 v121
  let v107 : BitVec 32 := Dev.word d104
  let c2_i32_59 : BitVec 32 := 2#32
  let v108 : BitVec 32 := Scalar.divsi v107 c2_i32_59
  let c1_i32_58 : BitVec 32 := 1#32
  let v109 : BitVec 32 := Scalar.remsi v108 c1_i32_58
  let c2_i32_78 : BitVec 32 := 2#32
  let v123 : BitVec 32 := Scalar.muli v109 c2_i32_78
  let v124 : BitVec 32 := Scalar.addi v122 v123
  let c1_i32_63 : BitVec 32 := 1#32
  let v110 : BitVec 32 := Dev.word d104
  let c1_i32_61 : BitVec 32 := 1#32
  let v111 : BitVec 32 := Scalar.divsi v110 c1_i32_61
  let c2_i32_60 : BitVec 32 := 2#32
  let v112 : BitVec 32 := Scalar.remsi v111 c2_i32_60
  let v114 : BitVec 32 := Scalar.subi c1_i32_63 v112
  let c1_i32_79 : BitVec 32 := 1#32
  let v125 : BitVec 32 := Scalar.muli v114 c1_i32_79
  let v126 : BitVec 32 := Scalar.addi v124 v125
  v126.toNat
def k0_off2 (d104 : Dev nD) : Fin 4 → Nat :=
  let c1_i32_84 : BitVec 32 := 1#32
  let c1_i32_64 : BitVec 32 := 1#32
  let v110 : BitVec 32 := Dev.word d104
  let c1_i32_61 : BitVec 32 := 1#32
  let v111 : BitVec 32 := Scalar.divsi v110 c1_i32_61
  let c2_i32_60 : BitVec 32 := 2#32
  let v112 : BitVec 32 := Scalar.remsi v111 c2_i32_60
  let v115 : BitVec 32 := Scalar.subi c1_i32_64 v112
  let c0_i32_96 : BitVec 32 := 0#32
  let c0_i32_97 : BitVec 32 := 0#32
  ![1, v115.toNat, 0, 0]
def k0_dev2 (d104 : Dev nD) : Nat :=
  let c0_i32_91 : BitVec 32 := 0#32
  let v104 : BitVec 32 := Dev.word d104
  let c2_i32 : BitVec 32 := 2#32
  let v105 : BitVec 32 := Scalar.divsi v104 c2_i32
  let c1_i32_57 : BitVec 32 := 1#32
  let v106 : BitVec 32 := Scalar.remsi v105 c1_i32_57
  let c2_i32_90 : BitVec 32 := 2#32
  let v135 : BitVec 32 := Scalar.muli v106 c2_i32_90
  let v136 : BitVec 32 := Scalar.addi c0_i32_91 v135
  let v107 : BitVec 32 := Dev.word d104
  let c2_i32_59 : BitVec 32 := 2#32
  let v108 : BitVec 32 := Scalar.divsi v107 c2_i32_59
  let c1_i32_58 : BitVec 32 := 1#32
  let v109 : BitVec 32 := Scalar.remsi v108 c1_i32_58
  let c2_i32_92 : BitVec 32 := 2#32
  let v137 : BitVec 32 := Scalar.muli v109 c2_i32_92
  let v138 : BitVec 32 := Scalar.addi v136 v137
  let c1_i32_65 : BitVec 32 := 1#32
  let v110 : BitVec 32 := Dev.word d104
  let c1_i32_61 : BitVec 32 := 1#32
  let v111 : BitVec 32 := Scalar.divsi v110 c1_i32_61
  let c2_i32_60 : BitVec 32 := 2#32
  let v112 : BitVec 32 := Scalar.remsi v111 c2_i32_60
  let v116 : BitVec 32 := Scalar.subi c1_i32_65 v112
  let c1_i32_93 : BitVec 32 := 1#32
  let v139 : BitVec 32 := Scalar.muli v116 c1_i32_93
  let v140 : BitVec 32 := Scalar.addi v138 v139
  v140.toNat
def k0_off3 (d104 : Dev nD) : Fin 4 → Nat :=
  let c2_i32_98 : BitVec 32 := 2#32
  let c1_i32_66 : BitVec 32 := 1#32
  let v110 : BitVec 32 := Dev.word d104
  let c1_i32_61 : BitVec 32 := 1#32
  let v111 : BitVec 32 := Scalar.divsi v110 c1_i32_61
  let c2_i32_60 : BitVec 32 := 2#32
  let v112 : BitVec 32 := Scalar.remsi v111 c2_i32_60
  let v117 : BitVec 32 := Scalar.subi c1_i32_66 v112
  let c0_i32_110 : BitVec 32 := 0#32
  let c0_i32_111 : BitVec 32 := 0#32
  ![2, v117.toNat, 0, 0]
def k0_dev3 (d104 : Dev nD) : Nat :=
  let c0_i32_105 : BitVec 32 := 0#32
  let v104 : BitVec 32 := Dev.word d104
  let c2_i32 : BitVec 32 := 2#32
  let v105 : BitVec 32 := Scalar.divsi v104 c2_i32
  let c1_i32_57 : BitVec 32 := 1#32
  let v106 : BitVec 32 := Scalar.remsi v105 c1_i32_57
  let c2_i32_104 : BitVec 32 := 2#32
  let v149 : BitVec 32 := Scalar.muli v106 c2_i32_104
  let v150 : BitVec 32 := Scalar.addi c0_i32_105 v149
  let v107 : BitVec 32 := Dev.word d104
  let c2_i32_59 : BitVec 32 := 2#32
  let v108 : BitVec 32 := Scalar.divsi v107 c2_i32_59
  let c1_i32_58 : BitVec 32 := 1#32
  let v109 : BitVec 32 := Scalar.remsi v108 c1_i32_58
  let c2_i32_106 : BitVec 32 := 2#32
  let v151 : BitVec 32 := Scalar.muli v109 c2_i32_106
  let v152 : BitVec 32 := Scalar.addi v150 v151
  let c1_i32_67 : BitVec 32 := 1#32
  let v110 : BitVec 32 := Dev.word d104
  let c1_i32_61 : BitVec 32 := 1#32
  let v111 : BitVec 32 := Scalar.divsi v110 c1_i32_61
  let c2_i32_60 : BitVec 32 := 2#32
  let v112 : BitVec 32 := Scalar.remsi v111 c2_i32_60
  let v118 : BitVec 32 := Scalar.subi c1_i32_67 v112
  let c1_i32_107 : BitVec 32 := 1#32
  let v153 : BitVec 32 := Scalar.muli v118 c1_i32_107
  let v154 : BitVec 32 := Scalar.addi v152 v153
  v154.toNat
def k0_off4 (d104 : Dev nD) : Fin 4 → Nat :=
  let c3_i32 : BitVec 32 := 3#32
  let c1_i32_68 : BitVec 32 := 1#32
  let v110 : BitVec 32 := Dev.word d104
  let c1_i32_61 : BitVec 32 := 1#32
  let v111 : BitVec 32 := Scalar.divsi v110 c1_i32_61
  let c2_i32_60 : BitVec 32 := 2#32
  let v112 : BitVec 32 := Scalar.remsi v111 c2_i32_60
  let v119 : BitVec 32 := Scalar.subi c1_i32_68 v112
  let c0_i32_123 : BitVec 32 := 0#32
  let c0_i32_124 : BitVec 32 := 0#32
  ![3, v119.toNat, 0, 0]
def k0_dev4 (d104 : Dev nD) : Nat :=
  let c0_i32_118 : BitVec 32 := 0#32
  let v104 : BitVec 32 := Dev.word d104
  let c2_i32 : BitVec 32 := 2#32
  let v105 : BitVec 32 := Scalar.divsi v104 c2_i32
  let c1_i32_57 : BitVec 32 := 1#32
  let v106 : BitVec 32 := Scalar.remsi v105 c1_i32_57
  let c2_i32_117 : BitVec 32 := 2#32
  let v163 : BitVec 32 := Scalar.muli v106 c2_i32_117
  let v164 : BitVec 32 := Scalar.addi c0_i32_118 v163
  let v107 : BitVec 32 := Dev.word d104
  let c2_i32_59 : BitVec 32 := 2#32
  let v108 : BitVec 32 := Scalar.divsi v107 c2_i32_59
  let c1_i32_58 : BitVec 32 := 1#32
  let v109 : BitVec 32 := Scalar.remsi v108 c1_i32_58
  let c2_i32_119 : BitVec 32 := 2#32
  let v165 : BitVec 32 := Scalar.muli v109 c2_i32_119
  let v166 : BitVec 32 := Scalar.addi v164 v165
  let c1_i32_69 : BitVec 32 := 1#32
  let v110 : BitVec 32 := Dev.word d104
  let c1_i32_61 : BitVec 32 := 1#32
  let v111 : BitVec 32 := Scalar.divsi v110 c1_i32_61
  let c2_i32_60 : BitVec 32 := 2#32
  let v112 : BitVec 32 := Scalar.remsi v111 c2_i32_60
  let v120 : BitVec 32 := Scalar.subi c1_i32_69 v112
  let c1_i32_120 : BitVec 32 := 1#32
  let v167 : BitVec 32 := Scalar.muli v120 c1_i32_120
  let v168 : BitVec 32 := Scalar.addi v166 v167
  v168.toNat
def k0_cond4 (i : grid0.Coords) : BitVec 1 :=
  let c0_i32 : BitVec 32 := 0#32
  let arg0 : BitVec 32 := BitVec.ofNat 32 (i 0).val
  let v0 : BitVec 32 := Scalar.addi c0_i32 arg0
  let c15_i32 : BitVec 32 := 15#32
  let v101 : BitVec 1 := Scalar.cmpi .eq v0 c15_i32
  let v102 : BitVec 32 := Scalar.extui v101
  let c0_i32_56 : BitVec 32 := 0#32
  let v103 : BitVec 1 := Scalar.cmpi .ne v102 c0_i32_56
  v103

def k0_off5 (d104 : Dev nD) : Fin 4 → Nat :=
  let c0_i32_71 : BitVec 32 := 0#32
  let c1_i32_62 : BitVec 32 := 1#32
  let v110 : BitVec 32 := Dev.word d104
  let c1_i32_61 : BitVec 32 := 1#32
  let v111 : BitVec 32 := Scalar.divsi v110 c1_i32_61
  let c2_i32_60 : BitVec 32 := 2#32
  let v112 : BitVec 32 := Scalar.remsi v111 c2_i32_60
  let v113 : BitVec 32 := Scalar.subi c1_i32_62 v112
  let c0_i32_77 : BitVec 32 := 0#32
  let c0_i32_78 : BitVec 32 := 0#32
  ![0, v113.toNat, 0, 0]
def k0_off6 (d104 : Dev nD) : Fin 4 → Nat :=
  let c1_i32_96 : BitVec 32 := 1#32
  let c1_i32_64 : BitVec 32 := 1#32
  let v110 : BitVec 32 := Dev.word d104
  let c1_i32_61 : BitVec 32 := 1#32
  let v111 : BitVec 32 := Scalar.divsi v110 c1_i32_61
  let c2_i32_60 : BitVec 32 := 2#32
  let v112 : BitVec 32 := Scalar.remsi v111 c2_i32_60
  let v115 : BitVec 32 := Scalar.subi c1_i32_64 v112
  let c0_i32_102 : BitVec 32 := 0#32
  let c0_i32_103 : BitVec 32 := 0#32
  ![1, v115.toNat, 0, 0]
def k0_off7 (d104 : Dev nD) : Fin 4 → Nat :=
  let c2_i32_121 : BitVec 32 := 2#32
  let c1_i32_66 : BitVec 32 := 1#32
  let v110 : BitVec 32 := Dev.word d104
  let c1_i32_61 : BitVec 32 := 1#32
  let v111 : BitVec 32 := Scalar.divsi v110 c1_i32_61
  let c2_i32_60 : BitVec 32 := 2#32
  let v112 : BitVec 32 := Scalar.remsi v111 c2_i32_60
  let v117 : BitVec 32 := Scalar.subi c1_i32_66 v112
  let c0_i32_127 : BitVec 32 := 0#32
  let c0_i32_128 : BitVec 32 := 0#32
  ![2, v117.toNat, 0, 0]
def k0_off8 (d104 : Dev nD) : Fin 4 → Nat :=
  let c3_i32_145 : BitVec 32 := 3#32
  let c1_i32_68 : BitVec 32 := 1#32
  let v110 : BitVec 32 := Dev.word d104
  let c1_i32_61 : BitVec 32 := 1#32
  let v111 : BitVec 32 := Scalar.divsi v110 c1_i32_61
  let c2_i32_60 : BitVec 32 := 2#32
  let v112 : BitVec 32 := Scalar.remsi v111 c2_i32_60
  let v119 : BitVec 32 := Scalar.subi c1_i32_68 v112
  let c0_i32_151 : BitVec 32 := 0#32
  let c0_i32_152 : BitVec 32 := 0#32
  ![3, v119.toNat, 0, 0]
def k0_cond2 (i : grid0.Coords) : BitVec 1 :=
  let arg0 : BitVec 32 := BitVec.ofNat 32 (i 0).val
  let c0_i32_53 : BitVec 32 := 0#32
  let v95 : BitVec 1 := Scalar.cmpi .eq arg0 c0_i32_53
  let v96 : BitVec 32 := Scalar.extui v95
  let c0_i32_54 : BitVec 32 := 0#32
  let v97 : BitVec 1 := Scalar.cmpi .ne v96 c0_i32_54
  v97

def k0_cond3 (i : grid0.Coords) : BitVec 1 :=
  let arg0 : BitVec 32 := BitVec.ofNat 32 (i 0).val
  let c0_i32_53 : BitVec 32 := 0#32
  let v95 : BitVec 1 := Scalar.cmpi .eq arg0 c0_i32_53
  let v_true : BitVec 1 := 1#1
  let v98 : BitVec 1 := Scalar.xori v95 v_true
  let v99 : BitVec 32 := Scalar.extui v98
  let c0_i32_55 : BitVec 32 := 0#32
  let v100 : BitVec 1 := Scalar.cmpi .ne v99 c0_i32_55
  v100

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== BwUpRefIdeal.lean ====
abbrev S8192x2816 : Shape := ⟨2, ![8192, 2816]⟩
abbrev S8192x5632 : Shape := ⟨2, ![8192, 5632]⟩
abbrev S2x1024x2816 : Shape := ⟨3, ![2, 1024, 2816]⟩
abbrev S8x2816 : Shape := ⟨2, ![8, 2816]⟩
abbrev S8192x1024 : Shape := ⟨2, ![8192, 1024]⟩
abbrev S1x1024 : Shape := ⟨2, ![1, 1024]⟩
abbrev S8x2x352x1024 : Shape := ⟨4, ![8, 2, 352, 1024]⟩
abbrev S1024x2x2816 : Shape := ⟨3, ![1024, 2, 2816]⟩
abbrev S1024x5632 : Shape := ⟨2, ![1024, 5632]⟩
abbrev S3x2816 : Shape := ⟨2, ![3, 2816]⟩
abbrev S2x2x2048x1024 : Shape := ⟨4, ![2, 2, 2048, 1024]⟩
abbrev S2x1024 : Shape := ⟨2, ![2, 1024]⟩
abbrev S4x2048x2816 : Shape := ⟨3, ![4, 2048, 2816]⟩
abbrev S2x1x1x1024 : Shape := ⟨4, ![2, 1, 1, 1024]⟩
abbrev S_ : Shape := ⟨0, ![]⟩
abbrev S2x2x2048 : Shape := ⟨3, ![2, 2, 2048]⟩
abbrev S2x2x2048x1 : Shape := ⟨4, ![2, 2, 2048, 1]⟩
abbrev S4x2048x1024 : Shape := ⟨3, ![4, 2048, 1024]⟩
abbrev S4x2048x5632 : Shape := ⟨3, ![4, 2048, 5632]⟩
abbrev S4x2x2816 : Shape := ⟨3, ![4, 2, 2816]⟩
abbrev S4x2050x2816 : Shape := ⟨3, ![4, 2050, 2816]⟩
abbrev S1x2816 : Shape := ⟨2, ![1, 2816]⟩
abbrev S2816 : Shape := ⟨1, ![2816]⟩
abbrev S1x1x2816 : Shape := ⟨3, ![1, 1, 2816]⟩
abbrev S2x4x2x352x1024 : Shape := ⟨5, ![2, 4, 2, 352, 1024]⟩
abbrev S1x4x1x352x1024 : Shape := ⟨5, ![1, 4, 1, 352, 1024]⟩
abbrev S4x352x1024 : Shape := ⟨3, ![4, 352, 1024]⟩
abbrev S8x352x1024 : Shape := ⟨3, ![8, 352, 1024]⟩

abbrev nBuf : Space → Nat
  | .hbm => 129
  | .vmem => 0
  | .smem => 0
  | _ => 0

abbrev hbmTy0_0 (i : Nat) : BufTy := match i % 128 with
  | 0 => ⟨S8192x2816, .f32⟩
  | 1 => ⟨S8192x5632, .bf16⟩
  | 2 => ⟨S2x1024x2816, .bf16⟩
  | 3 => ⟨S8x2816, .f32⟩
  | 4 => ⟨S8192x1024, .f32⟩
  | 5 => ⟨S1x1024, .f32⟩
  | 6 => ⟨S8192x1024, .f32⟩
  | 7 => ⟨S8x2x352x1024, .bf16⟩
  | 8 => ⟨S2x1024x2816, .f32⟩
  | 9 => ⟨S1024x2x2816, .f32⟩
  | 10 => ⟨S1024x5632, .f32⟩
  | 11 => ⟨S3x2816, .f32⟩
  | 12 => ⟨S2x2x2048x1024, .f32⟩
  | 13 => ⟨S2x1024, .f32⟩
  | 14 => ⟨S4x2048x2816, .f32⟩
  | 15 => ⟨S8192x2816, .bf16⟩
  | 16 => ⟨S8192x2816, .f32⟩
  | 17 => ⟨S4x2048x2816, .f32⟩
  | 18 => ⟨S2x1x1x1024, .f32⟩
  | 19 => ⟨S2x2x2048x1024, .f32⟩
  | 20 => ⟨S_, .f32⟩
  | 21 => ⟨S2x2x2048, .f32⟩
  | 22 => ⟨S2x2x2048x1, .f32⟩
  | 23 => ⟨S_, .f32⟩
  | 24 => ⟨S2x2x2048x1, .f32⟩
  | 25 => ⟨S2x2x2048x1, .f32⟩
  | 26 => ⟨S_, .f32⟩
  | 27 => ⟨S2x2x2048x1, .f32⟩
  | 28 => ⟨S2x2x2048x1, .f32⟩
  | 29 => ⟨S2x2x2048x1, .f32⟩
  | 30 => ⟨S2x2x2048x1, .f32⟩
  | 31 => ⟨S_, .f32⟩
  | 32 => ⟨S2x2x2048x1, .f32⟩
  | 33 => ⟨S2x2x2048x1, .f32⟩
  | 34 => ⟨S2x2x2048x1024, .f32⟩
  | 35 => ⟨S2x2x2048x1024, .f32⟩
  | 36 => ⟨S2x2x2048x1024, .f32⟩
  | 37 => ⟨S2x2x2048x1024, .f32⟩
  | 38 => ⟨S4x2048x1024, .f32⟩
  | 39 => ⟨S4x2048x5632, .f32⟩
  | 40 => ⟨S4x2048x2816, .f32⟩
  | 41 => ⟨S4x2048x2816, .f32⟩
  | 42 => ⟨S_, .f32⟩
  | 43 => ⟨S4x2x2816, .f32⟩
  | 44 => ⟨S4x2050x2816, .f32⟩
  | 45 => ⟨S_, .f32⟩
  | 46 => ⟨S4x2x2816, .f32⟩
  | 47 => ⟨S4x2048x2816, .f32⟩
  | 48 => ⟨S1x2816, .f32⟩
  | 49 => ⟨S2816, .f32⟩
  | 50 => ⟨S1x1x2816, .f32⟩
  | 51 => ⟨S4x2048x2816, .f32⟩
  | 52 => ⟨S4x2048x2816, .f32⟩
  | 53 => ⟨S_, .f32⟩
  | 54 => ⟨S4x2048x2816, .f32⟩
  | 55 => ⟨S4x2048x2816, .f32⟩
  | 56 => ⟨S4x2048x2816, .f32⟩
  | 57 => ⟨S1x2816, .f32⟩
  | 58 => ⟨S2816, .f32⟩
  | 59 => ⟨S1x1x2816, .f32⟩
  | 60 => ⟨S4x2048x2816, .f32⟩
  | 61 => ⟨S4x2048x2816, .f32⟩
  | 62 => ⟨S4x2048x2816, .f32⟩
  | 63 => ⟨S4x2048x2816, .f32⟩
  | 64 => ⟨S1x2816, .f32⟩
  | 65 => ⟨S2816, .f32⟩
  | 66 => ⟨S1x1x2816, .f32⟩
  | 67 => ⟨S4x2048x2816, .f32⟩
  | 68 => ⟨S4x2048x2816, .f32⟩
  | 69 => ⟨S4x2048x2816, .f32⟩
  | 70 => ⟨S4x2048x2816, .f32⟩
  | 71 => ⟨S4x2048x2816, .f32⟩
  | 72 => ⟨S_, .f32⟩
  | 73 => ⟨S4x2050x2816, .f32⟩
  | 74 => ⟨S4x2048x2816, .f32⟩
  | 75 => ⟨S4x2048x2816, .f32⟩
  | 76 => ⟨S_, .f32⟩
  | 77 => ⟨S4x2050x2816, .f32⟩
  | 78 => ⟨S4x2050x2816, .f32⟩
  | 79 => ⟨S4x2048x2816, .f32⟩
  | 80 => ⟨S4x2048x2816, .f32⟩
  | 81 => ⟨S_, .f32⟩
  | 82 => ⟨S4x2050x2816, .f32⟩
  | 83 => ⟨S4x2050x2816, .f32⟩
  | 84 => ⟨S4x2x2816, .f32⟩
  | 85 => ⟨S4x2048x2816, .f32⟩
  | 86 => ⟨S_, .f32⟩
  | 87 => ⟨S4x2048x5632, .f32⟩
  | 88 => ⟨S_, .f32⟩
  | 89 => ⟨S4x2048x5632, .f32⟩
  | 90 => ⟨S4x2048x5632, .f32⟩
  | 91 => ⟨S4x2048x1024, .f32⟩
  | 92 => ⟨S2x2x2048x1024, .f32⟩
  | 93 => ⟨S2x2x2048x1024, .f32⟩
  | 94 => ⟨S_, .f32⟩
  | 95 => ⟨S2x1024, .f32⟩
  | 96 => ⟨S2x1x1x1024, .f32⟩
  | 97 => ⟨S2x2x2048x1024, .f32⟩
  | 98 => ⟨S2x2x2048x1024, .f32⟩
  | 99 => ⟨S2x2x2048x1024, .f32⟩
  | 100 => ⟨S_, .f32⟩
  | 101 => ⟨S2x2x2048, .f32⟩
  | 102 => ⟨S2x2x2048x1, .f32⟩
  | 103 => ⟨S2x2x2048x1024, .f32⟩
  | 104 => ⟨S2x2x2048x1024, .f32⟩
  | 105 => ⟨S2x2x2048x1, .f32⟩
  | 106 => ⟨S_, .f32⟩
  | 107 => ⟨S2x2x2048x1, .f32⟩
  | 108 => ⟨S2x2x2048x1, .f32⟩
  | 109 => ⟨S_, .f32⟩
  | 110 => ⟨S2x2x2048, .f32⟩
  | 111 => ⟨S2x2x2048x1024, .f32⟩
  | 112 => ⟨S2x2x2048x1024, .f32⟩
  | 113 => ⟨S2x2x2048x1024, .f32⟩
  | 114 => ⟨S2x2x2048x1024, .f32⟩
  | 115 => ⟨S2x2x2048x1024, .f32⟩
  | 116 => ⟨S_, .f32⟩
  | 117 => ⟨S2x1024, .f32⟩
  | 118 => ⟨S8192x1024, .f32⟩
  | 119 => ⟨S8192x1024, .f32⟩
  | 120 => ⟨S2x4x2x352x1024, .bf16⟩
  | 121 => ⟨S1x4x1x352x1024, .bf16⟩
  | 122 => ⟨S4x352x1024, .bf16⟩
  | 123 => ⟨S1x4x1x352x1024, .bf16⟩
  | 124 => ⟨S4x352x1024, .bf16⟩
  | 125 => ⟨S8x352x1024, .bf16⟩
  | 126 => ⟨S8192x5632, .f32⟩
  | 127 => ⟨S8192x5632, .bf16⟩
  | _ => ⟨S8192x2816, .f32⟩

abbrev hbmTy0_1 (i : Nat) : BufTy := match i % 128 with
  | 0 => ⟨S8192x1024, .bf16⟩
  | _ => ⟨S8192x2816, .f32⟩

abbrev hbmTy (i : Nat) : BufTy := match i / 128 with
  | 0 => hbmTy0_0 i
  | 1 => hbmTy0_1 i
  | _ => ⟨S8192x2816, .f32⟩

abbrev bufTy : (tb : Table) → Fin (tcTables nBuf tb) → BufTy
  | .hbm, ⟨i, _⟩ => hbmTy i
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_8 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_9 : Ref sig .tc := ⟨.hbm, 86, rfl⟩
abbrev main_v68 : Ref sig .tc := ⟨.hbm, 87, rfl⟩
abbrev main_cst_10 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_11 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_12 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_13 : Ref sig .tc := ⟨.hbm, 106, rfl⟩
abbrev main_v84 : Ref sig .tc := ⟨.hbm, 107, rfl⟩
abbrev main_v85 : Ref sig .tc := ⟨.hbm, 108, rfl⟩
abbrev main_cst_14 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_15 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩

abbrev nD : Nat := 1
abbrev τ : Topo := Topo.v7x

variable {F : FTy → Type} [FloatOps F]
-- ==== DwIn.lean ====
abbrev S8x1024x512 : Shape := ⟨3, ![8, 1024, 512]⟩
abbrev S4096x2048 : Shape := ⟨2, ![4096, 2048]⟩
abbrev S4x128x1024 : Shape := ⟨3, ![4, 128, 1024]⟩
abbrev S4x1024x512 : Shape := ⟨3, ![4, 1024, 512]⟩
abbrev S3x128x1024 : Shape := ⟨3, ![3, 128, 1024]⟩
abbrev S4096x512 : Shape := ⟨2, ![4096, 512]⟩
abbrev S1x1024x512 : Shape := ⟨3, ![1, 1024, 512]⟩
abbrev S1x3 : Shape := ⟨2, ![1, 3]⟩
abbrev S1x1 : Shape := ⟨2, ![1, 1]⟩
abbrev S_ : Shape := ⟨0, ![]⟩
abbrev S1x128x1024 : Shape := ⟨3, ![1, 128, 1024]⟩
abbrev S128x1024 : Shape := ⟨2, ![128, 1024]⟩
abbrev S1024x512 : Shape := ⟨2, ![1024, 512]⟩
abbrev S1024x4096 : Shape := ⟨2, ![1024, 4096]⟩

abbrev nBuf : Space → Nat
  | .hbm => 5
  | .vmem => 5
  | .smem => 0
  | _ => 0

abbrev bufTy : (tb : Table) → Fin (tcTables nBuf tb) → BufTy
  | .hbm, ⟨0, _⟩ => ⟨S8x1024x512, .bf16⟩
  | .hbm, ⟨1, _⟩ => ⟨S4096x2048, .bf16⟩
  | .hbm, ⟨2, _⟩ => ⟨S4x128x1024, .bf16⟩
  | .hbm, ⟨3, _⟩ => ⟨S4x1024x512, .bf16⟩
  | .hbm, ⟨4, _⟩ => ⟨S3x128x1024, .bf16⟩
  | .local _ .vmem, ⟨0, _⟩ => ⟨S8x1024x512, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 4
abbrev τ : Topo := Topo.v7x

variable {F : FTy → Type} [FloatOps F]

abbrev grid0 : Pipeline.Grid := ⟨2, ![1, 4], ![false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c4_i32 : BitVec 32 := 4#32
  let v1 : BitVec 32 := Scalar.muli v0 c4_i32
  let arg1 : BitVec 32 := BitVec.ofNat 32 (i 1).val
  let v2 : BitVec 32 := Scalar.addi v1 arg1
  let c0_i32_0 : BitVec 32 := 0#32
  let v3 : BitVec 1 := Scalar.cmpi .eq v2 c0_i32_0
  let v4 : BitVec 32 := Scalar.extui v3
  let c0_i32_1 : BitVec 32 := 0#32
  let v5 : BitVec 1 := Scalar.cmpi .ne v4 c0_i32_1
  v5

def k0_off1 (d33 : Dev nD) : Fin 3 → Nat :=
  let c2_i32_32 : BitVec 32 := 2#32
  let c1_i32_28 : BitVec 32 := 1#32
  let v33 : BitVec 32 := Dev.word d33
  let c2_i32_24 : BitVec 32 := 2#32
  let v34 : BitVec 32 := Scalar.divsi v33 c2_i32_24
  let c2_i32 : BitVec 32 := 2#32
  let v35 : BitVec 32 := Scalar.remsi v34 c2_i32
  let v42 : BitVec 32 := Scalar.subi c1_i32_28 v35
  let v46 : BitVec 32 := Scalar.muli c2_i32_32 v42
  let v36 : BitVec 32 := Dev.word d33
  let c1_i32 : BitVec 32 := 1#32
  let v37 : BitVec 32 := Scalar.divsi v36 c1_i32
  let c2_i32_25 : BitVec 32 := 2#32
  let v38 : BitVec 32 := Scalar.remsi v37 c2_i32_25
  let v47 : BitVec 32 := Scalar.addi v46 v38
  let c0_i32_46 : BitVec 32 := 0#32
  let c0_i32_47 : BitVec 32 := 0#32
  ![v47.toNat, 0, 0]
def k0_dev1 (d33 : Dev nD) : Nat :=
  let c0_i32_41 : BitVec 32 := 0#32
  let c1_i32_28 : BitVec 32 := 1#32
  let v33 : BitVec 32 := Dev.word d33
  let c2_i32_24 : BitVec 32 := 2#32
  let v34 : BitVec 32 := Scalar.divsi v33 c2_i32_24
  let c2_i32 : BitVec 32 := 2#32
  let v35 : BitVec 32 := Scalar.remsi v34 c2_i32
  let v42 : BitVec 32 := Scalar.subi c1_i32_28 v35
  let c2_i32_40 : BitVec 32 := 2#32
  let v52 : BitVec 32 := Scalar.muli v42 c2_i32_40
  let v53 : BitVec 32 := Scalar.addi c0_i32_41 v52
  let v36 : BitVec 32 := Dev.word d33
  let c1_i32 : BitVec 32 := 1#32
  let v37 : BitVec 32 := Scalar.divsi v36 c1_i32
  let c2_i32_25 : BitVec 32 := 2#32
  let v38 : BitVec 32 := Scalar.remsi v37 c2_i32_25
  let c1_i32_42 : BitVec 32 := 1#32
  let v54 : BitVec 32 := Scalar.muli v38 c1_i32_42
  let v55 : BitVec 32 := Scalar.addi v53 v54
  let v39 : BitVec 32 := Dev.word d33
  let c1_i32_27 : BitVec 32 := 1#32
  let v40 : BitVec 32 := Scalar.divsi v39 c1_i32_27
  let c1_i32_26 : BitVec 32 := 1#32
  let v41 : BitVec 32 := Scalar.remsi v40 c1_i32_26
  let c1_i32_43 : BitVec 32 := 1#32
  let v56 : BitVec 32 := Scalar.muli v41 c1_i32_43
  let v57 : BitVec 32 := Scalar.addi v55 v56
  v57.toNat
def k0_off2 (d33 : Dev nD) : Fin 3 → Nat :=
  let c2_i32_33 : BitVec 32 := 2#32
  let v33 : BitVec 32 := Dev.word d33
  let c2_i32_24 : BitVec 32 := 2#32
  let v34 : BitVec 32 := Scalar.divsi v33 c2_i32_24
  let c2_i32 : BitVec 32 := 2#32
  let v35 : BitVec 32 := Scalar.remsi v34 c2_i32
  let v48 : BitVec 32 := Scalar.muli c2_i32_33 v35
  let c1_i32_29 : BitVec 32 := 1#32
  let v36 : BitVec 32 := Dev.word d33
  let c1_i32 : BitVec 32 := 1#32
  let v37 : BitVec 32 := Scalar.divsi v36 c1_i32
  let c2_i32_25 : BitVec 32 := 2#32
  let v38 : BitVec 32 := Scalar.remsi v37 c2_i32_25
  let v43 : BitVec 32 := Scalar.subi c1_i32_29 v38
  let v49 : BitVec 32 := Scalar.addi v48 v43
  let c0_i32_59 : BitVec 32 := 0#32
  let c0_i32_60 : BitVec 32 := 0#32
  ![v49.toNat, 0, 0]
def k0_dev2 (d33 : Dev nD) : Nat :=
  let c0_i32_54 : BitVec 32 := 0#32
  let v33 : BitVec 32 := Dev.word d33
  let c2_i32_24 : BitVec 32 := 2#32
  let v34 : BitVec 32 := Scalar.divsi v33 c2_i32_24
  let c2_i32 : BitVec 32 := 2#32
  let v35 : BitVec 32 := Scalar.remsi v34 c2_i32
  let c2_i32_53 : BitVec 32 := 2#32
  let v66 : BitVec 32 := Scalar.muli v35 c2_i32_53
  let v67 : BitVec 32 := Scalar.addi c0_i32_54 v66
  let c1_i32_29 : BitVec 32 := 1#32
  let v36 : BitVec 32 := Dev.word d33
  let c1_i32 : BitVec 32 := 1#32
  let v37 : BitVec 32 := Scalar.divsi v36 c1_i32
  let c2_i32_25 : BitVec 32 := 2#32
  let v38 : BitVec 32 := Scalar.remsi v37 c2_i32_25
  let v43 : BitVec 32 := Scalar.subi c1_i32_29 v38
  let c1_i32_55 : BitVec 32 := 1#32
  let v68 : BitVec 32 := Scalar.muli v43 c1_i32_55
  let v69 : BitVec 32 := Scalar.addi v67 v68
  let v39 : BitVec 32 := Dev.word d33
  let c1_i32_27 : BitVec 32 := 1#32
  let v40 : BitVec 32 := Scalar.divsi v39 c1_i32_27
  let c1_i32_26 : BitVec 32 := 1#32
  let v41 : BitVec 32 := Scalar.remsi v40 c1_i32_26
  let c1_i32_56 : BitVec 32 := 1#32
  let v70 : BitVec 32 := Scalar.muli v41 c1_i32_56
  let v71 : BitVec 32 := Scalar.addi v69 v70
  v71.toNat
def k0_off3 (d33 : Dev nD) : Fin 3 → Nat :=
  let c2_i32_34 : BitVec 32 := 2#32
  let c1_i32_30 : BitVec 32 := 1#32
  let v33 : BitVec 32 := Dev.word d33
  let c2_i32_24 : BitVec 32 := 2#32
  let v34 : BitVec 32 := Scalar.divsi v33 c2_i32_24
  let c2_i32 : BitVec 32 := 2#32
  let v35 : BitVec 32 := Scalar.remsi v34 c2_i32
  let v44 : BitVec 32 := Scalar.subi c1_i32_30 v35
  let v50 : BitVec 32 := Scalar.muli c2_i32_34 v44
  let c1_i32_31 : BitVec 32 := 1#32
  let v36 : BitVec 32 := Dev.word d33
  let c1_i32 : BitVec 32 := 1#32
  let v37 : BitVec 32 := Scalar.divsi v36 c1_i32
  let c2_i32_25 : BitVec 32 := 2#32
  let v38 : BitVec 32 := Scalar.remsi v37 c2_i32_25
  let v45 : BitVec 32 := Scalar.subi c1_i32_31 v38
  let v51 : BitVec 32 := Scalar.addi v50 v45
  let c0_i32_72 : BitVec 32 := 0#32
  let c0_i32_73 : BitVec 32 := 0#32
  ![v51.toNat, 0, 0]
def k0_dev3 (d33 : Dev nD) : Nat :=
  let c0_i32_67 : BitVec 32 := 0#32
  let c1_i32_30 : BitVec 32 := 1#32
  let v33 : BitVec 32 := Dev.word d33
  let c2_i32_24 : BitVec 32 := 2#32
  let v34 : BitVec 32 := Scalar.divsi v33 c2_i32_24
  let c2_i32 : BitVec 32 := 2#32
  let v35 : BitVec 32 := Scalar.remsi v34 c2_i32
  let v44 : BitVec 32 := Scalar.subi c1_i32_30 v35
  let c2_i32_66 : BitVec 32 := 2#32
  let v80 : BitVec 32 := Scalar.muli v44 c2_i32_66
  let v81 : BitVec 32 := Scalar.addi c0_i32_67 v80
  let c1_i32_31 : BitVec 32 := 1#32
  let v36 : BitVec 32 := Dev.word d33
  let c1_i32 : BitVec 32 := 1#32
  let v37 : BitVec 32 := Scalar.divsi v36 c1_i32
  let c2_i32_25 : BitVec 32 := 2#32
  let v38 : BitVec 32 := Scalar.remsi v37 c2_i32_25
  let v45 : BitVec 32 := Scalar.subi c1_i32_31 v38
  let c1_i32_68 : BitVec 32 := 1#32
  let v82 : BitVec 32 := Scalar.muli v45 c1_i32_68
  let v83 : BitVec 32 := Scalar.addi v81 v82
  let v39 : BitVec 32 := Dev.word d33
  let c1_i32_27 : BitVec 32 := 1#32
  let v40 : BitVec 32 := Scalar.divsi v39 c1_i32_27
  let c1_i32_26 : BitVec 32 := 1#32
  let v41 : BitVec 32 := Scalar.remsi v40 c1_i32_26
  let c1_i32_69 : BitVec 32 := 1#32
  let v84 : BitVec 32 := Scalar.muli v41 c1_i32_69
  let v85 : BitVec 32 := Scalar.addi v83 v84
  v85.toNat
def k0_cond2 (i : grid0.Coords) : BitVec 1 :=
  let c0_i32 : BitVec 32 := 0#32
  let arg0 : BitVec 32 := BitVec.ofNat 32 (i 0).val
  let v0 : BitVec 32 := Scalar.addi c0_i32 arg0
  let c4_i32 : BitVec 32 := 4#32
  let v1 : BitVec 32 := Scalar.muli v0 c4_i32
  let arg1 : BitVec 32 := BitVec.ofNat 32 (i 1).val
  let v2 : BitVec 32 := Scalar.addi v1 arg1
  let c3_i32 : BitVec 32 := 3#32
  let v30 : BitVec 1 := Scalar.cmpi .eq v2 c3_i32
  let v31 : BitVec 32 := Scalar.extui v30
  let c0_i32_23 : BitVec 32 := 0#32
  let v32 : BitVec 1 := Scalar.cmpi .ne v31 c0_i32_23
  v32

def k0_off4 (d33 : Dev nD) : Fin 3 → Nat :=
  let c2_i32_32 : BitVec 32 := 2#32
  let c1_i32_28 : BitVec 32 := 1#32
  let v33 : BitVec 32 := Dev.word d33
  let c2_i32_24 : BitVec 32 := 2#32
  let v34 : BitVec 32 := Scalar.divsi v33 c2_i32_24
  let c2_i32 : BitVec 32 := 2#32
  let v35 : BitVec 32 := Scalar.remsi v34 c2_i32
  let v42 : BitVec 32 := Scalar.subi c1_i32_28 v35
  let v46 : BitVec 32 := Scalar.muli c2_i32_32 v42
  let v36 : BitVec 32 := Dev.word d33
  let c1_i32 : BitVec 32 := 1#32
  let v37 : BitVec 32 := Scalar.divsi v36 c1_i32
  let c2_i32_25 : BitVec 32 := 2#32
  let v38 : BitVec 32 := Scalar.remsi v37 c2_i32_25
  let v47 : BitVec 32 := Scalar.addi v46 v38
  let c0_i32_41 : BitVec 32 := 0#32
  let c0_i32_42 : BitVec 32 := 0#32
  ![v47.toNat, 0, 0]
def k0_off5 (d33 : Dev nD) : Fin 3 → Nat :=
  let c2_i32_33 : BitVec 32 := 2#32
  let v33 : BitVec 32 := Dev.word d33
  let c2_i32_24 : BitVec 32 := 2#32
  let v34 : BitVec 32 := Scalar.divsi v33 c2_i32_24
  let c2_i32 : BitVec 32 := 2#32
  let v35 : BitVec 32 := Scalar.remsi v34 c2_i32
  let v48 : BitVec 32 := Scalar.muli c2_i32_33 v35
  let c1_i32_29 : BitVec 32 := 1#32
  let v36 : BitVec 32 := Dev.word d33
  let c1_i32 : BitVec 32 := 1#32
  let v37 : BitVec 32 := Scalar.divsi v36 c1_i32
  let c2_i32_25 : BitVec 32 := 2#32
  let v38 : BitVec 32 := Scalar.remsi v37 c2_i32_25
  let v43 : BitVec 32 := Scalar.subi c1_i32_29 v38
  let v49 : BitVec 32 := Scalar.addi v48 v43
  let c0_i32_64 : BitVec 32 := 0#32
  let c0_i32_65 : BitVec 32 := 0#32
  ![v49.toNat, 0, 0]
def k0_off6 (d33 : Dev nD) : Fin 3 → Nat :=
  let c2_i32_34 : BitVec 32 := 2#32
  let c1_i32_30 : BitVec 32 := 1#32
  let v33 : BitVec 32 := Dev.word d33
  let c2_i32_24 : BitVec 32 := 2#32
  let v34 : BitVec 32 := Scalar.divsi v33 c2_i32_24
  let c2_i32 : BitVec 32 := 2#32
  let v35 : BitVec 32 := Scalar.remsi v34 c2_i32
  let v44 : BitVec 32 := Scalar.subi c1_i32_30 v35
  let v50 : BitVec 32 := Scalar.muli c2_i32_34 v44
  let c1_i32_31 : BitVec 32 := 1#32
  let v36 : BitVec 32 := Dev.word d33
  let c1_i32 : BitVec 32 := 1#32
  let v37 : BitVec 32 := Scalar.divsi v36 c1_i32
  let c2_i32_25 : BitVec 32 := 2#32
  let v38 : BitVec 32 := Scalar.remsi v37 c2_i32_25
  let v45 : BitVec 32 := Scalar.subi c1_i32_31 v38
  let v51 : BitVec 32 := Scalar.addi v50 v45
  let c0_i32_87 : BitVec 32 := 0#32
  let c0_i32_88 : BitVec 32 := 0#32
  ![v51.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S8x1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwInRefIdeal.lean ====
abbrev S32x1024x512 : Shape := ⟨3, ![32, 1024, 512]⟩
abbrev S16384x2048 : Shape := ⟨2, ![16384, 2048]⟩
abbrev S16x128x1024 : Shape := ⟨3, ![16, 128, 1024]⟩
abbrev S4x8x1024x512 : Shape := ⟨4, ![4, 8, 1024, 512]⟩
abbrev S4x8x512x1024 : Shape := ⟨4, ![4, 8, 512, 1024]⟩
abbrev S4x4096x1024 : Shape := ⟨3, ![4, 4096, 1024]⟩
abbrev S4x4096x2048 : Shape := ⟨3, ![4, 4096, 2048]⟩
abbrev S_ : Shape := ⟨0, ![]⟩
abbrev S4x1024x2048 : Shape := ⟨3, ![4, 1024, 2048]⟩
abbrev S4x2048x1024 : Shape := ⟨3, ![4, 2048, 1024]⟩
abbrev S4x1024x4x512 : Shape := ⟨4, ![4, 1024, 4, 512]⟩
abbrev S4x4x1024x512 : Shape := ⟨4, ![4, 4, 1024, 512]⟩
abbrev S16x1024x512 : Shape := ⟨3, ![16, 1024, 512]⟩
abbrev S4x4x128x1024 : Shape := ⟨4, ![4, 4, 128, 1024]⟩
abbrev S1x1x128x1024 : Shape := ⟨4, ![1, 1, 128, 1024]⟩
abbrev S128x1024 : Shape := ⟨2, ![128, 1024]⟩
abbrev S1x128x1024 : Shape := ⟨3, ![1, 128, 1024]⟩
abbrev S12x128x1024 : Shape := ⟨3, ![12, 128, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32x1024x512, .bf16⟩
  | .hbm, ⟨1, _⟩ => ⟨S16384x2048, .bf16⟩
  | .hbm, ⟨2, _⟩ => ⟨S16x128x1024, .bf16⟩
  | .hbm, ⟨3, _⟩ => ⟨S4x8x1024x512, .bf16⟩
  | .hbm, ⟨4, _⟩ => ⟨S4x8x512x1024, .bf16⟩
  | .hbm, ⟨5, _⟩ => ⟨S4x4096x1024, .bf16⟩
  | .hbm, ⟨6, _⟩ => ⟨S4x4096x1024, .f32⟩
  | .hbm, ⟨7, _⟩ => ⟨S4x4096x2048, .bf16⟩
  | .hbm, ⟨8, _⟩ => ⟨S4x4096x2048, .f32⟩
  | .hbm, ⟨9, _⟩ => ⟨S_, .f32⟩
  | .hbm, ⟨10, _⟩ => ⟨S4x1024x2048, .f32⟩
  | .hbm, ⟨11, _⟩ => ⟨S4x4096x2048, .f32⟩
  | .hbm, ⟨12, _⟩ => ⟨S4x2048x1024, .f32⟩
  | .hbm, ⟨13, _⟩ => ⟨S4x1024x2048, .f32⟩
  | .hbm, ⟨14, _⟩ => ⟨S4x1024x2048, .bf16⟩
  | .hbm, ⟨15, _⟩ => ⟨S4x1024x4x512, .bf16⟩
  | .hbm, ⟨16, _⟩ => ⟨S4x4x1024x512, .bf16⟩
  | .hbm, ⟨17, _⟩ => ⟨S16x1024x512, .bf16⟩
  | .hbm, ⟨18, _⟩ => ⟨S4x4x128x1024, .bf16⟩
  | .hbm, ⟨19, _⟩ => ⟨S1x1x128x1024, .bf16⟩
  | .hbm, ⟨20, _⟩ => ⟨S128x1024, .bf16⟩
  | .hbm, ⟨21, _⟩ => ⟨S1x1x128x1024, .bf16⟩
  | .hbm, ⟨22, _⟩ => ⟨S128x1024, .bf16⟩
  | .hbm, ⟨23, _⟩ => ⟨S1x1x128x1024, .bf16⟩
  | .hbm, ⟨24, _⟩ => ⟨S128x1024, .bf16⟩
  | .hbm, ⟨25, _⟩ => ⟨S1x1x128x1024, .bf16⟩
  | .hbm, ⟨26, _⟩ => ⟨S128x1024, .bf16⟩
  | .hbm, ⟨27, _⟩ => ⟨S1x1x128x1024, .bf16⟩
  | .hbm, ⟨28, _⟩ => ⟨S128x1024, .bf16⟩
  | .hbm, ⟨29, _⟩ => ⟨S1x1x128x1024, .bf16⟩
  | .hbm, ⟨30, _⟩ => ⟨S128x1024, .bf16⟩
  | .hbm, ⟨31, _⟩ => ⟨S1x1x128x1024, .bf16⟩
  | .hbm, ⟨32, _⟩ => ⟨S128x1024, .bf16⟩
  | .hbm, ⟨33, _⟩ => ⟨S1x1x128x1024, .bf16⟩
  | .hbm, ⟨34, _⟩ => ⟨S128x1024, .bf16⟩
  | .hbm, ⟨35, _⟩ => ⟨S1x1x128x1024, .bf16⟩
  | .hbm, ⟨36, _⟩ => ⟨S128x1024, .bf16⟩
  | .hbm, ⟨37, _⟩ => ⟨S1x1x128x1024, .bf16⟩
  | .hbm, ⟨38, _⟩ => ⟨S128x1024, .bf16⟩
  | .hbm, ⟨39, _⟩ => ⟨S1x1x128x1024, .bf16⟩
  | .hbm, ⟨40, _⟩ => ⟨S128x1024, .bf16⟩
  | .hbm, ⟨41, _⟩ => ⟨S1x1x128x1024, .bf16⟩
  | .hbm, ⟨42, _⟩ => ⟨S128x1024, .bf16⟩
  | .hbm, ⟨43, _⟩ => ⟨S1x128x1024, .bf16⟩
  | .hbm, ⟨44, _⟩ => ⟨S1x128x1024, .bf16⟩
  | .hbm, ⟨45, _⟩ => ⟨S1x128x1024, .bf16⟩
  | .hbm, ⟨46, _⟩ => ⟨S1x128x1024, .bf16⟩
  | .hbm, ⟨47, _⟩ => ⟨S1x128x1024, .bf16⟩
  | .hbm, ⟨48, _⟩ => ⟨S1x128x1024, .bf16⟩
  | .hbm, ⟨49, _⟩ => ⟨S1x128x1024, .bf16⟩
  | .hbm, ⟨50, _⟩ => ⟨S1x128x1024, .bf16⟩
  | .hbm, ⟨51, _⟩ => ⟨S1x128x1024, .bf16⟩
  | .hbm, ⟨52, _⟩ => ⟨S1x128x1024, .bf16⟩
  | .hbm, ⟨53, _⟩ => ⟨S1x128x1024, .bf16⟩
  | .hbm, ⟨54, _⟩ => ⟨S1x128x1024, .bf16⟩
  | .hbm, ⟨55, _⟩ => ⟨S12x128x1024, .bf16⟩
  | _, _ => ⟨S32x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩

abbrev nD : Nat := 1
abbrev τ : Topo := Topo.v7x

variable {F : FTy → Type} [FloatOps F]
-- ==== PairX.lean ====
abbrev S4x2x512x512 : Shape := ⟨4, ![4, 2, 512, 512]⟩
abbrev S4x512x512 : Shape := ⟨3, ![4, 512, 512]⟩
abbrev S1x4 : Shape := ⟨2, ![1, 4]⟩
abbrev S1x1 : Shape := ⟨2, ![1, 1]⟩
abbrev S_ : Shape := ⟨0, ![]⟩
abbrev S1x512x512 : Shape := ⟨3, ![1, 512, 512]⟩
abbrev S512x512 : Shape := ⟨2, ![512, 512]⟩
abbrev S1x1x512x512 : Shape := ⟨4, ![1, 1, 512, 512]⟩

abbrev nBuf : Space → Nat
  | .hbm => 2
  | .vmem => 0
  | .smem => 0
  | _ => 0

abbrev bufTy : (tb : Table) → Fin (tcTables nBuf tb) → BufTy
  | .hbm, ⟨0, _⟩ => ⟨S4x2x512x512, .bf16⟩
  | .hbm, ⟨1, _⟩ => ⟨S4x512x512, .bf16⟩
  | _, _ => ⟨S4x2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 2
abbrev τ : Topo := Topo.v7x

variable {F : FTy → Type} [FloatOps F]

abbrev grid0 : Pipeline.Grid := .none

def k0_off1 (d0 : Dev nD) : Fin 4 → Nat :=
  let c0_i32 : BitVec 32 := 0#32
  let c1_i32_4 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v9 : BitVec 32 := Scalar.subi c1_i32_4 v8
  let c0_i32_17 : BitVec 32 := 0#32
  let c0_i32_18 : BitVec 32 := 0#32
  ![0, v9.toNat, 0, 0]
def k0_dev1 (d0 : Dev nD) : Nat :=
  let c0_i32_12 : BitVec 32 := 0#32
  let v0 : BitVec 32 := Dev.word d0
  let c2_i32 : BitVec 32 := 2#32
  let v1 : BitVec 32 := Scalar.divsi v0 c2_i32
  let c1_i32 : BitVec 32 := 1#32
  let v2 : BitVec 32 := Scalar.remsi v1 c1_i32
  let c2_i32_11 : BitVec 32 := 2#32
  let v11 : BitVec 32 := Scalar.muli v2 c2_i32_11
  let v12 : BitVec 32 := Scalar.addi c0_i32_12 v11
  let v3 : BitVec 32 := Dev.word d0
  let c2_i32_1 : BitVec 32 := 2#32
  let v4 : BitVec 32 := Scalar.divsi v3 c2_i32_1
  let c1_i32_0 : BitVec 32 := 1#32
  let v5 : BitVec 32 := Scalar.remsi v4 c1_i32_0
  let c2_i32_13 : BitVec 32 := 2#32
  let v13 : BitVec 32 := Scalar.muli v5 c2_i32_13
  let v14 : BitVec 32 := Scalar.addi v12 v13
  let c1_i32_5 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v10 : BitVec 32 := Scalar.subi c1_i32_5 v8
  let c1_i32_14 : BitVec 32 := 1#32
  let v15 : BitVec 32 := Scalar.muli v10 c1_i32_14
  let v16 : BitVec 32 := Scalar.addi v14 v15
  v16.toNat
def k0_off2 (d0 : Dev nD) : Fin 4 → Nat :=
  let c1_i32_21 : BitVec 32 := 1#32
  let c1_i32_19 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v25 : BitVec 32 := Scalar.subi c1_i32_19 v8
  let c0_i32_33 : BitVec 32 := 0#32
  let c0_i32_34 : BitVec 32 := 0#32
  ![1, v25.toNat, 0, 0]
def k0_dev2 (d0 : Dev nD) : Nat :=
  let c0_i32_28 : BitVec 32 := 0#32
  let v0 : BitVec 32 := Dev.word d0
  let c2_i32 : BitVec 32 := 2#32
  let v1 : BitVec 32 := Scalar.divsi v0 c2_i32
  let c1_i32 : BitVec 32 := 1#32
  let v2 : BitVec 32 := Scalar.remsi v1 c1_i32
  let c2_i32_27 : BitVec 32 := 2#32
  let v27 : BitVec 32 := Scalar.muli v2 c2_i32_27
  let v28 : BitVec 32 := Scalar.addi c0_i32_28 v27
  let v3 : BitVec 32 := Dev.word d0
  let c2_i32_1 : BitVec 32 := 2#32
  let v4 : BitVec 32 := Scalar.divsi v3 c2_i32_1
  let c1_i32_0 : BitVec 32 := 1#32
  let v5 : BitVec 32 := Scalar.remsi v4 c1_i32_0
  let c2_i32_29 : BitVec 32 := 2#32
  let v29 : BitVec 32 := Scalar.muli v5 c2_i32_29
  let v30 : BitVec 32 := Scalar.addi v28 v29
  let c1_i32_20 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v26 : BitVec 32 := Scalar.subi c1_i32_20 v8
  let c1_i32_30 : BitVec 32 := 1#32
  let v31 : BitVec 32 := Scalar.muli v26 c1_i32_30
  let v32 : BitVec 32 := Scalar.addi v30 v31
  v32.toNat
def k0_off3 (d0 : Dev nD) : Fin 4 → Nat :=
  let c2_i32_37 : BitVec 32 := 2#32
  let c1_i32_35 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v41 : BitVec 32 := Scalar.subi c1_i32_35 v8
  let c0_i32_49 : BitVec 32 := 0#32
  let c0_i32_50 : BitVec 32 := 0#32
  ![2, v41.toNat, 0, 0]
def k0_dev3 (d0 : Dev nD) : Nat :=
  let c0_i32_44 : BitVec 32 := 0#32
  let v0 : BitVec 32 := Dev.word d0
  let c2_i32 : BitVec 32 := 2#32
  let v1 : BitVec 32 := Scalar.divsi v0 c2_i32
  let c1_i32 : BitVec 32 := 1#32
  let v2 : BitVec 32 := Scalar.remsi v1 c1_i32
  let c2_i32_43 : BitVec 32 := 2#32
  let v43 : BitVec 32 := Scalar.muli v2 c2_i32_43
  let v44 : BitVec 32 := Scalar.addi c0_i32_44 v43
  let v3 : BitVec 32 := Dev.word d0
  let c2_i32_1 : BitVec 32 := 2#32
  let v4 : BitVec 32 := Scalar.divsi v3 c2_i32_1
  let c1_i32_0 : BitVec 32 := 1#32
  let v5 : BitVec 32 := Scalar.remsi v4 c1_i32_0
  let c2_i32_45 : BitVec 32 := 2#32
  let v45 : BitVec 32 := Scalar.muli v5 c2_i32_45
  let v46 : BitVec 32 := Scalar.addi v44 v45
  let c1_i32_36 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v42 : BitVec 32 := Scalar.subi c1_i32_36 v8
  let c1_i32_46 : BitVec 32 := 1#32
  let v47 : BitVec 32 := Scalar.muli v42 c1_i32_46
  let v48 : BitVec 32 := Scalar.addi v46 v47
  v48.toNat
def k0_off4 (d0 : Dev nD) : Fin 4 → Nat :=
  let c3_i32 : BitVec 32 := 3#32
  let c1_i32_51 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v57 : BitVec 32 := Scalar.subi c1_i32_51 v8
  let c0_i32_64 : BitVec 32 := 0#32
  let c0_i32_65 : BitVec 32 := 0#32
  ![3, v57.toNat, 0, 0]
def k0_dev4 (d0 : Dev nD) : Nat :=
  let c0_i32_59 : BitVec 32 := 0#32
  let v0 : BitVec 32 := Dev.word d0
  let c2_i32 : BitVec 32 := 2#32
  let v1 : BitVec 32 := Scalar.divsi v0 c2_i32
  let c1_i32 : BitVec 32 := 1#32
  let v2 : BitVec 32 := Scalar.remsi v1 c1_i32
  let c2_i32_58 : BitVec 32 := 2#32
  let v59 : BitVec 32 := Scalar.muli v2 c2_i32_58
  let v60 : BitVec 32 := Scalar.addi c0_i32_59 v59
  let v3 : BitVec 32 := Dev.word d0
  let c2_i32_1 : BitVec 32 := 2#32
  let v4 : BitVec 32 := Scalar.divsi v3 c2_i32_1
  let c1_i32_0 : BitVec 32 := 1#32
  let v5 : BitVec 32 := Scalar.remsi v4 c1_i32_0
  let c2_i32_60 : BitVec 32 := 2#32
  let v61 : BitVec 32 := Scalar.muli v5 c2_i32_60
  let v62 : BitVec 32 := Scalar.addi v60 v61
  let c1_i32_52 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v58 : BitVec 32 := Scalar.subi c1_i32_52 v8
  let c1_i32_61 : BitVec 32 := 1#32
  let v63 : BitVec 32 := Scalar.muli v58 c1_i32_61
  let v64 : BitVec 32 := Scalar.addi v62 v63
  v64.toNat
-- ==== PairXRefIdeal.lean ====
abbrev S8x2x512x512 : Shape := ⟨4, ![8, 2, 512, 512]⟩
abbrev S2x4x2x512x512 : Shape := ⟨5, ![2, 4, 2, 512, 512]⟩
abbrev S1x4x1x512x512 : Shape := ⟨5, ![1, 4, 1, 512, 512]⟩
abbrev S4x512x512 : Shape := ⟨3, ![4, 512, 512]⟩
abbrev S8x512x512 : Shape := ⟨3, ![8, 512, 512]⟩

abbrev nBuf : Space → Nat
  | .hbm => 7
  | .vmem => 0
  | .smem => 0
  | _ => 0

abbrev bufTy : (tb : Table) → Fin (tcTables nBuf tb) → BufTy
  | .hbm, ⟨0, _⟩ => ⟨S8x2x512x512, .bf16⟩
  | .hbm, ⟨1, _⟩ => ⟨S2x4x2x512x512, .bf16⟩
  | .hbm, ⟨2, _⟩ => ⟨S1x4x1x512x512, .bf16⟩
  | .hbm, ⟨3, _⟩ => ⟨S4x512x512, .bf16⟩
  | .hbm, ⟨4, _⟩ => ⟨S1x4x1x512x512, .bf16⟩
  | .hbm, ⟨5, _⟩ => ⟨S4x512x512, .bf16⟩
  | .hbm, ⟨6, _⟩ => ⟨S8x512x512, .bf16⟩
  | _, _ => ⟨S8x2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]
-- ==== Proof.Down.Block.lean ====
/- One grid point of the down projection's backward kernel: what it leaves in its three output blocks. -/
module

public import proofs.«01_k».proof.Proof.Gen.KernelIdeal.Frame
public import Idealize.ShloMosaic.Lib.Pipeline.ReadBack
public import Idealize.ShloMosaic.Lib.Pipeline.ValueKit

@[expose] public section

set_option maxRecDepth 16384

noncomputable section

namespace Down

open Idealize.ShloMosaic Idealize.ShloMosaic.TcCoe Idealize.SL.Sem
open Cert.KernelIdeal Cert.KernelIdeal.Gen

variable {F : FTy → Type} [FloatOps F]

/-- The block's rows below the eight halo rows, as the two stores leave them in the kernel's buffer. -/
def stores (i : grid0.Coords) (x1 : Vec F S256x5632 .f32) (x2 : Vec F S8x2816 .f32) : List (View.Piece (Elt F) S264x2816 .f32) :=
  [⟨Rect.unit ![8, 0] ![256, 2816] inb_S264x2816_S256x2816_8_0,
      k0_pay5 (View.ld x1 (Rect.unit ![0, 0] ![256, 2816] inb_S256x5632_S256x2816_0_0))⟩,
    ⟨Rect.unit ![0, 0] ![8, 2816] inb_S264x2816_S8x2816_0_0, k0_pay4 i x2⟩]

/-- The rows of that buffer two above the block's. -/
def back2 (i : grid0.Coords) (x1 : Vec F S256x5632 .f32) (x2 : Vec F S8x2816 .f32) : Vec F S256x2816 .f32 :=
  (View.whole cc0_scratch0).readCov (stores i x1 x2) (Rect.unit (s := S264x2816) ![6, 0] S256x2816.size inb_S264x2816_S256x2816_6_0).toLoadRect

/-- The rows of that buffer one above the block's. -/
def back1 (i : grid0.Coords) (x1 : Vec F S256x5632 .f32) (x2 : Vec F S8x2816 .f32) : Vec F S256x2816 .f32 :=
  (View.whole cc0_scratch0).readCov (stores i x1 x2) (Rect.unit (s := S264x2816) ![7, 0] S256x2816.size inb_S264x2816_S256x2816_7_0).toLoadRect

/-- The block's own rows. -/
def back0 (x1 : Vec F S256x5632 .f32) : Vec F S256x2816 .f32 :=
  k0_pay5 (View.ld x1 (Rect.unit ![0, 0] ![256, 2816] inb_S256x5632_S256x2816_0_0))

section
variable (i : grid0.Coords) (x0 : Vec F S256x1024 .f32) (x1 : Vec F S256x5632 .f32) (x2 : Vec F S8x2816 .f32)
  (x3 : Vec F S8x2816 .f32) (x4 : Vec F S1x2816 .f32) (x5 : Vec F S2816x1024 .bf16)

/-- The convolution of the block. -/
def convB : Vec F S256x2816 .f32 :=
  k0_pay8 x4 (View.ld x3 (Rect.unit ![0, 0] ![1, 2816] inb_S8x2816_S1x2816_0_0)) (k0_pay6 (back2 i x1 x2))
    (View.ld x3 (Rect.unit ![1, 0] ![1, 2816] inb_S8x2816_S1x2816_1_0)) (k0_pay7 (back1 i x1 x2))
    (View.ld x3 (Rect.unit ![2, 0] ![1, 2816] inb_S8x2816_S1x2816_2_0)) (back0 x1)

/-- Its logistic function. -/
def sigB : Vec F S256x2816 .f32 :=
  k0_pay10 x4 (View.ld x3 (Rect.unit ![0, 0] ![1, 2816] inb_S8x2816_S1x2816_0_0)) (k0_pay6 (back2 i x1 x2))
    (View.ld x3 (Rect.unit ![1, 0] ![1, 2816] inb_S8x2816_S1x2816_1_0)) (k0_pay7 (back1 i x1 x2))
    (View.ld x3 (Rect.unit ![2, 0] ![1, 2816] inb_S8x2816_S1x2816_2_0)) (back0 x1)

/-- The gated activation's gradient times the gate. -/
def dggB : Vec F S256x2816 .f32 :=
  k0_pay12 x0 x5 (View.ld x1 (Rect.unit ![0, 2816] ![256, 2816] inb_S256x5632_S256x2816_0_2816))

/-- The block of the convolution's gradient. -/
def dacB : Vec F S256x2816 .f32 := k0_pay1 (convB i x1 x2 x3 x4) (sigB i x1 x2 x3 x4) (dggB x0 x1 x5)

/-- The block of the gate's gradient. -/
def dgateB : Vec F S256x2816 .bf16 :=
  k0_pay11 x4 (View.ld x3 (Rect.unit ![0, 0] ![1, 2816] inb_S8x2816_S1x2816_0_0)) (k0_pay6 (back2 i x1 x2))
    (View.ld x3 (Rect.unit ![1, 0] ![1, 2816] inb_S8x2816_S1x2816_1_0)) (k0_pay7 (back1 i x1 x2))
    (View.ld x3 (Rect.unit ![2, 0] ![1, 2816] inb_S8x2816_S1x2816_2_0)) (back0 x1) x0 x5

/-- The block's part of the gradients of the taps and of the bias. -/
def wsumB : Vec F S8x2816 .f32 :=
  k0_pay2 (convB i x1 x2 x3 x4) (sigB i x1 x2 x3 x4) (dggB x0 x1 x5) (k0_pay6 (back2 i x1 x2)) (k0_pay7 (back1 i x1 x2)) (back0 x1)

/-- Those added to what the points before left. -/
def wsumAddB (y : Vec F S8x2816 .f32) : Vec F S8x2816 .f32 :=
  k0_pay3 (convB i x1 x2 x3 x4) (sigB i x1 x2 x3 x4) (dggB x0 x1 x5) (k0_pay6 (back2 i x1 x2)) (k0_pay7 (back1 i x1 x2)) (back0 x1) y

end

variable (m : (ℓ : Loc nD τ sig) → Buf (Elt F) ℓ)

/-- At the first grid point the three output blocks hold the block's gradients. -/
theorem outs_first (c : Dev nD) (t : Fin cfg0.N) (h0 : t.val % 16 = 0) (h1 : ¬1 ≤ t.val) :
    outsAt0 m c t.val t.isLt =
      (dacB (grid0.coords t) (iblk m c 0 t) (iblk m c 1 t) (iblk m c 2 t) (iblk m c 3 t) (iblk m c 4 t) (iblk m c 5 t),
        dgateB (grid0.coords t) (iblk m c 0 t) (iblk m c 1 t) (iblk m c 2 t) (iblk m c 3 t) (iblk m c 4 t) (iblk m c 5 t),
        wsumB (grid0.coords t) (iblk m c 0 t) (iblk m c 1 t) (iblk m c 2 t) (iblk m c 3 t) (iblk m c 4 t) (iblk m c 5 t)) := by
  rw [outsAt0_A m c t h0 h1]
  refine Prod.ext ?_ (Prod.ext ?_ ?_)
  all_goals
    frame_open
    simp (disch := decide) only [↓ View.readCov_skip, ↓ View.readCov_cons_toLoadRect]
    frame_out
    rfl

/-- At a later one the gradients of the taps and of the bias are added to what the point before left. -/
theorem outs_later (c : Dev nD) (t : Fin cfg0.N) (h0 : ¬t.val % 16 = 0) (h1 : 1 ≤ t.val) :
    outsAt0 m c t.val t.isLt =
      (dacB (grid0.coords t) (iblk m c 0 t) (iblk m c 1 t) (iblk m c 2 t) (iblk m c 3 t) (iblk m c 4 t) (iblk m c 5 t),
        dgateB (grid0.coords t) (iblk m c 0 t) (iblk m c 1 t) (iblk m c 2 t) (iblk m c 3 t) (iblk m c 4 t) (iblk m c 5 t),
        wsumAddB (grid0.coords t) (iblk m c 0 t) (iblk m c 1 t) (iblk m c 2 t) (iblk m c 3 t) (iblk m c 4 t) (iblk m c 5 t)
          (outsAt0 m c (t.val - 1) (Nat.lt_of_le_of_lt (Nat.sub_le _ _) t.isLt)).2.2) := by
  rw [outsAt0_B m c t h0 h1]
  refine Prod.ext ?_ (Prod.ext ?_ ?_)
  all_goals
    frame_open
    simp (disch := decide) only [↓ View.readCov_skip, ↓ View.readCov_cons_toLoadRect]
    frame_out
    rfl

end Down

end
-- ==== Proof.Down.Spec.lean ====
/- The gradient of the ConvFFN's gate and of its down projection, entry by entry over the extended reals: what both the
   kernel and the reference compute. -/
module

public import Idealize.ShloMosaic.Lib.Pointwise
public import Idealize.ShloMosaic.Lib.Pipeline.ValueKit

@[expose] public section

set_option maxRecDepth 16384

noncomputable section

namespace Down

open Idealize.ShloMosaic

/-- The gradient of the layer's output, the up projection's result, the taps, the bias and the down projection's weights. -/
structure Args where
  dx : (⟨2, ![4096, 1024]⟩ : Shape).Idx → EReal
  up : (⟨2, ![4096, 5632]⟩ : Shape).Idx → EReal
  w : (⟨2, ![3, 2816]⟩ : Shape).Idx → EReal
  b : (⟨2, ![1, 2816]⟩ : Shape).Idx → EReal
  wd : (⟨2, ![2816, 1024]⟩ : Shape).Idx → EReal

variable (A : Args)

/-- The activation half of the up projection at row `r`, column `f`. -/
def act (r : ℕ) (h : r < 4096) (f : Fin 2816) : EReal := A.up (ix2 ⟨r, h⟩ ⟨f, by omega⟩)

/-- The gate half of the up projection. -/
def gate (r : Fin 4096) (f : Fin 2816) : EReal := A.up (ix2 r ⟨2816 + f, by omega⟩)

/-- What tap `k` of the causal convolution multiplies at row `r`: the activation `2 - k` rows earlier, and zero before the
    first row of a sequence of 2048 rows. -/
def tap (k : Fin 3) (r : Fin 4096) (f : Fin 2816) : EReal :=
  if h : r.val % 2048 + k.val < 2 then 0 else act A (r.val + k.val - 2) (by omega) f

/-- The causal depthwise convolution of the activation. -/
def conv (r : Fin 4096) (f : Fin 2816) : EReal :=
  A.b (ix2 0 f) + A.w (ix2 0 f) * tap A 0 r f + A.w (ix2 1 f) * tap A 1 r f + A.w (ix2 2 f) * tap A 2 r f

/-- The gradient of the gated activation: the output's gradient times the transposed down projection. -/
def dg (r : Fin 4096) (f : Fin 2816) : EReal := ∑ d : Fin 1024, A.dx (ix2 r d) * A.wd (ix2 f d)

/-- The gradient of the convolution's output, through the gate and silu. -/
def dac (r : Fin 4096) (f : Fin 2816) : EReal :=
  dg A r f * gate A r f * (Ideal.logistic (conv A r f) * (1 + conv A r f * (1 - Ideal.logistic (conv A r f))))

/-- The gradient of the gate. -/
def dgate (r : Fin 4096) (f : Fin 2816) : EReal := dg A r f * conv A r f * Ideal.logistic (conv A r f)

/-- One row's part of the gradients of the taps (rows 0 to 2) and of the bias (row 3). -/
def wterm (j : Fin 8) (r : Fin 4096) (f : Fin 2816) : EReal :=
  if h : j.val < 3 then dac A r f * tap A ⟨j, h⟩ r f else if j.val = 3 then dac A r f else 0

/-- The gradients of the taps and of the bias: the sum over all rows. -/
def wsum (j : Fin 8) (f : Fin 2816) : EReal := ∑ r : Fin 4096, wterm A j r f

/-- Every entry of the arguments is a real number. -/
structure Args.Real : Prop where
  dx : ∀ i, ∃ x : ℝ, A.dx i = x
  up : ∀ i, ∃ x : ℝ, A.up i = x
  w : ∀ i, ∃ x : ℝ, A.w i = x
  b : ∀ i, ∃ x : ℝ, A.b i = x
  wd : ∀ i, ∃ x : ℝ, A.wd i = x

variable {A}

theorem tap_real (h : A.Real) (k : Fin 3) (r : Fin 4096) (f : Fin 2816) : ∃ x : ℝ, tap A k r f = x := by
  unfold tap act
  split
  · exact ⟨0, by simp⟩
  · exact h.up _

/-- The convolution of real arguments is real. -/
theorem conv_real (h : A.Real) (r : Fin 4096) (f : Fin 2816) : ∃ x : ℝ, conv A r f = x := by
  obtain ⟨b, hb⟩ := h.b (ix2 0 f)
  obtain ⟨w0, h0⟩ := h.w (ix2 0 f)
  obtain ⟨w1, h1⟩ := h.w (ix2 1 f)
  obtain ⟨w2, h2⟩ := h.w (ix2 2 f)
  obtain ⟨t0, e0⟩ := tap_real h 0 r f
  obtain ⟨t1, e1⟩ := tap_real h 1 r f
  obtain ⟨t2, e2⟩ := tap_real h 2 r f
  refine ⟨b + w0 * t0 + w1 * t1 + w2 * t2, ?_⟩
  unfold conv
  rw [hb, h0, h1, h2, e0, e1, e2]
  norm_cast

/-- A finite sum of products of reals is real. -/
theorem sum_real {n : ℕ} (u v : Fin n → EReal) (hu : ∀ i, ∃ x : ℝ, u i = x) (hv : ∀ i, ∃ x : ℝ, v i = x) :
    ∃ x : ℝ, ∑ i, u i * v i = x := by
  refine Finset.sum_induction _ (fun y : EReal => ∃ x : ℝ, y = (x : EReal)) ?_ ⟨0, by simp⟩ fun i _ => ?_
  · rintro _ _ ⟨a, rfl⟩ ⟨b, rfl⟩
    exact ⟨a + b, by norm_cast⟩
  · obtain ⟨a, ha⟩ := hu i
    obtain ⟨b, hb⟩ := hv i
    exact ⟨a * b, by rw [ha, hb]; norm_cast⟩

theorem dg_real (h : A.Real) (r : Fin 4096) (f : Fin 2816) : ∃ x : ℝ, dg A r f = x :=
  sum_real _ _ (fun _ => h.dx _) (fun _ => h.wd _)

/-- Through silu, the derivative written as a sum of two terms is the derivative written as a product, on reals. -/
theorem dac_of_real (h : A.Real) (r : Fin 4096) (f : Fin 2816) :
    dg A r f * gate A r f * Ideal.logistic (conv A r f)
        + conv A r f * (dg A r f * gate A r f) * (Ideal.logistic (conv A r f) * (1 - Ideal.logistic (conv A r f)))
      = dac A r f := by
  obtain ⟨c, hc⟩ := conv_real h r f
  obtain ⟨d, hd⟩ := dg_real h r f
  obtain ⟨g, hg⟩ : ∃ x : ℝ, gate A r f = x := h.up _
  unfold dac
  rw [hc, hd, hg, Ideal.logistic_coe]
  norm_cast
  ring

end Down

end
-- ==== Proof.Down.BlockAt.lean ====
/- One grid point of the down projection's backward kernel, read at an entry over the extended reals. -/
module

public import proofs.«01_k».proof.Proof.Down.Block
public import proofs.«01_k».proof.Proof.Down.Spec

@[expose] public section

set_option maxRecDepth 16384

noncomputable section

namespace Down

open Idealize.ShloMosaic Idealize.ShloMosaic.TcCoe Idealize.SL.Sem
open Cert.KernelIdeal Cert.KernelIdeal.Gen

/-- What two stores of the buffer's rows 8 to 263 and 0 to 7 leave at an entry. -/
theorem canon_two (p : S256x2816.Idx → EReal) (q : S8x2816.Idx → EReal) (r : Fin 264) (f : Fin 2816) :
    View.canon (Val := Elt Ideal) (e := .f32) (s := S264x2816)
        [⟨Rect.unit ![8, 0] ![256, 2816] inb_S264x2816_S256x2816_8_0, p⟩, ⟨Rect.unit ![0, 0] ![8, 2816] inb_S264x2816_S8x2816_0_0, q⟩] (ix2 r f)
      = if h : r.val < 8 then q (ix2 ⟨r, h⟩ f) else p (ix2 ⟨r.val - 8, by omega⟩ f) := by
  split
  · rename_i h
    rw [View.canon_cons_of_not_mem]
    · refine (congrArg _ ?_).trans (View.canon_cons_emb (Val := Elt Ideal) (e := .f32) (Rect.unit (s := S264x2816) ![0, 0] ![8, 2816] inb_S264x2816_S8x2816_0_0) q [] (ix2 ⟨r, h⟩ f))
      funext a
      fin_cases a <;> exact Fin.ext (by simp [Rect.emb, LoadRect.idx, Rect.toLoadRect, Rect.unit, ix2])
    · dsimp only
      rw [Rect.mem_set_unit]
      intro h'
      have := (h' 0).1
      simp [ix2] at this
      omega
  · rename_i h
    refine (congrArg _ ?_).trans (View.canon_cons_emb (Val := Elt Ideal) (e := .f32) (Rect.unit (s := S264x2816) ![8, 0] ![256, 2816] inb_S264x2816_S256x2816_8_0) p _ (ix2 ⟨r.val - 8, by omega⟩ f))
    funext a
    fin_cases a <;> exact Fin.ext (by simp [Rect.emb, LoadRect.idx, Rect.toLoadRect, Rect.unit, ix2] <;> omega)

variable (i : grid0.Coords) (x0 : Vec Ideal S256x1024 .f32) (x1 : Vec Ideal S256x5632 .f32) (x2 : Vec Ideal S8x2816 .f32)
  (x3 : Vec Ideal S8x2816 .f32) (x4 : Vec Ideal S1x2816 .f32) (x5 : Vec Ideal S2816x1024 .bf16)

/-- The halo rows as stored: zero at the first block of a sequence. -/
theorem halo_apply (r : Fin 8) (f : Fin 2816) :
    k0_pay4 i x2 (ix2 r f) = if (i 0).val % 8 = 0 then (0 : EReal) else x2 (ix2 r f) := by
  have key : ∀ n : Fin 16, (Scalar.cmpi .eq (Scalar.select (Scalar.andi (Scalar.xori (Scalar.cmpi .slt (Scalar.remsi (BitVec.ofNat 32 n.val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 n.val) (Scalar.select (Scalar.cmpi .eq 8#32 0#32) 1#32 8#32)) 0#32)) (Scalar.addi (Scalar.remsi (BitVec.ofNat 32 n.val) (Scalar.select (Scalar.cmpi .eq 8#32 0#32) 1#32 8#32)) (Scalar.select (Scalar.cmpi .eq 8#32 0#32) 1#32 8#32)) (Scalar.remsi (BitVec.ofNat 32 n.val) (Scalar.select (Scalar.cmpi .eq 8#32 0#32) 1#32 8#32))) 0#32)
      = if n.val % 8 = 0 then 1#1 else 0#1 := by decide +kernel
  unfold k0_pay4
  dsimp only
  rw [key (i 0)]
  split <;> pointwise

/-- Two rows above the block's row `r`. -/
theorem back2_apply (r : Fin 256) (f : Fin 2816) :
    back2 i x1 x2 (ix2 r f) = if h : r.val < 2 then (if (i 0).val % 8 = 0 then (0 : EReal) else x2 (ix2 ⟨r + 6, by omega⟩ f))
      else x1 (ix2 ⟨r.val - 2, by omega⟩ ⟨f, by omega⟩) := by
  unfold back2 stores
  rw [View.readCov_eq_canon']
  refine (congrArg _ (?_ : _ = (ix2 (⟨r + 6, by omega⟩ : Fin 264) f))).trans ((canon_two _ _ _ f).trans ?_)
  · funext a
    fin_cases a <;> exact Fin.ext (by simp [LoadRect.idx, Rect.toLoadRect, ix2] <;> omega)
  · by_cases h : r.val < 2
    · rw [dif_pos (by show r.val + 6 < 8; omega), dif_pos h, halo_apply]
    · rw [dif_neg (by show ¬ r.val + 6 < 8; omega), dif_neg h]
      pointwise [k0_pay5]
      congr 2

/-- One row above the block's row `r`. -/
theorem back1_apply (r : Fin 256) (f : Fin 2816) :
    back1 i x1 x2 (ix2 r f) = if h : r.val < 1 then (if (i 0).val % 8 = 0 then (0 : EReal) else x2 (ix2 ⟨r + 7, by omega⟩ f))
      else x1 (ix2 ⟨r.val - 1, by omega⟩ ⟨f, by omega⟩) := by
  unfold back1 stores
  rw [View.readCov_eq_canon']
  refine (congrArg _ (?_ : _ = (ix2 (⟨r + 7, by omega⟩ : Fin 264) f))).trans ((canon_two _ _ _ f).trans ?_)
  · funext a
    fin_cases a <;> exact Fin.ext (by simp [LoadRect.idx, Rect.toLoadRect, ix2] <;> omega)
  · by_cases h : r.val < 1
    · rw [dif_pos (by show r.val + 7 < 8; omega), dif_pos h, halo_apply]
    · rw [dif_neg (by show ¬ r.val + 7 < 8; omega), dif_neg h]
      pointwise [k0_pay5]
      congr 2

/-- The block's own row. -/
theorem back0_apply (r : Fin 256) (f : Fin 2816) : back0 x1 (ix2 r f) = x1 (ix2 r ⟨f, by omega⟩) := by
  unfold back0
  pointwise [k0_pay5]

/-- The convolution of the block at an entry. -/
theorem convB_apply (r : Fin 256) (f : Fin 2816) :
    convB i x1 x2 x3 x4 (ix2 r f) = x4 (ix2 0 f) + x3 (ix2 0 f) * back2 i x1 x2 (ix2 r f) + x3 (ix2 1 f) * back1 i x1 x2 (ix2 r f)
      + x3 (ix2 2 f) * back0 x1 (ix2 r f) := by
  unfold convB
  generalize back2 i x1 x2 = b2
  generalize back1 i x1 x2 = b1
  generalize back0 x1 = b0
  pointwise [k0_pay8, k0_pay7, k0_pay6]

theorem sigB_apply (r : Fin 256) (f : Fin 2816) :
    sigB i x1 x2 x3 x4 (ix2 r f) = Ideal.logistic (convB i x1 x2 x3 x4 (ix2 r f)) := rfl

/-- The gated activation's gradient times the gate, at an entry. -/
theorem dggB_apply (r : Fin 256) (f : Fin 2816) :
    dggB x0 x1 x5 (ix2 r f) = (∑ d : Fin 1024, x0 (ix2 r d) * x5 (ix2 f d)) * x1 (ix2 r ⟨2816 + f, by omega⟩) := by
  unfold dggB
  pointwise [k0_pay12, k0_pay9]

/-- The convolution's gradient at an entry. -/
theorem dacB_apply (r : Fin 256) (f : Fin 2816) :
    dacB i x0 x1 x2 x3 x4 x5 (ix2 r f)
      = dggB x0 x1 x5 (ix2 r f) * (sigB i x1 x2 x3 x4 (ix2 r f) * (1 + convB i x1 x2 x3 x4 (ix2 r f) * (1 - sigB i x1 x2 x3 x4 (ix2 r f)))) := by
  unfold dacB
  generalize dggB x0 x1 x5 = b2
  generalize sigB i x1 x2 x3 x4 = b1
  generalize convB i x1 x2 x3 x4 = b0
  pointwise [k0_pay1]

/-- The gate's gradient at an entry. -/
theorem dgateB_apply (r : Fin 256) (f : Fin 2816) :
    dgateB i x0 x1 x2 x3 x4 x5 (ix2 r f)
      = (∑ d : Fin 1024, x0 (ix2 r d) * x5 (ix2 f d)) * convB i x1 x2 x3 x4 (ix2 r f) * sigB i x1 x2 x3 x4 (ix2 r f) := by
  show (k0_pay9 x0 x5 (ix2 r f) * convB i x1 x2 x3 x4 (ix2 r f) * sigB i x1 x2 x3 x4 (ix2 r f) : EReal) = _
  generalize sigB i x1 x2 x3 x4 = b1
  generalize convB i x1 x2 x3 x4 = b0
  pointwise [k0_pay9]

/-- The block's part of the sums at an entry. -/
theorem wsumB_apply (j : Fin 8) (f : Fin 2816) :
    wsumB i x0 x1 x2 x3 x4 x5 (ix2 j f)
      = ∑ r : Fin 256, (if j.val = 0 then dacB i x0 x1 x2 x3 x4 x5 (ix2 r f) * back2 i x1 x2 (ix2 r f)
          else if j.val = 1 then dacB i x0 x1 x2 x3 x4 x5 (ix2 r f) * back1 i x1 x2 (ix2 r f)
          else if j.val = 2 then dacB i x0 x1 x2 x3 x4 x5 (ix2 r f) * back0 x1 (ix2 r f)
          else if j.val = 3 then dacB i x0 x1 x2 x3 x4 x5 (ix2 r f) else 0) := by
  unfold wsumB k0_pay2
  dsimp only
  change (concatenate (α := EReal) S8x2816 0 _ _ (ix2 j f)) = _
  rw [show k0_pay1 (convB i x1 x2 x3 x4) (sigB i x1 x2 x3 x4) (dggB x0 x1 x5) = dacB i x0 x1 x2 x3 x4 x5 from rfl]
  generalize dacB i x0 x1 x2 x3 x4 x5 = d
  generalize back2 i x1 x2 = b2
  generalize back1 i x1 x2 = b1
  generalize back0 x1 = b0
  pointwise [k0_pay6, k0_pay7]
  fin_vals j with hj <;> simp [hj]

theorem wsumAddB_apply (y : Vec Ideal S8x2816 .f32) (j : Fin 8) (f : Fin 2816) :
    wsumAddB i x0 x1 x2 x3 x4 x5 y (ix2 j f) = y (ix2 j f) + wsumB i x0 x1 x2 x3 x4 x5 (ix2 j f) := by
  unfold wsumAddB wsumB k0_pay3
  exact congrArg (· + _) (by pointwise : shapeCast S8x2816 y shapeCasts_S8x2816_S8x2816 (ix2 j f) = y (ix2 j f))

end Down

end
-- ==== Proof.Down.Array.lean ====
/- The arrays the down projection's backward kernel leaves, entry by entry. -/
module

public import proofs.«01_k».proof.Proof.Down.BlockAt
public import proofs.«01_k».proof.Proof.Gen.KernelIdeal.Value

@[expose] public section

set_option maxRecDepth 16384

noncomputable section

namespace Down

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The arguments as the kernel's memory holds them. -/
def argsK : Args where
  dx := m ((c : Thread nD τ).loc main_arg0)
  up := m ((c : Thread nD τ).loc main_arg1)
  w := m ((c : Thread nD τ).loc main_arg2)
  b := m ((c : Thread nD τ).loc main_arg3)
  wd := m ((c : Thread nD τ).loc main_arg4)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val * 32 - 1, 0] :=
  (by decide +kernel : ∀ t : Fin grid0.N, win0_2.index t = ![t.val * 32 - 1, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 1] := (by decide +kernel : ∀ t : Fin grid0.N, win0_7.index t = ![t.val, 1])
theorem coords0 : ∀ t : Fin cfg0.N, (grid0.coords t 0).val = t.val := (by decide +kernel : ∀ t : Fin grid0.N, (grid0.coords t 0).val = t.val)
theorem pt_lt : ∀ t : Fin cfg0.N, t.val < 16 := (by decide +kernel : ∀ t : Fin grid0.N, t.val < 16)

variable (t : Fin cfg0.N)

/-- Row `r` of block `t`. -/
abbrev row (r : Fin 256) : Fin 4096 := ⟨t.val * 256 + r.val, by have := pt_lt t; omega⟩

theorem read0 (r : Fin 256) (d : Fin 1024) : iblk m c 0 t (ix2 r d) = (argsK m c).dx (ix2 (row t r) d) := by
  unfold argsK
  blk_ext [iblk, V, idx0 t]

theorem read1 (r : Fin 256) (d : Fin 5632) : iblk m c 1 t (ix2 r d) = (argsK m c).up (ix2 (row t r) d) := by
  unfold argsK
  blk_ext [iblk, V, idx1 t]

theorem read2 (r : Fin 8) (d : Fin 2816) (h : t.val ≠ 0) :
    iblk m c 2 t (ix2 r d) = (argsK m c).up (ix2 ⟨t.val * 256 - 8 + r.val, by have := pt_lt t; omega⟩ ⟨d, by omega⟩) := by
  unfold argsK
  blk_ext [iblk, V, idx2 t]

/-- The taps' rows of the taps padded to eight rows. -/
theorem pad_top (x : Vec Ideal S3x2816 .f32) (v : Vec Ideal S_ .f32) (r : Fin 3) (d : Fin 2816) :
    pad S8x2816 ![0, 0] ![5, 0] ![0, 0] x v pads_S3x2816_S8x2816_050_000 h_S_ (ix2 ⟨r, by omega⟩ d) = x (ix2 r d) := by
  pointwise

theorem read3 (r : Fin 3) (d : Fin 2816) : iblk m c 3 t (ix2 ⟨r, by omega⟩ d) = (argsK m c).w (ix2 r d) := by
  unfold argsK
  have e : ((cfg0.win 3).blk t).view.emb (ix2 ⟨r, by omega⟩ d) = (ix2 ⟨r, by omega⟩ d : S8x2816.Idx) := by blk_ext [idx3 t]
  show V m c main_v0 (((cfg0.win 3).blk t).view.emb (ix2 ⟨r, by omega⟩ d)) = _
  rw [e]
  simp only [V, hostOps0, hostOps0_1, hostOps0_2, List.flatten_cons, List.flatten_nil, List.cons_append, List.nil_append]
  entry_read
  exact pad_top _ _ r d

theorem read4 (d : Fin 2816) : iblk m c 4 t (ix2 0 d) = (argsK m c).b (ix2 0 d) := by
  unfold argsK
  blk_ext [iblk, V, idx4 t]

theorem read5 (f : Fin 2816) (d : Fin 1024) : iblk m c 5 t (ix2 f d) = (argsK m c).wd (ix2 f d) := by
  unfold argsK
  blk_ext [iblk, V, idx5 t]

/-- The activation as a block reads it, its own row. -/
theorem back0_blk (r : Fin 256) (f : Fin 2816) : back0 (iblk m c 1 t) (ix2 r f) = tap (argsK m c) 2 (row t r) f := by
  rw [back0_apply, read1]
  unfold tap act
  rw [dif_neg (by show ¬ _ % 2048 + 2 < 2; omega)]
  congr 2

/-- One row above. -/
theorem back1_blk (r : Fin 256) (f : Fin 2816) :
    back1 (grid0.coords t) (iblk m c 1 t) (iblk m c 2 t) (ix2 r f) = tap (argsK m c) 1 (row t r) f := by
  have ht := pt_lt t
  rw [back1_apply, coords0 t]
  unfold tap act
  by_cases h : r.val < 1
  · rw [dif_pos h]
    by_cases h8 : t.val % 8 = 0
    · rw [if_pos h8, dif_pos (by show (t.val * 256 + r.val) % 2048 + 1 < 2; omega)]
    · rw [if_neg h8, dif_neg (by show ¬ (t.val * 256 + r.val) % 2048 + 1 < 2; omega), read2 m c t _ _ (by omega)]
      exact congrArg _ (congrArg₂ ix2 (Fin.ext (by show t.val * 256 - 8 + (r.val + 7) = t.val * 256 + r.val + 1 - 2; omega)) rfl)
  · rw [dif_neg h, dif_neg (by show ¬ (t.val * 256 + r.val) % 2048 + 1 < 2; omega), read1]
    exact congrArg _ (congrArg₂ ix2 (Fin.ext (by show t.val * 256 + (r.val - 1) = t.val * 256 + r.val + 1 - 2; omega)) rfl)

/-- Two rows above. -/
theorem back2_blk (r : Fin 256) (f : Fin 2816) :
    back2 (grid0.coords t) (iblk m c 1 t) (iblk m c 2 t) (ix2 r f) = tap (argsK m c) 0 (row t r) f := by
  have ht := pt_lt t
  rw [back2_apply, coords0 t]
  unfold tap act
  by_cases h : r.val < 2
  · rw [dif_pos h]
    by_cases h8 : t.val % 8 = 0
    · rw [if_pos h8, dif_pos (by show (t.val * 256 + r.val) % 2048 + 0 < 2; omega)]
    · rw [if_neg h8, dif_neg (by show ¬ (t.val * 256 + r.val) % 2048 + 0 < 2; omega), read2 m c t _ _ (by omega)]
      exact congrArg _ (congrArg₂ ix2 (Fin.ext (by show t.val * 256 - 8 + (r.val + 6) = t.val * 256 + r.val + 0 - 2; omega)) rfl)
  · rw [dif_neg h, dif_neg (by show ¬ (t.val * 256 + r.val) % 2048 + 0 < 2; omega), read1]
    exact congrArg _ (congrArg₂ ix2 (Fin.ext (by show t.val * 256 + (r.val - 2) = t.val * 256 + r.val + 0 - 2; omega)) rfl)

/-- The block's convolution is the convolution's rows. -/
theorem conv_blk (r : Fin 256) (f : Fin 2816) :
    convB (grid0.coords t) (iblk m c 1 t) (iblk m c 2 t) (iblk m c 3 t) (iblk m c 4 t) (ix2 r f) = conv (argsK m c) (row t r) f := by
  rw [convB_apply, back2_blk, back1_blk, back0_blk, read4]
  unfold conv
  rw [← read3 m c t 0, ← read3 m c t 1, ← read3 m c t 2]
  rfl

/-- The block's product is the gradient's rows. -/
theorem dg_blk (r : Fin 256) (f : Fin 2816) :
    (∑ d : Fin 1024, HMul.hMul (α := EReal) (β := EReal) (iblk m c 0 t (ix2 r d)) (iblk m c 5 t (ix2 f d))) = dg (argsK m c) (row t r) f :=
  Finset.sum_congr rfl fun d _ => by rw [read0, read5]

theorem dac_blk (r : Fin 256) (f : Fin 2816) :
    dacB (grid0.coords t) (iblk m c 0 t) (iblk m c 1 t) (iblk m c 2 t) (iblk m c 3 t) (iblk m c 4 t) (iblk m c 5 t) (ix2 r f)
      = dac (argsK m c) (row t r) f := by
  rw [dacB_apply, sigB_apply, conv_blk, dggB_apply, dg_blk, read1]
  rfl

theorem dgate_blk (r : Fin 256) (f : Fin 2816) :
    dgateB (grid0.coords t) (iblk m c 0 t) (iblk m c 1 t) (iblk m c 2 t) (iblk m c 3 t) (iblk m c 4 t) (iblk m c 5 t) (ix2 r f)
      = dgate (argsK m c) (row t r) f := by
  rw [dgateB_apply, sigB_apply, conv_blk, dg_blk]
  rfl

theorem wsum_blk (j : Fin 8) (f : Fin 2816) :
    wsumB (grid0.coords t) (iblk m c 0 t) (iblk m c 1 t) (iblk m c 2 t) (iblk m c 3 t) (iblk m c 4 t) (iblk m c 5 t) (ix2 j f)
      = ∑ r : Fin 256, wterm (argsK m c) j (row t r) f := by
  rw [wsumB_apply]
  refine Finset.sum_congr rfl fun r _ => ?_
  rw [dac_blk, back2_blk, back1_blk, back0_blk]
  unfold wterm
  fin_vals j with hj <;> simp [hj]

theorem outs6 : (outsAt0 m c t.val t.isLt).1
    = dacB (grid0.coords t) (iblk m c 0 t) (iblk m c 1 t) (iblk m c 2 t) (iblk m c 3 t) (iblk m c 4 t) (iblk m c 5 t) := by
  have := pt_lt t
  by_cases h0 : t.val % 16 = 0
  · rw [outs_first m c t h0 (by omega)]
  · rw [outs_later m c t h0 (by omega)]

theorem outs7 : (outsAt0 m c t.val t.isLt).2.1
    = dgateB (grid0.coords t) (iblk m c 0 t) (iblk m c 1 t) (iblk m c 2 t) (iblk m c 3 t) (iblk m c 4 t) (iblk m c 5 t) := by
  have := pt_lt t
  by_cases h0 : t.val % 16 = 0
  · rw [outs_first m c t h0 (by omega)]
  · rw [outs_later m c t h0 (by omega)]

theorem emb6 (r : Fin 256) (f : Fin 2816) : ((cfg0.win 6).blk t).view.emb (ix2 r f) = (ix2 (row t r) f : S4096x2816.Idx) := by
  blk_ext [idx6 t]

theorem emb7 (r : Fin 256) (f : Fin 2816) :
    ((cfg0.win 7).blk t).view.emb (ix2 r f) = (ix2 (row t r) ⟨2816 + f, by omega⟩ : S4096x5632.Idx) := by
  blk_ext [idx7 t]

/-- The convolution's gradient, as the kernel leaves it. -/
theorem arr6 (i : S4096x2816.Idx) : (dats m 0 c).arrAt 6 cfg0.N i = dac (argsK m c) (i 0) (i 1) := by
  idx_vars i
  have hr : i0.val / 256 < cfg0.N := by have := N_0; show _ < grid0.N; omega
  obtain ⟨t, ht⟩ : ∃ t : Fin cfg0.N, t.val = i0.val / 256 := ⟨⟨_, hr⟩, rfl⟩
  obtain ⟨r, rfl⟩ : ∃ r : Fin 256, i0 = row t r := ⟨⟨i0.val % 256, by omega⟩, Fin.ext (by show _ = t.val * 256 + i0.val % 256; omega)⟩
  have h := congrFun (Value.blocks6 m c t (flush0_6 t)) (ix2 r i1)
  have hd := dac_blk m c t r i1
  rw [Value.flushed6, outs6] at h
  generalize dacB (grid0.coords t) (iblk m c 0 t) (iblk m c 1 t) (iblk m c 2 t) (iblk m c 3 t) (iblk m c 4 t) (iblk m c 5 t) = X at h hd
  exact (congrArg _ (emb6 t r i1)).symm.trans (h.trans hd)

/-- The gate's gradient, as the kernel leaves it in the right half of its array. -/
theorem arr7 (r : Fin 4096) (f : Fin 2816) : (dats m 0 c).arrAt 7 cfg0.N (ix2 r ⟨2816 + f, by omega⟩ : S4096x5632.Idx) = dgate (argsK m c) r f := by
  have hr : r.val / 256 < cfg0.N := by have := N_0; show _ < grid0.N; omega
  obtain ⟨t, ht⟩ : ∃ t : Fin cfg0.N, t.val = r.val / 256 := ⟨⟨_, hr⟩, rfl⟩
  obtain ⟨r, rfl⟩ : ∃ r' : Fin 256, r = row t r' := ⟨⟨r.val % 256, by omega⟩, Fin.ext (by show _ = t.val * 256 + r.val % 256; omega)⟩
  have h := congrFun (Value.blocks7 m c t (flush0_7 t)) (ix2 r f)
  have hd := dgate_blk m c t r f
  rw [Value.flushed7, outs7] at h
  generalize dgateB (grid0.coords t) (iblk m c 0 t) (iblk m c 1 t) (iblk m c 2 t) (iblk m c 3 t) (iblk m c 4 t) (iblk m c 5 t) = X at h hd
  exact (congrArg _ (emb7 t r f)).symm.trans (h.trans hd)

/-- What the accumulator holds after the last point. -/
theorem acc8 (j : Fin 8) (f : Fin 2816) : (outsAt0 m c t0_15.val t0_15.isLt).2.2 (ix2 j f) = wsum (argsK m c) j f := by
  rw [Pipeline.eq_sum_fin_of_reset_step_apply_last (ι := S8x2816.Idx) (M := EReal) (N := cfg0.N) (fun n h => (outsAt0 m c n h).2.2) 16 (fun _ => 0)
    (fun t i => wsumB (grid0.coords t) (iblk m c 0 t) (iblk m c 1 t) (iblk m c 2 t) (iblk m c 3 t) (iblk m c 4 t) (iblk m c 5 t) i)
    (fun t h i => by rw [outs_first m c t h (by have := pt_lt t; omega), zero_add])
    (fun t h i => by
      rw [outs_later m c t h (by omega)]
      idx_vars i
      exact wsumAddB_apply ..)
    (by decide +kernel) t0_15 (by decide +kernel) (ix2 j f), zero_add]
  simp only [wsum_blk]
  refine (Fin.sum_points_lanes_congr 16 (A := 1) (L := 4096) (g := fun _ l => wterm (argsK m c) j l f) fun t k _ hl => ?_).trans ?_
  · have := pt_lt t
    exact congrArg (fun r => wterm (argsK m c) j r f) (Fin.ext (by show t.val * 256 + k.val = t.val % 16 * 256 + k.val; omega))
  · rw [Fin.sum_univ_one]
    rfl

/-- The sums, as the kernel leaves them. -/
theorem arr8 : (dats m 0 c).arrAt 8 cfg0.N = fun i => wsum (argsK m c) (i 0) (i 1) := by
  refine (dats m 0 c).arrAt_eq_of_after_last 8 t0_15 (by decide +kernel) _ fun j => ?_
  rw [after0_8]
  have h := acc8 m c
  generalize (outsAt0 m c t0_15.val t0_15.isLt).2.2 = X at h ⊢
  blk_simp
  refine (congrArg X ?_).trans (h (j 0) (j 1))
  funext a
  fin_cases a <;> rfl

end Down

end
-- ==== Proof.Down.Ref.lean ====
/- The reference's values, entry by entry. -/
module

public import proofs.«01_k».proof.Proof.Down.Spec
public import proofs.«01_k».proof.Proof.Gen.ReferenceIdeal.Read

@[expose] public section

set_option maxRecDepth 16384

noncomputable section

namespace Down

open Idealize.ShloMosaic
open Cert.ReferenceIdeal Cert.ReferenceIdeal.Read Cert.ReferenceIdeal.Gen

/-- Row `s` of sequence `b`. -/
abbrev srow (b : Fin 2) (s : Fin 2048) : Fin 4096 := ⟨b.val * 2048 + s.val, by omega⟩

variable (A : Args) (b : Fin 2) (s : Fin 2048) (f : Fin 2816)

theorem zero_int : (FloatOps.sitofp (F := Ideal) .f32 (0#32) : EReal) = 0 := by
  simp [FloatOps.sitofp]

/-- The padded activation at an entry. -/
theorem padded (s : Fin 2050) : val_main_v5 (F := Ideal) A.up (ix3 b s f)
    = if h : 2 ≤ s.val then A.up (ix2 ⟨b.val * 2048 + (s.val - 2), by omega⟩ ⟨f, by omega⟩) else 0 := by
  pointwise [val_main_v5, val_main_v2, val_main_v1, val_main_call0_v0, val_main_c]
  rw [zero_int]
  by_cases h : 2 ≤ s.val
  · rw [dif_pos ⟨h, by omega⟩, dif_pos h]
  · rw [dif_neg (fun h' => h h'.1), dif_neg h]

/-- The three slices of the padded activation are the three taps. -/
theorem tap_of_padded (k : Fin 3) (t : Fin 2050) (ht : t.val = s.val + k.val) :
    val_main_v5 (F := Ideal) A.up (ix3 b t f) = tap A k (srow b s) f := by
  rw [padded]
  unfold tap act
  have e : (srow b s).val % 2048 = s.val := by show (b.val * 2048 + s.val) % 2048 = s.val; omega
  by_cases h : 2 ≤ t.val
  · rw [dif_pos h, dif_neg (by rw [e]; omega)]
    exact congrArg _ (congrArg₂ ix2 (Fin.ext (by show b.val * 2048 + (t.val - 2) = b.val * 2048 + s.val + k.val - 2; omega)) rfl)
  · rw [dif_neg h, dif_pos (by rw [e]; omega)]

theorem ref_tap0 : val_main_v6 (F := Ideal) A.up (ix3 b s f) = tap A 0 (srow b s) f := by
  rw [val_main_v6_apply]
  refine (congrArg _ ?_).trans (tap_of_padded A b s f 0 ⟨s, by omega⟩ rfl)
  funext a
  fin_cases a <;> rfl

theorem ref_tap1 : val_main_v14 (F := Ideal) A.up (ix3 b s f) = tap A 1 (srow b s) f := by
  rw [val_main_v14_apply]
  refine (congrArg _ ?_).trans (tap_of_padded A b s f 1 ⟨1 + s, by omega⟩ (by show 1 + s.val = s.val + 1; omega))
  funext a
  fin_cases a <;> rfl

theorem ref_tap2 : val_main_v21 (F := Ideal) A.up (ix3 b s f) = tap A 2 (srow b s) f := by
  rw [val_main_v21_apply]
  refine (congrArg _ ?_).trans (tap_of_padded A b s f 2 ⟨2 + s, by omega⟩ (by show 2 + s.val = s.val + 2; omega))
  funext a
  fin_cases a <;> rfl

theorem ref_gate : val_main_v3 (F := Ideal) A.up (ix3 b s f) = gate A (srow b s) f := by
  unfold gate
  pointwise [val_main_v3, val_main_v1]

/-- The reference's convolution. -/
theorem ref_conv : val_main_v30 (F := Ideal) A.up A.w A.b (ix3 b s f) = conv A (srow b s) f := by
  unfold conv
  rw [← ref_tap0, ← ref_tap1, ← ref_tap2]
  unfold val_main_v30 val_main_v27 val_main_v20 val_main_v13 val_main_v11 val_main_v19 val_main_v26
  generalize val_main_v6 (F := Ideal) A.up = t0
  generalize val_main_v14 (F := Ideal) A.up = t1
  generalize val_main_v21 (F := Ideal) A.up = t2
  pointwise [val_main_v29, val_main_v28, val_main_v4, val_main_v25, val_main_v24, val_main_v23, val_main_v22, val_main_v18, val_main_v17,
    val_main_v16, val_main_v15, val_main_v12, val_main_cst, val_main_v10, val_main_v9, val_main_v8, val_main_v7]
  ac_rfl

theorem ref_sig : val_main_v31_2 (F := Ideal) A.up A.w A.b (ix3 b s f) = Ideal.logistic (conv A (srow b s) f) := by
  rw [← ref_conv]
  unfold val_main_v31_2 val_main_call1_v3 val_main_call1_v1 val_main_call1_v0
  generalize val_main_v30 (F := Ideal) A.up A.w A.b = c
  pointwise [val_main_call1_v4, val_main_call1_cst_0, val_main_call1_v2, val_main_call1_cst]
  rfl

theorem ref_dg : val_main_v34 (F := Ideal) A.dx A.wd (ix3 b s f) = dg A (srow b s) f := by
  unfold dg
  pointwise [val_main_v34, val_main_v0]

theorem ref_dac (h : A.Real) : val_main_v37 (F := Ideal) A.dx A.up A.w A.b A.wd (ix3 b s f) = dac A (srow b s) f := by
  rw [← dac_of_real h, ← ref_sig, ← ref_conv, ← ref_dg, ← ref_gate]
  unfold val_main_v37 val_main_call2_v2 val_main_call2_v1 val_main_call2_v0 val_main_v36 val_main_v31_1 val_main_call1_v7
  generalize val_main_v30 (F := Ideal) A.up A.w A.b = c
  generalize val_main_v31_2 (F := Ideal) A.up A.w A.b = d
  generalize val_main_v34 (F := Ideal) A.dx A.wd = e
  generalize val_main_v3 (F := Ideal) A.up = g
  pointwise [val_main_call1_v6, val_main_call1_cst_1]

theorem ref_dgate : val_main_v35 (F := Ideal) A.dx A.up A.w A.b A.wd (ix3 b s f) = dgate A (srow b s) f := by
  unfold dgate
  rw [← ref_sig, ← ref_conv, ← ref_dg]
  unfold val_main_v35 val_main_v31_0
  show ((_ * _) * _ : EReal) = _
  ac_rfl

/-- A sum over the first two of three axes, read at an entry. -/
theorem reduce_two {n0 n1 n2 : Nat} (h : (⟨3, ![n0, n1, n2]⟩ : Shape).ReducesTo [0, 1] ⟨1, ![n2]⟩) (v : (⟨3, ![n0, n1, n2]⟩ : Shape).Idx → EReal)
    (init : EReal) (f : Fin n2) : Ideal.hostReduceAdd h v init (ix1 f) = init + ∑ a : Fin n0, ∑ b : Fin n1, v (ix3 a b f) := by
  have fiber : ∀ i : (⟨3, ![n0, n1, n2]⟩ : Shape).Idx, h.drop i = ix1 f ↔ ∃ k : Fin n0 × Fin n1, ix3 k.1 k.2 f = i := by
    intro i
    constructor
    · intro e
      refine ⟨(i 0, i 1), ?_⟩
      funext a
      apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  unfold Ideal.hostReduceAdd
  rw [Finset.sum_filter_eq_sum_of_fiber _ (fun k : Fin n0 × Fin n1 => ix3 k.1 k.2 f) (fun _ _ e => Prod.ext (congrFun e 0) (congrFun e 1)) fiber v]
  simp only [Fintype.sum_prod_type]

/-- A column's sum over both sequences, taken again over two unit axes, is its sum over all rows. -/
theorem col_apply (x : Vec Ideal S2x2048x2816 .f32) (v w : Vec Ideal S_ .f32) (hv : v = fun _ => 0) (hw : w = fun _ => 0) (g : Fin 4096 → EReal)
    (hg : ∀ b s, x (ix3 b s f) = g (srow b s)) :
    Host.reduceAdd (F := Ideal) (φ := .f32) (shapeCast S1x1x2816 (Host.reduceAdd (F := Ideal) (φ := .f32) x v reducesTo_S2x2048x2816_S2816_d0_1 h_S_) shapeCasts_S2816_S1x1x2816)
      w reducesTo_S1x1x2816_S2816_d0_1 h_S_ (ix1 f) = ∑ r : Fin 4096, g r := by
  subst hv hw
  have e : (∑ b : Fin 2, ∑ s : Fin 2048, x (ix3 b s f) : EReal) = ∑ r : Fin 4096, g r := by
    refine (Fin.sum_points_lanes_congr 2 (A := 1) (L := 4096) (g := fun _ l => g l) fun t k _ hl => ?_).trans ?_
    · rw [hg]
      exact congrArg g (Fin.ext (by show t.val * 2048 + k.val = t.val % 2 * 2048 + k.val; omega))
    · rw [Fin.sum_univ_one]
  rw [← e]
  refine (reduce_two _ _ _ f).trans ?_
  rw [zero_add, Fin.sum_univ_one, Fin.sum_univ_one]
  pointwise
  refine (reduce_two _ _ _ f).trans ?_
  rw [zero_add]

/-- The sequence and place of a row are those it is numbered by. -/
theorem split_row : (ix3 ⟨(b.val * 2048 + s.val) / 2048, by omega⟩ ⟨(b.val * 2048 + s.val) % 2048, by omega⟩ f : S2x2048x2816.Idx) = ix3 b s f := by
  congr 1 <;> apply Fin.ext <;> show _ = _ <;> dsimp only <;> omega

/-- The zero the sums start from. -/
theorem zero0 : (constant (F := Ideal) S_ .f32 0x00000000#32) = fun _ => 0 := by
  funext i
  pointwise

/-- The reference's sums. -/
theorem ref_wsum (h : A.Real) (j : Fin 8) : val_main_v65 (F := Ideal) A.dx A.up A.w A.b A.wd (ix2 j f) = wsum A j f := by
  have t0 : val_main_v57 (F := Ideal) A.dx A.up A.w A.b A.wd (ix1 f) = ∑ r, dac A r f * tap A 0 r f :=
    col_apply f _ _ _ zero0 zero0 _ fun b s => by
      rw [val_main_v54_apply, ref_dac A b s f h, ref_tap0]
      exact mul_comm _ _
  have t1 : val_main_v50 (F := Ideal) A.dx A.up A.w A.b A.wd (ix1 f) = ∑ r, dac A r f * tap A 1 r f :=
    col_apply f _ _ _ zero0 zero0 _ fun b s => by
      rw [val_main_v47_apply, ref_dac A b s f h, ref_tap1]
      exact mul_comm _ _
  have t2 : val_main_v44 (F := Ideal) A.dx A.up A.w A.b A.wd (ix1 f) = ∑ r, dac A r f * tap A 2 r f :=
    col_apply f _ _ _ zero0 zero0 _ fun b s => by
      rw [val_main_v41_apply, ref_dac A b s f h, ref_tap2]
      exact mul_comm _ _
  have t3 : val_main_v40 (F := Ideal) A.dx A.up A.w A.b A.wd (ix1 f) = ∑ r, dac A r f :=
    col_apply f _ _ _ zero0 zero0 _ fun b s => ref_dac A b s f h
  unfold wsum wterm val_main_v65 val_main_v60 val_main_v53 val_main_v59 val_main_v58 val_main_v52 val_main_v51 val_main_v46 val_main_v45 val_main_v63
  generalize val_main_v57 (F := Ideal) A.dx A.up A.w A.b A.wd = c0 at t0 ⊢
  generalize val_main_v50 (F := Ideal) A.dx A.up A.w A.b A.wd = c1 at t1 ⊢
  generalize val_main_v44 (F := Ideal) A.dx A.up A.w A.b A.wd = c2 at t2 ⊢
  generalize val_main_v40 (F := Ideal) A.dx A.up A.w A.b A.wd = c3 at t3 ⊢
  pointwise [val_main_v64, val_main_cst_12, val_main_cst_10, val_main_cst_7, val_main_cst_4]
  fin_vals j with hj <;> simp [hj]
  · exact t0
  · exact t1
  · exact t2
  · exact t3

/-- The reference's gate gradient, in the right half of its array. -/
theorem ref_dup : val_main_v68 (F := Ideal) A.dx A.up A.w A.b A.wd (ix2 (srow b s) ⟨2816 + f, by omega⟩) = dgate A (srow b s) f := by
  rw [← ref_dgate]
  unfold val_main_v68 val_main_v67 val_main_v62
  generalize val_main_v35 (F := Ideal) A.dx A.up A.w A.b A.wd = x
  generalize val_main_v61 (F := Ideal) = z
  pointwise
  exact congrArg x (split_row b s f)

/-- The reference's convolution gradient. -/
theorem ref_out (h : A.Real) : val_main_v66 (F := Ideal) A.dx A.up A.w A.b A.wd (ix2 (srow b s) f) = dac A (srow b s) f := by
  rw [← ref_dac A b s f h]
  unfold val_main_v66
  generalize val_main_v37 (F := Ideal) A.dx A.up A.w A.b A.wd = x
  pointwise
  exact congrArg x (split_row b s f)

end Down

end
-- ==== Proof.Down.Equal.lean ====
/- The kernel's results and the reference's are one function of the arguments. -/
module

public import proofs.«01_k».proof.Defs
public import proofs.«01_k».proof.Proof.Down.Array
public import proofs.«01_k».proof.Proof.Down.Ref
public import proofs.«01_k».proof.Proof.Gen.Pre_finite
public import proofs.«01_k».proof.Proof.Gen.On_gate_half

@[expose] public section

set_option maxRecDepth 16384

noncomputable section

namespace Down

open Idealize.ShloMosaic

/-- An extended real whose absolute value is below infinity is real. -/
theorem real_of_abs_lt {x : EReal} (h : max x (-x) < ⊤) : ∃ r : ℝ, x = r := by
  induction x using EReal.rec with
  | bot => simp at h
  | coe r => exact ⟨r, rfl⟩
  | top => simp at h

/-- An array whose absolute value compares below infinity everywhere holds reals. -/
theorem real_of_finite {s : Shape} (hb : Cert.Pre_finite.S_.BroadcastsInDim s ![]) (x : FVec Ideal s .f32)
    (h : cmpf .olt (Host.absf x) (broadcastInDim s ![] hb (constant (F := Ideal) Cert.Pre_finite.S_ .f32 0x7F800000#32)) = fun _ => 1#1) (i : s.Idx) :
    ∃ r : ℝ, x i = r := by
  have h := congrFun h i
  apply real_of_abs_lt
  revert h
  pointwise
  rw [show Ideal.ofBits .f32 2139095040#32 = ⊤ by simp [Ideal.ofBits, Ideal.ieee]]
  intro h
  by_contra hn
  rw [show decide (FloatOps.absf (x i) < (⊤ : EReal)) = false from decide_eq_false hn] at h
  exact absurd h (by decide)

/-- Every row is some place of some sequence. -/
theorem row_split (r : Fin 4096) : ∃ (b : Fin 2) (s : Fin 2048), r = srow b s :=
  ⟨⟨r.val / 2048, by omega⟩, ⟨r.val % 2048, by omega⟩, Fin.ext (by show r.val = r.val / 2048 * 2048 + r.val % 2048; omega)⟩

attribute [local instance] Cert.Pre_finite.Gen.facts Cert.On_gate_half.Gen.facts

/-- Finite arguments are real. -/
theorem real_args (A : Args)
    (h : (Cert.Pre_finite.fn (F := Ideal) A.dx A.up A.w A.b A.wd).1 = (fun _ => 1#1)
      ∧ (Cert.Pre_finite.fn (F := Ideal) A.dx A.up A.w A.b A.wd).2.1 = (fun _ => 1#1)
      ∧ (Cert.Pre_finite.fn (F := Ideal) A.dx A.up A.w A.b A.wd).2.2.1 = (fun _ => 1#1)
      ∧ (Cert.Pre_finite.fn (F := Ideal) A.dx A.up A.w A.b A.wd).2.2.2.1 = (fun _ => 1#1)
      ∧ (Cert.Pre_finite.fn (F := Ideal) A.dx A.up A.w A.b A.wd).2.2.2.2 = (fun _ => 1#1)) : A.Real :=
  ⟨real_of_finite _ _ h.1, real_of_finite _ _ h.2.1, real_of_finite _ _ h.2.2.1, real_of_finite _ _ h.2.2.2.1, real_of_finite _ _ h.2.2.2.2⟩

/-- Where the mask keeps the second result, the column lies in the gate's half. -/
theorem gate_col (A : Args) (r : Fin 4096) (f : Fin 5632) (h : (Cert.On_gate_half.fn (F := Ideal) A.dx A.up A.w A.b A.wd).2.1 (ix2 r f) = 1#1) :
    2816 ≤ f.val := by
  revert h
  unfold Cert.On_gate_half.fn
  dsimp only
  pointwise
  simp only [IntOp.cmpi]
  intro h
  by_contra hn
  rw [show ((2816#32).sle (BitVec.ofNat 32 f.val)) = false from ?_] at h
  · exact absurd h (by decide)
  · rw [BitVec.sle_eq_decide, decide_eq_false_iff_not, BitVec.toInt_ofNat', BitVec.toInt_ofNat']
    have := f.isLt
    norm_num [Int.bmod]
    omega

variable (m : (ℓ : Loc Cert.KernelIdeal.nD Cert.KernelIdeal.τ Cert.KernelIdeal.sig) → Buf (Elt Ideal) ℓ) (c : Dev Cert.KernelIdeal.nD)

open Cert.KernelIdeal Cert.KernelIdeal.Gen Cert.ReferenceIdeal.Read

/-- The first result: the convolution's gradient. -/
theorem eq6 (h : (argsK m c).Real) (i : Cert.KernelIdeal.S4096x2816.Idx) : (dats m 0 c).arrAt 6 cfg0.N i
    = val_main_v66 (F := Ideal) (argsK m c).dx (argsK m c).up (argsK m c).w (argsK m c).b (argsK m c).wd i := by
  rw [arr6]
  idx_vars i
  obtain ⟨b, s, rfl⟩ := row_split i0
  exact (ref_out (argsK m c) b s i1 h).symm

/-- The second result where the mask keeps it: the gate's gradient. -/
theorem eq7 (i : Cert.KernelIdeal.S4096x5632.Idx)
    (h : (Cert.On_gate_half.fn (F := Ideal) (argsK m c).dx (argsK m c).up (argsK m c).w (argsK m c).b (argsK m c).wd).2.1 i = 1#1) :
    (dats m 0 c).arrAt 7 cfg0.N i
      = val_main_v68 (F := Ideal) (argsK m c).dx (argsK m c).up (argsK m c).w (argsK m c).b (argsK m c).wd i := by
  idx_vars i
  have hf := gate_col (argsK m c) i0 i1 h
  obtain ⟨b, s, rfl⟩ := row_split i0
  have e : i1 = ⟨2816 + (⟨i1.val - 2816, by omega⟩ : Fin 2816).val, by show 2816 + (i1.val - 2816) < 5632; omega⟩ :=
    Fin.ext (by show i1.val = 2816 + (i1.val - 2816); omega)
  rw [e]
  exact (arr7 m c (srow b s) _).trans (ref_dup (argsK m c) b s _).symm

/-- The third result: the sums for the taps' and the bias's gradients. -/
theorem eq8 (h : (argsK m c).Real) : (dats m 0 c).arrAt 8 cfg0.N
    = val_main_v65 (F := Ideal) (argsK m c).dx (argsK m c).up (argsK m c).w (argsK m c).b (argsK m c).wd := by
  rw [arr8]
  funext i
  idx_vars i
  exact (ref_wsum (argsK m c) i1 h i0).symm

end Down

end
-- ==== Proof.Exchange.Swap.lean ====
/- Copies exchanged in pairs: each device sends a slice of one array into a slot of another
array's on a partner, and receives the partner's slice in the same slot. -/
module

public import Idealize.ShloMosaic.Lib.Pipeline.Launch
public import Idealize.ShloMosaic.Lib.Pipeline.Kit
public import Idealize.ShloMosaic.Lib.Tactic

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The copies of one exchange, named by `J`. The partners of a copy name each other. -/
structure Plan (nD : Nat) (sig : RefSig) (J : Type) where
  peer : J → Dev nD → Dev nD
  back : ∀ j c, peer j (peer j c) = c
  sp : Space
  s : Shape
  e : EltTy
  src : J → Dev nD → Memref sig .tc sp s e
  dst : J → Memref sig .tc sp s e
  sent : J → DmaSem sig
  here : J → DmaSem sig
  distinct : Function.Injective fun k : Bool × J => if k.1 = true then here k.2 else sent k.2
  N : ℕ
  pos : 0 < N
  credit : ∀ j, (dst j).view.dmaCredit = N

variable {nD : Nat} {sig : RefSig} {J : Type} [Fintype J] [DecidableEq J] {Val : EltTy → Type}

abbrev τx : Topo := Topo.v7x

abbrev Ghosts (nD : Nat) (sig : RefSig) : Type := UR sig nD τx × UR sig nD τx

local notation "𝕄" => MT nD τx sig Unit Val ℕ (Ghosts nD sig) ℕ

abbrev EP : Emb (UR sig nD τx) (MT nD τx sig Unit Val ℕ (Ghosts nD sig) ℕ) := embL
abbrev ER : Emb (UR sig nD τx) (MT nD τx sig Unit Val ℕ (Ghosts nD sig) ℕ) := embR

namespace Plan

variable (X : Plan nD sig J) (m : (ℓ : Loc nD τx sig) → Buf Val ℓ)

/-- A copy's partners, as a permutation of the devices. -/
def around (j : J) : Dev nD ≃ Dev nD := ⟨X.peer j, X.peer j, X.back j, X.back j⟩

/-! ## The cells -/

/-- The semaphores of the copies: where a copy's departure is counted, and where its arrival is. -/
abbrev osem (k : Bool × J) : SemLoc sig := .dma (if k.1 = true then X.here k.2 else X.sent k.2)
abbrev kcell (ck : Dev nD × (Bool × J)) : GSem nD τx sig := ((ck.1 : Thread nD τx), X.osem ck.2)
abbrev sendCell (j : J) (c : Dev nD) : GSem nD τx sig := X.kcell (c, false, j)
abbrev recvCell (j : J) (c : Dev nD) : GSem nD τx sig := X.kcell (c, true, j)

theorem osem_inj : Function.Injective X.osem := fun a b h => X.distinct (SemLoc.dma.inj h)

theorem kcell_inj : Function.Injective X.kcell := by
  rintro ⟨c, k⟩ ⟨c', k'⟩ h
  have h1 : c = c' := congrArg (fun g : GSem nD τx sig => g.1.1) h
  have h2 : k = k' := X.osem_inj (congrArg Prod.snd h)
  rw [h1, h2]

/-! ## Contents -/

/-- The slice a device sends, and the slot it receives in, before and after. -/
def srcPts (j : J) (c : Dev nD) : sProp 𝕄 :=
  (X.src j c).view.loc (c : Thread nD τx) ↦[(X.src j c).view.set]{fullShare} m ((X.src j c).view.loc (c : Thread nD τx))
def slot (j : J) (c : Dev nD) : sProp 𝕄 :=
  (X.dst j).view.loc (c : Thread nD τx) ↦[(X.dst j).view.set]{fullShare} m ((X.dst j).view.loc (c : Thread nD τx))
/-- The values a device sends. -/
def sliceOf (j : J) (c : Dev nD) : X.s.Idx → Val X.e :=
  (X.src j c).view.read Val (m ((X.src j c).view.loc (c : Thread nD τx)))
/-- What a device receives: its partner's slice, written over the slot. -/
def landed (j : J) (c : Dev nD) : Buf Val ((X.dst j).view.loc (c : Thread nD τx)) :=
  (X.dst j).view.write Val (m ((X.dst j).view.loc (c : Thread nD τx))) (X.sliceOf m j (X.peer j c)) Finset.univ
def filled (j : J) (c : Dev nD) : sProp 𝕄 :=
  (X.dst j).view.loc (c : Thread nD τx) ↦[(X.dst j).view.set]{fullShare} X.landed m j c

instance srcPts_storable (j : J) (c : Dev nD) : BI.Storable (upEmb : UEmb _ 𝕄) (X.srcPts m j c) := by unfold srcPts; infer_instance
instance filled_storable (j : J) (c : Dev nD) : BI.Storable (upEmb : UEmb _ 𝕄) (X.filled m j c) := by unfold filled; infer_instance

/-! ## The schedule: one round, one duty -/

/-- What a cell hands over when its count is there. -/
def pay (c : Dev nD) (k : Bool × J) : sProp 𝕄 := if k.1 = true then X.filled m k.2 c else X.srcPts m k.2 c

instance pay_storable (c : Dev nD) (k : Bool × J) : BI.Storable (upEmb : UEmb _ 𝕄) (X.pay m c k) := by
  unfold pay; split <;> infer_instance

open Classical in
def sched : Rounds.Schedule (GSem nD τx sig) Unit 𝕄 where
  duties g r := if r = 0 ∧ g.1.2 = .tc ∧ ∃ k, g.2 = X.osem k then {()} else ∅
  unitless _ := False
  amount _ _ _ := X.N
  payload g _ _ := if h : ∃ k, g.2 = X.osem k then X.pay m g.1.1 (Classical.choose h) else iprop(emp)
  amount_pos _ _ _ _ := X.pos

instance sched_storable (g : GSem nD τx sig) (r : ℕ) (d : Unit) : BI.Storable (upEmb : UEmb _ 𝕄) ((X.sched m).payload g r d) := by
  unfold sched; dsimp only; split <;> infer_instance

theorem duties_at (ck : Dev nD × (Bool × J)) : (X.sched m).duties (X.kcell ck) 0 = {()} := by
  unfold sched; dsimp only; exact if_pos ⟨rfl, rfl, ck.2, rfl⟩
theorem duties_later (g : GSem nD τx sig) : ∀ r, 1 ≤ r → (X.sched m).duties g r = ∅ :=
  fun r hr => by unfold sched; dsimp only; exact if_neg fun h => by omega
theorem duty_mem (ck : Dev nD × (Bool × J)) : () ∈ (X.sched m).duties (X.kcell ck) 0 := by
  rw [duties_at]; exact Finset.mem_singleton_self _
theorem payload_at (ck : Dev nD × (Bool × J)) (r : ℕ) (u : Unit) : (X.sched m).payload (X.kcell ck) r u = X.pay m ck.1 ck.2 := by
  unfold sched; dsimp only
  have h : ∃ k, X.osem ck.2 = X.osem k := ⟨ck.2, rfl⟩
  rw [dif_pos h]
  exact congrArg (X.pay m ck.1) (X.osem_inj (Classical.choose_spec h)).symm
theorem expect_at (ck : Dev nD × (Bool × J)) : (X.sched m).expect (X.kcell ck) 0 = X.N := by
  unfold Schedule.expect Schedule.amountOf; rw [duties_at, Finset.sum_singleton]; rfl
theorem rest_at (ck : Dev nD × (Bool × J)) :
    bigSep ((X.sched m).duties (X.kcell ck) 0 \ ∅) (fun u => (X.sched m).payload (X.kcell ck) 0 u) = X.pay m ck.1 ck.2 := by
  rw [Finset.sdiff_empty, duties_at, bigSep_singleton, payload_at]

/-! ## What each core owes at launch; the levels -/

/-- A device owes the partner of each of its copies that copy's arrival. -/
def O₀ (c : Dev nD) : CellTallies nD τx sig Unit := ∑ j : J, tallyAt (X.recvCell j (X.peer j c)) () X.N

def L (g : GSem nD τx sig) : Finset Unit := if g.1.2 = .tc then {()} else ∅
open Classical in
def lv (g : GSem nD τx sig) (_ : Unit) : ℕ := if ∃ j, g.2 = X.osem (true, j) then 2 else 0

theorem L_of_ne (g : GSem nD τx sig) (h : g.1.2 ≠ .tc) : L g = ∅ := if_neg h
theorem L_tc (c : Dev nD) (sm : SemLoc sig) : L ((c : Thread nD τx), sm) = {()} := if_pos rfl

theorem O₀_at (d : Dev nD) (g : GSem nD τx sig) :
    X.O₀ d g () = ∑ j : J, if g = X.recvCell j (X.peer j d) then X.N else 0 := by
  unfold O₀
  rw [Finset.sum_apply, Finsupp.finset_sum_apply]
  refine Finset.sum_congr rfl fun j _ => ?_
  rw [tallyAt_apply]
  by_cases h : g = X.recvCell j (X.peer j d)
  · rw [if_pos ⟨h, rfl⟩, if_pos h]
  · rw [if_neg fun h' => h h'.1, if_neg h]

theorem O₀_pos {c : Dev nD} {g : GSem nD τx sig} {u : Unit} (h : 0 < X.O₀ c g u) : ∃ j, g = X.recvCell j (X.peer j c) := by
  cases u
  rw [O₀_at] at h
  by_contra hn
  rw [Finset.sum_eq_zero fun j _ => if_neg fun hj => hn ⟨j, hj⟩] at h
  exact Nat.lt_irrefl 0 h

/-- A wait on a cell of no copy, while the arrivals are owed or after. -/
theorem mayWait_other (c : Dev nD) (q : DmaSem sig) (hq : ∀ j, SemLoc.dma q ≠ X.osem (true, j)) (O : CellTallies nD τx sig Unit)
    (hO : O = X.O₀ c ∨ O = 0) : (levAts L X.lv : sProp 𝕄) ⊢ MayWait (c : Thread nD τx) (.dma q) () O := by
  rcases hO with rfl | rfl
  · refine MayOwe.of_cut (L := L) (lev := X.lv) 0 (fun p hp => by rw [Finset.mem_singleton.mp hp, L_tc]; exact Finset.mem_singleton_self _)
      (fun g u hg => by obtain ⟨j, rfl⟩ := X.O₀_pos hg; rw [L_tc]; exact Finset.mem_singleton_self _)
      (fun p hp => by
        rw [Finset.mem_singleton.mp hp]; unfold lv
        rw [if_neg fun h => by obtain ⟨j, hj⟩ := h; exact hq j hj])
      (fun g u hg => by
        obtain ⟨j, rfl⟩ := X.O₀_pos hg
        unfold lv; rw [if_pos ⟨j, rfl⟩]; decide)
  · rw [MayWait_zero]; iintro -; iempintro

theorem cell_iff (j i : J) (c d : Dev nD) : X.recvCell j c = X.recvCell i (X.peer i d) ↔ i = j ∧ d = X.peer j c := by
  constructor
  · intro h
    have h' := X.kcell_inj h
    have hj : j = i := congrArg (fun x : Dev nD × (Bool × J) => x.2.2) h'
    have hc : c = X.peer i d := congrArg Prod.fst h'
    subst hj; rw [hc, X.back]; exact ⟨rfl, rfl⟩
  · rintro ⟨rfl, rfl⟩; rw [X.back]

theorem owed_recv (j : J) (d c : Dev nD) : X.O₀ d (X.recvCell j c) () = if d = X.peer j c then X.N else 0 := by
  rw [O₀_at]
  by_cases h : d = X.peer j c
  · rw [if_pos h, Finset.sum_eq_single j (fun i _ hi => if_neg fun h' => hi ((X.cell_iff j i c d).mp h').1) (fun h' => absurd (Finset.mem_univ j) h'),
      if_pos ((X.cell_iff j j c d).mpr ⟨rfl, h⟩)]
  · rw [if_neg h]
    exact Finset.sum_eq_zero fun i _ => if_neg fun h' => h ((X.cell_iff j i c d).mp h').2

theorem launch_recv (j : J) (c : Dev nD) :
    tallyOn (X.recvCell j c) (launchCredit (Pipeline.owing X.O₀) 0 (X.recvCell j c)) = (tallyAt (X.recvCell j c) () X.N : CellTallies nD τx sig Unit) := by
  unfold tallyAt; refine congrArg _ (Finsupp.ext fun u => ?_); cases u
  rw [Pipeline.launchCredit_owing, Finsupp.single_eq_same, Finset.sum_congr rfl fun d _ => X.owed_recv j d c,
    Finset.sum_ite_eq' Finset.univ (X.peer j c) fun _ => X.N, if_pos (Finset.mem_univ _)]

/-- The counts owed to a device's arrivals are its own to wait for. -/
theorem creds (c : Dev nD) : (Pipeline.launchCred X.O₀ c : sProp 𝕄) ⊢ bigSep Finset.univ fun j : J => cred (tallyAt (X.recvCell j c) () X.N) := by
  unfold Pipeline.launchCred
  have hinj : Function.Injective fun j : J => X.osem (true, j) := fun a b h => congrArg Prod.snd (X.osem_inj h)
  refine (BI.bigSep_subset (Finset.subset_univ (Finset.univ.map ⟨fun j : J => X.osem (true, j), hinj⟩))).trans ?_
  rw [bigSep_map]
  refine bigSep_mono fun j _ => ?_
  show (cred (tallyOn (X.recvCell j c) (launchCredit (Pipeline.owing X.O₀) 0 (X.recvCell j c))) : sProp 𝕄) ⊢ _
  rw [X.launch_recv]

end Plan

end Cert.Exchange

end
-- ==== Proof.Exchange.Copies.lean ====
/- One copy of an exchange: how a core issues it and how it waits for it. -/
module

public import proofs.«01_k».proof.Proof.Exchange.Swap

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {sig : RefSig} {J : Type} [Fintype J] [DecidableEq J] {Val : EltTy → Type}

local notation "𝕄" => MT nD τx sig Unit Val ℕ (Ghosts nD sig) ℕ

namespace Plan

variable (X : Plan nD sig J) (m : (ℓ : Loc nD τx sig) → Buf Val ℓ) (K : Dev nD × (Bool × J) → ℕ)

abbrev inv (ck : Dev nD × (Bool × J)) : sProp 𝕄 := cellInv ER (X.sched m) (K ck) (X.kcell ck)

/-- What every core may know of the cells a copy of its touches. -/
def knows (j : J) (c : Dev nD) : sProp 𝕄 :=
  iprop(X.inv m K (c, false, j) ∗ X.inv m K (c, true, j) ∗ X.inv m K (X.peer j c, true, j)
    ∗ reached ER (X.sendCell j c) 0 ∗ reached ER (X.recvCell j (X.peer j c)) 0)

instance knows_persistent (j : J) (c : Dev nD) : BI.Persistent (X.knows m K j c) := by unfold knows; infer_instance

/-- The right to issue a copy: both its tokens, the slice and the partner's slot. -/
def mayCopy (j : J) (c : Dev nD) : sProp 𝕄 :=
  iprop(dutyTok ER (X.sendCell j c) 0 () ∗ dutyTok ER (X.recvCell j (X.peer j c)) 0 () ∗ X.srcPts m j c ∗ X.slot m j (X.peer j c))

/-- The right to wait at a cell. -/
def mayWait (ck : Dev nD × (Bool × J)) : sProp 𝕄 :=
  iprop(atPos ER (X.kcell ck) 0 ∅ 0 ∗ cred (tallyAt (X.kcell ck) () X.N))

variable {Λ : Labels} {defs : Defs nD τx sig Val Λ} (𝒱 : Variants)

/-- Issuing a copy turns its rights into the right to wait for its departure. -/
theorem wp_copy (j : J) (c n : Dev nD) (hn : n = X.peer j c) (A B : Memref sig .tc X.sp X.s X.e) (hA : A = X.src j c) (hB : B = X.dst j)
    (p q : DmaSem sig) (hp : p = X.sent j) (hq : q = X.here j)
    {hsc : (B : Memref sig (n.tc : Thread nD τx).2.kind X.sp X.s X.e).view.ref.isScScratch = false} {hsrc : A.view.WordExact} {hdst : B.view.WordExact}
    {hsem : DmaTarget.Typed X.sp (.dma q) (.remote (n.tc : Thread nD τx) B (.dma p) hsc)}
    {α : Type} {Q : α → sProp 𝕄} {k : PUnit → Prog (TpuEff nD τx sig Val Λ .tc) α} (bd : Option 𝒱.V)
    {O₁ : CellTallies nD τx sig Unit} (O : CellTallies nD τx sig Unit) (hO : O₁ = O + tallyAt (X.recvCell j (X.peer j c)) () X.N) (W : Waits sig Unit) :
    iprop(X.knows m K j c ∗ X.mayCopy m j c ∗ owes (c : Thread nD τx) O₁ W)
      ⊢ iprop(((cred (tallyAt (X.sendCell j c) () X.N) ∗ owes (c : Thread nD τx) O W) -∗ wp frame (wpE defs 𝒱 (c : Thread nD τx) bd) Set.univ (k ⟨⟩) Q)
          -∗ wp frame (wpE defs 𝒱 (c : Thread nD τx) bd) Set.univ
              (.op (.enqueueDma A (.remote (n.tc : Thread nD τx) B (.dma p) hsc) (.dma q) hsrc hdst hsem) k) Q) := by
  subst hn hA hB hp hq
  have h := Rounds.wp_send_pointsTo (defs := defs) (Γ := []) (Es := Set.univ) 𝒱 ER (X.sched m) (c : Thread nD τx) bd (c' := (X.peer j c : Thread nD τx))
    (src := X.src j c) (dst := X.dst j) (hsc := hsc) (hsrc := hsrc) (hdst := hdst) (hsem := hsem) (k := k) (Q := Q) (q := fullShare)
    (fs := m ((X.src j c).view.loc (c : Thread nD τx))) (fd := m ((X.dst j).view.loc (X.peer j c : Thread nD τx)))
    (κ₁ := K (c, false, j)) (κ₂ := K (X.peer j c, true, j)) (r₁ := 0) (r₂ := 0) (d₁ := ()) (d₂ := ())
    (X.duty_mem m (c, false, j)) (X.duty_mem m (X.peer j c, true, j)) () () X.N (X.credit j) rfl rfl O hO (W := W)
    (by
      rw [show ((c : Thread nD τx), SemLoc.dma (X.sent j)) = X.kcell (c, false, j) from rfl, payload_at]
      exact BI.Entails.refl _)
    (by
      rw [show ((X.peer j c : Thread nD τx), SemLoc.dma (X.here j)) = X.kcell (X.peer j c, true, j) from rfl, payload_at]
      show _ ⊢ X.filled m j (X.peer j c)
      unfold filled landed
      rw [X.back]
      exact BI.Entails.refl _)
  unfold knows mayCopy
  iintro ⟨⟨#H1, #H2, #H3, #H4, #H5⟩, ⟨Ht1, Ht2, Hs, Hd⟩, HO⟩
  unfold srcPts slot
  iapply h
  isplitr; · iexact H1
  isplitr; · iexact H3
  isplitl [Hs]; · iexact Hs
  isplitl [Hd]; · iexact Hd
  isplitl [HO]; · iexact HO
  isplitl [Ht1]; · iexact Ht1
  isplitr; · iexact H4
  isplitl [Ht2]; · iexact Ht2
  iexact H5

/-- Waiting at a cell hands over what it counted, and leaves it at zero for good. -/
theorem wp_arrived (c : Dev nD) (b : Bool × J) {sp' sp'' : Space} {s' s'' : Shape} {e' e'' : EltTy} {κ'' : Kind}
    (A : Memref sig .tc sp' s' e') (B : Memref sig κ'' sp'' s'' e'') (hB : B.view.dmaCredit = X.N)
    (q : DmaSem sig) (hq : SemLoc.dma q = X.osem b) {hsrc : A.view.WordExact} {hdst : B.view.WordExact}
    {α : Type} {Q : α → sProp 𝕄} {k : PUnit → Prog (TpuEff nD τx sig Val Λ .tc) α} (bd : Option 𝒱.V) (W : Waits sig Unit) :
    iprop(X.inv m K (c, b) ∗ X.mayWait (c, b) ∗ owes (c : Thread nD τx) 0 W)
      ⊢ iprop(((owes (c : Thread nD τx) 0 (insert (X.osem b, ()) W) ∗ X.pay m c b ∗ semVal (X.kcell (c, b)) 0)
              -∗ wp frame (wpE defs 𝒱 (c : Thread nD τx) bd) Set.univ (k ⟨⟩) Q)
          -∗ wp frame (wpE defs 𝒱 (c : Thread nD τx) bd) Set.univ (.op (.waitDma2 q A B hsrc hdst) k) Q) := by
  have hq' : q = (if b.1 = true then X.here b.2 else X.sent b.2) := SemLoc.dma.inj hq
  subst hq'
  have h := Rounds.wp_wait_rest_token (defs := defs) (Γ := []) (Es := Set.univ) 𝒱 ER (X.sched m) (c : Thread nD τx) bd (κ := K (c, b))
    (wpE_waitDma2_eq (defs := defs) (src := A) (dst := B) (hsrc := hsrc) (hdst := hdst) (sem := if b.1 = true then X.here b.2 else X.sent b.2)
      𝒱 (c : Thread nD τx) bd Set.univ) (Set.mem_univ _) (k := k) (Q := Q) () (O := 0) (W := W) (R := 0) (m := 0) (T := ∅)
    (by rw [Nat.zero_add, hB]; exact (X.expect_at m (c, b)).symm)
  unfold mayWait
  iintro ⟨#HI, ⟨Hat, Hc⟩, HO⟩ Hk
  iapply h $$ [Hat Hc HO]
  · isplitr; · iexact HI
    isplitl [Hc]; · rw [hB]; iexact Hc
    isplitl [HO]; · iexact HO
    isplitr; · rw [MayWait_zero]; iempintro
    iexact Hat
  iintro ⟨HO, Hat, -, Hpay⟩
  ihave Hp := (Entails.of_eq (X.rest_at m (c, b))) $$ Hpay
  imod (Rounds.cell_close ER (X.sched m) (Set.mem_univ (K (c, b))) (fun h => h) (R := 0 + 1) (X.duties_later m (X.kcell (c, b)))) $$ [Hat] with Hz
  · isplitr; · iexact HI
    iexact Hat
  iapply Hk
  isplitl [HO]; · iexact HO
  isplitl [Hp]; · iexact Hp
  iexact Hz

end Plan

end Cert.Exchange

end
-- ==== Proof.Exchange.Launch.lean ====
/- Launching one kernel region whose devices write into each other's arrays. -/
module

public import Idealize.ShloMosaic.Lib.Pipeline.Launch
public import Idealize.ShloMosaic.Lib.Quiescent

@[expose] public section

noncomputable section

namespace Cert.Exchange

open Idealize.ShloMosaic
open Idealize.SL
open Idealize.SL.BI (sProp bigSep bigSep_sep' bigSep_mono bigSep_congr)
open scoped Idealize.SL.BI
open Idealize.SL.BI.BIBase Idealize.SL.BI.Laws Idealize.SL.Sem Idealize.SL.ProofMode
open Idealize.SL.RA
open Idealize.ShloMosaic.TcCoe
open Idealize.ShloMosaic.Pipeline
open Idealize.ShloMosaic.Rounds

set_option Elab.async false

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The levels of the TensorCores' cells, fixed once for the whole machine: a cell of another
thread has no index, so it asks for nothing. -/
theorem levels_fixed [Preorder Lvl] (L : GSem nD τ sig → Finset Ix) (lv : GSem nD τ sig → Ix → Lvl)
    (hL : ∀ g : GSem nD τ sig, g.1.2 ≠ .tc → L g = ∅) :
    (bigSep Finset.univ fun c : Dev nD => (levels0 c : sProp 𝕄)) ⊢ |==> levAts L lv := by
  have hone (c : Dev nD) : (levels0 c : sProp 𝕄) ⊢ |==> coreLevAts (c.tc : Thread nD τ) L lv :=
    (lev_assign_cells (c.tc : Thread nD τ) L lv).trans (BI.bupd_mono
      (show iprop((bigSep Finset.univ fun sm : SemLoc sig => levels ((c.tc : Thread nD τ), sm) (L ((c.tc : Thread nD τ), sm)))
          ∗ coreLevAts (c.tc : Thread nD τ) L lv) ⊢ (coreLevAts (c.tc : Thread nD τ) L lv : sProp 𝕄) from by
        iintro ⟨-, H⟩; iexact H))
  refine ((bigSep_mono fun c _ => hone c).trans (BI.bigSep_bupd _ _)).trans (BI.bupd_mono ?_)
  refine (show (bigSep Finset.univ fun c : Dev nD => (coreLevAts (c.tc : Thread nD τ) L lv : sProp 𝕄)) ⊢ _ from ?_).trans
    (levAts_of_cores L lv)
  have hother : (bigSep Finset.univ fun d : Dev nD => bigSep (Finset.univ.erase Proc.tc)
      fun q => (coreLevAts ((d, q) : Thread nD τ) L lv : sProp 𝕄)) = BI.emp := by
    have hq (d : Dev nD) (q : Proc τ) (hq : q ∈ Finset.univ.erase Proc.tc) :
        (coreLevAts ((d, q) : Thread nD τ) L lv : sProp 𝕄) = BI.emp := by
      unfold coreLevAts
      refine (bigSep_congr fun sm _ => ?_).trans (BI.bigSep_emp_const Finset.univ)
      rw [hL (((d, q) : Thread nD τ), sm) (Finset.ne_of_mem_erase hq), BI.bigSep_empty]
    exact (bigSep_congr fun d _ => (bigSep_congr (hq d)).trans (BI.bigSep_emp_const _)).trans (BI.bigSep_emp_const _)
  rw [bigSep_threads, hother]
  iintro H
  isplitl [H]
  · iexact H
  · iempintro

section Region

variable {Λ₀ : Idealize.SL.Sem.Labels} {P : Type} [Fintype P] [DecidableEq P]
variable (cfgs : P → Cfg sig Λ₀)
  (dats : (p : P) → (c : Dev nD) → Dat τ Val Ix Name U Lvl (cfgs p) c) (ι : Ix)
  (hinj : Function.Injective (cellOf (nD := nD) cfgs)) (p : P)
variable {K : Type} [Fintype K] {osem : K → SemLoc sig}
  (hw : WinFacts₀ (cfgs p).spec) (ho : OwnSemFacts (cfgs p).spec osem)
variable (EP : Emb (URounds (GSem nD τ sig) Unit) (MT nD τ sig Ix Val Name U Lvl))
variable (m : (ℓ : Loc nD τ sig) → Buf Val ℓ)

/-- What a device's scoped storage and semaphores, its arrays and its duties at launch are, with
the ghost state of the staging cells. -/
def atStart (O₀ : Dev nD → CellTallies nD τ sig Ix) (L : GSem nD τ sig → Finset Ix)
    (lv : GSem nD τ sig → Ix → Lvl) (G' : Dev nD → sProp 𝕄) (c : Dev nD) : sProp 𝕄 :=
  iprop((scopedBufs (c.tc : Thread nD τ) ∗ cellsSems0 cfgs p c ∗ idleSems0 cfgs hinj p ho c)
    ∗ arrBufs (cfgs p).spec c (fun b => m ((c.tc : Thread nD τ).loc b))
    ∗ owes (c.tc : Thread nD τ) (O₀ c) ∅ ∗ launchCred O₀ c
    ∗ (cellsGhost cfgs EP p c ∗ toksInit cfgs EP p c) ∗ levAts L lv ∗ G' c)

/-- What a device holds when its region has ended: its arrays after the last write-back, what the
region's last point gave back, and its semaphores at zero. -/
def atEnd (Y : Dev nD → sProp 𝕄) (c : Dev nD) : sProp 𝕄 :=
  iprop((dats p c).arrays ((dats p c).arrAt · (cfgs p).N)
    ∗ Y c ∗ scopedSems0 (c.tc : Thread nD τ))

include hinj hw ho in
/-- One device's share of the launch, sorted. -/
theorem core_sorted (O₀ : Dev nD → CellTallies nD τ sig Ix) (ρ : Dev nD → PrngReg) (c : Dev nD) :
    coreInit (Ix := Ix) (Name := Name) (U := U) (Lvl := Lvl) (owing O₀) 0
        (⟨m, fun _ => 0, ρ⟩ : MemSt nD τ sig Val) (c.tc : Thread nD τ)
      ⊢ iprop((scopedBufs (c.tc : Thread nD τ) ∗ cellsSems0 cfgs p c ∗ idleSems0 cfgs hinj p ho c)
        ∗ arrBufs (cfgs p).spec c (fun b => m ((c.tc : Thread nD τ).loc b))
        ∗ owes (c.tc : Thread nD τ) (O₀ c) ∅ ∗ launchCred O₀ c ∗ levels0 c
        ∗ ownSems0 osem c ∗ unscopedRest (cfgs p).spec c (fun b => m ((c.tc : Thread nD τ).loc b))) := by
  refine (coreInit_boundary_owing O₀ m ρ c).trans ?_
  unfold boundary
  rw [scopedSems0_split cfgs hinj p hw ho c,
    unscopedBufs_split₀ cfgs p hw.arr_unscoped c]
  iintro ⟨⟨Hbuf, ⟨⟨Hcell, Hown⟩, Hidle⟩, -⟩, ⟨Harr, Hrest⟩, -, Howe, Hlev, -, Hcr⟩
  isplitl [Hbuf Hcell Hidle]
  · isplitl [Hbuf]; · iexact Hbuf
    isplitl [Hcell] <;> iassumption
  isplitl [Harr]; · iexact Harr
  isplitl [Howe]; · iexact Howe
  isplitl [Hcr]; · iexact Hcr
  isplitl [Hlev]; · iexact Hlev
  isplitl [Hown] <;> iassumption

include hinj hw ho in
/-- The launch of all devices at once. The kernel's semaphores and the arrays that are no window's
array are handed over together for all devices, so that one device may be given a part of
another's array. -/
theorem all_started [Preorder Lvl] [EP.LandsIn (upEmb : UEmb _ 𝕄)]
    (O₀ : Dev nD → CellTallies nD τ sig Ix) (ρ : Dev nD → PrngReg)
    (L : GSem nD τ sig → Finset Ix) (lv : GSem nD τ sig → Ix → Lvl)
    (hL : ∀ g : GSem nD τ sig, g.1.2 ≠ .tc → L g = ∅)
    (G G' : Dev nD → sProp 𝕄) (u₀ : U)
    (hu₀ : (ownU u₀ : sProp 𝕄)
      ⊢ |={Set.univ}=> iprop(BI.own (EP (initOf (cells cfgs hinj) (launchToks cfgs hinj))) ∗ bigSep Finset.univ G))
    (hglob : (bigSep Finset.univ fun c => iprop((ownSems0 osem c
        ∗ unscopedRest (cfgs p).spec c (fun b => m ((c.tc : Thread nD τ).loc b))) ∗ G c) : sProp 𝕄)
      ⊢ |={Set.univ}=> bigSep Finset.univ G') :
    iprop((bigSep Finset.univ fun d : Dev nD => coreInit (Ix := Ix) (Name := Name) (U := U) (Lvl := Lvl)
        (owing O₀) 0 (⟨m, fun _ => 0, ρ⟩ : MemSt nD τ sig Val) (d.tc : Thread nD τ)) ∗ ownU u₀)
      ⊢ |={Set.univ}=> (bigSep Finset.univ (atStart cfgs hinj p ho EP m O₀ L lv G') : sProp 𝕄) := by
  have hpick (Φ : P → Dev nD → sProp 𝕄) :
      (bigSep Finset.univ fun c : Dev nD => bigSep Finset.univ fun q => Φ q c) ⊢ bigSep Finset.univ fun c : Dev nD => Φ p c :=
    bigSep_mono fun c _ => BI.bigSep_elim (Finset.mem_univ p)
  have hdeal : (levAts L lv : sProp 𝕄) ⊢ bigSep Finset.univ fun _ : Dev nD => levAts L lv :=
    BI.bigSep_intro_persistent (S := Finset.univ) fun (c : Dev nD) _ => BI.Entails.refl (levAts L lv : sProp 𝕄)
  refine (sep_mono_left (bigSep_mono fun c _ => core_sorted cfgs hinj p hw ho m O₀ ρ c)).trans ?_
  simp only [bigSep_sep']
  iintro ⟨Hs, Hu⟩
  icases Hs with ⟨⟨Hbuf, Hcell, Hidle⟩, Harr, Howe, Hcr, Hlv, Hown, Hrest⟩
  imod (levels_fixed L lv hL) $$ Hlv with #Hlev
  imod hu₀ $$ Hu with ⟨HP, HG⟩
  imod (fund_ghost cfgs EP hinj) $$ HP with ⟨Hg, Ht⟩
  imod hglob $$ [Hown Hrest HG] with HG'
  · simp only [bigSep_sep']
    isplitl [Hown Hrest]
    · isplitl [Hown] <;> iassumption
    iexact HG
  imodintro
  unfold atStart
  simp only [bigSep_sep']
  isplitl [Hbuf Hcell Hidle]
  · isplitl [Hbuf]; · iexact Hbuf
    isplitl [Hcell] <;> iassumption
  isplitl [Harr]; · iexact Harr
  isplitl [Howe]; · iexact Howe
  isplitl [Hcr]; · iexact Hcr
  isplitl [Hg Ht]
  · isplitl [Hg]
    · iapply (hpick fun p' c => cellsGhost cfgs EP p' c); iexact Hg
    · iapply (hpick fun p' c => toksInit cfgs EP p' c); iexact Ht
  isplitr
  · iapply hdeal; iexact Hlev
  iexact HG'

variable (defs₀ : Defs nD τ sig Val Λ₀) (𝒱₀ : Variants)

local notation "pcs" => (fun q => Cfg.toPCfg (Val := Val) (cfgs q))

include hinj hw ho in
/-- One device's run of the region, from what it starts with to what it ends with. -/
theorem core_run [Preorder Lvl] [∀ e, Nonempty (Val e)] [Infinite Name] [EP.LandsIn (upEmb : UEmb _ 𝕄)]
    (hbody : ∀ c, BodyObligationLoose (dats p c) defs₀ 𝒱₀ ι Set.univ)
    (hne : ∀ w : Fin (cfgs p).W, 0 < ((cfgs p).spec w).block.numel)
    (harr : ∀ w, ((cfgs p).spec w).arr.IsWhole) (hstage : ∀ w s, (((cfgs p).spec w).stage s).IsWhole)
    (hsh : SharedIn (cfgs p).spec) (hq : ∀ c w, ((cfgs p).spec w).isOut = false → (dats p c).q w = shareOf (cfgs p).spec w)
    (O₀ : Dev nD → CellTallies nD τ sig Ix) (howed₀ : ∀ c, (dats p c).owed 0 = O₀ c)
    (howedN : ∀ c, (dats p c).owed (Fin.last _) = 0)
    (L : GSem nD τ sig → Finset Ix) (lv : GSem nD τ sig → Ix → Lvl)
    (hwaits : ∀ c, (levAts L lv : sProp 𝕄) ⊢ cellsWaits cfgs dats ι p c)
    (hA : ∀ c w, (dats p c).A w = m (((cfgs p).spec w).arr.view.loc (c.tc : Thread nD τ)))
    (G' Y : Dev nD → sProp 𝕄)
    (hin : ∀ c, iprop((levAts L lv ∗ launchCred O₀ c ∗ G' c) ∗ scopedRest (cfgs p).spec c) ⊢ (dats p c).Φ 0)
    (hout : ∀ c, (dats p c).Φ (Fin.last (cfgs p).N) ⊢ iprop(Y c ∗ ownSems0 osem c ∗ scopedRest (cfgs p).spec c))
    (c : Dev nD) :
    atStart cfgs hinj p ho EP m O₀ L lv G' c
      ⊢ wp frame (wpE (Pipeline.defs pcs defs₀) (Variants.lift 𝒱₀) (c.tc : Thread nD τ) none) Set.univ
          (.op (.customCall (entry p) ()) fun _ => .ret PUnit.unit)
          (fun _ => post (liftTc (atEnd cfgs dats p Y) BI.emp) (c.tc : Thread nD τ)) := by
  have hbufs := scopedBufs_split cfgs p hw.stage_scoped hw.stage_inj hstage c
    (τ := τ) (Ix := Ix) (Val := Val) (Name := Name) (U := U) (Lvl := Lvl)
  have hfirst : (arrBufs (cfgs p).spec c (fun b => m ((c.tc : Thread nD τ).loc b)) : sProp 𝕄)
      ⊢ (dats p c).arrays ((dats p c).arrAt · 0) :=
    (dats p c).arrays_split_shared hsh harr (hq c) _ _ fun w => by
      rw [show (dats p c).arrAt w 0 = (dats p c).A w from rfl, hA]
  have hlast : iprop((dats p c).Φ (Fin.last (cfgs p).N) ∗ cellsSems0 cfgs p c ∗ Dat.staging (cfgs p) c
        ∗ idleSems0 cfgs hinj p ho c)
      ⊢ iprop(Y c ∗ scopedSems0 (c.tc : Thread nD τ) ∗ scopedBufs (c.tc : Thread nD τ)) := by
    rw [scopedSems0_split cfgs hinj p hw ho c, hbufs]
    iintro ⟨HΦ, Hcell, Hst, Hidle⟩
    ihave Ho := (hout c) $$ HΦ
    icases Ho with ⟨HY, Hown, Hr⟩
    isplitl [HY]; · iexact HY
    isplitl [Hcell Hown Hidle]
    · isplitl [Hcell Hown]
      · isplitl [Hcell] <;> iassumption
      iexact Hidle
    isplitl [Hst] <;> iassumption
  have hnone : (prefHeld Prefetch.none c (fun _ => fullShare) (fun k => k.elim0) : sProp 𝕄) = BI.emp := by
    unfold prefHeld
    rw [show (Finset.univ : Finset (Fin Prefetch.none.K)) = ∅ from rfl, BI.bigSep_empty]
  have hin' : iprop(iprop(levAts L lv ∗ launchCred O₀ c ∗ G' c) ∗ prefHeld Prefetch.none c (fun _ => fullShare) (fun k => k.elim0)
      ∗ scopedRest (cfgs p).spec c) ⊢ (dats p c).Φ 0 := by
    rw [hnone]
    iintro ⟨HX, -, HR⟩
    iapply (hin c)
    isplitl [HX] <;> iassumption
  unfold atStart
  iintro ⟨⟨Hbuf, Hcell, Hidle⟩, Harr, Howe, Hcr, ⟨Hg, Ht⟩, #Hlev, HG⟩
  ihave Hw := (hwaits c) $$ Hlev
  iapply (fupd_wp frame (wpE (Pipeline.defs pcs defs₀) (Variants.lift 𝒱₀) (c.tc : Thread nD τ) none) Set.univ _ _)
  imod (cellsInit_alloc cfgs dats EP hinj p c) $$ [Hcell Hg] with ⟨%κ, -, Hcells⟩
  · isplitl [Hcell] <;> iassumption
  imodintro
  iapply (wp_customCall_entry_frame pcs (fun q => (cfgs q).toPCfg_adm) dats ι EP κ hinj p defs₀ 𝒱₀ (fun _ => fullShare)
      c Set.univ (fun _ _ => Set.mem_univ _) (hbody c) hne none (fun u h => nomatch h)
      (X := iprop(levAts L lv ∗ launchCred O₀ c ∗ G' c)) (Y := Y c) (R := scopedRest (cfgs p).spec c)
      (I := idleSems0 cfgs hinj p ho c) (Entails.of_eq hbufs)
      hin' hlast
      (k := fun _ => .ret PUnit.unit)
      (Q := fun _ => post (liftTc (atEnd cfgs dats p Y) BI.emp) (c.tc : Thread nD τ)))
    $$ [Harr Howe Hcells Ht Hw Hcr HG Hidle Hbuf]
  · isplitl [Harr Howe Hcells Ht Hw]
    · unfold EntryPre PerCore.EntryPre Dat.owesAt owesWithin
      rw [howed₀ c]
      isplitl [Harr]; · iapply hfirst; iexact Harr
      isplitl [Howe]
      · iexists ∅
        isplitr; · ipureintro; rw [Finset.coe_empty]; exact Set.empty_subset _
        iexact Howe
      isplitl [Hw]; · iexact Hw
      isplitl [Hcells] <;> iassumption
    isplitr
    · iapply (Entails.of_eq hnone.symm); iempintro
    isplitl [Hcr HG]
    · isplitr; · iexact Hlev
      isplitl [Hcr] <;> iassumption
    isplitl [Hidle] <;> iassumption
  iintro ⟨Hpost, HY, Hss, -⟩
  rw [wp_ret]; imodintro
  unfold post; simp only [liftTc_tc]
  unfold EntryPost PerCore.EntryPost Dat.owesAt owesWithin atEnd
  rw [howedN c]
  icases Hpost with ⟨Ha, ⟨%W, -, HW⟩⟩
  isplitr [HW]
  · isplitl [Ha]
    · iexact Ha
    isplitl [HY] <;> iassumption
  · iexists W; iexact HW

include hinj hw ho in
/-- A program of one kernel region, every device of it started with the kernel's semaphores and
the arrays that no window names shared out among all devices (`hglob`). The final memory holds
every window's array as after its last write-back and whatever the last point's holdings say;
every scoped counter is back at zero. -/
theorem run_region [Preorder Lvl] [∀ e, Nonempty (Val e)] [Infinite Name] [EP.LandsIn (upEmb : UEmb _ 𝕄)]
    (ρ : Dev nD → PrngReg)
    (main : Dev nD → Prog (TpuEff nD τ sig Val (Sig Λ₀ P fun q => ((pcs) q).Adm) .tc) PUnit)
    (hmain : ∀ c, main c = .op (.customCall (entry p) ()) fun _ => .ret ⟨⟩)
    (hbody : ∀ c, BodyObligationLoose (dats p c) defs₀ 𝒱₀ ι Set.univ)
    (hne : ∀ w : Fin (cfgs p).W, 0 < ((cfgs p).spec w).block.numel)
    (harr : ∀ w, ((cfgs p).spec w).arr.IsWhole) (hstage : ∀ w s, (((cfgs p).spec w).stage s).IsWhole)
    (hsh : SharedIn (cfgs p).spec) (hq : ∀ c w, ((cfgs p).spec w).isOut = false → (dats p c).q w = shareOf (cfgs p).spec w)
    (O₀ : Dev nD → CellTallies nD τ sig Ix) (howed₀ : ∀ c, (dats p c).owed 0 = O₀ c)
    (howedN : ∀ c, (dats p c).owed (Fin.last _) = 0)
    (L : GSem nD τ sig → Finset Ix) (lv : GSem nD τ sig → Ix → Lvl)
    (hL : ∀ g : GSem nD τ sig, g.1.2 ≠ .tc → L g = ∅)
    (hwaits : ∀ c, (levAts L lv : sProp 𝕄) ⊢ cellsWaits cfgs dats ι p c)
    (hA : ∀ c w, (dats p c).A w = m (((cfgs p).spec w).arr.view.loc (c.tc : Thread nD τ)))
    (G G' Y : Dev nD → sProp 𝕄) (u₀ : U)
    (hu₀ : (ownU u₀ : sProp 𝕄)
      ⊢ |={Set.univ}=> iprop(BI.own (EP (initOf (cells cfgs hinj) (launchToks cfgs hinj))) ∗ bigSep Finset.univ G))
    (hglob : (bigSep Finset.univ fun c => iprop((ownSems0 osem c
        ∗ unscopedRest (cfgs p).spec c (fun b => m ((c.tc : Thread nD τ).loc b))) ∗ G c) : sProp 𝕄)
      ⊢ |={Set.univ}=> bigSep Finset.univ G')
    (hin : ∀ c, iprop((levAts L lv ∗ launchCred O₀ c ∗ G' c) ∗ scopedRest (cfgs p).spec c) ⊢ (dats p c).Φ 0)
    (hout : ∀ c, (dats p c).Φ (Fin.last (cfgs p).N) ⊢ iprop(Y c ∗ ownSems0 osem c ∗ scopedRest (cfgs p).spec c))
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val,
      (∀ c : Dev nD, (∀ w, s.mem ((c.tc : Thread nD τ).loc (arrRef (cfgs p).spec w)) = (dats p c).arrAt w (cfgs p).N) ∧ QY c s) →
      (∀ g : GSem nD τ sig, (g.1.2 ≠ .tc ∨ g.2.isScoped .tc = true) → s.sem g = 0) → Q (⟨⟩, s)) :
    θ_run (Pipeline.defs pcs defs₀) (onTc main) ⟨m, fun _ => 0, ρ⟩ Q := by
  classical
  have hread (c : Dev nD) (s' : Phys nD τ sig Val) : iprop(atEnd cfgs dats p Y c ∗ SI s') ⊢ |={Set.univ}=>
      iprop(⌜((∀ w, s'.mem.mem ((c.tc : Thread nD τ).loc (arrRef (cfgs p).spec w)) = (dats p c).arrAt w (cfgs p).N) ∧ QY c s'.mem)
        ∧ ∀ sm : SemLoc sig, sm.isScoped .tc = true → s'.mem.sem ((c.tc : Thread nD τ), sm) = 0⌝ ∗ SI s') := by
    unfold atEnd
    rw [(dats p c).arrays_arrShares harr]
    unfold arrShares
    iintro ⟨⟨Ha, HY, Hss⟩, HSI⟩
    ihave %hz := (tcScoped_read_pers c s') $$ [Hss HSI]
    · isplitl [Hss] <;> iassumption
    ihave Hr := (pointsTo_read_all' Finset.univ (fun w => (c.tc : Thread nD τ).loc (arrRef (cfgs p).spec w))
        (fun w => (dats p c).arrAt w (cfgs p).N) s' (dats p c).share) $$ [Ha HSI]
    · isplitl [Ha] <;> iassumption
    icases Hr with ⟨%ha, HSI⟩
    imod (hY c s') $$ [HY HSI] with ⟨%hy, HSI⟩
    · isplitl [HY] <;> iassumption
    imodintro
    isplitr
    · ipureintro; exact ⟨⟨fun w => ha w (Finset.mem_univ w), hy⟩, hz⟩
    · iexact HSI
  refine (θ_run (Pipeline.defs pcs defs₀) _ _).mono
    (Q := fun r => (∀ c : Dev nD,
        ((∀ w, r.2.mem ((c.tc : Thread nD τ).loc (arrRef (cfgs p).spec w)) = (dats p c).arrAt w (cfgs p).N) ∧ QY c r.2)
          ∧ ∀ sm : SemLoc sig, sm.isScoped .tc = true → r.2.sem ((c.tc : Thread nD τ), sm) = 0)
      ∧ ∀ g : GSem nD τ sig, g.1.2 ≠ .tc → r.2.sem g = 0)
    (fun r hr => hQ r.2 (fun c => (hr.1 c).1) (sems_of_reads (fun c => (hr.1 c).2) hr.2))
    (adequate_tpu (Pipeline.defs pcs defs₀) _ _ _
      (reflect_intro_fupd_tc_sems (X := Unit) (Variants.lift 𝒱₀) (owing O₀) 0 (noBookings fun _ => le_rfl) (owing_of_ne O₀) u₀
        (fun _ => atStart cfgs hinj p ho EP m O₀ L lv G') (fun _ => atEnd cfgs dats p Y) (fun _ => iprop(emp)) Set.univ
        ?_ (fun _ c => ?_) fun _ => ?_))
  · iintro H
    imod (all_started cfgs hinj p hw ho EP m O₀ ρ L lv hL G G' u₀ hu₀ hglob) $$ H with H
    imodintro
    iexists ()
    isplitl [H]
    · iexact H
    · iempintro
  · rw [hmain c]
    exact core_run cfgs dats ι hinj p hw ho EP m defs₀ 𝒱₀ hbody hne harr hstage hsh hq O₀ howed₀ howedN L lv hwaits hA G' Y hin hout c
  · iintro ⟨H, -, Hsc⟩ %s' HSI
    ihave %hsc := (scSems_read_zero m ρ s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Region

end Cert.Exchange

end
-- ==== Proof.Exchange.Deal.lean ====
/- The start of an exchange: the cells funded and opened, and each device dealt its partners'
slots and the tokens of its copies. -/
module

public import proofs.«01_k».proof.Proof.Exchange.Copies
public import proofs.«01_k».proof.Proof.Exchange.Launch

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {sig : RefSig} {J : Type} [Fintype J] [DecidableEq J] {Val : EltTy → Type}

local notation "𝕄" => MT nD τx sig Unit Val ℕ (Ghosts nD sig) ℕ

/-- Facts that may be copied go along to every member of a family. -/
theorem bigSep_along {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have hR : R ⊢ bigSep S fun _ => R := BI.bigSep_of_persistent S R
  refine (sep_mono_left hR).trans ?_
  rw [← bigSep_sep']
  exact bigSep_mono h

/-- A family over both kinds of cells is the departures' and the arrivals'. -/
theorem bigSep_kinds (Φ : Bool × J → sProp 𝕄) :
    bigSep Finset.univ Φ = iprop((bigSep Finset.univ fun j : J => Φ (false, j)) ∗ bigSep Finset.univ fun j : J => Φ (true, j)) := by
  rw [bigSep_univ_prod]
  exact bigSep_univ_eq_bigSepL [false, true] (by decide) (by decide) fun b => bigSep Finset.univ fun j : J => Φ (b, j)

namespace Plan

variable (X : Plan nD sig J) (m : (ℓ : Loc nD τx sig) → Buf Val ℓ)

def cells : Finset (GSem nD τx sig) := Finset.univ.map ⟨X.kcell, X.kcell_inj⟩
def toks : Finset (GSem nD τx sig × ℕ × Unit) :=
  Finset.univ.map ⟨fun ck : Dev nD × (Bool × J) => (X.kcell ck, 0, ()), fun _ _ h => X.kcell_inj (congrArg Prod.fst h)⟩

/-- The ghost state a device's cells start with. -/
def G (c : Dev nD) : sProp 𝕄 :=
  iprop((bigSep Finset.univ fun k : Bool × J => roundState ER (X.sched m) (X.kcell (c, k)) 0)
    ∗ (bigSep Finset.univ fun k : Bool × J => atPos ER (X.kcell (c, k)) 0 ∅ 0)
    ∗ (bigSep Finset.univ fun k : Bool × J => reached ER (X.kcell (c, k)) 0)
    ∗ (bigSep Finset.univ fun k : Bool × J => dutyTok ER (X.kcell (c, k)) 0 ()))

theorem fund : BI.own (ER (initOf X.cells X.toks)) ⊢ (|==> bigSep Finset.univ (X.G m) : sProp 𝕄) := by
  have hX (Φ : GSem nD τx sig → sProp 𝕄) : bigSep X.cells Φ = bigSep Finset.univ fun c : Dev nD => bigSep Finset.univ fun k : Bool × J => Φ (X.kcell (c, k)) := by
    unfold cells; rw [bigSep_map, bigSep_univ_prod]; rfl
  have hT : bigSep X.toks (fun x => (dutyTok ER x.1 x.2.1 x.2.2 : sProp 𝕄))
      = bigSep Finset.univ fun c : Dev nD => bigSep Finset.univ fun k : Bool × J => dutyTok ER (X.kcell (c, k)) 0 () := by
    unfold toks; rw [bigSep_map, bigSep_univ_prod]; rfl
  iintro HX
  imod (Rounds.fund ER (X.sched m) X.cells X.toks) $$ HX with ⟨Hst, Hr, Hat, Htok⟩
  imodintro
  ihave Hst' := (Entails.of_eq (hX fun g => roundState ER (X.sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- A device's cells opened over its own counters. -/
theorem opened (c : Dev nD) :
    iprop((Pipeline.ownSems0 (Ix := Unit) (Name := ℕ) (U := Ghosts nD sig) (Lvl := ℕ) (Val := Val) (τ := τx) X.osem c : sProp 𝕄)
        ∗ bigSep Finset.univ fun k : Bool × J => roundState ER (X.sched m) (X.kcell (c, k)) 0)
      ⊢ |={Set.univ}=> bigSep Finset.univ fun k : Bool × J => iprop(∃ κ : ℕ, cellInv ER (X.sched m) κ (X.kcell (c, k))) := by
  rw [show (Pipeline.ownSems0 (Ix := Unit) (Name := ℕ) (U := Ghosts nD sig) (Lvl := ℕ) (Val := Val) (τ := τx) X.osem c : sProp 𝕄)
    = bigSep Finset.univ fun k : Bool × J => semVal (X.kcell (c, k)) 0 from rfl, ← bigSep_sep']
  exact (bigSep_mono fun k _ => (Rounds.body_intro ER (X.sched m) (X.kcell (c, k))).trans inv_alloc).trans (bigSep_fupd _ _)

/-- What a device starts its copies with. -/
def ready (K : Dev nD × (Bool × J) → ℕ) (c : Dev nD) : sProp 𝕄 :=
  bigSep Finset.univ fun j : J => iprop(X.knows m K j c ∗ (atPos ER (X.sendCell j c) 0 ∅ 0 ∗ atPos ER (X.recvCell j c) 0 ∅ 0) ∗ X.mayCopy m j c)

/-- What is known of all the cells. -/
def records (K : Dev nD × (Bool × J) → ℕ) : sProp 𝕄 :=
  iprop((bigSep Finset.univ fun ck : Dev nD × (Bool × J) => X.inv m K ck)
    ∗ bigSep Finset.univ fun ck : Dev nD × (Bool × J) => reached ER (X.kcell ck) 0)

instance records_persistent (K : Dev nD × (Bool × J) → ℕ) : BI.Persistent (X.records m K) := by unfold records; infer_instance

theorem knows_of (K : Dev nD × (Bool × J) → ℕ) (j : J) (c : Dev nD) : X.records m K ⊢ X.knows m K j c := by
  have hI (ck : Dev nD × (Bool × J)) : (bigSep Finset.univ fun ck : Dev nD × (Bool × J) => X.inv m K ck) ⊢ X.inv m K ck := bigSep_elim (Finset.mem_univ ck)
  have hR (ck : Dev nD × (Bool × J)) : (bigSep Finset.univ fun ck : Dev nD × (Bool × J) => (reached ER (X.kcell ck) 0 : sProp 𝕄)) ⊢ reached ER (X.kcell ck) 0 :=
    bigSep_elim (Finset.mem_univ ck)
  unfold records knows
  iintro ⟨#HI, #HR⟩
  isplitr; · iapply (hI (c, false, j)); iexact HI
  isplitr; · iapply (hI (c, true, j)); iexact HI
  isplitr; · iapply (hI (X.peer j c, true, j)); iexact HI
  isplitr; · iapply (hR (c, false, j)); iexact HR
  iapply (hR (X.peer j c, true, j)); iexact HR

/-- Every copy's end seen from its other end. -/
def aroundAll : Dev nD × J ≃ Dev nD × J :=
  ⟨fun p => (X.peer p.2 p.1, p.2), fun p => (X.peer p.2 p.1, p.2), fun p => Prod.ext (X.back p.2 p.1) rfl, fun p => Prod.ext (X.back p.2 p.1) rfl⟩

/-- A family over the devices and copies, seen from the copies' other ends. -/
theorem dealt_all (Φ : J → Dev nD → sProp 𝕄) :
    (bigSep Finset.univ fun c : Dev nD => bigSep Finset.univ fun j : J => Φ j c)
      = bigSep Finset.univ fun c : Dev nD => bigSep Finset.univ fun j : J => Φ j (X.peer j c) := by
  rw [← bigSep_univ_prod (fun p : Dev nD × J => Φ p.2 p.1), bigSep_univ_equiv X.aroundAll, bigSep_univ_prod]
  rfl

/-- What a device brings: its counters, its slices and slots, its cells' ghost state. -/
def brings (c : Dev nD) : sProp 𝕄 :=
  iprop((Pipeline.ownSems0 (Ix := Unit) (Name := ℕ) (U := Ghosts nD sig) (Lvl := ℕ) (Val := Val) (τ := τx) X.osem c
        ∗ ((bigSep Finset.univ fun j : J => X.srcPts m j c) ∗ bigSep Finset.univ fun j : J => X.slot m j c)) ∗ X.G m c)

/-- The same with its cells opened. -/
def holds (c : Dev nD) : sProp 𝕄 :=
  iprop((bigSep Finset.univ fun k : Bool × J => iprop(∃ κ : ℕ, cellInv ER (X.sched m) κ (X.kcell (c, k))))
    ∗ (bigSep Finset.univ fun k : Bool × J => reached ER (X.kcell (c, k)) 0)
    ∗ (bigSep Finset.univ fun k : Bool × J => atPos ER (X.kcell (c, k)) 0 ∅ 0)
    ∗ (bigSep Finset.univ fun k : Bool × J => dutyTok ER (X.kcell (c, k)) 0 ())
    ∗ (bigSep Finset.univ fun j : J => X.srcPts m j c) ∗ bigSep Finset.univ fun j : J => X.slot m j c)

theorem holds_of (c : Dev nD) : X.brings m c ⊢ |={Set.univ}=> X.holds m c := by
  unfold brings holds G
  iintro ⟨⟨Hv, Hs, Hd⟩, Hst, Hat, Hr, Htok⟩
  imod (X.opened m c) $$ [Hv Hst] with Hinv
  · isplitl [Hv] <;> iassumption
  imodintro
  isplitl [Hinv]; · iexact Hinv
  isplitl [Hr]; · iexact Hr
  isplitl [Hat]; · iexact Hat
  isplitl [Htok]; · iexact Htok
  isplitl [Hs]; · iexact Hs
  iexact Hd

/-- The tokens and slots dealt: every device ready. -/
theorem ready_of : bigSep Finset.univ (X.holds m) ⊢ iprop(∃ K, bigSep Finset.univ (X.ready m K)) := by
  unfold holds
  rw [bigSep_sep', bigSep_sep', bigSep_sep', bigSep_sep', bigSep_sep',
    ← bigSep_univ_prod (fun ck : Dev nD × (Bool × J) => iprop(∃ κ : ℕ, cellInv ER (X.sched m) κ (X.kcell ck))),
    ← bigSep_univ_prod (fun ck : Dev nD × (Bool × J) => (reached ER (X.kcell ck) 0 : sProp 𝕄))]
  simp only [bigSep_kinds]
  rw [bigSep_sep', bigSep_sep', X.dealt_all fun j c => (dutyTok ER (X.kcell (c, true, j)) 0 () : sProp 𝕄), X.dealt_all (X.slot m)]
  iintro ⟨HI, #HR, ⟨Ha, Hb⟩, ⟨Ht, Hu⟩, Hs, Hd⟩
  ihave HK := (BI.bigSep_exists_pi Finset.univ (fun (ck : Dev nD × (Bool × J)) (κ : ℕ) => (cellInv ER (X.sched m) κ (X.kcell ck) : sProp 𝕄))) $$ HI
  icases HK with ⟨%K, #HI⟩
  iexists K
  have hready : iprop(X.records m K ∗ bigSep Finset.univ fun c : Dev nD => bigSep Finset.univ fun j : J =>
      iprop((atPos ER (X.sendCell j c) 0 ∅ 0 ∗ atPos ER (X.recvCell j c) 0 ∅ 0) ∗ X.mayCopy m j c)) ⊢ bigSep Finset.univ (X.ready m K) := by
    refine bigSep_along fun c _ => ?_
    unfold ready
    refine bigSep_along fun j _ => ?_
    exact sep_mono_left (X.knows_of m K j c)
  iapply hready
  isplitr
  · unfold records
    isplitl; · iexact HI
    iexact HR
  · unfold mayCopy
    simp only [bigSep_sep']
    isplitl [Ha Hb]
    · isplitl [Ha]; · iexact Ha
      iexact Hb
    isplitl [Ht]; · iexact Ht
    isplitl [Hu]; · iexact Hu
    isplitl [Hs]; · iexact Hs
    iexact Hd

theorem glob : bigSep Finset.univ (X.brings m) ⊢ |={Set.univ}=> iprop(∃ K, bigSep Finset.univ (X.ready m K)) :=
  ((bigSep_mono fun c _ => X.holds_of m c).trans (bigSep_fupd _ _)).trans (BI.fupd_mono (X.ready_of m))

end Plan

end Cert.Exchange

end
-- ==== Proof.Exchange.Steps.lean ====
/- Exchanges: what a device holds before its copies, while they fly, and after; a copy issued, a copy awaited. -/
module

public import proofs.«01_k».proof.Proof.Exchange.Deal

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {sig : RefSig} {J : Type} [Fintype J] [DecidableEq J] {Val : EltTy → Type}

local notation "𝕄" => MT nD τx sig Unit Val ℕ (Ghosts nD sig) ℕ

namespace Plan

variable (X : Plan nD sig J) (m : (ℓ : Loc nD τx sig) → Buf Val ℓ) (K : Dev nD × (Bool × J) → ℕ)

/-- One copy's rights, not yet used. -/
def unsent (c : Dev nD) (j : J) : sProp 𝕄 :=
  iprop((X.knows m K j c ∗ (atPos ER (X.sendCell j c) 0 ∅ 0 ∗ atPos ER (X.recvCell j c) 0 ∅ 0) ∗ X.mayCopy m j c) ∗ cred (tallyAt (X.recvCell j c) () X.N))
/-- One copy under way. -/
def flying (c : Dev nD) (j : J) : sProp 𝕄 :=
  iprop(X.knows m K j c ∗ X.mayWait (c, false, j) ∗ X.mayWait (c, true, j))
/-- One copy done, both ways. -/
def done (c : Dev nD) (j : J) : sProp 𝕄 :=
  iprop((X.srcPts m j c ∗ X.filled m j c) ∗ (semVal (X.sendCell j c) 0 ∗ semVal (X.recvCell j c) 0))

variable {Λ : Labels} {defs : Defs nD τx sig Val Λ} (𝒱 : Variants)

theorem wp_issue (j : J) (c n : Dev nD) (hn : n = X.peer j c) (A B : Memref sig .tc X.sp X.s X.e) (hA : A = X.src j c) (hB : B = X.dst j)
    (p q : DmaSem sig) (hp : p = X.sent j) (hq : q = X.here j)
    {hsc : (B : Memref sig (n.tc : Thread nD τx).2.kind X.sp X.s X.e).view.ref.isScScratch = false} {hsrc : A.view.WordExact} {hdst : B.view.WordExact}
    {hsem : DmaTarget.Typed X.sp (.dma q) (.remote (n.tc : Thread nD τx) B (.dma p) hsc)}
    {α : Type} {Q : α → sProp 𝕄} {k : PUnit → Prog (TpuEff nD τx sig Val Λ .tc) α} (bd : Option 𝒱.V)
    {O₁ : CellTallies nD τx sig Unit} (O : CellTallies nD τx sig Unit) (hO : O₁ = O + tallyAt (X.recvCell j (X.peer j c)) () X.N) (W : Waits sig Unit) :
    iprop(X.unsent m K c j ∗ owes (c : Thread nD τx) O₁ W)
      ⊢ iprop(((X.flying m K c j ∗ owes (c : Thread nD τx) O W) -∗ wp frame (wpE defs 𝒱 (c : Thread nD τx) bd) Set.univ (k ⟨⟩) Q)
          -∗ wp frame (wpE defs 𝒱 (c : Thread nD τx) bd) Set.univ
              (.op (.enqueueDma A (.remote (n.tc : Thread nD τx) B (.dma p) hsc) (.dma q) hsrc hdst hsem) k) Q) := by
  have h := X.wp_copy m K (defs := defs) 𝒱 j c n hn A B hA hB p q hp hq (hsc := hsc) (hsrc := hsrc) (hdst := hdst) (hsem := hsem) (k := k) (Q := Q) bd O hO W
  unfold unsent flying mayWait
  iintro ⟨⟨⟨#Hk, ⟨Ha, Hb⟩, Hc⟩, Hr⟩, HO⟩ Hcont
  iapply h $$ [Hc HO]
  · isplitr; · iexact Hk
    isplitl [Hc]; · iexact Hc
    iexact HO
  iintro ⟨Hs, HO⟩
  iapply Hcont
  isplitr [HO]
  · isplitr; · iexact Hk
    isplitl [Ha Hs]
    · isplitl [Ha]; · iexact Ha
      iexact Hs
    isplitl [Hb]; · iexact Hb
    iexact Hr
  iexact HO

/-- Departure awaited, then arrival. -/
theorem wp_both (j : J) (c : Dev nD) {sp' sp'' : Space} {s' s'' : Shape} {e' e'' : EltTy} {κ'' : Kind}
    (A : Memref sig .tc sp' s' e') (B : Memref sig κ'' sp'' s'' e'') (hB : B.view.dmaCredit = X.N)
    {tp' tp'' : Space} {u' u'' : Shape} {d' d'' : EltTy} {μ'' : Kind}
    (A' : Memref sig .tc tp' u' d') (B' : Memref sig μ'' tp'' u'' d'') (hB' : B'.view.dmaCredit = X.N)
    (p q : DmaSem sig) (hp : p = X.sent j) (hq : q = X.here j)
    {hsrc : A.view.WordExact} {hdst : B.view.WordExact} {hsrc' : A'.view.WordExact} {hdst' : B'.view.WordExact}
    {α : Type} {Q : α → sProp 𝕄} {k : PUnit → Prog (TpuEff nD τx sig Val Λ .tc) α} (bd : Option 𝒱.V) (W : Waits sig Unit) :
    iprop(X.flying m K c j ∗ owes (c : Thread nD τx) 0 W)
      ⊢ iprop((∀ W', (X.done m c j ∗ owes (c : Thread nD τx) 0 W') -∗ wp frame (wpE defs 𝒱 (c : Thread nD τx) bd) Set.univ (k ⟨⟩) Q)
          -∗ wp frame (wpE defs 𝒱 (c : Thread nD τx) bd) Set.univ (.op (.waitDma2 p A B hsrc hdst) fun _ => .op (.waitDma2 q A' B' hsrc' hdst') k) Q) := by
  have h1 := X.wp_arrived m K (defs := defs) 𝒱 c (false, j) A B hB p (congrArg SemLoc.dma hp) (hsrc := hsrc) (hdst := hdst)
    (k := fun _ => .op (.waitDma2 q A' B' hsrc' hdst') k) (Q := Q) bd W
  have h2 := X.wp_arrived m K (defs := defs) 𝒱 c (true, j) A' B' hB' q (congrArg SemLoc.dma hq) (hsrc := hsrc') (hdst := hdst')
    (k := k) (Q := Q) bd (insert (X.osem (false, j), ()) W)
  unfold flying knows done
  iintro ⟨⟨⟨#H1, #H2, #H3, #H4, #H5⟩, Hs, Hr⟩, HO⟩ Hk
  iapply h1 $$ [Hs HO]
  · isplitr; · iexact H1
    isplitl [Hs]; · iexact Hs
    iexact HO
  iintro ⟨HO, Hp, Hz⟩
  iapply h2 $$ [Hr HO]
  · isplitr; · iexact H2
    isplitl [Hr]; · iexact Hr
    iexact HO
  iintro ⟨HO, Hp', Hz'⟩
  ihave Hp := (Entails.of_eq (show (X.pay m c (false, j) : sProp 𝕄) = X.srcPts m j c from rfl)) $$ Hp
  ihave Hp' := (Entails.of_eq (show (X.pay m c (true, j) : sProp 𝕄) = X.filled m j c from rfl)) $$ Hp'
  iapply Hk
  isplitr [HO]
  · isplitl [Hp Hp']
    · isplitl [Hp]; · iexact Hp
      iexact Hp'
    isplitl [Hz]; · iexact Hz
    iexact Hz'
  iexact HO

end Plan

end Cert.Exchange

end
-- ==== Proof.BwUp.Plan.lean ====
/- The up projections' backward call: the four copies of the exchange its kernel carries. -/
module

public import proofs.«01_k».proof.Proof.Exchange.Deal
public import proofs.«01_k».proof.Proof.Gen.BwUpIdeal.Skeleton
public import proofs.«01_k».proof.Proof.Gen.BwUpIdeal.Frame
public import Idealize.ShloMosaic.Lib.ValueLayout
public import Idealize.ShloMosaic.Lib.Ring
public import Idealize.ShloMosaic.Lib.Pipeline.ValueKit

@[expose] public section

set_option maxRecDepth 16384

noncomputable section

namespace BwUp

open Cert.BwUpIdeal Cert.BwUpIdeal.Gen Cert.Exchange
open Idealize.ShloMosaic
open Idealize.ShloMosaic.TcCoe Idealize.ShloMosaic.Ring
open Idealize.SL Idealize.SL.RA Idealize.SL.BI
open scoped Idealize.SL.BI
open Idealize.SL.BI.BIBase Idealize.SL.BI.Laws Idealize.SL.ProofMode Idealize.SL.Sem
open Idealize.ShloMosaic.Rounds

/-- The other device of the pair. -/
def other : Fin 2 → Fin 2 := ![1, 0]

theorem other_other : ∀ c, other (other c) = c := by decide

theorem src_inb (j : Fin 4) (n : Fin 2) : ∀ a, (![j.val, n.val, 0, 0] : Fin 4 → Nat) a + S1x1x352x1024.size a ≤ S4x2x352x1024.size a := by
  revert j n; decide
theorem dst_inb (j : Fin 4) : ∀ a, (![j.val, 0, 0] : Fin 3 → Nat) a + S1x352x1024.size a ≤ S4x352x1024.size a := by
  revert j; decide

/-- One of the partial sums a device holds for half `n`, and the slot one is received in. -/
abbrev half (j : Fin 4) (n : Fin 2) : Memref sig .tc .hbm S352x1024 .bf16 :=
  ((Memref.whole main_arg7).slice (Rect.unit (s := S4x2x352x1024) ![j.val, n.val, 0, 0] S1x1x352x1024.size (src_inb j n)) (fun _ => rfl)).squeeze
    S352x1024 squeezes_S1x1x352x1024_S352x1024
abbrev slotOf (j : Fin 4) : Memref sig .tc .hbm S352x1024 .bf16 :=
  ((Memref.whole main_v1_4).slice (Rect.unit (s := S4x352x1024) ![j.val, 0, 0] S1x352x1024.size (dst_inb j)) (fun _ => rfl)).squeeze
    S352x1024 squeezes_S1x352x1024_S352x1024

def plan : Plan nD sig (Fin 4) where
  peer _ := other
  back _ := other_other
  sp := .hbm
  s := S352x1024
  e := .bf16
  src j c := half j (other c)
  dst j := slotOf j
  sent j := ⟨20 + j.val, by have := j.isLt; show 20 + j.val < 28; omega⟩
  here j := ⟨24 + j.val, by have := j.isLt; show 24 + j.val < 28; omega⟩
  distinct := by decide
  N := (slotOf 0).view.dmaCredit
  pos := View.dmaCredit_pos _ (by decide)
  credit _ := rfl

variable {F : FTy → Type} [FloatOps F]

abbrev UU : Type := Ghosts nD sig
local notation "𝕄" => MT nD τ sig Unit (Elt F) ℕ UU ℕ

variable (m : (ℓ : Loc nD τ sig) → Buf (Elt F) ℓ)

/-! ## The arrays as their slices and slots -/

theorem emb_half (j : Fin 4) (n : Fin 2) (r : Fin 352) (k : Fin 1024) : (half j n).view.emb (ix2 r k) = (ix4 j n r k : S4x2x352x1024.Idx) := by
  show (Rect.unit (s := S4x2x352x1024) ![j.val, n.val, 0, 0] S1x1x352x1024.size (src_inb j n)).emb (Shape.reshapeEquiv _ (ix2 r k)) = _
  refine (congrArg _ (ValueIdx.reshapeEquiv_ix2_11ab _ r k)).trans ?_
  funext a; fin_cases a <;> apply Fin.ext
  · show j.val + 1 * 0 = j.val; omega
  · show n.val + 1 * 0 = n.val; omega
  · show 0 + 1 * r.val = r.val; omega
  · show 0 + 1 * k.val = k.val; omega

theorem emb_slotOf (j : Fin 4) (r : Fin 352) (k : Fin 1024) : (slotOf j).view.emb (ix2 r k) = (ix3 j r k : S4x352x1024.Idx) := by
  show (Rect.unit (s := S4x352x1024) ![j.val, 0, 0] S1x352x1024.size (dst_inb j)).emb (Shape.reshapeEquiv _ (ix2 r k)) = _
  refine (congrArg _ (ValueIdx.reshapeEquiv_ix2_1ab _ r k)).trans ?_
  funext a; fin_cases a <;> apply Fin.ext
  · show j.val + 1 * 0 = j.val; omega
  · show 0 + 1 * r.val = r.val; omega
  · show 0 + 1 * k.val = k.val; omega

theorem half_first {j : Fin 4} {n : Fin 2} {i : S4x2x352x1024.Idx} (h : i ∈ (half j n).view.set) : i (0 : Fin 4) = j := by
  obtain ⟨x, -, rfl⟩ := Finset.mem_map.mp h
  idx_vars x
  rw [emb_half]; rfl

theorem mem_slotOf (j : Fin 4) (i : S4x352x1024.Idx) : i ∈ (slotOf j).view.set ↔ i (0 : Fin 3) = j := by
  constructor
  · intro h
    obtain ⟨x, -, rfl⟩ := Finset.mem_map.mp h
    idx_vars x
    rw [emb_slotOf]; rfl
  · rintro rfl
    idx_vars i
    rw [← emb_slotOf]
    exact View.emb_mem_set _ _

theorem halves_disjoint (c : Dev nD) (j i : Fin 4) (h : j ≠ i) : Disjoint (plan.src j c).view.set (plan.src i c).view.set :=
  Finset.disjoint_left.mpr fun x hx hy => h ((half_first hx).symm.trans (half_first hy))

theorem slots_disjoint (j i : Fin 4) (h : j ≠ i) : Disjoint (slotOf j).view.set (slotOf i).view.set :=
  Finset.disjoint_left.mpr fun x hx hy => h (((mem_slotOf j x).mp hx).symm.trans ((mem_slotOf i x).mp hy))

theorem slots_cover (i : S4x352x1024.Idx) : ∃ j : Fin 4, i ∈ (slotOf j).view.set := ⟨i (0 : Fin 3), (mem_slotOf _ i).mpr rfl⟩

/-- Memory cut along disjoint sets that cover it. -/
theorem cut {ℓ : Loc nD τ sig} (I : Fin 4 → Finset (Idx ℓ)) (hd : ∀ j i, j ≠ i → Disjoint (I j) (I i)) (hc : ∀ x, ∃ j, x ∈ I j)
    (f : Buf (Elt F) ℓ) : (ℓ ↦{fullShare} f : sProp 𝕄) = bigSep Finset.univ fun j => ℓ ↦[I j]{fullShare} f := by
  classical
  refine pointsTo_blocks I hd ?_ f
  ext x
  simp only [Finset.mem_biUnion, Finset.mem_univ, true_and, iff_true]
  exact hc x

/-- The four halves a device sends, together. -/
abbrev sentSet (c : Dev nD) : Finset (Idx ((c : Thread nD τ).loc main_arg7)) := Finset.univ.biUnion fun j : Fin 4 => (plan.src j c).view.set

/-- The half of the sums no copy touches. -/
def kept (c : Dev nD) : sProp 𝕄 :=
  ((c : Thread nD τ).loc main_arg7) ↦[Finset.univ \ sentSet c]{fullShare} m ((c : Thread nD τ).loc main_arg7)

theorem sums_split (c : Dev nD) :
    (((c : Thread nD τ).loc main_arg7) ↦{fullShare} m ((c : Thread nD τ).loc main_arg7) : sProp 𝕄)
      ⊣⊢ iprop((bigSep Finset.univ fun j : Fin 4 => plan.srcPts m j c) ∗ kept m c) := by
  have h := pointsTo_split_subset (nD := nD) (τ := τ) (sig := sig) (Ix := Unit) (Val := Elt F) (Name := ℕ) (U := UU) (Lvl := ℕ) (ℓ := (c : Thread nD τ).loc main_arg7) (q := fullShare)
    (f := m ((c : Thread nD τ).loc main_arg7)) (Finset.subset_univ (sentSet c))
  have e := pointsTo_biUnion (nD := nD) (τ := τ) (sig := sig) (Ix := Unit) (Val := Elt F) (Name := ℕ) (U := UU) (Lvl := ℕ) (ℓ := (c : Thread nD τ).loc main_arg7) (q := fullShare)
    (f := m ((c : Thread nD τ).loc main_arg7)) Finset.univ (fun j : Fin 4 => (plan.src j c).view.set) (fun j _ i _ => halves_disjoint c j i)
  have e' : (((c : Thread nD τ).loc main_arg7) ↦[sentSet c]{fullShare} m ((c : Thread nD τ).loc main_arg7) : sProp 𝕄)
      = bigSep Finset.univ fun j : Fin 4 => plan.srcPts m j c := by
    refine Eq.trans ?_ e
    congr!
  rw [e'] at h
  exact h

/-- What a device ends up with in its slots: its partner's sums for its half. -/
def received (c : Dev nD) : Buf (Elt F) ((c : Thread nD τ).loc main_v1_4) :=
  fun i : S4x352x1024.Idx => m ((other c : Thread nD τ).loc main_arg7) (ix4 (i (0 : Fin 3)) (show Fin 2 from c) (i (1 : Fin 3)) (i (2 : Fin 3)) : S4x2x352x1024.Idx)

theorem landed_eq (j : Fin 4) (c : Dev nD) (i : Idx ((c : Thread nD τ).loc main_v1_4)) (hi : i ∈ (slotOf j).view.set) :
    plan.landed m j c i = received m c i := by
  obtain ⟨x, -, rfl⟩ := Finset.mem_map.mp hi
  have h1 : plan.landed m j c ((slotOf j).view.emb x) = plan.sliceOf m j (other c) x := View.write_emb_of_mem _ _ (Finset.mem_univ _)
  rw [h1]
  have h2 : plan.sliceOf m j (other c) x = m ((other c : Thread nD τ).loc main_arg7) ((half j (other (other c))).view.emb x) := rfl
  rw [h2, other_other]
  idx_vars x
  rw [emb_half, emb_slotOf]
  rfl

theorem slots_cut (c : Dev nD) (f : Buf (Elt F) ((c : Thread nD τ).loc main_v1_4)) :
    (((c : Thread nD τ).loc main_v1_4) ↦{fullShare} f : sProp 𝕄)
      = bigSep Finset.univ fun j : Fin 4 => ((c : Thread nD τ).loc main_v1_4) ↦[(slotOf j).view.set]{fullShare} f :=
  cut (ℓ := (c : Thread nD τ).loc main_v1_4) (fun j => (slotOf j).view.set) slots_disjoint slots_cover f

theorem slots_split (c : Dev nD) :
    (((c : Thread nD τ).loc main_v1_4) ↦{fullShare} m ((c : Thread nD τ).loc main_v1_4) : sProp 𝕄)
      = bigSep Finset.univ fun j : Fin 4 => plan.slot m j c :=
  slots_cut c _

theorem filled_eq (c : Dev nD) (j : Fin 4) : (plan.filled m j c : sProp 𝕄)
      = (((c : Thread nD τ).loc main_v1_4) ↦[(slotOf j).view.set]{fullShare} received m c : sProp 𝕄) :=
  pointsTo_congr (ℓ := (c : Thread nD τ).loc main_v1_4) (I := (slotOf j).view.set) (f := plan.landed m j c) (landed_eq m j c)

theorem slots_join (c : Dev nD) :
    (bigSep Finset.univ fun j : Fin 4 => plan.filled m j c)
      = (((c : Thread nD τ).loc main_v1_4) ↦{fullShare} received m c : sProp 𝕄) := by
  rw [slots_cut]
  exact bigSep_congr fun j _ => filled_eq m c j

end BwUp

end
-- ==== Proof.BwUp.Body.lean ====
/- The up projections' backward call: what one grid point does, with the exchange at the first point and its end at the last. -/
module

public import proofs.«01_k».proof.Proof.Exchange.Steps
public import proofs.«01_k».proof.Proof.BwUp.Plan
public import Idealize.ShloMosaic.Lib.Exec
public import Idealize.ShloMosaic.Lib.Ring.AtN

@[expose] public section

set_option maxRecDepth 16384

noncomputable section

namespace BwUp

open Cert.BwUpIdeal Cert.BwUpIdeal.Gen Cert.Exchange
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

variable (m : (ℓ : Loc nD τ sig) → Buf (Elt F) ℓ)

/-! ## The printed slices, devices and semaphores -/

theorem half_at (j : Fin 4) (n : Fin 2) (off : Fin 4 → Nat) (h : off = ![j.val, n.val, 0, 0]) (hin : ∀ a, off a + S1x1x352x1024.size a ≤ S4x2x352x1024.size a) :
    ((Memref.whole main_arg7).slice (Rect.unit (s := S4x2x352x1024) off S1x1x352x1024.size hin) (fun _ => rfl)).squeeze
      S352x1024 squeezes_S1x1x352x1024_S352x1024 = half j n := by
  subst h; rfl

theorem one_sub (c : Fin 2) : 1 - c.val = (other c).val := by revert c; decide
theorem pair_dev (c : Fin 2) : (4 * (c.val / 2) + 1) - c.val = (other c).val := by revert c; decide
theorem off1 (c : Dev nD) : k0_off1 c = ![((0 : Fin 4)).val, (other c).val, 0, 0] := by
  rw [k0_off1_eq, one_sub]; rfl
theorem dev1 (c : Dev nD) (h) : (⟨k0_dev1 c, h⟩ : Dev nD) = other c :=
  Fin.ext ((k0_dev1_eq c).trans (pair_dev c))
theorem off2 (c : Dev nD) : k0_off2 c = ![((1 : Fin 4)).val, (other c).val, 0, 0] := by
  rw [k0_off2_eq, one_sub]; rfl
theorem dev2 (c : Dev nD) (h) : (⟨k0_dev2 c, h⟩ : Dev nD) = other c :=
  Fin.ext ((k0_dev2_eq c).trans (pair_dev c))
theorem off3 (c : Dev nD) : k0_off3 c = ![((2 : Fin 4)).val, (other c).val, 0, 0] := by
  rw [k0_off3_eq, one_sub]; rfl
theorem dev3 (c : Dev nD) (h) : (⟨k0_dev3 c, h⟩ : Dev nD) = other c :=
  Fin.ext ((k0_dev3_eq c).trans (pair_dev c))
theorem off4 (c : Dev nD) : k0_off4 c = ![((3 : Fin 4)).val, (other c).val, 0, 0] := by
  rw [k0_off4_eq, one_sub]; rfl
theorem dev4 (c : Dev nD) (h) : (⟨k0_dev4 c, h⟩ : Dev nD) = other c :=
  Fin.ext ((k0_dev4_eq c).trans (pair_dev c))

/-! ## What a device holds between the points -/

/-- The array the kernel keeps the extended block in, at any contents. -/
def room (c : Dev nD) : sProp 𝕄 := iprop(∃ d, owns (c : Thread nD τ) (Memref.whole cc0_scratch0) fullShare d)

/-- Before the first point. -/
def start (c : Dev nD) : sProp 𝕄 :=
  iprop((∃ K, plan.ready m K c) ∗ (bigSep Finset.univ fun j : Fin 4 => cred (tallyAt (plan.recvCell j c) () plan.N)) ∗ kept m c)
/-- Between the first and the last. -/
def going (c : Dev nD) : sProp 𝕄 :=
  iprop((∃ K, plan.flying m K c 0 ∗ plan.flying m K c 1 ∗ plan.flying m K c 2 ∗ plan.flying m K c 3) ∗ kept m c)
/-- After the last. -/
def ended (c : Dev nD) : sProp 𝕄 :=
  iprop((plan.done m c 0 ∗ plan.done m c 1 ∗ plan.done m c 2 ∗ plan.done m c 3) ∗ kept m c)

/-! ## What the body computes -/

abbrev wide : Rect S256x2816 := Rect.unit (s := S256x2816) ![0, 0] S256x2816.size inb_S256x2816_S256x2816_0_0
abbrev edge : Rect S8x2816 := Rect.unit (s := S8x2816) ![0, 0] S8x2816.size inb_S8x2816_S8x2816_0_0
abbrev at0 : Rect S264x2816 := Rect.unit (s := S264x2816) ![0, 0] S256x2816.size inb_S264x2816_S256x2816_0_0
abbrev at1 : Rect S264x2816 := Rect.unit (s := S264x2816) ![1, 0] S256x2816.size inb_S264x2816_S256x2816_1_0
abbrev at2 : Rect S264x2816 := Rect.unit (s := S264x2816) ![2, 0] S256x2816.size inb_S264x2816_S256x2816_2_0
abbrev at256 : Rect S264x2816 := Rect.unit (s := S264x2816) ![256, 0] S8x2816.size inb_S264x2816_S8x2816_256_0
abbrev w0 : Rect S8x2816 := Rect.unit (s := S8x2816) ![0, 0] S1x2816.size inb_S8x2816_S1x2816_0_0
abbrev w1 : Rect S8x2816 := Rect.unit (s := S8x2816) ![1, 0] S1x2816.size inb_S8x2816_S1x2816_1_0
abbrev w2 : Rect S8x2816 := Rect.unit (s := S8x2816) ![2, 0] S1x2816.size inb_S8x2816_S1x2816_2_0
abbrev g0 : Rect S2x1024x2816 := Rect.unit (s := S2x1024x2816) ![0, 0, 0] S1x1024x2816.size inb_S2x1024x2816_S1x1024x2816_0_0_0
abbrev g1 : Rect S2x1024x2816 := Rect.unit (s := S2x1024x2816) ![1, 0, 0] S1x1024x2816.size inb_S2x1024x2816_S1x1024x2816_1_0_0
abbrev tall : Rect S256x1024 := Rect.unit (s := S256x1024) ![0, 0] S256x1024.size inb_S256x1024_S256x1024_0_0
abbrev line : Rect S1x1024 := Rect.unit (s := S1x1024) ![0, 0] S1x1024.size inb_S1x1024_S1x1024_0_0

/-- The block of rows with the rows after it. -/
def ext (i : grid0.Coords) (x0 : Vec F S256x2816 .f32) (x1 : Vec F S8x2816 .f32) : Vec F S264x2816 .f32 :=
  View.canon [⟨at256, k0_pay2 i (View.ld x1 edge)⟩, ⟨at0, k0_pay1 (View.ld x0 wide)⟩]

/-- The gradient of the left half, of a block. -/
def dact (i : grid0.Coords) (x0 : Vec F S256x2816 .f32) (x1 : Vec F S8x2816 .f32) (x4 : Vec F S8x2816 .f32) : FVec F S256x2816 .bf16 :=
  k0_pay4 (k0_pay3 (View.ld x4 w2) (View.ld x0 wide)) (View.ld x4 w0) (View.ld (ext i x0 x1) at2) (View.ld x4 w1) (View.ld (ext i x0 x1) at1)
def made8 (i : grid0.Coords) (x0 : Vec F S256x2816 .f32) (x1 : Vec F S8x2816 .f32) (x4 : Vec F S8x2816 .f32) : Vec F S256x2816 .bf16 :=
  View.canon [⟨wide, dact i x0 x1 x4⟩]

/-- The gradient after the normalisation's scale and shift, of a block. -/
def dh (i : grid0.Coords) (x0 : Vec F S256x2816 .f32) (x1 : Vec F S8x2816 .f32) (x2 : Vec F S256x2816 .bf16) (x3 : Vec F S2x1024x2816 .bf16) (x4 : Vec F S8x2816 .f32) : FVec F S256x1024 .f32 :=
  k0_pay5 (View.ld (made8 i x0 x1 x4) wide) (View.ld x3 g0) (View.ld x2 wide) (View.ld x3 g1)

abbrev c1024 : F .f32 := Scalar.ofBits .f32 0x44800000#32

def made9 (d : FVec F S256x1024 .f32) (x5 : Vec F S256x1024 .f32) (x6 : Vec F S1x1024 .f32) (x7 : Vec F S256x1024 .f32) : Vec F S256x1024 .f32 :=
  View.canon [⟨tall, k0_pay11 d (k0_pay6 (View.ld x5 tall)) (k0_pay7 (View.ld x5 tall)) c1024 (View.ld x6 line) (View.ld x7 tall)⟩]
def made10 (d : FVec F S256x1024 .f32) (x5 : Vec F S256x1024 .f32) (x6 : Vec F S1x1024 .f32) (x7 : Vec F S256x1024 .f32) : Vec F S256x1024 .bf16 :=
  View.canon [⟨tall, k0_pay12 d (k0_pay6 (View.ld x5 tall)) (k0_pay7 (View.ld x5 tall)) c1024 (View.ld x6 line) (View.ld x7 tall)⟩]
/-- The scale's gradient: at the first point, and at a later one, which finds `a`. -/
def first11 (d : FVec F S256x1024 .f32) (x5 : Vec F S256x1024 .f32) : Vec F S1x1024 .f32 :=
  View.canon [⟨line, k0_pay10 d (k0_pay6 (View.ld x5 tall)) (k0_pay7 (View.ld x5 tall)) c1024⟩]
def next11 (d : FVec F S256x1024 .f32) (x5 : Vec F S256x1024 .f32) (a : Vec F S1x1024 .f32) : Vec F S1x1024 .f32 :=
  View.canon [⟨line, k0_pay13 d (k0_pay6 (View.ld x5 tall)) (k0_pay7 (View.ld x5 tall)) c1024 (View.ld a line)⟩]

theorem wide_cover (p : Vec F S256x2816 .bf16) (y : S256x2816.Idx) : ∃ pc ∈ ([⟨wide, p⟩] : List (View.Piece (Elt F) S256x2816 .bf16)), y ∈ pc.1.set :=
  View.cover_of_tiled [⟨wide, p⟩] S256x2816.size (by rfl) y
theorem tall_cover {e : EltTy} (p : Vec F S256x1024 e) (y : S256x1024.Idx) : ∃ pc ∈ ([⟨tall, p⟩] : List (View.Piece (Elt F) S256x1024 e)), y ∈ pc.1.set :=
  View.cover_of_tiled [⟨tall, p⟩] S256x1024.size (by rfl) y
theorem line_cover (p : Vec F S1x1024 .f32) (y : S1x1024.Idx) : ∃ pc ∈ ([⟨line, p⟩] : List (View.Piece (Elt F) S1x1024 .f32)), y ∈ pc.1.set :=
  View.cover_of_tiled [⟨line, p⟩] S1x1024.size (by rfl) y

variable (c : Dev nD) (i : grid0.Coords)
  (arg1 : Memref sig .tc .vmem S256x2816 .f32) (harg1 : arg1.IsWhole)
  (arg2 : Memref sig .tc .vmem S8x2816 .f32) (harg2 : arg2.IsWhole)
  (arg3 : Memref sig .tc .vmem S256x2816 .bf16) (harg3 : arg3.IsWhole)
  (arg4 : Memref sig .tc .vmem S2x1024x2816 .bf16) (harg4 : arg4.IsWhole)
  (arg5 : Memref sig .tc .vmem S8x2816 .f32) (harg5 : arg5.IsWhole)
  (arg6 : Memref sig .tc .vmem S256x1024 .f32) (harg6 : arg6.IsWhole)
  (arg7 : Memref sig .tc .vmem S1x1024 .f32) (harg7 : arg7.IsWhole)
  (arg8 : Memref sig .tc .vmem S256x1024 .f32) (harg8 : arg8.IsWhole)
  (arg10 : Memref sig .tc .vmem S256x2816 .bf16) (harg10 : arg10.IsWhole)
  (arg11 : Memref sig .tc .vmem S256x1024 .f32) (harg11 : arg11.IsWhole)
  (arg12 : Memref sig .tc .vmem S256x1024 .bf16) (harg12 : arg12.IsWhole)
  (arg13 : Memref sig .tc .vmem S1x1024 .f32) (harg13 : arg13.IsWhole)
  (x0 : Vec F S256x2816 .f32)  (x1 : Vec F S8x2816 .f32)  (x2 : Vec F S256x2816 .bf16)  (x3 : Vec F S2x1024x2816 .bf16)
  (x4 : Vec F S8x2816 .f32)  (x5 : Vec F S256x1024 .f32)  (x6 : Vec F S1x1024 .f32)  (x7 : Vec F S256x1024 .f32)
  (a : Vec F S1x1024 .f32)

/-- The kernel body, on the windows' buffers. -/
abbrev body : Prog (TpuEff nD τ sig (Elt F) Λ₀ .tc) PUnit :=
  cc0_bwd_up1 i arg1 harg1 arg2 harg2 arg3 harg3 arg4 harg4 arg5 harg5 arg6 harg6 arg7 harg7 arg8 harg8 (Memref.whole main_arg7) (Memref.isWhole_whole _) arg10 harg10 arg11 harg11 arg12 harg12 arg13 harg13
    (Memref.whole main_v1_4) (Memref.isWhole_whole _) (Memref.whole cc0_scratch0) (Memref.isWhole_whole _) cc0_scratch1 cc0_scratch2

/-- The read windows' buffers. -/
def given : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7)
/-- The buffers before a point, the scale's gradient apart. -/
def found : sProp 𝕄 :=
  iprop(given c arg1 arg2 arg3 arg4 arg5 arg6 arg7 arg8 x0 x1 x2 x3 x4 x5 x6 x7
    ∗ (∃ d, owns (c : Thread nD τ) arg10 fullShare d) ∗ (∃ d, owns (c : Thread nD τ) arg11 fullShare d) ∗ (∃ d, owns (c : Thread nD τ) arg12 fullShare d) ∗ room c)
/-- The buffers after a point, the scale's gradient apart. -/
def leaves : sProp 𝕄 :=
  iprop(given c arg1 arg2 arg3 arg4 arg5 arg6 arg7 arg8 x0 x1 x2 x3 x4 x5 x6 x7
    ∗ owns (c : Thread nD τ) arg10 fullShare (made8 i x0 x1 x4)
    ∗ owns (c : Thread nD τ) arg11 fullShare (made9 (dh i x0 x1 x2 x3 x4) x5 x6 x7)
    ∗ owns (c : Thread nD τ) arg12 fullShare (made10 (dh i x0 x1 x2 x3 x4) x5 x6 x7) ∗ room c)

/-- The read windows' buffers, closed over what they hold. -/
theorem given_of (f0 : Buf (Elt F) (arg1.view.loc (c : Thread nD τ))) (f1 : Buf (Elt F) (arg2.view.loc (c : Thread nD τ))) (f2 : Buf (Elt F) (arg3.view.loc (c : Thread nD τ))) (f3 : Buf (Elt F) (arg4.view.loc (c : Thread nD τ))) (f4 : Buf (Elt F) (arg5.view.loc (c : Thread nD τ))) (f5 : Buf (Elt F) (arg6.view.loc (c : Thread nD τ))) (f6 : Buf (Elt F) (arg7.view.loc (c : Thread nD τ))) (f7 : Buf (Elt F) (arg8.view.loc (c : Thread nD τ))) :
    (iprop((arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5) ∗ (arg7.view.loc (c : Thread nD τ) ↦[arg7.view.set]{fullShare} f6) ∗ (arg8.view.loc (c : Thread nD τ) ↦[arg8.view.set]{fullShare} f7)) : sProp 𝕄)
      ⊢ given c arg1 arg2 arg3 arg4 arg5 arg6 arg7 arg8 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) := by
  unfold given owns
  iintro ⟨H0, H1, H2, H3, H4, H5, H6, H7⟩
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists f7; isplitr; · ipureintro; rfl
  iexact H7

set_option maxHeartbeats 4000000 in
/-- A point between the first and the last only computes. -/
theorem middle (Q : PUnit → sProp 𝕄) (h1 : ¬ k0_cond1 i = 1#1) (h2 : ¬ k0_cond2 i = 1#1) (h3 : k0_cond3 i = 1#1) (h4 : ¬ k0_cond4 i = 1#1) :
    iprop(found c arg1 arg2 arg3 arg4 arg5 arg6 arg7 arg8 arg10 arg11 arg12 x0 x1 x2 x3 x4 x5 x6 x7 ∗ owns (c : Thread nD τ) arg13 fullShare a
        ∗ ((leaves c i arg1 arg2 arg3 arg4 arg5 arg6 arg7 arg8 arg10 arg11 arg12 x0 x1 x2 x3 x4 x5 x6 x7 ∗ owns (c : Thread nD τ) arg13 fullShare (next11 (dh i x0 x1 x2 x3 x4) x5 a)) -∗ Q ⟨⟩))
      ⊢ wp frame (wpE (defs₀ (F := F)) Variants.none c none) Set.univ (body i arg1 harg1 arg2 harg2 arg3 harg3 arg4 harg4 arg5 harg5 arg6 harg6 arg7 harg7 arg8 harg8 arg10 harg10 arg11 harg11 arg12 harg12 arg13 harg13) Q := by
  unfold body
  simp only [cc0_bwd_up1_eq_skeleton]; unfold cc0_bwd_up1_skel
  simp only [k0_part6_eq_skeleton, k0_part7_eq_skeleton, k0_part8_eq_skeleton]; unfold k0_part6_skel k0_part7_skel k0_part8_skel
  simp only [dif_neg h1, dif_neg h2, dif_pos h3, dif_neg h4]
  unfold found given room owns
  iintro ⟨⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, ⟨%d10, %f10, -, H10⟩, ⟨%ds, %fs, -, HS⟩⟩, ⟨%f11, %hf11, H11⟩, Hk⟩
  subst hf0 hf1 hf2 hf3 hf4 hf5 hf6 hf7 hf11
  sl_exec
  sl_step
  iapply Hk
  unfold leaves room owns
  isplitr [H11]
  · isplitl [H0 H1 H2 H3 H4 H5 H6 H7]
    · iapply (given_of c arg1 arg2 arg3 arg4 arg5 arg6 arg7 arg8 f0 f1 f2 f3 f4 f5 f6 f7)
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]
    · iexists _; isplitr
      swap; · iexact H8
      ipureintro
      refine (View.read_writes_eq_canon _ _ _ (wide_cover _)).trans ?_
      sl_unfold_run_names
      simp only [View.readCov_eq_canon']
      rfl
    isplitl [H9]
    · iexists _; isplitr
      swap; · iexact H9
      ipureintro
      refine (View.read_writes_eq_canon _ _ _ (tall_cover _)).trans ?_
      sl_unfold_run_names
      simp only [View.readCov_eq_canon']
      rfl
    isplitl [H10]
    · iexists _; isplitr
      swap; · iexact H10
      ipureintro
      refine (View.read_writes_eq_canon _ _ _ (tall_cover _)).trans ?_
      sl_unfold_run_names
      simp only [View.readCov_eq_canon']
      rfl
    iexists _; iexists _; isplitr
    swap; · iexact HS
    ipureintro; rfl
  · iexists _; isplitr
    swap; · iexact H11
    ipureintro
    refine (View.read_writes_eq_canon _ _ _ (line_cover _)).trans ?_
    sl_unfold_run_names
    simp only [View.readCov_eq_canon']
    rfl

set_option maxHeartbeats 4000000 in
/-- The first point issues the four copies, then computes. -/
theorem first (Q : PUnit → sProp 𝕄) (h1 : k0_cond1 i = 1#1) (h2 : k0_cond2 i = 1#1) (h3 : ¬ k0_cond3 i = 1#1) (h4 : ¬ k0_cond4 i = 1#1) (W : Waits sig Unit) :
    iprop((start m c ∗ owes (c : Thread nD τ) (plan.O₀ c) W) ∗ found c arg1 arg2 arg3 arg4 arg5 arg6 arg7 arg8 arg10 arg11 arg12 x0 x1 x2 x3 x4 x5 x6 x7 ∗ (∃ d, owns (c : Thread nD τ) arg13 fullShare d)
        ∗ (((going m c ∗ owes (c : Thread nD τ) 0 W) ∗ leaves c i arg1 arg2 arg3 arg4 arg5 arg6 arg7 arg8 arg10 arg11 arg12 x0 x1 x2 x3 x4 x5 x6 x7 ∗ owns (c : Thread nD τ) arg13 fullShare (first11 (dh i x0 x1 x2 x3 x4) x5)) -∗ Q ⟨⟩))
      ⊢ wp frame (wpE (defs₀ (F := F)) Variants.none c none) Set.univ (body i arg1 harg1 arg2 harg2 arg3 harg3 arg4 harg4 arg5 harg5 arg6 harg6 arg7 harg7 arg8 harg8 arg10 harg10 arg11 harg11 arg12 harg12 arg13 harg13) Q := by
  unfold body
  simp only [cc0_bwd_up1_eq_skeleton]; unfold cc0_bwd_up1_skel
  simp only [k0_part6_eq_skeleton, k0_part7_eq_skeleton, k0_part8_eq_skeleton]; unfold k0_part6_skel k0_part7_skel k0_part8_skel
  simp only [k0_part1_eq_skeleton, k0_part2_eq_skeleton]; unfold k0_part1_skel k0_part2_skel
  simp only [dif_pos h1, dif_pos h2, dif_neg h3, dif_neg h4, Prog.lift, Prog.bind_op, Prog.bind_ret, Prog.pure_eq_ret, wp_deviceId]
  unfold start Plan.ready
  simp only [bigSep_fin4]
  have hO : plan.O₀ c = (((0 + tallyAt (plan.recvCell 3 (plan.peer 3 c)) () plan.N) + tallyAt (plan.recvCell 2 (plan.peer 2 c)) () plan.N)
      + tallyAt (plan.recvCell 1 (plan.peer 1 c)) () plan.N) + tallyAt (plan.recvCell 0 (plan.peer 0 c)) () plan.N := by
    unfold Plan.O₀; rw [Fin.sum_univ_four]; abel
  iintro ⟨⟨⟨⟨%K, R0, R1, R2, R3⟩, ⟨C0, C1, C2, C3⟩, Hkept⟩, HO⟩, Hf, Ha, Hk⟩
  iapply (plan.wp_issue m K Variants.none 0 c _ (dev1 c _) _ _ (half_at 0 (other c) _ (off1 c) _) rfl _ _ rfl rfl none _ hO W) $$ [R0 C0 HO]
  · unfold Plan.unsent
    isplitr [HO]
    · isplitl [R0]; · iexact R0
      iexact C0
    iexact HO
  iintro ⟨F0, HO⟩
  iapply (plan.wp_issue m K Variants.none 1 c _ (dev2 c _) _ _ (half_at 1 (other c) _ (off2 c) _) rfl _ _ rfl rfl none _ rfl W) $$ [R1 C1 HO]
  · unfold Plan.unsent
    isplitr [HO]
    · isplitl [R1]; · iexact R1
      iexact C1
    iexact HO
  iintro ⟨F1, HO⟩
  iapply (plan.wp_issue m K Variants.none 2 c _ (dev3 c _) _ _ (half_at 2 (other c) _ (off3 c) _) rfl _ _ rfl rfl none _ rfl W) $$ [R2 C2 HO]
  · unfold Plan.unsent
    isplitr [HO]
    · isplitl [R2]; · iexact R2
      iexact C2
    iexact HO
  iintro ⟨F2, HO⟩
  iapply (plan.wp_issue m K Variants.none 3 c _ (dev4 c _) _ _ (half_at 3 (other c) _ (off4 c) _) rfl _ _ rfl rfl none _ rfl W) $$ [R3 C3 HO]
  · unfold Plan.unsent
    isplitr [HO]
    · isplitl [R3]; · iexact R3
      iexact C3
    iexact HO
  iintro ⟨F3, HO⟩
  unfold found given room owns
  icases Hf with ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, ⟨%d10, %f10, -, H10⟩, ⟨%ds, %fs, -, HS⟩⟩
  icases Ha with ⟨%d11, %f11, -, H11⟩
  subst hf0 hf1 hf2 hf3 hf4 hf5 hf6 hf7
  sl_exec
  sl_step
  iapply Hk
  isplitl [F0 F1 F2 F3 Hkept HO]
  · isplitr [HO]
    · unfold going
      isplitr [Hkept]
      · iexists K
        isplitl [F0]; · iexact F0
        isplitl [F1]; · iexact F1
        isplitl [F2]; · iexact F2
        iexact F3
      iexact Hkept
    iexact HO
  unfold leaves room owns
  isplitr [H11]
  · isplitl [H0 H1 H2 H3 H4 H5 H6 H7]
    · iapply (given_of c arg1 arg2 arg3 arg4 arg5 arg6 arg7 arg8 f0 f1 f2 f3 f4 f5 f6 f7)
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]
    · iexists _; isplitr
      swap; · iexact H8
      ipureintro
      refine (View.read_writes_eq_canon _ _ _ (wide_cover _)).trans ?_
      sl_unfold_run_names
      simp only [View.readCov_eq_canon']
      rfl
    isplitl [H9]
    · iexists _; isplitr
      swap; · iexact H9
      ipureintro
      refine (View.read_writes_eq_canon _ _ _ (tall_cover _)).trans ?_
      sl_unfold_run_names
      simp only [View.readCov_eq_canon']
      rfl
    isplitl [H10]
    · iexists _; isplitr
      swap; · iexact H10
      ipureintro
      refine (View.read_writes_eq_canon _ _ _ (tall_cover _)).trans ?_
      sl_unfold_run_names
      simp only [View.readCov_eq_canon']
      rfl
    iexists _; iexists _; isplitr
    swap; · iexact HS
    ipureintro; rfl
  · iexists _; isplitr
    swap; · iexact H11
    ipureintro
    refine (View.read_writes_eq_canon _ _ _ (line_cover _)).trans ?_
    sl_unfold_run_names
    simp only [View.readCov_eq_canon']
    rfl

set_option maxHeartbeats 4000000 in
/-- The last point computes, then waits for the four copies, each way. -/
theorem last (Q : PUnit → sProp 𝕄) (h1 : ¬ k0_cond1 i = 1#1) (h2 : ¬ k0_cond2 i = 1#1) (h3 : k0_cond3 i = 1#1) (h4 : k0_cond4 i = 1#1) (W : Waits sig Unit) :
    iprop((going m c ∗ owes (c : Thread nD τ) 0 W) ∗ found c arg1 arg2 arg3 arg4 arg5 arg6 arg7 arg8 arg10 arg11 arg12 x0 x1 x2 x3 x4 x5 x6 x7 ∗ owns (c : Thread nD τ) arg13 fullShare a
        ∗ (∀ W', ((ended m c ∗ owes (c : Thread nD τ) 0 W') ∗ leaves c i arg1 arg2 arg3 arg4 arg5 arg6 arg7 arg8 arg10 arg11 arg12 x0 x1 x2 x3 x4 x5 x6 x7 ∗ owns (c : Thread nD τ) arg13 fullShare (next11 (dh i x0 x1 x2 x3 x4) x5 a)) -∗ Q ⟨⟩))
      ⊢ wp frame (wpE (defs₀ (F := F)) Variants.none c none) Set.univ (body i arg1 harg1 arg2 harg2 arg3 harg3 arg4 harg4 arg5 harg5 arg6 harg6 arg7 harg7 arg8 harg8 arg10 harg10 arg11 harg11 arg12 harg12 arg13 harg13) Q := by
  unfold body
  simp only [cc0_bwd_up1_eq_skeleton]; unfold cc0_bwd_up1_skel
  simp only [k0_part6_eq_skeleton, k0_part7_eq_skeleton, k0_part8_eq_skeleton]; unfold k0_part6_skel k0_part7_skel k0_part8_skel
  simp only [k0_part3_eq_skeleton, k0_part4_eq_skeleton, k0_part5_eq_skeleton]; unfold k0_part3_skel k0_part4_skel k0_part5_skel
  simp only [dif_neg h1, dif_neg h2, dif_pos h3, dif_pos h4, Prog.lift, Prog.bind_op, Prog.bind_ret, Prog.pure_eq_ret]
  unfold going
  iintro ⟨⟨⟨⟨%K, F0, F1, F2, F3⟩, Hkept⟩, HO⟩, Hf, Ha, Hk⟩
  unfold found given room owns
  icases Hf with ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, ⟨%d10, %f10, -, H10⟩, ⟨%ds, %fs, -, HS⟩⟩
  icases Ha with ⟨%f11, %hf11, H11⟩
  subst hf0 hf1 hf2 hf3 hf4 hf5 hf6 hf7 hf11
  sl_exec
  simp only [wp_deviceId]
  iapply (plan.wp_both m K Variants.none 0 c _ _ rfl _ _ rfl _ _ rfl rfl none W) $$ [F0 HO]
  · isplitl [F0]; · iexact F0
    iexact HO
  iintro %W0 ⟨D0, HO⟩
  iapply (plan.wp_both m K Variants.none 1 c _ _ rfl _ _ rfl _ _ rfl rfl none W0) $$ [F1 HO]
  · isplitl [F1]; · iexact F1
    iexact HO
  iintro %W1 ⟨D1, HO⟩
  iapply (plan.wp_both m K Variants.none 2 c _ _ rfl _ _ rfl _ _ rfl rfl none W1) $$ [F2 HO]
  · isplitl [F2]; · iexact F2
    iexact HO
  iintro %W2 ⟨D2, HO⟩
  iapply (plan.wp_both m K Variants.none 3 c _ _ rfl _ _ rfl _ _ rfl rfl none W2) $$ [F3 HO]
  · isplitl [F3]; · iexact F3
    iexact HO
  iintro %W3 ⟨D3, HO⟩
  rw [wp_ret]; imodintro
  iapply Hk $$ %W3
  isplitl [D0 D1 D2 D3 Hkept HO]
  · isplitr [HO]
    · unfold ended
      isplitr [Hkept]
      · isplitl [D0]; · iexact D0
        isplitl [D1]; · iexact D1
        isplitl [D2]; · iexact D2
        iexact D3
      iexact Hkept
    iexact HO
  unfold leaves room owns
  isplitr [H11]
  · isplitl [H0 H1 H2 H3 H4 H5 H6 H7]
    · iapply (given_of c arg1 arg2 arg3 arg4 arg5 arg6 arg7 arg8 f0 f1 f2 f3 f4 f5 f6 f7)
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]
    · iexists _; isplitr
      swap; · iexact H8
      ipureintro
      refine (View.read_writes_eq_canon _ _ _ (wide_cover _)).trans ?_
      sl_unfold_run_names
      simp only [View.readCov_eq_canon']
      rfl
    isplitl [H9]
    · iexists _; isplitr
      swap; · iexact H9
      ipureintro
      refine (View.read_writes_eq_canon _ _ _ (tall_cover _)).trans ?_
      sl_unfold_run_names
      simp only [View.readCov_eq_canon']
      rfl
    isplitl [H10]
    · iexists _; isplitr
      swap; · iexact H10
      ipureintro
      refine (View.read_writes_eq_canon _ _ _ (tall_cover _)).trans ?_
      sl_unfold_run_names
      simp only [View.readCov_eq_canon']
      rfl
    iexists _; iexists _; isplitr
    swap; · iexact HS
    ipureintro; rfl
  · iexists _; isplitr
    swap; · iexact H11
    ipureintro
    refine (View.read_writes_eq_canon _ _ _ (line_cover _)).trans ?_
    sl_unfold_run_names
    simp only [View.readCov_eq_canon']
    rfl

end BwUp

end
-- ==== Proof.BwUp.Run.lean ====
/- The up projections' backward call: the run of the whole call on the two devices. -/
module

public import proofs.«01_k».proof.Proof.BwUp.Body
public import proofs.«01_k».proof.Proof.Exchange.Launch
public import Idealize.ShloMosaic.Lib.Pipeline.TableIdle

@[expose] public section

set_option maxRecDepth 16384

noncomputable section

namespace BwUp

open Cert.BwUpIdeal Cert.BwUpIdeal.Gen Cert.Exchange
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat BodyObligationLoose)

variable {F : FTy → Type} [FloatOps F]

local notation "𝕄" => MT nD τ sig Unit (Elt F) ℕ UU ℕ

variable (m : (ℓ : Loc nD τ sig) → Buf (Elt F) ℓ) (ρ : Dev nD → PrngReg)

/-- What a device holds at point `n`. -/
def held (c : Dev nD) (n : Nat) : sProp 𝕄 := iprop((if n = 0 then start m c else if n = 16 then ended m c else going m c) ∗ room c)

/-- The gradient after the normalisation at point `t`. -/
def dhAt (c : Dev nD) (t : Fin cfg0.N) : FVec F S256x1024 .f32 :=
  dh (grid0.coords t) (iblk m c 0 t) (iblk m c 1 t) (iblk m c 2 t) (iblk m c 3 t) (iblk m c 4 t)

/-- The scale's gradient, summed up to point `n`. -/
def acc (c : Dev nD) : (n : Nat) → n < cfg0.N → Vec F S1x1024 .f32
  | 0, h => first11 (dhAt m c ⟨0, h⟩) (iblk m c 5 ⟨0, h⟩)
  | n + 1, h => next11 (dhAt m c ⟨n + 1, h⟩) (iblk m c 5 ⟨n + 1, h⟩) (acc c n (Nat.lt_of_succ_lt h))

theorem acc_first (c : Dev nD) (t : Fin cfg0.N) (h : t.val = 0) : acc m c t.val t.isLt = first11 (dhAt m c t) (iblk m c 5 t) := by
  obtain ⟨n, hn⟩ := t
  simp only at h
  subst h
  rfl
theorem acc_next (c : Dev nD) (t : Fin cfg0.N) (h : ¬ t.val = 0) :
    acc m c t.val t.isLt = next11 (dhAt m c t) (iblk m c 5 t) (acc m c (t.val - 1) (Nat.lt_of_le_of_lt (Nat.sub_le _ _) t.isLt)) := by
  obtain ⟨n, hn⟩ := t
  simp only at h
  cases n with
  | zero => exact absurd rfl h
  | succ n => rfl

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => made8 (grid0.coords t) (iblk m c 0 t) (iblk m c 1 t) (iblk m c 4 t)
    | ⟨9, _⟩ => made9 (dhAt m c t) (iblk m c 5 t) (iblk m c 6 t) (iblk m c 7 t)
    | ⟨10, _⟩ => made10 (dhAt m c t) (iblk m c 5 t) (iblk m c 6 t) (iblk m c 7 t)
    | ⟨11, _⟩ => acc m c t.val t.isLt
  Φ t := held m c t.val
  q w := Pipeline.shareOf spec0 w
  owed t := if t.val = 0 then plan.O₀ c else 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = made8 (grid0.coords t) (iblk m c 0 t) (iblk m c 1 t) (iblk m c 4 t) := by dsimp only [dats]
theorem after9 (c : Dev nD) (t : Fin cfg0.N) : (dats m 0 c).after 9 t = made9 (dhAt m c t) (iblk m c 5 t) (iblk m c 6 t) (iblk m c 7 t) := by dsimp only [dats]
theorem after10 (c : Dev nD) (t : Fin cfg0.N) : (dats m 0 c).after 10 t = made10 (dhAt m c t) (iblk m c 5 t) (iblk m c 6 t) (iblk m c 7 t) := by dsimp only [dats]
theorem after11 (c : Dev nD) (t : Fin cfg0.N) : (dats m 0 c).after 11 t = acc m c t.val t.isLt := by dsimp only [dats]

theorem Φ_at (c : Dev nD) (t : Fin cfg0.N) : (dats m 0 c).Φ t.castSucc = held m c t.val := rfl
theorem Φ_next (c : Dev nD) (t : Fin cfg0.N) : (dats m 0 c).Φ t.succ = held m c (t.val + 1) := rfl
theorem owed_at (c : Dev nD) (t : Fin cfg0.N) : (dats m 0 c).owed t.castSucc = if t.val = 0 then plan.O₀ c else 0 := rfl
theorem owed_next (c : Dev nD) (t : Fin cfg0.N) : (dats m 0 c).owed t.succ = 0 := rfl

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]) t d).trans
    (by unfold Dat.fetched Dat.blockOf iblk; rw [A_eq]; try rfl)

/-- The scale's gradient is written at every point, and brought back at the last alone. -/
theorem live11 : ∀ t : Fin cfg0.N, cfg0.idle 11 (grid0.coords t) = false := by decide +kernel
theorem before11 (c : Dev nD) (t : Fin cfg0.N) (h : ¬ t.val = 0) (d) :
    (dats m 0 c).before 11 t d = acc m c (t.val - 1) (Nat.lt_of_le_of_lt (Nat.sub_le _ _) t.isLt) := by
  have hf : (cfg0.win 11).flush ⟨t.val - 1, Nat.lt_of_le_of_lt (Nat.sub_le _ _) t.isLt⟩ = false := by
    rw [Bool.eq_false_iff]
    intro e
    have h1 := (flush0_11 _).mp e
    have h2 := lt_of_lt_of_eq t.isLt (show cfg0.N = 16 from N_0)
    simp only at h1
    omega
  rw [(dats m 0 c).before_of_pos 11 t h ((cfg0.win 11).fetch_out rfl t) d, hf, if_neg Bool.false_ne_true]
  have hl := live11 ⟨t.val - 1, Nat.lt_of_le_of_lt (Nat.sub_le _ _) t.isLt⟩
  unfold Dat.left
  rw [hl]
  dsimp only
  unfold Dat.kept
  rw [after11]
  rfl

/-! ## The body at a point -/

theorem at_first : ∀ t : Fin cfg0.N, k0_cond1 (grid0.coords t) = 1#1 ↔ t.val = 0 := (by decide +kernel : ∀ t : Fin grid0.N, k0_cond1 (grid0.coords t) = 1#1 ↔ t.val = 0)
theorem at_first' : ∀ t : Fin cfg0.N, k0_cond2 (grid0.coords t) = 1#1 ↔ t.val = 0 := (by decide +kernel : ∀ t : Fin grid0.N, k0_cond2 (grid0.coords t) = 1#1 ↔ t.val = 0)
theorem at_later : ∀ t : Fin cfg0.N, k0_cond3 (grid0.coords t) = 1#1 ↔ t.val ≠ 0 := (by decide +kernel : ∀ t : Fin grid0.N, k0_cond3 (grid0.coords t) = 1#1 ↔ t.val ≠ 0)
theorem at_last : ∀ t : Fin cfg0.N, k0_cond4 (grid0.coords t) = 1#1 ↔ t.val = 15 := (by decide +kernel : ∀ t : Fin grid0.N, k0_cond4 (grid0.coords t) = 1#1 ↔ t.val = 15)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (dats m 0 c).leavesExact 11 t)

theorem leaves11 (c : Dev nD) (t : Fin cfg0.N) :
    (dats m 0 c).leavesExact 11 t = owns (c : Thread nD τ) (st0_11 t) fullShare (acc m c t.val t.isLt) := by
  unfold Dat.leavesExact; rw [live11 t, after11]

/-- The buffers of the scale's gradient before a point. -/
def before (c : Dev nD) (t : Fin cfg0.N) : sProp 𝕄 :=
  if h : t.val = 0 then iprop(∃ d, owns (c : Thread nD τ) (st0_11 t) fullShare d)
  else owns (c : Thread nD τ) (st0_11 t) fullShare (acc m c (t.val - 1) (Nat.lt_of_le_of_lt (Nat.sub_le _ _) t.isLt))

abbrev foundAt (c : Dev nD) (t : Fin cfg0.N) : sProp 𝕄 :=
  found c (st0_0 t) (st0_1 t) (st0_2 t) (st0_3 t) (st0_4 t) (st0_5 t) (st0_6 t) (st0_7 t) (st0_8 t) (st0_9 t) (st0_10 t) (iblk m c 0 t) (iblk m c 1 t) (iblk m c 2 t) (iblk m c 3 t) (iblk m c 4 t) (iblk m c 5 t) (iblk m c 6 t) (iblk m c 7 t)
abbrev leavesAt (c : Dev nD) (t : Fin cfg0.N) : sProp 𝕄 :=
  leaves c (grid0.coords t) (st0_0 t) (st0_1 t) (st0_2 t) (st0_3 t) (st0_4 t) (st0_5 t) (st0_6 t) (st0_7 t) (st0_8 t) (st0_9 t) (st0_10 t) (iblk m c 0 t) (iblk m c 1 t) (iblk m c 2 t) (iblk m c 3 t) (iblk m c 4 t) (iblk m c 5 t) (iblk m c 6 t) (iblk m c 7 t)
abbrev core (c : Dev nD) (n : Nat) : sProp 𝕄 := if n = 0 then start m c else if n = 16 then ended m c else going m c

/-- The precondition, opened; the postcondition, closed. -/
theorem opens (c : Dev nD) (t : Fin cfg0.N) :
    bodyPre m c t ⊢ iprop(∃ W, (core m c t.val ∗ owes (c : Thread nD τ) (if t.val = 0 then plan.O₀ c else 0) W)
      ∗ foundAt m c t ∗ before m c t) := by
  unfold bodyPre foundAt found given
  unfold Dat.owesAt Pipeline.owesWithin
  simp only [before0, before1, before2, before3, before4, before5, before6, before7, Φ_at, owed_at]
  unfold held
  iintro ⟨⟨HΦ, HR⟩, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iexists W
  isplitl [HΦ HO]
  · isplitl [HΦ]; · iexact HΦ
    iexact HO
  isplitr [H11]
  · isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexists _; iexact H9
    isplitl [H10]; · iexists _; iexact H10
    iexact HR
  · unfold before
    by_cases h : t.val = 0
    · rw [dif_pos h]; iexists _; iexact H11
    · rw [dif_neg h, ← before11 m c t h d11]; iexact H11

theorem closes (c : Dev nD) (t : Fin cfg0.N) (W : Waits sig Unit) (a : Vec F S1x1024 .f32) (ha : a = acc m c t.val t.isLt) :
    iprop((core m c (t.val + 1) ∗ owes (c : Thread nD τ) 0 W) ∗ leavesAt m c t ∗ owns (c : Thread nD τ) (st0_11 t) fullShare a) ⊢ bodyPost m c t := by
  subst ha
  unfold bodyPost leavesAt leaves given
  unfold Dat.owesAt Pipeline.owesWithin
  rw [leaves11, after0, after1, after2, after3, after4, after5, after6, after7, after8, after9, after10, Φ_next, owed_next]
  unfold held dhAt
  iintro ⟨⟨HΦ, HO⟩, ⟨⟨H0, H1, H2, H3, H4, H5, H6, H7⟩, H8, H9, H10, HR⟩, H11⟩
  isplitl [HΦ HR]
  · isplitl [HΦ]; · iexact HΦ
    iexact HR
  isplitl [HO]
  · iexists W
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem hst0 (t : Fin cfg0.N) : (st0_0 t).IsWhole := hstage0_0 ((cfg0.slots t 0).cast nbuf0_0)
theorem hst1 (t : Fin cfg0.N) : (st0_1 t).IsWhole := hstage0_1 ((cfg0.slots t 1).cast nbuf0_1)
theorem hst2 (t : Fin cfg0.N) : (st0_2 t).IsWhole := hstage0_2 ((cfg0.slots t 2).cast nbuf0_2)
theorem hst3 (t : Fin cfg0.N) : (st0_3 t).IsWhole := hstage0_3 ((cfg0.slots t 3).cast nbuf0_3)
theorem hst4 (t : Fin cfg0.N) : (st0_4 t).IsWhole := hstage0_4 ((cfg0.slots t 4).cast nbuf0_4)
theorem hst5 (t : Fin cfg0.N) : (st0_5 t).IsWhole := hstage0_5 ((cfg0.slots t 5).cast nbuf0_5)
theorem hst6 (t : Fin cfg0.N) : (st0_6 t).IsWhole := hstage0_6 ((cfg0.slots t 6).cast nbuf0_6)
theorem hst7 (t : Fin cfg0.N) : (st0_7 t).IsWhole := hstage0_7 ((cfg0.slots t 7).cast nbuf0_7)
theorem hst8 (t : Fin cfg0.N) : (st0_8 t).IsWhole := hstage0_8 ((cfg0.slots t 8).cast nbuf0_8)
theorem hst9 (t : Fin cfg0.N) : (st0_9 t).IsWhole := hstage0_9 ((cfg0.slots t 9).cast nbuf0_9)
theorem hst10 (t : Fin cfg0.N) : (st0_10 t).IsWhole := hstage0_10 ((cfg0.slots t 10).cast nbuf0_10)
theorem hst11 (t : Fin cfg0.N) : (st0_11 t).IsWhole := hstage0_11 ((cfg0.slots t 11).cast nbuf0_11)

theorem lt_sixteen (t : Fin cfg0.N) : t.val < 16 := lt_of_lt_of_eq t.isLt (show cfg0.N = 16 from N_0)

theorem sound_body (c : Dev nD) (t : Fin cfg0.N) :
    bodyPre m c t ⊢ wp frame (wpE (defs₀ (F := F)) Variants.none c none) Set.univ (bodyAt0 t) (fun _ => bodyPost m c t) := by
  refine (opens m c t).trans (exists_elim fun W => ?_)
  have hlt := lt_sixteen t
  by_cases h0 : t.val = 0
  · have e0 : core m c t.val = start m c := by rw [core, if_pos h0]
    have e1 : going m c = core m c (t.val + 1) := by rw [core, if_neg (by omega), if_neg (by omega)]
    have run := first m c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) (st0_11 t) (hst11 t) (iblk m c 0 t) (iblk m c 1 t) (iblk m c 2 t) (iblk m c 3 t) (iblk m c 4 t) (iblk m c 5 t) (iblk m c 6 t) (iblk m c 7 t) (fun _ => bodyPost m c t)
      ((at_first t).mpr h0) ((at_first' t).mpr h0) (fun h => (at_later t).mp h h0) (fun h => by have := (at_last t).mp h; omega) W
    rw [e0, if_pos h0]
    refine BIBase.Entails.trans ?_ run
    rw [e1]
    unfold before
    rw [dif_pos h0]
    iintro ⟨H, Hf, Ha⟩
    isplitl [H]; · iexact H
    isplitl [Hf]; · iexact Hf
    isplitl [Ha]; · iexact Ha
    iintro Hl
    iapply (closes m c t W _ (acc_first m c t h0).symm); iexact Hl
  · rw [if_neg h0]
    have eb : before m c t = owns (c : Thread nD τ) (st0_11 t) fullShare (acc m c (t.val - 1) (Nat.lt_of_le_of_lt (Nat.sub_le _ _) t.isLt)) := by
      rw [before, dif_neg h0]
    rw [eb]
    by_cases h7 : t.val = 15
    · have e0 : core m c t.val = going m c := by rw [core, if_neg (by omega), if_neg (by omega)]
      have e1 : ended m c = core m c (t.val + 1) := by rw [core, if_neg (by omega), if_pos (by omega)]
      have run := last m c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) (st0_11 t) (hst11 t) (iblk m c 0 t) (iblk m c 1 t) (iblk m c 2 t) (iblk m c 3 t) (iblk m c 4 t) (iblk m c 5 t) (iblk m c 6 t) (iblk m c 7 t) (acc m c (t.val - 1) (Nat.lt_of_le_of_lt (Nat.sub_le _ _) t.isLt)) (fun _ => bodyPost m c t)
        (fun h => h0 ((at_first t).mp h)) (fun h => h0 ((at_first' t).mp h)) ((at_later t).mpr h0) ((at_last t).mpr h7) W
      rw [e0]
      refine BIBase.Entails.trans ?_ run
      rw [e1]
      iintro ⟨H, Hf, Ha⟩
      isplitl [H]; · iexact H
      isplitl [Hf]; · iexact Hf
      isplitl [Ha]; · iexact Ha
      iintro %W'
      iintro Hl
      iapply (closes m c t W' _ (acc_next m c t h0).symm); iexact Hl
    · have e0 : core m c t.val = core m c (t.val + 1) := by
        rw [core, core, if_neg (by omega), if_neg (by omega), if_neg (by omega), if_neg (by omega)]
      have run := middle c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) (st0_11 t) (hst11 t) (iblk m c 0 t) (iblk m c 1 t) (iblk m c 2 t) (iblk m c 3 t) (iblk m c 4 t) (iblk m c 5 t) (iblk m c 6 t) (iblk m c 7 t) (acc m c (t.val - 1) (Nat.lt_of_le_of_lt (Nat.sub_le _ _) t.isLt)) (fun _ => bodyPost m c t)
        (fun h => h0 ((at_first t).mp h)) (fun h => h0 ((at_first' t).mp h)) ((at_later t).mpr h0) (fun h => h7 ((at_last t).mp h))
      rw [e0]
      refine BIBase.Entails.trans ?_ run
      iintro ⟨H, Hf, Ha⟩
      isplitl [Hf]; · iexact Hf
      isplitl [Ha]; · iexact Ha
      iintro Hl
      iapply (closes m c t W _ (acc_next m c t h0).symm)
      isplitl [H]; · iexact H
      iexact Hl

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## Before the first point and after the last -/

theorem ownSemFacts  : Pipeline.OwnSemFacts spec0 plan.osem := by decide

/-- What the launch deals out: what a device brings to the exchange, and the half of the sums it keeps. -/
theorem deal (c : Dev nD) :
    iprop((Pipeline.ownSems0 plan.osem c ∗ Pipeline.unscopedRest spec0 c (fun b => m ((c : Thread nD τ).loc b))) ∗ plan.G m c : sProp 𝕄)
      ⊢ iprop(plan.brings m c ∗ kept m c) := by
  rw [unscopedRest0_eq]
  unfold Plan.brings
  iintro ⟨⟨Hs, Hx, Hy⟩, HG⟩
  ihave Hx' := (sums_split m c).1 $$ Hx
  icases Hx' with ⟨Hx, Hk⟩
  isplitr [Hk]
  · isplitr [HG]
    · isplitl [Hs]; · iexact Hs
      isplitl [Hx]; · iexact Hx
      iapply (Entails.of_eq (slots_split m c)); iexact Hy
    · iexact HG
  · iexact Hk

/-- What a device has once the exchange is set up. -/
def set (c : Dev nD) : sProp 𝕄 := iprop((∃ K, plan.ready m K c) ∗ kept m c)

theorem set_of (K : Dev nD × (Bool × Fin 4) → ℕ) (c : Dev nD) : iprop(plan.ready m K c ∗ kept m c) ⊢ set m c := by
  unfold set
  iintro ⟨H, Hk⟩
  isplitl [H]; · iexists K; iexact H
  iexact Hk

theorem set_all : iprop((∃ K, bigSep Finset.univ (plan.ready m K)) ∗ bigSep Finset.univ (kept m)) ⊢ bigSep Finset.univ (set m) := by
  iintro ⟨⟨%K, H⟩, Hk⟩
  iapply (show iprop(bigSep Finset.univ (plan.ready m K) ∗ bigSep Finset.univ (kept m)) ⊢ bigSep Finset.univ (set m) from by
    rw [← bigSep_sep']
    exact bigSep_mono fun c _ => set_of m K c)
  isplitl [H]; · iexact H
  iexact Hk

theorem share : iprop(bigSep Finset.univ (plan.brings m) ∗ bigSep Finset.univ (kept m)) ⊢ |={Set.univ}=> bigSep Finset.univ (set m) := by
  iintro ⟨Hb, Hk⟩
  imod (plan.glob m) $$ Hb with H
  imodintro
  iapply (set_all m)
  isplitl [H]; · iexact H
  iexact Hk

theorem setup :
    (bigSep Finset.univ fun c => iprop((Pipeline.ownSems0 plan.osem c
        ∗ Pipeline.unscopedRest spec0 c (fun b => m ((c : Thread nD τ).loc b))) ∗ plan.G m c) : sProp 𝕄)
      ⊢ |={Set.univ}=> bigSep Finset.univ (set m) := by
  refine (bigSep_mono fun c _ => deal m c).trans ?_
  rw [bigSep_sep']
  exact share m

/-- The kernel's own array, as the region hands it over and takes it back. -/
theorem room_eq (c : Dev nD) : (Pipeline.scopedRest spec0 c : sProp 𝕄) ⊣⊢ room c := by
  rw [scopedRest0_eq]
  unfold room
  constructor
  · iintro ⟨%f, H⟩
    iexists f
    iapply (Entails.of_eq (owns_whole (c : Thread nD τ) cc0_scratch0 fullShare f).symm); iexact H
  · iintro ⟨%d, H⟩
    iexists d
    iapply (Entails.of_eq (owns_whole (c : Thread nD τ) cc0_scratch0 fullShare d)); iexact H

theorem enter (c : Dev nD) :
    iprop((levAts Plan.L plan.lv ∗ Pipeline.launchCred plan.O₀ c ∗ set m c) ∗ Pipeline.scopedRest spec0 c) ⊢ (dats m 0 c).Φ 0 := by
  rw [show (dats m 0 c).Φ 0 = iprop(start m c ∗ room c) from rfl]
  unfold set start
  iintro ⟨⟨-, Hc, Hr, Hk⟩, HR⟩
  isplitr [HR]
  · isplitl [Hr]; · iexact Hr
    isplitl [Hc]; · iapply (plan.creds c); iexact Hc
    iexact Hk
  · iapply (room_eq c).1; iexact HR

/-- What is left to read at the end: the sums unchanged, the received blocks in place. -/
def found_at_end (c : Dev nD) : sProp 𝕄 :=
  iprop((((c : Thread nD τ).loc main_arg7) ↦{fullShare} m ((c : Thread nD τ).loc main_arg7))
    ∗ (((c : Thread nD τ).loc main_v1_4) ↦{fullShare} received m c))

theorem parts_done (c : Dev nD) :
    iprop(plan.done m c 0 ∗ plan.done m c 1 ∗ plan.done m c 2 ∗ plan.done m c 3)
      ⊢ iprop(((bigSep Finset.univ fun j => plan.srcPts m j c) ∗ bigSep Finset.univ fun j => plan.filled m j c) ∗ Pipeline.ownSems0 plan.osem c) := by
  have e : (Pipeline.ownSems0 plan.osem c : sProp 𝕄) = bigSep Finset.univ fun k : Bool × Fin 4 => semVal (plan.kcell (c, k)) 0 := rfl
  rw [e, bigSep_kinds, bigSep_fin4, bigSep_fin4, bigSep_fin4, bigSep_fin4]
  unfold Plan.done
  iintro ⟨⟨⟨a0, b0⟩, s0, r0⟩, ⟨⟨a1, b1⟩, s1, r1⟩, ⟨⟨a2, b2⟩, s2, r2⟩, ⟨⟨a3, b3⟩, s3, r3⟩⟩
  isplitl [a0 a1 a2 a3 b0 b1 b2 b3]
  · isplitl [a0 a1 a2 a3]
    · isplitl [a0]; · iexact a0
      isplitl [a1]; · iexact a1
      isplitl [a2]; · iexact a2
      iexact a3
    · isplitl [b0]; · iexact b0
      isplitl [b1]; · iexact b1
      isplitl [b2]; · iexact b2
      iexact b3
  · isplitl [s0 s1 s2 s3]
    · isplitl [s0]; · iexact s0
      isplitl [s1]; · iexact s1
      isplitl [s2]; · iexact s2
      iexact s3
    · isplitl [r0]; · iexact r0
      isplitl [r1]; · iexact r1
      isplitl [r2]; · iexact r2
      iexact r3

theorem leave (c : Dev nD) :
    (dats m 0 c).Φ (Fin.last cfg0.N) ⊢ iprop(found_at_end m c ∗ Pipeline.ownSems0 plan.osem c ∗ Pipeline.scopedRest spec0 c) := by
  rw [show (dats m 0 c).Φ (Fin.last cfg0.N) = iprop(ended m c ∗ room c) from rfl]
  unfold ended found_at_end
  iintro ⟨⟨Hd, Hk⟩, HR⟩
  ihave H := (parts_done m c) $$ Hd
  icases H with ⟨⟨Hs, Hf⟩, Hz⟩
  isplitl [Hs Hf Hk]
  · isplitl [Hs Hk]
    · iapply (sums_split m c).2
      isplitl [Hs]; · iexact Hs
      iexact Hk
    · iapply (Entails.of_eq (slots_join m c)); iexact Hf
  · isplitl [Hz]; · iexact Hz
    iapply (room_eq c).2; iexact HR

/-- The two arrays the kernel reaches by itself, at the end. -/
def ends (c : Dev nD) (s : MemSt nD τ sig (Elt F)) : Prop :=
  s.mem ((c : Thread nD τ).loc main_arg7) = m ((c : Thread nD τ).loc main_arg7) ∧ s.mem ((c : Thread nD τ).loc main_v1_4) = received m c

theorem read_end (c : Dev nD) (s' : Phys nD τ sig (Elt F)) :
    iprop(found_at_end m c ∗ SI s') ⊢ |={Set.univ}=> iprop(⌜ends m c s'.mem⌝ ∗ SI s' : sProp 𝕄) := by
  have h1 := pointsTo_read_all (Ix := Unit) (Name := ℕ) (U := UU) (Lvl := ℕ) Finset.univ (fun _ : Unit => (c : Thread nD τ).loc main_arg7) (fun _ => m ((c : Thread nD τ).loc main_arg7)) s'
  have h2 := pointsTo_read_all (Ix := Unit) (Name := ℕ) (U := UU) (Lvl := ℕ) Finset.univ (fun _ : Unit => (c : Thread nD τ).loc main_v1_4) (fun _ => received m c) s'
  rw [show (Finset.univ : Finset Unit) = {()} from rfl, bigSep_singleton] at h1 h2
  unfold found_at_end
  iintro ⟨⟨Ha, Hb⟩, HSI⟩
  ihave H := h1 $$ [Ha HSI]
  · isplitl [Ha] <;> iassumption
  icases H with ⟨%ha, HSI⟩
  ihave H := h2 $$ [Hb HSI]
  · isplitl [Hb] <;> iassumption
  icases H with ⟨%hb, HSI⟩
  imodintro
  isplitr
  · ipureintro; exact ⟨ha () (by simp), hb () (by simp)⟩
  · iexact HSI

/-! ## The run -/

/-- From any memory with zero counters: the two devices terminate; each window's array ends as the body leaves it, the
    sums unchanged, the received blocks in place, every counter at zero. -/
theorem run : θ_run (defs (F := F)) (onTc (τ := τ) (main (F := F))) ⟨m, fun _ => 0, ρ⟩ (fun r =>
    (∀ c : Dev nD, (∀ w, r.2.mem ((c : Thread nD τ).loc (Pipeline.arrRef spec0 w)) = (dats m 0 c).arrAt w cfg0.N) ∧ ends m c r.2)
      ∧ r.2.sem = fun _ => 0) :=
  run_region cfgs (dats m) () cellOf_inj (0 : Fin 1) winFacts₀0 ownSemFacts EP m defs₀ Variants.none ρ main
    (hmain := fun _ => rfl) (hbody := body_obligation m) (hne := fun w => by fin_cases w <;> exact Nat.succ_pos _)
    (harr := arr_whole0) (hstage := stage_whole0) (hsh := sharedIn0) (hq := fun _ _ _ => rfl)
    (O₀ := plan.O₀) (howed₀ := fun _ => rfl) (howedN := fun _ => rfl) (L := Plan.L) (lv := plan.lv) (hL := Plan.L_of_ne)
    (hwaits := fun c => Pipeline.cellsWaits_intro cfgs (dats m) () 0 c fun w s t =>
      plan.mayWait_other c _ (by fin_cases w <;> fin_cases s <;> decide) _ (by
        rcases t with ⟨_ | _, ht⟩
        · exact Or.inl rfl
        · exact Or.inr rfl))
    (hA := fun _ _ => rfl) (G := plan.G m) (G' := set m) (Y := found_at_end m)
    (u₀ := (initOf (Pipeline.cells cfgs cellOf_inj) (Pipeline.launchToks cfgs cellOf_inj), initOf plan.cells plan.toks))
    (hu₀ := by
      iintro Hu
      ihave H := (ownU_pair _ _) $$ Hu
      icases H with ⟨HP, HX⟩
      imod (plan.fund m) $$ HX with HG
      imodintro
      isplitl [HP] <;> iassumption)
    (hglob := setup m) (hin := enter m) (hout := leave m) (QY := ends m) (hY := read_end m)
    (hQ := fun s h hs => ⟨h, sem_eq_zero_of_scoped (by decide) hs⟩)

end BwUp

end
-- ==== Proof.Ffn.Spec.lean ====
/- The last ConvFFN with the loss behind it, entry by entry over the extended reals. -/
module

public import proofs.«01_k».proof.Proof.Down.Spec

@[expose] public section

noncomputable section

namespace Ffn

open Idealize.ShloMosaic

/-- The normalised input, the residual stream, the up projection, the taps, the bias, the down projection, the final norm's
    weight and the target. -/
structure Args where
  h : (⟨2, ![4096, 1024]⟩ : Shape).Idx → EReal
  x : (⟨2, ![4096, 1024]⟩ : Shape).Idx → EReal
  wu : (⟨2, ![1024, 5632]⟩ : Shape).Idx → EReal
  w : (⟨2, ![3, 2816]⟩ : Shape).Idx → EReal
  b : (⟨2, ![1, 2816]⟩ : Shape).Idx → EReal
  wd : (⟨2, ![2816, 1024]⟩ : Shape).Idx → EReal
  n : (⟨1, ![1024]⟩ : Shape).Idx → EReal
  tg : (⟨2, ![4096, 1024]⟩ : Shape).Idx → EReal

variable (A : Args)

/-- The up projection at row `r`, column `f`. -/
def up (r : Fin 4096) (f : Fin 5632) : EReal := ∑ d : Fin 1024, A.h (ix2 r d) * A.wu (ix2 d f)

/-- The arguments of the gated convolution: the up projection, the taps and the bias. -/
def mid : Down.Args where
  dx := fun _ => 0
  up := fun i => up A (i 0) (i 1)
  w := A.w
  b := A.b
  wd := A.wd

/-- The gated activation. -/
def g (r : Fin 4096) (f : Fin 2816) : EReal :=
  Down.conv (mid A) r f * Ideal.logistic (Down.conv (mid A) r f) * up A r ⟨2816 + f, by omega⟩

/-- The residual stream behind the block. -/
def xo (r : Fin 4096) (d : Fin 1024) : EReal := A.x (ix2 r d) + ∑ f : Fin 2816, g A r f * A.wd (ix2 f d)

/-- The small number below the root. -/
def eps : EReal := Ideal.ofBits .f32 0x358637BD#32

/-- The reciprocal root of a row's mean square. -/
def rr (r : Fin 4096) : EReal := Ideal.rsqrt (Ideal.div (∑ d : Fin 1024, xo A r d * xo A r d) ((1024 : ℝ) : EReal) + eps)

/-- The normalised row. -/
def xh (r : Fin 4096) (d : Fin 1024) : EReal := xo A r d * rr A r

/-- The final norm's output less the target. -/
def diff (r : Fin 4096) (d : Fin 1024) : EReal := xh A r d * A.n (ix1 d) - A.tg (ix2 r d)

/-- The loss, feature by feature. -/
def loss (d : Fin 1024) : EReal := ∑ r : Fin 4096, ((1 / 2048 : ℝ) : EReal) * (diff A r d * diff A r d)

/-- The gradient of the final norm's output. -/
def dy (r : Fin 4096) (d : Fin 1024) : EReal := diff A r d * ((1 / 1024 : ℝ) : EReal)

/-- The gradient of the normalised row. -/
def dh (r : Fin 4096) (d : Fin 1024) : EReal := dy A r d * A.n (ix1 d)

/-- The gradient of the residual stream. -/
def dx (r : Fin 4096) (d : Fin 1024) : EReal :=
  rr A r * (dh A r d - xh A r d * Ideal.div (∑ e : Fin 1024, dh A r e * xh A r e) ((1024 : ℝ) : EReal))

/-- The gradient of the final norm's weight. -/
def dn (d : Fin 1024) : EReal := ∑ r : Fin 4096, dy A r d * xh A r d

/-! ## The constants -/

theorem c_1024 : Ideal.ofBits .f32 0x44800000#32 = ((1024 : ℝ) : EReal) := by
  simp [Ideal.ofBits, Ideal.ieee]
  norm_num
  rw [← EReal.coe_mul]
  norm_num

theorem c_loss : Ideal.ofBits .f32 0x3A000000#32 = ((1 / 2048 : ℝ) : EReal) := by
  simp [Ideal.ofBits, Ideal.ieee]
  norm_num
  rw [← EReal.coe_mul]
  norm_num

theorem c_inv : Ideal.ofBits .f32 0x3A800000#32 = ((1 / 1024 : ℝ) : EReal) := by
  simp [Ideal.ofBits, Ideal.ieee]
  norm_num
  rw [← EReal.coe_mul]
  norm_num

theorem c_half : Ideal.ofBits .f32 0x3F000000#32 = ((1 / 2 : ℝ) : EReal) := by
  simp [Ideal.ofBits, Ideal.ieee]
  norm_num
  rw [← EReal.coe_mul]
  norm_num

theorem c_neg_half : Ideal.ofBits .f32 0xBF000000#32 = ((-1 / 2 : ℝ) : EReal) := by
  simp [Ideal.ofBits, Ideal.ieee]
  norm_num
  rw [← EReal.coe_mul]
  norm_num

theorem c_two : Ideal.ofBits .f32 0x40000000#32 = ((2 : ℝ) : EReal) := by
  simp [Ideal.ofBits, Ideal.ieee]
  norm_num
  rw [← EReal.coe_mul]
  norm_num

/-- The small number is a positive real. -/
theorem eps_pos : ∃ e : ℝ, 0 < e ∧ eps = e := by
  unfold eps
  simp only [Ideal.ofBits, Ideal.ieee]
  refine ⟨_, ?_, if_neg (by decide) |>.trans (if_neg (by decide))⟩
  simp

/-! ## Real arguments -/

/-- Every entry of the arguments is a real number. -/
structure Args.Real : Prop where
  h : ∀ i, ∃ x : ℝ, A.h i = x
  x : ∀ i, ∃ x : ℝ, A.x i = x
  wu : ∀ i, ∃ x : ℝ, A.wu i = x
  w : ∀ i, ∃ x : ℝ, A.w i = x
  b : ∀ i, ∃ x : ℝ, A.b i = x
  wd : ∀ i, ∃ x : ℝ, A.wd i = x
  n : ∀ i, ∃ x : ℝ, A.n i = x
  tg : ∀ i, ∃ x : ℝ, A.tg i = x

/-- A sum of reals is a real sum. -/
theorem sum_coe {n : ℕ} (f : Fin n → ℝ) : (∑ i, (f i : EReal)) = ((∑ i, f i : ℝ) : EReal) := by
  induction n with
  | zero => simp
  | succ n ih => rw [Fin.sum_univ_succ, Fin.sum_univ_succ, ih, EReal.coe_add]

variable {A}

theorem up_real (H : A.Real) (r : Fin 4096) (f : Fin 5632) : ∃ x : ℝ, up A r f = x :=
  Down.sum_real _ _ (fun _ => H.h _) (fun _ => H.wu _)

theorem mid_real (H : A.Real) : (mid A).Real := ⟨fun _ => ⟨0, rfl⟩, fun _ => up_real H _ _, H.w, H.b, H.wd⟩

theorem g_real (H : A.Real) (r : Fin 4096) (f : Fin 2816) : ∃ x : ℝ, g A r f = x := by
  obtain ⟨c, hc⟩ := Down.conv_real (mid_real H) r f
  obtain ⟨u, hu⟩ := up_real H r ⟨2816 + f, by omega⟩
  unfold g
  rw [hc, hu, Ideal.logistic_coe]
  exact ⟨_, by norm_cast⟩

theorem xo_real (H : A.Real) (r : Fin 4096) (d : Fin 1024) : ∃ x : ℝ, xo A r d = x := by
  obtain ⟨x, hx⟩ := H.x (ix2 r d)
  obtain ⟨s, hs⟩ := Down.sum_real (fun f : Fin 2816 => g A r f) (fun f => A.wd (ix2 f d)) (fun _ => g_real H _ _) (fun _ => H.wd _)
  unfold xo
  rw [hx, hs]
  exact ⟨_, by norm_cast⟩

/-- The mean square and the small number make a positive real, and the reciprocal root is that of the real. -/
theorem rr_real (H : A.Real) (r : Fin 4096) : ∃ v : ℝ, 0 < v
    ∧ Ideal.div (∑ d : Fin 1024, xo A r d * xo A r d) ((1024 : ℝ) : EReal) + eps = v ∧ rr A r = ((Real.sqrt v)⁻¹ : ℝ) := by
  choose u hu using xo_real H r
  obtain ⟨e, he, hee⟩ := eps_pos
  have hv : Ideal.div (∑ d : Fin 1024, xo A r d * xo A r d) ((1024 : ℝ) : EReal) + eps = ((∑ d : Fin 1024, u d * u d) * (1 / 1024) + e : ℝ) := by
    rw [Ideal.div_coe (by norm_num), hee]
    simp only [hu, ← EReal.coe_mul, sum_coe, ← EReal.coe_add]
  have hp : 0 < (∑ d : Fin 1024, u d * u d) * (1 / 1024) + e :=
    add_pos_of_nonneg_of_pos (mul_nonneg (Finset.sum_nonneg fun _ _ => mul_self_nonneg _) (by norm_num)) he
  refine ⟨_, hp, hv, ?_⟩
  unfold rr
  rw [hv, Ideal.rsqrt_coe, if_neg (not_lt.mpr hp.le), if_neg hp.ne']

theorem xh_real (H : A.Real) (r : Fin 4096) (d : Fin 1024) : ∃ x : ℝ, xh A r d = x := by
  obtain ⟨x, hx⟩ := xo_real H r d
  obtain ⟨v, _, _, hv⟩ := rr_real H r
  unfold xh
  rw [hx, hv]
  exact ⟨_, by norm_cast⟩

theorem diff_real (H : A.Real) (r : Fin 4096) (d : Fin 1024) : ∃ x : ℝ, diff A r d = x := by
  obtain ⟨x, hx⟩ := xh_real H r d
  obtain ⟨n, hn⟩ := H.n (ix1 d)
  obtain ⟨t, ht⟩ := H.tg (ix2 r d)
  unfold diff
  rw [hx, hn, ht]
  exact ⟨_, by norm_cast⟩

theorem dh_real (H : A.Real) (r : Fin 4096) (d : Fin 1024) : ∃ x : ℝ, dh A r d = x := by
  obtain ⟨x, hx⟩ := xh_real H r d
  obtain ⟨n, hn⟩ := H.n (ix1 d)
  obtain ⟨t, ht⟩ := H.tg (ix2 r d)
  unfold dh dy diff
  rw [hx, hn, ht]
  exact ⟨_, by norm_cast⟩

/-- The gradient through the root, as the product rule gives it term by term, is the gradient in the kernel's form. -/
theorem dx_of_real (H : A.Real) (r : Fin 4096) (d : Fin 1024) :
    let s : EReal := Ideal.div ((∑ e : Fin 1024, xo A r e * dh A r e)
      * (((-1 / 2 : ℝ) : EReal) * Ideal.div (rr A r) (Ideal.div (∑ d : Fin 1024, xo A r d * xo A r d) ((1024 : ℝ) : EReal) + eps))) ((1024 : ℝ) : EReal)
    dh A r d * rr A r + xo A r d * s + s * xo A r d = dx A r d := by
  choose u hu using xo_real H r
  choose y hy using dh_real H r
  obtain ⟨v, hv, hve, hr⟩ := rr_real H r
  dsimp only
  unfold dx xh
  have h2 : (1024 : ℝ) ≠ 0 := by norm_num
  rw [hve, Ideal.div_coe hv.ne', Ideal.div_coe h2, Ideal.div_coe h2, hr]
  simp only [hu, hy, ← EReal.coe_mul, sum_coe, ← EReal.coe_add, ← EReal.coe_sub]
  have hs : ((Real.sqrt v)⁻¹ : ℝ) * (Real.sqrt v)⁻¹ = 1 / v := by
    rw [← mul_inv, Real.mul_self_sqrt hv.le, one_div]
  have e1 : (∑ e : Fin 1024, y e * (u e * (Real.sqrt v)⁻¹)) = (∑ e : Fin 1024, u e * y e) * (Real.sqrt v)⁻¹ := by
    rw [Finset.sum_mul]
    exact Finset.sum_congr rfl fun _ _ => by ring
  rw [e1, ← hs]
  generalize (∑ e : Fin 1024, u e * y e) = z
  exact congrArg _ (by ring)

end Ffn

end
-- ==== Proof.BwUp.Spec.lean ====
/- The up projections' backward call, entry by entry over the extended reals: one device's rows. -/
module

public import proofs.«01_k».proof.Proof.Ffn.Spec

@[expose] public section

noncomputable section

namespace BwUp.Spec

open Idealize.ShloMosaic
open Ffn (eps eps_pos sum_coe)

/-- The convolution's gradient, the gradient of the up projection's halves, the up projection's weights half by half, the
    taps, the block's input, its norm's weight, and the gradient that passes the block by. -/
structure Args where
  dac : (⟨2, ![4096, 2816]⟩ : Shape).Idx → EReal
  dup : (⟨2, ![4096, 5632]⟩ : Shape).Idx → EReal
  wg : (⟨3, ![2, 1024, 2816]⟩ : Shape).Idx → EReal
  w : (⟨2, ![8, 2816]⟩ : Shape).Idx → EReal
  x : (⟨2, ![4096, 1024]⟩ : Shape).Idx → EReal
  g : (⟨2, ![1, 1024]⟩ : Shape).Idx → EReal
  dx : (⟨2, ![4096, 1024]⟩ : Shape).Idx → EReal

variable (A : Args)

/-- The convolution's gradient `k` rows on, nothing past the end of a sequence. -/
def tap (k : Nat) (r : Fin 4096) (f : Fin 2816) : EReal :=
  if h : r.val % 2048 + k < 2048 then A.dac (ix2 ⟨r.val + k, by have := r.isLt; omega⟩ f) else 0

/-- The gradient of the activation half. -/
def da (r : Fin 4096) (f : Fin 2816) : EReal :=
  A.w (ix2 2 f) * A.dac (ix2 r f) + A.w (ix2 0 f) * tap A 2 r f + A.w (ix2 1 f) * tap A 1 r f

/-- The gradient of the normalised input. -/
def dh (r : Fin 4096) (d : Fin 1024) : EReal :=
  (∑ f : Fin 2816, da A r f * A.wg (ix3 0 d f)) + ∑ f : Fin 2816, A.dup (ix2 r ⟨2816 + f.val, by omega⟩) * A.wg (ix3 1 d f)

/-- The reciprocal root of a row's mean square. -/
def rr (r : Fin 4096) : EReal := Ideal.rsqrt (Ideal.div (∑ d : Fin 1024, A.x (ix2 r d) * A.x (ix2 r d)) ((1024 : ℝ) : EReal) + eps)

/-- The normalised row. -/
def xh (r : Fin 4096) (d : Fin 1024) : EReal := A.x (ix2 r d) * rr A r

/-- The gradient before the norm's weight. -/
def dy (r : Fin 4096) (d : Fin 1024) : EReal := dh A r d * A.g (ix2 0 d)

/-- The gradient of the residual stream. -/
def out (r : Fin 4096) (d : Fin 1024) : EReal :=
  A.dx (ix2 r d) + rr A r * (dy A r d - xh A r d * Ideal.div (∑ e : Fin 1024, dy A r e * xh A r e) ((1024 : ℝ) : EReal))

/-- The gradient of the norm's weight. -/
def dg (d : Fin 1024) : EReal := ∑ r : Fin 4096, dh A r d * xh A r d

/-! ## Real arguments -/

/-- Every entry of the arguments but the last is a real number. -/
structure Args.Real : Prop where
  dac : ∀ i, ∃ x : ℝ, A.dac i = x
  dup : ∀ i, ∃ x : ℝ, A.dup i = x
  wg : ∀ i, ∃ x : ℝ, A.wg i = x
  w : ∀ i, ∃ x : ℝ, A.w i = x
  x : ∀ i, ∃ x : ℝ, A.x i = x
  g : ∀ i, ∃ x : ℝ, A.g i = x

variable {A}

theorem tap_real (H : A.Real) (k : Nat) (r : Fin 4096) (f : Fin 2816) : ∃ x : ℝ, tap A k r f = x := by
  unfold tap
  split
  · exact H.dac _
  · exact ⟨0, rfl⟩

theorem da_real (H : A.Real) (r : Fin 4096) (f : Fin 2816) : ∃ x : ℝ, da A r f = x := by
  obtain ⟨a, ha⟩ := H.w (ix2 2 f)
  obtain ⟨b, hb⟩ := H.w (ix2 0 f)
  obtain ⟨c, hc⟩ := H.w (ix2 1 f)
  obtain ⟨p, hp⟩ := H.dac (ix2 r f)
  obtain ⟨q, hq⟩ := tap_real H 2 r f
  obtain ⟨s, hs⟩ := tap_real H 1 r f
  unfold da
  rw [ha, hb, hc, hp, hq, hs]
  exact ⟨_, by norm_cast⟩

theorem dy_real (H : A.Real) (r : Fin 4096) (d : Fin 1024) : ∃ x : ℝ, dy A r d = x := by
  obtain ⟨a, ha⟩ := Down.sum_real (fun f : Fin 2816 => da A r f) (fun f => A.wg (ix3 0 d f)) (fun _ => da_real H _ _) (fun _ => H.wg _)
  obtain ⟨b, hb⟩ := Down.sum_real (fun f : Fin 2816 => A.dup (ix2 r ⟨2816 + f.val, by omega⟩)) (fun f => A.wg (ix3 1 d f)) (fun _ => H.dup _) (fun _ => H.wg _)
  obtain ⟨g, hg⟩ := H.g (ix2 0 d)
  unfold dy dh
  rw [ha, hb, hg]
  exact ⟨_, by norm_cast⟩

/-- On real rows the product rule's three terms through the root are the gradient in the kernel's form. -/
theorem through_root (u y : Fin 1024 → EReal) (hu : ∀ e, ∃ x : ℝ, u e = x) (hy : ∀ e, ∃ x : ℝ, y e = x) (d : Fin 1024) :
    let v : EReal := Ideal.div (∑ e : Fin 1024, u e * u e) ((1024 : ℝ) : EReal) + eps
    let s : EReal := Ideal.div ((∑ e : Fin 1024, u e * y e) * (((-1 / 2 : ℝ) : EReal) * Ideal.div (Ideal.rsqrt v) v)) ((1024 : ℝ) : EReal)
    y d * Ideal.rsqrt v + u d * s + s * u d
      = Ideal.rsqrt v * (y d - u d * Ideal.rsqrt v * Ideal.div (∑ e : Fin 1024, y e * (u e * Ideal.rsqrt v)) ((1024 : ℝ) : EReal)) := by
  choose u' hu using hu
  choose y' hy using hy
  obtain ⟨e, he, hee⟩ := eps_pos
  have h2 : (1024 : ℝ) ≠ 0 := by norm_num
  dsimp only
  have hv : Ideal.div (∑ e : Fin 1024, u e * u e) ((1024 : ℝ) : EReal) + eps = ((∑ d : Fin 1024, u' d * u' d) * (1 / 1024) + e : ℝ) := by
    rw [Ideal.div_coe h2, hee]
    simp only [hu, ← EReal.coe_mul, sum_coe, ← EReal.coe_add]
  have hp : 0 < (∑ d : Fin 1024, u' d * u' d) * (1 / 1024) + e :=
    add_pos_of_nonneg_of_pos (mul_nonneg (Finset.sum_nonneg fun _ _ => mul_self_nonneg _) (by norm_num)) he
  rw [hv]
  generalize (∑ d : Fin 1024, u' d * u' d) * (1 / 1024) + e = v at hp ⊢
  rw [Ideal.rsqrt_coe, if_neg (not_lt.mpr hp.le), if_neg hp.ne', Ideal.div_coe hp.ne', Ideal.div_coe h2, Ideal.div_coe h2]
  simp only [hu, hy, ← EReal.coe_mul, sum_coe, ← EReal.coe_add, ← EReal.coe_sub]
  have hs : ((Real.sqrt v)⁻¹ : ℝ) * (Real.sqrt v)⁻¹ = 1 / v := by
    rw [← mul_inv, Real.mul_self_sqrt hp.le, one_div]
  have e1 : (∑ e : Fin 1024, y' e * (u' e * (Real.sqrt v)⁻¹)) = (∑ e : Fin 1024, u' e * y' e) * (Real.sqrt v)⁻¹ := by
    rw [Finset.sum_mul]
    exact Finset.sum_congr rfl fun _ _ => by ring
  rw [e1, ← hs]
  generalize (∑ e : Fin 1024, u' e * y' e) = z
  exact congrArg _ (by ring)

end BwUp.Spec

end
-- ==== Proof.BwUp.BlockAt.lean ====
/- One grid point of the up projections' backward kernel, read at an entry over the extended reals. -/
module

public import proofs.«01_k».proof.Proof.BwUp.Body
public import proofs.«01_k».proof.Proof.BwUp.Spec
public import Idealize.ShloMosaic.Lib.Pipeline.ReadBack
public import Idealize.ShloMosaic.Lib.Pipeline.ValueKit

@[expose] public section

set_option maxRecDepth 16384

noncomputable section

namespace BwUp.At

open Idealize.ShloMosaic Idealize.ShloMosaic.TcCoe Idealize.SL.Sem
open Cert.BwUpIdeal Cert.BwUpIdeal.Gen
open Ffn (eps c_1024)

/-- What two stores of the buffer's rows 256 to 263 and 0 to 255 leave at an entry. -/
theorem canon_two (p : S256x2816.Idx → EReal) (q : S8x2816.Idx → EReal) (r : Fin 264) (f : Fin 2816) :
    View.canon (Val := Elt Ideal) (e := .f32) (s := S264x2816) [⟨at256, q⟩, ⟨at0, p⟩] (ix2 r f)
      = if h : r.val < 256 then p (ix2 ⟨r, h⟩ f) else q (ix2 ⟨r.val - 256, by omega⟩ f) := by
  split
  · rename_i h
    rw [View.canon_cons_of_not_mem]
    · refine (congrArg _ ?_).trans (View.canon_cons_emb (Val := Elt Ideal) (e := .f32) at0 p [] (ix2 ⟨r, h⟩ f))
      funext a
      fin_cases a <;> exact Fin.ext (by simp [Rect.emb, LoadRect.idx, Rect.toLoadRect, Rect.unit, ix2])
    · dsimp only
      rw [Rect.mem_set_unit]
      intro h'
      have := (h' 0).1
      simp [ix2] at this
      omega
  · rename_i h
    refine (congrArg _ ?_).trans (View.canon_cons_emb (Val := Elt Ideal) (e := .f32) at256 q _ (ix2 ⟨r.val - 256, by omega⟩ f))
    funext a
    fin_cases a <;> exact Fin.ext (by simp [Rect.emb, LoadRect.idx, Rect.toLoadRect, Rect.unit, ix2] <;> omega)

variable (i : grid0.Coords) (x0 : Vec Ideal S256x2816 .f32) (x1 : Vec Ideal S8x2816 .f32) (x2 : Vec Ideal S256x2816 .bf16)
  (x3 : Vec Ideal S2x1024x2816 .bf16) (x4 : Vec Ideal S8x2816 .f32) (x5 : Vec Ideal S256x1024 .f32) (x6 : Vec Ideal S1x1024 .f32)
  (x7 : Vec Ideal S256x1024 .f32)

/-- The rows after the block, as stored: zero at the last block of a sequence. -/
theorem halo_apply (r : Fin 8) (f : Fin 2816) :
    k0_pay2 i (View.ld x1 edge) (ix2 r f) = if (i 0).val % 8 = 7 then (0 : EReal) else x1 (ix2 r f) := by
  have key : ∀ n : Fin 16, (Scalar.cmpi .eq (Scalar.select (Scalar.andi (Scalar.xori (Scalar.cmpi .slt (Scalar.remsi (BitVec.ofNat 32 n.val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 n.val) (Scalar.select (Scalar.cmpi .eq 8#32 0#32) 1#32 8#32)) 0#32)) (Scalar.addi (Scalar.remsi (BitVec.ofNat 32 n.val) (Scalar.select (Scalar.cmpi .eq 8#32 0#32) 1#32 8#32)) (Scalar.select (Scalar.cmpi .eq 8#32 0#32) 1#32 8#32)) (Scalar.remsi (BitVec.ofNat 32 n.val) (Scalar.select (Scalar.cmpi .eq 8#32 0#32) 1#32 8#32))) 7#32)
      = if n.val % 8 = 7 then 1#1 else 0#1 := by decide +kernel
  unfold k0_pay2
  dsimp only
  rw [key (i 0)]
  split <;> pointwise

/-- The extended block at an entry. -/
theorem ext_apply (r : Fin 264) (f : Fin 2816) :
    ext i x0 x1 (ix2 r f) = if h : r.val < 256 then x0 (ix2 ⟨r, h⟩ f)
      else if (i 0).val % 8 = 7 then (0 : EReal) else x1 (ix2 ⟨r.val - 256, by omega⟩ f) := by
  unfold ext
  refine (canon_two _ _ r f).trans ?_
  split
  · pointwise [k0_pay1]
  · exact halo_apply i x1 _ f

theorem at2_apply (z : Vec Ideal S264x2816 .f32) (r : Fin 256) (f : Fin 2816) : View.ld z at2 (ix2 r f) = z (ix2 ⟨r.val + 2, by omega⟩ f) := by
  rw [View.ld_unit_apply_of]
  intro a
  fin_cases a <;> simp [ix2] <;> omega
theorem at1_apply (z : Vec Ideal S264x2816 .f32) (r : Fin 256) (f : Fin 2816) : View.ld z at1 (ix2 r f) = z (ix2 ⟨r.val + 1, by omega⟩ f) := by
  rw [View.ld_unit_apply_of]
  intro a
  fin_cases a <;> simp [ix2] <;> omega
theorem w0_apply (f : Fin 2816) : View.ld x4 w0 (ix2 0 f) = x4 (ix2 0 f) := by
  rw [View.ld_unit_apply_of]
  intro a
  fin_cases a <;> simp [ix2] <;> rfl
theorem w1_apply (f : Fin 2816) : View.ld x4 w1 (ix2 0 f) = x4 (ix2 1 f) := by
  rw [View.ld_unit_apply_of]
  intro a
  fin_cases a <;> simp [ix2] <;> rfl
theorem w2_apply (f : Fin 2816) : View.ld x4 w2 (ix2 0 f) = x4 (ix2 2 f) := by
  rw [View.ld_unit_apply_of]
  intro a
  fin_cases a <;> simp [ix2] <;> rfl

theorem made8_eq : made8 i x0 x1 x4 = dact i x0 x1 x4 := by
  unfold made8
  frame_out

/-- The activation half's gradient at an entry. -/
theorem dact_apply (r : Fin 256) (f : Fin 2816) :
    dact i x0 x1 x4 (ix2 r f) = x4 (ix2 2 f) * x0 (ix2 r f) + x4 (ix2 0 f) * ext i x0 x1 (ix2 ⟨r.val + 2, by omega⟩ f)
      + x4 (ix2 1 f) * ext i x0 x1 (ix2 ⟨r.val + 1, by omega⟩ f) := by
  rw [← at2_apply (ext i x0 x1), ← at1_apply (ext i x0 x1), ← w0_apply x4, ← w1_apply x4, ← w2_apply x4]
  unfold dact
  generalize View.ld (ext i x0 x1) at2 = b2
  generalize View.ld (ext i x0 x1) at1 = b1
  generalize View.ld x4 w0 = y0
  generalize View.ld x4 w1 = y1
  generalize View.ld x4 w2 = y2
  pointwise [k0_pay4, k0_pay3]

/-- One half of the up projection's weights. -/
theorem g0_apply (d : Fin 1024) (f : Fin 2816) :
    shapeCast S1024x2816 (View.ld x3 g0) shapeCasts_S1x1024x2816_S1024x2816 (ix2 d f) = x3 (ix3 0 d f) := by
  refine (shapeCast_dropUnit_apply ![1024, 2816] _ _ (ix2 d f)).trans ?_
  rw [View.ld_unit_apply_of]
  intro a
  fin_cases a <;> simp [ix3, ix2] <;> rfl
theorem g1_apply (d : Fin 1024) (f : Fin 2816) :
    shapeCast S1024x2816 (View.ld x3 g1) shapeCasts_S1x1024x2816_S1024x2816 (ix2 d f) = x3 (ix3 1 d f) := by
  refine (shapeCast_dropUnit_apply ![1024, 2816] _ _ (ix2 d f)).trans ?_
  rw [View.ld_unit_apply_of]
  intro a
  fin_cases a <;> simp [ix3, ix2] <;> rfl

/-- The normalised input's gradient at an entry. -/
theorem dh_apply (r : Fin 256) (d : Fin 1024) :
    BwUp.dh i x0 x1 x2 x3 x4 (ix2 r d) = (∑ f : Fin 2816, dact i x0 x1 x4 (ix2 r f) * x3 (ix3 0 d f)) + ∑ f : Fin 2816, x2 (ix2 r f) * x3 (ix3 1 d f) := by
  simp only [← g0_apply, ← g1_apply]
  unfold BwUp.dh k0_pay5
  rw [made8_eq]
  generalize dact i x0 x1 x4 = z
  generalize shapeCast S1024x2816 (View.ld x3 g0) _ = p
  generalize shapeCast S1024x2816 (View.ld x3 g1) _ = q
  pointwise

section
variable (z : FVec Ideal S256x1024 .f32)

/-- The reciprocal root of a row's mean square. -/
def rrB (r : Fin 256) : EReal := Ideal.rsqrt (Ideal.div (∑ d : Fin 1024, x5 (ix2 r d) * x5 (ix2 r d)) ((1024 : ℝ) : EReal) + eps)

theorem pay8_apply (r : Fin 256) : k0_pay8 (k0_pay7 (View.ld x5 tall)) (c1024 (F := Ideal)) (ix2 r 0) = rrB x5 r := by
  unfold rrB
  rw [← c_1024]
  pointwise [k0_pay8, k0_pay7, k0_pay6]
  rfl

theorem pay9_apply (r : Fin 256) (d : Fin 1024) :
    k0_pay9 (k0_pay6 (View.ld x5 tall)) (k0_pay7 (View.ld x5 tall)) (c1024 (F := Ideal)) (ix2 r d) = x5 (ix2 r d) * rrB x5 r := by
  rw [← pay8_apply x5]
  unfold k0_pay9
  generalize k0_pay8 (k0_pay7 (View.ld x5 tall)) (c1024 (F := Ideal)) = y
  pointwise [k0_pay6]

theorem pay10_apply (d : Fin 1024) :
    k0_pay10 z (k0_pay6 (View.ld x5 tall)) (k0_pay7 (View.ld x5 tall)) (c1024 (F := Ideal)) (ix2 0 d) = ∑ r : Fin 256, z (ix2 r d) * (x5 (ix2 r d) * rrB x5 r) := by
  simp only [← pay9_apply x5]
  unfold k0_pay10
  dsimp only
  generalize k0_pay9 (k0_pay6 (View.ld x5 tall)) (k0_pay7 (View.ld x5 tall)) (c1024 (F := Ideal)) = y
  pointwise

theorem pay11_apply (r : Fin 256) (d : Fin 1024) :
    k0_pay11 z (k0_pay6 (View.ld x5 tall)) (k0_pay7 (View.ld x5 tall)) (c1024 (F := Ideal)) (View.ld x6 line) (View.ld x7 tall) (ix2 r d)
      = x7 (ix2 r d) + rrB x5 r * (z (ix2 r d) * x6 (ix2 0 d) - x5 (ix2 r d) * rrB x5 r
        * Ideal.div (∑ e : Fin 1024, z (ix2 r e) * x6 (ix2 0 e) * (x5 (ix2 r e) * rrB x5 r)) ((1024 : ℝ) : EReal)) := by
  rw [← c_1024]
  simp only [← pay9_apply x5]
  rw [← pay8_apply x5]
  unfold k0_pay11
  dsimp only
  generalize k0_pay9 (k0_pay6 (View.ld x5 tall)) (k0_pay7 (View.ld x5 tall)) (c1024 (F := Ideal)) = y
  generalize k0_pay8 (k0_pay7 (View.ld x5 tall)) (c1024 (F := Ideal)) = v
  pointwise

theorem made9_apply (r : Fin 256) (d : Fin 1024) :
    made9 z x5 x6 x7 (ix2 r d) = x7 (ix2 r d) + rrB x5 r * (z (ix2 r d) * x6 (ix2 0 d) - x5 (ix2 r d) * rrB x5 r
        * Ideal.div (∑ e : Fin 1024, z (ix2 r e) * x6 (ix2 0 e) * (x5 (ix2 r e) * rrB x5 r)) ((1024 : ℝ) : EReal)) := by
  rw [← pay11_apply]
  have e : made9 z x5 x6 x7 = k0_pay11 z (k0_pay6 (View.ld x5 tall)) (k0_pay7 (View.ld x5 tall)) (c1024 (F := Ideal)) (View.ld x6 line) (View.ld x7 tall) := by
    unfold made9
    frame_out
  rw [e]

theorem made10_apply (r : Fin 256) (d : Fin 1024) : made10 z x5 x6 x7 (ix2 r d) = made9 z x5 x6 x7 (ix2 r d) := by
  have e : made10 z x5 x6 x7 = k0_pay12 z (k0_pay6 (View.ld x5 tall)) (k0_pay7 (View.ld x5 tall)) (c1024 (F := Ideal)) (View.ld x6 line) (View.ld x7 tall) := by
    unfold made10
    frame_out
  rw [e, made9_apply, ← pay11_apply]
  rfl

theorem first11_apply (d : Fin 1024) : first11 z x5 (ix2 0 d) = ∑ r : Fin 256, z (ix2 r d) * (x5 (ix2 r d) * rrB x5 r) := by
  rw [← pay10_apply]
  have e : first11 z x5 = k0_pay10 z (k0_pay6 (View.ld x5 tall)) (k0_pay7 (View.ld x5 tall)) (c1024 (F := Ideal)) := by
    unfold first11
    frame_out
  rw [e]

theorem next11_apply (a : Vec Ideal S1x1024 .f32) (d : Fin 1024) :
    next11 z x5 a (ix2 0 d) = a (ix2 0 d) + ∑ r : Fin 256, z (ix2 r d) * (x5 (ix2 r d) * rrB x5 r) := by
  rw [← pay10_apply]
  have e : next11 z x5 a = k0_pay13 z (k0_pay6 (View.ld x5 tall)) (k0_pay7 (View.ld x5 tall)) (c1024 (F := Ideal)) (View.ld a line) := by
    unfold next11
    frame_out
  rw [e]
  unfold k0_pay13
  exact congrArg (· + _) (by pointwise : shapeCast S1x1024 (View.ld a line) shapeCasts_S1x1024_S1x1024 (ix2 0 d) = a (ix2 0 d))
end

end BwUp.At

end
-- ==== Proof.BwUp.Array.lean ====
/- The arrays the up projections' backward kernel leaves on a device, entry by entry. -/
module

public import proofs.«01_k».proof.Proof.BwUp.Run
public import proofs.«01_k».proof.Proof.BwUp.BlockAt

@[expose] public section

set_option maxRecDepth 16384

noncomputable section

namespace BwUp

open Idealize.ShloMosaic Idealize.ShloMosaic.TcCoe Idealize.SL.Sem
open Cert.BwUpIdeal Cert.BwUpIdeal.Gen

variable (m : (ℓ : Loc nD τ sig) → Buf (Elt Ideal) ℓ) (c : Dev nD) (t : Fin cfg0.N)

/-- A device's arguments. -/
def argsK : Spec.Args where
  dac := m ((c : Thread nD τ).loc main_arg0)
  dup := m ((c : Thread nD τ).loc main_arg1)
  wg := m ((c : Thread nD τ).loc main_arg2)
  w := m ((c : Thread nD τ).loc main_arg3)
  x := m ((c : Thread nD τ).loc main_arg4)
  g := m ((c : Thread nD τ).loc main_arg5)
  dx := m ((c : Thread nD τ).loc main_arg6)

/-- Row `r` of the point's block, among all of the device's rows. -/
abbrev row (r : Fin 256) : Fin 4096 := ⟨t.val * 256 + r.val, by have := lt_sixteen t; omega⟩

theorem row_cases (r : Fin 4096) : ∃ (t : Fin cfg0.N) (r' : Fin 256), r = row t r' := by
  have hr : r.val / 256 < cfg0.N := by have := N_0; show _ < grid0.N; omega
  exact ⟨⟨_, hr⟩, ⟨r.val % 256, by omega⟩, Fin.ext (by show r.val = r.val / 256 * 256 + r.val % 256; omega)⟩

theorem coord : ∀ t : Fin cfg0.N, (grid0.coords t 0).val = t.val := (by decide +kernel : ∀ t : Fin grid0.N, (grid0.coords t 0).val = t.val)

theorem idx0 : ∀ t : Fin cfg0.N, win0_0.index t = ![t.val, 0] := (by decide +kernel : ∀ t : Fin grid0.N, win0_0.index t = ![t.val, 0])
theorem idx1 : ∀ t : Fin cfg0.N, ¬ t.val % 8 = 7 → win0_1.index t = ![(t.val + 1) * 32, 0] := (by decide +kernel : ∀ t : Fin grid0.N, ¬ t.val % 8 = 7 → win0_1.index t = ![(t.val + 1) * 32, 0])
theorem idx2 : ∀ t : Fin cfg0.N, win0_2.index t = ![t.val, 1] := (by decide +kernel : ∀ t : Fin grid0.N, win0_2.index t = ![t.val, 1])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])
theorem idx6 : ∀ t : Fin cfg0.N, win0_6.index t = ![0, 0] := (by decide +kernel : ∀ t : Fin grid0.N, win0_6.index t = ![0, 0])
theorem idx7 : ∀ t : Fin cfg0.N, win0_7.index t = ![t.val, 0] := (by decide +kernel : ∀ t : Fin grid0.N, win0_7.index t = ![t.val, 0])
theorem idx8 : ∀ t : Fin cfg0.N, win0_8.index t = ![t.val, 0] := (by decide +kernel : ∀ t : Fin grid0.N, win0_8.index t = ![t.val, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])

/-! ## The blocks read -/

theorem read0 (r : Fin 256) (f : Fin 2816) : iblk m c 0 t (ix2 r f) = (argsK m c).dac (ix2 (row t r) f) := by
  have e : ((cfg0.win 0).blk t).view.emb (ix2 r f) = (ix2 (row t r) f : S4096x2816.Idx) := by blk_ext [idx0 t]
  show m ((c : Thread nD τ).loc main_arg0) (((cfg0.win 0).blk t).view.emb (ix2 r f)) = _
  rw [e]; rfl
theorem read1 (h : ¬ t.val % 8 = 7) (r : Fin 8) (f : Fin 2816) :
    iblk m c 1 t (ix2 r f) = (argsK m c).dac (ix2 ⟨(t.val + 1) * 256 + r.val, by have := lt_sixteen t; omega⟩ f) := by
  have e : ((cfg0.win 1).blk t).view.emb (ix2 r f) = (ix2 (⟨(t.val + 1) * 256 + r.val, by have := lt_sixteen t; omega⟩ : Fin 4096) f : S4096x2816.Idx) := by blk_ext [idx1 t h]
  show m ((c : Thread nD τ).loc main_arg0) (((cfg0.win 1).blk t).view.emb (ix2 r f)) = _
  rw [e]; rfl
theorem read2 (r : Fin 256) (f : Fin 2816) : iblk m c 2 t (ix2 r f) = (argsK m c).dup (ix2 (row t r) ⟨2816 + f.val, by omega⟩) := by
  have e : ((cfg0.win 2).blk t).view.emb (ix2 r f) = (ix2 (row t r) (⟨2816 + f.val, by omega⟩ : Fin 5632) : S4096x5632.Idx) := by blk_ext [idx2 t]
  show m ((c : Thread nD τ).loc main_arg1) (((cfg0.win 2).blk t).view.emb (ix2 r f)) = _
  rw [e]; rfl
theorem read3 (h : Fin 2) (d : Fin 1024) (f : Fin 2816) : iblk m c 3 t (ix3 h d f) = (argsK m c).wg (ix3 h d f) := by
  have e : ((cfg0.win 3).blk t).view.emb (ix3 h d f) = (ix3 h d f : S2x1024x2816.Idx) := by blk_ext [idx3 t]
  show m ((c : Thread nD τ).loc main_arg2) (((cfg0.win 3).blk t).view.emb (ix3 h d f)) = _
  rw [e]; rfl
theorem read4 (k : Fin 8) (f : Fin 2816) : iblk m c 4 t (ix2 k f) = (argsK m c).w (ix2 k f) := by
  have e : ((cfg0.win 4).blk t).view.emb (ix2 k f) = (ix2 k f : S8x2816.Idx) := by blk_ext [idx4 t]
  show m ((c : Thread nD τ).loc main_arg3) (((cfg0.win 4).blk t).view.emb (ix2 k f)) = _
  rw [e]; rfl
theorem read5 (r : Fin 256) (d : Fin 1024) : iblk m c 5 t (ix2 r d) = (argsK m c).x (ix2 (row t r) d) := by
  have e : ((cfg0.win 5).blk t).view.emb (ix2 r d) = (ix2 (row t r) d : S4096x1024.Idx) := by blk_ext [idx5 t]
  show m ((c : Thread nD τ).loc main_arg4) (((cfg0.win 5).blk t).view.emb (ix2 r d)) = _
  rw [e]; rfl
theorem read6 (d : Fin 1024) : iblk m c 6 t (ix2 0 d) = (argsK m c).g (ix2 0 d) := by
  have e : ((cfg0.win 6).blk t).view.emb (ix2 0 d) = (ix2 0 d : S1x1024.Idx) := by blk_ext [idx6 t]
  show m ((c : Thread nD τ).loc main_arg5) (((cfg0.win 6).blk t).view.emb (ix2 0 d)) = _
  rw [e]; rfl
theorem read7 (r : Fin 256) (d : Fin 1024) : iblk m c 7 t (ix2 r d) = (argsK m c).dx (ix2 (row t r) d) := by
  have e : ((cfg0.win 7).blk t).view.emb (ix2 r d) = (ix2 (row t r) d : S4096x1024.Idx) := by blk_ext [idx7 t]
  show m ((c : Thread nD τ).loc main_arg6) (((cfg0.win 7).blk t).view.emb (ix2 r d)) = _
  rw [e]; rfl

/-! ## The blocks written -/

/-- The extended block holds the rows it should: those a tap further on, zero past the end of a sequence. -/
theorem tap_blk (k : Nat) (hk : k < 3) (r : Fin 256) (f : Fin 2816) :
    ext (grid0.coords t) (iblk m c 0 t) (iblk m c 1 t) (ix2 ⟨r.val + k, by omega⟩ f) = Spec.tap (argsK m c) k (row t r) f := by
  have hr := r.isLt
  have hrow : (row t r).val % 2048 = t.val % 8 * 256 + r.val := by show (t.val * 256 + r.val) % 2048 = _; omega
  rw [At.ext_apply, coord]
  unfold Spec.tap
  by_cases h : r.val + k < 256
  · rw [dif_pos h, dif_pos (by rw [hrow]; omega), read0]
    exact congrArg (fun n => (argsK m c).dac (ix2 n f)) (Fin.ext (by show t.val * 256 + (r.val + k) = t.val * 256 + r.val + k; omega))
  · rw [dif_neg h]
    by_cases h7 : t.val % 8 = 7
    · rw [if_pos h7, dif_neg (by rw [hrow]; omega)]
    · rw [if_neg h7, dif_pos (by rw [hrow]; omega), read1 m c t h7]
      exact congrArg (fun n => (argsK m c).dac (ix2 n f)) (Fin.ext (by show (t.val + 1) * 256 + (r.val + k - 256) = t.val * 256 + r.val + k; omega))

theorem da_blk (r : Fin 256) (f : Fin 2816) :
    dact (grid0.coords t) (iblk m c 0 t) (iblk m c 1 t) (iblk m c 4 t) (ix2 r f) = Spec.da (argsK m c) (row t r) f := by
  rw [At.dact_apply, tap_blk m c t 2 (by omega), tap_blk m c t 1 (by omega), read4, read4, read4, read0]
  rfl

theorem dh_blk (r : Fin 256) (d : Fin 1024) : dhAt m c t (ix2 r d) = Spec.dh (argsK m c) (row t r) d := by
  unfold dhAt Spec.dh
  rw [At.dh_apply]
  simp only [da_blk, read2, read3]

theorem rr_blk (r : Fin 256) : At.rrB (iblk m c 5 t) r = Spec.rr (argsK m c) (row t r) := by
  unfold At.rrB Spec.rr
  simp only [read5]

theorem out_blk (r : Fin 256) (d : Fin 1024) :
    made9 (dhAt m c t) (iblk m c 5 t) (iblk m c 6 t) (iblk m c 7 t) (ix2 r d) = Spec.out (argsK m c) (row t r) d := by
  rw [At.made9_apply]
  simp only [dh_blk, rr_blk, read5, read6, read7]
  rfl

/-! ## The arrays -/

theorem inj {f : Fin cfg0.N → Fin 2 → Nat} (h : ∀ t, f t = ![t.val, 0]) (t t' : Fin cfg0.N) (e : f t = f t') : t = t' := by
  rw [h, h] at e
  exact Fin.ext (congrFun e 0)

theorem emb8 (r : Fin 256) (f : Fin 2816) : ((cfg0.win 8).blk t).view.emb (ix2 r f) = (ix2 (row t r) (⟨f.val, by omega⟩ : Fin 5632) : S4096x5632.Idx) := by
  blk_ext [idx8 t]
theorem emb9 (r : Fin 256) (d : Fin 1024) : ((cfg0.win 9).blk t).view.emb (ix2 r d) = (ix2 (row t r) d : S4096x1024.Idx) := by
  blk_ext [idx9 t]
theorem emb10 (r : Fin 256) (d : Fin 1024) : ((cfg0.win 10).blk t).view.emb (ix2 r d) = (ix2 (row t r) d : S4096x1024.Idx) := by
  blk_ext [idx10 t]

theorem blocks8 : ((cfg0.win 8).blk t).view.read (Elt Ideal) ((dats m 0 c).arrAt 8 cfg0.N) = (dats m 0 c).flushed 8 t :=
  (dats m 0 c).read_blk_arrAt_eq_flushed 8 (fun t t' _ _ hne => (cfg0.win 8).disjoint_blk fun h => hne (inj idx8 t t' h)) cfg0.N t t.isLt (flush0_8 t)
theorem blocks9 : ((cfg0.win 9).blk t).view.read (Elt Ideal) ((dats m 0 c).arrAt 9 cfg0.N) = (dats m 0 c).flushed 9 t :=
  (dats m 0 c).read_blk_arrAt_eq_flushed 9 (fun t t' _ _ hne => (cfg0.win 9).disjoint_blk fun h => hne (inj idx9 t t' h)) cfg0.N t t.isLt (flush0_9 t)
theorem blocks10 : ((cfg0.win 10).blk t).view.read (Elt Ideal) ((dats m 0 c).arrAt 10 cfg0.N) = (dats m 0 c).flushed 10 t :=
  (dats m 0 c).read_blk_arrAt_eq_flushed 10 (fun t t' _ _ hne => (cfg0.win 10).disjoint_blk fun h => hne (inj idx10 t t' h)) cfg0.N t t.isLt (flush0_10 t)

theorem flushed8 : (dats m 0 c).flushed 8 t = (cfg0.win 8).cut (grid0.coords t) (made8 (grid0.coords t) (iblk m c 0 t) (iblk m c 1 t) (iblk m c 4 t)) := by
  show (cfg0.win 8).cut (grid0.coords t) ((dats m 0 c).after 8 t) = _
  rw [after8]
theorem flushed9 : (dats m 0 c).flushed 9 t = (cfg0.win 9).cut (grid0.coords t) (made9 (dhAt m c t) (iblk m c 5 t) (iblk m c 6 t) (iblk m c 7 t)) := by
  show (cfg0.win 9).cut (grid0.coords t) ((dats m 0 c).after 9 t) = _
  rw [after9]
theorem flushed10 : (dats m 0 c).flushed 10 t = (cfg0.win 10).cut (grid0.coords t) (made10 (dhAt m c t) (iblk m c 5 t) (iblk m c 6 t) (iblk m c 7 t)) := by
  show (cfg0.win 10).cut (grid0.coords t) ((dats m 0 c).after 10 t) = _
  rw [after10]

/-- The activation half of the gradient, as the kernel leaves it. -/
theorem arr8 (r : Fin 4096) (f : Fin 2816) :
    (dats m 0 c).arrAt 8 cfg0.N (ix2 r ⟨f.val, by omega⟩ : S4096x5632.Idx) = Spec.da (argsK m c) r f := by
  obtain ⟨t, r, rfl⟩ := row_cases r
  have h := congrFun (blocks8 m c t) (ix2 r f)
  have hd := da_blk m c t r f
  rw [flushed8, At.made8_eq] at h
  generalize dact (grid0.coords t) (iblk m c 0 t) (iblk m c 1 t) (iblk m c 4 t) = X at h hd
  exact (congrArg _ (emb8 t r f)).symm.trans (h.trans hd)

/-- The gradient of the residual stream. -/
theorem arr9 (r : Fin 4096) (d : Fin 1024) : (dats m 0 c).arrAt 9 cfg0.N (ix2 r d : S4096x1024.Idx) = Spec.out (argsK m c) r d := by
  obtain ⟨t, r, rfl⟩ := row_cases r
  have h := congrFun (blocks9 m c t) (ix2 r d)
  have hd := out_blk m c t r d
  rw [flushed9] at h
  generalize made9 (dhAt m c t) (iblk m c 5 t) (iblk m c 6 t) (iblk m c 7 t) = X at h hd
  exact (congrArg _ (emb9 t r d)).symm.trans (h.trans hd)

/-- The rounded one. -/
theorem arr10 (r : Fin 4096) (d : Fin 1024) : (dats m 0 c).arrAt 10 cfg0.N (ix2 r d : S4096x1024.Idx) = Spec.out (argsK m c) r d := by
  obtain ⟨t, r, rfl⟩ := row_cases r
  have h := congrFun (blocks10 m c t) (ix2 r d)
  have hd := (At.made10_apply (iblk m c 5 t) (iblk m c 6 t) (iblk m c 7 t) (dhAt m c t) r d).trans (out_blk m c t r d)
  rw [flushed10] at h
  generalize made10 (dhAt m c t) (iblk m c 5 t) (iblk m c 6 t) (iblk m c 7 t) = X at h hd
  exact (congrArg _ (emb10 t r d)).symm.trans (h.trans hd)

/-- What a point adds to the norm's weight's gradient. -/
def dgB (z : FVec Ideal S256x1024 .f32) (x5 : Vec Ideal S256x1024 .f32) (d : Fin 1024) : EReal :=
  ∑ r : Fin 256, z (ix2 r d) * (x5 (ix2 r d) * At.rrB x5 r)

theorem dgB_blk (d : Fin 1024) : dgB (dhAt m c t) (iblk m c 5 t) d = ∑ r : Fin 256, Spec.dh (argsK m c) (row t r) d * Spec.xh (argsK m c) (row t r) d := by
  unfold dgB Spec.xh
  simp only [dh_blk, rr_blk, read5]

/-- What the norm's weight's gradient has gathered after the last point. -/
theorem acc_last (d : Fin 1024) : acc m c t0_15.val t0_15.isLt (ix2 0 d) = Spec.dg (argsK m c) d := by
  rw [Pipeline.eq_sum_fin_of_reset_step_apply_last (ι := S1x1024.Idx) (M := EReal) (N := cfg0.N) (fun n h => acc m c n h) 16 (fun _ => 0)
    (fun t i => dgB (dhAt m c t) (iblk m c 5 t) (i 1))
    (fun t h i => by
      have := lt_sixteen t
      rw [acc_first m c t (by omega), zero_add]
      idx_vars i
      obtain rfl : i0 = 0 := Subsingleton.elim _ _
      exact At.first11_apply ..)
    (fun t h i => by
      rw [acc_next m c t (by omega)]
      idx_vars i
      obtain rfl : i0 = 0 := Subsingleton.elim _ _
      exact At.next11_apply ..)
    (by decide +kernel) t0_15 (by decide +kernel) (ix2 0 d), zero_add]
  refine (Finset.sum_congr rfl fun t _ => dgB_blk m c t d).trans ?_
  refine (Fin.sum_points_lanes_congr 16 (A := 1) (L := 4096) (g := fun _ l => Spec.dh (argsK m c) l d * Spec.xh (argsK m c) l d) fun t k _ hl => ?_).trans ?_
  · have := lt_sixteen t
    exact congrArg (fun l => Spec.dh (argsK m c) l d * Spec.xh (argsK m c) l d) (Fin.ext (by show t.val * 256 + k.val = t.val % 16 * 256 + k.val; omega))
  · rw [Fin.sum_univ_one]
    rfl

/-- So the array at the end. -/
theorem arr11 : (dats m 0 c).arrAt 11 cfg0.N = fun i => Spec.dg (argsK m c) (i 1) := by
  refine (dats m 0 c).arrAt_eq_of_after_last 11 t0_15 (by decide +kernel) _ fun j => ?_
  rw [after11]
  have h := acc_last m c
  generalize acc m c t0_15.val t0_15.isLt = X at h ⊢
  blk_simp
  refine (congrArg X ?_).trans (h (j 1))
  funext a
  fin_cases a
  · exact Fin.ext (by have := (j 0).isLt; simp [ix2] <;> omega)
  · rfl

end BwUp

end
-- ==== Proof.Ffn.Ref.lean ====
/- The last ConvFFN's reference, entry by entry. -/
module

public import proofs.«01_k».proof.Proof.Down.Ref
public import proofs.«01_k».proof.Proof.Ffn.Spec
public import proofs.«01_k».proof.Proof.Gen.FfnRefIdeal.Read

@[expose] public section

set_option maxRecDepth 16384

noncomputable section

namespace Ffn

open Idealize.ShloMosaic
open Cert.FfnRefIdeal Cert.FfnRefIdeal.Read Cert.FfnRefIdeal.Gen
open Down (srow)

variable (A : Args) (b : Fin 2) (s : Fin 2048)

/-- The up projection at an entry. -/
theorem ref_up (f : Fin 5632) : val_main_v3 (F := Ideal) A.h A.wu (ix3 b s f) = up A (srow b s) f := by
  unfold up
  pointwise [val_main_v3, val_main_v0]

variable (f : Fin 2816)

/-- Its activation half. -/
theorem ref_act : val_main_v4 (F := Ideal) A.h A.wu (ix3 b s f) = up A (srow b s) ⟨f, by omega⟩ := by
  rw [← ref_up]
  unfold val_main_v4
  generalize val_main_v3 (F := Ideal) A.h A.wu = x
  pointwise

/-- Its gate half. -/
theorem ref_gate : val_main_v5 (F := Ideal) A.h A.wu (ix3 b s f) = up A (srow b s) ⟨2816 + f, by omega⟩ := by
  rw [← ref_up]
  unfold val_main_v5
  generalize val_main_v3 (F := Ideal) A.h A.wu = x
  pointwise

/-- The padded activation at an entry. -/
theorem padded (s : Fin 2050) : val_main_v7 (F := Ideal) A.h A.wu (ix3 b s f)
    = if h : 2 ≤ s.val then up A ⟨b.val * 2048 + (s.val - 2), by omega⟩ ⟨f, by omega⟩ else 0 := by
  have h4 := fun s => ref_act A b s f
  unfold val_main_v7
  generalize val_main_v4 (F := Ideal) A.h A.wu = x at h4 ⊢
  pointwise [val_main_call0_v0, val_main_c]
  rw [Down.zero_int]
  by_cases h : 2 ≤ s.val
  · rw [dif_pos ⟨h, by omega⟩, dif_pos h]
    exact h4 ⟨s.val - 2, by omega⟩
  · rw [dif_neg (fun h' => h h'.1), dif_neg h]

/-- The three slices of the padded activation are the three taps. -/
theorem tap_of_padded (k : Fin 3) (t : Fin 2050) (ht : t.val = s.val + k.val) :
    val_main_v7 (F := Ideal) A.h A.wu (ix3 b t f) = Down.tap (mid A) k (srow b s) f := by
  rw [padded]
  unfold Down.tap Down.act
  have e : (srow b s).val % 2048 = s.val := by show (b.val * 2048 + s.val) % 2048 = s.val; omega
  by_cases h : 2 ≤ t.val
  · rw [dif_pos h, dif_neg (by rw [e]; omega)]
    exact congrArg (fun r => up A r ⟨f, by omega⟩) (Fin.ext (by show b.val * 2048 + (t.val - 2) = b.val * 2048 + s.val + k.val - 2; omega))
  · rw [dif_neg h, dif_pos (by rw [e]; omega)]

theorem ref_tap0 : val_main_v8 (F := Ideal) A.h A.wu (ix3 b s f) = Down.tap (mid A) 0 (srow b s) f := by
  rw [val_main_v8_apply]
  refine (congrArg _ ?_).trans (tap_of_padded A b s f 0 ⟨s, by omega⟩ rfl)
  funext a
  fin_cases a <;> rfl

theorem ref_tap1 : val_main_v16 (F := Ideal) A.h A.wu (ix3 b s f) = Down.tap (mid A) 1 (srow b s) f := by
  rw [val_main_v16_apply]
  refine (congrArg _ ?_).trans (tap_of_padded A b s f 1 ⟨1 + s, by omega⟩ (by show 1 + s.val = s.val + 1; omega))
  funext a
  fin_cases a <;> rfl

theorem ref_tap2 : val_main_v23 (F := Ideal) A.h A.wu (ix3 b s f) = Down.tap (mid A) 2 (srow b s) f := by
  rw [val_main_v23_apply]
  refine (congrArg _ ?_).trans (tap_of_padded A b s f 2 ⟨2 + s, by omega⟩ (by show 2 + s.val = s.val + 2; omega))
  funext a
  fin_cases a <;> rfl

/-- The convolution. -/
theorem ref_conv : val_main_v32 (F := Ideal) A.h A.wu A.w A.b (ix3 b s f) = Down.conv (mid A) (srow b s) f := by
  unfold Down.conv
  rw [← ref_tap0, ← ref_tap1, ← ref_tap2]
  unfold val_main_v32 val_main_v29 val_main_v28 val_main_v22 val_main_v21 val_main_v15 val_main_v13 mid
  generalize val_main_v8 (F := Ideal) A.h A.wu = t0
  generalize val_main_v16 (F := Ideal) A.h A.wu = t1
  generalize val_main_v23 (F := Ideal) A.h A.wu = t2
  pointwise [val_main_v31, val_main_v30, val_main_v6, val_main_v27, val_main_v26, val_main_v25, val_main_v24, val_main_v20, val_main_v19,
    val_main_v18, val_main_v17, val_main_v14, val_main_cst, val_main_v12, val_main_v11, val_main_v10, val_main_v9]
  ac_rfl

/-- The gated activation. -/
theorem ref_g : val_main_v34 (F := Ideal) A.h A.wu A.w A.b (ix3 b s f) = g A (srow b s) f := by
  unfold g
  rw [← ref_conv, ← ref_gate]
  unfold val_main_v34 val_main_v33 val_main_call1_v5 val_main_call1_v3 val_main_call1_v1 val_main_call1_v0
  generalize val_main_v32 (F := Ideal) A.h A.wu A.w A.b = c
  generalize val_main_v5 (F := Ideal) A.h A.wu = d
  pointwise [val_main_call1_v4, val_main_call1_cst_0, val_main_call1_v2, val_main_call1_cst]
  rfl

variable (d : Fin 1024)

/-- The residual stream behind the block. -/
theorem ref_xo : val_main_v36 (F := Ideal) A.h A.x A.wu A.w A.b A.wd (ix3 b s d) = xo A (srow b s) d := by
  unfold xo
  simp only [← ref_g]
  unfold val_main_v36 val_main_v35
  generalize val_main_v34 (F := Ideal) A.h A.wu A.w A.b = z
  pointwise [val_main_v1]

/-- Its mean square and the small number. -/
theorem ref_ms : val_main_v43 (F := Ideal) A.h A.x A.wu A.w A.b A.wd (ix3 b s 0)
    = Ideal.div (∑ d : Fin 1024, xo A (srow b s) d * xo A (srow b s) d) ((1024 : ℝ) : EReal) + eps := by
  rw [← c_1024]
  simp only [← ref_xo]
  unfold val_main_v43 val_main_v41 val_main_v39 val_main_v38 val_main_v37
  generalize val_main_v36 (F := Ideal) A.h A.x A.wu A.w A.b A.wd = z
  pointwise [val_main_v42, val_main_cst_2, val_main_v40, val_main_cst_1, val_main_cst_0]
  rfl

/-- The reciprocal root. -/
theorem ref_rr : val_main_v44 (F := Ideal) A.h A.x A.wu A.w A.b A.wd (ix3 b s 0) = rr A (srow b s) := by
  unfold rr
  rw [← ref_ms]
  rfl

/-- The normalised row. -/
theorem ref_xh : val_main_v49 (F := Ideal) A.h A.x A.wu A.w A.b A.wd (ix3 b s d) = xh A (srow b s) d := by
  unfold xh
  rw [← ref_xo, ← ref_rr]
  unfold val_main_v49 val_main_v48
  generalize val_main_v36 (F := Ideal) A.h A.x A.wu A.w A.b A.wd = z
  generalize val_main_v44 (F := Ideal) A.h A.x A.wu A.w A.b A.wd = y
  pointwise

/-- The final norm's output less the target. -/
theorem ref_diff : val_main_v53 (F := Ideal) A.h A.x A.wu A.w A.b A.wd A.n A.tg (ix3 b s d) = diff A (srow b s) d := by
  unfold diff
  rw [← ref_xh]
  unfold val_main_v53 val_main_v52
  generalize val_main_v49 (F := Ideal) A.h A.x A.wu A.w A.b A.wd = z
  pointwise [val_main_v51, val_main_v50, val_main_v2]

/-- Half the reciprocal of 1024, doubled, is the reciprocal. -/
theorem half_two : Ideal.div (((1 / 2 : ℝ) : EReal) * ((1 : ℝ) : EReal)) ((1024 : ℝ) : EReal) * ((2 : ℝ) : EReal) = ((1 / 1024 : ℝ) : EReal) := by
  rw [Ideal.div_coe (by norm_num), ← EReal.coe_mul, ← EReal.coe_mul, ← EReal.coe_mul]
  norm_num

theorem c_one : Ideal.ofBits .f32 0x3F800000#32 = ((1 : ℝ) : EReal) := by
  simp [Ideal.ofBits, Ideal.ieee]
  norm_num
  rw [← EReal.coe_mul]
  norm_num

/-- The gradient of the final norm's output. -/
theorem ref_dy : val_main_v68 (F := Ideal) A.h A.x A.wu A.w A.b A.wd A.n A.tg (ix3 b s d) = dy A (srow b s) d := by
  unfold dy
  rw [← ref_diff, mul_comm, ← half_two, ← c_half, ← c_one, ← c_two, ← c_1024]
  unfold val_main_v68 val_main_v56
  generalize val_main_v53 (F := Ideal) A.h A.x A.wu A.w A.b A.wd A.n A.tg = z
  rw [mul_assoc]
  pointwise [val_main_v67, val_main_v66, val_main_v65, val_main_v64, val_main_v63, val_main_v62, val_main_v55, val_main_cst_4, val_main_cst_8, val_main_cst_9, val_main_cst_10]

/-- The gradient of the normalised row. -/
theorem ref_dh : val_main_v73 (F := Ideal) A.h A.x A.wu A.w A.b A.wd A.n A.tg (ix3 b s d) = dh A (srow b s) d := by
  unfold dh
  rw [← ref_dy]
  unfold val_main_v73
  generalize val_main_v68 (F := Ideal) A.h A.x A.wu A.w A.b A.wd A.n A.tg = z
  pointwise [val_main_v72, val_main_v50]

/-- The gradient of the mean square, divided over the row. -/
theorem ref_s : val_main_v84 (F := Ideal) A.h A.x A.wu A.w A.b A.wd A.n A.tg (ix3 b s d)
    = Ideal.div ((∑ e : Fin 1024, xo A (srow b s) e * dh A (srow b s) e)
      * (((-1 / 2 : ℝ) : EReal) * Ideal.div (rr A (srow b s)) (Ideal.div (∑ d : Fin 1024, xo A (srow b s) d * xo A (srow b s) d) ((1024 : ℝ) : EReal) + eps)))
      ((1024 : ℝ) : EReal) := by
  rw [← ref_ms]
  rw [← c_neg_half, ← ref_rr]
  simp only [← ref_xo, ← ref_dh]
  rw [← c_1024]
  unfold val_main_v84 val_main_v83 val_main_v82 val_main_v80 val_main_v77 val_main_v76 val_main_v75 val_main_v47 val_main_v45
  generalize val_main_v44 (F := Ideal) A.h A.x A.wu A.w A.b A.wd = r
  generalize val_main_v43 (F := Ideal) A.h A.x A.wu A.w A.b A.wd = v
  generalize val_main_v36 (F := Ideal) A.h A.x A.wu A.w A.b A.wd = z
  generalize val_main_v73 (F := Ideal) A.h A.x A.wu A.w A.b A.wd A.n A.tg = y
  pointwise [val_main_v81, val_main_v46, val_main_cst_3, val_main_cst_13, val_main_cst_14, val_main_cst_15]
  exact Fin.sum_univ_one _

/-- The sequence and place of a row are those it is numbered by. -/
theorem split_row : (ix3 ⟨(b.val * 2048 + s.val) / 2048, by omega⟩ ⟨(b.val * 2048 + s.val) % 2048, by omega⟩ d : S2x2048x1024.Idx) = ix3 b s d := by
  congr 1 <;> apply Fin.ext <;> show _ = _ <;> dsimp only <;> omega

/-- The gradient of the residual stream. -/
theorem ref_dx (H : A.Real) : val_main_v89 (F := Ideal) A.h A.x A.wu A.w A.b A.wd A.n A.tg (ix2 (srow b s) d) = dx A (srow b s) d := by
  rw [← dx_of_real H]
  dsimp only
  rw [← ref_s A b s d, ← ref_dh, ← ref_xo, ← ref_rr]
  unfold val_main_v89 val_main_v88 val_main_v87 val_main_v86 val_main_v85 val_main_v79 val_main_v78
  generalize val_main_v44 (F := Ideal) A.h A.x A.wu A.w A.b A.wd = r
  generalize val_main_v36 (F := Ideal) A.h A.x A.wu A.w A.b A.wd = z
  generalize val_main_v73 (F := Ideal) A.h A.x A.wu A.w A.b A.wd A.n A.tg = y
  generalize val_main_v84 (F := Ideal) A.h A.x A.wu A.w A.b A.wd A.n A.tg = q
  pointwise
  simp only [split_row]
  refine congrArg (fun i => y (ix3 b s d) * r i + z (ix3 b s d) * q (ix3 b s d) + q (ix3 b s d) * z (ix3 b s d)) (show (ix3 ⟨(b.val * 2048 + s.val) / 2048, by omega⟩ ⟨(b.val * 2048 + s.val) % 2048, by omega⟩ 0 : S2x2048x1.Idx) = ix3 b s 0 from ?_)
  congr 1 <;> apply Fin.ext <;> show _ = _ <;> dsimp only <;> omega

/-- A sum over both sequences is the sum over all rows. -/
theorem sum_rows (x : Vec Ideal S2x2048x1024 .f32) (v : Vec Ideal S_ .f32) (hv : v = fun _ => 0) (u : Fin 4096 → EReal)
    (hg : ∀ b s, x (ix3 b s d) = u (srow b s)) :
    Host.reduceAdd (F := Ideal) (φ := .f32) x v reducesTo_S2x2048x1024_S1024_d0_1 h_S_ (ix1 d) = ∑ r : Fin 4096, u r := by
  subst hv
  refine (Down.reduce_two _ _ _ d).trans ?_
  rw [zero_add]
  refine (Fin.sum_points_lanes_congr 2 (A := 1) (L := 4096) (g := fun _ l => u l) fun t k _ hl => ?_).trans ?_
  · rw [hg]
    exact congrArg u (Fin.ext (by show t.val * 2048 + k.val = t.val % 2 * 2048 + k.val; omega))
  · rw [Fin.sum_univ_one]

/-- The loss. -/
theorem ref_loss (H : A.Real) : val_main_v95 (F := Ideal) A.h A.x A.wu A.w A.b A.wd A.n A.tg (ix2 0 d) = loss A d := by
  have e : val_main_v57 (F := Ideal) A.h A.x A.wu A.w A.b A.wd A.n A.tg (ix1 d) = ∑ r, diff A r d * diff A r d :=
    sum_rows d _ _ Down.zero0 _ fun b s => by
      rw [val_main_v54_apply, ref_diff]
      rfl
  choose u hu using fun r => diff_real H r d
  have e' : loss A d = Ideal.ofBits .f32 0x3F000000#32 * Ideal.div (∑ r, diff A r d * diff A r d) (Ideal.ofBits .f32 0x44800000#32) := by
    rw [c_half, c_1024, Ideal.div_coe (by norm_num)]
    unfold loss
    simp only [hu, ← EReal.coe_mul, sum_coe]
    rw [← Finset.mul_sum]
    exact congrArg _ (by ring)
  rw [e', ← e]
  unfold val_main_v95 val_main_v61 val_main_v59
  generalize val_main_v57 (F := Ideal) A.h A.x A.wu A.w A.b A.wd A.n A.tg = z
  pointwise [val_main_v60, val_main_v58, val_main_cst_6, val_main_cst_7]

/-- The gradient of the final norm's weight. -/
theorem ref_dn : val_main_v96 (F := Ideal) A.h A.x A.wu A.w A.b A.wd A.n A.tg (ix2 0 d) = dn A d := by
  have e : val_main_v70 (F := Ideal) A.h A.x A.wu A.w A.b A.wd A.n A.tg (ix1 d) = ∑ r, dy A r d * xh A r d :=
    sum_rows d _ _ Down.zero0 _ fun b s => by
      rw [val_main_v69_apply, ref_xh, ref_dy]
      exact mul_comm _ _
  unfold dn
  rw [← e]
  unfold val_main_v96 val_main_v74 val_main_v71
  generalize val_main_v70 (F := Ideal) A.h A.x A.wu A.w A.b A.wd A.n A.tg = z
  have e2 : Host.reduceAdd (F := Ideal) (φ := .f32) (shapeCast S1x1x1024 z shapeCasts_S1024_S1x1x1024) (val_main_cst_12 (F := Ideal))
      reducesTo_S1x1x1024_S1024_d0_1 h_S_ (ix1 d) = z (ix1 d) := by
    rw [show val_main_cst_12 (F := Ideal) = fun _ => 0 from Down.zero0]
    refine (Down.reduce_two _ _ _ d).trans ?_
    rw [zero_add, Fin.sum_univ_one, Fin.sum_univ_one]
    pointwise
  rw [← e2]
  generalize Host.reduceAdd (F := Ideal) (φ := .f32) _ _ reducesTo_S1x1x1024_S1024_d0_1 h_S_ = y
  pointwise

/-- The up projection as the result holds it. -/
theorem ref_upOut (f : Fin 5632) : val_main_v93 (F := Ideal) A.h A.wu (ix2 (srow b s) f) = up A (srow b s) f := by
  rw [← ref_up]
  unfold val_main_v93
  generalize val_main_v3 (F := Ideal) A.h A.wu = z
  pointwise
  congr 2 <;> apply Fin.ext <;> show _ = _ <;> dsimp only <;> omega

/-- The saved activation, block by block, transposed. -/
theorem ref_saved (k : Fin 16) (r : Fin 256) : val_main_v92 (F := Ideal) A.h A.wu A.w A.b (ix3 k f r) = g A ⟨k.val * 256 + r.val, by omega⟩ f := by
  have e := ref_g A ⟨(k.val * 256 + r.val) / 2048, by omega⟩ ⟨(k.val * 256 + r.val) % 2048, by omega⟩ f
  rw [show srow ⟨(k.val * 256 + r.val) / 2048, by omega⟩ ⟨(k.val * 256 + r.val) % 2048, by omega⟩ = (⟨k.val * 256 + r.val, by omega⟩ : Fin 4096) from
    Fin.ext (by show (k.val * 256 + r.val) / 2048 * 2048 + (k.val * 256 + r.val) % 2048 = k.val * 256 + r.val; omega)] at e
  rw [← e]
  unfold val_main_v92 val_main_v91 val_main_v90
  generalize val_main_v34 (F := Ideal) A.h A.wu A.w A.b = z
  pointwise
  congr 2 <;> apply Fin.ext <;> show _ = _ <;> dsimp only <;> omega

end Ffn

end
-- ==== Proof.BwUp.RefConv.lean ====
/- The up projections' backward call's reference, entry by entry: one device's share of the whole arrays. -/
module

public import proofs.«01_k».proof.Proof.Ffn.Ref
public import proofs.«01_k».proof.Proof.BwUp.Spec
public import proofs.«01_k».proof.Proof.Gen.BwUpRefIdeal.Read

@[expose] public section

set_option maxRecDepth 16384

noncomputable section

namespace BwUp

open Idealize.ShloMosaic
open Cert.BwUpRefIdeal Cert.BwUpRefIdeal.Read Cert.BwUpRefIdeal.Gen
open Down (srow)
open Ffn (eps c_1024 c_neg_half)

/-- The whole arrays the reference takes. -/
structure All where
  dac : Vec Ideal S8192x2816 .f32
  dup : Vec Ideal S8192x5632 .bf16
  wg : Vec Ideal S2x1024x2816 .bf16
  w : Vec Ideal S8x2816 .f32
  x : Vec Ideal S8192x1024 .f32
  g : Vec Ideal S1x1024 .f32
  dx : Vec Ideal S8192x1024 .f32

/-- Row `r` of device `p`, among all rows. -/
abbrev grow (p : Fin 2) (r : Fin 4096) : Fin 8192 := ⟨p.val * 4096 + r.val, by omega⟩
/-- Sequence `b` of device `p`, among all sequences. -/
abbrev quad (p b : Fin 2) : Fin 4 := ⟨p.val * 2 + b.val, by omega⟩

/-- A device's share of them. -/
def All.dev (W : All) (p : Fin 2) : Spec.Args where
  dac i := W.dac (ix2 (grow p (i 0)) (i 1))
  dup i := W.dup (ix2 (grow p (i 0)) (i 1))
  wg := W.wg
  w := W.w
  x i := W.x (ix2 (grow p (i 0)) (i 1))
  g := W.g
  dx i := W.dx (ix2 (grow p (i 0)) (i 1))

variable (W : All) (p b : Fin 2) (s : Fin 2048) (f : Fin 2816)

/-! ## The convolution's gradient -/

theorem ref_dac : val_main_v6 (F := Ideal) W.dac (ix3 (quad p b) s f) = (W.dev p).dac (ix2 (srow b s) f) := by
  rw [val_main_v6_apply]
  refine congrArg W.dac ?_
  funext a
  fin_cases a <;> exact Fin.ext (by simp [ix3, ix2, grow, quad, srow] <;> omega)

theorem ref_w2 (q : Fin 4) : val_main_v55 (F := Ideal) W.w (ix3 q s f) = W.w (ix2 2 f) := by
  pointwise [val_main_v55, val_main_v51, val_main_v50, val_main_v49, val_main_v3]
theorem ref_w1 (q : Fin 4) : val_main_v58 (F := Ideal) W.w (ix3 q s f) = W.w (ix2 1 f) := by
  pointwise [val_main_v58, val_main_v44, val_main_v43, val_main_v42, val_main_v3]
theorem ref_w0 (q : Fin 4) : val_main_v62 (F := Ideal) W.w (ix3 q s f) = W.w (ix2 0 f) := by
  pointwise [val_main_v62, val_main_v36, val_main_v35, val_main_v34, val_main_v3]

theorem term2 : val_main_v56 (F := Ideal) W.dac W.w (ix3 (quad p b) s f) = W.w (ix2 2 f) * (W.dev p).dac (ix2 (srow b s) f) := by
  rw [val_main_v56_apply, ref_dac, ref_w2]; exact mul_comm _ _
theorem term1 : val_main_v59 (F := Ideal) W.dac W.w (ix3 (quad p b) s f) = W.w (ix2 1 f) * (W.dev p).dac (ix2 (srow b s) f) := by
  rw [val_main_v59_apply, ref_dac, ref_w1]; exact mul_comm _ _
theorem term0 : val_main_v63 (F := Ideal) W.dac W.w (ix3 (quad p b) s f) = W.w (ix2 0 f) * (W.dev p).dac (ix2 (srow b s) f) := by
  rw [val_main_v63_apply, ref_dac, ref_w0]; exact mul_comm _ _

theorem srow_mod : (srow b s).val % 2048 = s.val := by show (b.val * 2048 + s.val) % 2048 = s.val; omega

theorem padded2 : val_main_v57 (F := Ideal) W.dac W.w (ix3 (quad p b) ⟨2 + s.val, by omega⟩ f) = W.w (ix2 2 f) * (W.dev p).dac (ix2 (srow b s) f) := by
  rw [← term2]
  unfold val_main_v57
  generalize val_main_v56 (F := Ideal) W.dac W.w = x
  pointwise [val_main_cst_6]
  rw [dif_pos (by omega)]

theorem padded1 : val_main_v60 (F := Ideal) W.dac W.w (ix3 (quad p b) ⟨2 + s.val, by omega⟩ f) = W.w (ix2 1 f) * Spec.tap (W.dev p) 1 (srow b s) f := by
  have h := fun s => term1 W p b s f
  unfold val_main_v60 Spec.tap
  generalize val_main_v59 (F := Ideal) W.dac W.w = x at h ⊢
  pointwise [val_main_cst_7]
  by_cases hs : s.val + 1 < 2048
  · rw [dif_pos ⟨by omega, by omega⟩, dif_pos (by rw [srow_mod]; exact hs)]
    refine Eq.trans (congrArg x ?_) (h ⟨s.val + 1, hs⟩)
    congr 1
    exact Fin.ext (by show 2 + s.val - 1 = s.val + 1; omega)
  · rw [dif_neg (by omega), dif_neg (by rw [srow_mod]; exact hs), mul_zero]

theorem padded0 : val_main_v64 (F := Ideal) W.dac W.w (ix3 (quad p b) ⟨2 + s.val, by omega⟩ f) = W.w (ix2 0 f) * Spec.tap (W.dev p) 2 (srow b s) f := by
  have h := fun s => term0 W p b s f
  unfold val_main_v64 Spec.tap
  generalize val_main_v63 (F := Ideal) W.dac W.w = x at h ⊢
  pointwise [val_main_cst_8]
  by_cases hs : s.val + 2 < 2048
  · rw [dif_pos (by omega), dif_pos (by rw [srow_mod]; exact hs)]
    refine Eq.trans (congrArg x ?_) (h ⟨s.val + 2, hs⟩)
    congr 1
    exact Fin.ext (by show 2 + s.val = s.val + 2; omega)
  · rw [dif_neg (by omega), dif_neg (by rw [srow_mod]; exact hs), mul_zero]

/-- The gradient of the activation half. -/
theorem ref_da : val_main_v67 (F := Ideal) W.dac W.w (ix3 (quad p b) s f) = Spec.da (W.dev p) (srow b s) f := by
  rw [val_main_v67_apply]
  have e : idx_main_v67 (ix3 (quad p b) s f) = (ix3 (quad p b) ⟨2 + s.val, by omega⟩ f : S4x2050x2816.Idx) := by
    funext a
    fin_cases a <;> rfl
  rw [e, val_main_v65_apply, val_main_v61_apply, padded0, padded1, padded2]
  exact add_right_comm _ _ _

/-! ## The normalised input's gradient -/

theorem ref_gate : val_main_v9 (F := Ideal) W.dup (ix3 (quad p b) s f) = (W.dev p).dup (ix2 (srow b s) ⟨2816 + f.val, by omega⟩) := by
  rw [val_main_v9_apply]
  pointwise [val_main_v8, val_main_v7]
  refine congrArg W.dup ?_
  funext a
  fin_cases a <;> exact Fin.ext (by simp [ix3, ix2, grow, quad, srow] <;> omega)

theorem ref_left : val_main_v70 (F := Ideal) W.dac W.dup W.w (ix3 (quad p b) s ⟨f.val, by omega⟩) = Spec.da (W.dev p) (srow b s) f := by
  rw [← ref_da]
  unfold val_main_v70 val_main_v68 val_main_v69
  generalize val_main_v67 (F := Ideal) W.dac W.w = x
  generalize val_main_v9 (F := Ideal) W.dup = y
  pointwise [val_main_cst_9, val_main_cst_10]
  rw [dif_neg (fun h => h.2.1), dif_pos (by omega), zero_add]

theorem ref_right : val_main_v70 (F := Ideal) W.dac W.dup W.w (ix3 (quad p b) s ⟨2816 + f.val, by omega⟩)
    = (W.dev p).dup (ix2 (srow b s) ⟨2816 + f.val, by omega⟩) := by
  rw [← ref_gate]
  unfold val_main_v70 val_main_v68 val_main_v69
  generalize val_main_v67 (F := Ideal) W.dac W.w = x
  generalize val_main_v9 (F := Ideal) W.dup = y
  pointwise [val_main_cst_9, val_main_cst_10]
  rw [dif_pos (by omega), dif_neg (fun h => h.2), add_zero]

variable (d : Fin 1024)

theorem ref_wg0 : val_main_v2 (F := Ideal) W.wg (ix2 d ⟨f.val, by omega⟩) = W.wg (ix3 0 d f) := by
  rw [val_main_v2_apply, val_main_v1_apply]
  refine congrArg W.wg ?_
  funext a
  fin_cases a <;> exact Fin.ext (by simp [ix3, ix2] <;> omega)
theorem ref_wg1 : val_main_v2 (F := Ideal) W.wg (ix2 d ⟨2816 + f.val, by omega⟩) = W.wg (ix3 1 d f) := by
  rw [val_main_v2_apply, val_main_v1_apply]
  refine congrArg W.wg ?_
  funext a
  fin_cases a <;> exact Fin.ext (by simp [ix3, ix2] <;> omega)

/-- The gradient of the normalised input. -/
theorem ref_dh4 : val_main_v71 (F := Ideal) W.dac W.dup W.wg W.w (ix3 (quad p b) s d) = Spec.dh (W.dev p) (srow b s) d := by
  have e := Fin.sum_univ_add (a := 2816) (b := 2816) fun k : Fin 5632 =>
    val_main_v70 (F := Ideal) W.dac W.dup W.w (ix3 (quad p b) s k) * val_main_v2 (F := Ideal) W.wg (ix2 d k)
  have e0 : ∀ k, lidx_main_v71 (ix3 (quad p b) s d) k = (ix3 (quad p b) s k : S4x2048x5632.Idx) := fun k => by
    funext a
    fin_cases a <;> rfl
  have e1 : ∀ k, ridx_main_v71 (ix3 (quad p b) s d) k = (ix2 d k : S1024x5632.Idx) := fun k => by
    funext a
    fin_cases a <;> rfl
  rw [val_main_v71_apply]
  simp only [e0, e1]
  refine e.trans ?_
  unfold Spec.dh
  refine congrArg₂ (· + ·) (Finset.sum_congr rfl fun f _ => ?_) (Finset.sum_congr rfl fun f _ => ?_)
  · exact congrArg₂ (· * ·) (ref_left W p b s f) (ref_wg0 W f d)
  · exact congrArg₂ (· * ·) (ref_right W p b s f) (ref_wg1 W f d)

theorem ref_dh : val_main_v72 (F := Ideal) W.dac W.dup W.wg W.w (ix4 p b s d) = Spec.dh (W.dev p) (srow b s) d := by
  rw [← ref_dh4, val_main_v72_apply]
  refine congrArg _ ?_
  funext a
  fin_cases a <;> exact Fin.ext (by simp [ix3, ix4, quad] <;> omega)

end BwUp

end
-- ==== Proof.BwUp.RefNorm.lean ====
/- The up projections' backward call's reference: the normalised rows. -/
module

public import proofs.«01_k».proof.Proof.Ffn.Ref
public import proofs.«01_k».proof.Proof.BwUp.RefConv

@[expose] public section

set_option maxRecDepth 16384

noncomputable section

namespace BwUp

open Idealize.ShloMosaic
open Cert.BwUpRefIdeal Cert.BwUpRefIdeal.Read Cert.BwUpRefIdeal.Gen
open Down (srow)
open Ffn (eps c_1024 c_neg_half)

variable (W : All) (p b : Fin 2) (s : Fin 2048) (d : Fin 1024)

/-! ## The norm -/

theorem ref_x : val_main_v4 (F := Ideal) W.x (ix4 p b s d) = (W.dev p).x (ix2 (srow b s) d) := by
  rw [val_main_v4_apply]
  refine congrArg W.x ?_
  funext a
  fin_cases a <;> exact Fin.ext (by simp [ix4, ix2, grow, srow] <;> omega)

theorem ref_ms : val_main_v17 (F := Ideal) W.x (ix4 p b s 0)
    = Ideal.div (∑ d : Fin 1024, (W.dev p).x (ix2 (srow b s) d) * (W.dev p).x (ix2 (srow b s) d)) ((1024 : ℝ) : EReal) + eps := by
  rw [← c_1024]
  simp only [← ref_x]
  unfold val_main_v17 val_main_v15 val_main_v13 val_main_v12 val_main_v11
  generalize val_main_v4 (F := Ideal) W.x = z
  pointwise [val_main_v16, val_main_cst_1, val_main_v14, val_main_cst_0, val_main_cst]
  rfl

theorem ref_rr : val_main_v18 (F := Ideal) W.x (ix4 p b s 0) = Spec.rr (W.dev p) (srow b s) := by
  unfold Spec.rr
  rw [← ref_ms]
  rfl

theorem ref_xh : val_main_v23 (F := Ideal) W.x (ix4 p b s d) = Spec.xh (W.dev p) (srow b s) d := by
  unfold Spec.xh
  rw [← ref_x, ← ref_rr]
  unfold val_main_v23 val_main_v22
  generalize val_main_v4 (F := Ideal) W.x = z
  generalize val_main_v18 (F := Ideal) W.x = y
  pointwise

theorem ref_dy : val_main_v77 (F := Ideal) W.dac W.dup W.wg W.w W.g (ix4 p b s d) = Spec.dy (W.dev p) (srow b s) d := by
  rw [val_main_v77_apply, ref_dh, val_main_v76_apply, val_main_v10_apply, val_main_v5_apply]
  refine congrArg (fun i => Spec.dh (W.dev p) (srow b s) d * W.g i) ?_
  funext a
  fin_cases a <;> exact Fin.ext (by simp [ix4, ix2] <;> omega)

end BwUp

end
-- ==== Proof.BwUp.RefRoot.lean ====
/- The up projections' backward call's reference: the gradient through the root. -/
module

public import proofs.«01_k».proof.Proof.Ffn.Ref
public import proofs.«01_k».proof.Proof.BwUp.RefNorm

@[expose] public section

set_option maxRecDepth 16384

noncomputable section

namespace BwUp

open Idealize.ShloMosaic
open Cert.BwUpRefIdeal Cert.BwUpRefIdeal.Read Cert.BwUpRefIdeal.Gen
open Down (srow)
open Ffn (eps c_1024 c_neg_half)

variable (W : All) (p b : Fin 2) (s : Fin 2048) (d : Fin 1024)

/-- The sum over a row the root's gradient takes. -/
theorem ref_dot : val_main_v79 (F := Ideal) W.dac W.dup W.wg W.w W.x W.g (ix3 p b s)
    = ∑ e : Fin 1024, (W.dev p).x (ix2 (srow b s) e) * Spec.dy (W.dev p) (srow b s) e := by
  have e : ∀ k, idx_main_v79 (ix3 p b s) k = (ix4 p b s k : S2x2x2048x1024.Idx) := fun k => by
    funext a
    fin_cases a <;> rfl
  rw [val_main_v79_apply, show val_main_cst_12 (F := Ideal) = fun _ => 0 from Down.zero0]
  simp only [e, val_main_v78_apply, ref_x, ref_dy]
  exact zero_add _

theorem ref_quot : val_main_v85 (F := Ideal) W.dac W.dup W.wg W.w W.x W.g (ix4 p b s 0)
    = Ideal.div ((∑ e : Fin 1024, (W.dev p).x (ix2 (srow b s) e) * Spec.dy (W.dev p) (srow b s) e)
      * (((-1 / 2 : ℝ) : EReal) * Ideal.div (Spec.rr (W.dev p) (srow b s))
        (Ideal.div (∑ d : Fin 1024, (W.dev p).x (ix2 (srow b s) d) * (W.dev p).x (ix2 (srow b s) d)) ((1024 : ℝ) : EReal) + eps))) ((1024 : ℝ) : EReal) := by
  have e : idx_main_v80 (ix4 p b s 0) = (ix3 p b s : S2x2x2048.Idx) := by
    funext a
    fin_cases a <;> exact Fin.ext (by simp [ix4, ix3] <;> omega)
  rw [← ref_ms, ← c_neg_half, ← ref_rr, ← ref_dot, ← c_1024, val_main_v85_apply, val_main_v83_apply, val_main_v80_apply, e, val_main_v21_apply, val_main_v19_apply,
    val_main_v84_apply, val_main_v20_apply, val_main_cst_13_apply, val_main_cst_2_apply]
  generalize val_main_v79 (F := Ideal) W.dac W.dup W.wg W.w W.x W.g (ix3 p b s) = y
  generalize val_main_v18 (F := Ideal) W.x (ix4 p b s 0) = r
  generalize val_main_v17 (F := Ideal) W.x (ix4 p b s 0) = v
  rfl

theorem ref_s : val_main_v87 (F := Ideal) W.dac W.dup W.wg W.w W.x W.g (ix4 p b s d)
    = Ideal.div ((∑ e : Fin 1024, (W.dev p).x (ix2 (srow b s) e) * Spec.dy (W.dev p) (srow b s) e)
      * (((-1 / 2 : ℝ) : EReal) * Ideal.div (Spec.rr (W.dev p) (srow b s))
        (Ideal.div (∑ d : Fin 1024, (W.dev p).x (ix2 (srow b s) d) * (W.dev p).x (ix2 (srow b s) d)) ((1024 : ℝ) : EReal) + eps))) ((1024 : ℝ) : EReal) := by
  have e : idx_main_v87 (ix4 p b s d) = (ix3 p b s : S2x2x2048.Idx) := by
    funext a
    fin_cases a <;> rfl
  have e' : ∀ k, idx_main_v86 (ix3 p b s) k = (ix4 p b s k : S2x2x2048x1.Idx) := fun k => by
    funext a
    fin_cases a <;> rfl
  rw [← ref_quot, val_main_v87_apply, e, val_main_v86_apply, show val_main_cst_14 (F := Ideal) = fun _ => 0 from Down.zero0]
  simp only [e']
  generalize val_main_v85 (F := Ideal) W.dac W.dup W.wg W.w W.x W.g = q
  exact (zero_add _).trans (Fin.sum_univ_one _)

theorem ref_terms : val_main_v91 (F := Ideal) W.dac W.dup W.wg W.w W.x W.g (ix4 p b s d)
    = Spec.dy (W.dev p) (srow b s) d * Spec.rr (W.dev p) (srow b s)
      + (W.dev p).x (ix2 (srow b s) d) * val_main_v87 (F := Ideal) W.dac W.dup W.wg W.w W.x W.g (ix4 p b s d)
      + val_main_v87 (F := Ideal) W.dac W.dup W.wg W.w W.x W.g (ix4 p b s d) * (W.dev p).x (ix2 (srow b s) d) := by
  have e : idx_main_v81 (ix4 p b s d) = (ix4 p b s 0 : S2x2x2048x1.Idx) := by
    funext a
    fin_cases a <;> rfl
  rw [val_main_v91_apply, val_main_v90_apply, val_main_v89_apply, val_main_v88_apply, val_main_v82_apply, val_main_v81_apply, e, ref_dy, ref_x, ref_rr]
  rfl

theorem ref_root (H : (W.dev p).Real) : val_main_v91 (F := Ideal) W.dac W.dup W.wg W.w W.x W.g (ix4 p b s d)
    = Spec.rr (W.dev p) (srow b s) * (Spec.dy (W.dev p) (srow b s) d - Spec.xh (W.dev p) (srow b s) d
        * Ideal.div (∑ e : Fin 1024, Spec.dy (W.dev p) (srow b s) e * Spec.xh (W.dev p) (srow b s) e) ((1024 : ℝ) : EReal)) := by
  rw [ref_terms, ref_s]
  exact Spec.through_root (fun e => (W.dev p).x (ix2 (srow b s) e)) (fun e => Spec.dy (W.dev p) (srow b s) e) (fun _ => H.x _) (fun _ => Spec.dy_real H _ _) d

/-- The gradient of the residual stream. -/
theorem ref_out (H : (W.dev p).Real) : val_main_v94 (F := Ideal) W.dac W.dup W.wg W.w W.x W.g W.dx (ix2 (grow p (srow b s)) d) = Spec.out (W.dev p) (srow b s) d := by
  have e : idx_main_v93 (ix2 (grow p (srow b s)) d) = (ix4 p b s d : S2x2x2048x1024.Idx) := by
    funext a
    fin_cases a <;> exact Fin.ext (by simp [ix4, ix2, grow, srow] <;> omega)
  rw [val_main_v94_apply, val_main_v93_apply, e, ref_root W p b s d H]
  rfl

/-- The rounded one. -/
theorem ref_out16 (H : (W.dev p).Real) : val_main_v103 (F := Ideal) W.dac W.dup W.wg W.w W.x W.g W.dx (ix2 (grow p (srow b s)) d) = Spec.out (W.dev p) (srow b s) d :=
  ref_out W p b s d H

end BwUp

end
-- ==== Proof.BwUp.Ref.lean ====
/- The up projections' backward call's reference: the other results, one by one. -/
module

public import proofs.«01_k».proof.Proof.Ffn.Ref
public import proofs.«01_k».proof.Proof.BwUp.RefNorm

@[expose] public section

set_option maxRecDepth 16384

noncomputable section

namespace BwUp

open Idealize.ShloMosaic
open Cert.BwUpRefIdeal Cert.BwUpRefIdeal.Read Cert.BwUpRefIdeal.Gen
open Down (srow)
open Ffn (eps c_1024 c_neg_half)

variable (W : All) (p b : Fin 2) (s : Fin 2048) (d : Fin 1024)

/-- The activation half of the gradient. -/
theorem ref_half (f : Fin 2816) : val_main_v102 (F := Ideal) W.dac W.dup W.w (ix2 (grow p (srow b s)) ⟨f.val, by omega⟩) = Spec.da (W.dev p) (srow b s) f := by
  have e : idx_main_v101 (ix2 (grow p (srow b s)) ⟨f.val, by omega⟩) = (ix3 (quad p b) s ⟨f.val, by omega⟩ : S4x2048x5632.Idx) := by
    funext a
    fin_cases a <;> exact Fin.ext (by simp [ix3, ix2, grow, quad, srow] <;> omega)
  refine Eq.trans ?_ (ref_left W p b s f)
  rw [← e, ← val_main_v101_apply]
  rfl

/-! ## The norm's weight's gradient -/

/-- A sum over the two middle axes of four, read at an entry. -/
theorem reduce_mid {n0 n1 n2 n3 : Nat} (h : (⟨4, ![n0, n1, n2, n3]⟩ : Shape).ReducesTo [1, 2] ⟨2, ![n0, n3]⟩) (v : (⟨4, ![n0, n1, n2, n3]⟩ : Shape).Idx → EReal)
    (init : EReal) (a : Fin n0) (f : Fin n3) : Ideal.hostReduceAdd h v init (ix2 a f) = init + ∑ b : Fin n1, ∑ c : Fin n2, v (ix4 a b c f) := by
  have fiber : ∀ i : (⟨4, ![n0, n1, n2, n3]⟩ : Shape).Idx, h.drop i = ix2 a f ↔ ∃ k : Fin n1 × Fin n2, ix4 a k.1 k.2 f = i := by
    intro i
    constructor
    · intro e
      refine ⟨(i 1, i 2), ?_⟩
      funext x
      apply Fin.ext
      match x with
      | ⟨0, _⟩ => exact (congrArg Fin.val (congrFun e 0)).symm
      | ⟨1, _⟩ => rfl
      | ⟨2, _⟩ => rfl
      | ⟨3, _⟩ => exact (congrArg Fin.val (congrFun e 1)).symm
    · rintro ⟨k, rfl⟩
      funext x
      apply Fin.ext
      match x with
      | ⟨0, _⟩ => rfl
      | ⟨1, _⟩ => rfl
  unfold Ideal.hostReduceAdd
  rw [Finset.sum_filter_eq_sum_of_fiber _ (fun k : Fin n1 × Fin n2 => ix4 a k.1 k.2 f) (fun _ _ e => Prod.ext (congrFun e 1) (congrFun e 2)) fiber v]
  simp only [Fintype.sum_prod_type]

theorem ref_sum : val_main_v74 (F := Ideal) W.dac W.dup W.wg W.w W.x (ix2 p d) = Spec.dg (W.dev p) d := by
  have hg : ∀ b s, val_main_v73 (F := Ideal) W.dac W.dup W.wg W.w W.x (ix4 p b s d) = Spec.dh (W.dev p) (srow b s) d * Spec.xh (W.dev p) (srow b s) d := fun b s => by
    rw [val_main_v73_apply, ref_xh, ref_dh]
    exact mul_comm _ _
  unfold val_main_v74
  rw [show val_main_cst_11 (F := Ideal) = fun _ => 0 from Down.zero0]
  generalize val_main_v73 (F := Ideal) W.dac W.dup W.wg W.w W.x = y at hg ⊢
  refine (reduce_mid _ _ _ p d).trans ?_
  rw [zero_add]
  refine (Fin.sum_points_lanes_congr 2 (A := 1) (L := 4096) (g := fun _ l => Spec.dh (W.dev p) l d * Spec.xh (W.dev p) l d) fun t k _ hl => ?_).trans ?_
  · rw [hg]
    exact congrArg (fun l => Spec.dh (W.dev p) l d * Spec.xh (W.dev p) l d) (Fin.ext (by show t.val * 2048 + k.val = t.val % 2 * 2048 + k.val; omega))
  · rw [Fin.sum_univ_one]
    rfl

/-- The gradient of the norm's weight. -/
theorem ref_dg : val_main_v92 (F := Ideal) W.dac W.dup W.wg W.w W.x (ix2 p d) = Spec.dg (W.dev p) d := by
  rw [← ref_sum]
  have e : idx_main_v75 (ix4 p 0 0 d) = (ix2 p d : S2x1024.Idx) := by
    funext a
    fin_cases a <;> exact Fin.ext (by simp [ix4, ix2] <;> omega)
  have h := val_main_v75_apply (F := Ideal) W.dac W.dup W.wg W.w W.x (ix4 p 0 0 d)
  rw [e] at h
  rw [← h]
  unfold val_main_v92
  rw [show val_main_cst_15 (F := Ideal) = fun _ => 0 from Down.zero0]
  generalize val_main_v75 (F := Ideal) W.dac W.dup W.wg W.w W.x = y
  refine (reduce_mid _ _ _ p d).trans ?_
  rw [zero_add, Fin.sum_univ_one, Fin.sum_univ_one]

/-! ## The exchanged halves -/

/-- Block `k` of what device `p` receives. -/
theorem ref_recv (x7 : Vec Ideal S8x2x352x1024 .bf16) (k : Fin 4) (r : Fin 352) :
    val_main_v100 (F := Ideal) x7 (ix3 ⟨p.val * 4 + k.val, by omega⟩ r d) = x7 (ix4 ⟨(1 - p.val) * 4 + k.val, by omega⟩ p r d) := by
  unfold val_main_v100
  refine (concatenate_ofFn_apply (α := EReal) (t := S8x352x1024) (s₁ := S4x352x1024) (0 : Fin 3) (N := 2)
    (![val_main_v97 (F := Ideal) x7, val_main_v99 (F := Ideal) x7])
    _ rfl 4 rfl (ix3 (⟨p.val * 4 + k.val, by omega⟩ : Fin 8) r d : S8x352x1024.Idx) p
    (by show (p.val * 4 + k.val) / 4 = p.val; omega) (ix3 k r d : S4x352x1024.Idx)
    (by show k.val = (p.val * 4 + k.val) % 4; omega) (fun a ha => by fin_cases a <;> first | rfl | exact absurd rfl ha)).trans ?_
  fin_cases p
  · show val_main_v97 (F := Ideal) x7 (ix3 k r d) = _
    rw [val_main_v97_apply, val_main_v96_apply, val_main_v95_apply]
    refine congrArg x7 ?_
    funext a
    fin_cases a <;> exact Fin.ext (by simp [ix4, ix3] <;> omega)
  · show val_main_v99 (F := Ideal) x7 (ix3 k r d) = _
    rw [val_main_v99_apply, val_main_v98_apply, val_main_v95_apply]
    refine congrArg x7 ?_
    funext a
    fin_cases a <;> exact Fin.ext (by simp [ix4, ix3] <;> omega)

end BwUp

end
-- ==== Proof.BwUp.Whole.lean ====
/- The up projections' backward call: a device's parts of the reference's whole arrays. -/
module

public import proofs.«01_k».proof.Proof.Down.Equal
public import proofs.«01_k».proof.Proof.BwUp.Array
public import proofs.«01_k».proof.Proof.BwUp.RefRoot
public import proofs.«01_k».proof.Proof.BwUp.Ref
public import proofs.«01_k».proof.Proof.Gen.On_act_half
public import Idealize.ShloMosaic.Lib.LayoutAt

@[expose] public section

set_option maxRecDepth 16384

noncomputable section

namespace BwUp

open Idealize.ShloMosaic Idealize.ShloMosaic.TcCoe Idealize.SL.Sem
open Cert.BwUpIdeal Cert.BwUpIdeal.Gen
open Cert.BwUpRefIdeal.Read
open Down (srow)

/-- On the axis the arrays are cut along, device `c` is block `c`. -/
theorem lin : ∀ c : Fin 2, Layout.meshLin [1, 1, 2] c.val [2] = c.val := by decide

section
variable {α : Type} (c : Fin 2)

theorem part_half (X : Cert.BwUpRefIdeal.S8192x2816.Idx → α) (r : Fin 4096) (f : Fin 2816) :
    Layout.blockN ⟨2, ![4096, 2816]⟩ ⟨2, ![8192, 2816]⟩ (Layout.meshBlock [1, 1, 2] ![[2], []] c) X (by decide) (ix2 r f) = X (ix2 (grow c r) f) := by
  refine (Layout.blockN_apply ..).trans (congrArg X (funext fun a => Fin.ext ?_))
  fin_cases a
  · show Layout.meshLin [1, 1, 2] c.val [2] * 4096 + r.val = c.val * 4096 + r.val; rw [lin]
  · show 0 * 2816 + f.val = f.val; omega

theorem part_both (X : Cert.BwUpRefIdeal.S8192x5632.Idx → α) (r : Fin 4096) (f : Fin 5632) :
    Layout.blockN ⟨2, ![4096, 5632]⟩ ⟨2, ![8192, 5632]⟩ (Layout.meshBlock [1, 1, 2] ![[2], []] c) X (by decide) (ix2 r f) = X (ix2 (grow c r) f) := by
  refine (Layout.blockN_apply ..).trans (congrArg X (funext fun a => Fin.ext ?_))
  fin_cases a
  · show Layout.meshLin [1, 1, 2] c.val [2] * 4096 + r.val = c.val * 4096 + r.val; rw [lin]
  · show 0 * 5632 + f.val = f.val; omega

theorem part_rows (X : Cert.BwUpRefIdeal.S8192x1024.Idx → α) (r : Fin 4096) (d : Fin 1024) :
    Layout.blockN ⟨2, ![4096, 1024]⟩ ⟨2, ![8192, 1024]⟩ (Layout.meshBlock [1, 1, 2] ![[2], []] c) X (by decide) (ix2 r d) = X (ix2 (grow c r) d) := by
  refine (Layout.blockN_apply ..).trans (congrArg X (funext fun a => Fin.ext ?_))
  fin_cases a
  · show Layout.meshLin [1, 1, 2] c.val [2] * 4096 + r.val = c.val * 4096 + r.val; rw [lin]
  · show 0 * 1024 + d.val = d.val; omega

theorem part_one (X : Cert.BwUpRefIdeal.S2x1024.Idx → α) (z : Fin 1) (d : Fin 1024) :
    Layout.blockN ⟨2, ![1, 1024]⟩ ⟨2, ![2, 1024]⟩ (Layout.meshBlock [1, 1, 2] ![[2], []] c) X (by decide) (ix2 z d) = X (ix2 c d) := by
  refine (Layout.blockN_apply ..).trans (congrArg X (funext fun a => Fin.ext ?_))
  fin_cases a
  · show Layout.meshLin [1, 1, 2] c.val [2] * 1 + z.val = c.val; rw [lin]; omega
  · show 0 * 1024 + d.val = d.val; omega

theorem part_sums (X : Cert.BwUpRefIdeal.S8x352x1024.Idx → α) (k : Fin 4) (r : Fin 352) (d : Fin 1024) :
    Layout.blockN ⟨3, ![4, 352, 1024]⟩ ⟨3, ![8, 352, 1024]⟩ (Layout.meshBlock [1, 1, 2] ![[2], [], []] c) X (by decide) (ix3 k r d)
      = X (ix3 ⟨c.val * 4 + k.val, by omega⟩ r d) := by
  refine (Layout.blockN_apply ..).trans (congrArg X (funext fun a => Fin.ext ?_))
  fin_cases a
  · show Layout.meshLin [1, 1, 2] c.val [2] * 4 + k.val = c.val * 4 + k.val; rw [lin]
  · show 0 * 352 + r.val = r.val; omega
  · show 0 * 1024 + d.val = d.val; omega

theorem part_pairs (X : Cert.BwUpRefIdeal.S8x2x352x1024.Idx → α) (k : Fin 4) (q : Fin 2) (r : Fin 352) (d : Fin 1024) :
    Layout.blockN ⟨4, ![4, 2, 352, 1024]⟩ ⟨4, ![8, 2, 352, 1024]⟩ (Layout.meshBlock [1, 1, 2] ![[2], [], [], []] c) X (by decide) (ix4 k q r d)
      = X (ix4 ⟨c.val * 4 + k.val, by omega⟩ q r d) := by
  refine (Layout.blockN_apply ..).trans (congrArg X (funext fun a => Fin.ext ?_))
  fin_cases a
  · show Layout.meshLin [1, 1, 2] c.val [2] * 4 + k.val = c.val * 4 + k.val; rw [lin]
  · show 0 * 2 + q.val = q.val; omega
  · show 0 * 352 + r.val = r.val; omega
  · show 0 * 1024 + d.val = d.val; omega
end

section
attribute [local instance] Cert.On_act_half.Gen.facts

/-- The mask of the first result keeps its left half. -/
theorem act_col (x0 : Vec Ideal Cert.BwUpRefIdeal.S8192x2816 .f32) (x1 : Vec Ideal Cert.BwUpRefIdeal.S8192x5632 .bf16)
    (x2 : Vec Ideal Cert.BwUpRefIdeal.S2x1024x2816 .bf16) (x3 : Vec Ideal Cert.BwUpRefIdeal.S8x2816 .f32)
    (x4 : Vec Ideal Cert.BwUpRefIdeal.S8192x1024 .f32) (x5 : Vec Ideal Cert.BwUpRefIdeal.S1x1024 .f32)
    (x6 : Vec Ideal Cert.BwUpRefIdeal.S8192x1024 .f32) (x7 : Vec Ideal Cert.BwUpRefIdeal.S8x2x352x1024 .bf16)
    (r : Fin 8192) (f : Fin 5632) (h : (Cert.On_act_half.fn (F := Ideal) x0 x1 x2 x3 x4 x5 x6 x7).1 (ix2 r f) = 1#1) : f.val < 2816 := by
  revert h
  unfold Cert.On_act_half.fn
  dsimp only
  pointwise
  simp only [IntOp.cmpi]
  intro h
  by_contra hn
  rw [show ((BitVec.ofNat 32 f.val).slt 2816#32) = false from ?_] at h
  · exact absurd h (by decide)
  · rw [BitVec.slt_eq_decide, decide_eq_false_iff_not, BitVec.toInt_ofNat', BitVec.toInt_ofNat']
    have := f.isLt
    norm_num [Int.bmod]
    omega
end

variable (m : (ℓ : Loc nD τ sig) → Buf (Elt Ideal) ℓ) (c : Dev nD) (W : All)
variable (x7 : Vec Ideal Cert.BwUpRefIdeal.S8x2x352x1024 .bf16)

/-- The devices' arguments are their shares of the whole arrays. -/
theorem args_eq
    (h0 : m ((c : Thread nD τ).loc main_arg0) = Layout.blockN ⟨2, ![4096, 2816]⟩ ⟨2, ![8192, 2816]⟩ (Layout.meshBlock [1, 1, 2] ![[2], []] c) W.dac)
    (h1 : m ((c : Thread nD τ).loc main_arg1) = Layout.blockN ⟨2, ![4096, 5632]⟩ ⟨2, ![8192, 5632]⟩ (Layout.meshBlock [1, 1, 2] ![[2], []] c) W.dup)
    (h2 : m ((c : Thread nD τ).loc main_arg2) = W.wg)
    (h3 : m ((c : Thread nD τ).loc main_arg3) = W.w)
    (h4 : m ((c : Thread nD τ).loc main_arg4) = Layout.blockN ⟨2, ![4096, 1024]⟩ ⟨2, ![8192, 1024]⟩ (Layout.meshBlock [1, 1, 2] ![[2], []] c) W.x)
    (h5 : m ((c : Thread nD τ).loc main_arg5) = W.g)
    (h6 : m ((c : Thread nD τ).loc main_arg6) = Layout.blockN ⟨2, ![4096, 1024]⟩ ⟨2, ![8192, 1024]⟩ (Layout.meshBlock [1, 1, 2] ![[2], []] c) W.dx) :
    argsK m c = W.dev c := by
  unfold argsK All.dev
  rw [h0, h1, h2, h3, h4, h5, h6]
  congr 1
  · funext i; idx_vars i; exact part_half c W.dac i0 i1
  · funext i; idx_vars i; exact part_both c W.dup i0 i1
  · funext i; idx_vars i; exact part_rows c W.x i0 i1
  · funext i; idx_vars i; exact part_rows c W.dx i0 i1

variable (H : argsK m c = W.dev c)
include H

/-- The gradient of the activation half. -/
theorem eq_half (r : Fin 4096) (f : Fin 5632) (hf : f.val < 2816) :
    (dats m 0 c).arrAt 8 cfg0.N (ix2 r f : S4096x5632.Idx)
      = Layout.blockN ⟨2, ![4096, 5632]⟩ ⟨2, ![8192, 5632]⟩ (Layout.meshBlock [1, 1, 2] ![[2], []] c) (val_main_v102 (F := Ideal) W.dac W.dup W.w) (by decide) (ix2 r f) := by
  obtain ⟨b, s, rfl⟩ := Down.row_split r
  refine (arr8 m c (srow b s) ⟨f.val, hf⟩).trans ?_
  rw [H]
  exact ((part_both c (val_main_v102 (F := Ideal) W.dac W.dup W.w) (srow b s) f).trans (ref_half W c b s ⟨f.val, hf⟩)).symm

/-- The gradient of the block's input. -/
theorem eq_out (hr : (argsK m c).Real) :
    (dats m 0 c).arrAt 9 cfg0.N
      = Layout.blockN ⟨2, ![4096, 1024]⟩ ⟨2, ![8192, 1024]⟩ (Layout.meshBlock [1, 1, 2] ![[2], []] c) (val_main_v94 (F := Ideal) W.dac W.dup W.wg W.w W.x W.g W.dx) := by
  funext i
  idx_vars i
  obtain ⟨b, s, rfl⟩ := Down.row_split i0
  refine (arr9 m c (srow b s) i1).trans ?_
  rw [H] at hr ⊢
  exact ((part_rows c (val_main_v94 (F := Ideal) W.dac W.dup W.wg W.w W.x W.g W.dx) (srow b s) i1).trans (ref_out W c b s i1 hr)).symm

/-- The same, rounded. -/
theorem eq_out16 (hr : (argsK m c).Real) :
    (dats m 0 c).arrAt 10 cfg0.N
      = Layout.blockN ⟨2, ![4096, 1024]⟩ ⟨2, ![8192, 1024]⟩ (Layout.meshBlock [1, 1, 2] ![[2], []] c) (val_main_v103 (F := Ideal) W.dac W.dup W.wg W.w W.x W.g W.dx) := by
  funext i
  idx_vars i
  obtain ⟨b, s, rfl⟩ := Down.row_split i0
  refine (arr10 m c (srow b s) i1).trans ?_
  rw [H] at hr ⊢
  exact ((part_rows c (val_main_v103 (F := Ideal) W.dac W.dup W.wg W.w W.x W.g W.dx) (srow b s) i1).trans (ref_out16 W c b s i1 hr)).symm

/-- The gradient of the norm's scale. -/
theorem eq_dg :
    (dats m 0 c).arrAt 11 cfg0.N
      = Layout.blockN ⟨2, ![1, 1024]⟩ ⟨2, ![2, 1024]⟩ (Layout.meshBlock [1, 1, 2] ![[2], []] c) (val_main_v92 (F := Ideal) W.dac W.dup W.wg W.w W.x) := by
  refine (arr11 m c).trans ?_
  rw [H]
  funext i
  idx_vars i
  exact ((part_one c (val_main_v92 (F := Ideal) W.dac W.dup W.wg W.w W.x) i0 i1).trans (ref_dg W c i1)).symm

omit H in
/-- The blocks a device received. -/
theorem eq_recv
    (h7 : ∀ c : Dev nD, m ((c : Thread nD τ).loc main_arg7) = Layout.blockN ⟨4, ![4, 2, 352, 1024]⟩ ⟨4, ![8, 2, 352, 1024]⟩ (Layout.meshBlock [1, 1, 2] ![[2], [], [], []] c) x7) :
    received m c
      = Layout.blockN ⟨3, ![4, 352, 1024]⟩ ⟨3, ![8, 352, 1024]⟩ (Layout.meshBlock [1, 1, 2] ![[2], [], []] c) (val_main_v100 (F := Ideal) x7) := by
  funext i
  idx_vars i
  refine Eq.trans ?_ ((part_sums c (val_main_v100 (F := Ideal) x7) i0 i1 i2).trans (ref_recv c i2 x7 i0 i1)).symm
  show m ((other c : Thread nD τ).loc main_arg7) (ix4 i0 c i1 i2) = _
  rw [h7 (other c)]
  refine (part_pairs (other c) x7 i0 c i1 i2).trans (congrArg (fun k => x7 (ix4 k c i1 i2)) (Fin.ext ?_))
  have : (other c).val = 1 - c.val := by revert c; decide
  show (other c).val * 4 + i0.val = (1 - c.val) * 4 + i0.val
  rw [this]

end BwUp

end
-- ==== Proof.BwUp.Claim.lean ====
/- The claims about the up projections' backward call and the exchange it carries. -/
module

public import proofs.«01_k».proof.Defs
public import proofs.«01_k».proof.Proof.BwUp.Whole
public import proofs.«01_k».proof.Proof.Gen.BwUp
public import proofs.«01_k».proof.Proof.Gen.BwUpRefIdeal.Run
public import proofs.«01_k».proof.Proof.Gen.Pre_finite_bu_BwUpIdeal
public import proofs.«01_k».proof.Proof.Gen.Pre_finite_bu_BwUpRefIdeal
public import Idealize.ShloMosaic.Adequacy
public import Idealize.ShloMosaic.Init

@[expose] public section

set_option maxRecDepth 16384

noncomputable section

namespace BwUp

open Idealize.ShloMosaic Idealize.ShloMosaic.TcCoe Idealize.SL.Sem
open Cert.BwUpIdeal Cert.BwUpIdeal.Gen
open Cert.BwUpRefIdeal.Read

/-- The run with the arrays named: results, then arguments. -/
theorem run_named {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
        (r.2.mem ((c : Thread nD τ).loc main_v1_0) = (dats m 0 c).arrAt 8 cfg0.N
          ∧ r.2.mem ((c : Thread nD τ).loc main_v1_1) = (dats m 0 c).arrAt 9 cfg0.N
          ∧ r.2.mem ((c : Thread nD τ).loc main_v1_2) = (dats m 0 c).arrAt 10 cfg0.N
          ∧ r.2.mem ((c : Thread nD τ).loc main_v1_3) = (dats m 0 c).arrAt 11 cfg0.N
          ∧ r.2.mem ((c : Thread nD τ).loc main_v1_4) = received m c)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)) ∧ r.2.sem = fun _ => 0) := by
  refine (θ_run defs _ _).mono (fun r h => ⟨fun c => ?_, h.2⟩) (run m ρ)
  obtain ⟨hw, h7, hv⟩ := h.1 c
  exact ⟨⟨hw 8, hw 9, hw 10, hw 11, hv⟩, (hw 0).trans ((dats m 0 c).arrAt_in 0 rfl _), (hw 2).trans ((dats m 0 c).arrAt_in 2 rfl _),
    (hw 3).trans ((dats m 0 c).arrAt_in 3 rfl _), (hw 4).trans ((dats m 0 c).arrAt_in 4 rfl _), (hw 5).trans ((dats m 0 c).arrAt_in 5 rfl _),
    (hw 6).trans ((dats m 0 c).arrAt_in 6 rfl _), (hw 7).trans ((dats m 0 c).arrAt_in 7 rfl _), h7⟩

theorem frame_ideal : Cert.quiescent_BwUpIdeal (hBwUpIdeal := Cert.BwUpIdeal.Gen.facts) := fun m ρ _ =>
  (θ_run defs _ _).mono (fun r h => ⟨fun c => (h.1 c).2, h.2⟩) (run_named m ρ)

/-- The kernel's function is printed once for the chip and once for the reals, in the same words. -/
theorem same_kernels : Cert.BwUp.defs₀ (F := Bits) = defs₀ (F := Bits) := by
  unfold Cert.BwUp.defs₀ defs₀
  refine congrArg Defs.onTc ?_
  funext l a
  match l, a with
  | 0, (t, s) => rfl

theorem same_table : Cert.BwUp.defs (F := Bits) = defs (F := Bits) := by
  unfold Cert.BwUp.defs defs
  exact congrArg (Pipeline.defs (pcfgs (F := Bits))) same_kernels

/-- The program printed for the chip is the same text: its run is this one over the chip's floats. -/
theorem frame_bits : Cert.quiescent_BwUp (hBwUp := Cert.BwUp.Gen.facts) := by
  intro m ρ _
  rw [same_table]
  exact (θ_run (defs (F := Bits)) _ _).mono (fun r h => ⟨fun c => (h.1 c).2, h.2⟩) (run_named (F := Bits) m ρ)

/-- The reference's run leaves its arguments and, declaring no semaphore, every counter at zero. -/
theorem frame_ref : Cert.quiescent_BwUpRefIdeal (hBwUpRefIdeal := Cert.BwUpRefIdeal.Gen.facts) := fun m ρ _ =>
  (θ_run Cert.BwUpRefIdeal.defs _ _).mono (fun r h => ⟨fun c => (h c).2.2.2.2.2, sem_eq_zero_of_no_sems (by decide) r.2⟩) (Cert.BwUpRefIdeal.Value.run m ρ)

/-- The reference's arguments, as held by its one device. -/
def whole (m' : (ℓ : Loc Cert.BwUpRefIdeal.nD Cert.BwUpRefIdeal.τ Cert.BwUpRefIdeal.sig) → Buf (Elt Ideal) ℓ) : All where
  dac := m' (((0 : Dev Cert.BwUpRefIdeal.nD) : Thread Cert.BwUpRefIdeal.nD Cert.BwUpRefIdeal.τ).loc Cert.BwUpRefIdeal.main_arg0)
  dup := m' (((0 : Dev Cert.BwUpRefIdeal.nD) : Thread Cert.BwUpRefIdeal.nD Cert.BwUpRefIdeal.τ).loc Cert.BwUpRefIdeal.main_arg1)
  wg := m' (((0 : Dev Cert.BwUpRefIdeal.nD) : Thread Cert.BwUpRefIdeal.nD Cert.BwUpRefIdeal.τ).loc Cert.BwUpRefIdeal.main_arg2)
  w := m' (((0 : Dev Cert.BwUpRefIdeal.nD) : Thread Cert.BwUpRefIdeal.nD Cert.BwUpRefIdeal.τ).loc Cert.BwUpRefIdeal.main_arg3)
  x := m' (((0 : Dev Cert.BwUpRefIdeal.nD) : Thread Cert.BwUpRefIdeal.nD Cert.BwUpRefIdeal.τ).loc Cert.BwUpRefIdeal.main_arg4)
  g := m' (((0 : Dev Cert.BwUpRefIdeal.nD) : Thread Cert.BwUpRefIdeal.nD Cert.BwUpRefIdeal.τ).loc Cert.BwUpRefIdeal.main_arg5)
  dx := m' (((0 : Dev Cert.BwUpRefIdeal.nD) : Thread Cert.BwUpRefIdeal.nD Cert.BwUpRefIdeal.τ).loc Cert.BwUpRefIdeal.main_arg6)

/-- Finite arguments hold reals. -/
theorem real_args (m : (ℓ : Loc nD τ sig) → Buf (Elt Ideal) ℓ)
    (h : Cert.Pre_BwUpIdeal_finite_bu_BwUpIdeal (hPre_finite_bu_BwUpIdeal := Cert.Pre_finite_bu_BwUpIdeal.Gen.facts) m) (c : Dev nD) : (argsK m c).Real := by
  obtain ⟨h0, h1, h2, h3, h4, h5⟩ := h c
  exact ⟨Down.real_of_finite _ _ h0, Down.real_of_finite _ _ h1, Down.real_of_finite _ _ h2, Down.real_of_finite _ _ h3,
    Down.real_of_finite _ _ h4, Down.real_of_finite _ _ h5⟩

/-- Over the extended reals the two devices leave, from finite arguments and where the mask keeps a result, the
    gradients the vector-Jacobian product of the forward lines returns, and the blocks of sums exchanged. -/
theorem equal : Cert.algebraic_BwUpIdeal_BwUpRefIdeal_on_act_half_pre_finite_bu_BwUpIdeal (hBwUpIdeal := Cert.BwUpIdeal.Gen.facts) (hBwUpRefIdeal := Cert.BwUpRefIdeal.Gen.facts)
    (hPre_finite_bu_BwUpIdeal := Cert.Pre_finite_bu_BwUpIdeal.Gen.facts) (hOn_act_half := Cert.On_act_half.Gen.facts) := by
  intro m g m' g' hpre hagree
  refine ⟨val_main_v102 (F := Ideal) (whole m').dac (whole m').dup (whole m').w,
    val_main_v94 (F := Ideal) (whole m').dac (whole m').dup (whole m').wg (whole m').w (whole m').x (whole m').g (whole m').dx,
    val_main_v103 (F := Ideal) (whole m').dac (whole m').dup (whole m').wg (whole m').w (whole m').x (whole m').g (whole m').dx,
    val_main_v92 (F := Ideal) (whole m').dac (whole m').dup (whole m').wg (whole m').w (whole m').x,
    val_main_v100 (F := Ideal) (m' (((0 : Dev Cert.BwUpRefIdeal.nD) : Thread Cert.BwUpRefIdeal.nD Cert.BwUpRefIdeal.τ).loc Cert.BwUpRefIdeal.main_arg7)), ?_, ?_⟩
  · refine (θ_run defs _ _).mono (fun r h c => ?_) (run_named m g)
    obtain ⟨⟨r0, r1, r2, r3, r4⟩, ha⟩ := h.1 c
    obtain ⟨h0, h1, h2, h3, h4, h5, h6, -⟩ := hagree c
    have H : argsK m c = (whole m').dev c := args_eq m c (whole m') h0 h1 h2 h3 h4 h5 h6
    have hr := real_args m hpre c
    refine ⟨fun i hi => ?_, fun i _ => congrFun (r1.trans (eq_out m c (whole m') H hr)) i, fun i _ => congrFun (r2.trans (eq_out16 m c (whole m') H hr)) i,
      fun i _ => congrFun (r3.trans (eq_dg m c (whole m') H)) i, fun i _ => congrFun (r4.trans (eq_recv m c _ fun d => (hagree d).2.2.2.2.2.2.2)) i, ha⟩
    idx_vars i
    refine (congrFun r0 _).trans (eq_half m c (whole m') H i0 i1 ?_)
    exact act_col _ _ _ _ _ _ _ _ (grow c i0) i1 ((part_both c _ i0 i1).symm.trans hi)
  · refine (θ_run Cert.BwUpRefIdeal.defs _ _).mono (fun r h => ?_) (Cert.BwUpRefIdeal.Value.run m' g')
    obtain ⟨r0, r1, r2, r3, r4, ha⟩ := h 0
    rw [val_main_v102_eq] at r0
    rw [val_main_v94_eq] at r1
    rw [val_main_v103_eq] at r2
    rw [val_main_v92_eq] at r3
    rw [val_main_v100_eq] at r4
    exact ⟨fun i _ => congrFun r0 i, fun i _ => congrFun r1 i, fun i _ => congrFun r2 i, fun i _ => congrFun r3 i, fun i _ => congrFun r4 i, ha⟩

end BwUp

end
-- ==== Proof.DwIn.Plan.lean ====
/- The weight gradient of the convolution's input projection: the three copies of the exchange its kernel carries. -/
module

public import proofs.«01_k».proof.Proof.Exchange.Deal
public import proofs.«01_k».proof.Proof.Gen.DwInIdeal.Skeleton
public import proofs.«01_k».proof.Proof.Gen.DwInIdeal.Frame
public import Idealize.ShloMosaic.Lib.ValueLayout
public import Idealize.ShloMosaic.Lib.Ring
public import Idealize.ShloMosaic.Lib.Pipeline.ValueKit

@[expose] public section

set_option maxRecDepth 16384

noncomputable section

namespace DwIn

open Cert.DwInIdeal Cert.DwInIdeal.Gen Cert.Exchange
open Idealize.ShloMosaic
open Idealize.ShloMosaic.TcCoe Idealize.ShloMosaic.Ring
open Idealize.SL Idealize.SL.RA Idealize.SL.BI
open scoped Idealize.SL.BI
open Idealize.SL.BI.BIBase Idealize.SL.BI.Laws Idealize.SL.ProofMode Idealize.SL.Sem
open Idealize.ShloMosaic.Rounds

/-- The partner along the first mesh axis, along the second, and along both. -/
def mate : Fin 3 → Fin 4 → Fin 4 := ![![2, 3, 0, 1], ![1, 0, 3, 2], ![3, 2, 1, 0]]

theorem mate_mate : ∀ j c, mate j (mate j c) = c := by decide
theorem mate_inj : ∀ c j i, mate j c = mate i c → j = i := by decide

theorem src_inb (n : Fin 4) : ∀ a, (![n.val, 0, 0] : Fin 3 → Nat) a + S1x128x1024.size a ≤ S4x128x1024.size a := by
  revert n; decide
theorem dst_inb (j : Fin 3) : ∀ a, (![j.val, 0, 0] : Fin 3 → Nat) a + S1x128x1024.size a ≤ S3x128x1024.size a := by
  revert j; decide

/-- The quarter of the sums' rows a chip updates, and the slot a quarter is received in. -/
abbrev quarter (n : Fin 4) : Memref sig .tc .hbm S128x1024 .bf16 :=
  ((Memref.whole main_arg2).slice (Rect.unit (s := S4x128x1024) ![n.val, 0, 0] S1x128x1024.size (src_inb n)) (fun _ => rfl)).squeeze
    S128x1024 squeezes_S1x128x1024_S128x1024
abbrev slotOf (j : Fin 3) : Memref sig .tc .hbm S128x1024 .bf16 :=
  ((Memref.whole main_v1_1).slice (Rect.unit (s := S3x128x1024) ![j.val, 0, 0] S1x128x1024.size (dst_inb j)) (fun _ => rfl)).squeeze
    S128x1024 squeezes_S1x128x1024_S128x1024

def plan : Plan nD sig (Fin 3) where
  peer := mate
  back := mate_mate
  sp := .hbm
  s := S128x1024
  e := .bf16
  src j c := quarter (mate j c)
  dst j := slotOf j
  sent j := ⟨5 + j.val, by have := j.isLt; show 5 + j.val < 11; omega⟩
  here j := ⟨8 + j.val, by have := j.isLt; show 8 + j.val < 11; omega⟩
  distinct := by decide
  N := (slotOf 0).view.dmaCredit
  pos := View.dmaCredit_pos _ (by decide)
  credit _ := rfl

variable {F : FTy → Type} [FloatOps F]

abbrev UU : Type := Ghosts nD sig
local notation "𝕄" => MT nD τ sig Unit (Elt F) ℕ UU ℕ

variable (m : (ℓ : Loc nD τ sig) → Buf (Elt F) ℓ)

/-! ## The arrays as their slices and slots -/

theorem emb_quarter (n : Fin 4) (r : Fin 128) (k : Fin 1024) : (quarter n).view.emb (ix2 r k) = (ix3 n r k : S4x128x1024.Idx) := by
  show (Rect.unit (s := S4x128x1024) ![n.val, 0, 0] S1x128x1024.size (src_inb n)).emb (Shape.reshapeEquiv _ (ix2 r k)) = _
  refine (congrArg _ (ValueIdx.reshapeEquiv_ix2_1ab _ r k)).trans ?_
  funext a; fin_cases a <;> apply Fin.ext
  · show n.val + 1 * 0 = n.val; omega
  · show 0 + 1 * r.val = r.val; omega
  · show 0 + 1 * k.val = k.val; omega

theorem emb_slotOf (j : Fin 3) (r : Fin 128) (k : Fin 1024) : (slotOf j).view.emb (ix2 r k) = (ix3 j r k : S3x128x1024.Idx) := by
  show (Rect.unit (s := S3x128x1024) ![j.val, 0, 0] S1x128x1024.size (dst_inb j)).emb (Shape.reshapeEquiv _ (ix2 r k)) = _
  refine (congrArg _ (ValueIdx.reshapeEquiv_ix2_1ab _ r k)).trans ?_
  funext a; fin_cases a <;> apply Fin.ext
  · show j.val + 1 * 0 = j.val; omega
  · show 0 + 1 * r.val = r.val; omega
  · show 0 + 1 * k.val = k.val; omega

theorem quarter_first {n : Fin 4} {i : S4x128x1024.Idx} (h : i ∈ (quarter n).view.set) : i (0 : Fin 3) = n := by
  obtain ⟨x, -, rfl⟩ := Finset.mem_map.mp h
  idx_vars x
  rw [emb_quarter]; rfl

theorem mem_slotOf (j : Fin 3) (i : S3x128x1024.Idx) : i ∈ (slotOf j).view.set ↔ i (0 : Fin 3) = j := by
  constructor
  · intro h
    obtain ⟨x, -, rfl⟩ := Finset.mem_map.mp h
    idx_vars x
    rw [emb_slotOf]; rfl
  · rintro rfl
    idx_vars i
    rw [← emb_slotOf]
    exact View.emb_mem_set _ _

theorem quarters_disjoint (c : Dev nD) (j i : Fin 3) (h : j ≠ i) : Disjoint (plan.src j c).view.set (plan.src i c).view.set :=
  Finset.disjoint_left.mpr fun x hx hy => h (mate_inj c j i ((quarter_first hx).symm.trans (quarter_first hy)))

theorem slots_disjoint (j i : Fin 3) (h : j ≠ i) : Disjoint (slotOf j).view.set (slotOf i).view.set :=
  Finset.disjoint_left.mpr fun x hx hy => h (((mem_slotOf j x).mp hx).symm.trans ((mem_slotOf i x).mp hy))

theorem slots_cover (i : S3x128x1024.Idx) : ∃ j : Fin 3, i ∈ (slotOf j).view.set := ⟨i (0 : Fin 3), (mem_slotOf _ i).mpr rfl⟩

/-- Memory cut along disjoint sets that cover it. -/
theorem cut {ℓ : Loc nD τ sig} (I : Fin 3 → Finset (Idx ℓ)) (hd : ∀ j i, j ≠ i → Disjoint (I j) (I i)) (hc : ∀ x, ∃ j, x ∈ I j)
    (f : Buf (Elt F) ℓ) : (ℓ ↦{fullShare} f : sProp 𝕄) = bigSep Finset.univ fun j => ℓ ↦[I j]{fullShare} f := by
  classical
  refine pointsTo_blocks I hd ?_ f
  ext x
  simp only [Finset.mem_biUnion, Finset.mem_univ, true_and, iff_true]
  exact hc x

/-- The three quarters a device sends, together. -/
abbrev sentSet (c : Dev nD) : Finset (Idx ((c : Thread nD τ).loc main_arg2)) := Finset.univ.biUnion fun j : Fin 3 => (plan.src j c).view.set

/-- The part of the sums no copy touches. -/
def kept (c : Dev nD) : sProp 𝕄 :=
  ((c : Thread nD τ).loc main_arg2) ↦[Finset.univ \ sentSet c]{fullShare} m ((c : Thread nD τ).loc main_arg2)

theorem sums_split (c : Dev nD) :
    (((c : Thread nD τ).loc main_arg2) ↦{fullShare} m ((c : Thread nD τ).loc main_arg2) : sProp 𝕄)
      ⊣⊢ iprop((bigSep Finset.univ fun j : Fin 3 => plan.srcPts m j c) ∗ kept m c) := by
  have h := pointsTo_split_subset (nD := nD) (τ := τ) (sig := sig) (Ix := Unit) (Val := Elt F) (Name := ℕ) (U := UU) (Lvl := ℕ) (ℓ := (c : Thread nD τ).loc main_arg2) (q := fullShare)
    (f := m ((c : Thread nD τ).loc main_arg2)) (Finset.subset_univ (sentSet c))
  have e := pointsTo_biUnion (nD := nD) (τ := τ) (sig := sig) (Ix := Unit) (Val := Elt F) (Name := ℕ) (U := UU) (Lvl := ℕ) (ℓ := (c : Thread nD τ).loc main_arg2) (q := fullShare)
    (f := m ((c : Thread nD τ).loc main_arg2)) Finset.univ (fun j : Fin 3 => (plan.src j c).view.set) (fun j _ i _ => quarters_disjoint c j i)
  have e' : (((c : Thread nD τ).loc main_arg2) ↦[sentSet c]{fullShare} m ((c : Thread nD τ).loc main_arg2) : sProp 𝕄)
      = bigSep Finset.univ fun j : Fin 3 => plan.srcPts m j c := by
    refine Eq.trans ?_ e
    congr!
  rw [e'] at h
  exact h

/-- What a device ends up with in its slots: each partner's quarter of its rows. -/
def received (c : Dev nD) : Buf (Elt F) ((c : Thread nD τ).loc main_v1_1) :=
  fun i : S3x128x1024.Idx => m ((mate (i (0 : Fin 3)) c : Thread nD τ).loc main_arg2) (ix3 (show Fin 4 from c) (i (1 : Fin 3)) (i (2 : Fin 3)) : S4x128x1024.Idx)

theorem landed_eq (j : Fin 3) (c : Dev nD) (i : Idx ((c : Thread nD τ).loc main_v1_1)) (hi : i ∈ (slotOf j).view.set) :
    plan.landed m j c i = received m c i := by
  obtain ⟨x, -, rfl⟩ := Finset.mem_map.mp hi
  have h1 : plan.landed m j c ((slotOf j).view.emb x) = plan.sliceOf m j (mate j c) x := View.write_emb_of_mem _ _ (Finset.mem_univ _)
  rw [h1]
  have h2 : plan.sliceOf m j (mate j c) x = m ((mate j c : Thread nD τ).loc main_arg2) ((quarter (mate j (mate j c))).view.emb x) := rfl
  rw [h2, mate_mate]
  idx_vars x
  rw [emb_quarter, emb_slotOf]
  rfl

theorem slots_cut (c : Dev nD) (f : Buf (Elt F) ((c : Thread nD τ).loc main_v1_1)) :
    (((c : Thread nD τ).loc main_v1_1) ↦{fullShare} f : sProp 𝕄)
      = bigSep Finset.univ fun j : Fin 3 => ((c : Thread nD τ).loc main_v1_1) ↦[(slotOf j).view.set]{fullShare} f :=
  cut (ℓ := (c : Thread nD τ).loc main_v1_1) (fun j => (slotOf j).view.set) slots_disjoint slots_cover f

theorem slots_split (c : Dev nD) :
    (((c : Thread nD τ).loc main_v1_1) ↦{fullShare} m ((c : Thread nD τ).loc main_v1_1) : sProp 𝕄)
      = bigSep Finset.univ fun j : Fin 3 => plan.slot m j c :=
  slots_cut c _

theorem filled_eq (c : Dev nD) (j : Fin 3) : (plan.filled m j c : sProp 𝕄)
      = (((c : Thread nD τ).loc main_v1_1) ↦[(slotOf j).view.set]{fullShare} received m c : sProp 𝕄) :=
  pointsTo_congr (ℓ := (c : Thread nD τ).loc main_v1_1) (I := (slotOf j).view.set) (f := plan.landed m j c) (landed_eq m j c)

theorem slots_join (c : Dev nD) :
    (bigSep Finset.univ fun j : Fin 3 => plan.filled m j c)
      = (((c : Thread nD τ).loc main_v1_1) ↦{fullShare} received m c : sProp 𝕄) := by
  rw [slots_cut]
  exact bigSep_congr fun j _ => filled_eq m c j

end DwIn

end
-- ==== Proof.DwIn.Body.lean ====
/- The weight gradient of the convolution's input projection: what one grid point does, with the exchange at the first point and its end at the last. -/
module

public import proofs.«01_k».proof.Proof.Exchange.Steps
public import proofs.«01_k».proof.Proof.DwIn.Plan
public import Idealize.ShloMosaic.Lib.Exec

@[expose] public section

set_option maxRecDepth 16384

noncomputable section

namespace DwIn

open Cert.DwInIdeal Cert.DwInIdeal.Gen Cert.Exchange
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

variable (m : (ℓ : Loc nD τ sig) → Buf (Elt F) ℓ)

/-! ## The printed slices, devices and semaphores -/

theorem quarter_at (n : Fin 4) (off : Fin 3 → Nat) (h : off = ![n.val, 0, 0]) (hin : ∀ a, off a + S1x128x1024.size a ≤ S4x128x1024.size a) :
    ((Memref.whole main_arg2).slice (Rect.unit (s := S4x128x1024) off S1x128x1024.size hin) (fun _ => rfl)).squeeze
      S128x1024 squeezes_S1x128x1024_S128x1024 = quarter n := by
  subst h; rfl

theorem off1 (c : Dev nD) : k0_off1 c = ![(mate 0 c).val, 0, 0] := by
  rw [k0_off1_eq]; revert c; exact (by decide : ∀ c : Fin 4, ![((c.val % 2) + 2) - 2 * (c.val / 2), 0, 0] = ![(mate 0 c).val, 0, 0])
theorem off2 (c : Dev nD) : k0_off2 c = ![(mate 1 c).val, 0, 0] := by
  rw [k0_off2_eq]; revert c; exact (by decide : ∀ c : Fin 4, ![((2 * (c.val / 2)) + 1) - (c.val % 2), 0, 0] = ![(mate 1 c).val, 0, 0])
theorem off3 (c : Dev nD) : k0_off3 c = ![(mate 2 c).val, 0, 0] := by
  rw [k0_off3_eq]; revert c; exact (by decide : ∀ c : Fin 4, ![3 - (2 * (c.val / 2) + c.val % 2), 0, 0] = ![(mate 2 c).val, 0, 0])
theorem dev1 (c : Dev nD) (h) : (⟨k0_dev1 c, h⟩ : Dev nD) = mate 0 c := by
  apply Fin.ext; show k0_dev1 c = _
  rw [k0_dev1_eq]; clear h; revert c; exact (by decide : ∀ c : Fin 4, ((c.val % 2) + 2) - 2 * (c.val / 2) = (mate 0 c).val)
theorem dev2 (c : Dev nD) (h) : (⟨k0_dev2 c, h⟩ : Dev nD) = mate 1 c := by
  apply Fin.ext; show k0_dev2 c = _
  rw [k0_dev2_eq]; clear h; revert c; exact (by decide : ∀ c : Fin 4, ((2 * (c.val / 2)) + 1) - (c.val % 2) = (mate 1 c).val)
theorem dev3 (c : Dev nD) (h) : (⟨k0_dev3 c, h⟩ : Dev nD) = mate 2 c := by
  apply Fin.ext; show k0_dev3 c = _
  rw [k0_dev3_eq]; clear h; revert c; exact (by decide : ∀ c : Fin 4, 3 - (2 * (c.val / 2) + c.val % 2) = (mate 2 c).val)

/-! ## What a device holds between the points -/

/-- Before the first point. -/
def start (c : Dev nD) : sProp 𝕄 :=
  iprop((∃ K, plan.ready m K c) ∗ (bigSep Finset.univ fun j : Fin 3 => cred (tallyAt (plan.recvCell j c) () plan.N)) ∗ kept m c)
/-- Between the first and the last. -/
def going (c : Dev nD) : sProp 𝕄 :=
  iprop((∃ K, plan.flying m K c 0 ∗ plan.flying m K c 1 ∗ plan.flying m K c 2) ∗ kept m c)
/-- After the last. -/
def ended (c : Dev nD) : sProp 𝕄 :=
  iprop((plan.done m c 0 ∗ plan.done m c 1 ∗ plan.done m c 2) ∗ kept m c)

/-! ## The product the body computes -/

abbrev a0 : Rect S8x1024x512 := Rect.unit (s := S8x1024x512) ![0, 0, 0] S1x1024x512.size inb_S8x1024x512_S1x1024x512_0_0_0
abbrev a1 : Rect S8x1024x512 := Rect.unit (s := S8x1024x512) ![1, 0, 0] S1x1024x512.size inb_S8x1024x512_S1x1024x512_1_0_0
abbrev a2 : Rect S8x1024x512 := Rect.unit (s := S8x1024x512) ![2, 0, 0] S1x1024x512.size inb_S8x1024x512_S1x1024x512_2_0_0
abbrev a3 : Rect S8x1024x512 := Rect.unit (s := S8x1024x512) ![3, 0, 0] S1x1024x512.size inb_S8x1024x512_S1x1024x512_3_0_0
abbrev a4 : Rect S8x1024x512 := Rect.unit (s := S8x1024x512) ![4, 0, 0] S1x1024x512.size inb_S8x1024x512_S1x1024x512_4_0_0
abbrev a5 : Rect S8x1024x512 := Rect.unit (s := S8x1024x512) ![5, 0, 0] S1x1024x512.size inb_S8x1024x512_S1x1024x512_5_0_0
abbrev a6 : Rect S8x1024x512 := Rect.unit (s := S8x1024x512) ![6, 0, 0] S1x1024x512.size inb_S8x1024x512_S1x1024x512_6_0_0
abbrev a7 : Rect S8x1024x512 := Rect.unit (s := S8x1024x512) ![7, 0, 0] S1x1024x512.size inb_S8x1024x512_S1x1024x512_7_0_0
abbrev b0 : Rect S4096x512 := Rect.unit (s := S4096x512) ![0, 0] S4096x512.size inb_S4096x512_S4096x512_0_0
abbrev o0 : Rect S1x1024x512 := Rect.unit (s := S1x1024x512) ![0, 0, 0] S1x1024x512.size inb_S1x1024x512_S1x1024x512_0_0_0

/-- The block a point leaves, of the two blocks it finds. -/
def made (x0 : Vec F S8x1024x512 .bf16) (x1 : Vec F S4096x512 .bf16) : Vec F S1x1024x512 .bf16 :=
  View.canon [⟨o0, k0_pay1 (k0_pay2 (View.ld x0 a0) (View.ld x0 a1) (View.ld x0 a2) (View.ld x0 a3) (View.ld x0 a4) (View.ld x0 a5) (View.ld x0 a6) (View.ld x0 a7) (View.ld x1 b0))⟩]

theorem made_cover (p : Vec F S1x1024x512 .bf16) (y : S1x1024x512.Idx) : ∃ pc ∈ ([⟨o0, p⟩] : List (View.Piece (Elt F) S1x1024x512 .bf16)), y ∈ pc.1.set :=
  View.cover_of_tiled [⟨o0, p⟩] S1x1024x512.size (by rfl) y

variable (c : Dev nD) (i : grid0.Coords)
  (arg2 : Memref sig .tc .vmem S8x1024x512 .bf16) (harg2 : arg2.IsWhole) (arg3 : Memref sig .tc .vmem S4096x512 .bf16) (harg3 : arg3.IsWhole)
  (arg5 : Memref sig .tc .vmem S1x1024x512 .bf16) (harg5 : arg5.IsWhole)
  (x0 : Vec F S8x1024x512 .bf16) (x1 : Vec F S4096x512 .bf16)

/-- The kernel body, on the windows' buffers. -/
abbrev body : Prog (TpuEff nD τ sig (Elt F) Λ₀ .tc) PUnit :=
  cc0_dw_pw1 i arg2 harg2 arg3 harg3 (Memref.whole main_arg2) (Memref.isWhole_whole _) arg5 harg5 (Memref.whole main_v1_1) (Memref.isWhole_whole _) cc0_scratch0 cc0_scratch1

/-- The windows' buffers before a point, and after it. -/
def found : sProp 𝕄 :=
  iprop(owns (c : Thread nD τ) arg2 fullShare x0 ∗ owns (c : Thread nD τ) arg3 fullShare x1 ∗ (∃ d, owns (c : Thread nD τ) arg5 fullShare d))
def leaves : sProp 𝕄 :=
  iprop(owns (c : Thread nD τ) arg2 fullShare x0 ∗ owns (c : Thread nD τ) arg3 fullShare x1 ∗ owns (c : Thread nD τ) arg5 fullShare (made x0 x1))

set_option maxHeartbeats 1000000 in
/-- A point between the first and the last only multiplies. -/
theorem middle (Q : PUnit → sProp 𝕄) (h1 : ¬ k0_cond1 i = 1#1) (h2 : ¬ k0_cond2 i = 1#1) :
    iprop(found c arg2 arg3 arg5 x0 x1 ∗ (leaves c arg2 arg3 arg5 x0 x1 -∗ Q ⟨⟩))
      ⊢ wp frame (wpE (defs₀ (F := F)) Variants.none c none) Set.univ (body i arg2 harg2 arg3 harg3 arg5 harg5) Q := by
  unfold body
  simp only [cc0_dw_pw1_eq_skeleton]; unfold cc0_dw_pw1_skel
  simp only [k0_part4_eq_skeleton]; unfold k0_part4_skel
  simp only [dif_neg h1, dif_neg h2]
  unfold found leaves owns
  iintro ⟨⟨⟨%f0, %hf0, H0⟩, ⟨%f1, %hf1, H1⟩, ⟨%d2, %f2, -, H2⟩⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (made_cover _)

set_option maxHeartbeats 1000000 in
/-- The first point issues the three copies, then multiplies. -/
theorem first (Q : PUnit → sProp 𝕄) (h1 : k0_cond1 i = 1#1) (h2 : ¬ k0_cond2 i = 1#1) (W : Waits sig Unit) :
    iprop((start m c ∗ owes (c : Thread nD τ) (plan.O₀ c) W) ∗ found c arg2 arg3 arg5 x0 x1
        ∗ (((going m c ∗ owes (c : Thread nD τ) 0 W) ∗ leaves c arg2 arg3 arg5 x0 x1) -∗ Q ⟨⟩))
      ⊢ wp frame (wpE (defs₀ (F := F)) Variants.none c none) Set.univ (body i arg2 harg2 arg3 harg3 arg5 harg5) Q := by
  unfold body
  simp only [cc0_dw_pw1_eq_skeleton]; unfold cc0_dw_pw1_skel
  simp only [k0_part4_eq_skeleton]; unfold k0_part4_skel
  simp only [k0_part1_eq_skeleton]; unfold k0_part1_skel
  simp only [dif_pos h1, dif_neg h2, Prog.lift, Prog.bind_op, Prog.bind_ret, Prog.pure_eq_ret, wp_deviceId]
  unfold start Plan.ready
  simp only [bigSep_fin3]
  have hO : plan.O₀ c = ((0 + tallyAt (plan.recvCell 2 (plan.peer 2 c)) () plan.N) + tallyAt (plan.recvCell 1 (plan.peer 1 c)) () plan.N)
      + tallyAt (plan.recvCell 0 (plan.peer 0 c)) () plan.N := by
    unfold Plan.O₀; rw [Fin.sum_univ_three]; abel
  iintro ⟨⟨⟨⟨%K, R0, R1, R2⟩, ⟨C0, C1, C2⟩, Hkept⟩, HO⟩, Hf, Hk⟩
  iapply (plan.wp_issue m K Variants.none 0 c _ (dev1 c _) _ _ (quarter_at _ _ (off1 c) _) rfl _ _ rfl rfl none _ hO W) $$ [R0 C0 HO]
  · unfold Plan.unsent
    isplitr [HO]
    · isplitl [R0]; · iexact R0
      iexact C0
    iexact HO
  iintro ⟨F0, HO⟩
  iapply (plan.wp_issue m K Variants.none 1 c _ (dev2 c _) _ _ (quarter_at _ _ (off2 c) _) rfl _ _ rfl rfl none _ rfl W) $$ [R1 C1 HO]
  · unfold Plan.unsent
    isplitr [HO]
    · isplitl [R1]; · iexact R1
      iexact C1
    iexact HO
  iintro ⟨F1, HO⟩
  iapply (plan.wp_issue m K Variants.none 2 c _ (dev3 c _) _ _ (quarter_at _ _ (off3 c) _) rfl _ _ rfl rfl none _ rfl W) $$ [R2 C2 HO]
  · unfold Plan.unsent
    isplitr [HO]
    · isplitl [R2]; · iexact R2
      iexact C2
    iexact HO
  iintro ⟨F2, HO⟩
  unfold found leaves owns
  icases Hf with ⟨⟨%f0, %hf0, H0⟩, ⟨%f1, %hf1, H1⟩, ⟨%d2, %f2, -, H2⟩⟩
  subst hf0 hf1
  sl_exec
  sl_step
  iapply Hk
  isplitl [F0 F1 F2 Hkept HO]
  · isplitr [HO]
    · unfold going
      isplitr [Hkept]
      · iexists K
        isplitl [F0]; · iexact F0
        isplitl [F1]; · iexact F1
        iexact F2
      iexact Hkept
    iexact HO
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (made_cover _)

set_option maxHeartbeats 1000000 in
/-- The last point multiplies, then waits for the three copies, each way. -/
theorem last (Q : PUnit → sProp 𝕄) (h1 : ¬ k0_cond1 i = 1#1) (h2 : k0_cond2 i = 1#1) (W : Waits sig Unit) :
    iprop((going m c ∗ owes (c : Thread nD τ) 0 W) ∗ found c arg2 arg3 arg5 x0 x1
        ∗ (∀ W', ((ended m c ∗ owes (c : Thread nD τ) 0 W') ∗ leaves c arg2 arg3 arg5 x0 x1) -∗ Q ⟨⟩))
      ⊢ wp frame (wpE (defs₀ (F := F)) Variants.none c none) Set.univ (body i arg2 harg2 arg3 harg3 arg5 harg5) Q := by
  unfold body
  simp only [cc0_dw_pw1_eq_skeleton]; unfold cc0_dw_pw1_skel
  simp only [k0_part4_eq_skeleton]; unfold k0_part4_skel
  simp only [k0_part2_eq_skeleton, k0_part3_eq_skeleton]; unfold k0_part2_skel k0_part3_skel
  simp only [dif_neg h1, dif_pos h2, Prog.lift, Prog.bind_op, Prog.bind_ret, Prog.pure_eq_ret]
  unfold going
  iintro ⟨⟨⟨⟨%K, F0, F1, F2⟩, Hkept⟩, HO⟩, Hf, Hk⟩
  unfold found leaves owns
  icases Hf with ⟨⟨%f0, %hf0, H0⟩, ⟨%f1, %hf1, H1⟩, ⟨%d2, %f2, -, H2⟩⟩
  subst hf0 hf1
  sl_exec
  simp only [wp_deviceId]
  iapply (plan.wp_both m K Variants.none 0 c _ _ rfl _ _ rfl _ _ rfl rfl none W) $$ [F0 HO]
  · isplitl [F0]; · iexact F0
    iexact HO
  iintro %W0 ⟨D0, HO⟩
  iapply (plan.wp_both m K Variants.none 1 c _ _ rfl _ _ rfl _ _ rfl rfl none W0) $$ [F1 HO]
  · isplitl [F1]; · iexact F1
    iexact HO
  iintro %W1 ⟨D1, HO⟩
  iapply (plan.wp_both m K Variants.none 2 c _ _ rfl _ _ rfl _ _ rfl rfl none W1) $$ [F2 HO]
  · isplitl [F2]; · iexact F2
    iexact HO
  iintro %W2 ⟨D2, HO⟩
  rw [wp_ret]; imodintro
  iapply Hk $$ %W2
  isplitl [D0 D1 D2 Hkept HO]
  · isplitr [HO]
    · unfold ended
      isplitr [Hkept]
      · isplitl [D0]; · iexact D0
        isplitl [D1]; · iexact D1
        iexact D2
      iexact Hkept
    iexact HO
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (made_cover _)

end DwIn

end
-- ==== Proof.DwIn.Run.lean ====
/- The weight gradient of the convolution's input projection: the run of the whole call on the four devices. -/
module

public import proofs.«01_k».proof.Proof.DwIn.Body
public import proofs.«01_k».proof.Proof.Exchange.Launch

@[expose] public section

set_option maxRecDepth 16384

noncomputable section

namespace DwIn

open Cert.DwInIdeal Cert.DwInIdeal.Gen Cert.Exchange
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat BodyObligationLoose)

variable {F : FTy → Type} [FloatOps F]

local notation "𝕄" => MT nD τ sig Unit (Elt F) ℕ UU ℕ

variable (m : (ℓ : Loc nD τ sig) → Buf (Elt F) ℓ) (ρ : Dev nD → PrngReg)

/-- What a device holds at point `n`. -/
def held (c : Dev nD) (n : Nat) : sProp 𝕄 := if n = 0 then start m c else if n = 4 then ended m c else going m c

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => made (iblk m c 0 t) (iblk m c 1 t)
  Φ t := held m c t.val
  q w := Pipeline.shareOf spec0 w
  owed t := if t.val = 0 then plan.O₀ c else 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = made (iblk m c 0 t) (iblk m c 1 t) := by dsimp only [dats]

theorem Φ_at (c : Dev nD) (t : Fin cfg0.N) : (dats m 0 c).Φ t.castSucc = held m c t.val := rfl
theorem Φ_next (c : Dev nD) (t : Fin cfg0.N) : (dats m 0 c).Φ t.succ = held m c (t.val + 1) := rfl
theorem owed_at (c : Dev nD) (t : Fin cfg0.N) : (dats m 0 c).owed t.castSucc = if t.val = 0 then plan.O₀ c else 0 := rfl
theorem owed_next (c : Dev nD) (t : Fin cfg0.N) : (dats m 0 c).owed t.succ = 0 := rfl

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]) t d).trans
    (by unfold Dat.fetched Dat.blockOf iblk; rw [A_eq]; try rfl)

/-! ## The body at a point -/

theorem at_first : ∀ t : Fin cfg0.N, k0_cond1 (grid0.coords t) = 1#1 ↔ t.val = 0 := (by decide +kernel : ∀ t : Fin grid0.N, k0_cond1 (grid0.coords t) = 1#1 ↔ t.val = 0)
theorem at_last : ∀ t : Fin cfg0.N, k0_cond2 (grid0.coords t) = 1#1 ↔ t.val = 3 := (by decide +kernel : ∀ t : Fin grid0.N, k0_cond2 (grid0.coords t) = 1#1 ↔ t.val = 3)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The precondition, opened; the postcondition, closed. -/
theorem opens (c : Dev nD) (t : Fin cfg0.N) :
    bodyPre m c t ⊢ iprop(∃ W, (held m c t.val ∗ owes (c : Thread nD τ) (if t.val = 0 then plan.O₀ c else 0) W)
      ∗ found c (st0_0 t) (st0_1 t) (st0_2 t) (iblk m c 0 t) (iblk m c 1 t)) := by
  unfold bodyPre found
  unfold Dat.owesAt Pipeline.owesWithin
  simp only [before0, before1, Φ_at, owed_at]
  iintro ⟨HΦ, ⟨%W, -, HO⟩, ⟨%d0, H0⟩, ⟨%d1, H1⟩, ⟨%d2, H2⟩⟩
  iexists W
  isplitl [HΦ HO]
  · isplitl [HΦ]; · iexact HΦ
    iexact HO
  isplitl [H0]; · iexact H0
  isplitl [H1]; · iexact H1
  iexists _; iexact H2

theorem closes (c : Dev nD) (t : Fin cfg0.N) (W : Waits sig Unit) :
    iprop((held m c (t.val + 1) ∗ owes (c : Thread nD τ) 0 W) ∗ leaves c (st0_0 t) (st0_1 t) (st0_2 t) (iblk m c 0 t) (iblk m c 1 t)) ⊢ bodyPost m c t := by
  unfold bodyPost leaves
  unfold Dat.owesAt Pipeline.owesWithin
  rw [after0, after1, after2, Φ_next, owed_next]
  iintro ⟨⟨HΦ, HO⟩, H0, H1, H2⟩
  isplitl [HΦ]; · iexact HΦ
  isplitl [HO]
  · iexists W
    isplitr; · ipureintro; exact fun _ _ => Or.inl trivial
    iexact HO
  isplitl [H0]; · iexact H0
  isplitl [H1]; · iexact H1
  iexact H2

theorem hst0 (t : Fin cfg0.N) : (st0_0 t).IsWhole := hstage0_0 ((cfg0.slots t 0).cast nbuf0_0)
theorem hst1 (t : Fin cfg0.N) : (st0_1 t).IsWhole := hstage0_1 ((cfg0.slots t 1).cast nbuf0_1)
theorem hst2 (t : Fin cfg0.N) : (st0_2 t).IsWhole := hstage0_2 ((cfg0.slots t 2).cast nbuf0_2)

theorem lt_four (t : Fin cfg0.N) : t.val < 4 := lt_of_lt_of_eq t.isLt (show cfg0.N = 4 from N_0)

theorem sound_body (c : Dev nD) (t : Fin cfg0.N) :
    bodyPre m c t ⊢ wp frame (wpE (defs₀ (F := F)) Variants.none c none) Set.univ (bodyAt0 t) (fun _ => bodyPost m c t) := by
  refine (opens m c t).trans (exists_elim fun W => ?_)
  have hlt := lt_four t
  by_cases h0 : t.val = 0
  · have e0 : held m c t.val = start m c := by unfold held; rw [if_pos h0]
    have e1 : going m c = held m c (t.val + 1) := by unfold held; rw [if_neg (by omega), if_neg (by omega)]
    have run := first m c (grid0.coords t) (st0_0 t) (hst0 t) (st0_1 t) (hst1 t) (st0_2 t) (hst2 t) (iblk m c 0 t) (iblk m c 1 t) (fun _ => bodyPost m c t)
      ((at_first t).mpr h0) (fun h => by have := (at_last t).mp h; omega) W
    rw [e0, if_pos h0]
    refine BIBase.Entails.trans ?_ run
    rw [e1]
    iintro ⟨H, Hf⟩
    isplitl [H]; · iexact H
    isplitl [Hf]; · iexact Hf
    iintro Hl
    iapply (closes m c t W); iexact Hl
  · rw [if_neg h0]
    by_cases h3 : t.val = 3
    · have e0 : held m c t.val = going m c := by unfold held; rw [if_neg (by omega), if_neg (by omega)]
      have e1 : ended m c = held m c (t.val + 1) := by unfold held; rw [if_neg (by omega), if_pos (by omega)]
      have run := last m c (grid0.coords t) (st0_0 t) (hst0 t) (st0_1 t) (hst1 t) (st0_2 t) (hst2 t) (iblk m c 0 t) (iblk m c 1 t) (fun _ => bodyPost m c t)
        (fun h => h0 ((at_first t).mp h)) ((at_last t).mpr h3) W
      rw [e0]
      refine BIBase.Entails.trans ?_ run
      rw [e1]
      iintro ⟨H, Hf⟩
      isplitl [H]; · iexact H
      isplitl [Hf]; · iexact Hf
      iintro %W'
      iintro Hl
      iapply (closes m c t W'); iexact Hl
    · have e0 : held m c t.val = held m c (t.val + 1) := by
        unfold held; rw [if_neg (by omega), if_neg (by omega), if_neg (by omega), if_neg (by omega)]
      have run := middle c (grid0.coords t) (st0_0 t) (hst0 t) (st0_1 t) (hst1 t) (st0_2 t) (hst2 t) (iblk m c 0 t) (iblk m c 1 t) (fun _ => bodyPost m c t)
        (fun h => h0 ((at_first t).mp h)) (fun h => h3 ((at_last t).mp h))
      rw [e0]
      refine BIBase.Entails.trans ?_ run
      iintro ⟨H, Hf⟩
      isplitl [Hf]; · iexact Hf
      iintro Hl
      iapply (closes m c t W)
      isplitl [H]; · iexact H
      iexact Hl

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## Before the first point and after the last -/

theorem ownSemFacts  : Pipeline.OwnSemFacts spec0 plan.osem := by decide

/-- What the launch deals out: what a device brings to the exchange, and the blocks of the sums it keeps. -/
theorem deal (c : Dev nD) :
    iprop((Pipeline.ownSems0 plan.osem c ∗ Pipeline.unscopedRest spec0 c (fun b => m ((c : Thread nD τ).loc b))) ∗ plan.G m c : sProp 𝕄)
      ⊢ iprop(plan.brings m c ∗ kept m c) := by
  rw [unscopedRest0_eq]
  unfold Plan.brings
  iintro ⟨⟨Hs, Hx, Hy⟩, HG⟩
  ihave Hx' := (sums_split m c).1 $$ Hx
  icases Hx' with ⟨Hx, Hk⟩
  isplitr [Hk]
  · isplitr [HG]
    · isplitl [Hs]; · iexact Hs
      isplitl [Hx]; · iexact Hx
      iapply (Entails.of_eq (slots_split m c)); iexact Hy
    · iexact HG
  · iexact Hk

/-- What a device has once the exchange is set up. -/
def set (c : Dev nD) : sProp 𝕄 := iprop((∃ K, plan.ready m K c) ∗ kept m c)

theorem set_of (K : Dev nD × (Bool × Fin 3) → ℕ) (c : Dev nD) : iprop(plan.ready m K c ∗ kept m c) ⊢ set m c := by
  unfold set
  iintro ⟨H, Hk⟩
  isplitl [H]; · iexists K; iexact H
  iexact Hk

theorem set_all : iprop((∃ K, bigSep Finset.univ (plan.ready m K)) ∗ bigSep Finset.univ (kept m)) ⊢ bigSep Finset.univ (set m) := by
  iintro ⟨⟨%K, H⟩, Hk⟩
  iapply (show iprop(bigSep Finset.univ (plan.ready m K) ∗ bigSep Finset.univ (kept m)) ⊢ bigSep Finset.univ (set m) from by
    rw [← bigSep_sep']
    exact bigSep_mono fun c _ => set_of m K c)
  isplitl [H]; · iexact H
  iexact Hk

theorem share : iprop(bigSep Finset.univ (plan.brings m) ∗ bigSep Finset.univ (kept m)) ⊢ |={Set.univ}=> bigSep Finset.univ (set m) := by
  iintro ⟨Hb, Hk⟩
  imod (plan.glob m) $$ Hb with H
  imodintro
  iapply (set_all m)
  isplitl [H]; · iexact H
  iexact Hk

theorem setup :
    (bigSep Finset.univ fun c => iprop((Pipeline.ownSems0 plan.osem c
        ∗ Pipeline.unscopedRest spec0 c (fun b => m ((c : Thread nD τ).loc b))) ∗ plan.G m c) : sProp 𝕄)
      ⊢ |={Set.univ}=> bigSep Finset.univ (set m) := by
  refine (bigSep_mono fun c _ => deal m c).trans ?_
  rw [bigSep_sep']
  exact share m

theorem enter (c : Dev nD) :
    iprop((levAts Plan.L plan.lv ∗ Pipeline.launchCred plan.O₀ c ∗ set m c) ∗ Pipeline.scopedRest spec0 c) ⊢ (dats m 0 c).Φ 0 := by
  rw [show (dats m 0 c).Φ 0 = start m c from rfl]
  unfold set start
  iintro ⟨⟨-, Hc, Hr, Hk⟩, -⟩
  isplitl [Hr]; · iexact Hr
  isplitl [Hc]; · iapply (plan.creds c); iexact Hc
  iexact Hk

/-- What is left to read at the end: the sums unchanged, the received blocks in place. -/
def found_at_end (c : Dev nD) : sProp 𝕄 :=
  iprop((((c : Thread nD τ).loc main_arg2) ↦{fullShare} m ((c : Thread nD τ).loc main_arg2))
    ∗ (((c : Thread nD τ).loc main_v1_1) ↦{fullShare} received m c))

theorem parts_done (c : Dev nD) :
    iprop(plan.done m c 0 ∗ plan.done m c 1 ∗ plan.done m c 2)
      ⊢ iprop(((bigSep Finset.univ fun j => plan.srcPts m j c) ∗ bigSep Finset.univ fun j => plan.filled m j c) ∗ Pipeline.ownSems0 plan.osem c) := by
  have e : (Pipeline.ownSems0 plan.osem c : sProp 𝕄) = bigSep Finset.univ fun k : Bool × Fin 3 => semVal (plan.kcell (c, k)) 0 := rfl
  rw [e, bigSep_kinds, bigSep_fin3, bigSep_fin3, bigSep_fin3, bigSep_fin3]
  unfold Plan.done
  iintro ⟨⟨⟨a0, b0⟩, s0, r0⟩, ⟨⟨a1, b1⟩, s1, r1⟩, ⟨⟨a2, b2⟩, s2, r2⟩⟩
  isplitl [a0 a1 a2 b0 b1 b2]
  · isplitl [a0 a1 a2]
    · isplitl [a0]; · iexact a0
      isplitl [a1]; · iexact a1
      iexact a2
    · isplitl [b0]; · iexact b0
      isplitl [b1]; · iexact b1
      iexact b2
  · isplitl [s0 s1 s2]
    · isplitl [s0]; · iexact s0
      isplitl [s1]; · iexact s1
      iexact s2
    · isplitl [r0]; · iexact r0
      isplitl [r1]; · iexact r1
      iexact r2

theorem leave (c : Dev nD) :
    (dats m 0 c).Φ (Fin.last cfg0.N) ⊢ iprop(found_at_end m c ∗ Pipeline.ownSems0 plan.osem c ∗ Pipeline.scopedRest spec0 c) := by
  rw [show (dats m 0 c).Φ (Fin.last cfg0.N) = ended m c from rfl, scopedRest0_eq]
  unfold ended found_at_end
  iintro ⟨Hd, Hk⟩
  ihave H := (parts_done m c) $$ Hd
  icases H with ⟨⟨Hs, Hf⟩, Hz⟩
  isplitl [Hs Hf Hk]
  · isplitl [Hs Hk]
    · iapply (sums_split m c).2
      isplitl [Hs]; · iexact Hs
      iexact Hk
    · iapply (Entails.of_eq (slots_join m c)); iexact Hf
  · isplitl [Hz]; · iexact Hz
    iempintro

/-- The two arrays the kernel reaches by itself, at the end. -/
def ends (c : Dev nD) (s : MemSt nD τ sig (Elt F)) : Prop :=
  s.mem ((c : Thread nD τ).loc main_arg2) = m ((c : Thread nD τ).loc main_arg2) ∧ s.mem ((c : Thread nD τ).loc main_v1_1) = received m c

theorem read_end (c : Dev nD) (s' : Phys nD τ sig (Elt F)) :
    iprop(found_at_end m c ∗ SI s') ⊢ |={Set.univ}=> iprop(⌜ends m c s'.mem⌝ ∗ SI s' : sProp 𝕄) := by
  have h1 := pointsTo_read_all (Ix := Unit) (Name := ℕ) (U := UU) (Lvl := ℕ) Finset.univ (fun _ : Unit => (c : Thread nD τ).loc main_arg2) (fun _ => m ((c : Thread nD τ).loc main_arg2)) s'
  have h2 := pointsTo_read_all (Ix := Unit) (Name := ℕ) (U := UU) (Lvl := ℕ) Finset.univ (fun _ : Unit => (c : Thread nD τ).loc main_v1_1) (fun _ => received m c) s'
  rw [show (Finset.univ : Finset Unit) = {()} from rfl, bigSep_singleton] at h1 h2
  unfold found_at_end
  iintro ⟨⟨Ha, Hb⟩, HSI⟩
  ihave H := h1 $$ [Ha HSI]
  · isplitl [Ha] <;> iassumption
  icases H with ⟨%ha, HSI⟩
  ihave H := h2 $$ [Hb HSI]
  · isplitl [Hb] <;> iassumption
  icases H with ⟨%hb, HSI⟩
  imodintro
  isplitr
  · ipureintro; exact ⟨ha () (by simp), hb () (by simp)⟩
  · iexact HSI

/-! ## The run -/

/-- From any memory with zero counters: the four devices terminate; each window's array ends as the body leaves it, the
    sums unchanged, the received blocks in place, every counter at zero. -/
theorem run : θ_run (defs (F := F)) (onTc (τ := τ) (main (F := F))) ⟨m, fun _ => 0, ρ⟩ (fun r =>
    (∀ c : Dev nD, (∀ w, r.2.mem ((c : Thread nD τ).loc (Pipeline.arrRef spec0 w)) = (dats m 0 c).arrAt w cfg0.N) ∧ ends m c r.2)
      ∧ r.2.sem = fun _ => 0) :=
  run_region cfgs (dats m) () cellOf_inj (0 : Fin 1) winFacts0.to₀ ownSemFacts EP m defs₀ Variants.none ρ main
    (hmain := fun _ => rfl) (hbody := body_obligation m) (hne := fun w => by fin_cases w <;> exact Nat.succ_pos _)
    (harr := arr_whole0) (hstage := stage_whole0) (hsh := by decide) (hq := fun _ _ _ => rfl)
    (O₀ := plan.O₀) (howed₀ := fun _ => rfl) (howedN := fun _ => rfl) (L := Plan.L) (lv := plan.lv) (hL := Plan.L_of_ne)
    (hwaits := fun c => Pipeline.cellsWaits_intro cfgs (dats m) () 0 c fun w s t =>
      plan.mayWait_other c _ (by fin_cases w <;> fin_cases s <;> decide) _ (by
        rcases t with ⟨_ | _, ht⟩
        · exact Or.inl rfl
        · exact Or.inr rfl))
    (hA := fun _ _ => rfl) (G := plan.G m) (G' := set m) (Y := found_at_end m)
    (u₀ := (initOf (Pipeline.cells cfgs cellOf_inj) (Pipeline.launchToks cfgs cellOf_inj), initOf plan.cells plan.toks))
    (hu₀ := by
      iintro Hu
      ihave H := (ownU_pair _ _) $$ Hu
      icases H with ⟨HP, HX⟩
      imod (plan.fund m) $$ HX with HG
      imodintro
      isplitl [HP] <;> iassumption)
    (hglob := setup m) (hin := enter m) (hout := leave m) (QY := ends m) (hY := read_end m)
    (hQ := fun s h hs => ⟨h, sem_eq_zero_of_scoped (by decide) hs⟩)

end DwIn

end
-- ==== Proof.DwIn.Value.lean ====
/- The weight gradient of the convolution's input projection: the array of products a device leaves, and the reference's gradient, entry by entry. -/
module

public import proofs.«01_k».proof.Proof.DwIn.Run
public import proofs.«01_k».proof.Proof.Gen.DwInRefIdeal.Read
public import Idealize.ShloMosaic.Lib.Pipeline.ReadBack
public import Idealize.ShloMosaic.Lib.Pipeline.ValueKit

@[expose] public section

set_option maxRecDepth 16384

noncomputable section

namespace DwIn

open Idealize.ShloMosaic Idealize.ShloMosaic.TcCoe Idealize.SL.Sem
open Cert.DwInIdeal Cert.DwInIdeal.Gen

/-- Row `s` of the row block `b`, among all of a device's rows. -/
abbrev trow (b : Fin 8) (s : Fin 512) : Fin 4096 := ⟨b.val * 512 + s.val, by omega⟩

/-- Every row is a row of some block. -/
theorem row_split (k : Fin 4096) : ∃ (b : Fin 8) (s : Fin 512), k = trow b s :=
  ⟨⟨k.val / 512, by omega⟩, ⟨k.val % 512, by omega⟩, Fin.ext (by show k.val = k.val / 512 * 512 + k.val % 512; omega)⟩

section
variable (x0 : Vec Ideal S8x1024x512 .bf16) (x1 : Vec Ideal S4096x512 .bf16)

/-- The left operand's row blocks side by side. -/
def cat : Vec Ideal S1024x4096 .bf16 :=
  concatenate (α := EReal) S1024x4096 1 [⟨S1024x512, shapeCast S1024x512 (View.ld x0 a0) shapeCasts_S1x1024x512_S1024x512⟩, ⟨S1024x512, shapeCast S1024x512 (View.ld x0 a1) shapeCasts_S1x1024x512_S1024x512⟩, ⟨S1024x512, shapeCast S1024x512 (View.ld x0 a2) shapeCasts_S1x1024x512_S1024x512⟩, ⟨S1024x512, shapeCast S1024x512 (View.ld x0 a3) shapeCasts_S1x1024x512_S1024x512⟩, ⟨S1024x512, shapeCast S1024x512 (View.ld x0 a4) shapeCasts_S1x1024x512_S1024x512⟩, ⟨S1024x512, shapeCast S1024x512 (View.ld x0 a5) shapeCasts_S1x1024x512_S1024x512⟩, ⟨S1024x512, shapeCast S1024x512 (View.ld x0 a6) shapeCasts_S1x1024x512_S1024x512⟩, ⟨S1024x512, shapeCast S1024x512 (View.ld x0 a7) shapeCasts_S1x1024x512_S1024x512⟩] concatenates_S1024x512_S1024x512_S1024x512_S1024x512_S1024x512_S1024x512_S1024x512_S1024x512_S1024x4096_d1

theorem piece_apply (n : Nat) (h : ∀ a, (![n, 0, 0] : Fin 3 → Nat) a + S1x1024x512.size a ≤ S8x1024x512.size a) (r : Fin 1024) (s : Fin 512) (hn : n < 8) :
    shapeCast (α := EReal) S1024x512 (View.ld (Val := Elt Ideal) x0 (Rect.unit (s := S8x1024x512) ![n, 0, 0] S1x1024x512.size h)) shapeCasts_S1x1024x512_S1024x512 (ix2 r s)
      = x0 (ix3 ⟨n, hn⟩ r s) := by
  refine (shapeCast_dropUnit_apply ![1024, 512] _ _ (ix2 r s)).trans (View.ld_unit_apply_of (Val := Elt Ideal) x0 _ _ h _ _ fun a => ?_)
  fin_cases a
  · show n = n + 0; rfl
  · show r.val = 0 + r.val; omega
  · show s.val = 0 + s.val; omega

theorem cat_apply (r : Fin 1024) (b : Fin 8) (s : Fin 512) : cat x0 (ix2 r (trow b s)) = x0 (ix3 b r s) := by
  have hs := s.isLt
  have hb := b.isLt
  unfold cat
  refine (concatenate_ofFn_apply (α := EReal) (t := S1024x4096) (s₁ := S1024x512) (1 : Fin 2) (N := 8) (![shapeCast S1024x512 (View.ld x0 a0) shapeCasts_S1x1024x512_S1024x512, shapeCast S1024x512 (View.ld x0 a1) shapeCasts_S1x1024x512_S1024x512, shapeCast S1024x512 (View.ld x0 a2) shapeCasts_S1x1024x512_S1024x512, shapeCast S1024x512 (View.ld x0 a3) shapeCasts_S1x1024x512_S1024x512, shapeCast S1024x512 (View.ld x0 a4) shapeCasts_S1x1024x512_S1024x512, shapeCast S1024x512 (View.ld x0 a5) shapeCasts_S1x1024x512_S1024x512, shapeCast S1024x512 (View.ld x0 a6) shapeCasts_S1x1024x512_S1024x512, shapeCast S1024x512 (View.ld x0 a7) shapeCasts_S1x1024x512_S1024x512]) _ rfl 512 rfl (ix2 r (trow b s) : S1024x4096.Idx) b
    (by show (b.val * 512 + s.val) / 512 = b.val; omega) (ix2 r s : S1024x512.Idx) (by show s.val = (b.val * 512 + s.val) % 512; omega) (fun a ha => by fin_cases a <;> first | rfl | exact absurd rfl ha)).trans ?_
  fin_cases b <;> exact piece_apply x0 _ _ r s _

theorem made_eq : made x0 x1 = k0_pay1 (k0_pay2 (View.ld x0 a0) (View.ld x0 a1) (View.ld x0 a2) (View.ld x0 a3) (View.ld x0 a4) (View.ld x0 a5) (View.ld x0 a6) (View.ld x0 a7) x1) := by
  unfold made
  frame_out

/-- At an entry it is the product of the rows' columns. -/
theorem made_apply (u : Fin 1) (r : Fin 1024) (d : Fin 512) :
    made x0 x1 (ix3 u r d) = ∑ k : Fin 4096, cat x0 (ix2 r k) * x1 (ix2 k d) := by
  rw [made_eq]
  show shapeCast (α := EReal) S1x1024x512 (truncf (F := Ideal) .bf16 (matmul (F := Ideal) (φ₁ := .bf16) (φ₂ := .bf16) dot_S1024x4096_S4096x512_S1024x512_1_0_0_1_n_n none (cat x0)
    (shapeCast S4096x512 x1 shapeCasts_S4096x512_S4096x512) (constant (F := Ideal) S1024x512 .f32 0x00000000#32)) bitsLt_bf16_f32) shapeCasts_S1024x512_S1x1024x512 (ix3 u r d) = _
  generalize cat x0 = y
  pointwise
end

variable (m : (ℓ : Loc nD τ sig) → Buf (Elt Ideal) ℓ) (c : Dev nD)

theorem idx0 : ∀ t : Fin cfg0.N, win0_0.index t = ![0, t.val / 4, 0] := (by decide +kernel : ∀ t : Fin grid0.N, win0_0.index t = ![0, t.val / 4, 0])
theorem idx1 : ∀ t : Fin cfg0.N, win0_1.index t = ![0, t.val % 4] := (by decide +kernel : ∀ t : Fin grid0.N, win0_1.index t = ![0, t.val % 4])
theorem idx2 : ∀ t : Fin cfg0.N, win0_2.index t = ![t.val % 4, t.val / 4, 0] := (by decide +kernel : ∀ t : Fin grid0.N, win0_2.index t = ![t.val % 4, t.val / 4, 0])

variable (t : Fin cfg0.N)

/-- The point's feature `r`, among all features. -/
abbrev feat (r : Fin 1024) : Fin 1024 := ⟨t.val / 4 * 1024 + r.val, by have := lt_four t; omega⟩
/-- The point's part of the columns. -/
abbrev part : Fin 4 := ⟨t.val % 4, by omega⟩
/-- Column `n` of part `q`, among all columns. -/
abbrev col (q : Fin 4) (n : Fin 512) : Fin 2048 := ⟨q.val * 512 + n.val, by omega⟩

theorem read0 (b : Fin 8) (r : Fin 1024) (s : Fin 512) :
    iblk m c 0 t (ix3 b r s) = m ((c : Thread nD τ).loc main_arg0) (ix3 b (feat t r) s) := by
  have e : ((cfg0.win 0).blk t).view.emb (ix3 b r s) = (ix3 b (feat t r) s : S8x1024x512.Idx) := by blk_ext [idx0 t]
  show m ((c : Thread nD τ).loc main_arg0) (((cfg0.win 0).blk t).view.emb (ix3 b r s)) = _
  rw [e]

theorem read1 (k : Fin 4096) (d : Fin 512) : iblk m c 1 t (ix2 k d) = m ((c : Thread nD τ).loc main_arg1) (ix2 k (col (part t) d)) := by
  have e : ((cfg0.win 1).blk t).view.emb (ix2 k d) = (ix2 k (col (part t) d) : S4096x2048.Idx) := by blk_ext [idx1 t]
  show m ((c : Thread nD τ).loc main_arg1) (((cfg0.win 1).blk t).view.emb (ix2 k d)) = _
  rw [e]

/-- The rows of the left operand that feature `f` sums over. -/
def lhs (x : Vec Ideal S8x1024x512 .bf16) (f : Fin 1024) (k : Fin 4096) : EReal := x (ix3 ⟨k.val / 512, by omega⟩ f ⟨k.val % 512, by omega⟩)

theorem lhs_row (x : Vec Ideal S8x1024x512 .bf16) (f : Fin 1024) (b : Fin 8) (s : Fin 512) : lhs x f (trow b s) = x (ix3 b f s) := by
  unfold lhs
  congr 1
  have hb := b.isLt
  have hs := s.isLt
  refine congrArg₂ (fun u v => ix3 u f v) (Fin.ext ?_) (Fin.ext ?_)
  · show (b.val * 512 + s.val) / 512 = b.val; omega
  · show (b.val * 512 + s.val) % 512 = s.val; omega

/-- The block at one grid point. -/
theorem made_blk (u : Fin 1) (r : Fin 1024) (d : Fin 512) :
    made (iblk m c 0 t) (iblk m c 1 t) (ix3 u r d)
      = ∑ k : Fin 4096, HMul.hMul (α := EReal) (β := EReal) (lhs (m ((c : Thread nD τ).loc main_arg0)) (feat t r) k) (m ((c : Thread nD τ).loc main_arg1) (ix2 k (col (part t) d))) := by
  rw [made_apply]
  refine Finset.sum_congr rfl fun k _ => ?_
  obtain ⟨b, s, rfl⟩ := row_split k
  rw [cat_apply, read0, read1, lhs_row]

theorem emb2 (u : Fin 1) (r : Fin 1024) (d : Fin 512) : ((cfg0.win 2).blk t).view.emb (ix3 u r d) = (ix3 (part t) (feat t r) d : S4x1024x512.Idx) := by
  blk_ext [idx2 t]

theorem idx_inj2 : ∀ t t' : Fin cfg0.N, win0_2.index t = win0_2.index t' → t = t' :=
  (by decide +kernel : ∀ t t' : Fin grid0.N, win0_2.index t = win0_2.index t' → t = t')

theorem blocks2 : ((cfg0.win 2).blk t).view.read (Elt Ideal) ((dats m 0 c).arrAt 2 cfg0.N) = (dats m 0 c).flushed 2 t :=
  (dats m 0 c).read_blk_arrAt_eq_flushed 2 (fun t t' _ _ hne => (cfg0.win 2).disjoint_blk fun h => hne (idx_inj2 t t' h)) cfg0.N t t.isLt (flush0_2 t)

theorem flushed2 : (dats m 0 c).flushed 2 t = (cfg0.win 2).cut (grid0.coords t) (made (iblk m c 0 t) (iblk m c 1 t)) := by
  show (cfg0.win 2).cut (grid0.coords t) ((dats m 0 c).after 2 t) = _
  rw [after2]

/-- The array a device leaves: part by part, the left operand transposed times the right one. -/
theorem arr2 (q : Fin 4) (f : Fin 1024) (d : Fin 512) : (dats m 0 c).arrAt 2 cfg0.N (ix3 q f d : S4x1024x512.Idx)
    = ∑ k : Fin 4096, HMul.hMul (α := EReal) (β := EReal) (lhs (m ((c : Thread nD τ).loc main_arg0)) f k) (m ((c : Thread nD τ).loc main_arg1) (ix2 k (col q d))) := by
  have hr : f.val / 1024 * 4 + q.val < cfg0.N := by have := N_0; show _ < grid0.N; omega
  obtain ⟨t, ht⟩ : ∃ t : Fin cfg0.N, t.val = f.val / 1024 * 4 + q.val := ⟨⟨_, hr⟩, rfl⟩
  obtain ⟨r, rfl⟩ : ∃ r : Fin 1024, f = feat t r := ⟨⟨f.val % 1024, by omega⟩, Fin.ext (by show _ = t.val / 4 * 1024 + f.val % 1024; omega)⟩
  obtain rfl : q = part t := Fin.ext (by show _ = t.val % 4; omega)
  have h := congrFun (blocks2 m c t) (ix3 0 r d)
  have hd := made_blk m c t 0 r d
  rw [flushed2] at h
  generalize made (iblk m c 0 t) (iblk m c 1 t) = X at h hd
  exact (congrArg _ (emb2 t 0 r d)).symm.trans (h.trans hd)

end DwIn

end
-- ==== Proof.DwIn.Whole.lean ====
/- The weight gradient of the convolution's input projection: a device's parts of the reference's whole arrays. -/
module

public import proofs.«01_k».proof.Proof.DwIn.Value
public import Idealize.ShloMosaic.Lib.LayoutAt

@[expose] public section

set_option maxRecDepth 16384

noncomputable section

namespace DwIn

open Idealize.ShloMosaic Idealize.ShloMosaic.TcCoe Idealize.SL.Sem
open Cert.DwInIdeal Cert.DwInIdeal.Gen
open Cert.DwInRefIdeal.Read

/-- On the two axes the arrays are cut along, device `c` is block `c`. -/
theorem lin : ∀ c : Fin 4, Layout.meshLin [2, 2, 1] c.val [0, 1] = c.val := by decide

variable {α : Type} (c : Fin 4)

theorem part0 (X : Cert.DwInRefIdeal.S32x1024x512.Idx → α) (b : Fin 8) (f : Fin 1024) (s : Fin 512) :
    Layout.blockN ⟨3, ![8, 1024, 512]⟩ ⟨3, ![32, 1024, 512]⟩ (Layout.meshBlock [2, 2, 1] ![[0, 1], [], []] c) X (by decide) (ix3 b f s)
      = X (ix3 ⟨c.val * 8 + b.val, by omega⟩ f s) := by
  refine (Layout.blockN_apply ..).trans (congrArg X (funext fun a => Fin.ext ?_))
  fin_cases a
  · show Layout.meshLin [2, 2, 1] c.val [0, 1] * 8 + b.val = c.val * 8 + b.val; rw [lin]
  · show 0 * 1024 + f.val = f.val; omega
  · show 0 * 512 + s.val = s.val; omega

theorem part1 (X : Cert.DwInRefIdeal.S16384x2048.Idx → α) (k : Fin 4096) (f : Fin 2048) :
    Layout.blockN ⟨2, ![4096, 2048]⟩ ⟨2, ![16384, 2048]⟩ (Layout.meshBlock [2, 2, 1] ![[0, 1], []] c) X (by decide) (ix2 k f)
      = X (ix2 ⟨c.val * 4096 + k.val, by omega⟩ f) := by
  refine (Layout.blockN_apply ..).trans (congrArg X (funext fun a => Fin.ext ?_))
  fin_cases a
  · show Layout.meshLin [2, 2, 1] c.val [0, 1] * 4096 + k.val = c.val * 4096 + k.val; rw [lin]
  · show 0 * 2048 + f.val = f.val; omega

theorem part2 (X : Cert.DwInRefIdeal.S16x128x1024.Idx → α) (q : Fin 4) (r : Fin 128) (k : Fin 1024) :
    Layout.blockN ⟨3, ![4, 128, 1024]⟩ ⟨3, ![16, 128, 1024]⟩ (Layout.meshBlock [2, 2, 1] ![[0, 1], [], []] c) X (by decide) (ix3 q r k)
      = X (ix3 ⟨c.val * 4 + q.val, by omega⟩ r k) := by
  refine (Layout.blockN_apply ..).trans (congrArg X (funext fun a => Fin.ext ?_))
  fin_cases a
  · show Layout.meshLin [2, 2, 1] c.val [0, 1] * 4 + q.val = c.val * 4 + q.val; rw [lin]
  · show 0 * 128 + r.val = r.val; omega
  · show 0 * 1024 + k.val = k.val; omega

theorem part3 (X : Cert.DwInRefIdeal.S16x1024x512.Idx → α) (q : Fin 4) (r : Fin 1024) (k : Fin 512) :
    Layout.blockN ⟨3, ![4, 1024, 512]⟩ ⟨3, ![16, 1024, 512]⟩ (Layout.meshBlock [2, 2, 1] ![[0, 1], [], []] c) X (by decide) (ix3 q r k)
      = X (ix3 ⟨c.val * 4 + q.val, by omega⟩ r k) := by
  refine (Layout.blockN_apply ..).trans (congrArg X (funext fun a => Fin.ext ?_))
  fin_cases a
  · show Layout.meshLin [2, 2, 1] c.val [0, 1] * 4 + q.val = c.val * 4 + q.val; rw [lin]
  · show 0 * 1024 + r.val = r.val; omega
  · show 0 * 512 + k.val = k.val; omega

theorem part4 (X : Cert.DwInRefIdeal.S12x128x1024.Idx → α) (j : Fin 3) (r : Fin 128) (k : Fin 1024) :
    Layout.blockN ⟨3, ![3, 128, 1024]⟩ ⟨3, ![12, 128, 1024]⟩ (Layout.meshBlock [2, 2, 1] ![[0, 1], [], []] c) X (by decide) (ix3 j r k)
      = X (ix3 ⟨c.val * 3 + j.val, by omega⟩ r k) := by
  refine (Layout.blockN_apply ..).trans (congrArg X (funext fun a => Fin.ext ?_))
  fin_cases a
  · show Layout.meshLin [2, 2, 1] c.val [0, 1] * 3 + j.val = c.val * 3 + j.val; rw [lin]
  · show 0 * 128 + r.val = r.val; omega
  · show 0 * 1024 + k.val = k.val; omega

/-! ## The reference, entry by entry -/

section
variable (x0 : Vec Ideal Cert.DwInRefIdeal.S32x1024x512 .bf16) (x1 : Vec Ideal Cert.DwInRefIdeal.S16384x2048 .bf16)
  (x2 : Vec Ideal Cert.DwInRefIdeal.S16x128x1024 .bf16)

theorem rows_apply (p : Fin 4) (k : Fin 4096) (f : Fin 1024) :
    val_main_v3 (F := Ideal) x0 (ix3 p k f) = x0 (ix3 ⟨p.val * 8 + k.val / 512, by omega⟩ f ⟨k.val % 512, by omega⟩) := by
  have hp := p.isLt
  have hk := k.isLt
  have hf := f.isLt
  have e2 : idx_main_v2 (ix3 p k f) = (ix4 p (⟨k.val / 512, by omega⟩ : Fin 8) (⟨k.val % 512, by omega⟩ : Fin 512) f : Cert.DwInRefIdeal.S4x8x512x1024.Idx) := by
    funext a; refine Fin.ext ?_
    fin_cases a <;> dsimp [idx_main_v2, ix3, ix4] <;> omega
  have e1 (b : Fin 8) (s : Fin 512) : idx_main_v1 (ix4 p b s f) = (ix4 p b f s : Cert.DwInRefIdeal.S4x8x1024x512.Idx) := by
    funext a; refine Fin.ext ?_
    fin_cases a <;> rfl
  have e0 (b : Fin 8) (s : Fin 512) : idx_main_v0 (ix4 p b f s) = (ix3 (⟨p.val * 8 + b.val, by omega⟩ : Fin 32) f s : Cert.DwInRefIdeal.S32x1024x512.Idx) := by
    have hb := b.isLt
    have hs := s.isLt
    funext a; refine Fin.ext ?_
    fin_cases a <;> dsimp [idx_main_v0, ix3, ix4] <;> omega
  show val_main_v2 (F := Ideal) x0 (ix3 p k f) = _
  rw [val_main_v2_apply, e2, val_main_v1_apply, e1, val_main_v0_apply, e0]

theorem cols_apply (p : Fin 4) (k : Fin 4096) (n : Fin 2048) :
    val_main_v5 (F := Ideal) x1 (ix3 p k n) = x1 (ix2 ⟨p.val * 4096 + k.val, by omega⟩ n) := by
  show val_main_v4 (F := Ideal) x1 (ix3 p k n) = _
  rw [val_main_v4_apply]
  refine congrArg x1 (funext fun a => Fin.ext ?_)
  have hp := p.isLt
  have hk := k.isLt
  have hn := n.isLt
  fin_cases a <;> dsimp [idx_main_v4, ix3, ix2] <;> omega

theorem ref_apply (p q : Fin 4) (f : Fin 1024) (n : Fin 512) :
    val_main_v13 (F := Ideal) x0 x1 (ix3 ⟨p.val * 4 + q.val, by omega⟩ f n)
      = ∑ k : Fin 4096, x1 (ix2 ⟨p.val * 4096 + k.val, by omega⟩ (col q n)) * x0 (ix3 ⟨p.val * 8 + k.val / 512, by omega⟩ f ⟨k.val % 512, by omega⟩) := by
  have hp := p.isLt
  have hq := q.isLt
  have hf := f.isLt
  have hn := n.isLt
  have e13 : idx_main_v13 (ix3 (⟨p.val * 4 + q.val, by omega⟩ : Fin 16) f n) = (ix4 p q f n : Cert.DwInRefIdeal.S4x4x1024x512.Idx) := by
    funext a; refine Fin.ext ?_
    fin_cases a <;> dsimp [idx_main_v13, ix3, ix4] <;> omega
  have e12 : idx_main_v12 (ix4 p q f n) = (ix4 p f q n : Cert.DwInRefIdeal.S4x1024x4x512.Idx) := by
    funext a; refine Fin.ext ?_
    fin_cases a <;> rfl
  have e11 : idx_main_v11 (ix4 p f q n) = (ix3 p f (col q n) : Cert.DwInRefIdeal.S4x1024x2048.Idx) := by
    funext a; refine Fin.ext ?_
    fin_cases a <;> dsimp [idx_main_v11, ix3, ix4] <;> omega
  rw [val_main_v13_apply, e13, val_main_v12_apply, e12, val_main_v11_apply, e11]
  show val_main_v9 (F := Ideal) x0 x1 (ix3 p f (col q n)) = _
  rw [val_main_v9_apply, val_main_v8_apply]
  refine Finset.sum_congr rfl fun k _ => congrArg₂ _ ?_ ?_
  · refine Eq.trans (congrArg _ ?_) (cols_apply x1 p k (col q n))
    funext a; fin_cases a <;> rfl
  · refine Eq.trans (congrArg _ ?_) (rows_apply x0 p k f)
    funext a; fin_cases a <;> rfl

/-- One block of the sums, as the reference takes it out. -/
theorem slot_apply (p q : Nat) (hp : p < 4) (hq : q < 4)
    (h : Cert.DwInRefIdeal.S4x4x128x1024.Slices ![p, q, 0, 0] Cert.DwInRefIdeal.S1x1x128x1024) (u : Fin 1) (r : Fin 128) (k : Fin 1024) :
    broadcastInDim (α := EReal) Cert.DwInRefIdeal.S1x128x1024 ![1, 2] Cert.DwInRefIdeal.Gen.bcast_S128x1024_S1x128x1024_1_2
      (shapeCast Cert.DwInRefIdeal.S128x1024 (extractStridedSlice Cert.DwInRefIdeal.S1x1x128x1024 ![p, q, 0, 0] (val_main_v14 (F := Ideal) x2) h)
        Cert.DwInRefIdeal.Gen.shapeCasts_S1x1x128x1024_S128x1024) (ix3 u r k)
      = x2 (ix3 ⟨p * 4 + q, by omega⟩ r k) := by
  have hr := r.isLt
  have hk := k.isLt
  have e14 : idx_main_v14 (ix4 (⟨p, hp⟩ : Fin 4) (⟨q, hq⟩ : Fin 4) r k) = (ix3 (⟨p * 4 + q, by omega⟩ : Fin 16) r k : Cert.DwInRefIdeal.S16x128x1024.Idx) := by
    funext a; refine Fin.ext ?_
    fin_cases a <;> dsimp [idx_main_v14, ix3, ix4] <;> omega
  refine (broadcastInDim_apply _ _ _ _ (ix2 r k : Cert.DwInRefIdeal.S128x1024.Idx) fun a => by fin_cases a <;> rfl).trans ?_
  refine (shapeCast_apply _ _ _ (ix4 0 0 r k : Cert.DwInRefIdeal.S1x1x128x1024.Idx) ?_).trans ?_
  · rw [Shape.rowMajor_val_four, Shape.rowMajor_val_two]
    show ((0 * 1 + 0) * 128 + r.val) * 1024 + k.val = r.val * 1024 + k.val
    omega
  refine (extractStridedSlice_apply _ _ _ _ (ix4 (⟨p, hp⟩ : Fin 4) (⟨q, hq⟩ : Fin 4) r k : Cert.DwInRefIdeal.S4x4x128x1024.Idx) fun a => ?_).trans ?_
  · fin_cases a
    · show p = p + 0; rfl
    · show q = q + 0; rfl
    · show r.val = 0 + r.val; omega
    · show k.val = 0 + k.val; omega
  rw [val_main_v14_apply, e14]

/-- The block device `d` receives `j`-th, in the reference: the one its peer addresses to it. -/
theorem ref_slot (d : Fin 4) (j : Fin 3) (r : Fin 128) (k : Fin 1024) :
    val_main_v51 (F := Ideal) x2 (ix3 ⟨d.val * 3 + j.val, by omega⟩ r k) = x2 (ix3 ⟨(mate j d).val * 4 + d.val, by omega⟩ r k) := by
  unfold val_main_v51
  refine (concatenate_ofFn_apply (α := EReal) (t := Cert.DwInRefIdeal.S12x128x1024) (s₁ := Cert.DwInRefIdeal.S1x128x1024) (0 : Fin 3) (N := 12)
    (![val_main_v39 (F := Ideal) x2, val_main_v40 (F := Ideal) x2, val_main_v41 (F := Ideal) x2, val_main_v42 (F := Ideal) x2, val_main_v43 (F := Ideal) x2, val_main_v44 (F := Ideal) x2,
      val_main_v45 (F := Ideal) x2, val_main_v46 (F := Ideal) x2, val_main_v47 (F := Ideal) x2, val_main_v48 (F := Ideal) x2, val_main_v49 (F := Ideal) x2, val_main_v50 (F := Ideal) x2])
    _ rfl 1 rfl (ix3 (⟨d.val * 3 + j.val, by omega⟩ : Fin 12) r k : Cert.DwInRefIdeal.S12x128x1024.Idx) ⟨d.val * 3 + j.val, by omega⟩
    (by show (d.val * 3 + j.val) / 1 = d.val * 3 + j.val; omega) (ix3 0 r k : Cert.DwInRefIdeal.S1x128x1024.Idx)
    (by show 0 = (d.val * 3 + j.val) % 1; omega) (fun a ha => by fin_cases a <;> first | rfl | exact absurd rfl ha)).trans ?_
  fin_cases d <;> fin_cases j <;> exact slot_apply x2 _ _ (by decide) (by decide) (by decide) 0 r k

end
end DwIn

end
-- ==== Proof.DwIn.Claim.lean ====
/- The claims about the weight gradient of the convolution's input projection and the exchange it carries. -/
module

public import proofs.«01_k».proof.Defs
public import proofs.«01_k».proof.Proof.DwIn.Whole
public import proofs.«01_k».proof.Proof.Gen.DwIn
public import proofs.«01_k».proof.Proof.Gen.DwInRefIdeal.Run
public import Idealize.ShloMosaic.Adequacy
public import Idealize.ShloMosaic.Init

@[expose] public section

set_option maxRecDepth 16384

noncomputable section

namespace DwIn

open Idealize.ShloMosaic Idealize.ShloMosaic.TcCoe Idealize.SL.Sem
open Cert.DwInIdeal Cert.DwInIdeal.Gen
open Cert.DwInRefIdeal.Read

/-- The run with the arrays named: results, then arguments. -/
theorem run_named {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
        (r.2.mem ((c : Thread nD τ).loc main_v1_0) = (dats m 0 c).arrAt 2 cfg0.N ∧ r.2.mem ((c : Thread nD τ).loc main_v1_1) = received m c)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  (θ_run defs _ _).mono (fun r h => ⟨fun c => ⟨⟨(h.1 c).1 2, (h.1 c).2.2⟩, ((h.1 c).1 0).trans ((dats m 0 c).arrAt_in 0 rfl _),
    ((h.1 c).1 1).trans ((dats m 0 c).arrAt_in 1 rfl _), (h.1 c).2.1⟩, h.2⟩) (run m ρ)

theorem frame_ideal : Cert.quiescent_DwInIdeal (hDwInIdeal := Cert.DwInIdeal.Gen.facts) := fun m ρ _ =>
  (θ_run defs _ _).mono (fun r h => ⟨fun c => (h.1 c).2, h.2⟩) (run_named m ρ)

/-- The kernel's function is printed once for the chip and once for the reals, in the same words. -/
theorem same_kernels : Cert.DwIn.defs₀ (F := Bits) = defs₀ (F := Bits) := by
  unfold Cert.DwIn.defs₀ defs₀
  refine congrArg Defs.onTc ?_
  funext l a
  match l, a with
  | 0, (t, s) => rfl

theorem same_table : Cert.DwIn.defs (F := Bits) = defs (F := Bits) := by
  unfold Cert.DwIn.defs defs
  exact congrArg (Pipeline.defs (pcfgs (F := Bits))) same_kernels

/-- The program printed for the chip is the same text: its run is this one over the chip's floats. -/
theorem frame_bits : Cert.quiescent_DwIn (hDwIn := Cert.DwIn.Gen.facts) := by
  intro m ρ _
  rw [same_table]
  exact (θ_run (defs (F := Bits)) _ _).mono (fun r h => ⟨fun c => (h.1 c).2, h.2⟩) (run_named (F := Bits) m ρ)

/-- The reference's run leaves its arguments and, declaring no semaphore, every counter at zero. -/
theorem frame_ref : Cert.quiescent_DwInRefIdeal (hDwInRefIdeal := Cert.DwInRefIdeal.Gen.facts) := fun m ρ _ =>
  (θ_run Cert.DwInRefIdeal.defs _ _).mono (fun r h => ⟨fun c => (h c).2.2, sem_eq_zero_of_no_sems (by decide) r.2⟩) (Cert.DwInRefIdeal.Value.run m ρ)

section
variable (m : (ℓ : Loc nD τ sig) → Buf (Elt Ideal) ℓ) (c : Dev nD)
variable (x0 : Vec Ideal Cert.DwInRefIdeal.S32x1024x512 .bf16) (x1 : Vec Ideal Cert.DwInRefIdeal.S16384x2048 .bf16)
  (x2 : Vec Ideal Cert.DwInRefIdeal.S16x128x1024 .bf16)

theorem sums_eq (f g f' g' : Fin 4096 → EReal) (hf : ∀ k, f k = g' k) (hg : ∀ k, g k = f' k) : ∑ k, f k * g k = ∑ k, f' k * g' k :=
  Finset.sum_congr rfl fun k _ => by rw [hf, hg, mul_comm]

/-- A device's array of products is its part of the reference's gradient. -/
theorem eq_dw
    (h0 : m ((c : Thread nD τ).loc main_arg0) = Layout.blockN ⟨3, ![8, 1024, 512]⟩ ⟨3, ![32, 1024, 512]⟩ (Layout.meshBlock [2, 2, 1] ![[0, 1], [], []] c) x0)
    (h1 : m ((c : Thread nD τ).loc main_arg1) = Layout.blockN ⟨2, ![4096, 2048]⟩ ⟨2, ![16384, 2048]⟩ (Layout.meshBlock [2, 2, 1] ![[0, 1], []] c) x1) :
    (dats m 0 c).arrAt 2 cfg0.N
      = Layout.blockN ⟨3, ![4, 1024, 512]⟩ ⟨3, ![16, 1024, 512]⟩ (Layout.meshBlock [2, 2, 1] ![[0, 1], [], []] c) (val_main_v13 (F := Ideal) x0 x1) := by
  funext i
  idx_vars i
  refine (arr2 m c i0 i1 i2).trans ((sums_eq _ _ _ _ (fun k => ?_) fun k => ?_).trans ((part3 c (val_main_v13 (F := Ideal) x0 x1) i0 i1 i2).trans (ref_apply x0 x1 c i0 i1 i2)).symm)
  · unfold lhs; rw [h0]; exact part0 c x0 _ _ _
  · rw [h1]; exact part1 c x1 k _

/-- The blocks a device received are its part of the reference's. -/
theorem eq_sums
    (h2 : ∀ c : Dev nD, m ((c : Thread nD τ).loc main_arg2) = Layout.blockN ⟨3, ![4, 128, 1024]⟩ ⟨3, ![16, 128, 1024]⟩ (Layout.meshBlock [2, 2, 1] ![[0, 1], [], []] c) x2) :
    received m c
      = Layout.blockN ⟨3, ![3, 128, 1024]⟩ ⟨3, ![12, 128, 1024]⟩ (Layout.meshBlock [2, 2, 1] ![[0, 1], [], []] c) (val_main_v51 (F := Ideal) x2) := by
  funext i
  idx_vars i
  refine Eq.trans ?_ ((part4 c (val_main_v51 (F := Ideal) x2) i0 i1 i2).trans (ref_slot x2 c i0 i1 i2)).symm
  show m ((mate i0 c : Thread nD τ).loc main_arg2) (ix3 c i1 i2) = _
  rw [h2 (mate i0 c)]
  exact part2 (mate i0 c) x2 c i1 i2
end

/-- Over the extended reals the four devices leave the gradients of the input projection and the blocks of sums exchanged. -/
theorem equal : Cert.algebraic_DwInIdeal_DwInRefIdeal (hDwInIdeal := Cert.DwInIdeal.Gen.facts) (hDwInRefIdeal := Cert.DwInRefIdeal.Gen.facts) := by
  intro m g m' g' _ hagree
  refine ⟨val_main_v13 (F := Ideal) (m' (((0 : Dev Cert.DwInRefIdeal.nD) : Thread Cert.DwInRefIdeal.nD Cert.DwInRefIdeal.τ).loc Cert.DwInRefIdeal.main_arg0)) (m' (((0 : Dev Cert.DwInRefIdeal.nD) : Thread Cert.DwInRefIdeal.nD Cert.DwInRefIdeal.τ).loc Cert.DwInRefIdeal.main_arg1)),
    val_main_v51 (F := Ideal) (m' (((0 : Dev Cert.DwInRefIdeal.nD) : Thread Cert.DwInRefIdeal.nD Cert.DwInRefIdeal.τ).loc Cert.DwInRefIdeal.main_arg2)), ?_, ?_⟩
  · refine (θ_run defs _ _).mono (fun r h c => ?_) (run_named m g)
    obtain ⟨⟨h0, h1⟩, ha⟩ := h.1 c
    exact ⟨h0.trans (eq_dw m c _ _ (hagree c).1 (hagree c).2.1), h1.trans (eq_sums m c _ fun d => (hagree d).2.2), ha⟩
  · refine (θ_run Cert.DwInRefIdeal.defs _ _).mono (fun r h => ?_) (Cert.DwInRefIdeal.Value.run m' g')
    obtain ⟨h13, h51, ha⟩ := h 0
    rw [val_main_v13_eq] at h13
    rw [val_main_v51_eq] at h51
    exact ⟨h13, h51, ha⟩

end DwIn

end
-- ==== Proof.PairX.Plan.lean ====
/- The exchange of an input projection's weight gradient: the four copies of its kernel. -/
module

public import proofs.«01_k».proof.Proof.Exchange.Deal
public import proofs.«01_k».proof.Proof.Gen.PairXIdeal.Skeleton
public import proofs.«01_k».proof.Proof.Gen.PairXIdeal.Frame
public import Idealize.ShloMosaic.Lib.ValueLayout
public import Idealize.ShloMosaic.Lib.Ring
public import Idealize.ShloMosaic.Lib.Pipeline.ValueKit

@[expose] public section

set_option maxRecDepth 16384

noncomputable section

namespace PairX

open Cert.PairXIdeal Cert.PairXIdeal.Gen Cert.Exchange
open Idealize.ShloMosaic
open Idealize.ShloMosaic.TcCoe Idealize.ShloMosaic.Ring
open Idealize.SL Idealize.SL.RA Idealize.SL.BI
open scoped Idealize.SL.BI
open Idealize.SL.BI.BIBase Idealize.SL.BI.Laws Idealize.SL.ProofMode Idealize.SL.Sem
open Idealize.ShloMosaic.Rounds

/-- The other device of the pair. -/
def other : Fin 2 → Fin 2 := ![1, 0]

theorem other_other : ∀ c, other (other c) = c := by decide

theorem src_inb (j : Fin 4) (n : Fin 2) : ∀ a, (![j.val, n.val, 0, 0] : Fin 4 → Nat) a + S1x1x512x512.size a ≤ S4x2x512x512.size a := by
  revert j n; decide
theorem dst_inb (j : Fin 4) : ∀ a, (![j.val, 0, 0] : Fin 3 → Nat) a + S1x512x512.size a ≤ S4x512x512.size a := by
  revert j; decide

/-- One of the partial sums a device holds for half `n`, and the slot one is received in. -/
abbrev half (j : Fin 4) (n : Fin 2) : Memref sig .tc .hbm S512x512 .bf16 :=
  ((Memref.whole main_arg0).slice (Rect.unit (s := S4x2x512x512) ![j.val, n.val, 0, 0] S1x1x512x512.size (src_inb j n)) (fun _ => rfl)).squeeze
    S512x512 squeezes_S1x1x512x512_S512x512
abbrev slotOf (j : Fin 4) : Memref sig .tc .hbm S512x512 .bf16 :=
  ((Memref.whole main_v1).slice (Rect.unit (s := S4x512x512) ![j.val, 0, 0] S1x512x512.size (dst_inb j)) (fun _ => rfl)).squeeze
    S512x512 squeezes_S1x512x512_S512x512

def plan : Plan nD sig (Fin 4) where
  peer _ := other
  back _ := other_other
  sp := .hbm
  s := S512x512
  e := .bf16
  src j c := half j (other c)
  dst j := slotOf j
  sent j := ⟨0 + j.val, by have := j.isLt; show 0 + j.val < 8; omega⟩
  here j := ⟨4 + j.val, by have := j.isLt; show 4 + j.val < 8; omega⟩
  distinct := by decide
  N := (slotOf 0).view.dmaCredit
  pos := View.dmaCredit_pos _ (by decide)
  credit _ := rfl

variable {F : FTy → Type} [FloatOps F]

abbrev UU : Type := Ghosts nD sig
local notation "𝕄" => MT nD τ sig Unit (Elt F) ℕ UU ℕ

variable (m : (ℓ : Loc nD τ sig) → Buf (Elt F) ℓ)

/-! ## The arrays as their slices and slots -/

theorem emb_half (j : Fin 4) (n : Fin 2) (r : Fin 512) (k : Fin 512) : (half j n).view.emb (ix2 r k) = (ix4 j n r k : S4x2x512x512.Idx) := by
  show (Rect.unit (s := S4x2x512x512) ![j.val, n.val, 0, 0] S1x1x512x512.size (src_inb j n)).emb (Shape.reshapeEquiv _ (ix2 r k)) = _
  refine (congrArg _ (ValueIdx.reshapeEquiv_ix2_11ab _ r k)).trans ?_
  funext a; fin_cases a <;> apply Fin.ext
  · show j.val + 1 * 0 = j.val; omega
  · show n.val + 1 * 0 = n.val; omega
  · show 0 + 1 * r.val = r.val; omega
  · show 0 + 1 * k.val = k.val; omega

theorem emb_slotOf (j : Fin 4) (r : Fin 512) (k : Fin 512) : (slotOf j).view.emb (ix2 r k) = (ix3 j r k : S4x512x512.Idx) := by
  show (Rect.unit (s := S4x512x512) ![j.val, 0, 0] S1x512x512.size (dst_inb j)).emb (Shape.reshapeEquiv _ (ix2 r k)) = _
  refine (congrArg _ (ValueIdx.reshapeEquiv_ix2_1ab _ r k)).trans ?_
  funext a; fin_cases a <;> apply Fin.ext
  · show j.val + 1 * 0 = j.val; omega
  · show 0 + 1 * r.val = r.val; omega
  · show 0 + 1 * k.val = k.val; omega

theorem half_first {j : Fin 4} {n : Fin 2} {i : S4x2x512x512.Idx} (h : i ∈ (half j n).view.set) : i (0 : Fin 4) = j := by
  obtain ⟨x, -, rfl⟩ := Finset.mem_map.mp h
  idx_vars x
  rw [emb_half]; rfl

theorem mem_slotOf (j : Fin 4) (i : S4x512x512.Idx) : i ∈ (slotOf j).view.set ↔ i (0 : Fin 3) = j := by
  constructor
  · intro h
    obtain ⟨x, -, rfl⟩ := Finset.mem_map.mp h
    idx_vars x
    rw [emb_slotOf]; rfl
  · rintro rfl
    idx_vars i
    rw [← emb_slotOf]
    exact View.emb_mem_set _ _

theorem halves_disjoint (c : Dev nD) (j i : Fin 4) (h : j ≠ i) : Disjoint (plan.src j c).view.set (plan.src i c).view.set :=
  Finset.disjoint_left.mpr fun x hx hy => h ((half_first hx).symm.trans (half_first hy))

theorem slots_disjoint (j i : Fin 4) (h : j ≠ i) : Disjoint (slotOf j).view.set (slotOf i).view.set :=
  Finset.disjoint_left.mpr fun x hx hy => h (((mem_slotOf j x).mp hx).symm.trans ((mem_slotOf i x).mp hy))

theorem slots_cover (i : S4x512x512.Idx) : ∃ j : Fin 4, i ∈ (slotOf j).view.set := ⟨i (0 : Fin 3), (mem_slotOf _ i).mpr rfl⟩

/-- Memory cut along disjoint sets that cover it. -/
theorem cut {ℓ : Loc nD τ sig} (I : Fin 4 → Finset (Idx ℓ)) (hd : ∀ j i, j ≠ i → Disjoint (I j) (I i)) (hc : ∀ x, ∃ j, x ∈ I j)
    (f : Buf (Elt F) ℓ) : (ℓ ↦{fullShare} f : sProp 𝕄) = bigSep Finset.univ fun j => ℓ ↦[I j]{fullShare} f := by
  classical
  refine pointsTo_blocks I hd ?_ f
  ext x
  simp only [Finset.mem_biUnion, Finset.mem_univ, true_and, iff_true]
  exact hc x

/-- The four halves a device sends, together. -/
abbrev sentSet (c : Dev nD) : Finset (Idx ((c : Thread nD τ).loc main_arg0)) := Finset.univ.biUnion fun j : Fin 4 => (plan.src j c).view.set

/-- The half of the sums no copy touches. -/
def kept (c : Dev nD) : sProp 𝕄 :=
  ((c : Thread nD τ).loc main_arg0) ↦[Finset.univ \ sentSet c]{fullShare} m ((c : Thread nD τ).loc main_arg0)

theorem sums_split (c : Dev nD) :
    (((c : Thread nD τ).loc main_arg0) ↦{fullShare} m ((c : Thread nD τ).loc main_arg0) : sProp 𝕄)
      ⊣⊢ iprop((bigSep Finset.univ fun j : Fin 4 => plan.srcPts m j c) ∗ kept m c) := by
  have h := pointsTo_split_subset (nD := nD) (τ := τ) (sig := sig) (Ix := Unit) (Val := Elt F) (Name := ℕ) (U := UU) (Lvl := ℕ) (ℓ := (c : Thread nD τ).loc main_arg0) (q := fullShare)
    (f := m ((c : Thread nD τ).loc main_arg0)) (Finset.subset_univ (sentSet c))
  have e := pointsTo_biUnion (nD := nD) (τ := τ) (sig := sig) (Ix := Unit) (Val := Elt F) (Name := ℕ) (U := UU) (Lvl := ℕ) (ℓ := (c : Thread nD τ).loc main_arg0) (q := fullShare)
    (f := m ((c : Thread nD τ).loc main_arg0)) Finset.univ (fun j : Fin 4 => (plan.src j c).view.set) (fun j _ i _ => halves_disjoint c j i)
  have e' : (((c : Thread nD τ).loc main_arg0) ↦[sentSet c]{fullShare} m ((c : Thread nD τ).loc main_arg0) : sProp 𝕄)
      = bigSep Finset.univ fun j : Fin 4 => plan.srcPts m j c := by
    refine Eq.trans ?_ e
    congr!
  rw [e'] at h
  exact h

/-- What a device ends up with in its slots: its partner's sums for its half. -/
def received (c : Dev nD) : Buf (Elt F) ((c : Thread nD τ).loc main_v1) :=
  fun i : S4x512x512.Idx => m ((other c : Thread nD τ).loc main_arg0) (ix4 (i (0 : Fin 3)) (show Fin 2 from c) (i (1 : Fin 3)) (i (2 : Fin 3)) : S4x2x512x512.Idx)

theorem landed_eq (j : Fin 4) (c : Dev nD) (i : Idx ((c : Thread nD τ).loc main_v1)) (hi : i ∈ (slotOf j).view.set) :
    plan.landed m j c i = received m c i := by
  obtain ⟨x, -, rfl⟩ := Finset.mem_map.mp hi
  have h1 : plan.landed m j c ((slotOf j).view.emb x) = plan.sliceOf m j (other c) x := View.write_emb_of_mem _ _ (Finset.mem_univ _)
  rw [h1]
  have h2 : plan.sliceOf m j (other c) x = m ((other c : Thread nD τ).loc main_arg0) ((half j (other (other c))).view.emb x) := rfl
  rw [h2, other_other]
  idx_vars x
  rw [emb_half, emb_slotOf]
  rfl

theorem slots_cut (c : Dev nD) (f : Buf (Elt F) ((c : Thread nD τ).loc main_v1)) :
    (((c : Thread nD τ).loc main_v1) ↦{fullShare} f : sProp 𝕄)
      = bigSep Finset.univ fun j : Fin 4 => ((c : Thread nD τ).loc main_v1) ↦[(slotOf j).view.set]{fullShare} f :=
  cut (ℓ := (c : Thread nD τ).loc main_v1) (fun j => (slotOf j).view.set) slots_disjoint slots_cover f

theorem slots_split (c : Dev nD) :
    (((c : Thread nD τ).loc main_v1) ↦{fullShare} m ((c : Thread nD τ).loc main_v1) : sProp 𝕄)
      = bigSep Finset.univ fun j : Fin 4 => plan.slot m j c :=
  slots_cut c _

theorem filled_eq (c : Dev nD) (j : Fin 4) : (plan.filled m j c : sProp 𝕄)
      = (((c : Thread nD τ).loc main_v1) ↦[(slotOf j).view.set]{fullShare} received m c : sProp 𝕄) :=
  pointsTo_congr (ℓ := (c : Thread nD τ).loc main_v1) (I := (slotOf j).view.set) (f := plan.landed m j c) (landed_eq m j c)

theorem slots_join (c : Dev nD) :
    (bigSep Finset.univ fun j : Fin 4 => plan.filled m j c)
      = (((c : Thread nD τ).loc main_v1) ↦{fullShare} received m c : sProp 𝕄) := by
  rw [slots_cut]
  exact bigSep_congr fun j _ => filled_eq m c j

end PairX

end
-- ==== Proof.PairX.Body.lean ====
/- The exchange of an input projection's weight gradient: what the kernel does, issuing its four copies and waiting for them. -/
module

public import proofs.«01_k».proof.Proof.Exchange.Steps
public import proofs.«01_k».proof.Proof.PairX.Plan
public import Idealize.ShloMosaic.Lib.Exec
public import Idealize.ShloMosaic.Lib.Ring.AtN

@[expose] public section

set_option maxRecDepth 16384

noncomputable section

namespace PairX

open Cert.PairXIdeal Cert.PairXIdeal.Gen Cert.Exchange
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

variable (m : (ℓ : Loc nD τ sig) → Buf (Elt F) ℓ)

/-! ## The printed slices, devices and semaphores -/

theorem half_at (j : Fin 4) (n : Fin 2) (off : Fin 4 → Nat) (h : off = ![j.val, n.val, 0, 0]) (hin : ∀ a, off a + S1x1x512x512.size a ≤ S4x2x512x512.size a) :
    ((Memref.whole main_arg0).slice (Rect.unit (s := S4x2x512x512) off S1x1x512x512.size hin) (fun _ => rfl)).squeeze
      S512x512 squeezes_S1x1x512x512_S512x512 = half j n := by
  subst h; rfl

theorem one_sub (c : Fin 2) : 1 - c.val = (other c).val := by revert c; decide
theorem pair_dev (c : Fin 2) : (4 * (c.val / 2) + 1) - c.val = (other c).val := by revert c; decide
theorem off1 (c : Dev nD) : k0_off1 c = ![((0 : Fin 4)).val, (other c).val, 0, 0] := by
  rw [k0_off1_eq, one_sub]; rfl
theorem dev1 (c : Dev nD) (h) : (⟨k0_dev1 c, h⟩ : Dev nD) = other c :=
  Fin.ext ((k0_dev1_eq c).trans (pair_dev c))
theorem off2 (c : Dev nD) : k0_off2 c = ![((1 : Fin 4)).val, (other c).val, 0, 0] := by
  rw [k0_off2_eq, one_sub]; rfl
theorem dev2 (c : Dev nD) (h) : (⟨k0_dev2 c, h⟩ : Dev nD) = other c :=
  Fin.ext ((k0_dev2_eq c).trans (pair_dev c))
theorem off3 (c : Dev nD) : k0_off3 c = ![((2 : Fin 4)).val, (other c).val, 0, 0] := by
  rw [k0_off3_eq, one_sub]; rfl
theorem dev3 (c : Dev nD) (h) : (⟨k0_dev3 c, h⟩ : Dev nD) = other c :=
  Fin.ext ((k0_dev3_eq c).trans (pair_dev c))
theorem off4 (c : Dev nD) : k0_off4 c = ![((3 : Fin 4)).val, (other c).val, 0, 0] := by
  rw [k0_off4_eq, one_sub]; rfl
theorem dev4 (c : Dev nD) (h) : (⟨k0_dev4 c, h⟩ : Dev nD) = other c :=
  Fin.ext ((k0_dev4_eq c).trans (pair_dev c))

/-! ## What a device holds before and after -/

/-- Before the kernel. -/
def start (c : Dev nD) : sProp 𝕄 :=
  iprop((∃ K, plan.ready m K c) ∗ (bigSep Finset.univ fun j : Fin 4 => cred (tallyAt (plan.recvCell j c) () plan.N)) ∗ kept m c)
/-- After it. -/
def ended (c : Dev nD) : sProp 𝕄 :=
  iprop((plan.done m c 0 ∗ plan.done m c 1 ∗ plan.done m c 2 ∗ plan.done m c 3) ∗ kept m c)

variable (c : Dev nD)

/-- The kernel body, on the two arrays and its semaphores. -/
abbrev body : Prog (TpuEff nD τ sig (Elt F) Λ₀ .tc) PUnit :=
  cc0_grad_pair_exchange_pw1 (Memref.whole main_arg0) (Memref.isWhole_whole _) (Memref.whole main_v1) (Memref.isWhole_whole _) cc0_scratch0 cc0_scratch1

set_option maxHeartbeats 4000000 in
/-- The kernel issues the four copies and waits for both ends of each. -/
theorem exchange (Q : PUnit → sProp 𝕄) (W : Waits sig Unit) :
    iprop((start m c ∗ owes (c : Thread nD τ) (plan.O₀ c) W)
        ∗ (∀ W', (ended m c ∗ owes (c : Thread nD τ) 0 W') -∗ Q ⟨⟩))
      ⊢ wp frame (wpE (defs₀ (F := F)) Variants.none c none) Set.univ (body (F := F)) Q := by
  unfold body
  simp only [cc0_grad_pair_exchange_pw1_eq_skeleton]; unfold cc0_grad_pair_exchange_pw1_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret, wp_deviceId]
  unfold start Plan.ready
  simp only [bigSep_fin4]
  have hO : plan.O₀ c = (((0 + tallyAt (plan.recvCell 3 (plan.peer 3 c)) () plan.N) + tallyAt (plan.recvCell 2 (plan.peer 2 c)) () plan.N)
      + tallyAt (plan.recvCell 1 (plan.peer 1 c)) () plan.N) + tallyAt (plan.recvCell 0 (plan.peer 0 c)) () plan.N := by
    unfold Plan.O₀; rw [Fin.sum_univ_four]; abel
  iintro ⟨⟨⟨⟨%K, R0, R1, R2, R3⟩, ⟨C0, C1, C2, C3⟩, Hkept⟩, HO⟩, Hk⟩
  iapply (plan.wp_issue m K Variants.none 0 c _ (dev1 c _) _ _ (half_at 0 (other c) _ (off1 c) _) rfl _ _ rfl rfl none _ hO W) $$ [R0 C0 HO]
  · unfold Plan.unsent
    isplitr [HO]
    · isplitl [R0]; · iexact R0
      iexact C0
    iexact HO
  iintro ⟨F0, HO⟩
  iapply (plan.wp_issue m K Variants.none 1 c _ (dev2 c _) _ _ (half_at 1 (other c) _ (off2 c) _) rfl _ _ rfl rfl none _ rfl W) $$ [R1 C1 HO]
  · unfold Plan.unsent
    isplitr [HO]
    · isplitl [R1]; · iexact R1
      iexact C1
    iexact HO
  iintro ⟨F1, HO⟩
  iapply (plan.wp_issue m K Variants.none 2 c _ (dev3 c _) _ _ (half_at 2 (other c) _ (off3 c) _) rfl _ _ rfl rfl none _ rfl W) $$ [R2 C2 HO]
  · unfold Plan.unsent
    isplitr [HO]
    · isplitl [R2]; · iexact R2
      iexact C2
    iexact HO
  iintro ⟨F2, HO⟩
  iapply (plan.wp_issue m K Variants.none 3 c _ (dev4 c _) _ _ (half_at 3 (other c) _ (off4 c) _) rfl _ _ rfl rfl none _ rfl W) $$ [R3 C3 HO]
  · unfold Plan.unsent
    isplitr [HO]
    · isplitl [R3]; · iexact R3
      iexact C3
    iexact HO
  iintro ⟨F3, HO⟩
  iapply (plan.wp_both m K Variants.none 0 c _ _ rfl _ _ rfl _ _ rfl rfl none W) $$ [F0 HO]
  · isplitl [F0]; · iexact F0
    iexact HO
  iintro %W0 ⟨D0, HO⟩
  iapply (plan.wp_both m K Variants.none 1 c _ _ rfl _ _ rfl _ _ rfl rfl none W0) $$ [F1 HO]
  · isplitl [F1]; · iexact F1
    iexact HO
  iintro %W1 ⟨D1, HO⟩
  iapply (plan.wp_both m K Variants.none 2 c _ _ rfl _ _ rfl _ _ rfl rfl none W1) $$ [F2 HO]
  · isplitl [F2]; · iexact F2
    iexact HO
  iintro %W2 ⟨D2, HO⟩
  iapply (plan.wp_both m K Variants.none 3 c _ _ rfl _ _ rfl _ _ rfl rfl none W2) $$ [F3 HO]
  · isplitl [F3]; · iexact F3
    iexact HO
  iintro %W3 ⟨D3, HO⟩
  rw [wp_ret]; imodintro
  iapply Hk $$ %W3
  isplitr [HO]
  · unfold ended
    isplitr [Hkept]
    · isplitl [D0]; · iexact D0
      isplitl [D1]; · iexact D1
      isplitl [D2]; · iexact D2
      iexact D3
    iexact Hkept
  iexact HO

end PairX

end
-- ==== Proof.PairX.Run.lean ====
/- The exchange of an input projection's weight gradient: the run of the call on the two devices. -/
module

public import proofs.«01_k».proof.Proof.PairX.Body
public import proofs.«01_k».proof.Proof.Exchange.Launch
public import Idealize.ShloMosaic.Lib.Pipeline.TableIdle

@[expose] public section

set_option maxRecDepth 16384

noncomputable section

namespace PairX

open Cert.PairXIdeal Cert.PairXIdeal.Gen Cert.Exchange
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat BodyObligationLoose)

variable {F : FTy → Type} [FloatOps F]

local notation "𝕄" => MT nD τ sig Unit (Elt F) ℕ UU ℕ

variable (m : (ℓ : Loc nD τ sig) → Buf (Elt F) ℓ) (ρ : Dev nD → PrngReg)

/-- What a device holds before and after the one point. -/
def held (c : Dev nD) (n : Nat) : sProp 𝕄 := if n = 0 then start m c else ended m c

def dats (_ : Fin 1) (c : Dev nD) : Dat τ (Elt F) Unit ℕ UU ℕ cfg0 c where
  A w := w.elim0
  after w := w.elim0
  Φ t := held m c t.val
  q w := w.elim0
  owed t := if t.val = 0 then plan.O₀ c else 0

theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t) (fun _ => iprop((dats m 0 c).Φ t.succ ∗ (dats m 0 c).owesAt () t.succ)) := by
  have ht : t.val = 0 := congrArg Fin.val (fin_N0 t)
  have e0 : (dats m 0 c).Φ t.castSucc = start m c := if_pos ht
  have e1 : (dats m 0 c).Φ t.succ = ended m c := by show held m c (t.val + 1) = _; unfold held; rw [if_neg (Nat.succ_ne_zero _)]
  have o0 : (dats m 0 c).owed t.castSucc = plan.O₀ c := if_pos ht
  have o1 : (dats m 0 c).owed t.succ = 0 := rfl
  rw [e0, e1]
  unfold Dat.owesAt Pipeline.owesWithin
  rw [o0, o1]
  iintro ⟨HS, ⟨%W, -, HO⟩⟩
  iapply (exchange m c _ W)
  isplitl [HS HO]
  · isplitl [HS]; · iexact HS
    iexact HO
  iintro %W' ⟨HE, HO⟩
  isplitl [HE]; · iexact HE
  iexists W'
  isplitr; · ipureintro; exact fun _ _ => Or.inl trivial
  iexact HO

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [show (Finset.univ : Finset (Fin cfg0.W)) = ∅ from rfl, bigSep_empty, bigSep_empty, defs₀_row]
  refine triple_restated (sound_body m c t) rfl ?_ fun _ => ?_
  · iintro ⟨HΦ, HO, -⟩
    isplitl [HΦ]; · iexact HΦ
    iexact HO
  · iintro ⟨HΦ, HO⟩
    isplitl [HΦ]; · iexact HΦ
    isplitl [HO]; · iexact HO
    iempintro

/-! ## Before the first point and after the last -/

theorem ownSemFacts  : Pipeline.OwnSemFacts cfg0.spec plan.osem := by decide

/-- What the launch deals out: what a device brings to the exchange, and the half of the sums it keeps. -/
theorem deal (c : Dev nD) :
    iprop((Pipeline.ownSems0 plan.osem c ∗ Pipeline.unscopedRest cfg0.spec c (fun b => m ((c : Thread nD τ).loc b))) ∗ plan.G m c : sProp 𝕄)
      ⊢ iprop(plan.brings m c ∗ kept m c) := by
  rw [unscopedRest0_eq]
  unfold Plan.brings
  iintro ⟨⟨Hs, Hx, Hy⟩, HG⟩
  ihave Hx' := (sums_split m c).1 $$ Hx
  icases Hx' with ⟨Hx, Hk⟩
  isplitr [Hk]
  · isplitr [HG]
    · isplitl [Hs]; · iexact Hs
      isplitl [Hx]; · iexact Hx
      iapply (Entails.of_eq (slots_split m c)); iexact Hy
    · iexact HG
  · iexact Hk

/-- What a device has once the exchange is set up. -/
def set (c : Dev nD) : sProp 𝕄 := iprop((∃ K, plan.ready m K c) ∗ kept m c)

theorem set_of (K : Dev nD × (Bool × Fin 4) → ℕ) (c : Dev nD) : iprop(plan.ready m K c ∗ kept m c) ⊢ set m c := by
  unfold set
  iintro ⟨H, Hk⟩
  isplitl [H]; · iexists K; iexact H
  iexact Hk

theorem set_all : iprop((∃ K, bigSep Finset.univ (plan.ready m K)) ∗ bigSep Finset.univ (kept m)) ⊢ bigSep Finset.univ (set m) := by
  iintro ⟨⟨%K, H⟩, Hk⟩
  iapply (show iprop(bigSep Finset.univ (plan.ready m K) ∗ bigSep Finset.univ (kept m)) ⊢ bigSep Finset.univ (set m) from by
    rw [← bigSep_sep']
    exact bigSep_mono fun c _ => set_of m K c)
  isplitl [H]; · iexact H
  iexact Hk

theorem share : iprop(bigSep Finset.univ (plan.brings m) ∗ bigSep Finset.univ (kept m)) ⊢ |={Set.univ}=> bigSep Finset.univ (set m) := by
  iintro ⟨Hb, Hk⟩
  imod (plan.glob m) $$ Hb with H
  imodintro
  iapply (set_all m)
  isplitl [H]; · iexact H
  iexact Hk

theorem setup :
    (bigSep Finset.univ fun c => iprop((Pipeline.ownSems0 plan.osem c
        ∗ Pipeline.unscopedRest cfg0.spec c (fun b => m ((c : Thread nD τ).loc b))) ∗ plan.G m c) : sProp 𝕄)
      ⊢ |={Set.univ}=> bigSep Finset.univ (set m) := by
  refine (bigSep_mono fun c _ => deal m c).trans ?_
  rw [bigSep_sep']
  exact share m

theorem enter (c : Dev nD) :
    iprop((levAts Plan.L plan.lv ∗ Pipeline.launchCred plan.O₀ c ∗ set m c) ∗ Pipeline.scopedRest cfg0.spec c) ⊢ (dats m 0 c).Φ 0 := by
  rw [show (dats m 0 c).Φ 0 = start m c from rfl]
  unfold set start
  iintro ⟨⟨-, Hc, Hr, Hk⟩, -⟩
  isplitl [Hr]; · iexact Hr
  isplitl [Hc]; · iapply (plan.creds c); iexact Hc
  iexact Hk

/-- What is left to read at the end: the sums unchanged, the received blocks in place. -/
def found_at_end (c : Dev nD) : sProp 𝕄 :=
  iprop((((c : Thread nD τ).loc main_arg0) ↦{fullShare} m ((c : Thread nD τ).loc main_arg0))
    ∗ (((c : Thread nD τ).loc main_v1) ↦{fullShare} received m c))

theorem parts_done (c : Dev nD) :
    iprop(plan.done m c 0 ∗ plan.done m c 1 ∗ plan.done m c 2 ∗ plan.done m c 3)
      ⊢ iprop(((bigSep Finset.univ fun j => plan.srcPts m j c) ∗ bigSep Finset.univ fun j => plan.filled m j c) ∗ Pipeline.ownSems0 plan.osem c) := by
  have e : (Pipeline.ownSems0 plan.osem c : sProp 𝕄) = bigSep Finset.univ fun k : Bool × Fin 4 => semVal (plan.kcell (c, k)) 0 := rfl
  rw [e, bigSep_kinds, bigSep_fin4, bigSep_fin4, bigSep_fin4, bigSep_fin4]
  unfold Plan.done
  iintro ⟨⟨⟨a0, b0⟩, s0, r0⟩, ⟨⟨a1, b1⟩, s1, r1⟩, ⟨⟨a2, b2⟩, s2, r2⟩, ⟨⟨a3, b3⟩, s3, r3⟩⟩
  isplitl [a0 a1 a2 a3 b0 b1 b2 b3]
  · isplitl [a0 a1 a2 a3]
    · isplitl [a0]; · iexact a0
      isplitl [a1]; · iexact a1
      isplitl [a2]; · iexact a2
      iexact a3
    · isplitl [b0]; · iexact b0
      isplitl [b1]; · iexact b1
      isplitl [b2]; · iexact b2
      iexact b3
  · isplitl [s0 s1 s2 s3]
    · isplitl [s0]; · iexact s0
      isplitl [s1]; · iexact s1
      isplitl [s2]; · iexact s2
      iexact s3
    · isplitl [r0]; · iexact r0
      isplitl [r1]; · iexact r1
      isplitl [r2]; · iexact r2
      iexact r3

theorem leave (c : Dev nD) :
    (dats m 0 c).Φ (Fin.last cfg0.N) ⊢ iprop(found_at_end m c ∗ Pipeline.ownSems0 plan.osem c ∗ Pipeline.scopedRest cfg0.spec c) := by
  rw [show (dats m 0 c).Φ (Fin.last cfg0.N) = ended m c from rfl, scopedRest0_eq]
  unfold ended found_at_end
  iintro ⟨Hd, Hk⟩
  ihave H := (parts_done m c) $$ Hd
  icases H with ⟨⟨Hs, Hf⟩, Hz⟩
  isplitl [Hs Hf Hk]
  · isplitl [Hs Hk]
    · iapply (sums_split m c).2
      isplitl [Hs]; · iexact Hs
      iexact Hk
    · iapply (Entails.of_eq (slots_join m c)); iexact Hf
  · isplitl [Hz]; · iexact Hz
    iempintro

/-- The two arrays the kernel reaches by itself, at the end. -/
def ends (c : Dev nD) (s : MemSt nD τ sig (Elt F)) : Prop :=
  s.mem ((c : Thread nD τ).loc main_arg0) = m ((c : Thread nD τ).loc main_arg0) ∧ s.mem ((c : Thread nD τ).loc main_v1) = received m c

theorem read_end (c : Dev nD) (s' : Phys nD τ sig (Elt F)) :
    iprop(found_at_end m c ∗ SI s') ⊢ |={Set.univ}=> iprop(⌜ends m c s'.mem⌝ ∗ SI s' : sProp 𝕄) := by
  have h1 := pointsTo_read_all (Ix := Unit) (Name := ℕ) (U := UU) (Lvl := ℕ) Finset.univ (fun _ : Unit => (c : Thread nD τ).loc main_arg0) (fun _ => m ((c : Thread nD τ).loc main_arg0)) s'
  have h2 := pointsTo_read_all (Ix := Unit) (Name := ℕ) (U := UU) (Lvl := ℕ) Finset.univ (fun _ : Unit => (c : Thread nD τ).loc main_v1) (fun _ => received m c) s'
  rw [show (Finset.univ : Finset Unit) = {()} from rfl, bigSep_singleton] at h1 h2
  unfold found_at_end
  iintro ⟨⟨Ha, Hb⟩, HSI⟩
  ihave H := h1 $$ [Ha HSI]
  · isplitl [Ha] <;> iassumption
  icases H with ⟨%ha, HSI⟩
  ihave H := h2 $$ [Hb HSI]
  · isplitl [Hb] <;> iassumption
  icases H with ⟨%hb, HSI⟩
  imodintro
  isplitr
  · ipureintro; exact ⟨ha () (by simp), hb () (by simp)⟩
  · iexact HSI

/-! ## The run -/

/-- From any memory with zero counters: the two devices terminate; the sums unchanged, the received blocks in place,
    every counter at zero. -/
theorem run : θ_run (defs (F := F)) (onTc (τ := τ) (main (F := F))) ⟨m, fun _ => 0, ρ⟩ (fun r =>
    (∀ c : Dev nD, ends m c r.2) ∧ r.2.sem = fun _ => 0) :=
  run_region cfgs (dats m) () cellOf_inj (0 : Fin 1) (by decide) ownSemFacts EP m defs₀ Variants.none ρ main
    (hmain := fun _ => rfl) (hbody := body_obligation m) (hne := fun w => w.elim0)
    (harr := arr_whole0) (hstage := stage_whole0) (hsh := (by decide)) (hq := fun _ w => w.elim0)
    (O₀ := plan.O₀) (howed₀ := fun _ => rfl) (howedN := fun _ => rfl) (L := Plan.L) (lv := plan.lv) (hL := Plan.L_of_ne)
    (hwaits := fun c => Pipeline.cellsWaits_intro cfgs (dats m) () 0 c fun w => w.elim0)
    (hA := fun _ w => w.elim0) (G := plan.G m) (G' := set m) (Y := found_at_end m)
    (u₀ := (initOf (Pipeline.cells cfgs cellOf_inj) (Pipeline.launchToks cfgs cellOf_inj), initOf plan.cells plan.toks))
    (hu₀ := by
      iintro Hu
      ihave H := (ownU_pair _ _) $$ Hu
      icases H with ⟨HP, HX⟩
      imod (plan.fund m) $$ HX with HG
      imodintro
      isplitl [HP] <;> iassumption)
    (hglob := setup m) (hin := enter m) (hout := leave m) (QY := ends m) (hY := read_end m)
    (hQ := fun s h hs => ⟨fun c => (h c).2, sem_eq_zero_of_scoped (by decide) hs⟩)

end PairX

end
-- ==== Proof.PairX.Whole.lean ====
/- The exchange of an input projection's weight gradient: the reference, entry by entry, and a device's parts of its whole arrays. -/
module

public import proofs.«01_k».proof.Proof.PairX.Run
public import proofs.«01_k».proof.Proof.Gen.PairXRefIdeal.Read
public import Idealize.ShloMosaic.Lib.LayoutAt

@[expose] public section

set_option maxRecDepth 16384

noncomputable section

namespace PairX

open Idealize.ShloMosaic Idealize.ShloMosaic.TcCoe Idealize.SL.Sem
open Cert.PairXIdeal Cert.PairXIdeal.Gen
open Cert.PairXRefIdeal.Read

section
open Cert.PairXRefIdeal Cert.PairXRefIdeal.Gen

/-- Block `k` of what device `p` receives. -/
theorem ref_recv (p : Fin 2) (x : Vec Ideal Cert.PairXRefIdeal.S8x2x512x512 .bf16) (k : Fin 4) (r d : Fin 512) :
    val_main_v5 (F := Ideal) x (ix3 ⟨p.val * 4 + k.val, by omega⟩ r d) = x (ix4 ⟨(1 - p.val) * 4 + k.val, by omega⟩ p r d) := by
  unfold val_main_v5
  refine (concatenate_ofFn_apply (α := EReal) (t := Cert.PairXRefIdeal.S8x512x512) (s₁ := Cert.PairXRefIdeal.S4x512x512) (0 : Fin 3) (N := 2)
    (![val_main_v2 (F := Ideal) x, val_main_v4 (F := Ideal) x])
    _ rfl 4 rfl (ix3 (⟨p.val * 4 + k.val, by omega⟩ : Fin 8) r d : Cert.PairXRefIdeal.S8x512x512.Idx) p
    (by show (p.val * 4 + k.val) / 4 = p.val; omega) (ix3 k r d : Cert.PairXRefIdeal.S4x512x512.Idx)
    (by show k.val = (p.val * 4 + k.val) % 4; omega) (fun a ha => by fin_cases a <;> first | rfl | exact absurd rfl ha)).trans ?_
  fin_cases p
  · show val_main_v2 (F := Ideal) x (ix3 k r d) = _
    rw [val_main_v2_apply, val_main_v1_apply, val_main_v0_apply]
    refine congrArg x ?_
    funext a
    fin_cases a <;> exact Fin.ext (by simp [ix4, ix3] <;> omega)
  · show val_main_v4 (F := Ideal) x (ix3 k r d) = _
    rw [val_main_v4_apply, val_main_v3_apply, val_main_v0_apply]
    refine congrArg x ?_
    funext a
    fin_cases a <;> exact Fin.ext (by simp [ix4, ix3] <;> omega)
end

/-- On the axis the arrays are cut along, device `c` is block `c`. -/
theorem lin : ∀ c : Fin 2, Layout.meshLin [1, 1, 2] c.val [2] = c.val := by decide

section
variable {α : Type} (c : Fin 2)

theorem part_sums (X : Cert.PairXRefIdeal.S8x512x512.Idx → α) (k : Fin 4) (r d : Fin 512) :
    Layout.blockN ⟨3, ![4, 512, 512]⟩ ⟨3, ![8, 512, 512]⟩ (Layout.meshBlock [1, 1, 2] ![[2], [], []] c) X (by decide) (ix3 k r d)
      = X (ix3 ⟨c.val * 4 + k.val, by omega⟩ r d) := by
  refine (Layout.blockN_apply ..).trans (congrArg X (funext fun a => Fin.ext ?_))
  fin_cases a
  · show Layout.meshLin [1, 1, 2] c.val [2] * 4 + k.val = c.val * 4 + k.val; rw [lin]
  · show 0 * 512 + r.val = r.val; omega
  · show 0 * 512 + d.val = d.val; omega

theorem part_pairs (X : Cert.PairXRefIdeal.S8x2x512x512.Idx → α) (k : Fin 4) (q : Fin 2) (r d : Fin 512) :
    Layout.blockN ⟨4, ![4, 2, 512, 512]⟩ ⟨4, ![8, 2, 512, 512]⟩ (Layout.meshBlock [1, 1, 2] ![[2], [], [], []] c) X (by decide) (ix4 k q r d)
      = X (ix4 ⟨c.val * 4 + k.val, by omega⟩ q r d) := by
  refine (Layout.blockN_apply ..).trans (congrArg X (funext fun a => Fin.ext ?_))
  fin_cases a
  · show Layout.meshLin [1, 1, 2] c.val [2] * 4 + k.val = c.val * 4 + k.val; rw [lin]
  · show 0 * 2 + q.val = q.val; omega
  · show 0 * 512 + r.val = r.val; omega
  · show 0 * 512 + d.val = d.val; omega
end

variable (m : (ℓ : Loc nD τ sig) → Buf (Elt Ideal) ℓ) (c : Dev nD)
variable (x : Vec Ideal Cert.PairXRefIdeal.S8x2x512x512 .bf16)

/-- The blocks a device received are its part of the reference's. -/
theorem eq_recv
    (h : ∀ c : Dev nD, m ((c : Thread nD τ).loc main_arg0) = Layout.blockN ⟨4, ![4, 2, 512, 512]⟩ ⟨4, ![8, 2, 512, 512]⟩ (Layout.meshBlock [1, 1, 2] ![[2], [], [], []] c) x) :
    received m c
      = Layout.blockN ⟨3, ![4, 512, 512]⟩ ⟨3, ![8, 512, 512]⟩ (Layout.meshBlock [1, 1, 2] ![[2], [], []] c) (val_main_v5 (F := Ideal) x) := by
  funext i
  idx_vars i
  refine Eq.trans ?_ ((part_sums c (val_main_v5 (F := Ideal) x) i0 i1 i2).trans (ref_recv c x i0 i1 i2)).symm
  show m ((other c : Thread nD τ).loc main_arg0) (ix4 i0 c i1 i2) = _
  rw [h (other c)]
  refine (part_pairs (other c) x i0 c i1 i2).trans (congrArg (fun k => x (ix4 k c i1 i2)) (Fin.ext ?_))
  have : (other c).val = 1 - c.val := by revert c; decide
  show (other c).val * 4 + i0.val = (1 - c.val) * 4 + i0.val
  rw [this]

end PairX

end
-- ==== Proof.PairX.Claim.lean ====
/- The claims about the exchange of an input projection's weight gradient. -/
module

public import proofs.«01_k».proof.Defs
public import proofs.«01_k».proof.Proof.PairX.Whole
public import proofs.«01_k».proof.Proof.Gen.PairX
public import proofs.«01_k».proof.Proof.Gen.PairXRefIdeal.Run
public import Idealize.ShloMosaic.Adequacy
public import Idealize.ShloMosaic.Init

@[expose] public section

set_option maxRecDepth 16384

noncomputable section

namespace PairX

open Idealize.ShloMosaic Idealize.ShloMosaic.TcCoe Idealize.SL.Sem
open Cert.PairXIdeal Cert.PairXIdeal.Gen
open Cert.PairXRefIdeal.Read

theorem frame_ideal : Cert.quiescent_PairXIdeal (hPairXIdeal := Cert.PairXIdeal.Gen.facts) := fun m ρ _ =>
  (θ_run defs _ _).mono (fun r h => ⟨fun c => (h.1 c).1, h.2⟩) (run m ρ)

/-- The kernel's function is printed once for the chip and once for the reals, in the same words. -/
theorem same_kernels : Cert.PairX.defs₀ (F := Bits) = defs₀ (F := Bits) := by
  unfold Cert.PairX.defs₀ defs₀
  refine congrArg Defs.onTc ?_
  funext l a
  match l, a with
  | 0, (t, s) => rfl

theorem same_table : Cert.PairX.defs (F := Bits) = defs (F := Bits) := by
  unfold Cert.PairX.defs defs
  exact congrArg (Pipeline.defs (pcfgs (F := Bits))) same_kernels

/-- The program printed for the chip is the same text: its run is this one over the chip's floats. -/
theorem frame_bits : Cert.quiescent_PairX (hPairX := Cert.PairX.Gen.facts) := by
  intro m ρ _
  rw [same_table]
  exact (θ_run (defs (F := Bits)) _ _).mono (fun r h => ⟨fun c => (h.1 c).1, h.2⟩) (run (F := Bits) m ρ)

/-- The reference's run leaves its argument and, declaring no semaphore, every counter at zero. -/
theorem frame_ref : Cert.quiescent_PairXRefIdeal (hPairXRefIdeal := Cert.PairXRefIdeal.Gen.facts) := fun m ρ _ =>
  (θ_run Cert.PairXRefIdeal.defs _ _).mono (fun r h => ⟨fun c => (h c).2, sem_eq_zero_of_no_sems (by decide) r.2⟩) (Cert.PairXRefIdeal.Value.run m ρ)

/-- Each device ends with its half of its partner's sums. -/
theorem equal : Cert.algebraic_PairXIdeal_PairXRefIdeal (hPairXIdeal := Cert.PairXIdeal.Gen.facts) (hPairXRefIdeal := Cert.PairXRefIdeal.Gen.facts) := by
  intro m g m' g' _ hagree
  refine ⟨val_main_v5 (F := Ideal) (m' (((0 : Dev Cert.PairXRefIdeal.nD) : Thread Cert.PairXRefIdeal.nD Cert.PairXRefIdeal.τ).loc Cert.PairXRefIdeal.main_arg0)), ?_, ?_⟩
  · exact (θ_run defs _ _).mono (fun r h c => ⟨(h.1 c).2.trans (eq_recv m c _ hagree), (h.1 c).1⟩) (run m g)
  · refine (θ_run Cert.PairXRefIdeal.defs _ _).mono (fun r h => ?_) (Cert.PairXRefIdeal.Value.run m' g')
    obtain ⟨r0, ha⟩ := h 0
    rw [val_main_v5_eq] at r0
    exact ⟨r0, ha⟩

end PairX

end
-- ==== Proof.Tn.Down.lean ====
/- The transposed product of the down projections' weight gradients: the array the kernel leaves is the reference's. -/
module

public import proofs.«01_k».proof.Proof.Gen.DwDownIdeal.Value
public import proofs.«01_k».proof.Proof.Gen.DwDownRefIdeal.Read
public import Idealize.ShloMosaic.Lib.Pipeline.ReadBack
public import Idealize.ShloMosaic.Lib.Pipeline.ValueKit

@[expose] public section

set_option maxRecDepth 16384

noncomputable section

namespace TnDown

open Idealize.ShloMosaic Idealize.ShloMosaic.TcCoe Idealize.SL.Sem
open Cert.DwDownIdeal Cert.DwDownIdeal.Gen

/-- Row `s` of the row block `b`, among all rows. -/
abbrev trow (b : Fin 16) (s : Fin 256) : Fin 4096 := ⟨b.val * 256 + s.val, by omega⟩

/-- Every row is a row of some block. -/
theorem row_split (k : Fin 4096) : ∃ (b : Fin 16) (s : Fin 256), k = trow b s :=
  ⟨⟨k.val / 256, by omega⟩, ⟨k.val % 256, by omega⟩, Fin.ext (by show k.val = k.val / 256 * 256 + k.val % 256; omega)⟩

variable (x0 : Vec Ideal S16x704x256 .bf16) (x1 : Vec Ideal S4096x1024 .bf16)

/-- The left operand's row blocks side by side. -/
def cat : Vec Ideal S704x4096 .bf16 :=
  k0_pay1 (k0_pay3 (View.ld x0 r0_0)) (k0_pay4 (View.ld x0 r0_1)) (k0_pay5 (View.ld x0 r0_2)) (k0_pay6 (View.ld x0 r0_3)) (k0_pay7 (View.ld x0 r0_4)) (k0_pay8 (View.ld x0 r0_5)) (k0_pay9 (View.ld x0 r0_6)) (k0_pay10 (View.ld x0 r0_7)) (k0_pay11 (View.ld x0 r0_8)) (k0_pay12 (View.ld x0 r0_9)) (k0_pay13 (View.ld x0 r0_10)) (View.ld x0 r0_11) (View.ld x0 r0_12) (View.ld x0 r0_13) (View.ld x0 r0_14) (View.ld x0 r0_15)

/-- One row block, read from its own rectangle of the left operand. -/
theorem piece_apply (n : Nat) (h : ∀ a, (![n, 0, 0] : Fin 3 → Nat) a + S1x704x256.size a ≤ S16x704x256.size a) (r : Fin 704) (s : Fin 256) (hn : n < 16) :
    shapeCast (α := EReal) S704x256 (View.ld (Val := Elt Ideal) x0 (Rect.unit (s := S16x704x256) ![n, 0, 0] S1x704x256.size h)) shapeCasts_S1x704x256_S704x256 (ix2 r s)
      = x0 (ix3 ⟨n, hn⟩ r s) := by
  refine (shapeCast_dropUnit_apply ![704, 256] _ _ (ix2 r s)).trans (View.ld_unit_apply_of (Val := Elt Ideal) x0 _ _ h _ _ fun a => ?_)
  fin_cases a
  · show n = n + 0; rfl
  · show r.val = 0 + r.val; omega
  · show s.val = 0 + s.val; omega

theorem cat_apply (r : Fin 704) (b : Fin 16) (s : Fin 256) : cat x0 (ix2 r (trow b s)) = x0 (ix3 b r s) := by
  have hs := s.isLt
  have hb := b.isLt
  unfold cat k0_pay1 k0_pay3 k0_pay4 k0_pay5 k0_pay6 k0_pay7 k0_pay8 k0_pay9 k0_pay10 k0_pay11 k0_pay12 k0_pay13
  dsimp only
  refine (concatenate_ofFn_apply (α := EReal) (t := S704x4096) (s₁ := S704x256) (1 : Fin 2) (N := 16) (![shapeCast S704x256 (View.ld x0 r0_0) shapeCasts_S1x704x256_S704x256, shapeCast S704x256 (View.ld x0 r0_1) shapeCasts_S1x704x256_S704x256, shapeCast S704x256 (View.ld x0 r0_2) shapeCasts_S1x704x256_S704x256, shapeCast S704x256 (View.ld x0 r0_3) shapeCasts_S1x704x256_S704x256, shapeCast S704x256 (View.ld x0 r0_4) shapeCasts_S1x704x256_S704x256, shapeCast S704x256 (View.ld x0 r0_5) shapeCasts_S1x704x256_S704x256, shapeCast S704x256 (View.ld x0 r0_6) shapeCasts_S1x704x256_S704x256, shapeCast S704x256 (View.ld x0 r0_7) shapeCasts_S1x704x256_S704x256, shapeCast S704x256 (View.ld x0 r0_8) shapeCasts_S1x704x256_S704x256, shapeCast S704x256 (View.ld x0 r0_9) shapeCasts_S1x704x256_S704x256, shapeCast S704x256 (View.ld x0 r0_10) shapeCasts_S1x704x256_S704x256, shapeCast S704x256 (View.ld x0 r0_11) shapeCasts_S1x704x256_S704x256, shapeCast S704x256 (View.ld x0 r0_12) shapeCasts_S1x704x256_S704x256, shapeCast S704x256 (View.ld x0 r0_13) shapeCasts_S1x704x256_S704x256, shapeCast S704x256 (View.ld x0 r0_14) shapeCasts_S1x704x256_S704x256, shapeCast S704x256 (View.ld x0 r0_15) shapeCasts_S1x704x256_S704x256]) _ rfl 256 rfl (ix2 r (trow b s) : S704x4096.Idx) b
    (by show (b.val * 256 + s.val) / 256 = b.val; omega) (ix2 r s : S704x256.Idx) (by show s.val = (b.val * 256 + s.val) % 256; omega) (fun a ha => by fin_cases a <;> first | rfl | exact absurd rfl ha)).trans ?_
  fin_cases b <;> exact piece_apply x0 _ _ r s _

/-- The block the kernel leaves at one grid point is the product of its two operands. -/
theorem out_eq : out0_2 x0 x1 = k0_pay2 (cat x0) x1 := by
  unfold out0_2 cat
  frame_out

/-- At an entry it is the product of the rows' columns. -/
theorem out_apply (r : Fin 704) (d : Fin 1024) :
    out0_2 x0 x1 (ix2 r d) = ∑ k : Fin 4096, cat x0 (ix2 r k) * x1 (ix2 k d) := by
  rw [out_eq]
  generalize cat x0 = y
  pointwise [k0_pay2]

variable (m : (ℓ : Loc nD τ sig) → Buf (Elt Ideal) ℓ) (c : Dev nD)

theorem idx0 : ∀ t : Fin cfg0.N, win0_0.index t = ![0, t.val, 0] := (by decide +kernel : ∀ t : Fin grid0.N, win0_0.index t = ![0, t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem pt_lt : ∀ t : Fin cfg0.N, t.val < 4 := (by decide +kernel : ∀ t : Fin grid0.N, t.val < 4)

variable (t : Fin cfg0.N)

/-- Column `r` of the column block `t`, among all columns. -/
abbrev col (r : Fin 704) : Fin 2816 := ⟨t.val * 704 + r.val, by have := pt_lt t; omega⟩

/-- The left operand as the host prepares it: the rows cut in blocks and each block transposed. -/
theorem prep_apply (x : Vec Ideal S4096x2816 .f32) (b : Fin 16) (f : Fin 2816) (s : Fin 256) :
    truncf (F := Ideal) .bf16 (transpose S16x2816x256 [0, 2, 1] (shapeCast (α := EReal) S16x256x2816 x shapeCasts_S4096x2816_S16x256x2816) transposes_S16x256x2816_S16x2816x256_0_2_1) bitsLt_bf16_f32 (ix3 b f s)
      = x (ix2 (trow b s) f) := by
  pointwise

theorem read0 (b : Fin 16) (r : Fin 704) (s : Fin 256) :
    iblk m c 0 t (ix3 b r s) = m ((c : Thread nD τ).loc main_arg0) (ix2 (trow b s) (col t r)) := by
  have e : ((cfg0.win 0).blk t).view.emb (ix3 b r s) = (ix3 b (col t r) s : S16x2816x256.Idx) := by blk_ext [idx0 t]
  show V m c main_v2 (((cfg0.win 0).blk t).view.emb (ix3 b r s)) = _
  rw [e]
  simp only [V, hostOps0]
  entry_read
  exact prep_apply _ b _ s

theorem read1 (k : Fin 4096) (d : Fin 1024) : iblk m c 1 t (ix2 k d) = m ((c : Thread nD τ).loc main_arg1) (ix2 k d) := by
  have e : ((cfg0.win 1).blk t).view.emb (ix2 k d) = (ix2 k d : S4096x1024.Idx) := by blk_ext [idx1 t]
  show V m c main_v3 (((cfg0.win 1).blk t).view.emb (ix2 k d)) = _
  rw [e]
  simp only [V, hostOps0]
  entry_read
  rfl

/-- The block at one grid point: the product of the block's columns with the rows. -/
theorem out_blk (r : Fin 704) (d : Fin 1024) :
    out0_2 (iblk m c 0 t) (iblk m c 1 t) (ix2 r d)
      = ∑ k : Fin 4096, HMul.hMul (α := EReal) (β := EReal) (m ((c : Thread nD τ).loc main_arg0) (ix2 k (col t r))) (m ((c : Thread nD τ).loc main_arg1) (ix2 k d)) := by
  rw [out_apply]
  refine Finset.sum_congr rfl fun k _ => ?_
  obtain ⟨b, s, rfl⟩ := row_split k
  rw [cat_apply, read0, read1]

theorem emb2 (r : Fin 704) (d : Fin 1024) : ((cfg0.win 2).blk t).view.emb (ix2 r d) = (ix2 (col t r) d : S2816x1024.Idx) := by
  blk_ext [idx2 t]

/-- The array the kernel leaves: the left operand transposed times the right one. -/
theorem arr2 (f : Fin 2816) (d : Fin 1024) : (dats m 0 c).arrAt 2 cfg0.N (ix2 f d : S2816x1024.Idx)
    = ∑ k : Fin 4096, HMul.hMul (α := EReal) (β := EReal) (m ((c : Thread nD τ).loc main_arg0) (ix2 k f)) (m ((c : Thread nD τ).loc main_arg1) (ix2 k d)) := by
  have hr : f.val / 704 < cfg0.N := by have := N_0; show _ < grid0.N; omega
  obtain ⟨t, ht⟩ : ∃ t : Fin cfg0.N, t.val = f.val / 704 := ⟨⟨_, hr⟩, rfl⟩
  obtain ⟨r, rfl⟩ : ∃ r : Fin 704, f = col t r := ⟨⟨f.val % 704, by omega⟩, Fin.ext (by show _ = t.val * 704 + f.val % 704; omega)⟩
  have h := congrFun (Value.blocks2 m c t (flush0_2 t)) (ix2 r d)
  have hd := out_blk m c t r d
  rw [Value.flushed2] at h
  generalize out0_2 (iblk m c 0 t) (iblk m c 1 t) = X at h hd
  exact (congrArg _ (emb2 t r d)).symm.trans (h.trans hd)

open Cert.DwDownRefIdeal.Read

/-- The reference's gradient at an entry. -/
theorem ref_apply (x : Vec Ideal S4096x2816 .f32) (y : Vec Ideal S4096x1024 .f32) (f : Fin 2816) (d : Fin 1024) :
    val_main_v4 (F := Ideal) x y (ix2 f d) = ∑ k : Fin 4096, y (ix2 k d) * x (ix2 k f) := by
  rw [val_main_v4_apply]
  show val_main_v3 (F := Ideal) x y (ix2 f d) = _
  rw [val_main_v3_apply, val_main_v2_apply]
  refine Finset.sum_congr rfl fun k _ => congrArg₂ _ (congrArg y ?_) (congrArg x ?_) <;>
    (funext a; fin_cases a <;> rfl)

/-- The kernel's array is the reference's gradient. -/
theorem eq2 : (dats m 0 c).arrAt 2 cfg0.N
    = val_main_v4 (F := Ideal) (m ((c : Thread nD τ).loc main_arg0)) (m ((c : Thread nD τ).loc main_arg1)) := by
  funext i
  idx_vars i
  refine (arr2 m c i0 i1).trans ((Finset.sum_congr rfl fun k _ => mul_comm _ _).trans (ref_apply _ _ i0 i1).symm)

end TnDown

end
-- ==== Proof.Tn.Pw.lean ====
/- The transposed product of the gate output projection's weight gradient: the array the kernel leaves is the reference's. -/
module

public import proofs.«01_k».proof.Proof.Gen.DwPwIdeal.Value
public import proofs.«01_k».proof.Proof.Gen.DwPwRefIdeal.Read
public import Idealize.ShloMosaic.Lib.Pipeline.ReadBack
public import Idealize.ShloMosaic.Lib.Pipeline.ValueKit

@[expose] public section

set_option maxRecDepth 16384

noncomputable section

namespace TnPw

open Idealize.ShloMosaic Idealize.ShloMosaic.TcCoe Idealize.SL.Sem
open Cert.DwPwIdeal Cert.DwPwIdeal.Gen

/-- Row `s` of the row block `b`, among all rows. -/
abbrev trow (b : Fin 8) (s : Fin 512) : Fin 4096 := ⟨b.val * 512 + s.val, by omega⟩

/-- Every row is a row of some block. -/
theorem row_split (k : Fin 4096) : ∃ (b : Fin 8) (s : Fin 512), k = trow b s :=
  ⟨⟨k.val / 512, by omega⟩, ⟨k.val % 512, by omega⟩, Fin.ext (by show k.val = k.val / 512 * 512 + k.val % 512; omega)⟩

variable (x0 : Vec Ideal S8x1024x512 .bf16) (x1 : Vec Ideal S4096x1024 .bf16)

/-- The left operand's row blocks side by side. -/
def cat : Vec Ideal S1024x4096 .bf16 :=
  concatenate (α := EReal) S1024x4096 1 [⟨S1024x512, shapeCast S1024x512 (View.ld x0 r0_0) shapeCasts_S1x1024x512_S1024x512⟩, ⟨S1024x512, shapeCast S1024x512 (View.ld x0 r0_1) shapeCasts_S1x1024x512_S1024x512⟩, ⟨S1024x512, shapeCast S1024x512 (View.ld x0 r0_2) shapeCasts_S1x1024x512_S1024x512⟩, ⟨S1024x512, shapeCast S1024x512 (View.ld x0 r0_3) shapeCasts_S1x1024x512_S1024x512⟩, ⟨S1024x512, shapeCast S1024x512 (View.ld x0 r0_4) shapeCasts_S1x1024x512_S1024x512⟩, ⟨S1024x512, shapeCast S1024x512 (View.ld x0 r0_5) shapeCasts_S1x1024x512_S1024x512⟩, ⟨S1024x512, shapeCast S1024x512 (View.ld x0 r0_6) shapeCasts_S1x1024x512_S1024x512⟩, ⟨S1024x512, shapeCast S1024x512 (View.ld x0 r0_7) shapeCasts_S1x1024x512_S1024x512⟩] concatenates_S1024x512_S1024x512_S1024x512_S1024x512_S1024x512_S1024x512_S1024x512_S1024x512_S1024x4096_d1

/-- One row block, read from its own rectangle of the left operand. -/
theorem piece_apply (n : Nat) (h : ∀ a, (![n, 0, 0] : Fin 3 → Nat) a + S1x1024x512.size a ≤ S8x1024x512.size a) (r : Fin 1024) (s : Fin 512) (hn : n < 8) :
    shapeCast (α := EReal) S1024x512 (View.ld (Val := Elt Ideal) x0 (Rect.unit (s := S8x1024x512) ![n, 0, 0] S1x1024x512.size h)) shapeCasts_S1x1024x512_S1024x512 (ix2 r s)
      = x0 (ix3 ⟨n, hn⟩ r s) := by
  refine (shapeCast_dropUnit_apply ![1024, 512] _ _ (ix2 r s)).trans (View.ld_unit_apply_of (Val := Elt Ideal) x0 _ _ h _ _ fun a => ?_)
  fin_cases a
  · show n = n + 0; rfl
  · show r.val = 0 + r.val; omega
  · show s.val = 0 + s.val; omega

theorem cat_apply (r : Fin 1024) (b : Fin 8) (s : Fin 512) : cat x0 (ix2 r (trow b s)) = x0 (ix3 b r s) := by
  have hs := s.isLt
  have hb := b.isLt
  unfold cat
  refine (concatenate_ofFn_apply (α := EReal) (t := S1024x4096) (s₁ := S1024x512) (1 : Fin 2) (N := 8) (![shapeCast S1024x512 (View.ld x0 r0_0) shapeCasts_S1x1024x512_S1024x512, shapeCast S1024x512 (View.ld x0 r0_1) shapeCasts_S1x1024x512_S1024x512, shapeCast S1024x512 (View.ld x0 r0_2) shapeCasts_S1x1024x512_S1024x512, shapeCast S1024x512 (View.ld x0 r0_3) shapeCasts_S1x1024x512_S1024x512, shapeCast S1024x512 (View.ld x0 r0_4) shapeCasts_S1x1024x512_S1024x512, shapeCast S1024x512 (View.ld x0 r0_5) shapeCasts_S1x1024x512_S1024x512, shapeCast S1024x512 (View.ld x0 r0_6) shapeCasts_S1x1024x512_S1024x512, shapeCast S1024x512 (View.ld x0 r0_7) shapeCasts_S1x1024x512_S1024x512]) _ rfl 512 rfl (ix2 r (trow b s) : S1024x4096.Idx) b
    (by show (b.val * 512 + s.val) / 512 = b.val; omega) (ix2 r s : S1024x512.Idx) (by show s.val = (b.val * 512 + s.val) % 512; omega) (fun a ha => by fin_cases a <;> first | rfl | exact absurd rfl ha)).trans ?_
  fin_cases b <;> exact piece_apply x0 _ _ r s _

/-- The block the kernel leaves at one grid point is the product of its two operands. -/
theorem out_eq : out0_2 x0 x1 = k0_pay1 (View.ld x0 r0_0) (View.ld x0 r0_1) (View.ld x0 r0_2) (View.ld x0 r0_3) (View.ld x0 r0_4) (View.ld x0 r0_5) (View.ld x0 r0_6) (View.ld x0 r0_7) x1 := by
  unfold out0_2
  frame_out

/-- At an entry it is the product of the rows' columns. -/
theorem out_apply (r : Fin 1024) (d : Fin 1024) :
    out0_2 x0 x1 (ix2 r d) = ∑ k : Fin 4096, cat x0 (ix2 r k) * x1 (ix2 k d) := by
  rw [out_eq]
  show truncf (F := Ideal) .bf16 (matmul (F := Ideal) (φ₁ := .bf16) (φ₂ := .bf16) dot_S1024x4096_S4096x1024_S1024x1024_1_0_0_1_n_n none (cat x0)
    (shapeCast S4096x1024 x1 shapeCasts_S4096x1024_S4096x1024) (constant (F := Ideal) S1024x1024 .f32 0x00000000#32)) bitsLt_bf16_f32 (ix2 r d) = _
  generalize cat x0 = y
  pointwise

variable (m : (ℓ : Loc nD τ sig) → Buf (Elt Ideal) ℓ) (c : Dev nD)

theorem idx0 : ∀ t : Fin cfg0.N, win0_0.index t = ![0, t.val, 0] := (by decide +kernel : ∀ t : Fin grid0.N, win0_0.index t = ![0, t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem pt_lt : ∀ t : Fin cfg0.N, t.val < 1 := (by decide +kernel : ∀ t : Fin grid0.N, t.val < 1)

variable (t : Fin cfg0.N)

/-- Column `r` of the column block `t`, among all columns. -/
abbrev col (r : Fin 1024) : Fin 1024 := ⟨t.val * 1024 + r.val, by have := pt_lt t; omega⟩

/-- The left operand as the host prepares it: the rows cut in blocks and each block transposed. -/
theorem prep_apply (x : Vec Ideal S4096x1024 .f32) (b : Fin 8) (f : Fin 1024) (s : Fin 512) :
    truncf (F := Ideal) .bf16 (transpose S8x1024x512 [0, 2, 1] (shapeCast (α := EReal) S8x512x1024 x shapeCasts_S4096x1024_S8x512x1024) transposes_S8x512x1024_S8x1024x512_0_2_1) bitsLt_bf16_f32 (ix3 b f s)
      = x (ix2 (trow b s) f) := by
  pointwise

theorem read0 (b : Fin 8) (r : Fin 1024) (s : Fin 512) :
    iblk m c 0 t (ix3 b r s) = m ((c : Thread nD τ).loc main_arg0) (ix2 (trow b s) (col t r)) := by
  have e : ((cfg0.win 0).blk t).view.emb (ix3 b r s) = (ix3 b (col t r) s : S8x1024x512.Idx) := by blk_ext [idx0 t]
  show V m c main_v2 (((cfg0.win 0).blk t).view.emb (ix3 b r s)) = _
  rw [e]
  simp only [V, hostOps0]
  entry_read
  exact prep_apply _ b _ s

theorem read1 (k : Fin 4096) (d : Fin 1024) : iblk m c 1 t (ix2 k d) = m ((c : Thread nD τ).loc main_arg1) (ix2 k d) := by
  have e : ((cfg0.win 1).blk t).view.emb (ix2 k d) = (ix2 k d : S4096x1024.Idx) := by blk_ext [idx1 t]
  show V m c main_v3 (((cfg0.win 1).blk t).view.emb (ix2 k d)) = _
  rw [e]
  simp only [V, hostOps0]
  entry_read
  rfl

/-- The block at one grid point: the product of the block's columns with the rows. -/
theorem out_blk (r : Fin 1024) (d : Fin 1024) :
    out0_2 (iblk m c 0 t) (iblk m c 1 t) (ix2 r d)
      = ∑ k : Fin 4096, HMul.hMul (α := EReal) (β := EReal) (m ((c : Thread nD τ).loc main_arg0) (ix2 k (col t r))) (m ((c : Thread nD τ).loc main_arg1) (ix2 k d)) := by
  rw [out_apply]
  refine Finset.sum_congr rfl fun k _ => ?_
  obtain ⟨b, s, rfl⟩ := row_split k
  rw [cat_apply, read0, read1]

theorem emb2 (r : Fin 1024) (d : Fin 1024) : ((cfg0.win 2).blk t).view.emb (ix2 r d) = (ix2 (col t r) d : S1024x1024.Idx) := by
  blk_ext [idx2 t]

/-- The array the kernel leaves: the left operand transposed times the right one. -/
theorem arr2 (f : Fin 1024) (d : Fin 1024) : (dats m 0 c).arrAt 2 cfg0.N (ix2 f d : S1024x1024.Idx)
    = ∑ k : Fin 4096, HMul.hMul (α := EReal) (β := EReal) (m ((c : Thread nD τ).loc main_arg0) (ix2 k f)) (m ((c : Thread nD τ).loc main_arg1) (ix2 k d)) := by
  have hr : f.val / 1024 < cfg0.N := by have := N_0; show _ < grid0.N; omega
  obtain ⟨t, ht⟩ : ∃ t : Fin cfg0.N, t.val = f.val / 1024 := ⟨⟨_, hr⟩, rfl⟩
  obtain ⟨r, rfl⟩ : ∃ r : Fin 1024, f = col t r := ⟨⟨f.val % 1024, by omega⟩, Fin.ext (by show _ = t.val * 1024 + f.val % 1024; omega)⟩
  have h := congrFun (Value.blocks2 m c t (flush0_2 t)) (ix2 r d)
  have hd := out_blk m c t r d
  rw [Value.flushed2] at h
  generalize out0_2 (iblk m c 0 t) (iblk m c 1 t) = X at h hd
  exact (congrArg _ (emb2 t r d)).symm.trans (h.trans hd)

open Cert.DwPwRefIdeal.Read

/-- The reference's gradient at an entry. -/
theorem ref_apply (x : Vec Ideal S4096x1024 .f32) (y : Vec Ideal S4096x1024 .f32) (f : Fin 1024) (d : Fin 1024) :
    val_main_v4 (F := Ideal) x y (ix2 f d) = ∑ k : Fin 4096, y (ix2 k d) * x (ix2 k f) := by
  rw [val_main_v4_apply]
  show val_main_v3 (F := Ideal) x y (ix2 f d) = _
  rw [val_main_v3_apply, val_main_v2_apply]
  refine Finset.sum_congr rfl fun k _ => congrArg₂ _ (congrArg y ?_) (congrArg x ?_) <;>
    (funext a; fin_cases a <;> rfl)

/-- The kernel's array is the reference's gradient. -/
theorem eq2 : (dats m 0 c).arrAt 2 cfg0.N
    = val_main_v4 (F := Ideal) (m ((c : Thread nD τ).loc main_arg0)) (m ((c : Thread nD τ).loc main_arg1)) := by
  funext i
  idx_vars i
  refine (arr2 m c i0 i1).trans ((Finset.sum_congr rfl fun k _ => mul_comm _ _).trans (ref_apply _ _ i0 i1).symm)

end TnPw

end
-- ==== Proof.Tn.Claim.lean ====
/- The claims about the two transposed products. -/
module

public import proofs.«01_k».proof.Defs
public import proofs.«01_k».proof.Proof.Tn.Down
public import proofs.«01_k».proof.Proof.Tn.Pw
public import proofs.«01_k».proof.Proof.Gen.DwDownIdeal
public import proofs.«01_k».proof.Proof.Gen.DwDownRefIdeal
public import proofs.«01_k».proof.Proof.Gen.DwDownRefIdeal.Run
public import proofs.«01_k».proof.Proof.Gen.DwPwIdeal
public import proofs.«01_k».proof.Proof.Gen.DwPwRefIdeal
public import proofs.«01_k».proof.Proof.Gen.DwPwRefIdeal.Run
public import Idealize.ShloMosaic.Adequacy
public import Idealize.ShloMosaic.Init

@[expose] public section

noncomputable section

namespace Cert.Proof

open Idealize.ShloMosaic Idealize.ShloMosaic.TcCoe Idealize.SL.Sem

/-- The reference's run leaves its arguments and, declaring no semaphore, every counter at zero. -/
theorem dwdown_ref : Cert.quiescent_DwDownRefIdeal (hDwDownRefIdeal := Cert.DwDownRefIdeal.Gen.facts) := fun m ρ _ =>
  (θ_run Cert.DwDownRefIdeal.defs _ _).mono (fun r h => ⟨fun c => (h c).2, sem_eq_zero_of_no_sems (by decide) r.2⟩) (Cert.DwDownRefIdeal.Value.run m ρ)

/-- Over the extended reals the kernel returns the gradient of the down projection's weight. -/
theorem dwdown_eq : Cert.algebraic_DwDownIdeal_DwDownRefIdeal (hDwDownIdeal := Cert.DwDownIdeal.Gen.facts) (hDwDownRefIdeal := Cert.DwDownRefIdeal.Gen.facts) := by
  intro m g m' g' _ hagree
  refine ⟨fun c => Cert.DwDownRefIdeal.Read.val_main_v4 (F := Ideal) (m ((c : Thread Cert.DwDownIdeal.nD Cert.DwDownIdeal.τ).loc Cert.DwDownIdeal.main_arg0)) (m ((c : Thread Cert.DwDownIdeal.nD Cert.DwDownIdeal.τ).loc Cert.DwDownIdeal.main_arg1)), ?_, ?_⟩
  · refine (θ_run Cert.DwDownIdeal.defs _ _).mono (fun r h c => ?_) (Cert.DwDownIdeal.Value.run_blocks m g)
    obtain ⟨h2, ha⟩ := h c
    exact ⟨h2.trans (TnDown.eq2 m c), ha⟩
  · refine (θ_run Cert.DwDownRefIdeal.defs _ _).mono (fun r h c => ?_) (Cert.DwDownRefIdeal.Value.run m' g')
    obtain ⟨h4, ha⟩ := h c
    obtain ⟨e0, e1⟩ := hagree c
    rw [Cert.DwDownRefIdeal.Read.val_main_v4_eq, e0, e1] at h4
    exact ⟨h4, ha⟩

/-- The reference's run leaves its arguments and, declaring no semaphore, every counter at zero. -/
theorem dwpw_ref : Cert.quiescent_DwPwRefIdeal (hDwPwRefIdeal := Cert.DwPwRefIdeal.Gen.facts) := fun m ρ _ =>
  (θ_run Cert.DwPwRefIdeal.defs _ _).mono (fun r h => ⟨fun c => (h c).2, sem_eq_zero_of_no_sems (by decide) r.2⟩) (Cert.DwPwRefIdeal.Value.run m ρ)

/-- Over the extended reals the kernel returns the gradient of the gate output projection's weight. -/
theorem dwpw_eq : Cert.algebraic_DwPwIdeal_DwPwRefIdeal (hDwPwIdeal := Cert.DwPwIdeal.Gen.facts) (hDwPwRefIdeal := Cert.DwPwRefIdeal.Gen.facts) := by
  intro m g m' g' _ hagree
  refine ⟨fun c => Cert.DwPwRefIdeal.Read.val_main_v4 (F := Ideal) (m ((c : Thread Cert.DwPwIdeal.nD Cert.DwPwIdeal.τ).loc Cert.DwPwIdeal.main_arg0)) (m ((c : Thread Cert.DwPwIdeal.nD Cert.DwPwIdeal.τ).loc Cert.DwPwIdeal.main_arg1)), ?_, ?_⟩
  · refine (θ_run Cert.DwPwIdeal.defs _ _).mono (fun r h c => ?_) (Cert.DwPwIdeal.Value.run_blocks m g)
    obtain ⟨h2, ha⟩ := h c
    exact ⟨h2.trans (TnPw.eq2 m c), ha⟩
  · refine (θ_run Cert.DwPwRefIdeal.defs _ _).mono (fun r h c => ?_) (Cert.DwPwRefIdeal.Value.run m' g')
    obtain ⟨h4, ha⟩ := h c
    obtain ⟨e0, e1⟩ := hagree c
    rw [Cert.DwPwRefIdeal.Read.val_main_v4_eq, e0, e1] at h4
    exact ⟨h4, ha⟩

end Cert.Proof

end
-- ==== Proof.Ffn.Block.lean ====
/- One grid point of the last ConvFFN's forward kernel: what it leaves in its six output blocks. -/
module

public import proofs.«01_k».proof.Proof.Gen.FfnIdeal.Frame
public import Idealize.ShloMosaic.Lib.Pipeline.ReadBack
public import Idealize.ShloMosaic.Lib.Pipeline.ValueKit

@[expose] public section

set_option maxRecDepth 16384

noncomputable section

namespace Ffn

open Idealize.ShloMosaic Idealize.ShloMosaic.TcCoe Idealize.SL.Sem
open Cert.FfnIdeal Cert.FfnIdeal.Gen

variable {F : FTy → Type} [FloatOps F]

section
variable (i : grid0.Coords) (x0 : Vec F S256x1024 .bf16) (x1 : Vec F S16x1024 .bf16) (x2 : Vec F S256x1024 .f32)
  (x3 : Vec F S2x1024x2816 .bf16) (x4 : Vec F S8x2816 .f32) (x5 : Vec F S1x2816 .f32) (x6 : Vec F S2816x1024 .bf16)
  (x7 : Vec F S1x1024 .f32) (x8 : Vec F S256x1024 .f32)

/-- The activation half of the up projection of the block's rows. -/
def actB : Vec F S256x2816 .f32 := k0_pay3 x0 (View.ld x3 (Rect.unit ![0, 0, 0] ![1, 1024, 2816] inb_S2x1024x2816_S1x1024x2816_0_0_0))

/-- The gate half. -/
def gateB : Vec F S256x2816 .f32 := k0_pay4 x0 (View.ld x3 (Rect.unit ![1, 0, 0] ![1, 1024, 2816] inb_S2x1024x2816_S1x1024x2816_1_0_0))

/-- The activation rows below the eight halo rows, as the two stores leave them in the kernel's buffer. -/
def stores : List (View.Piece (Elt F) S264x2816 .f32) :=
  [⟨Rect.unit ![8, 0] ![256, 2816] inb_S264x2816_S256x2816_8_0, k0_pay7 (actB x0 x3)⟩,
    ⟨Rect.unit ![0, 0] ![8, 2816] inb_S264x2816_S8x2816_0_0,
      k0_pay6 (k0_pay5 i x1 (View.ld x3 (Rect.unit ![0, 0, 0] ![1, 1024, 2816] inb_S2x1024x2816_S1x1024x2816_0_0_0)))⟩]

/-- The rows of that buffer two above the block's. -/
def back2 : Vec F S256x2816 .f32 :=
  (View.whole cc0_scratch0).readCov (stores i x0 x1 x3) (Rect.unit (s := S264x2816) ![6, 0] S256x2816.size inb_S264x2816_S256x2816_6_0).toLoadRect

/-- The rows of that buffer one above the block's. -/
def back1 : Vec F S256x2816 .f32 :=
  (View.whole cc0_scratch0).readCov (stores i x0 x1 x3) (Rect.unit (s := S264x2816) ![7, 0] S256x2816.size inb_S264x2816_S256x2816_7_0).toLoadRect

/-- The convolution's terms of the bias and of the rows two above. -/
def convB : Vec F S256x2816 .f32 :=
  k0_pay10 x5 (View.ld x4 (Rect.unit ![0, 0] ![1, 2816] inb_S8x2816_S1x2816_0_0)) (k0_pay8 (back2 i x0 x1 x3))

/-- The residual stream behind the block. -/
def sumB : Vec F S256x1024 .f32 :=
  k0_pay14 (convB i x0 x1 x3 x4 x5) (k0_pay11 (View.ld x4 (Rect.unit ![1, 0] ![1, 2816] inb_S8x2816_S1x2816_1_0)))
    (k0_pay9 (back1 i x0 x1 x3)) (View.ld x4 (Rect.unit ![2, 0] ![1, 2816] inb_S8x2816_S1x2816_2_0)) (k0_pay7 (actB x0 x3)) (gateB x0 x3) x2 x6

/-- The reciprocal root of its mean square. -/
def rB : Vec F S256x1 .f32 :=
  k0_pay15 (convB i x0 x1 x3 x4 x5) (k0_pay11 (View.ld x4 (Rect.unit ![1, 0] ![1, 2816] inb_S8x2816_S1x2816_1_0)))
    (k0_pay9 (back1 i x0 x1 x3)) (View.ld x4 (Rect.unit ![2, 0] ![1, 2816] inb_S8x2816_S1x2816_2_0)) (k0_pay7 (actB x0 x3)) (gateB x0 x3) x2 x6

/-- The normalised rows. -/
def xhB : Vec F S256x1024 .f32 :=
  k0_pay16 (convB i x0 x1 x3 x4 x5) (k0_pay11 (View.ld x4 (Rect.unit ![1, 0] ![1, 2816] inb_S8x2816_S1x2816_1_0)))
    (k0_pay9 (back1 i x0 x1 x3)) (View.ld x4 (Rect.unit ![2, 0] ![1, 2816] inb_S8x2816_S1x2816_2_0)) (k0_pay7 (actB x0 x3)) (gateB x0 x3) x2 x6

/-- The final norm's output. -/
def yB : Vec F S256x1024 .f32 :=
  k0_pay17 (convB i x0 x1 x3 x4 x5) (k0_pay11 (View.ld x4 (Rect.unit ![1, 0] ![1, 2816] inb_S8x2816_S1x2816_1_0)))
    (k0_pay9 (back1 i x0 x1 x3)) (View.ld x4 (Rect.unit ![2, 0] ![1, 2816] inb_S8x2816_S1x2816_2_0)) (k0_pay7 (actB x0 x3)) (gateB x0 x3) x2 x6 x7

/-- The block of the up projection: its two halves side by side. -/
def upB : Vec F S256x5632 .f32 :=
  View.canon [⟨Rect.unit (s := S256x5632) ![0, 2816] S256x2816.size inb_S256x5632_S256x2816_0_2816, gateB x0 x3⟩,
    ⟨Rect.unit (s := S256x5632) ![0, 0] S256x2816.size inb_S256x5632_S256x2816_0_0, actB x0 x3⟩]

/-- The saved block of the gated activation, transposed. -/
def savedB : Vec F S1x2816x256 .bf16 :=
  k0_pay13 (convB i x0 x1 x3 x4 x5) (k0_pay11 (View.ld x4 (Rect.unit ![1, 0] ![1, 2816] inb_S8x2816_S1x2816_1_0)))
    (k0_pay9 (back1 i x0 x1 x3)) (View.ld x4 (Rect.unit ![2, 0] ![1, 2816] inb_S8x2816_S1x2816_2_0)) (k0_pay7 (actB x0 x3)) (gateB x0 x3)

/-- The block of the residual stream's gradient. -/
def dxB : Vec F S256x1024 .f32 := k0_pay21 (rB i x0 x1 x2 x3 x4 x5 x6) (xhB i x0 x1 x2 x3 x4 x5 x6) (yB i x0 x1 x2 x3 x4 x5 x6 x7) x8 x7

/-- The same rounded. -/
def dxrB : Vec F S256x1024 .bf16 := k0_pay23 (rB i x0 x1 x2 x3 x4 x5 x6) (xhB i x0 x1 x2 x3 x4 x5 x6) (yB i x0 x1 x2 x3 x4 x5 x6 x7) x8 x7

/-- The block's part of the loss, feature by feature. -/
def lossB : Vec F S1x1024 .f32 := k0_pay19 (yB i x0 x1 x2 x3 x4 x5 x6 x7) x8

/-- The block's part of the final norm's gradient. -/
def dnB : Vec F S1x1024 .f32 := k0_pay22 (xhB i x0 x1 x2 x3 x4 x5 x6) (yB i x0 x1 x2 x3 x4 x5 x6 x7) x8

/-- The loss added to what the points before left. -/
def lossAddB (y : Vec F S1x1024 .f32) : Vec F S1x1024 .f32 := k0_pay24 (yB i x0 x1 x2 x3 x4 x5 x6 x7) x8 y

/-- The final norm's gradient added to what the points before left. -/
def dnAddB (y : Vec F S1x1024 .f32) : Vec F S1x1024 .f32 := k0_pay1 (dnB i x0 x1 x2 x3 x4 x5 x6 x7 x8) y

end

variable (m : (ℓ : Loc nD τ sig) → Buf (Elt F) ℓ)

/-- What a grid point leaves, from what the point before left in the two accumulators. -/
abbrev at_ (c : Dev nD) (t : Fin cfg0.N) {γ : Type} (f : grid0.Coords → Vec F S256x1024 .bf16 → Vec F S16x1024 .bf16 → Vec F S256x1024 .f32 →
    Vec F S2x1024x2816 .bf16 → Vec F S8x2816 .f32 → Vec F S1x2816 .f32 → Vec F S2816x1024 .bf16 → Vec F S1x1024 .f32 → Vec F S256x1024 .f32 → γ) : γ :=
  f (grid0.coords t) (iblk m c 0 t) (iblk m c 1 t) (iblk m c 2 t) (iblk m c 3 t) (iblk m c 4 t) (iblk m c 5 t) (iblk m c 6 t) (iblk m c 7 t) (iblk m c 8 t)

/-- At the first grid point the output blocks hold the block's results. -/
theorem outs_first (c : Dev nD) (t : Fin cfg0.N) (h0 : t.val % 16 = 0) (h1 : ¬1 ≤ t.val) :
    outsAt0 m c t.val t.isLt =
      (at_ m c t fun _ x0 _ _ x3 _ _ _ _ _ => upB x0 x3, at_ m c t fun i x0 x1 _ x3 x4 x5 _ _ _ => savedB i x0 x1 x3 x4 x5,
        at_ m c t dxB, at_ m c t dxrB, at_ m c t lossB, at_ m c t dnB) := by
  rw [outsAt0_A m c t h0 h1 h0 h1]
  refine Prod.ext ?_ (Prod.ext ?_ (Prod.ext ?_ (Prod.ext ?_ (Prod.ext ?_ ?_))))
  all_goals
    frame_open
    simp (disch := decide) only [↓ View.readCov_skip, ↓ View.readCov_cons_toLoadRect]
    frame_out
    rfl

/-- At a later one the loss and the final norm's gradient are added to what the point before left. -/
theorem outs_later (c : Dev nD) (t : Fin cfg0.N) (h0 : ¬t.val % 16 = 0) (h1 : 1 ≤ t.val) :
    outsAt0 m c t.val t.isLt =
      (at_ m c t fun _ x0 _ _ x3 _ _ _ _ _ => upB x0 x3, at_ m c t fun i x0 x1 _ x3 x4 x5 _ _ _ => savedB i x0 x1 x3 x4 x5,
        at_ m c t dxB, at_ m c t dxrB,
        at_ m c t lossAddB (outsAt0 m c (t.val - 1) (Nat.lt_of_le_of_lt (Nat.sub_le _ _) t.isLt)).2.2.2.2.1,
        at_ m c t dnAddB (outsAt0 m c (t.val - 1) (Nat.lt_of_le_of_lt (Nat.sub_le _ _) t.isLt)).2.2.2.2.2) := by
  rw [outsAt0_B m c t h0 h1 h0 h1]
  refine Prod.ext ?_ (Prod.ext ?_ (Prod.ext ?_ (Prod.ext ?_ (Prod.ext ?_ ?_))))
  all_goals
    frame_open
    simp (disch := decide) only [↓ View.readCov_skip, ↓ View.readCov_cons_toLoadRect]
    frame_out
    rfl

end Ffn

end
-- ==== Proof.Ffn.BlockAt.lean ====
/- One grid point of the last ConvFFN's forward kernel, read at an entry over the extended reals. -/
module

public import proofs.«01_k».proof.Proof.Down.BlockAt
public import proofs.«01_k».proof.Proof.Ffn.Block
public import proofs.«01_k».proof.Proof.Ffn.Spec

@[expose] public section

set_option maxRecDepth 16384

noncomputable section

namespace Ffn

open Idealize.ShloMosaic Idealize.ShloMosaic.TcCoe Idealize.SL.Sem
open Cert.FfnIdeal Cert.FfnIdeal.Gen

variable (i : grid0.Coords) (x0 : Vec Ideal S256x1024 .bf16) (x1 : Vec Ideal S16x1024 .bf16) (x2 : Vec Ideal S256x1024 .f32)
  (x3 : Vec Ideal S2x1024x2816 .bf16) (x4 : Vec Ideal S8x2816 .f32) (x5 : Vec Ideal S1x2816 .f32) (x6 : Vec Ideal S2816x1024 .bf16)
  (x7 : Vec Ideal S1x1024 .f32) (x8 : Vec Ideal S256x1024 .f32)

/-- One half of the up projection's weights. -/
theorem half0_apply (d : Fin 1024) (f : Fin 2816) :
    shapeCast S1024x2816 (View.ld (Val := Elt Ideal) (e' := .bf16) x3 (Rect.unit ![0, 0, 0] ![1, 1024, 2816] inb_S2x1024x2816_S1x1024x2816_0_0_0))
      shapeCasts_S1x1024x2816_S1024x2816 (ix2 d f) = x3 (ix3 0 d f) := by
  refine (shapeCast_dropUnit_apply ![1024, 2816] _ _ (ix2 d f)).trans ?_
  rw [View.ld_unit_apply_of]
  intro a
  fin_cases a <;> simp [ix3, ix2] <;> rfl

theorem half1_apply (d : Fin 1024) (f : Fin 2816) :
    shapeCast S1024x2816 (View.ld (Val := Elt Ideal) (e' := .bf16) x3 (Rect.unit ![1, 0, 0] ![1, 1024, 2816] inb_S2x1024x2816_S1x1024x2816_1_0_0))
      shapeCasts_S1x1024x2816_S1024x2816 (ix2 d f) = x3 (ix3 1 d f) := by
  refine (shapeCast_dropUnit_apply ![1024, 2816] _ _ (ix2 d f)).trans ?_
  rw [View.ld_unit_apply_of]
  intro a
  fin_cases a <;> simp [ix3, ix2] <;> rfl

/-- The activation half of the up projection at an entry. -/
theorem actB_apply (r : Fin 256) (f : Fin 2816) : actB x0 x3 (ix2 r f) = ∑ d : Fin 1024, x0 (ix2 r d) * x3 (ix3 0 d f) := by
  unfold actB k0_pay3
  simp only [← half0_apply]
  generalize shapeCast S1024x2816 _ _ = Z
  pointwise [k0_pay2]

/-- The gate half. -/
theorem gateB_apply (r : Fin 256) (f : Fin 2816) : gateB x0 x3 (ix2 r f) = ∑ d : Fin 1024, x0 (ix2 r d) * x3 (ix3 1 d f) := by
  unfold gateB k0_pay4
  simp only [← half1_apply]
  generalize shapeCast S1024x2816 _ _ = Z
  pointwise [k0_pay2]

/-- The halo rows as stored: zero at the first block of a sequence. -/
theorem halo_apply (r : Fin 8) (f : Fin 2816) :
    k0_pay6 (k0_pay5 i x1 (View.ld x3 (Rect.unit ![0, 0, 0] ![1, 1024, 2816] inb_S2x1024x2816_S1x1024x2816_0_0_0))) (ix2 r f)
      = if (i 0).val % 8 = 0 then (0 : EReal) else ∑ d : Fin 1024, x1 (ix2 ⟨r + 8, by omega⟩ d) * x3 (ix3 0 d f) := by
  have key : ∀ n : Fin 16, (Scalar.cmpi .eq (Scalar.select (Scalar.andi (Scalar.xori (Scalar.cmpi .slt (Scalar.remsi (BitVec.ofNat 32 n.val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 n.val) (Scalar.select (Scalar.cmpi .eq 8#32 0#32) 1#32 8#32)) 0#32)) (Scalar.addi (Scalar.remsi (BitVec.ofNat 32 n.val) (Scalar.select (Scalar.cmpi .eq 8#32 0#32) 1#32 8#32)) (Scalar.select (Scalar.cmpi .eq 8#32 0#32) 1#32 8#32)) (Scalar.remsi (BitVec.ofNat 32 n.val) (Scalar.select (Scalar.cmpi .eq 8#32 0#32) 1#32 8#32))) 0#32)
      = if n.val % 8 = 0 then 1#1 else 0#1 := by decide +kernel
  unfold k0_pay6 k0_pay5
  dsimp only
  rw [key (i 0)]
  simp only [← half0_apply]
  generalize shapeCast S1024x2816 _ _ = Z
  split
  · pointwise
  · pointwise
    refine Finset.sum_congr rfl fun d _ => ?_
    congr 2
    exact congrArg₂ ix2 (Fin.ext (by simp <;> omega)) rfl

/-- Two rows above the block's row `r`. -/
theorem back2_apply (r : Fin 256) (f : Fin 2816) :
    back2 i x0 x1 x3 (ix2 r f) = if h : r.val < 2 then (if (i 0).val % 8 = 0 then (0 : EReal) else
        ∑ d : Fin 1024, x1 (ix2 ⟨r + 14, by omega⟩ d) * x3 (ix3 0 d f))
      else ∑ d : Fin 1024, x0 (ix2 ⟨r.val - 2, by omega⟩ d) * x3 (ix3 0 d f) := by
  unfold back2 stores
  rw [View.readCov_eq_canon']
  refine (congrArg _ (?_ : _ = (ix2 (⟨r + 6, by omega⟩ : Fin 264) f))).trans ((Down.canon_two _ _ _ f).trans ?_)
  · funext a
    fin_cases a <;> exact Fin.ext (by simp [LoadRect.idx, Rect.toLoadRect, ix2] <;> omega)
  · by_cases h : r.val < 2
    · rw [dif_pos (by show r.val + 6 < 8; omega), dif_pos h, halo_apply]
    · rw [dif_neg (by show ¬ r.val + 6 < 8; omega), dif_neg h, ← actB_apply]
      generalize actB x0 x3 = Z
      pointwise [k0_pay7]
      congr 2

/-- One row above the block's row `r`. -/
theorem back1_apply (r : Fin 256) (f : Fin 2816) :
    back1 i x0 x1 x3 (ix2 r f) = if h : r.val < 1 then (if (i 0).val % 8 = 0 then (0 : EReal) else
        ∑ d : Fin 1024, x1 (ix2 ⟨r + 15, by omega⟩ d) * x3 (ix3 0 d f))
      else ∑ d : Fin 1024, x0 (ix2 ⟨r.val - 1, by omega⟩ d) * x3 (ix3 0 d f) := by
  unfold back1 stores
  rw [View.readCov_eq_canon']
  refine (congrArg _ (?_ : _ = (ix2 (⟨r + 7, by omega⟩ : Fin 264) f))).trans ((Down.canon_two _ _ _ f).trans ?_)
  · funext a
    fin_cases a <;> exact Fin.ext (by simp [LoadRect.idx, Rect.toLoadRect, ix2] <;> omega)
  · by_cases h : r.val < 1
    · rw [dif_pos (by show r.val + 7 < 8; omega), dif_pos h, halo_apply]
    · rw [dif_neg (by show ¬ r.val + 7 < 8; omega), dif_neg h, ← actB_apply]
      generalize actB x0 x3 = Z
      pointwise [k0_pay7]
      congr 2

/-- The convolution of the block at an entry. -/
def convAt (r : Fin 256) (f : Fin 2816) : EReal :=
  x5 (ix2 0 f) + x4 (ix2 0 f) * back2 i x0 x1 x3 (ix2 r f) + x4 (ix2 1 f) * back1 i x0 x1 x3 (ix2 r f) + x4 (ix2 2 f) * actB x0 x3 (ix2 r f)

/-- The gated activation of the block at an entry. -/
def gAt (r : Fin 256) (f : Fin 2816) : EReal :=
  convAt i x0 x1 x3 x4 x5 r f * Ideal.logistic (convAt i x0 x1 x3 x4 x5 r f) * gateB x0 x3 (ix2 r f)

/-- The gated activation, rounded. -/
def gB : Vec Ideal S256x2816 .bf16 :=
  k0_pay12 (convB i x0 x1 x3 x4 x5) (k0_pay11 (View.ld x4 (Rect.unit ![1, 0] ![1, 2816] inb_S8x2816_S1x2816_1_0)))
    (k0_pay9 (back1 i x0 x1 x3)) (View.ld x4 (Rect.unit ![2, 0] ![1, 2816] inb_S8x2816_S1x2816_2_0)) (k0_pay7 (actB x0 x3)) (gateB x0 x3)

theorem gB_apply (r : Fin 256) (f : Fin 2816) : gB i x0 x1 x3 x4 x5 (ix2 r f) = gAt i x0 x1 x3 x4 x5 r f := by
  unfold gB gAt convAt convB
  generalize back2 i x0 x1 x3 = b2
  generalize back1 i x0 x1 x3 = b1
  generalize actB x0 x3 = b0
  generalize gateB x0 x3 = b3
  pointwise [k0_pay12, k0_pay11, k0_pay10, k0_pay9, k0_pay8, k0_pay7]

/-- The saved block at an entry. -/
theorem savedB_apply (f : Fin 2816) (r : Fin 256) : savedB i x0 x1 x3 x4 x5 (ix3 0 f r) = gAt i x0 x1 x3 x4 x5 r f := by
  rw [← gB_apply]
  show k0_pay13 _ _ _ _ _ _ (ix3 0 f r) = _
  unfold k0_pay13
  dsimp only
  show shapeCast S1x2816x256 (transpose S2816x256 [1, 0] (gB i x0 x1 x3 x4 x5) transposes_S256x2816_p1_0_S2816x256) _ (ix3 0 f r) = _
  generalize gB i x0 x1 x3 x4 x5 = Z
  pointwise

/-- The residual stream behind the block at an entry. -/
theorem sumB_apply (r : Fin 256) (d : Fin 1024) :
    sumB i x0 x1 x2 x3 x4 x5 x6 (ix2 r d) = x2 (ix2 r d) + ∑ f : Fin 2816, gAt i x0 x1 x3 x4 x5 r f * x6 (ix2 f d) := by
  simp only [← gB_apply]
  unfold sumB k0_pay14
  show addf x2 (matmul (F := Ideal) (φ₁ := .bf16) (φ₂ := .bf16) dot_S256x2816_S2816x1024_S256x1024_1_0_0_1_n_n none (gB i x0 x1 x3 x4 x5) _ _) (ix2 r d) = _
  generalize gB i x0 x1 x3 x4 x5 = Z
  pointwise

/-- The reciprocal root of its mean square at a row. -/
theorem rB_apply (r : Fin 256) :
    rB i x0 x1 x2 x3 x4 x5 x6 (ix2 r 0) = Ideal.rsqrt (Ideal.div (∑ d : Fin 1024, sumB i x0 x1 x2 x3 x4 x5 x6 (ix2 r d) * sumB i x0 x1 x2 x3 x4 x5 x6 (ix2 r d))
      ((1024 : ℝ) : EReal) + eps) := by
  rw [← c_1024]
  unfold rB k0_pay15
  dsimp only
  show rsqrt (addf (divf (shapeCast S256x1 (multiReduction (F := Ideal) .add [1] S256 (mulf (sumB i x0 x1 x2 x3 x4 x5 x6) (sumB i x0 x1 x2 x3 x4 x5 x6)) 0x00000000#32 _ _ _) _) _) _) (ix2 r 0) = _
  generalize sumB i x0 x1 x2 x3 x4 x5 x6 = Z
  pointwise
  rfl

/-- The normalised rows at an entry. -/
theorem xhB_apply (r : Fin 256) (d : Fin 1024) :
    xhB i x0 x1 x2 x3 x4 x5 x6 (ix2 r d) = sumB i x0 x1 x2 x3 x4 x5 x6 (ix2 r d) * rB i x0 x1 x2 x3 x4 x5 x6 (ix2 r 0) := by
  unfold xhB k0_pay16
  show mulf (sumB i x0 x1 x2 x3 x4 x5 x6) (broadcastTo S256x1024 (rB i x0 x1 x2 x3 x4 x5 x6) _) (ix2 r d) = _
  generalize sumB i x0 x1 x2 x3 x4 x5 x6 = Z
  generalize rB i x0 x1 x2 x3 x4 x5 x6 = Y
  pointwise

/-- The final norm's output at an entry. -/
theorem yB_apply (r : Fin 256) (d : Fin 1024) :
    yB i x0 x1 x2 x3 x4 x5 x6 x7 (ix2 r d) = xhB i x0 x1 x2 x3 x4 x5 x6 (ix2 r d) * x7 (ix2 0 d) := by
  unfold yB k0_pay17
  show mulf (xhB i x0 x1 x2 x3 x4 x5 x6) _ (ix2 r d) = _
  generalize xhB i x0 x1 x2 x3 x4 x5 x6 = Z
  pointwise

section
variable (R : Vec Ideal S256x1 .f32) (X Y : Vec Ideal S256x1024 .f32)

/-- The gradient of the final norm's output at an entry. -/
theorem pay20_apply (r : Fin 256) (d : Fin 1024) : k0_pay20 Y x8 (ix2 r d) = (Y (ix2 r d) - x8 (ix2 r d)) * ((1 / 1024 : ℝ) : EReal) := by
  rw [← c_inv]
  pointwise [k0_pay20, k0_pay18]

theorem pay19_apply (d : Fin 1024) :
    k0_pay19 Y x8 (ix2 0 d) = ((1 / 2048 : ℝ) : EReal) * ∑ r : Fin 256, (Y (ix2 r d) - x8 (ix2 r d)) * (Y (ix2 r d) - x8 (ix2 r d)) := by
  rw [← c_loss]
  pointwise [k0_pay19, k0_pay18]

theorem pay22_apply (d : Fin 1024) :
    k0_pay22 X Y x8 (ix2 0 d) = ∑ r : Fin 256, k0_pay20 Y x8 (ix2 r d) * X (ix2 r d) := by
  unfold k0_pay22
  dsimp only
  generalize k0_pay20 Y x8 = Z
  pointwise

theorem pay21_apply (r : Fin 256) (d : Fin 1024) :
    k0_pay21 R X Y x8 x7 (ix2 r d) = R (ix2 r 0) * (k0_pay20 Y x8 (ix2 r d) * x7 (ix2 0 d)
      - X (ix2 r d) * Ideal.div (∑ e : Fin 1024, k0_pay20 Y x8 (ix2 r e) * x7 (ix2 0 e) * X (ix2 r e)) ((1024 : ℝ) : EReal)) := by
  rw [← c_1024]
  unfold k0_pay21
  dsimp only
  generalize k0_pay20 Y x8 = Z
  pointwise

end

/-- The loss added to what was there, at an entry. -/
theorem lossAddB_apply (y : Vec Ideal S1x1024 .f32) (d : Fin 1024) :
    lossAddB i x0 x1 x2 x3 x4 x5 x6 x7 x8 y (ix2 0 d) = y (ix2 0 d) + lossB i x0 x1 x2 x3 x4 x5 x6 x7 x8 (ix2 0 d) := by
  unfold lossAddB lossB k0_pay24
  exact congrArg (· + _) (by pointwise : shapeCast S1x1024 y shapeCasts_S1x1024_S1x1024 (ix2 0 d) = y (ix2 0 d))

/-- The final norm's gradient added to what was there, at an entry. -/
theorem dnAddB_apply (y : Vec Ideal S1x1024 .f32) (d : Fin 1024) :
    dnAddB i x0 x1 x2 x3 x4 x5 x6 x7 x8 y (ix2 0 d) = y (ix2 0 d) + dnB i x0 x1 x2 x3 x4 x5 x6 x7 x8 (ix2 0 d) := by
  unfold dnAddB k0_pay1
  exact congrArg (· + _) (by pointwise : shapeCast S1x1024 y shapeCasts_S1x1024_S1x1024 (ix2 0 d) = y (ix2 0 d))

/-- The block of the up projection at an entry of its left half. -/
theorem upB_left (r : Fin 256) (f : Fin 2816) : upB x0 x3 (ix2 r ⟨f, by omega⟩) = actB x0 x3 (ix2 r f) := by
  unfold upB
  rw [View.canon_cons_of_not_mem]
  · refine (congrArg _ ?_).trans (View.canon_cons_emb (Val := Elt Ideal) (e := .f32) (Rect.unit (s := S256x5632) ![0, 0] S256x2816.size inb_S256x5632_S256x2816_0_0) _ [] (ix2 r f))
    funext a
    fin_cases a <;> exact Fin.ext (by simp [Rect.emb, LoadRect.idx, Rect.toLoadRect, Rect.unit, ix2])
  · dsimp only
    rw [Rect.mem_set_unit]
    intro h'
    have := (h' 1).1
    simp [ix2] at this
    omega

/-- At one of its right half. -/
theorem upB_right (r : Fin 256) (f : Fin 2816) : upB x0 x3 (ix2 r ⟨2816 + f, by omega⟩) = gateB x0 x3 (ix2 r f) := by
  unfold upB
  refine (congrArg _ ?_).trans (View.canon_cons_emb (Val := Elt Ideal) (e := .f32) (Rect.unit (s := S256x5632) ![0, 2816] S256x2816.size inb_S256x5632_S256x2816_0_2816) _ _ (ix2 r f))
  funext a
  fin_cases a <;> exact Fin.ext (by simp [Rect.emb, LoadRect.idx, Rect.toLoadRect, Rect.unit, ix2])

end Ffn

end
-- ==== Proof.Ffn.Blocks.lean ====
/- The blocks of the last ConvFFN's forward kernel are the rows of its function. -/
module

public import proofs.«01_k».proof.Proof.Ffn.BlockAt
public import proofs.«01_k».proof.Proof.Gen.FfnIdeal.Value

@[expose] public section

set_option maxRecDepth 16384

noncomputable section

namespace Ffn

open Idealize.ShloMosaic Idealize.ShloMosaic.TcCoe Idealize.SL.Sem
open Cert.FfnIdeal Cert.FfnIdeal.Gen

variable (m : (ℓ : Loc nD τ sig) → Buf (Elt Ideal) ℓ) (c : Dev nD)

/-- The arguments as the kernel's memory holds them. -/
def argsK : Args where
  h := m ((c : Thread nD τ).loc main_arg0)
  x := m ((c : Thread nD τ).loc main_arg1)
  wu := m ((c : Thread nD τ).loc main_arg2)
  w := m ((c : Thread nD τ).loc main_arg3)
  b := m ((c : Thread nD τ).loc main_arg4)
  wd := m ((c : Thread nD τ).loc main_arg5)
  n := m ((c : Thread nD τ).loc main_arg6)
  tg := m ((c : Thread nD τ).loc main_arg7)

theorem idx0 : ∀ t : Fin cfg0.N, win0_0.index t = ![t.val, 0] := (by decide +kernel : ∀ t : Fin grid0.N, win0_0.index t = ![t.val, 0])
theorem idx1 : ∀ t : Fin cfg0.N, win0_1.index t = ![t.val * 16 - 1, 0] :=
  (by decide +kernel : ∀ t : Fin grid0.N, win0_1.index t = ![t.val * 16 - 1, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![t.val, 0] := (by decide +kernel : ∀ t : Fin grid0.N, win0_8.index t = ![t.val, 0])
theorem coords0 : ∀ t : Fin cfg0.N, (grid0.coords t 0).val = t.val := (by decide +kernel : ∀ t : Fin grid0.N, (grid0.coords t 0).val = t.val)
theorem pt_lt : ∀ t : Fin cfg0.N, t.val < 16 := (by decide +kernel : ∀ t : Fin grid0.N, t.val < 16)

variable (t : Fin cfg0.N)

/-- Row `r` of block `t`. -/
abbrev row (r : Fin 256) : Fin 4096 := ⟨t.val * 256 + r.val, by have := pt_lt t; omega⟩

theorem read0 (r : Fin 256) (d : Fin 1024) : iblk m c 0 t (ix2 r d) = (argsK m c).h (ix2 (row t r) d) := by
  unfold argsK
  have e : ((cfg0.win 0).blk t).view.emb (ix2 r d) = (ix2 (row t r) d : S4096x1024.Idx) := by blk_ext [idx0 t]
  show V m c main_v4 (((cfg0.win 0).blk t).view.emb (ix2 r d)) = _
  rw [e]
  simp only [V, hostOps0, hostOps0_1, hostOps0_2, List.flatten_cons, List.flatten_nil, List.cons_append, List.nil_append]
  entry_read
  rfl

theorem read1 (r : Fin 16) (d : Fin 1024) (h : t.val ≠ 0) :
    iblk m c 1 t (ix2 r d) = (argsK m c).h (ix2 ⟨t.val * 256 - 16 + r.val, by have := pt_lt t; omega⟩ d) := by
  unfold argsK
  have e : ((cfg0.win 1).blk t).view.emb (ix2 r d) = (ix2 ⟨t.val * 256 - 16 + r.val, by have := pt_lt t; omega⟩ d : S4096x1024.Idx) := by
    blk_ext [idx1 t]
  show V m c main_v4 (((cfg0.win 1).blk t).view.emb (ix2 r d)) = _
  rw [e]
  simp only [V, hostOps0, hostOps0_1, hostOps0_2, List.flatten_cons, List.flatten_nil, List.cons_append, List.nil_append]
  entry_read
  rfl

theorem read2 (r : Fin 256) (d : Fin 1024) : iblk m c 2 t (ix2 r d) = (argsK m c).x (ix2 (row t r) d) := by
  unfold argsK
  blk_ext [iblk, V, idx2 t]

/-- One half of the up projection's weights, of the two halves laid one above the other. -/
theorem halves (x : Vec Ideal S1024x5632 .bf16) (k : Fin 2) (d : Fin 1024) (f : Fin 2816) :
    transpose S2x1024x2816 [1, 0, 2] (shapeCast S1024x2x2816 x shapeCasts_S1024x5632_S1024x2x2816) transposes_S1024x2x2816_S2x1024x2816_1_0_2 (ix3 k d f)
      = x (ix2 d ⟨k.val * 2816 + f.val, by omega⟩) := by
  pointwise

theorem read3 (k : Fin 2) (d : Fin 1024) (f : Fin 2816) :
    iblk m c 3 t (ix3 k d f) = (argsK m c).wu (ix2 d ⟨k.val * 2816 + f.val, by omega⟩) := by
  unfold argsK
  have e : ((cfg0.win 3).blk t).view.emb (ix3 k d f) = (ix3 k d f : S2x1024x2816.Idx) := by blk_ext [idx3 t]
  show V m c main_v2 (((cfg0.win 3).blk t).view.emb (ix3 k d f)) = _
  rw [e]
  simp only [V, hostOps0, hostOps0_1, hostOps0_2, List.flatten_cons, List.flatten_nil, List.cons_append, List.nil_append]
  entry_read
  exact halves _ k d f

/-- The taps' rows of the taps padded to eight rows. -/
theorem pad_top (x : Vec Ideal S3x2816 .f32) (v : Vec Ideal S_ .f32) (r : Fin 3) (d : Fin 2816) :
    pad S8x2816 ![0, 0] ![5, 0] ![0, 0] x v pads_S3x2816_S8x2816_050_000 h_S_ (ix2 ⟨r, by omega⟩ d) = x (ix2 r d) := by
  pointwise

theorem read4 (r : Fin 3) (d : Fin 2816) : iblk m c 4 t (ix2 ⟨r, by omega⟩ d) = (argsK m c).w (ix2 r d) := by
  unfold argsK
  have e : ((cfg0.win 4).blk t).view.emb (ix2 ⟨r, by omega⟩ d) = (ix2 ⟨r, by omega⟩ d : S8x2816.Idx) := by blk_ext [idx4 t]
  show V m c main_v3 (((cfg0.win 4).blk t).view.emb (ix2 ⟨r, by omega⟩ d)) = _
  rw [e]
  simp only [V, hostOps0, hostOps0_1, hostOps0_2, List.flatten_cons, List.flatten_nil, List.cons_append, List.nil_append]
  entry_read
  exact pad_top _ _ r d

theorem read5 (d : Fin 2816) : iblk m c 5 t (ix2 0 d) = (argsK m c).b (ix2 0 d) := by
  unfold argsK
  blk_ext [iblk, V, idx5 t]

theorem read6 (f : Fin 2816) (d : Fin 1024) : iblk m c 6 t (ix2 f d) = (argsK m c).wd (ix2 f d) := by
  unfold argsK
  have e : ((cfg0.win 6).blk t).view.emb (ix2 f d) = (ix2 f d : S2816x1024.Idx) := by blk_ext [idx6 t]
  show V m c main_v5 (((cfg0.win 6).blk t).view.emb (ix2 f d)) = _
  rw [e]
  simp only [V, hostOps0, hostOps0_1, hostOps0_2, List.flatten_cons, List.flatten_nil, List.cons_append, List.nil_append]
  entry_read
  rfl

/-- The weight as one row. -/
theorem one_row (x : Vec Ideal S1024 .f32) (d : Fin 1024) : shapeCast S1x1024 x shapeCasts_S1024_S1x1024 (ix2 0 d) = x (ix1 d) := by
  pointwise

theorem read7 (d : Fin 1024) : iblk m c 7 t (ix2 0 d) = (argsK m c).n (ix1 d) := by
  unfold argsK
  have e : ((cfg0.win 7).blk t).view.emb (ix2 0 d) = (ix2 0 d : S1x1024.Idx) := by blk_ext [idx7 t]
  show V m c main_v6 (((cfg0.win 7).blk t).view.emb (ix2 0 d)) = _
  rw [e]
  simp only [V, hostOps0, hostOps0_1, hostOps0_2, List.flatten_cons, List.flatten_nil, List.cons_append, List.nil_append]
  entry_read
  exact one_row _ d

theorem read8 (r : Fin 256) (d : Fin 1024) : iblk m c 8 t (ix2 r d) = (argsK m c).tg (ix2 (row t r) d) := by
  unfold argsK
  blk_ext [iblk, V, idx8 t]

/-- The two halves of the up projection. -/
theorem act_blk (r : Fin 256) (f : Fin 2816) :
    actB (iblk m c 0 t) (iblk m c 3 t) (ix2 r f) = up (argsK m c) (row t r) ⟨f, by omega⟩ := by
  rw [actB_apply]
  refine Finset.sum_congr rfl fun d _ => ?_
  rw [read0, read3]
  exact congrArg _ (congrArg _ (congrArg₂ ix2 rfl (Fin.ext (by show 0 * 2816 + f.val = f.val; omega))))

theorem gate_blk (r : Fin 256) (f : Fin 2816) :
    gateB (iblk m c 0 t) (iblk m c 3 t) (ix2 r f) = up (argsK m c) (row t r) ⟨2816 + f, by omega⟩ := by
  rw [gateB_apply]
  refine Finset.sum_congr rfl fun d _ => ?_
  rw [read0, read3]
  exact congrArg _ (congrArg _ (congrArg₂ ix2 rfl (Fin.ext (by show 1 * 2816 + f.val = 2816 + f.val; omega))))

/-- A product of a row of `h` and a column of the activation half. -/
theorem up_at (r r' : Fin 4096) (f : Fin 2816) (e : r = r') :
    (∑ d : Fin 1024, HMul.hMul (α := EReal) (β := EReal) ((argsK m c).h (ix2 r d)) (iblk m c 3 t (ix3 0 d f)))
      = (mid (argsK m c)).up (ix2 r' ⟨f, by omega⟩) := by
  subst e
  show _ = ∑ d : Fin 1024, (argsK m c).h (ix2 r d) * (argsK m c).wu (ix2 d ⟨f, by omega⟩)
  refine Finset.sum_congr rfl fun d _ => ?_
  rw [read3]
  exact congrArg _ (congrArg _ (congrArg₂ ix2 rfl (Fin.ext (by show 0 * 2816 + f.val = f.val; omega))))

/-- One row above. -/
theorem back1_blk (r : Fin 256) (f : Fin 2816) :
    back1 (grid0.coords t) (iblk m c 0 t) (iblk m c 1 t) (iblk m c 3 t) (ix2 r f) = Down.tap (mid (argsK m c)) 1 (row t r) f := by
  have ht := pt_lt t
  rw [back1_apply, coords0 t]
  unfold Down.tap Down.act
  by_cases h : r.val < 1
  · rw [dif_pos h]
    by_cases h8 : t.val % 8 = 0
    · rw [if_pos h8, dif_pos (by show (t.val * 256 + r.val) % 2048 + 1 < 2; omega)]
    · rw [if_neg h8, dif_neg (by show ¬ (t.val * 256 + r.val) % 2048 + 1 < 2; omega)]
      simp only [read1 m c t _ _ (show t.val ≠ 0 by omega)]
      exact up_at m c t _ _ f (Fin.ext (by show t.val * 256 - 16 + (r.val + 15) = t.val * 256 + r.val + 1 - 2; omega))
  · rw [dif_neg h, dif_neg (by show ¬ (t.val * 256 + r.val) % 2048 + 1 < 2; omega)]
    simp only [read0]
    exact up_at m c t _ _ f (Fin.ext (by show t.val * 256 + (r.val - 1) = t.val * 256 + r.val + 1 - 2; omega))

/-- Two rows above. -/
theorem back2_blk (r : Fin 256) (f : Fin 2816) :
    back2 (grid0.coords t) (iblk m c 0 t) (iblk m c 1 t) (iblk m c 3 t) (ix2 r f) = Down.tap (mid (argsK m c)) 0 (row t r) f := by
  have ht := pt_lt t
  rw [back2_apply, coords0 t]
  unfold Down.tap Down.act
  by_cases h : r.val < 2
  · rw [dif_pos h]
    by_cases h8 : t.val % 8 = 0
    · rw [if_pos h8, dif_pos (by show (t.val * 256 + r.val) % 2048 + 0 < 2; omega)]
    · rw [if_neg h8, dif_neg (by show ¬ (t.val * 256 + r.val) % 2048 + 0 < 2; omega)]
      simp only [read1 m c t _ _ (show t.val ≠ 0 by omega)]
      exact up_at m c t _ _ f (Fin.ext (by show t.val * 256 - 16 + (r.val + 14) = t.val * 256 + r.val + 0 - 2; omega))
  · rw [dif_neg h, dif_neg (by show ¬ (t.val * 256 + r.val) % 2048 + 0 < 2; omega)]
    simp only [read0]
    exact up_at m c t _ _ f (Fin.ext (by show t.val * 256 + (r.val - 2) = t.val * 256 + r.val + 0 - 2; omega))

/-- The block's own row. -/
theorem back0_blk (r : Fin 256) (f : Fin 2816) :
    actB (iblk m c 0 t) (iblk m c 3 t) (ix2 r f) = Down.tap (mid (argsK m c)) 2 (row t r) f := by
  rw [act_blk]
  unfold Down.tap Down.act
  rw [dif_neg (by show ¬ _ % 2048 + 2 < 2; omega)]
  rfl

/-- The block's convolution is the convolution's rows. -/
theorem conv_blk (r : Fin 256) (f : Fin 2816) :
    convAt (grid0.coords t) (iblk m c 0 t) (iblk m c 1 t) (iblk m c 3 t) (iblk m c 4 t) (iblk m c 5 t) r f = Down.conv (mid (argsK m c)) (row t r) f := by
  unfold convAt
  rw [back2_blk, back1_blk, back0_blk, read5]
  unfold Down.conv
  show _ = (argsK m c).b (ix2 0 f) + (argsK m c).w (ix2 0 f) * _ + (argsK m c).w (ix2 1 f) * _ + (argsK m c).w (ix2 2 f) * _
  rw [← read4 m c t 0, ← read4 m c t 1, ← read4 m c t 2]
  rfl

/-- The block's gated activation is its rows. -/
theorem g_blk (r : Fin 256) (f : Fin 2816) :
    gAt (grid0.coords t) (iblk m c 0 t) (iblk m c 1 t) (iblk m c 3 t) (iblk m c 4 t) (iblk m c 5 t) r f = g (argsK m c) (row t r) f := by
  unfold gAt g
  rw [conv_blk, gate_blk]

theorem sum_blk (r : Fin 256) (d : Fin 1024) :
    sumB (grid0.coords t) (iblk m c 0 t) (iblk m c 1 t) (iblk m c 2 t) (iblk m c 3 t) (iblk m c 4 t) (iblk m c 5 t) (iblk m c 6 t) (ix2 r d)
      = xo (argsK m c) (row t r) d := by
  rw [sumB_apply]
  simp only [g_blk, read2, read6]
  rfl

theorem r_blk (r : Fin 256) :
    rB (grid0.coords t) (iblk m c 0 t) (iblk m c 1 t) (iblk m c 2 t) (iblk m c 3 t) (iblk m c 4 t) (iblk m c 5 t) (iblk m c 6 t) (ix2 r 0)
      = rr (argsK m c) (row t r) := by
  rw [rB_apply]
  simp only [sum_blk]
  rfl

theorem xh_blk (r : Fin 256) (d : Fin 1024) :
    xhB (grid0.coords t) (iblk m c 0 t) (iblk m c 1 t) (iblk m c 2 t) (iblk m c 3 t) (iblk m c 4 t) (iblk m c 5 t) (iblk m c 6 t) (ix2 r d)
      = xh (argsK m c) (row t r) d := by
  rw [xhB_apply, sum_blk, r_blk]
  rfl

theorem y_blk (r : Fin 256) (d : Fin 1024) :
    yB (grid0.coords t) (iblk m c 0 t) (iblk m c 1 t) (iblk m c 2 t) (iblk m c 3 t) (iblk m c 4 t) (iblk m c 5 t) (iblk m c 6 t) (iblk m c 7 t) (ix2 r d)
      = xh (argsK m c) (row t r) d * (argsK m c).n (ix1 d) := by
  rw [yB_apply, xh_blk, read7]

theorem dy_blk (r : Fin 256) (d : Fin 1024) :
    k0_pay20 (yB (grid0.coords t) (iblk m c 0 t) (iblk m c 1 t) (iblk m c 2 t) (iblk m c 3 t) (iblk m c 4 t) (iblk m c 5 t) (iblk m c 6 t) (iblk m c 7 t)) (iblk m c 8 t) (ix2 r d)
      = dy (argsK m c) (row t r) d := by
  rw [pay20_apply, read8, y_blk]
  rfl

/-- The block of the residual stream's gradient is its rows. -/
theorem dx_blk (r : Fin 256) (d : Fin 1024) : at_ m c t dxB (ix2 r d) = dx (argsK m c) (row t r) d := by
  unfold at_ dxB
  rw [pay21_apply, r_blk, xh_blk]
  simp only [dy_blk m c t, xh_blk, read7]
  rfl

theorem dxr_blk (r : Fin 256) (d : Fin 1024) : at_ m c t dxrB (ix2 r d) = dx (argsK m c) (row t r) d := dx_blk m c t r d

/-- A nonnegative real factor goes into a sum. -/
theorem mul_sum_of_nonneg {n : ℕ} (x : ℝ) (hx : 0 ≤ x) (f : Fin n → EReal) : (x : EReal) * ∑ i, f i = ∑ i, (x : EReal) * f i := by
  induction n with
  | zero => simp
  | succ n ih => rw [Fin.sum_univ_succ, Fin.sum_univ_succ, ← ih,
      EReal.left_distrib_of_nonneg_of_ne_top (by exact_mod_cast hx) (EReal.coe_ne_top _)]

/-- The block's part of the loss. -/
theorem loss_blk (d : Fin 1024) :
    at_ m c t lossB (ix2 0 d) = ∑ r : Fin 256, ((1 / 2048 : ℝ) : EReal) * (diff (argsK m c) (row t r) d * diff (argsK m c) (row t r) d) := by
  unfold at_ lossB
  rw [pay19_apply, mul_sum_of_nonneg _ (by norm_num)]
  simp only [y_blk, read8]
  rfl

/-- The block's part of the final norm's gradient. -/
theorem dn_blk (d : Fin 1024) :
    at_ m c t dnB (ix2 0 d) = ∑ r : Fin 256, dy (argsK m c) (row t r) d * xh (argsK m c) (row t r) d := by
  unfold at_ dnB
  rw [pay22_apply]
  simp only [dy_blk m c t, xh_blk]

end Ffn

end
-- ==== Proof.Ffn.Array.lean ====
/- The arrays the last ConvFFN's forward kernel leaves, entry by entry. -/
module

public import proofs.«01_k».proof.Proof.Ffn.Blocks

@[expose] public section

set_option maxRecDepth 16384

noncomputable section

namespace Ffn

open Idealize.ShloMosaic Idealize.ShloMosaic.TcCoe Idealize.SL.Sem
open Cert.FfnIdeal Cert.FfnIdeal.Gen

variable (m : (ℓ : Loc nD τ sig) → Buf (Elt Ideal) ℓ) (c : Dev nD) (t : Fin cfg0.N)

theorem idx9 : ∀ t : Fin cfg0.N, win0_9.index t = ![t.val, 0] := (by decide +kernel : ∀ t : Fin grid0.N, win0_9.index t = ![t.val, 0])
theorem idx10 : ∀ t : Fin cfg0.N, win0_10.index t = ![t.val, 0, 0] := (by decide +kernel : ∀ t : Fin grid0.N, win0_10.index t = ![t.val, 0, 0])
theorem idx11 : ∀ t : Fin cfg0.N, win0_11.index t = ![t.val, 0] := (by decide +kernel : ∀ t : Fin grid0.N, win0_11.index t = ![t.val, 0])
theorem idx12 : ∀ t : Fin cfg0.N, win0_12.index t = ![t.val, 0] := (by decide +kernel : ∀ t : Fin grid0.N, win0_12.index t = ![t.val, 0])

theorem emb9 (r : Fin 256) (f : Fin 5632) : ((cfg0.win 9).blk t).view.emb (ix2 r f) = (ix2 (row t r) f : S4096x5632.Idx) := by
  blk_ext [idx9 t]

theorem emb10 (f : Fin 2816) (r : Fin 256) :
    ((cfg0.win 10).blk t).view.emb (ix3 0 f r) = (ix3 (⟨t.val, pt_lt t⟩ : Fin 16) f r : S16x2816x256.Idx) := by
  blk_ext [idx10 t]

theorem emb11 (r : Fin 256) (d : Fin 1024) : ((cfg0.win 11).blk t).view.emb (ix2 r d) = (ix2 (row t r) d : S4096x1024.Idx) := by
  blk_ext [idx11 t]

theorem emb12 (r : Fin 256) (d : Fin 1024) : ((cfg0.win 12).blk t).view.emb (ix2 r d) = (ix2 (row t r) d : S4096x1024.Idx) := by
  blk_ext [idx12 t]

/-- Any point leaves its own blocks in the four row-blocked results. -/
theorem outs_rows :
    (outsAt0 m c t.val t.isLt).1 = upB (iblk m c 0 t) (iblk m c 3 t)
    ∧ (outsAt0 m c t.val t.isLt).2.1
      = savedB (grid0.coords t) (iblk m c 0 t) (iblk m c 1 t) (iblk m c 3 t) (iblk m c 4 t) (iblk m c 5 t)
    ∧ (outsAt0 m c t.val t.isLt).2.2.1 = at_ m c t dxB
    ∧ (outsAt0 m c t.val t.isLt).2.2.2.1 = at_ m c t dxrB := by
  have := pt_lt t
  by_cases h0 : t.val % 16 = 0
  · rw [outs_first m c t h0 (by omega)]
    dsimp only [at_]
    exact ⟨rfl, rfl, rfl, rfl⟩
  · rw [outs_later m c t h0 (by omega)]
    dsimp only [at_]
    exact ⟨rfl, rfl, rfl, rfl⟩

/-- The block of the up projection is its rows. -/
theorem up_blk (r : Fin 256) (f : Fin 5632) : upB (iblk m c 0 t) (iblk m c 3 t) (ix2 r f) = up (argsK m c) (row t r) f := by
  by_cases h : f.val < 2816
  · exact (upB_left _ _ r ⟨f, h⟩).trans (act_blk m c t r ⟨f, h⟩)
  · have e : f = (⟨2816 + (⟨f.val - 2816, by omega⟩ : Fin 2816).val, by show 2816 + (f.val - 2816) < 5632; omega⟩ : Fin 5632) :=
      Fin.ext (by show f.val = 2816 + (f.val - 2816); omega)
    rw [e]
    exact (upB_right _ _ r _).trans (gate_blk m c t r _)

theorem saved_blk (f : Fin 2816) (r : Fin 256) :
    savedB (grid0.coords t) (iblk m c 0 t) (iblk m c 1 t) (iblk m c 3 t) (iblk m c 4 t) (iblk m c 5 t) (ix3 0 f r)
      = g (argsK m c) (row t r) f := by
  rw [savedB_apply, g_blk]

/-- A row of the arrays lies in some point's block. -/
theorem row_cases (r : Fin 4096) : ∃ (t : Fin cfg0.N) (r' : Fin 256), r = row t r' := by
  have hr : r.val / 256 < cfg0.N := by have := N_0; show _ < grid0.N; omega
  exact ⟨⟨_, hr⟩, ⟨r.val % 256, by omega⟩, Fin.ext (by show r.val = r.val / 256 * 256 + r.val % 256; omega)⟩

/-- The up projection, as the kernel leaves it. -/
theorem arr9 (i : S4096x5632.Idx) : (dats m 0 c).arrAt 9 cfg0.N i = up (argsK m c) (i 0) (i 1) := by
  idx_vars i
  obtain ⟨t, r, rfl⟩ := row_cases i0
  have h := congrFun (Value.blocks9 m c t (flush0_9 t)) (ix2 r i1)
  have hd := up_blk m c t r i1
  rw [Value.flushed9, (outs_rows m c t).1] at h
  generalize upB (iblk m c 0 t) (iblk m c 3 t) = X at h hd
  exact (congrArg _ (emb9 t r i1)).symm.trans (h.trans hd)

/-- The saved activation, as the kernel leaves it: block by block, transposed. -/
theorem arr10 (b : Fin 16) (f : Fin 2816) (r : Fin 256) :
    (dats m 0 c).arrAt 10 cfg0.N (ix3 b f r : S16x2816x256.Idx) = g (argsK m c) ⟨b.val * 256 + r.val, by omega⟩ f := by
  obtain ⟨t, rfl⟩ : ∃ t : Fin cfg0.N, b = ⟨t.val, pt_lt t⟩ := ⟨⟨b.val, by have := N_0; show _ < grid0.N; omega⟩, rfl⟩
  have h := congrFun (Value.blocks10 m c t (flush0_10 t)) (ix3 0 f r)
  have hd := saved_blk m c t f r
  rw [Value.flushed10, (outs_rows m c t).2.1] at h
  generalize savedB (grid0.coords t) (iblk m c 0 t) (iblk m c 1 t) (iblk m c 3 t) (iblk m c 4 t) (iblk m c 5 t) = X at h hd
  exact (congrArg _ (emb10 t f r)).symm.trans (h.trans hd)

/-- The gradient of the residual stream, as the kernel leaves it. -/
theorem arr11 (i : S4096x1024.Idx) : (dats m 0 c).arrAt 11 cfg0.N i = dx (argsK m c) (i 0) (i 1) := by
  idx_vars i
  obtain ⟨t, r, rfl⟩ := row_cases i0
  have h := congrFun (Value.blocks11 m c t (flush0_11 t)) (ix2 r i1)
  have hd := dx_blk m c t r i1
  rw [Value.flushed11, (outs_rows m c t).2.2.1] at h
  generalize at_ m c t dxB = X at h hd
  exact (congrArg _ (emb11 t r i1)).symm.trans (h.trans hd)

/-- The rounded one. -/
theorem arr12 (i : S4096x1024.Idx) : (dats m 0 c).arrAt 12 cfg0.N i = dx (argsK m c) (i 0) (i 1) := by
  idx_vars i
  obtain ⟨t, r, rfl⟩ := row_cases i0
  have h := congrFun (Value.blocks12 m c t (flush0_12 t)) (ix2 r i1)
  have hd := dxr_blk m c t r i1
  rw [Value.flushed12, (outs_rows m c t).2.2.2] at h
  generalize at_ m c t dxrB = X at h hd
  exact (congrArg _ (emb12 t r i1)).symm.trans (h.trans hd)

/-- What the loss accumulator holds after the last point. -/
theorem acc13 (d : Fin 1024) : (outsAt0 m c t0_15.val t0_15.isLt).2.2.2.2.1 (ix2 0 d) = loss (argsK m c) d := by
  rw [Pipeline.eq_sum_fin_of_reset_step_apply_last (ι := S1x1024.Idx) (M := EReal) (N := cfg0.N) (fun n h => (outsAt0 m c n h).2.2.2.2.1) 16 (fun _ => 0)
    (fun t i => at_ m c t lossB i)
    (fun t h i => by rw [outs_first m c t h (by have := pt_lt t; omega), zero_add])
    (fun t h i => by
      rw [outs_later m c t h (by omega)]
      idx_vars i
      obtain rfl : i0 = 0 := Subsingleton.elim _ _
      exact lossAddB_apply ..)
    (by decide +kernel) t0_15 (by decide +kernel) (ix2 0 d), zero_add]
  simp only [loss_blk]
  refine (Fin.sum_points_lanes_congr 16 (A := 1) (L := 4096) (g := fun _ l => ((1 / 2048 : ℝ) : EReal) * (diff (argsK m c) l d * diff (argsK m c) l d)) fun t k _ hl => ?_).trans ?_
  · have := pt_lt t
    exact congrArg (fun l => ((1 / 2048 : ℝ) : EReal) * (diff (argsK m c) l d * diff (argsK m c) l d)) (Fin.ext (by show t.val * 256 + k.val = t.val % 16 * 256 + k.val; omega))
  · rw [Fin.sum_univ_one]
    rfl

/-- So the array at the end. -/
theorem arr13 : (dats m 0 c).arrAt 13 cfg0.N = fun i => loss (argsK m c) (i 1) := by
  refine (dats m 0 c).arrAt_eq_of_after_last 13 t0_15 (by decide +kernel) _ fun j => ?_
  rw [after0_13]
  have h := acc13 m c
  generalize (outsAt0 m c t0_15.val t0_15.isLt).2.2.2.2.1 = X at h ⊢
  blk_simp
  refine (congrArg X ?_).trans (h (j 1))
  funext a
  fin_cases a
  · exact Fin.ext (by have := (j 0).isLt; simp [ix2] <;> omega)
  · rfl

/-- What the accumulator of the final norm's gradient holds after the last point. -/
theorem acc14 (d : Fin 1024) : (outsAt0 m c t0_15.val t0_15.isLt).2.2.2.2.2 (ix2 0 d) = dn (argsK m c) d := by
  rw [Pipeline.eq_sum_fin_of_reset_step_apply_last (ι := S1x1024.Idx) (M := EReal) (N := cfg0.N) (fun n h => (outsAt0 m c n h).2.2.2.2.2) 16 (fun _ => 0)
    (fun t i => at_ m c t dnB i)
    (fun t h i => by rw [outs_first m c t h (by have := pt_lt t; omega), zero_add])
    (fun t h i => by
      rw [outs_later m c t h (by omega)]
      idx_vars i
      obtain rfl : i0 = 0 := Subsingleton.elim _ _
      exact dnAddB_apply ..)
    (by decide +kernel) t0_15 (by decide +kernel) (ix2 0 d), zero_add]
  simp only [dn_blk]
  refine (Fin.sum_points_lanes_congr 16 (A := 1) (L := 4096) (g := fun _ l => dy (argsK m c) l d * xh (argsK m c) l d) fun t k _ hl => ?_).trans ?_
  · have := pt_lt t
    exact congrArg (fun l => dy (argsK m c) l d * xh (argsK m c) l d) (Fin.ext (by show t.val * 256 + k.val = t.val % 16 * 256 + k.val; omega))
  · rw [Fin.sum_univ_one]
    rfl

/-- So the array at the end. -/
theorem arr14 : (dats m 0 c).arrAt 14 cfg0.N = fun i => dn (argsK m c) (i 1) := by
  refine (dats m 0 c).arrAt_eq_of_after_last 14 t0_15 (by decide +kernel) _ fun j => ?_
  rw [after0_14]
  have h := acc14 m c
  generalize (outsAt0 m c t0_15.val t0_15.isLt).2.2.2.2.2 = X at h ⊢
  blk_simp
  refine (congrArg X ?_).trans (h (j 1))
  funext a
  fin_cases a
  · exact Fin.ext (by have := (j 0).isLt; simp [ix2] <;> omega)
  · rfl

end Ffn

end
-- ==== Proof.Ffn.Equal.lean ====
/- The last ConvFFN's results, the kernel's and the reference's, are one function of the arguments. -/
module

public import proofs.«01_k».proof.Defs
public import proofs.«01_k».proof.Proof.Down.Equal
public import proofs.«01_k».proof.Proof.Ffn.Array
public import proofs.«01_k».proof.Proof.Ffn.Ref
public import proofs.«01_k».proof.Proof.Gen.Pre_finite_ffn

@[expose] public section

set_option maxRecDepth 16384

noncomputable section

namespace Ffn

open Idealize.ShloMosaic

attribute [local instance] Cert.Pre_finite_ffn.Gen.facts

/-- The flags the precondition computes from the arguments. -/
abbrev flags (A : Args) := Cert.Pre_finite_ffn.fn (F := Ideal) A.h A.x A.wu A.w A.b A.wd A.n A.tg

/-- Finite arguments are real. -/
theorem real_args (A : Args)
    (h : (flags A).1 = (fun _ => 1#1) ∧ (flags A).2.1 = (fun _ => 1#1) ∧ (flags A).2.2.1 = (fun _ => 1#1)
      ∧ (flags A).2.2.2.1 = (fun _ => 1#1) ∧ (flags A).2.2.2.2.1 = (fun _ => 1#1) ∧ (flags A).2.2.2.2.2.1 = (fun _ => 1#1)
      ∧ (flags A).2.2.2.2.2.2.1 = (fun _ => 1#1) ∧ (flags A).2.2.2.2.2.2.2 = (fun _ => 1#1)) : A.Real := by
  obtain ⟨h0, h1, h2, h3, h4, h5, h6, h7⟩ := h
  exact ⟨Down.real_of_finite _ _ h0, Down.real_of_finite _ _ h1, Down.real_of_finite _ _ h2, Down.real_of_finite _ _ h3,
    Down.real_of_finite _ _ h4, Down.real_of_finite _ _ h5, Down.real_of_finite _ _ h6, Down.real_of_finite _ _ h7⟩

variable (m : (ℓ : Loc Cert.FfnIdeal.nD Cert.FfnIdeal.τ Cert.FfnIdeal.sig) → Buf (Elt Ideal) ℓ) (c : Dev Cert.FfnIdeal.nD)

open Cert.FfnIdeal Cert.FfnIdeal.Gen Cert.FfnRefIdeal.Read

/-- The up projection. -/
theorem eq9 : (dats m 0 c).arrAt 9 cfg0.N = val_main_v93 (F := Ideal) (argsK m c).h (argsK m c).wu := by
  funext i
  rw [arr9]
  idx_vars i
  obtain ⟨b, s, rfl⟩ := Down.row_split i0
  exact (ref_upOut (argsK m c) b s i1).symm

/-- The gated activations the backward pass reads, transposed in blocks of 256 rows. -/
theorem eq10 : (dats m 0 c).arrAt 10 cfg0.N
    = val_main_v92 (F := Ideal) (argsK m c).h (argsK m c).wu (argsK m c).w (argsK m c).b := by
  funext i
  idx_vars i
  exact (arr10 m c i0 i1 i2).trans (ref_saved (argsK m c) i1 i0 i2).symm

/-- The gradient of the loss at the block's output. -/
theorem eq11 (h : (argsK m c).Real) : (dats m 0 c).arrAt 11 cfg0.N
    = val_main_v89 (F := Ideal) (argsK m c).h (argsK m c).x (argsK m c).wu (argsK m c).w (argsK m c).b (argsK m c).wd (argsK m c).n (argsK m c).tg := by
  funext i
  rw [arr11]
  idx_vars i
  obtain ⟨b, s, rfl⟩ := Down.row_split i0
  exact (ref_dx (argsK m c) b s i1 h).symm

/-- The same gradient, rounded for the next product. -/
theorem eq12 (h : (argsK m c).Real) : (dats m 0 c).arrAt 12 cfg0.N
    = val_main_v94 (F := Ideal) (argsK m c).h (argsK m c).x (argsK m c).wu (argsK m c).w (argsK m c).b (argsK m c).wd (argsK m c).n (argsK m c).tg := by
  funext i
  rw [arr12]
  idx_vars i
  obtain ⟨b, s, rfl⟩ := Down.row_split i0
  exact (ref_dx (argsK m c) b s i1 h).symm

/-- The loss, summed over the rows. -/
theorem eq13 (h : (argsK m c).Real) : (dats m 0 c).arrAt 13 cfg0.N
    = val_main_v95 (F := Ideal) (argsK m c).h (argsK m c).x (argsK m c).wu (argsK m c).w (argsK m c).b (argsK m c).wd (argsK m c).n (argsK m c).tg := by
  rw [arr13]
  funext i
  idx_vars i
  obtain rfl : i0 = 0 := Subsingleton.elim _ _
  exact (ref_loss (argsK m c) i1 h).symm

/-- The gradient of the last norm's scale. -/
theorem eq14 : (dats m 0 c).arrAt 14 cfg0.N
    = val_main_v96 (F := Ideal) (argsK m c).h (argsK m c).x (argsK m c).wu (argsK m c).w (argsK m c).b (argsK m c).wd (argsK m c).n (argsK m c).tg := by
  rw [arr14]
  funext i
  idx_vars i
  obtain rfl : i0 = 0 := Subsingleton.elim _ _
  exact (ref_dn (argsK m c) i1).symm

end Ffn

end
-- ==== Proof.Ffn.Claim.lean ====
/- The claims about the last ConvFFN. -/
module

public import proofs.«01_k».proof.Defs
public import proofs.«01_k».proof.Proof.Ffn.Equal
public import proofs.«01_k».proof.Proof.Gen.FfnIdeal
public import proofs.«01_k».proof.Proof.Gen.FfnRefIdeal
public import proofs.«01_k».proof.Proof.Gen.FfnRefIdeal.Run
public import Idealize.ShloMosaic.Adequacy
public import Idealize.ShloMosaic.Init

@[expose] public section

noncomputable section

namespace Cert.Proof

open Idealize.ShloMosaic Idealize.ShloMosaic.TcCoe Idealize.SL.Sem

/-- The reference's run leaves its arguments and, declaring no semaphore, every counter at zero. -/
theorem ffn_ref : Cert.quiescent_FfnRefIdeal (hFfnRefIdeal := Cert.FfnRefIdeal.Gen.facts) := fun m ρ _ =>
  (θ_run Cert.FfnRefIdeal.defs _ _).mono (fun r h => ⟨fun c => (h c).2.2.2.2.2.2, sem_eq_zero_of_no_sems (by decide) r.2⟩) (Cert.FfnRefIdeal.Value.run m ρ)

/-- Over the extended reals the kernel returns, from finite arguments, the up projection, the gated activations,
    the loss and its gradients at the block's output and the last norm's scale. -/
theorem ffn_eq : Cert.algebraic_FfnIdeal_FfnRefIdeal_pre_finite_ffn (hFfnIdeal := Cert.FfnIdeal.Gen.facts)
    (hFfnRefIdeal := Cert.FfnRefIdeal.Gen.facts) (hPre_finite_ffn := Cert.Pre_finite_ffn.Gen.facts) := by
  intro m g m' g' hpre hagree
  refine ⟨fun c => Cert.FfnRefIdeal.Read.val_main_v93 (F := Ideal) (Ffn.argsK m c).h (Ffn.argsK m c).wu,
    fun c => Cert.FfnRefIdeal.Read.val_main_v92 (F := Ideal) (Ffn.argsK m c).h (Ffn.argsK m c).wu (Ffn.argsK m c).w (Ffn.argsK m c).b,
    fun c => Cert.FfnRefIdeal.Read.val_main_v89 (F := Ideal) (Ffn.argsK m c).h (Ffn.argsK m c).x (Ffn.argsK m c).wu (Ffn.argsK m c).w (Ffn.argsK m c).b (Ffn.argsK m c).wd (Ffn.argsK m c).n (Ffn.argsK m c).tg,
    fun c => Cert.FfnRefIdeal.Read.val_main_v94 (F := Ideal) (Ffn.argsK m c).h (Ffn.argsK m c).x (Ffn.argsK m c).wu (Ffn.argsK m c).w (Ffn.argsK m c).b (Ffn.argsK m c).wd (Ffn.argsK m c).n (Ffn.argsK m c).tg,
    fun c => Cert.FfnRefIdeal.Read.val_main_v95 (F := Ideal) (Ffn.argsK m c).h (Ffn.argsK m c).x (Ffn.argsK m c).wu (Ffn.argsK m c).w (Ffn.argsK m c).b (Ffn.argsK m c).wd (Ffn.argsK m c).n (Ffn.argsK m c).tg,
    fun c => Cert.FfnRefIdeal.Read.val_main_v96 (F := Ideal) (Ffn.argsK m c).h (Ffn.argsK m c).x (Ffn.argsK m c).wu (Ffn.argsK m c).w (Ffn.argsK m c).b (Ffn.argsK m c).wd (Ffn.argsK m c).n (Ffn.argsK m c).tg, ?_, ?_⟩
  · refine (θ_run Cert.FfnIdeal.defs _ _).mono (fun r h c => ?_) (Cert.FfnIdeal.Value.run_blocks m g)
    have hr := Ffn.real_args (Ffn.argsK m c) (hpre c)
    obtain ⟨h9, h10, h11, h12, h13, h14, ha⟩ := h c
    exact ⟨h9.trans (Ffn.eq9 m c), h10.trans (Ffn.eq10 m c), h11.trans (Ffn.eq11 m c hr), h12.trans (Ffn.eq12 m c hr),
      h13.trans (Ffn.eq13 m c hr), h14.trans (Ffn.eq14 m c), ha⟩
  · refine (θ_run Cert.FfnRefIdeal.defs _ _).mono (fun r h c => ?_) (Cert.FfnRefIdeal.Value.run m' g')
    obtain ⟨h93, h92, h89, h94, h95, h96, ha⟩ := h c
    obtain ⟨e0, e1, e2, e3, e4, e5, e6, e7⟩ := hagree c
    refine ⟨?_, ?_, ?_, ?_, ?_, ?_, ha⟩
    · refine h93.trans ((Cert.FfnRefIdeal.Read.val_main_v93_eq _).trans ?_)
      show Cert.FfnRefIdeal.Read.val_main_v93 (F := Ideal) (m' ((c : Thread Cert.FfnRefIdeal.nD Cert.FfnRefIdeal.τ).loc Cert.FfnRefIdeal.main_arg0)) (m' ((c : Thread Cert.FfnRefIdeal.nD Cert.FfnRefIdeal.τ).loc Cert.FfnRefIdeal.main_arg2)) = _
      rw [e0, e2]
      rfl
    · refine h92.trans ((Cert.FfnRefIdeal.Read.val_main_v92_eq _).trans ?_)
      show Cert.FfnRefIdeal.Read.val_main_v92 (F := Ideal) (m' ((c : Thread Cert.FfnRefIdeal.nD Cert.FfnRefIdeal.τ).loc Cert.FfnRefIdeal.main_arg0)) (m' ((c : Thread Cert.FfnRefIdeal.nD Cert.FfnRefIdeal.τ).loc Cert.FfnRefIdeal.main_arg2)) (m' ((c : Thread Cert.FfnRefIdeal.nD Cert.FfnRefIdeal.τ).loc Cert.FfnRefIdeal.main_arg3)) (m' ((c : Thread Cert.FfnRefIdeal.nD Cert.FfnRefIdeal.τ).loc Cert.FfnRefIdeal.main_arg4)) = _
      rw [e0, e2, e3, e4]
      rfl
    · refine h89.trans ((Cert.FfnRefIdeal.Read.val_main_v89_eq _).trans ?_)
      show Cert.FfnRefIdeal.Read.val_main_v89 (F := Ideal) (m' ((c : Thread Cert.FfnRefIdeal.nD Cert.FfnRefIdeal.τ).loc Cert.FfnRefIdeal.main_arg0)) (m' ((c : Thread Cert.FfnRefIdeal.nD Cert.FfnRefIdeal.τ).loc Cert.FfnRefIdeal.main_arg1)) (m' ((c : Thread Cert.FfnRefIdeal.nD Cert.FfnRefIdeal.τ).loc Cert.FfnRefIdeal.main_arg2)) (m' ((c : Thread Cert.FfnRefIdeal.nD Cert.FfnRefIdeal.τ).loc Cert.FfnRefIdeal.main_arg3)) (m' ((c : Thread Cert.FfnRefIdeal.nD Cert.FfnRefIdeal.τ).loc Cert.FfnRefIdeal.main_arg4)) (m' ((c : Thread Cert.FfnRefIdeal.nD Cert.FfnRefIdeal.τ).loc Cert.FfnRefIdeal.main_arg5)) (m' ((c : Thread Cert.FfnRefIdeal.nD Cert.FfnRefIdeal.τ).loc Cert.FfnRefIdeal.main_arg6)) (m' ((c : Thread Cert.FfnRefIdeal.nD Cert.FfnRefIdeal.τ).loc Cert.FfnRefIdeal.main_arg7)) = _
      rw [e0, e1, e2, e3, e4, e5, e6, e7]
      rfl
    · refine h94.trans ((Cert.FfnRefIdeal.Read.val_main_v94_eq _).trans ?_)
      show Cert.FfnRefIdeal.Read.val_main_v94 (F := Ideal) (m' ((c : Thread Cert.FfnRefIdeal.nD Cert.FfnRefIdeal.τ).loc Cert.FfnRefIdeal.main_arg0)) (m' ((c : Thread Cert.FfnRefIdeal.nD Cert.FfnRefIdeal.τ).loc Cert.FfnRefIdeal.main_arg1)) (m' ((c : Thread Cert.FfnRefIdeal.nD Cert.FfnRefIdeal.τ).loc Cert.FfnRefIdeal.main_arg2)) (m' ((c : Thread Cert.FfnRefIdeal.nD Cert.FfnRefIdeal.τ).loc Cert.FfnRefIdeal.main_arg3)) (m' ((c : Thread Cert.FfnRefIdeal.nD Cert.FfnRefIdeal.τ).loc Cert.FfnRefIdeal.main_arg4)) (m' ((c : Thread Cert.FfnRefIdeal.nD Cert.FfnRefIdeal.τ).loc Cert.FfnRefIdeal.main_arg5)) (m' ((c : Thread Cert.FfnRefIdeal.nD Cert.FfnRefIdeal.τ).loc Cert.FfnRefIdeal.main_arg6)) (m' ((c : Thread Cert.FfnRefIdeal.nD Cert.FfnRefIdeal.τ).loc Cert.FfnRefIdeal.main_arg7)) = _
      rw [e0, e1, e2, e3, e4, e5, e6, e7]
      rfl
    · refine h95.trans ((Cert.FfnRefIdeal.Read.val_main_v95_eq _).trans ?_)
      show Cert.FfnRefIdeal.Read.val_main_v95 (F := Ideal) (m' ((c : Thread Cert.FfnRefIdeal.nD Cert.FfnRefIdeal.τ).loc Cert.FfnRefIdeal.main_arg0)) (m' ((c : Thread Cert.FfnRefIdeal.nD Cert.FfnRefIdeal.τ).loc Cert.FfnRefIdeal.main_arg1)) (m' ((c : Thread Cert.FfnRefIdeal.nD Cert.FfnRefIdeal.τ).loc Cert.FfnRefIdeal.main_arg2)) (m' ((c : Thread Cert.FfnRefIdeal.nD Cert.FfnRefIdeal.τ).loc Cert.FfnRefIdeal.main_arg3)) (m' ((c : Thread Cert.FfnRefIdeal.nD Cert.FfnRefIdeal.τ).loc Cert.FfnRefIdeal.main_arg4)) (m' ((c : Thread Cert.FfnRefIdeal.nD Cert.FfnRefIdeal.τ).loc Cert.FfnRefIdeal.main_arg5)) (m' ((c : Thread Cert.FfnRefIdeal.nD Cert.FfnRefIdeal.τ).loc Cert.FfnRefIdeal.main_arg6)) (m' ((c : Thread Cert.FfnRefIdeal.nD Cert.FfnRefIdeal.τ).loc Cert.FfnRefIdeal.main_arg7)) = _
      rw [e0, e1, e2, e3, e4, e5, e6, e7]
      rfl
    · refine h96.trans ((Cert.FfnRefIdeal.Read.val_main_v96_eq _).trans ?_)
      show Cert.FfnRefIdeal.Read.val_main_v96 (F := Ideal) (m' ((c : Thread Cert.FfnRefIdeal.nD Cert.FfnRefIdeal.τ).loc Cert.FfnRefIdeal.main_arg0)) (m' ((c : Thread Cert.FfnRefIdeal.nD Cert.FfnRefIdeal.τ).loc Cert.FfnRefIdeal.main_arg1)) (m' ((c : Thread Cert.FfnRefIdeal.nD Cert.FfnRefIdeal.τ).loc Cert.FfnRefIdeal.main_arg2)) (m' ((c : Thread Cert.FfnRefIdeal.nD Cert.FfnRefIdeal.τ).loc Cert.FfnRefIdeal.main_arg3)) (m' ((c : Thread Cert.FfnRefIdeal.nD Cert.FfnRefIdeal.τ).loc Cert.FfnRefIdeal.main_arg4)) (m' ((c : Thread Cert.FfnRefIdeal.nD Cert.FfnRefIdeal.τ).loc Cert.FfnRefIdeal.main_arg5)) (m' ((c : Thread Cert.FfnRefIdeal.nD Cert.FfnRefIdeal.τ).loc Cert.FfnRefIdeal.main_arg6)) (m' ((c : Thread Cert.FfnRefIdeal.nD Cert.FfnRefIdeal.τ).loc Cert.FfnRefIdeal.main_arg7)) = _
      rw [e0, e1, e2, e3, e4, e5, e6, e7]
      rfl

end Cert.Proof

end
-- ==== Proof.DwUp.Plan.lean ====
/- The up projections' weight gradients: the three copies of the exchange their kernel carries. -/
module

public import proofs.«01_k».proof.Proof.Exchange.Deal
public import proofs.«01_k».proof.Proof.Gen.DwUpIdeal.Skeleton
public import proofs.«01_k».proof.Proof.Gen.DwUpIdeal.Frame
public import Idealize.ShloMosaic.Lib.ValueLayout
public import Idealize.ShloMosaic.Lib.Ring
public import Idealize.ShloMosaic.Lib.Pipeline.ValueKit

@[expose] public section

set_option maxRecDepth 16384

noncomputable section

namespace DwUp

open Cert.DwUpIdeal Cert.DwUpIdeal.Gen Cert.Exchange
open Idealize.ShloMosaic
open Idealize.ShloMosaic.TcCoe Idealize.ShloMosaic.Ring
open Idealize.SL Idealize.SL.RA Idealize.SL.BI
open scoped Idealize.SL.BI
open Idealize.SL.BI.BIBase Idealize.SL.BI.Laws Idealize.SL.ProofMode Idealize.SL.Sem
open Idealize.ShloMosaic.Rounds

/-- The partner along the first mesh axis, along the second, and along both. -/
def mate : Fin 3 → Fin 4 → Fin 4 := ![![2, 3, 0, 1], ![1, 0, 3, 2], ![3, 2, 1, 0]]

theorem mate_mate : ∀ j c, mate j (mate j c) = c := by decide
theorem mate_inj : ∀ c j i, mate j c = mate i c → j = i := by decide

theorem src_inb (n : Fin 4) : ∀ a, (![n.val, 0, 0] : Fin 3 → Nat) a + S1x352x1024.size a ≤ S4x352x1024.size a := by
  revert n; decide
theorem dst_inb (j : Fin 3) : ∀ a, (![j.val, 0, 0] : Fin 3 → Nat) a + S1x352x1024.size a ≤ S3x352x1024.size a := by
  revert j; decide

/-- The quarter of the sums' rows a chip updates, and the slot a quarter is received in. -/
abbrev quarter (n : Fin 4) : Memref sig .tc .hbm S352x1024 .bf16 :=
  ((Memref.whole main_arg2).slice (Rect.unit (s := S4x352x1024) ![n.val, 0, 0] S1x352x1024.size (src_inb n)) (fun _ => rfl)).squeeze
    S352x1024 squeezes_S1x352x1024_S352x1024
abbrev slotOf (j : Fin 3) : Memref sig .tc .hbm S352x1024 .bf16 :=
  ((Memref.whole main_v1_1).slice (Rect.unit (s := S3x352x1024) ![j.val, 0, 0] S1x352x1024.size (dst_inb j)) (fun _ => rfl)).squeeze
    S352x1024 squeezes_S1x352x1024_S352x1024

def plan : Plan nD sig (Fin 3) where
  peer := mate
  back := mate_mate
  sp := .hbm
  s := S352x1024
  e := .bf16
  src j c := quarter (mate j c)
  dst j := slotOf j
  sent j := ⟨6 + j.val, by have := j.isLt; show 6 + j.val < 12; omega⟩
  here j := ⟨9 + j.val, by have := j.isLt; show 9 + j.val < 12; omega⟩
  distinct := by decide
  N := (slotOf 0).view.dmaCredit
  pos := View.dmaCredit_pos _ (by decide)
  credit _ := rfl

variable {F : FTy → Type} [FloatOps F]

abbrev UU : Type := Ghosts nD sig
local notation "𝕄" => MT nD τ sig Unit (Elt F) ℕ UU ℕ

variable (m : (ℓ : Loc nD τ sig) → Buf (Elt F) ℓ)

/-! ## The arrays as their slices and slots -/

theorem emb_quarter (n : Fin 4) (r : Fin 352) (k : Fin 1024) : (quarter n).view.emb (ix2 r k) = (ix3 n r k : S4x352x1024.Idx) := by
  show (Rect.unit (s := S4x352x1024) ![n.val, 0, 0] S1x352x1024.size (src_inb n)).emb (Shape.reshapeEquiv _ (ix2 r k)) = _
  refine (congrArg _ (ValueIdx.reshapeEquiv_ix2_1ab _ r k)).trans ?_
  funext a; fin_cases a <;> apply Fin.ext
  · show n.val + 1 * 0 = n.val; omega
  · show 0 + 1 * r.val = r.val; omega
  · show 0 + 1 * k.val = k.val; omega

theorem emb_slotOf (j : Fin 3) (r : Fin 352) (k : Fin 1024) : (slotOf j).view.emb (ix2 r k) = (ix3 j r k : S3x352x1024.Idx) := by
  show (Rect.unit (s := S3x352x1024) ![j.val, 0, 0] S1x352x1024.size (dst_inb j)).emb (Shape.reshapeEquiv _ (ix2 r k)) = _
  refine (congrArg _ (ValueIdx.reshapeEquiv_ix2_1ab _ r k)).trans ?_
  funext a; fin_cases a <;> apply Fin.ext
  · show j.val + 1 * 0 = j.val; omega
  · show 0 + 1 * r.val = r.val; omega
  · show 0 + 1 * k.val = k.val; omega

theorem quarter_first {n : Fin 4} {i : S4x352x1024.Idx} (h : i ∈ (quarter n).view.set) : i (0 : Fin 3) = n := by
  obtain ⟨x, -, rfl⟩ := Finset.mem_map.mp h
  idx_vars x
  rw [emb_quarter]; rfl

theorem mem_slotOf (j : Fin 3) (i : S3x352x1024.Idx) : i ∈ (slotOf j).view.set ↔ i (0 : Fin 3) = j := by
  constructor
  · intro h
    obtain ⟨x, -, rfl⟩ := Finset.mem_map.mp h
    idx_vars x
    rw [emb_slotOf]; rfl
  · rintro rfl
    idx_vars i
    rw [← emb_slotOf]
    exact View.emb_mem_set _ _

theorem quarters_disjoint (c : Dev nD) (j i : Fin 3) (h : j ≠ i) : Disjoint (plan.src j c).view.set (plan.src i c).view.set :=
  Finset.disjoint_left.mpr fun x hx hy => h (mate_inj c j i ((quarter_first hx).symm.trans (quarter_first hy)))

theorem slots_disjoint (j i : Fin 3) (h : j ≠ i) : Disjoint (slotOf j).view.set (slotOf i).view.set :=
  Finset.disjoint_left.mpr fun x hx hy => h (((mem_slotOf j x).mp hx).symm.trans ((mem_slotOf i x).mp hy))

theorem slots_cover (i : S3x352x1024.Idx) : ∃ j : Fin 3, i ∈ (slotOf j).view.set := ⟨i (0 : Fin 3), (mem_slotOf _ i).mpr rfl⟩

/-- Memory cut along disjoint sets that cover it. -/
theorem cut {ℓ : Loc nD τ sig} (I : Fin 3 → Finset (Idx ℓ)) (hd : ∀ j i, j ≠ i → Disjoint (I j) (I i)) (hc : ∀ x, ∃ j, x ∈ I j)
    (f : Buf (Elt F) ℓ) : (ℓ ↦{fullShare} f : sProp 𝕄) = bigSep Finset.univ fun j => ℓ ↦[I j]{fullShare} f := by
  classical
  refine pointsTo_blocks I hd ?_ f
  ext x
  simp only [Finset.mem_biUnion, Finset.mem_univ, true_and, iff_true]
  exact hc x

/-- The three quarters a device sends, together. -/
abbrev sentSet (c : Dev nD) : Finset (Idx ((c : Thread nD τ).loc main_arg2)) := Finset.univ.biUnion fun j : Fin 3 => (plan.src j c).view.set

/-- The part of the sums no copy touches. -/
def kept (c : Dev nD) : sProp 𝕄 :=
  ((c : Thread nD τ).loc main_arg2) ↦[Finset.univ \ sentSet c]{fullShare} m ((c : Thread nD τ).loc main_arg2)

theorem sums_split (c : Dev nD) :
    (((c : Thread nD τ).loc main_arg2) ↦{fullShare} m ((c : Thread nD τ).loc main_arg2) : sProp 𝕄)
      ⊣⊢ iprop((bigSep Finset.univ fun j : Fin 3 => plan.srcPts m j c) ∗ kept m c) := by
  have h := pointsTo_split_subset (nD := nD) (τ := τ) (sig := sig) (Ix := Unit) (Val := Elt F) (Name := ℕ) (U := UU) (Lvl := ℕ) (ℓ := (c : Thread nD τ).loc main_arg2) (q := fullShare)
    (f := m ((c : Thread nD τ).loc main_arg2)) (Finset.subset_univ (sentSet c))
  have e := pointsTo_biUnion (nD := nD) (τ := τ) (sig := sig) (Ix := Unit) (Val := Elt F) (Name := ℕ) (U := UU) (Lvl := ℕ) (ℓ := (c : Thread nD τ).loc main_arg2) (q := fullShare)
    (f := m ((c : Thread nD τ).loc main_arg2)) Finset.univ (fun j : Fin 3 => (plan.src j c).view.set) (fun j _ i _ => quarters_disjoint c j i)
  have e' : (((c : Thread nD τ).loc main_arg2) ↦[sentSet c]{fullShare} m ((c : Thread nD τ).loc main_arg2) : sProp 𝕄)
      = bigSep Finset.univ fun j : Fin 3 => plan.srcPts m j c := by
    refine Eq.trans ?_ e
    congr!
  rw [e'] at h
  exact h

/-- What a device ends up with in its slots: each partner's quarter of its rows. -/
def received (c : Dev nD) : Buf (Elt F) ((c : Thread nD τ).loc main_v1_1) :=
  fun i : S3x352x1024.Idx => m ((mate (i (0 : Fin 3)) c : Thread nD τ).loc main_arg2) (ix3 (show Fin 4 from c) (i (1 : Fin 3)) (i (2 : Fin 3)) : S4x352x1024.Idx)

theorem landed_eq (j : Fin 3) (c : Dev nD) (i : Idx ((c : Thread nD τ).loc main_v1_1)) (hi : i ∈ (slotOf j).view.set) :
    plan.landed m j c i = received m c i := by
  obtain ⟨x, -, rfl⟩ := Finset.mem_map.mp hi
  have h1 : plan.landed m j c ((slotOf j).view.emb x) = plan.sliceOf m j (mate j c) x := View.write_emb_of_mem _ _ (Finset.mem_univ _)
  rw [h1]
  have h2 : plan.sliceOf m j (mate j c) x = m ((mate j c : Thread nD τ).loc main_arg2) ((quarter (mate j (mate j c))).view.emb x) := rfl
  rw [h2, mate_mate]
  idx_vars x
  rw [emb_quarter, emb_slotOf]
  rfl

theorem slots_cut (c : Dev nD) (f : Buf (Elt F) ((c : Thread nD τ).loc main_v1_1)) :
    (((c : Thread nD τ).loc main_v1_1) ↦{fullShare} f : sProp 𝕄)
      = bigSep Finset.univ fun j : Fin 3 => ((c : Thread nD τ).loc main_v1_1) ↦[(slotOf j).view.set]{fullShare} f :=
  cut (ℓ := (c : Thread nD τ).loc main_v1_1) (fun j => (slotOf j).view.set) slots_disjoint slots_cover f

theorem slots_split (c : Dev nD) :
    (((c : Thread nD τ).loc main_v1_1) ↦{fullShare} m ((c : Thread nD τ).loc main_v1_1) : sProp 𝕄)
      = bigSep Finset.univ fun j : Fin 3 => plan.slot m j c :=
  slots_cut c _

theorem filled_eq (c : Dev nD) (j : Fin 3) : (plan.filled m j c : sProp 𝕄)
      = (((c : Thread nD τ).loc main_v1_1) ↦[(slotOf j).view.set]{fullShare} received m c : sProp 𝕄) :=
  pointsTo_congr (ℓ := (c : Thread nD τ).loc main_v1_1) (I := (slotOf j).view.set) (f := plan.landed m j c) (landed_eq m j c)

theorem slots_join (c : Dev nD) :
    (bigSep Finset.univ fun j : Fin 3 => plan.filled m j c)
      = (((c : Thread nD τ).loc main_v1_1) ↦{fullShare} received m c : sProp 𝕄) := by
  rw [slots_cut]
  exact bigSep_congr fun j _ => filled_eq m c j

end DwUp

end
-- ==== Proof.DwUp.Body.lean ====
/- The up projections' weight gradients: what one grid point does, with the exchange at the first point and its end at the last. -/
module

public import proofs.«01_k».proof.Proof.Exchange.Steps
public import proofs.«01_k».proof.Proof.DwUp.Plan
public import Idealize.ShloMosaic.Lib.Exec

@[expose] public section

set_option maxRecDepth 16384

noncomputable section

namespace DwUp

open Cert.DwUpIdeal Cert.DwUpIdeal.Gen Cert.Exchange
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

variable (m : (ℓ : Loc nD τ sig) → Buf (Elt F) ℓ)

/-! ## The printed slices, devices and semaphores -/

theorem quarter_at (n : Fin 4) (off : Fin 3 → Nat) (h : off = ![n.val, 0, 0]) (hin : ∀ a, off a + S1x352x1024.size a ≤ S4x352x1024.size a) :
    ((Memref.whole main_arg2).slice (Rect.unit (s := S4x352x1024) off S1x352x1024.size hin) (fun _ => rfl)).squeeze
      S352x1024 squeezes_S1x352x1024_S352x1024 = quarter n := by
  subst h; rfl

theorem off1 (c : Dev nD) : k0_off1 c = ![(mate 0 c).val, 0, 0] := by
  rw [k0_off1_eq]; revert c; exact (by decide : ∀ c : Fin 4, ![((c.val % 2) + 2) - 2 * (c.val / 2), 0, 0] = ![(mate 0 c).val, 0, 0])
theorem off2 (c : Dev nD) : k0_off2 c = ![(mate 1 c).val, 0, 0] := by
  rw [k0_off2_eq]; revert c; exact (by decide : ∀ c : Fin 4, ![((2 * (c.val / 2)) + 1) - (c.val % 2), 0, 0] = ![(mate 1 c).val, 0, 0])
theorem off3 (c : Dev nD) : k0_off3 c = ![(mate 2 c).val, 0, 0] := by
  rw [k0_off3_eq]; revert c; exact (by decide : ∀ c : Fin 4, ![3 - (2 * (c.val / 2) + c.val % 2), 0, 0] = ![(mate 2 c).val, 0, 0])
theorem dev1 (c : Dev nD) (h) : (⟨k0_dev1 c, h⟩ : Dev nD) = mate 0 c := by
  apply Fin.ext; show k0_dev1 c = _
  rw [k0_dev1_eq]; clear h; revert c; exact (by decide : ∀ c : Fin 4, ((c.val % 2) + 2) - 2 * (c.val / 2) = (mate 0 c).val)
theorem dev2 (c : Dev nD) (h) : (⟨k0_dev2 c, h⟩ : Dev nD) = mate 1 c := by
  apply Fin.ext; show k0_dev2 c = _
  rw [k0_dev2_eq]; clear h; revert c; exact (by decide : ∀ c : Fin 4, ((2 * (c.val / 2)) + 1) - (c.val % 2) = (mate 1 c).val)
theorem dev3 (c : Dev nD) (h) : (⟨k0_dev3 c, h⟩ : Dev nD) = mate 2 c := by
  apply Fin.ext; show k0_dev3 c = _
  rw [k0_dev3_eq]; clear h; revert c; exact (by decide : ∀ c : Fin 4, 3 - (2 * (c.val / 2) + c.val % 2) = (mate 2 c).val)

/-! ## What a device holds between the points -/

/-- Before the first point. -/
def start (c : Dev nD) : sProp 𝕄 :=
  iprop((∃ K, plan.ready m K c) ∗ (bigSep Finset.univ fun j : Fin 3 => cred (tallyAt (plan.recvCell j c) () plan.N)) ∗ kept m c)
/-- Between the first and the last. -/
def going (c : Dev nD) : sProp 𝕄 :=
  iprop((∃ K, plan.flying m K c 0 ∗ plan.flying m K c 1 ∗ plan.flying m K c 2) ∗ kept m c)
/-- After the last. -/
def ended (c : Dev nD) : sProp 𝕄 :=
  iprop((plan.done m c 0 ∗ plan.done m c 1 ∗ plan.done m c 2) ∗ kept m c)

/-! ## The product the body computes -/

abbrev a0 : Rect S8x512x512 := Rect.unit (s := S8x512x512) ![0, 0, 0] S1x512x512.size inb_S8x512x512_S1x512x512_0_0_0
abbrev a1 : Rect S8x512x512 := Rect.unit (s := S8x512x512) ![1, 0, 0] S1x512x512.size inb_S8x512x512_S1x512x512_1_0_0
abbrev a2 : Rect S8x512x512 := Rect.unit (s := S8x512x512) ![2, 0, 0] S1x512x512.size inb_S8x512x512_S1x512x512_2_0_0
abbrev a3 : Rect S8x512x512 := Rect.unit (s := S8x512x512) ![3, 0, 0] S1x512x512.size inb_S8x512x512_S1x512x512_3_0_0
abbrev a4 : Rect S8x512x512 := Rect.unit (s := S8x512x512) ![4, 0, 0] S1x512x512.size inb_S8x512x512_S1x512x512_4_0_0
abbrev a5 : Rect S8x512x512 := Rect.unit (s := S8x512x512) ![5, 0, 0] S1x512x512.size inb_S8x512x512_S1x512x512_5_0_0
abbrev a6 : Rect S8x512x512 := Rect.unit (s := S8x512x512) ![6, 0, 0] S1x512x512.size inb_S8x512x512_S1x512x512_6_0_0
abbrev a7 : Rect S8x512x512 := Rect.unit (s := S8x512x512) ![7, 0, 0] S1x512x512.size inb_S8x512x512_S1x512x512_7_0_0
abbrev b0 : Rect S4096x1408 := Rect.unit (s := S4096x1408) ![0, 0] S4096x1408.size inb_S4096x1408_S4096x1408_0_0
abbrev o0 : Rect S1x512x1408 := Rect.unit (s := S1x512x1408) ![0, 0, 0] S1x512x1408.size inb_S1x512x1408_S1x512x1408_0_0_0

/-- The block a point leaves, of the two blocks it finds. -/
def made (x0 : Vec F S8x512x512 .bf16) (x1 : Vec F S4096x1408 .bf16) : Vec F S1x512x1408 .bf16 :=
  View.canon [⟨o0, k0_pay1 (k0_pay2 (View.ld x0 a0) (View.ld x0 a1) (View.ld x0 a2) (View.ld x0 a3) (View.ld x0 a4) (View.ld x0 a5) (View.ld x0 a6) (View.ld x0 a7) (View.ld x1 b0))⟩]

theorem made_cover (p : Vec F S1x512x1408 .bf16) (y : S1x512x1408.Idx) : ∃ pc ∈ ([⟨o0, p⟩] : List (View.Piece (Elt F) S1x512x1408 .bf16)), y ∈ pc.1.set :=
  View.cover_of_tiled [⟨o0, p⟩] S1x512x1408.size (by rfl) y

variable (c : Dev nD) (i : grid0.Coords)
  (arg2 : Memref sig .tc .vmem S8x512x512 .bf16) (harg2 : arg2.IsWhole) (arg3 : Memref sig .tc .vmem S4096x1408 .bf16) (harg3 : arg3.IsWhole)
  (arg5 : Memref sig .tc .vmem S1x512x1408 .bf16) (harg5 : arg5.IsWhole)
  (x0 : Vec F S8x512x512 .bf16) (x1 : Vec F S4096x1408 .bf16)

/-- The kernel body, on the windows' buffers. -/
abbrev body : Prog (TpuEff nD τ sig (Elt F) Λ₀ .tc) PUnit :=
  cc0_dw_up1 i arg2 harg2 arg3 harg3 (Memref.whole main_arg2) (Memref.isWhole_whole _) arg5 harg5 (Memref.whole main_v1_1) (Memref.isWhole_whole _) cc0_scratch0 cc0_scratch1

/-- The windows' buffers before a point, and after it. -/
def found : sProp 𝕄 :=
  iprop(owns (c : Thread nD τ) arg2 fullShare x0 ∗ owns (c : Thread nD τ) arg3 fullShare x1 ∗ (∃ d, owns (c : Thread nD τ) arg5 fullShare d))
def leaves : sProp 𝕄 :=
  iprop(owns (c : Thread nD τ) arg2 fullShare x0 ∗ owns (c : Thread nD τ) arg3 fullShare x1 ∗ owns (c : Thread nD τ) arg5 fullShare (made x0 x1))

set_option maxHeartbeats 1000000 in
/-- A point between the first and the last only multiplies. -/
theorem middle (Q : PUnit → sProp 𝕄) (h1 : ¬ k0_cond1 i = 1#1) (h2 : ¬ k0_cond2 i = 1#1) :
    iprop(found c arg2 arg3 arg5 x0 x1 ∗ (leaves c arg2 arg3 arg5 x0 x1 -∗ Q ⟨⟩))
      ⊢ wp frame (wpE (defs₀ (F := F)) Variants.none c none) Set.univ (body i arg2 harg2 arg3 harg3 arg5 harg5) Q := by
  unfold body
  simp only [cc0_dw_up1_eq_skeleton]; unfold cc0_dw_up1_skel
  simp only [k0_part4_eq_skeleton]; unfold k0_part4_skel
  simp only [dif_neg h1, dif_neg h2]
  unfold found leaves owns
  iintro ⟨⟨⟨%f0, %hf0, H0⟩, ⟨%f1, %hf1, H1⟩, ⟨%d2, %f2, -, H2⟩⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (made_cover _)

set_option maxHeartbeats 1000000 in
/-- The first point issues the three copies, then multiplies. -/
theorem first (Q : PUnit → sProp 𝕄) (h1 : k0_cond1 i = 1#1) (h2 : ¬ k0_cond2 i = 1#1) (W : Waits sig Unit) :
    iprop((start m c ∗ owes (c : Thread nD τ) (plan.O₀ c) W) ∗ found c arg2 arg3 arg5 x0 x1
        ∗ (((going m c ∗ owes (c : Thread nD τ) 0 W) ∗ leaves c arg2 arg3 arg5 x0 x1) -∗ Q ⟨⟩))
      ⊢ wp frame (wpE (defs₀ (F := F)) Variants.none c none) Set.univ (body i arg2 harg2 arg3 harg3 arg5 harg5) Q := by
  unfold body
  simp only [cc0_dw_up1_eq_skeleton]; unfold cc0_dw_up1_skel
  simp only [k0_part4_eq_skeleton]; unfold k0_part4_skel
  simp only [k0_part1_eq_skeleton]; unfold k0_part1_skel
  simp only [dif_pos h1, dif_neg h2, Prog.lift, Prog.bind_op, Prog.bind_ret, Prog.pure_eq_ret, wp_deviceId]
  unfold start Plan.ready
  simp only [bigSep_fin3]
  have hO : plan.O₀ c = ((0 + tallyAt (plan.recvCell 2 (plan.peer 2 c)) () plan.N) + tallyAt (plan.recvCell 1 (plan.peer 1 c)) () plan.N)
      + tallyAt (plan.recvCell 0 (plan.peer 0 c)) () plan.N := by
    unfold Plan.O₀; rw [Fin.sum_univ_three]; abel
  iintro ⟨⟨⟨⟨%K, R0, R1, R2⟩, ⟨C0, C1, C2⟩, Hkept⟩, HO⟩, Hf, Hk⟩
  iapply (plan.wp_issue m K Variants.none 0 c _ (dev1 c _) _ _ (quarter_at _ _ (off1 c) _) rfl _ _ rfl rfl none _ hO W) $$ [R0 C0 HO]
  · unfold Plan.unsent
    isplitr [HO]
    · isplitl [R0]; · iexact R0
      iexact C0
    iexact HO
  iintro ⟨F0, HO⟩
  iapply (plan.wp_issue m K Variants.none 1 c _ (dev2 c _) _ _ (quarter_at _ _ (off2 c) _) rfl _ _ rfl rfl none _ rfl W) $$ [R1 C1 HO]
  · unfold Plan.unsent
    isplitr [HO]
    · isplitl [R1]; · iexact R1
      iexact C1
    iexact HO
  iintro ⟨F1, HO⟩
  iapply (plan.wp_issue m K Variants.none 2 c _ (dev3 c _) _ _ (quarter_at _ _ (off3 c) _) rfl _ _ rfl rfl none _ rfl W) $$ [R2 C2 HO]
  · unfold Plan.unsent
    isplitr [HO]
    · isplitl [R2]; · iexact R2
      iexact C2
    iexact HO
  iintro ⟨F2, HO⟩
  unfold found leaves owns
  icases Hf with ⟨⟨%f0, %hf0, H0⟩, ⟨%f1, %hf1, H1⟩, ⟨%d2, %f2, -, H2⟩⟩
  subst hf0 hf1
  sl_exec
  sl_step
  iapply Hk
  isplitl [F0 F1 F2 Hkept HO]
  · isplitr [HO]
    · unfold going
      isplitr [Hkept]
      · iexists K
        isplitl [F0]; · iexact F0
        isplitl [F1]; · iexact F1
        iexact F2
      iexact Hkept
    iexact HO
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (made_cover _)

set_option maxHeartbeats 1000000 in
/-- The last point multiplies, then waits for the three copies, each way. -/
theorem last (Q : PUnit → sProp 𝕄) (h1 : ¬ k0_cond1 i = 1#1) (h2 : k0_cond2 i = 1#1) (W : Waits sig Unit) :
    iprop((going m c ∗ owes (c : Thread nD τ) 0 W) ∗ found c arg2 arg3 arg5 x0 x1
        ∗ (∀ W', ((ended m c ∗ owes (c : Thread nD τ) 0 W') ∗ leaves c arg2 arg3 arg5 x0 x1) -∗ Q ⟨⟩))
      ⊢ wp frame (wpE (defs₀ (F := F)) Variants.none c none) Set.univ (body i arg2 harg2 arg3 harg3 arg5 harg5) Q := by
  unfold body
  simp only [cc0_dw_up1_eq_skeleton]; unfold cc0_dw_up1_skel
  simp only [k0_part4_eq_skeleton]; unfold k0_part4_skel
  simp only [k0_part2_eq_skeleton, k0_part3_eq_skeleton]; unfold k0_part2_skel k0_part3_skel
  simp only [dif_neg h1, dif_pos h2, Prog.lift, Prog.bind_op, Prog.bind_ret, Prog.pure_eq_ret]
  unfold going
  iintro ⟨⟨⟨⟨%K, F0, F1, F2⟩, Hkept⟩, HO⟩, Hf, Hk⟩
  unfold found leaves owns
  icases Hf with ⟨⟨%f0, %hf0, H0⟩, ⟨%f1, %hf1, H1⟩, ⟨%d2, %f2, -, H2⟩⟩
  subst hf0 hf1
  sl_exec
  simp only [wp_deviceId]
  iapply (plan.wp_both m K Variants.none 0 c _ _ rfl _ _ rfl _ _ rfl rfl none W) $$ [F0 HO]
  · isplitl [F0]; · iexact F0
    iexact HO
  iintro %W0 ⟨D0, HO⟩
  iapply (plan.wp_both m K Variants.none 1 c _ _ rfl _ _ rfl _ _ rfl rfl none W0) $$ [F1 HO]
  · isplitl [F1]; · iexact F1
    iexact HO
  iintro %W1 ⟨D1, HO⟩
  iapply (plan.wp_both m K Variants.none 2 c _ _ rfl _ _ rfl _ _ rfl rfl none W1) $$ [F2 HO]
  · isplitl [F2]; · iexact F2
    iexact HO
  iintro %W2 ⟨D2, HO⟩
  rw [wp_ret]; imodintro
  iapply Hk $$ %W2
  isplitl [D0 D1 D2 Hkept HO]
  · isplitr [HO]
    · unfold ended
      isplitr [Hkept]
      · isplitl [D0]; · iexact D0
        isplitl [D1]; · iexact D1
        iexact D2
      iexact Hkept
    iexact HO
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (made_cover _)

end DwUp

end
-- ==== Proof.DwUp.Run.lean ====
/- The up projections' weight gradients: the run of the whole call on the four devices. -/
module

public import proofs.«01_k».proof.Proof.DwUp.Body
public import proofs.«01_k».proof.Proof.Exchange.Launch

@[expose] public section

set_option maxRecDepth 16384

noncomputable section

namespace DwUp

open Cert.DwUpIdeal Cert.DwUpIdeal.Gen Cert.Exchange
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat BodyObligationLoose)

variable {F : FTy → Type} [FloatOps F]

local notation "𝕄" => MT nD τ sig Unit (Elt F) ℕ UU ℕ

variable (m : (ℓ : Loc nD τ sig) → Buf (Elt F) ℓ) (ρ : Dev nD → PrngReg)

/-- What a device holds at point `n`. -/
def held (c : Dev nD) (n : Nat) : sProp 𝕄 := if n = 0 then start m c else if n = 8 then ended m c else going m c

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => made (iblk m c 0 t) (iblk m c 1 t)
  Φ t := held m c t.val
  q w := Pipeline.shareOf spec0 w
  owed t := if t.val = 0 then plan.O₀ c else 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = made (iblk m c 0 t) (iblk m c 1 t) := by dsimp only [dats]

theorem Φ_at (c : Dev nD) (t : Fin cfg0.N) : (dats m 0 c).Φ t.castSucc = held m c t.val := rfl
theorem Φ_next (c : Dev nD) (t : Fin cfg0.N) : (dats m 0 c).Φ t.succ = held m c (t.val + 1) := rfl
theorem owed_at (c : Dev nD) (t : Fin cfg0.N) : (dats m 0 c).owed t.castSucc = if t.val = 0 then plan.O₀ c else 0 := rfl
theorem owed_next (c : Dev nD) (t : Fin cfg0.N) : (dats m 0 c).owed t.succ = 0 := rfl

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]) t d).trans
    (by unfold Dat.fetched Dat.blockOf iblk; rw [A_eq]; try rfl)

/-! ## The body at a point -/

theorem at_first : ∀ t : Fin cfg0.N, k0_cond1 (grid0.coords t) = 1#1 ↔ t.val = 0 := (by decide +kernel : ∀ t : Fin grid0.N, k0_cond1 (grid0.coords t) = 1#1 ↔ t.val = 0)
theorem at_last : ∀ t : Fin cfg0.N, k0_cond2 (grid0.coords t) = 1#1 ↔ t.val = 7 := (by decide +kernel : ∀ t : Fin grid0.N, k0_cond2 (grid0.coords t) = 1#1 ↔ t.val = 7)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The precondition, opened; the postcondition, closed. -/
theorem opens (c : Dev nD) (t : Fin cfg0.N) :
    bodyPre m c t ⊢ iprop(∃ W, (held m c t.val ∗ owes (c : Thread nD τ) (if t.val = 0 then plan.O₀ c else 0) W)
      ∗ found c (st0_0 t) (st0_1 t) (st0_2 t) (iblk m c 0 t) (iblk m c 1 t)) := by
  unfold bodyPre found
  unfold Dat.owesAt Pipeline.owesWithin
  simp only [before0, before1, Φ_at, owed_at]
  iintro ⟨HΦ, ⟨%W, -, HO⟩, ⟨%d0, H0⟩, ⟨%d1, H1⟩, ⟨%d2, H2⟩⟩
  iexists W
  isplitl [HΦ HO]
  · isplitl [HΦ]; · iexact HΦ
    iexact HO
  isplitl [H0]; · iexact H0
  isplitl [H1]; · iexact H1
  iexists _; iexact H2

theorem closes (c : Dev nD) (t : Fin cfg0.N) (W : Waits sig Unit) :
    iprop((held m c (t.val + 1) ∗ owes (c : Thread nD τ) 0 W) ∗ leaves c (st0_0 t) (st0_1 t) (st0_2 t) (iblk m c 0 t) (iblk m c 1 t)) ⊢ bodyPost m c t := by
  unfold bodyPost leaves
  unfold Dat.owesAt Pipeline.owesWithin
  rw [after0, after1, after2, Φ_next, owed_next]
  iintro ⟨⟨HΦ, HO⟩, H0, H1, H2⟩
  isplitl [HΦ]; · iexact HΦ
  isplitl [HO]
  · iexists W
    isplitr; · ipureintro; exact fun _ _ => Or.inl trivial
    iexact HO
  isplitl [H0]; · iexact H0
  isplitl [H1]; · iexact H1
  iexact H2

theorem hst0 (t : Fin cfg0.N) : (st0_0 t).IsWhole := hstage0_0 ((cfg0.slots t 0).cast nbuf0_0)
theorem hst1 (t : Fin cfg0.N) : (st0_1 t).IsWhole := hstage0_1 ((cfg0.slots t 1).cast nbuf0_1)
theorem hst2 (t : Fin cfg0.N) : (st0_2 t).IsWhole := hstage0_2 ((cfg0.slots t 2).cast nbuf0_2)

theorem lt_eight (t : Fin cfg0.N) : t.val < 8 := lt_of_lt_of_eq t.isLt (show cfg0.N = 8 from N_0)

theorem sound_body (c : Dev nD) (t : Fin cfg0.N) :
    bodyPre m c t ⊢ wp frame (wpE (defs₀ (F := F)) Variants.none c none) Set.univ (bodyAt0 t) (fun _ => bodyPost m c t) := by
  refine (opens m c t).trans (exists_elim fun W => ?_)
  have hlt := lt_eight t
  by_cases h0 : t.val = 0
  · have e0 : held m c t.val = start m c := by unfold held; rw [if_pos h0]
    have e1 : going m c = held m c (t.val + 1) := by unfold held; rw [if_neg (by omega), if_neg (by omega)]
    have run := first m c (grid0.coords t) (st0_0 t) (hst0 t) (st0_1 t) (hst1 t) (st0_2 t) (hst2 t) (iblk m c 0 t) (iblk m c 1 t) (fun _ => bodyPost m c t)
      ((at_first t).mpr h0) (fun h => by have := (at_last t).mp h; omega) W
    rw [e0, if_pos h0]
    refine BIBase.Entails.trans ?_ run
    rw [e1]
    iintro ⟨H, Hf⟩
    isplitl [H]; · iexact H
    isplitl [Hf]; · iexact Hf
    iintro Hl
    iapply (closes m c t W); iexact Hl
  · rw [if_neg h0]
    by_cases h7 : t.val = 7
    · have e0 : held m c t.val = going m c := by unfold held; rw [if_neg (by omega), if_neg (by omega)]
      have e1 : ended m c = held m c (t.val + 1) := by unfold held; rw [if_neg (by omega), if_pos (by omega)]
      have run := last m c (grid0.coords t) (st0_0 t) (hst0 t) (st0_1 t) (hst1 t) (st0_2 t) (hst2 t) (iblk m c 0 t) (iblk m c 1 t) (fun _ => bodyPost m c t)
        (fun h => h0 ((at_first t).mp h)) ((at_last t).mpr h7) W
      rw [e0]
      refine BIBase.Entails.trans ?_ run
      rw [e1]
      iintro ⟨H, Hf⟩
      isplitl [H]; · iexact H
      isplitl [Hf]; · iexact Hf
      iintro %W'
      iintro Hl
      iapply (closes m c t W'); iexact Hl
    · have e0 : held m c t.val = held m c (t.val + 1) := by
        unfold held; rw [if_neg (by omega), if_neg (by omega), if_neg (by omega), if_neg (by omega)]
      have run := middle c (grid0.coords t) (st0_0 t) (hst0 t) (st0_1 t) (hst1 t) (st0_2 t) (hst2 t) (iblk m c 0 t) (iblk m c 1 t) (fun _ => bodyPost m c t)
        (fun h => h0 ((at_first t).mp h)) (fun h => h7 ((at_last t).mp h))
      rw [e0]
      refine BIBase.Entails.trans ?_ run
      iintro ⟨H, Hf⟩
      isplitl [Hf]; · iexact Hf
      iintro Hl
      iapply (closes m c t W)
      isplitl [H]; · iexact H
      iexact Hl

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## Before the first point and after the last -/

theorem ownSemFacts  : Pipeline.OwnSemFacts spec0 plan.osem := by decide

/-- What the launch deals out: what a device brings to the exchange, and the blocks of the sums it keeps. -/
theorem deal (c : Dev nD) :
    iprop((Pipeline.ownSems0 plan.osem c ∗ Pipeline.unscopedRest spec0 c (fun b => m ((c : Thread nD τ).loc b))) ∗ plan.G m c : sProp 𝕄)
      ⊢ iprop(plan.brings m c ∗ kept m c) := by
  rw [unscopedRest0_eq]
  unfold Plan.brings
  iintro ⟨⟨Hs, Hx, Hy⟩, HG⟩
  ihave Hx' := (sums_split m c).1 $$ Hx
  icases Hx' with ⟨Hx, Hk⟩
  isplitr [Hk]
  · isplitr [HG]
    · isplitl [Hs]; · iexact Hs
      isplitl [Hx]; · iexact Hx
      iapply (Entails.of_eq (slots_split m c)); iexact Hy
    · iexact HG
  · iexact Hk

/-- What a device has once the exchange is set up. -/
def set (c : Dev nD) : sProp 𝕄 := iprop((∃ K, plan.ready m K c) ∗ kept m c)

theorem set_of (K : Dev nD × (Bool × Fin 3) → ℕ) (c : Dev nD) : iprop(plan.ready m K c ∗ kept m c) ⊢ set m c := by
  unfold set
  iintro ⟨H, Hk⟩
  isplitl [H]; · iexists K; iexact H
  iexact Hk

theorem set_all : iprop((∃ K, bigSep Finset.univ (plan.ready m K)) ∗ bigSep Finset.univ (kept m)) ⊢ bigSep Finset.univ (set m) := by
  iintro ⟨⟨%K, H⟩, Hk⟩
  iapply (show iprop(bigSep Finset.univ (plan.ready m K) ∗ bigSep Finset.univ (kept m)) ⊢ bigSep Finset.univ (set m) from by
    rw [← bigSep_sep']
    exact bigSep_mono fun c _ => set_of m K c)
  isplitl [H]; · iexact H
  iexact Hk

theorem share : iprop(bigSep Finset.univ (plan.brings m) ∗ bigSep Finset.univ (kept m)) ⊢ |={Set.univ}=> bigSep Finset.univ (set m) := by
  iintro ⟨Hb, Hk⟩
  imod (plan.glob m) $$ Hb with H
  imodintro
  iapply (set_all m)
  isplitl [H]; · iexact H
  iexact Hk

theorem setup :
    (bigSep Finset.univ fun c => iprop((Pipeline.ownSems0 plan.osem c
        ∗ Pipeline.unscopedRest spec0 c (fun b => m ((c : Thread nD τ).loc b))) ∗ plan.G m c) : sProp 𝕄)
      ⊢ |={Set.univ}=> bigSep Finset.univ (set m) := by
  refine (bigSep_mono fun c _ => deal m c).trans ?_
  rw [bigSep_sep']
  exact share m

theorem enter (c : Dev nD) :
    iprop((levAts Plan.L plan.lv ∗ Pipeline.launchCred plan.O₀ c ∗ set m c) ∗ Pipeline.scopedRest spec0 c) ⊢ (dats m 0 c).Φ 0 := by
  rw [show (dats m 0 c).Φ 0 = start m c from rfl]
  unfold set start
  iintro ⟨⟨-, Hc, Hr, Hk⟩, -⟩
  isplitl [Hr]; · iexact Hr
  isplitl [Hc]; · iapply (plan.creds c); iexact Hc
  iexact Hk

/-- What is left to read at the end: the sums unchanged, the received blocks in place. -/
def found_at_end (c : Dev nD) : sProp 𝕄 :=
  iprop((((c : Thread nD τ).loc main_arg2) ↦{fullShare} m ((c : Thread nD τ).loc main_arg2))
    ∗ (((c : Thread nD τ).loc main_v1_1) ↦{fullShare} received m c))

theorem parts_done (c : Dev nD) :
    iprop(plan.done m c 0 ∗ plan.done m c 1 ∗ plan.done m c 2)
      ⊢ iprop(((bigSep Finset.univ fun j => plan.srcPts m j c) ∗ bigSep Finset.univ fun j => plan.filled m j c) ∗ Pipeline.ownSems0 plan.osem c) := by
  have e : (Pipeline.ownSems0 plan.osem c : sProp 𝕄) = bigSep Finset.univ fun k : Bool × Fin 3 => semVal (plan.kcell (c, k)) 0 := rfl
  rw [e, bigSep_kinds, bigSep_fin3, bigSep_fin3, bigSep_fin3, bigSep_fin3]
  unfold Plan.done
  iintro ⟨⟨⟨a0, b0⟩, s0, r0⟩, ⟨⟨a1, b1⟩, s1, r1⟩, ⟨⟨a2, b2⟩, s2, r2⟩⟩
  isplitl [a0 a1 a2 b0 b1 b2]
  · isplitl [a0 a1 a2]
    · isplitl [a0]; · iexact a0
      isplitl [a1]; · iexact a1
      iexact a2
    · isplitl [b0]; · iexact b0
      isplitl [b1]; · iexact b1
      iexact b2
  · isplitl [s0 s1 s2]
    · isplitl [s0]; · iexact s0
      isplitl [s1]; · iexact s1
      iexact s2
    · isplitl [r0]; · iexact r0
      isplitl [r1]; · iexact r1
      iexact r2

theorem leave (c : Dev nD) :
    (dats m 0 c).Φ (Fin.last cfg0.N) ⊢ iprop(found_at_end m c ∗ Pipeline.ownSems0 plan.osem c ∗ Pipeline.scopedRest spec0 c) := by
  rw [show (dats m 0 c).Φ (Fin.last cfg0.N) = ended m c from rfl, scopedRest0_eq]
  unfold ended found_at_end
  iintro ⟨Hd, Hk⟩
  ihave H := (parts_done m c) $$ Hd
  icases H with ⟨⟨Hs, Hf⟩, Hz⟩
  isplitl [Hs Hf Hk]
  · isplitl [Hs Hk]
    · iapply (sums_split m c).2
      isplitl [Hs]; · iexact Hs
      iexact Hk
    · iapply (Entails.of_eq (slots_join m c)); iexact Hf
  · isplitl [Hz]; · iexact Hz
    iempintro

/-- The two arrays the kernel reaches by itself, at the end. -/
def ends (c : Dev nD) (s : MemSt nD τ sig (Elt F)) : Prop :=
  s.mem ((c : Thread nD τ).loc main_arg2) = m ((c : Thread nD τ).loc main_arg2) ∧ s.mem ((c : Thread nD τ).loc main_v1_1) = received m c

theorem read_end (c : Dev nD) (s' : Phys nD τ sig (Elt F)) :
    iprop(found_at_end m c ∗ SI s') ⊢ |={Set.univ}=> iprop(⌜ends m c s'.mem⌝ ∗ SI s' : sProp 𝕄) := by
  have h1 := pointsTo_read_all (Ix := Unit) (Name := ℕ) (U := UU) (Lvl := ℕ) Finset.univ (fun _ : Unit => (c : Thread nD τ).loc main_arg2) (fun _ => m ((c : Thread nD τ).loc main_arg2)) s'
  have h2 := pointsTo_read_all (Ix := Unit) (Name := ℕ) (U := UU) (Lvl := ℕ) Finset.univ (fun _ : Unit => (c : Thread nD τ).loc main_v1_1) (fun _ => received m c) s'
  rw [show (Finset.univ : Finset Unit) = {()} from rfl, bigSep_singleton] at h1 h2
  unfold found_at_end
  iintro ⟨⟨Ha, Hb⟩, HSI⟩
  ihave H := h1 $$ [Ha HSI]
  · isplitl [Ha] <;> iassumption
  icases H with ⟨%ha, HSI⟩
  ihave H := h2 $$ [Hb HSI]
  · isplitl [Hb] <;> iassumption
  icases H with ⟨%hb, HSI⟩
  imodintro
  isplitr
  · ipureintro; exact ⟨ha () (by simp), hb () (by simp)⟩
  · iexact HSI

/-! ## The run -/

/-- From any memory with zero counters: the four devices terminate; each window's array ends as the body leaves it, the
    sums unchanged, the received blocks in place, every counter at zero. -/
theorem run : θ_run (defs (F := F)) (onTc (τ := τ) (main (F := F))) ⟨m, fun _ => 0, ρ⟩ (fun r =>
    (∀ c : Dev nD, (∀ w, r.2.mem ((c : Thread nD τ).loc (Pipeline.arrRef spec0 w)) = (dats m 0 c).arrAt w cfg0.N) ∧ ends m c r.2)
      ∧ r.2.sem = fun _ => 0) :=
  run_region cfgs (dats m) () cellOf_inj (0 : Fin 1) winFacts0.to₀ ownSemFacts EP m defs₀ Variants.none ρ main
    (hmain := fun _ => rfl) (hbody := body_obligation m) (hne := fun w => by fin_cases w <;> exact Nat.succ_pos _)
    (harr := arr_whole0) (hstage := stage_whole0) (hsh := by decide) (hq := fun _ _ _ => rfl)
    (O₀ := plan.O₀) (howed₀ := fun _ => rfl) (howedN := fun _ => rfl) (L := Plan.L) (lv := plan.lv) (hL := Plan.L_of_ne)
    (hwaits := fun c => Pipeline.cellsWaits_intro cfgs (dats m) () 0 c fun w s t =>
      plan.mayWait_other c _ (by fin_cases w <;> fin_cases s <;> decide) _ (by
        rcases t with ⟨_ | _, ht⟩
        · exact Or.inl rfl
        · exact Or.inr rfl))
    (hA := fun _ _ => rfl) (G := plan.G m) (G' := set m) (Y := found_at_end m)
    (u₀ := (initOf (Pipeline.cells cfgs cellOf_inj) (Pipeline.launchToks cfgs cellOf_inj), initOf plan.cells plan.toks))
    (hu₀ := by
      iintro Hu
      ihave H := (ownU_pair _ _) $$ Hu
      icases H with ⟨HP, HX⟩
      imod (plan.fund m) $$ HX with HG
      imodintro
      isplitl [HP] <;> iassumption)
    (hglob := setup m) (hin := enter m) (hout := leave m) (QY := ends m) (hY := read_end m)
    (hQ := fun s h hs => ⟨h, sem_eq_zero_of_scoped (by decide) hs⟩)

end DwUp

end
-- ==== Proof.DwUp.Value.lean ====
/- The up projections' weight gradients: the array of products a device leaves, and the reference's gradients, entry by entry. -/
module

public import proofs.«01_k».proof.Proof.DwUp.Run
public import proofs.«01_k».proof.Proof.Gen.DwUpRefIdeal.Read
public import Idealize.ShloMosaic.Lib.Pipeline.ReadBack
public import Idealize.ShloMosaic.Lib.Pipeline.ValueKit

@[expose] public section

set_option maxRecDepth 16384

noncomputable section

namespace DwUp

open Idealize.ShloMosaic Idealize.ShloMosaic.TcCoe Idealize.SL.Sem
open Cert.DwUpIdeal Cert.DwUpIdeal.Gen

/-- Row `s` of the row block `b`, among all of a device's rows. -/
abbrev trow (b : Fin 8) (s : Fin 512) : Fin 4096 := ⟨b.val * 512 + s.val, by omega⟩

/-- Every row is a row of some block. -/
theorem row_split (k : Fin 4096) : ∃ (b : Fin 8) (s : Fin 512), k = trow b s :=
  ⟨⟨k.val / 512, by omega⟩, ⟨k.val % 512, by omega⟩, Fin.ext (by show k.val = k.val / 512 * 512 + k.val % 512; omega)⟩

section
variable (x0 : Vec Ideal S8x512x512 .bf16) (x1 : Vec Ideal S4096x1408 .bf16)

/-- The left operand's row blocks side by side. -/
def cat : Vec Ideal S512x4096 .bf16 :=
  concatenate (α := EReal) S512x4096 1 [⟨S512x512, shapeCast S512x512 (View.ld x0 a0) shapeCasts_S1x512x512_S512x512⟩, ⟨S512x512, shapeCast S512x512 (View.ld x0 a1) shapeCasts_S1x512x512_S512x512⟩, ⟨S512x512, shapeCast S512x512 (View.ld x0 a2) shapeCasts_S1x512x512_S512x512⟩, ⟨S512x512, shapeCast S512x512 (View.ld x0 a3) shapeCasts_S1x512x512_S512x512⟩, ⟨S512x512, shapeCast S512x512 (View.ld x0 a4) shapeCasts_S1x512x512_S512x512⟩, ⟨S512x512, shapeCast S512x512 (View.ld x0 a5) shapeCasts_S1x512x512_S512x512⟩, ⟨S512x512, shapeCast S512x512 (View.ld x0 a6) shapeCasts_S1x512x512_S512x512⟩, ⟨S512x512, shapeCast S512x512 (View.ld x0 a7) shapeCasts_S1x512x512_S512x512⟩] concatenates_S512x512_S512x512_S512x512_S512x512_S512x512_S512x512_S512x512_S512x512_S512x4096_d1

theorem piece_apply (n : Nat) (h : ∀ a, (![n, 0, 0] : Fin 3 → Nat) a + S1x512x512.size a ≤ S8x512x512.size a) (r : Fin 512) (s : Fin 512) (hn : n < 8) :
    shapeCast (α := EReal) S512x512 (View.ld (Val := Elt Ideal) x0 (Rect.unit (s := S8x512x512) ![n, 0, 0] S1x512x512.size h)) shapeCasts_S1x512x512_S512x512 (ix2 r s)
      = x0 (ix3 ⟨n, hn⟩ r s) := by
  refine (shapeCast_dropUnit_apply ![512, 512] _ _ (ix2 r s)).trans (View.ld_unit_apply_of (Val := Elt Ideal) x0 _ _ h _ _ fun a => ?_)
  fin_cases a
  · show n = n + 0; rfl
  · show r.val = 0 + r.val; omega
  · show s.val = 0 + s.val; omega

theorem cat_apply (r : Fin 512) (b : Fin 8) (s : Fin 512) : cat x0 (ix2 r (trow b s)) = x0 (ix3 b r s) := by
  have hs := s.isLt
  have hb := b.isLt
  unfold cat
  refine (concatenate_ofFn_apply (α := EReal) (t := S512x4096) (s₁ := S512x512) (1 : Fin 2) (N := 8) (![shapeCast S512x512 (View.ld x0 a0) shapeCasts_S1x512x512_S512x512, shapeCast S512x512 (View.ld x0 a1) shapeCasts_S1x512x512_S512x512, shapeCast S512x512 (View.ld x0 a2) shapeCasts_S1x512x512_S512x512, shapeCast S512x512 (View.ld x0 a3) shapeCasts_S1x512x512_S512x512, shapeCast S512x512 (View.ld x0 a4) shapeCasts_S1x512x512_S512x512, shapeCast S512x512 (View.ld x0 a5) shapeCasts_S1x512x512_S512x512, shapeCast S512x512 (View.ld x0 a6) shapeCasts_S1x512x512_S512x512, shapeCast S512x512 (View.ld x0 a7) shapeCasts_S1x512x512_S512x512]) _ rfl 512 rfl (ix2 r (trow b s) : S512x4096.Idx) b
    (by show (b.val * 512 + s.val) / 512 = b.val; omega) (ix2 r s : S512x512.Idx) (by show s.val = (b.val * 512 + s.val) % 512; omega) (fun a ha => by fin_cases a <;> first | rfl | exact absurd rfl ha)).trans ?_
  fin_cases b <;> exact piece_apply x0 _ _ r s _

theorem made_eq : made x0 x1 = k0_pay1 (k0_pay2 (View.ld x0 a0) (View.ld x0 a1) (View.ld x0 a2) (View.ld x0 a3) (View.ld x0 a4) (View.ld x0 a5) (View.ld x0 a6) (View.ld x0 a7) x1) := by
  unfold made
  frame_out

/-- At an entry it is the product of the rows' columns. -/
theorem made_apply (u : Fin 1) (r : Fin 512) (d : Fin 1408) :
    made x0 x1 (ix3 u r d) = ∑ k : Fin 4096, cat x0 (ix2 r k) * x1 (ix2 k d) := by
  rw [made_eq]
  show shapeCast (α := EReal) S1x512x1408 (truncf (F := Ideal) .bf16 (matmul (F := Ideal) (φ₁ := .bf16) (φ₂ := .bf16) dot_S512x4096_S4096x1408_S512x1408_1_0_0_1_n_n none (cat x0)
    (shapeCast S4096x1408 x1 shapeCasts_S4096x1408_S4096x1408) (constant (F := Ideal) S512x1408 .f32 0x00000000#32)) bitsLt_bf16_f32) shapeCasts_S512x1408_S1x512x1408 (ix3 u r d) = _
  generalize cat x0 = y
  pointwise
end

variable (m : (ℓ : Loc nD τ sig) → Buf (Elt Ideal) ℓ) (c : Dev nD)

theorem idx0 : ∀ t : Fin cfg0.N, win0_0.index t = ![0, t.val / 4, 0] := (by decide +kernel : ∀ t : Fin grid0.N, win0_0.index t = ![0, t.val / 4, 0])
theorem idx1 : ∀ t : Fin cfg0.N, win0_1.index t = ![0, t.val % 4] := (by decide +kernel : ∀ t : Fin grid0.N, win0_1.index t = ![0, t.val % 4])
theorem idx2 : ∀ t : Fin cfg0.N, win0_2.index t = ![t.val % 4, t.val / 4, 0] := (by decide +kernel : ∀ t : Fin grid0.N, win0_2.index t = ![t.val % 4, t.val / 4, 0])

variable (t : Fin cfg0.N)

/-- The point's feature `r`, among all features. -/
abbrev feat (r : Fin 512) : Fin 1024 := ⟨t.val / 4 * 512 + r.val, by have := lt_eight t; omega⟩
/-- The point's part of the columns. -/
abbrev part : Fin 4 := ⟨t.val % 4, by omega⟩
/-- Column `n` of part `q`, among all columns. -/
abbrev col (q : Fin 4) (n : Fin 1408) : Fin 5632 := ⟨q.val * 1408 + n.val, by omega⟩

theorem read0 (b : Fin 8) (r : Fin 512) (s : Fin 512) :
    iblk m c 0 t (ix3 b r s) = m ((c : Thread nD τ).loc main_arg0) (ix3 b (feat t r) s) := by
  have e : ((cfg0.win 0).blk t).view.emb (ix3 b r s) = (ix3 b (feat t r) s : S8x1024x512.Idx) := by blk_ext [idx0 t]
  show m ((c : Thread nD τ).loc main_arg0) (((cfg0.win 0).blk t).view.emb (ix3 b r s)) = _
  rw [e]

theorem read1 (k : Fin 4096) (d : Fin 1408) : iblk m c 1 t (ix2 k d) = m ((c : Thread nD τ).loc main_arg1) (ix2 k (col (part t) d)) := by
  have e : ((cfg0.win 1).blk t).view.emb (ix2 k d) = (ix2 k (col (part t) d) : S4096x5632.Idx) := by blk_ext [idx1 t]
  show m ((c : Thread nD τ).loc main_arg1) (((cfg0.win 1).blk t).view.emb (ix2 k d)) = _
  rw [e]

/-- The rows of the left operand that feature `f` sums over. -/
def lhs (x : Vec Ideal S8x1024x512 .bf16) (f : Fin 1024) (k : Fin 4096) : EReal := x (ix3 ⟨k.val / 512, by omega⟩ f ⟨k.val % 512, by omega⟩)

theorem lhs_row (x : Vec Ideal S8x1024x512 .bf16) (f : Fin 1024) (b : Fin 8) (s : Fin 512) : lhs x f (trow b s) = x (ix3 b f s) := by
  unfold lhs
  congr 1
  have hb := b.isLt
  have hs := s.isLt
  refine congrArg₂ (fun u v => ix3 u f v) (Fin.ext ?_) (Fin.ext ?_)
  · show (b.val * 512 + s.val) / 512 = b.val; omega
  · show (b.val * 512 + s.val) % 512 = s.val; omega

/-- The block at one grid point. -/
theorem made_blk (u : Fin 1) (r : Fin 512) (d : Fin 1408) :
    made (iblk m c 0 t) (iblk m c 1 t) (ix3 u r d)
      = ∑ k : Fin 4096, HMul.hMul (α := EReal) (β := EReal) (lhs (m ((c : Thread nD τ).loc main_arg0)) (feat t r) k) (m ((c : Thread nD τ).loc main_arg1) (ix2 k (col (part t) d))) := by
  rw [made_apply]
  refine Finset.sum_congr rfl fun k _ => ?_
  obtain ⟨b, s, rfl⟩ := row_split k
  rw [cat_apply, read0, read1, lhs_row]

theorem emb2 (u : Fin 1) (r : Fin 512) (d : Fin 1408) : ((cfg0.win 2).blk t).view.emb (ix3 u r d) = (ix3 (part t) (feat t r) d : S4x1024x1408.Idx) := by
  blk_ext [idx2 t]

theorem idx_inj2 : ∀ t t' : Fin cfg0.N, win0_2.index t = win0_2.index t' → t = t' :=
  (by decide +kernel : ∀ t t' : Fin grid0.N, win0_2.index t = win0_2.index t' → t = t')

theorem blocks2 : ((cfg0.win 2).blk t).view.read (Elt Ideal) ((dats m 0 c).arrAt 2 cfg0.N) = (dats m 0 c).flushed 2 t :=
  (dats m 0 c).read_blk_arrAt_eq_flushed 2 (fun t t' _ _ hne => (cfg0.win 2).disjoint_blk fun h => hne (idx_inj2 t t' h)) cfg0.N t t.isLt (flush0_2 t)

theorem flushed2 : (dats m 0 c).flushed 2 t = (cfg0.win 2).cut (grid0.coords t) (made (iblk m c 0 t) (iblk m c 1 t)) := by
  show (cfg0.win 2).cut (grid0.coords t) ((dats m 0 c).after 2 t) = _
  rw [after2]

/-- The array a device leaves: part by part, the left operand transposed times the right one. -/
theorem arr2 (q : Fin 4) (f : Fin 1024) (d : Fin 1408) : (dats m 0 c).arrAt 2 cfg0.N (ix3 q f d : S4x1024x1408.Idx)
    = ∑ k : Fin 4096, HMul.hMul (α := EReal) (β := EReal) (lhs (m ((c : Thread nD τ).loc main_arg0)) f k) (m ((c : Thread nD τ).loc main_arg1) (ix2 k (col q d))) := by
  have hr : f.val / 512 * 4 + q.val < cfg0.N := by have := N_0; show _ < grid0.N; omega
  obtain ⟨t, ht⟩ : ∃ t : Fin cfg0.N, t.val = f.val / 512 * 4 + q.val := ⟨⟨_, hr⟩, rfl⟩
  obtain ⟨r, rfl⟩ : ∃ r : Fin 512, f = feat t r := ⟨⟨f.val % 512, by omega⟩, Fin.ext (by show _ = t.val / 4 * 512 + f.val % 512; omega)⟩
  obtain rfl : q = part t := Fin.ext (by show _ = t.val % 4; omega)
  have h := congrFun (blocks2 m c t) (ix3 0 r d)
  have hd := made_blk m c t 0 r d
  rw [flushed2] at h
  generalize made (iblk m c 0 t) (iblk m c 1 t) = X at h hd
  exact (congrArg _ (emb2 t 0 r d)).symm.trans (h.trans hd)

end DwUp

end
-- ==== Proof.DwUp.Whole.lean ====
/- The up projections' weight gradients: a device's parts of the reference's whole arrays. -/
module

public import proofs.«01_k».proof.Proof.DwUp.Value
public import Idealize.ShloMosaic.Lib.LayoutAt

@[expose] public section

set_option maxRecDepth 16384

noncomputable section

namespace DwUp

open Idealize.ShloMosaic Idealize.ShloMosaic.TcCoe Idealize.SL.Sem
open Cert.DwUpIdeal Cert.DwUpIdeal.Gen
open Cert.DwUpRefIdeal.Read

/-- On the two axes the arrays are cut along, device `c` is block `c`. -/
theorem lin : ∀ c : Fin 4, Layout.meshLin [2, 2, 1] c.val [0, 1] = c.val := by decide

variable {α : Type} (c : Fin 4)

theorem part0 (X : Cert.DwUpRefIdeal.S32x1024x512.Idx → α) (b : Fin 8) (f : Fin 1024) (s : Fin 512) :
    Layout.blockN ⟨3, ![8, 1024, 512]⟩ ⟨3, ![32, 1024, 512]⟩ (Layout.meshBlock [2, 2, 1] ![[0, 1], [], []] c) X (by decide) (ix3 b f s)
      = X (ix3 ⟨c.val * 8 + b.val, by omega⟩ f s) := by
  refine (Layout.blockN_apply ..).trans (congrArg X (funext fun a => Fin.ext ?_))
  fin_cases a
  · show Layout.meshLin [2, 2, 1] c.val [0, 1] * 8 + b.val = c.val * 8 + b.val; rw [lin]
  · show 0 * 1024 + f.val = f.val; omega
  · show 0 * 512 + s.val = s.val; omega

theorem part1 (X : Cert.DwUpRefIdeal.S16384x5632.Idx → α) (k : Fin 4096) (f : Fin 5632) :
    Layout.blockN ⟨2, ![4096, 5632]⟩ ⟨2, ![16384, 5632]⟩ (Layout.meshBlock [2, 2, 1] ![[0, 1], []] c) X (by decide) (ix2 k f)
      = X (ix2 ⟨c.val * 4096 + k.val, by omega⟩ f) := by
  refine (Layout.blockN_apply ..).trans (congrArg X (funext fun a => Fin.ext ?_))
  fin_cases a
  · show Layout.meshLin [2, 2, 1] c.val [0, 1] * 4096 + k.val = c.val * 4096 + k.val; rw [lin]
  · show 0 * 5632 + f.val = f.val; omega

theorem part2 (X : Cert.DwUpRefIdeal.S16x352x1024.Idx → α) (q : Fin 4) (r : Fin 352) (k : Fin 1024) :
    Layout.blockN ⟨3, ![4, 352, 1024]⟩ ⟨3, ![16, 352, 1024]⟩ (Layout.meshBlock [2, 2, 1] ![[0, 1], [], []] c) X (by decide) (ix3 q r k)
      = X (ix3 ⟨c.val * 4 + q.val, by omega⟩ r k) := by
  refine (Layout.blockN_apply ..).trans (congrArg X (funext fun a => Fin.ext ?_))
  fin_cases a
  · show Layout.meshLin [2, 2, 1] c.val [0, 1] * 4 + q.val = c.val * 4 + q.val; rw [lin]
  · show 0 * 352 + r.val = r.val; omega
  · show 0 * 1024 + k.val = k.val; omega

theorem part3 (X : Cert.DwUpRefIdeal.S16x1024x1408.Idx → α) (q : Fin 4) (r : Fin 1024) (k : Fin 1408) :
    Layout.blockN ⟨3, ![4, 1024, 1408]⟩ ⟨3, ![16, 1024, 1408]⟩ (Layout.meshBlock [2, 2, 1] ![[0, 1], [], []] c) X (by decide) (ix3 q r k)
      = X (ix3 ⟨c.val * 4 + q.val, by omega⟩ r k) := by
  refine (Layout.blockN_apply ..).trans (congrArg X (funext fun a => Fin.ext ?_))
  fin_cases a
  · show Layout.meshLin [2, 2, 1] c.val [0, 1] * 4 + q.val = c.val * 4 + q.val; rw [lin]
  · show 0 * 1024 + r.val = r.val; omega
  · show 0 * 1408 + k.val = k.val; omega

theorem part4 (X : Cert.DwUpRefIdeal.S12x352x1024.Idx → α) (j : Fin 3) (r : Fin 352) (k : Fin 1024) :
    Layout.blockN ⟨3, ![3, 352, 1024]⟩ ⟨3, ![12, 352, 1024]⟩ (Layout.meshBlock [2, 2, 1] ![[0, 1], [], []] c) X (by decide) (ix3 j r k)
      = X (ix3 ⟨c.val * 3 + j.val, by omega⟩ r k) := by
  refine (Layout.blockN_apply ..).trans (congrArg X (funext fun a => Fin.ext ?_))
  fin_cases a
  · show Layout.meshLin [2, 2, 1] c.val [0, 1] * 3 + j.val = c.val * 3 + j.val; rw [lin]
  · show 0 * 352 + r.val = r.val; omega
  · show 0 * 1024 + k.val = k.val; omega

/-! ## The reference, entry by entry -/

section
variable (x0 : Vec Ideal Cert.DwUpRefIdeal.S32x1024x512 .bf16) (x1 : Vec Ideal Cert.DwUpRefIdeal.S16384x5632 .bf16)
  (x2 : Vec Ideal Cert.DwUpRefIdeal.S16x352x1024 .bf16)

theorem rows_apply (p : Fin 4) (k : Fin 4096) (f : Fin 1024) :
    val_main_v3 (F := Ideal) x0 (ix3 p k f) = x0 (ix3 ⟨p.val * 8 + k.val / 512, by omega⟩ f ⟨k.val % 512, by omega⟩) := by
  have hp := p.isLt
  have hk := k.isLt
  have hf := f.isLt
  have e2 : idx_main_v2 (ix3 p k f) = (ix4 p (⟨k.val / 512, by omega⟩ : Fin 8) (⟨k.val % 512, by omega⟩ : Fin 512) f : Cert.DwUpRefIdeal.S4x8x512x1024.Idx) := by
    funext a; refine Fin.ext ?_
    fin_cases a <;> dsimp [idx_main_v2, ix3, ix4] <;> omega
  have e1 (b : Fin 8) (s : Fin 512) : idx_main_v1 (ix4 p b s f) = (ix4 p b f s : Cert.DwUpRefIdeal.S4x8x1024x512.Idx) := by
    funext a; refine Fin.ext ?_
    fin_cases a <;> rfl
  have e0 (b : Fin 8) (s : Fin 512) : idx_main_v0 (ix4 p b f s) = (ix3 (⟨p.val * 8 + b.val, by omega⟩ : Fin 32) f s : Cert.DwUpRefIdeal.S32x1024x512.Idx) := by
    have hb := b.isLt
    have hs := s.isLt
    funext a; refine Fin.ext ?_
    fin_cases a <;> dsimp [idx_main_v0, ix3, ix4] <;> omega
  show val_main_v2 (F := Ideal) x0 (ix3 p k f) = _
  rw [val_main_v2_apply, e2, val_main_v1_apply, e1, val_main_v0_apply, e0]

theorem cols_apply (p : Fin 4) (k : Fin 4096) (n : Fin 5632) :
    val_main_v5 (F := Ideal) x1 (ix3 p k n) = x1 (ix2 ⟨p.val * 4096 + k.val, by omega⟩ n) := by
  show val_main_v4 (F := Ideal) x1 (ix3 p k n) = _
  rw [val_main_v4_apply]
  refine congrArg x1 (funext fun a => Fin.ext ?_)
  have hp := p.isLt
  have hk := k.isLt
  have hn := n.isLt
  fin_cases a <;> dsimp [idx_main_v4, ix3, ix2] <;> omega

theorem ref_apply (p q : Fin 4) (f : Fin 1024) (n : Fin 1408) :
    val_main_v13 (F := Ideal) x0 x1 (ix3 ⟨p.val * 4 + q.val, by omega⟩ f n)
      = ∑ k : Fin 4096, x1 (ix2 ⟨p.val * 4096 + k.val, by omega⟩ (col q n)) * x0 (ix3 ⟨p.val * 8 + k.val / 512, by omega⟩ f ⟨k.val % 512, by omega⟩) := by
  have hp := p.isLt
  have hq := q.isLt
  have hf := f.isLt
  have hn := n.isLt
  have e13 : idx_main_v13 (ix3 (⟨p.val * 4 + q.val, by omega⟩ : Fin 16) f n) = (ix4 p q f n : Cert.DwUpRefIdeal.S4x4x1024x1408.Idx) := by
    funext a; refine Fin.ext ?_
    fin_cases a <;> dsimp [idx_main_v13, ix3, ix4] <;> omega
  have e12 : idx_main_v12 (ix4 p q f n) = (ix4 p f q n : Cert.DwUpRefIdeal.S4x1024x4x1408.Idx) := by
    funext a; refine Fin.ext ?_
    fin_cases a <;> rfl
  have e11 : idx_main_v11 (ix4 p f q n) = (ix3 p f (col q n) : Cert.DwUpRefIdeal.S4x1024x5632.Idx) := by
    funext a; refine Fin.ext ?_
    fin_cases a <;> dsimp [idx_main_v11, ix3, ix4] <;> omega
  rw [val_main_v13_apply, e13, val_main_v12_apply, e12, val_main_v11_apply, e11]
  show val_main_v9 (F := Ideal) x0 x1 (ix3 p f (col q n)) = _
  rw [val_main_v9_apply, val_main_v8_apply]
  refine Finset.sum_congr rfl fun k _ => congrArg₂ _ ?_ ?_
  · refine Eq.trans (congrArg _ ?_) (cols_apply x1 p k (col q n))
    funext a; fin_cases a <;> rfl
  · refine Eq.trans (congrArg _ ?_) (rows_apply x0 p k f)
    funext a; fin_cases a <;> rfl

/-- One block of the sums, as the reference takes it out. -/
theorem slot_apply (p q : Nat) (hp : p < 4) (hq : q < 4)
    (h : Cert.DwUpRefIdeal.S4x4x352x1024.Slices ![p, q, 0, 0] Cert.DwUpRefIdeal.S1x1x352x1024) (u : Fin 1) (r : Fin 352) (k : Fin 1024) :
    broadcastInDim (α := EReal) Cert.DwUpRefIdeal.S1x352x1024 ![1, 2] Cert.DwUpRefIdeal.Gen.bcast_S352x1024_S1x352x1024_1_2
      (shapeCast Cert.DwUpRefIdeal.S352x1024 (extractStridedSlice Cert.DwUpRefIdeal.S1x1x352x1024 ![p, q, 0, 0] (val_main_v14 (F := Ideal) x2) h)
        Cert.DwUpRefIdeal.Gen.shapeCasts_S1x1x352x1024_S352x1024) (ix3 u r k)
      = x2 (ix3 ⟨p * 4 + q, by omega⟩ r k) := by
  have hr := r.isLt
  have hk := k.isLt
  have e14 : idx_main_v14 (ix4 (⟨p, hp⟩ : Fin 4) (⟨q, hq⟩ : Fin 4) r k) = (ix3 (⟨p * 4 + q, by omega⟩ : Fin 16) r k : Cert.DwUpRefIdeal.S16x352x1024.Idx) := by
    funext a; refine Fin.ext ?_
    fin_cases a <;> dsimp [idx_main_v14, ix3, ix4] <;> omega
  refine (broadcastInDim_apply _ _ _ _ (ix2 r k : Cert.DwUpRefIdeal.S352x1024.Idx) fun a => by fin_cases a <;> rfl).trans ?_
  refine (shapeCast_apply _ _ _ (ix4 0 0 r k : Cert.DwUpRefIdeal.S1x1x352x1024.Idx) ?_).trans ?_
  · rw [Shape.rowMajor_val_four, Shape.rowMajor_val_two]
    show ((0 * 1 + 0) * 352 + r.val) * 1024 + k.val = r.val * 1024 + k.val
    omega
  refine (extractStridedSlice_apply _ _ _ _ (ix4 (⟨p, hp⟩ : Fin 4) (⟨q, hq⟩ : Fin 4) r k : Cert.DwUpRefIdeal.S4x4x352x1024.Idx) fun a => ?_).trans ?_
  · fin_cases a
    · show p = p + 0; rfl
    · show q = q + 0; rfl
    · show r.val = 0 + r.val; omega
    · show k.val = 0 + k.val; omega
  rw [val_main_v14_apply, e14]

/-- The block device `d` receives `j`-th, in the reference: the one its peer addresses to it. -/
theorem ref_slot (d : Fin 4) (j : Fin 3) (r : Fin 352) (k : Fin 1024) :
    val_main_v51 (F := Ideal) x2 (ix3 ⟨d.val * 3 + j.val, by omega⟩ r k) = x2 (ix3 ⟨(mate j d).val * 4 + d.val, by omega⟩ r k) := by
  unfold val_main_v51
  refine (concatenate_ofFn_apply (α := EReal) (t := Cert.DwUpRefIdeal.S12x352x1024) (s₁ := Cert.DwUpRefIdeal.S1x352x1024) (0 : Fin 3) (N := 12)
    (![val_main_v39 (F := Ideal) x2, val_main_v40 (F := Ideal) x2, val_main_v41 (F := Ideal) x2, val_main_v42 (F := Ideal) x2, val_main_v43 (F := Ideal) x2, val_main_v44 (F := Ideal) x2,
      val_main_v45 (F := Ideal) x2, val_main_v46 (F := Ideal) x2, val_main_v47 (F := Ideal) x2, val_main_v48 (F := Ideal) x2, val_main_v49 (F := Ideal) x2, val_main_v50 (F := Ideal) x2])
    _ rfl 1 rfl (ix3 (⟨d.val * 3 + j.val, by omega⟩ : Fin 12) r k : Cert.DwUpRefIdeal.S12x352x1024.Idx) ⟨d.val * 3 + j.val, by omega⟩
    (by show (d.val * 3 + j.val) / 1 = d.val * 3 + j.val; omega) (ix3 0 r k : Cert.DwUpRefIdeal.S1x352x1024.Idx)
    (by show 0 = (d.val * 3 + j.val) % 1; omega) (fun a ha => by fin_cases a <;> first | rfl | exact absurd rfl ha)).trans ?_
  fin_cases d <;> fin_cases j <;> exact slot_apply x2 _ _ (by decide) (by decide) (by decide) 0 r k

end
end DwUp

end
-- ==== Proof.DwUp.Claim.lean ====
/- The claims about the up projections' weight gradients and the exchange they carry. -/
module

public import proofs.«01_k».proof.Defs
public import proofs.«01_k».proof.Proof.DwUp.Whole
public import proofs.«01_k».proof.Proof.Gen.DwUp
public import proofs.«01_k».proof.Proof.Gen.DwUpRefIdeal.Run
public import Idealize.ShloMosaic.Adequacy
public import Idealize.ShloMosaic.Init

@[expose] public section

set_option maxRecDepth 16384

noncomputable section

namespace DwUp

open Idealize.ShloMosaic Idealize.ShloMosaic.TcCoe Idealize.SL.Sem
open Cert.DwUpIdeal Cert.DwUpIdeal.Gen
open Cert.DwUpRefIdeal.Read

/-- The run with the arrays named: results, then arguments. -/
theorem run_named {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
        (r.2.mem ((c : Thread nD τ).loc main_v1_0) = (dats m 0 c).arrAt 2 cfg0.N ∧ r.2.mem ((c : Thread nD τ).loc main_v1_1) = received m c)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  (θ_run defs _ _).mono (fun r h => ⟨fun c => ⟨⟨(h.1 c).1 2, (h.1 c).2.2⟩, ((h.1 c).1 0).trans ((dats m 0 c).arrAt_in 0 rfl _),
    ((h.1 c).1 1).trans ((dats m 0 c).arrAt_in 1 rfl _), (h.1 c).2.1⟩, h.2⟩) (run m ρ)

theorem frame_ideal : Cert.quiescent_DwUpIdeal (hDwUpIdeal := Cert.DwUpIdeal.Gen.facts) := fun m ρ _ =>
  (θ_run defs _ _).mono (fun r h => ⟨fun c => (h.1 c).2, h.2⟩) (run_named m ρ)

/-- The kernel's function is printed once for the chip and once for the reals, in the same words. -/
theorem same_kernels : Cert.DwUp.defs₀ (F := Bits) = defs₀ (F := Bits) := by
  unfold Cert.DwUp.defs₀ defs₀
  refine congrArg Defs.onTc ?_
  funext l a
  match l, a with
  | 0, (t, s) => rfl

theorem same_table : Cert.DwUp.defs (F := Bits) = defs (F := Bits) := by
  unfold Cert.DwUp.defs defs
  exact congrArg (Pipeline.defs (pcfgs (F := Bits))) same_kernels

/-- The program printed for the chip is the same text: its run is this one over the chip's floats. -/
theorem frame_bits : Cert.quiescent_DwUp (hDwUp := Cert.DwUp.Gen.facts) := by
  intro m ρ _
  rw [same_table]
  exact (θ_run (defs (F := Bits)) _ _).mono (fun r h => ⟨fun c => (h.1 c).2, h.2⟩) (run_named (F := Bits) m ρ)

/-- The reference's run leaves its arguments and, declaring no semaphore, every counter at zero. -/
theorem frame_ref : Cert.quiescent_DwUpRefIdeal (hDwUpRefIdeal := Cert.DwUpRefIdeal.Gen.facts) := fun m ρ _ =>
  (θ_run Cert.DwUpRefIdeal.defs _ _).mono (fun r h => ⟨fun c => (h c).2.2, sem_eq_zero_of_no_sems (by decide) r.2⟩) (Cert.DwUpRefIdeal.Value.run m ρ)

section
variable (m : (ℓ : Loc nD τ sig) → Buf (Elt Ideal) ℓ) (c : Dev nD)
variable (x0 : Vec Ideal Cert.DwUpRefIdeal.S32x1024x512 .bf16) (x1 : Vec Ideal Cert.DwUpRefIdeal.S16384x5632 .bf16)
  (x2 : Vec Ideal Cert.DwUpRefIdeal.S16x352x1024 .bf16)

theorem sums_eq (f g f' g' : Fin 4096 → EReal) (hf : ∀ k, f k = g' k) (hg : ∀ k, g k = f' k) : ∑ k, f k * g k = ∑ k, f' k * g' k :=
  Finset.sum_congr rfl fun k _ => by rw [hf, hg, mul_comm]

/-- A device's array of products is its part of the reference's gradients. -/
theorem eq_dw
    (h0 : m ((c : Thread nD τ).loc main_arg0) = Layout.blockN ⟨3, ![8, 1024, 512]⟩ ⟨3, ![32, 1024, 512]⟩ (Layout.meshBlock [2, 2, 1] ![[0, 1], [], []] c) x0)
    (h1 : m ((c : Thread nD τ).loc main_arg1) = Layout.blockN ⟨2, ![4096, 5632]⟩ ⟨2, ![16384, 5632]⟩ (Layout.meshBlock [2, 2, 1] ![[0, 1], []] c) x1) :
    (dats m 0 c).arrAt 2 cfg0.N
      = Layout.blockN ⟨3, ![4, 1024, 1408]⟩ ⟨3, ![16, 1024, 1408]⟩ (Layout.meshBlock [2, 2, 1] ![[0, 1], [], []] c) (val_main_v13 (F := Ideal) x0 x1) := by
  funext i
  idx_vars i
  refine (arr2 m c i0 i1 i2).trans ((sums_eq _ _ _ _ (fun k => ?_) fun k => ?_).trans ((part3 c (val_main_v13 (F := Ideal) x0 x1) i0 i1 i2).trans (ref_apply x0 x1 c i0 i1 i2)).symm)
  · unfold lhs; rw [h0]; exact part0 c x0 _ _ _
  · rw [h1]; exact part1 c x1 k _

/-- The blocks a device received are its part of the reference's. -/
theorem eq_sums
    (h2 : ∀ c : Dev nD, m ((c : Thread nD τ).loc main_arg2) = Layout.blockN ⟨3, ![4, 352, 1024]⟩ ⟨3, ![16, 352, 1024]⟩ (Layout.meshBlock [2, 2, 1] ![[0, 1], [], []] c) x2) :
    received m c
      = Layout.blockN ⟨3, ![3, 352, 1024]⟩ ⟨3, ![12, 352, 1024]⟩ (Layout.meshBlock [2, 2, 1] ![[0, 1], [], []] c) (val_main_v51 (F := Ideal) x2) := by
  funext i
  idx_vars i
  refine Eq.trans ?_ ((part4 c (val_main_v51 (F := Ideal) x2) i0 i1 i2).trans (ref_slot x2 c i0 i1 i2)).symm
  show m ((mate i0 c : Thread nD τ).loc main_arg2) (ix3 c i1 i2) = _
  rw [h2 (mate i0 c)]
  exact part2 (mate i0 c) x2 c i1 i2
end

/-- Over the extended reals the four devices leave the gradients of the up projection and the blocks of sums exchanged. -/
theorem equal : Cert.algebraic_DwUpIdeal_DwUpRefIdeal (hDwUpIdeal := Cert.DwUpIdeal.Gen.facts) (hDwUpRefIdeal := Cert.DwUpRefIdeal.Gen.facts) := by
  intro m g m' g' _ hagree
  refine ⟨val_main_v13 (F := Ideal) (m' (((0 : Dev Cert.DwUpRefIdeal.nD) : Thread Cert.DwUpRefIdeal.nD Cert.DwUpRefIdeal.τ).loc Cert.DwUpRefIdeal.main_arg0)) (m' (((0 : Dev Cert.DwUpRefIdeal.nD) : Thread Cert.DwUpRefIdeal.nD Cert.DwUpRefIdeal.τ).loc Cert.DwUpRefIdeal.main_arg1)),
    val_main_v51 (F := Ideal) (m' (((0 : Dev Cert.DwUpRefIdeal.nD) : Thread Cert.DwUpRefIdeal.nD Cert.DwUpRefIdeal.τ).loc Cert.DwUpRefIdeal.main_arg2)), ?_, ?_⟩
  · refine (θ_run defs _ _).mono (fun r h c => ?_) (run_named m g)
    obtain ⟨⟨h0, h1⟩, ha⟩ := h.1 c
    exact ⟨h0.trans (eq_dw m c _ _ (hagree c).1 (hagree c).2.1), h1.trans (eq_sums m c _ fun d => (hagree d).2.2), ha⟩
  · refine (θ_run Cert.DwUpRefIdeal.defs _ _).mono (fun r h => ?_) (Cert.DwUpRefIdeal.Value.run m' g')
    obtain ⟨h13, h51, ha⟩ := h 0
    rw [val_main_v13_eq] at h13
    rw [val_main_v51_eq] at h51
    exact ⟨h13, h51, ha⟩

end DwUp

end
-- ==== Proof.lean ====
module

public import proofs.«01_k».proof.Defs
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpRefIdeal
public import proofs.«01_k».proof.Proof.Gen.DwUpRefIdeal.Run
public import proofs.«01_k».proof.Proof.Gen.DwUpRefIdeal.Read
public import proofs.«01_k».proof.Proof.Gen.BwUp
public import proofs.«01_k».proof.Proof.Gen.BwUp.Skeleton
public import proofs.«01_k».proof.Proof.Gen.BwUp.Launch
public import proofs.«01_k».proof.Proof.Gen.BwUp.Points
public import proofs.«01_k».proof.Proof.Gen.BwUp.Frame
public import proofs.«01_k».proof.Proof.Gen.BwUpIdeal
public import proofs.«01_k».proof.Proof.Gen.BwUpIdeal.Skeleton
public import proofs.«01_k».proof.Proof.Gen.BwUpIdeal.Launch
public import proofs.«01_k».proof.Proof.Gen.BwUpIdeal.Points
public import proofs.«01_k».proof.Proof.Gen.BwUpIdeal.Frame
public import proofs.«01_k».proof.Proof.Gen.BwUpRefIdeal
public import proofs.«01_k».proof.Proof.Gen.BwUpRefIdeal.Run
public import proofs.«01_k».proof.Proof.Gen.BwUpRefIdeal.Read
public import proofs.«01_k».proof.Proof.Gen.Pre_finite_bu_BwUpIdeal
public import proofs.«01_k».proof.Proof.Gen.Pre_finite_bu_BwUpRefIdeal
public import proofs.«01_k».proof.Proof.BwUp.Claim
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInRefIdeal
public import proofs.«01_k».proof.Proof.Gen.DwInRefIdeal.Run
public import proofs.«01_k».proof.Proof.Gen.DwInRefIdeal.Read
public import proofs.«01_k».proof.Proof.DwIn.Claim
public import proofs.«01_k».proof.Proof.PairX.Claim
public import proofs.«01_k».proof.Proof.Gen.PairX
public import proofs.«01_k».proof.Proof.Gen.PairX.Skeleton
public import proofs.«01_k».proof.Proof.Gen.PairX.Launch
public import proofs.«01_k».proof.Proof.Gen.PairX.Points
public import proofs.«01_k».proof.Proof.Gen.PairX.Frame
public import proofs.«01_k».proof.Proof.Gen.PairXIdeal
public import proofs.«01_k».proof.Proof.Gen.PairXIdeal.Skeleton
public import proofs.«01_k».proof.Proof.Gen.PairXIdeal.Launch
public import proofs.«01_k».proof.Proof.Gen.PairXIdeal.Points
public import proofs.«01_k».proof.Proof.Gen.PairXIdeal.Frame
public import proofs.«01_k».proof.Proof.Gen.PairXRefIdeal
public import proofs.«01_k».proof.Proof.Gen.PairXRefIdeal.Run
public import proofs.«01_k».proof.Proof.Gen.PairXRefIdeal.Read
public import proofs.«01_k».proof.Proof.Gen.On_act_half
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.On_gate_half
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwDownRefIdeal.Read
public import proofs.«01_k».proof.Proof.Gen.DwPw
public import proofs.«01_k».proof.Proof.Gen.DwPw.Skeleton
public import proofs.«01_k».proof.Proof.Gen.DwPw.Launch
public import proofs.«01_k».proof.Proof.Gen.DwPw.Points
public import proofs.«01_k».proof.Proof.Gen.DwPw.Frame
public import proofs.«01_k».proof.Proof.Gen.DwPwIdeal
public import proofs.«01_k».proof.Proof.Gen.DwPwIdeal.Skeleton
public import proofs.«01_k».proof.Proof.Gen.DwPwIdeal.Launch
public import proofs.«01_k».proof.Proof.Gen.DwPwIdeal.Points
public import proofs.«01_k».proof.Proof.Gen.DwPwIdeal.Frame
public import proofs.«01_k».proof.Proof.Gen.DwPwIdeal.Value
public import proofs.«01_k».proof.Proof.Gen.DwPwRefIdeal
public import proofs.«01_k».proof.Proof.Gen.DwPwRefIdeal.Run
public import proofs.«01_k».proof.Proof.Gen.DwPwRefIdeal.Read
public import proofs.«01_k».proof.Proof.Gen.Pre_finite_ffn
public import proofs.«01_k».proof.Proof.Down.Equal
public import proofs.«01_k».proof.Proof.Tn.Claim
public import proofs.«01_k».proof.Proof.Ffn.Claim
public import proofs.«01_k».proof.Proof.DwUp.Claim
public import Idealize.ShloMosaic.Adequacy
public import Idealize.ShloMosaic.Init

@[expose] public section

noncomputable section

namespace Cert.Proof

open Idealize.ShloMosaic Idealize.SL.Sem Cert.Kernel

/-- The reference's run leaves its arguments and, declaring no semaphore, every counter at zero. -/
theorem down_ref : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩) (Cert.ReferenceIdeal.Value.run m ρ)

/-- Over the extended reals the kernel returns, from finite arguments and where the mask keeps a result, what
    the vector-Jacobian product of the forward lines returns. -/
theorem down_eq : Cert.algebraic_KernelIdeal_ReferenceIdeal_on_gate_half_pre_finite (hKernelIdeal := Cert.KernelIdeal.Gen.facts)
    (hReferenceIdeal := Cert.ReferenceIdeal.Gen.facts) (hPre_finite := Cert.Pre_finite.Gen.facts) (hOn_gate_half := Cert.On_gate_half.Gen.facts) := by
  intro m g m' g' hpre hagree
  refine ⟨fun c => Cert.ReferenceIdeal.Read.val_main_v66 (F := Ideal) (Down.argsK m c).dx (Down.argsK m c).up (Down.argsK m c).w (Down.argsK m c).b (Down.argsK m c).wd,
    fun c => Cert.ReferenceIdeal.Read.val_main_v68 (F := Ideal) (Down.argsK m c).dx (Down.argsK m c).up (Down.argsK m c).w (Down.argsK m c).b (Down.argsK m c).wd,
    fun c => Cert.ReferenceIdeal.Read.val_main_v65 (F := Ideal) (Down.argsK m c).dx (Down.argsK m c).up (Down.argsK m c).w (Down.argsK m c).b (Down.argsK m c).wd, ?_, ?_⟩
  · refine (θ_run Cert.KernelIdeal.defs _ _).mono (fun r h c => ?_) (Cert.KernelIdeal.Value.run_blocks m g)
    have hr := Down.real_args (Down.argsK m c) (hpre c)
    obtain ⟨h6, h7, h8, ha⟩ := h c
    exact ⟨fun i _ => (congrFun h6 i).trans (Down.eq6 m c hr i), fun i hi => (congrFun h7 i).trans (Down.eq7 m c i hi),
      fun i _ => (congrFun h8 i).trans (congrFun (Down.eq8 m c hr) i), ha⟩
  · refine (θ_run Cert.ReferenceIdeal.defs _ _).mono (fun r h c => ?_) (Cert.ReferenceIdeal.Value.run m' g')
    obtain ⟨h66, h68, h65, ha⟩ := h c
    obtain ⟨e0, e1, e2, e3, e4⟩ := hagree c
    rw [Cert.ReferenceIdeal.Read.val_main_v66_eq, e0, e1, e2, e3, e4] at h66
    rw [Cert.ReferenceIdeal.Read.val_main_v68_eq, e0, e1, e2, e3, e4] at h68
    rw [Cert.ReferenceIdeal.Read.val_main_v65_eq, e0, e1, e2, e3, e4] at h65
    exact ⟨fun i _ => congrFun h66 i, fun i _ => congrFun h68 i, fun i _ => congrFun h65 i, ha⟩

/-- Every claim of the certificate. -/
theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.DwDown.Gen.facts, Cert.DwDownIdeal.Gen.facts, Cert.DwDownRefIdeal.Gen.facts, Cert.DwPw.Gen.facts, Cert.DwPwIdeal.Gen.facts, Cert.DwPwRefIdeal.Gen.facts, Cert.DwUp.Gen.facts, Cert.DwUpIdeal.Gen.facts, Cert.DwUpRefIdeal.Gen.facts, Cert.BwUp.Gen.facts, Cert.BwUpIdeal.Gen.facts, Cert.BwUpRefIdeal.Gen.facts, Cert.DwIn.Gen.facts, Cert.DwInIdeal.Gen.facts, Cert.DwInRefIdeal.Gen.facts, Cert.PairX.Gen.facts, Cert.PairXIdeal.Gen.facts, Cert.PairXRefIdeal.Gen.facts, Cert.Pre_finite.Gen.facts, Cert.Pre_finite_ffn.Gen.facts, Cert.Pre_finite_bu_BwUpIdeal.Gen.facts, Cert.Pre_finite_bu_BwUpRefIdeal.Gen.facts, Cert.On_gate_half.Gen.facts, Cert.On_act_half.Gen.facts,
  fun m ρ _ => Cert.Kernel.Gen.frame m ρ, fun m ρ _ => Cert.KernelIdeal.Gen.frame m ρ, fun m ρ _ => Cert.KernelIdeal.Gen.frame m ρ,
  down_ref, fun m ρ _ => down_ref m ρ trivial,
  fun m ρ _ => Cert.Ffn.Gen.frame m ρ, fun m ρ _ => Cert.FfnIdeal.Gen.frame m ρ, fun m ρ _ => Cert.FfnIdeal.Gen.frame m ρ,
  ffn_ref, fun m ρ _ => ffn_ref m ρ trivial,
  fun m ρ _ => Cert.DwDown.Gen.frame m ρ, fun m ρ _ => Cert.DwDownIdeal.Gen.frame m ρ, dwdown_ref,
  fun m ρ _ => Cert.DwPw.Gen.frame m ρ, fun m ρ _ => Cert.DwPwIdeal.Gen.frame m ρ, dwpw_ref,
  DwUp.frame_bits, DwUp.frame_ideal, DwUp.frame_ref,
  BwUp.frame_bits, BwUp.frame_ideal, fun m ρ _ => BwUp.frame_ideal m ρ trivial, BwUp.frame_ref, fun m ρ _ => BwUp.frame_ref m ρ trivial,
  DwIn.frame_bits, DwIn.frame_ideal, DwIn.frame_ref,
  PairX.frame_bits, PairX.frame_ideal, PairX.frame_ref,
  trivial, down_eq, trivial, ffn_eq, trivial, dwdown_eq, trivial, dwpw_eq, trivial, DwUp.equal, trivial, BwUp.equal, trivial, DwIn.equal, trivial, PairX.equal⟩

end Cert.Proof

end
